-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_HeadBias (m : (ℓ : Loc Cert.HeadBias.nD Cert.HeadBias.τ Cert.HeadBias.sig) → Buf (Elt Bits) ℓ) : Prop :=
  True

def Pre_HeadBiasIdeal (m : (ℓ : Loc Cert.HeadBiasIdeal.nD Cert.HeadBiasIdeal.τ Cert.HeadBiasIdeal.sig) → Buf (Elt Ideal) ℓ) : Prop :=
  True

def Pre_HeadBiasRefIdeal (m : (ℓ : Loc Cert.HeadBiasRefIdeal.nD Cert.HeadBiasRefIdeal.τ Cert.HeadBiasRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdRefIdeal (m : (ℓ : Loc Cert.MemKvFwdRefIdeal.nD Cert.MemKvFwdRefIdeal.τ Cert.MemKvFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Seqmix (m : (ℓ : Loc Cert.Seqmix.nD Cert.Seqmix.τ Cert.Seqmix.sig) → Buf (Elt Bits) ℓ) : Prop :=
  True

def Pre_SeqmixIdeal (m : (ℓ : Loc Cert.SeqmixIdeal.nD Cert.SeqmixIdeal.τ Cert.SeqmixIdeal.sig) → Buf (Elt Ideal) ℓ) : Prop :=
  True

def Pre_SeqmixIdeal_finite_seqmix [hPre_finite_seqmix : Cert.Pre_finite_seqmix.Facts] (m : (ℓ : Loc Cert.SeqmixIdeal.nD Cert.SeqmixIdeal.τ Cert.SeqmixIdeal.sig) → Buf (Elt Ideal) ℓ) : Prop :=
  ∀ c : Dev Cert.SeqmixIdeal.nD,
    (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.2.2.2.2.1 = (fun _ => 1#1)
    ∧ (Cert.Pre_finite_seqmix.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1)) (m ((c.tc : Thread Cert.SeqmixIdeal.nD Cert.SeqmixIdeal.τ).loc Cert.SeqmixIdeal.main_arg2)) (m ((c.tc : Thread Cert.SeqmixIdeal.nD Cert.SeqmixIdeal.τ).loc Cert.SeqmixIdeal.main_arg3)) (m ((c.tc : Thread Cert.SeqmixIdeal.nD Cert.SeqmixIdeal.τ).loc Cert.SeqmixIdeal.main_arg4)) (m ((c.tc : Thread Cert.SeqmixIdeal.nD Cert.SeqmixIdeal.τ).loc Cert.SeqmixIdeal.main_arg5)) (m ((c.tc : Thread Cert.SeqmixIdeal.nD Cert.SeqmixIdeal.τ).loc Cert.SeqmixIdeal.main_arg6)) (m ((c.tc : Thread Cert.SeqmixIdeal.nD Cert.SeqmixIdeal.τ).loc Cert.SeqmixIdeal.main_arg7)) (m ((c.tc : Thread Cert.SeqmixIdeal.nD Cert.SeqmixIdeal.τ).loc Cert.SeqmixIdeal.main_arg8)) (m ((c.tc : Thread Cert.SeqmixIdeal.nD Cert.SeqmixIdeal.τ).loc Cert.SeqmixIdeal.main_arg9)) (m ((c.tc : Thread Cert.SeqmixIdeal.nD Cert.SeqmixIdeal.τ).loc Cert.SeqmixIdeal.main_arg10)) (m ((c.tc : Thread Cert.SeqmixIdeal.nD Cert.SeqmixIdeal.τ).loc Cert.SeqmixIdeal.main_arg11)) (m ((c.tc : Thread Cert.SeqmixIdeal.nD Cert.SeqmixIdeal.τ).loc Cert.SeqmixIdeal.main_arg12)) (m ((c.tc : Thread Cert.SeqmixIdeal.nD Cert.SeqmixIdeal.τ).loc Cert.SeqmixIdeal.main_arg13))).2.2.2.2.2.2.2.2.2 = (fun _ => 1#1)

def Pre_SeqmixRefIdeal (m : (ℓ : Loc Cert.SeqmixRefIdeal.nD Cert.SeqmixRefIdeal.τ Cert.SeqmixRefIdeal.sig) → Buf (Elt Ideal) ℓ) : Prop :=
  True

def Pre_SeqmixRefIdeal_finite_seqmix [hPre_finite_seqmix : Cert.Pre_finite_seqmix.Facts] (m : (ℓ : Loc Cert.SeqmixRefIdeal.nD Cert.SeqmixRefIdeal.τ Cert.SeqmixRefIdeal.sig) → Buf (Elt Ideal) ℓ) : Prop :=
  ∀ c : Dev Cert.SeqmixRefIdeal.nD,
    (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.2.2.2.2.1 = (fun _ => 1#1)
    ∧ (Cert.Pre_finite_seqmix.fn (F := Ideal) (m ((c.tc : Thread Cert.SeqmixRefIdeal.nD Cert.SeqmixRefIdeal.τ).loc Cert.SeqmixRefIdeal.main_arg0)) (m ((c.tc : Thread Cert.SeqmixRefIdeal.nD Cert.SeqmixRefIdeal.τ).loc Cert.SeqmixRefIdeal.main_arg1)) (m ((c.tc : Thread Cert.SeqmixRefIdeal.nD Cert.SeqmixRefIdeal.τ).loc Cert.SeqmixRefIdeal.main_arg2)) (m ((c.tc : Thread Cert.SeqmixRefIdeal.nD Cert.SeqmixRefIdeal.τ).loc Cert.SeqmixRefIdeal.main_arg3)) (m ((c.tc : Thread Cert.SeqmixRefIdeal.nD Cert.SeqmixRefIdeal.τ).loc Cert.SeqmixRefIdeal.main_arg4)) (m ((c.tc : Thread Cert.SeqmixRefIdeal.nD Cert.SeqmixRefIdeal.τ).loc Cert.SeqmixRefIdeal.main_arg5)) (m ((c.tc : Thread Cert.SeqmixRefIdeal.nD Cert.SeqmixRefIdeal.τ).loc Cert.SeqmixRefIdeal.main_arg6)) (m ((c.tc : Thread Cert.SeqmixRefIdeal.nD Cert.SeqmixRefIdeal.τ).loc Cert.SeqmixRefIdeal.main_arg7)) (m ((c.tc : Thread Cert.SeqmixRefIdeal.nD Cert.SeqmixRefIdeal.τ).loc Cert.SeqmixRefIdeal.main_arg8)) (m ((c.tc : Thread Cert.SeqmixRefIdeal.nD Cert.SeqmixRefIdeal.τ).loc Cert.SeqmixRefIdeal.main_arg9)) (m ((c.tc : Thread Cert.SeqmixRefIdeal.nD Cert.SeqmixRefIdeal.τ).loc Cert.SeqmixRefIdeal.main_arg10)) (m ((c.tc : Thread Cert.SeqmixRefIdeal.nD Cert.SeqmixRefIdeal.τ).loc Cert.SeqmixRefIdeal.main_arg11)) (m ((c.tc : Thread Cert.SeqmixRefIdeal.nD Cert.SeqmixRefIdeal.τ).loc Cert.SeqmixRefIdeal.main_arg12)) (m ((c.tc : Thread Cert.SeqmixRefIdeal.nD Cert.SeqmixRefIdeal.τ).loc Cert.SeqmixRefIdeal.main_arg13))).2.2.2.2.2.2.2.2.2 = (fun _ => 1#1)

def Pre_SeqmixFwd (m : (ℓ : Loc Cert.SeqmixFwd.nD Cert.SeqmixFwd.τ Cert.SeqmixFwd.sig) → Buf (Elt Bits) ℓ) : Prop :=
  True

def Pre_SeqmixFwdIdeal (m : (ℓ : Loc Cert.SeqmixFwdIdeal.nD Cert.SeqmixFwdIdeal.τ Cert.SeqmixFwdIdeal.sig) → Buf (Elt Ideal) ℓ) : Prop :=
  True

def Pre_SeqmixFwdRefIdeal (m : (ℓ : Loc Cert.SeqmixFwdRefIdeal.nD Cert.SeqmixFwdRefIdeal.τ Cert.SeqmixFwdRefIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Pass (m : (ℓ : Loc Cert.Pass.nD Cert.Pass.τ Cert.Pass.sig) → Buf (Elt Bits) ℓ) : Prop :=
  True

def Pre_PassIdeal (m : (ℓ : Loc Cert.PassIdeal.nD Cert.PassIdeal.τ Cert.PassIdeal.sig) → Buf (Elt Ideal) ℓ) : Prop :=
  True

def Pre_PassRefIdeal (m : (ℓ : Loc Cert.PassRefIdeal.nD Cert.PassRefIdeal.τ Cert.PassRefIdeal.sig) → Buf (Elt Ideal) ℓ) : Prop :=
  True

def Pre_PassRef (m : (ℓ : Loc Cert.PassRef.nD Cert.PassRef.τ Cert.PassRef.sig) → Buf (Elt Bits) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_GradSq (m : (ℓ : Loc Cert.GradSq.nD Cert.GradSq.τ Cert.GradSq.sig) → Buf (Elt Bits) ℓ) : Prop :=
  True

def Pre_GradSqIdeal (m : (ℓ : Loc Cert.GradSqIdeal.nD Cert.GradSqIdeal.τ Cert.GradSqIdeal.sig) → Buf (Elt Ideal) ℓ) : Prop :=
  True

def Pre_GradSqRefIdeal (m : (ℓ : Loc Cert.GradSqRefIdeal.nD Cert.GradSqRefIdeal.τ Cert.GradSqRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_HeadBias [hHeadBias : Cert.HeadBias.Facts] : Prop :=
  ∀ (m : (ℓ : Loc Cert.HeadBias.nD Cert.HeadBias.τ Cert.HeadBias.sig) → Buf (Elt Bits) ℓ) (g : Dev Cert.HeadBias.nD → PrngReg), Pre_HeadBias m →
    θ_run (Cert.HeadBias.defs (F := Bits)) (onTc (τ := Cert.HeadBias.τ) (Cert.HeadBias.main (F := Bits))) ⟨m, fun _ => 0, g⟩ (fun r => (∀ c : Dev Cert.HeadBias.nD,
      r.2.mem ((c.tc : Thread Cert.HeadBias.nD Cert.HeadBias.τ).loc Cert.HeadBias.main_arg0) = m ((c.tc : Thread Cert.HeadBias.nD Cert.HeadBias.τ).loc Cert.HeadBias.main_arg0)
      ∧ r.2.mem ((c.tc : Thread Cert.HeadBias.nD Cert.HeadBias.τ).loc Cert.HeadBias.main_arg1) = m ((c.tc : Thread Cert.HeadBias.nD Cert.HeadBias.τ).loc Cert.HeadBias.main_arg1))
      ∧ r.2.sem = fun _ => 0)

def quiescent_HeadBiasIdeal [hHeadBiasIdeal : Cert.HeadBiasIdeal.Facts] : Prop :=
  ∀ (m : (ℓ : Loc Cert.HeadBiasIdeal.nD Cert.HeadBiasIdeal.τ Cert.HeadBiasIdeal.sig) → Buf (Elt Ideal) ℓ) (g : Dev Cert.HeadBiasIdeal.nD → PrngReg), Pre_HeadBiasIdeal m →
    θ_run (Cert.HeadBiasIdeal.defs (F := Ideal)) (onTc (τ := Cert.HeadBiasIdeal.τ) (Cert.HeadBiasIdeal.main (F := Ideal))) ⟨m, fun _ => 0, g⟩ (fun r => (∀ c : Dev Cert.HeadBiasIdeal.nD,
      r.2.mem ((c.tc : Thread Cert.HeadBiasIdeal.nD Cert.HeadBiasIdeal.τ).loc Cert.HeadBiasIdeal.main_arg0) = m ((c.tc : Thread Cert.HeadBiasIdeal.nD Cert.HeadBiasIdeal.τ).loc Cert.HeadBiasIdeal.main_arg0)
      ∧ r.2.mem ((c.tc : Thread Cert.HeadBiasIdeal.nD Cert.HeadBiasIdeal.τ).loc Cert.HeadBiasIdeal.main_arg1) = m ((c.tc : Thread Cert.HeadBiasIdeal.nD Cert.HeadBiasIdeal.τ).loc Cert.HeadBiasIdeal.main_arg1))
      ∧ r.2.sem = fun _ => 0)

def quiescent_HeadBiasRefIdeal [hHeadBiasRefIdeal : Cert.HeadBiasRefIdeal.Facts] : Prop :=
  ∀ (m : (ℓ : Loc Cert.HeadBiasRefIdeal.nD Cert.HeadBiasRefIdeal.τ Cert.HeadBiasRefIdeal.sig) → Buf (Elt Ideal) ℓ) (g : Dev Cert.HeadBiasRefIdeal.nD → PrngReg), Pre_HeadBiasRefIdeal m →
    θ_run (Cert.HeadBiasRefIdeal.defs (F := Ideal)) (onTc (τ := Cert.HeadBiasRefIdeal.τ) (Cert.HeadBiasRefIdeal.main (F := Ideal))) ⟨m, fun _ => 0, g⟩ (fun r => (∀ c : Dev Cert.HeadBiasRefIdeal.nD,
      r.2.mem ((c.tc : Thread Cert.HeadBiasRefIdeal.nD Cert.HeadBiasRefIdeal.τ).loc Cert.HeadBiasRefIdeal.main_arg0) = m ((c.tc : Thread Cert.HeadBiasRefIdeal.nD Cert.HeadBiasRefIdeal.τ).loc Cert.HeadBiasRefIdeal.main_arg0)
      ∧ r.2.mem ((c.tc : Thread Cert.HeadBiasRefIdeal.nD Cert.HeadBiasRefIdeal.τ).loc Cert.HeadBiasRefIdeal.main_arg1) = m ((c.tc : Thread Cert.HeadBiasRefIdeal.nD Cert.HeadBiasRefIdeal.τ).loc Cert.HeadBiasRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4)
      ∧ r.2.mem ((c.tc : Thread Cert.AttnFwd.nD Cert.AttnFwd.τ).loc Cert.AttnFwd.main_arg5) = m ((c.tc : Thread Cert.AttnFwd.nD Cert.AttnFwd.τ).loc Cert.AttnFwd.main_arg5)
      ∧ r.2.mem ((c.tc : Thread Cert.AttnFwd.nD Cert.AttnFwd.τ).loc Cert.AttnFwd.main_arg6) = m ((c.tc : Thread Cert.AttnFwd.nD Cert.AttnFwd.τ).loc Cert.AttnFwd.main_arg6)
      ∧ r.2.mem ((c.tc : Thread Cert.AttnFwd.nD Cert.AttnFwd.τ).loc Cert.AttnFwd.main_arg7) = m ((c.tc : Thread Cert.AttnFwd.nD Cert.AttnFwd.τ).loc Cert.AttnFwd.main_arg7))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
      ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6)
      ∧ r.2.mem ((c.tc : Thread Cert.AttnFwdIdeal.nD Cert.AttnFwdIdeal.τ).loc Cert.AttnFwdIdeal.main_arg7) = m ((c.tc : Thread Cert.AttnFwdIdeal.nD Cert.AttnFwdIdeal.τ).loc Cert.AttnFwdIdeal.main_arg7))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5)
      ∧ r.2.mem ((c.tc : Thread Cert.AttnFwdRefIdeal.nD Cert.AttnFwdRefIdeal.τ).loc Cert.AttnFwdRefIdeal.main_arg6) = m ((c.tc : Thread Cert.AttnFwdRefIdeal.nD Cert.AttnFwdRefIdeal.τ).loc Cert.AttnFwdRefIdeal.main_arg6)
      ∧ r.2.mem ((c.tc : Thread Cert.AttnFwdRefIdeal.nD Cert.AttnFwdRefIdeal.τ).loc Cert.AttnFwdRefIdeal.main_arg7) = m ((c.tc : Thread Cert.AttnFwdRefIdeal.nD Cert.AttnFwdRefIdeal.τ).loc Cert.AttnFwdRefIdeal.main_arg7))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdRefIdeal [hMemKvFwdRefIdeal : Cert.MemKvFwdRefIdeal.Facts] : Prop :=
  ∀ (m : (ℓ : Loc Cert.MemKvFwdRefIdeal.nD Cert.MemKvFwdRefIdeal.τ Cert.MemKvFwdRefIdeal.sig) → Buf (Elt Ideal) ℓ) (g : Dev Cert.MemKvFwdRefIdeal.nD → PrngReg), Pre_MemKvFwdRefIdeal m →
    θ_run (Cert.MemKvFwdRefIdeal.defs (F := Ideal)) (onTc (τ := Cert.MemKvFwdRefIdeal.τ) (Cert.MemKvFwdRefIdeal.main (F := Ideal))) ⟨m, fun _ => 0, g⟩ (fun r => (∀ c : Dev Cert.MemKvFwdRefIdeal.nD,
      r.2.mem ((c.tc : Thread Cert.MemKvFwdRefIdeal.nD Cert.MemKvFwdRefIdeal.τ).loc Cert.MemKvFwdRefIdeal.main_arg0) = m ((c.tc : Thread Cert.MemKvFwdRefIdeal.nD Cert.MemKvFwdRefIdeal.τ).loc Cert.MemKvFwdRefIdeal.main_arg0)
      ∧ r.2.mem ((c.tc : Thread Cert.MemKvFwdRefIdeal.nD Cert.MemKvFwdRefIdeal.τ).loc Cert.MemKvFwdRefIdeal.main_arg1) = m ((c.tc : Thread Cert.MemKvFwdRefIdeal.nD Cert.MemKvFwdRefIdeal.τ).loc Cert.MemKvFwdRefIdeal.main_arg1)
      ∧ r.2.mem ((c.tc : Thread Cert.MemKvFwdRefIdeal.nD Cert.MemKvFwdRefIdeal.τ).loc Cert.MemKvFwdRefIdeal.main_arg2) = m ((c.tc : Thread Cert.MemKvFwdRefIdeal.nD Cert.MemKvFwdRefIdeal.τ).loc Cert.MemKvFwdRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_Seqmix [hSeqmix : Cert.Seqmix.Facts] : Prop :=
  ∀ (m : (ℓ : Loc Cert.Seqmix.nD Cert.Seqmix.τ Cert.Seqmix.sig) → Buf (Elt Bits) ℓ) (g : Dev Cert.Seqmix.nD → PrngReg), Pre_Seqmix m →
    θ_run (Cert.Seqmix.defs (F := Bits)) (onTc (τ := Cert.Seqmix.τ) (Cert.Seqmix.main (F := Bits))) ⟨m, fun _ => 0, g⟩ (fun r => (∀ c : Dev Cert.Seqmix.nD,
      r.2.mem ((c.tc : Thread Cert.Seqmix.nD Cert.Seqmix.τ).loc Cert.Seqmix.main_arg0) = m ((c.tc : Thread Cert.Seqmix.nD Cert.Seqmix.τ).loc Cert.Seqmix.main_arg0)
      ∧ r.2.mem ((c.tc : Thread Cert.Seqmix.nD Cert.Seqmix.τ).loc Cert.Seqmix.main_arg1) = m ((c.tc : Thread Cert.Seqmix.nD Cert.Seqmix.τ).loc Cert.Seqmix.main_arg1)
      ∧ r.2.mem ((c.tc : Thread Cert.Seqmix.nD Cert.Seqmix.τ).loc Cert.Seqmix.main_arg2) = m ((c.tc : Thread Cert.Seqmix.nD Cert.Seqmix.τ).loc Cert.Seqmix.main_arg2)
      ∧ r.2.mem ((c.tc : Thread Cert.Seqmix.nD Cert.Seqmix.τ).loc Cert.Seqmix.main_arg3) = m ((c.tc : Thread Cert.Seqmix.nD Cert.Seqmix.τ).loc Cert.Seqmix.main_arg3)
      ∧ r.2.mem ((c.tc : Thread Cert.Seqmix.nD Cert.Seqmix.τ).loc Cert.Seqmix.main_arg4) = m ((c.tc : Thread Cert.Seqmix.nD Cert.Seqmix.τ).loc Cert.Seqmix.main_arg4)
      ∧ r.2.mem ((c.tc : Thread Cert.Seqmix.nD Cert.Seqmix.τ).loc Cert.Seqmix.main_arg5) = m ((c.tc : Thread Cert.Seqmix.nD Cert.Seqmix.τ).loc Cert.Seqmix.main_arg5)
      ∧ r.2.mem ((c.tc : Thread Cert.Seqmix.nD Cert.Seqmix.τ).loc Cert.Seqmix.main_arg6) = m ((c.tc : Thread Cert.Seqmix.nD Cert.Seqmix.τ).loc Cert.Seqmix.main_arg6)
      ∧ r.2.mem ((c.tc : Thread Cert.Seqmix.nD Cert.Seqmix.τ).loc Cert.Seqmix.main_arg7) = m ((c.tc : Thread Cert.Seqmix.nD Cert.Seqmix.τ).loc Cert.Seqmix.main_arg7)
      ∧ r.2.mem ((c.tc : Thread Cert.Seqmix.nD Cert.Seqmix.τ).loc Cert.Seqmix.main_arg8) = m ((c.tc : Thread Cert.Seqmix.nD Cert.Seqmix.τ).loc Cert.Seqmix.main_arg8)
      ∧ r.2.mem ((c.tc : Thread Cert.Seqmix.nD Cert.Seqmix.τ).loc Cert.Seqmix.main_arg9) = m ((c.tc : Thread Cert.Seqmix.nD Cert.Seqmix.τ).loc Cert.Seqmix.main_arg9)
      ∧ r.2.mem ((c.tc : Thread Cert.Seqmix.nD Cert.Seqmix.τ).loc Cert.Seqmix.main_arg10) = m ((c.tc : Thread Cert.Seqmix.nD Cert.Seqmix.τ).loc Cert.Seqmix.main_arg10)
      ∧ r.2.mem ((c.tc : Thread Cert.Seqmix.nD Cert.Seqmix.τ).loc Cert.Seqmix.main_arg11) = m ((c.tc : Thread Cert.Seqmix.nD Cert.Seqmix.τ).loc Cert.Seqmix.main_arg11)
      ∧ r.2.mem ((c.tc : Thread Cert.Seqmix.nD Cert.Seqmix.τ).loc Cert.Seqmix.main_arg12) = m ((c.tc : Thread Cert.Seqmix.nD Cert.Seqmix.τ).loc Cert.Seqmix.main_arg12)
      ∧ r.2.mem ((c.tc : Thread Cert.Seqmix.nD Cert.Seqmix.τ).loc Cert.Seqmix.main_arg13) = m ((c.tc : Thread Cert.Seqmix.nD Cert.Seqmix.τ).loc Cert.Seqmix.main_arg13))
      ∧ r.2.sem = fun _ => 0)

def quiescent_SeqmixIdeal [hSeqmixIdeal : Cert.SeqmixIdeal.Facts] : Prop :=
  ∀ (m : (ℓ : Loc Cert.SeqmixIdeal.nD Cert.SeqmixIdeal.τ Cert.SeqmixIdeal.sig) → Buf (Elt Ideal) ℓ) (g : Dev Cert.SeqmixIdeal.nD → PrngReg), Pre_SeqmixIdeal m →
    θ_run (Cert.SeqmixIdeal.defs (F := Ideal)) (onTc (τ := Cert.SeqmixIdeal.τ) (Cert.SeqmixIdeal.main (F := Ideal))) ⟨m, fun _ => 0, g⟩ (fun r => (∀ c : Dev Cert.SeqmixIdeal.nD,
      r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
      ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1)
      ∧ r.2.mem ((c.tc : Thread Cert.SeqmixIdeal.nD Cert.SeqmixIdeal.τ).loc Cert.SeqmixIdeal.main_arg2) = m ((c.tc : Thread Cert.SeqmixIdeal.nD Cert.SeqmixIdeal.τ).loc Cert.SeqmixIdeal.main_arg2)
      ∧ r.2.mem ((c.tc : Thread Cert.SeqmixIdeal.nD Cert.SeqmixIdeal.τ).loc Cert.SeqmixIdeal.main_arg3) = m ((c.tc : Thread Cert.SeqmixIdeal.nD Cert.SeqmixIdeal.τ).loc Cert.SeqmixIdeal.main_arg3)
      ∧ r.2.mem ((c.tc : Thread Cert.SeqmixIdeal.nD Cert.SeqmixIdeal.τ).loc Cert.SeqmixIdeal.main_arg4) = m ((c.tc : Thread Cert.SeqmixIdeal.nD Cert.SeqmixIdeal.τ).loc Cert.SeqmixIdeal.main_arg4)
      ∧ r.2.mem ((c.tc : Thread Cert.SeqmixIdeal.nD Cert.SeqmixIdeal.τ).loc Cert.SeqmixIdeal.main_arg5) = m ((c.tc : Thread Cert.SeqmixIdeal.nD Cert.SeqmixIdeal.τ).loc Cert.SeqmixIdeal.main_arg5)
      ∧ r.2.mem ((c.tc : Thread Cert.SeqmixIdeal.nD Cert.SeqmixIdeal.τ).loc Cert.SeqmixIdeal.main_arg6) = m ((c.tc : Thread Cert.SeqmixIdeal.nD Cert.SeqmixIdeal.τ).loc Cert.SeqmixIdeal.main_arg6)
      ∧ r.2.mem ((c.tc : Thread Cert.SeqmixIdeal.nD Cert.SeqmixIdeal.τ).loc Cert.SeqmixIdeal.main_arg7) = m ((c.tc : Thread Cert.SeqmixIdeal.nD Cert.SeqmixIdeal.τ).loc Cert.SeqmixIdeal.main_arg7)
      ∧ r.2.mem ((c.tc : Thread Cert.SeqmixIdeal.nD Cert.SeqmixIdeal.τ).loc Cert.SeqmixIdeal.main_arg8) = m ((c.tc : Thread Cert.SeqmixIdeal.nD Cert.SeqmixIdeal.τ).loc Cert.SeqmixIdeal.main_arg8)
      ∧ r.2.mem ((c.tc : Thread Cert.SeqmixIdeal.nD Cert.SeqmixIdeal.τ).loc Cert.SeqmixIdeal.main_arg9) = m ((c.tc : Thread Cert.SeqmixIdeal.nD Cert.SeqmixIdeal.τ).loc Cert.SeqmixIdeal.main_arg9)
      ∧ r.2.mem ((c.tc : Thread Cert.SeqmixIdeal.nD Cert.SeqmixIdeal.τ).loc Cert.SeqmixIdeal.main_arg10) = m ((c.tc : Thread Cert.SeqmixIdeal.nD Cert.SeqmixIdeal.τ).loc Cert.SeqmixIdeal.main_arg10)
      ∧ r.2.mem ((c.tc : Thread Cert.SeqmixIdeal.nD Cert.SeqmixIdeal.τ).loc Cert.SeqmixIdeal.main_arg11) = m ((c.tc : Thread Cert.SeqmixIdeal.nD Cert.SeqmixIdeal.τ).loc Cert.SeqmixIdeal.main_arg11)
      ∧ r.2.mem ((c.tc : Thread Cert.SeqmixIdeal.nD Cert.SeqmixIdeal.τ).loc Cert.SeqmixIdeal.main_arg12) = m ((c.tc : Thread Cert.SeqmixIdeal.nD Cert.SeqmixIdeal.τ).loc Cert.SeqmixIdeal.main_arg12)
      ∧ r.2.mem ((c.tc : Thread Cert.SeqmixIdeal.nD Cert.SeqmixIdeal.τ).loc Cert.SeqmixIdeal.main_arg13) = m ((c.tc : Thread Cert.SeqmixIdeal.nD Cert.SeqmixIdeal.τ).loc Cert.SeqmixIdeal.main_arg13))
      ∧ r.2.sem = fun _ => 0)

def quiescent_SeqmixIdeal_pre_finite_seqmix [hSeqmixIdeal : Cert.SeqmixIdeal.Facts] [hPre_finite_seqmix : Cert.Pre_finite_seqmix.Facts] : Prop :=
  ∀ (m : (ℓ : Loc Cert.SeqmixIdeal.nD Cert.SeqmixIdeal.τ Cert.SeqmixIdeal.sig) → Buf (Elt Ideal) ℓ) (g : Dev Cert.SeqmixIdeal.nD → PrngReg), Pre_SeqmixIdeal_finite_seqmix m →
    θ_run (Cert.SeqmixIdeal.defs (F := Ideal)) (onTc (τ := Cert.SeqmixIdeal.τ) (Cert.SeqmixIdeal.main (F := Ideal))) ⟨m, fun _ => 0, g⟩ (fun r => (∀ c : Dev Cert.SeqmixIdeal.nD,
      r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
      ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1)
      ∧ r.2.mem ((c.tc : Thread Cert.SeqmixIdeal.nD Cert.SeqmixIdeal.τ).loc Cert.SeqmixIdeal.main_arg2) = m ((c.tc : Thread Cert.SeqmixIdeal.nD Cert.SeqmixIdeal.τ).loc Cert.SeqmixIdeal.main_arg2)
      ∧ r.2.mem ((c.tc : Thread Cert.SeqmixIdeal.nD Cert.SeqmixIdeal.τ).loc Cert.SeqmixIdeal.main_arg3) = m ((c.tc : Thread Cert.SeqmixIdeal.nD Cert.SeqmixIdeal.τ).loc Cert.SeqmixIdeal.main_arg3)
      ∧ r.2.mem ((c.tc : Thread Cert.SeqmixIdeal.nD Cert.SeqmixIdeal.τ).loc Cert.SeqmixIdeal.main_arg4) = m ((c.tc : Thread Cert.SeqmixIdeal.nD Cert.SeqmixIdeal.τ).loc Cert.SeqmixIdeal.main_arg4)
      ∧ r.2.mem ((c.tc : Thread Cert.SeqmixIdeal.nD Cert.SeqmixIdeal.τ).loc Cert.SeqmixIdeal.main_arg5) = m ((c.tc : Thread Cert.SeqmixIdeal.nD Cert.SeqmixIdeal.τ).loc Cert.SeqmixIdeal.main_arg5)
      ∧ r.2.mem ((c.tc : Thread Cert.SeqmixIdeal.nD Cert.SeqmixIdeal.τ).loc Cert.SeqmixIdeal.main_arg6) = m ((c.tc : Thread Cert.SeqmixIdeal.nD Cert.SeqmixIdeal.τ).loc Cert.SeqmixIdeal.main_arg6)
      ∧ r.2.mem ((c.tc : Thread Cert.SeqmixIdeal.nD Cert.SeqmixIdeal.τ).loc Cert.SeqmixIdeal.main_arg7) = m ((c.tc : Thread Cert.SeqmixIdeal.nD Cert.SeqmixIdeal.τ).loc Cert.SeqmixIdeal.main_arg7)
      ∧ r.2.mem ((c.tc : Thread Cert.SeqmixIdeal.nD Cert.SeqmixIdeal.τ).loc Cert.SeqmixIdeal.main_arg8) = m ((c.tc : Thread Cert.SeqmixIdeal.nD Cert.SeqmixIdeal.τ).loc Cert.SeqmixIdeal.main_arg8)
      ∧ r.2.mem ((c.tc : Thread Cert.SeqmixIdeal.nD Cert.SeqmixIdeal.τ).loc Cert.SeqmixIdeal.main_arg9) = m ((c.tc : Thread Cert.SeqmixIdeal.nD Cert.SeqmixIdeal.τ).loc Cert.SeqmixIdeal.main_arg9)
      ∧ r.2.mem ((c.tc : Thread Cert.SeqmixIdeal.nD Cert.SeqmixIdeal.τ).loc Cert.SeqmixIdeal.main_arg10) = m ((c.tc : Thread Cert.SeqmixIdeal.nD Cert.SeqmixIdeal.τ).loc Cert.SeqmixIdeal.main_arg10)
      ∧ r.2.mem ((c.tc : Thread Cert.SeqmixIdeal.nD Cert.SeqmixIdeal.τ).loc Cert.SeqmixIdeal.main_arg11) = m ((c.tc : Thread Cert.SeqmixIdeal.nD Cert.SeqmixIdeal.τ).loc Cert.SeqmixIdeal.main_arg11)
      ∧ r.2.mem ((c.tc : Thread Cert.SeqmixIdeal.nD Cert.SeqmixIdeal.τ).loc Cert.SeqmixIdeal.main_arg12) = m ((c.tc : Thread Cert.SeqmixIdeal.nD Cert.SeqmixIdeal.τ).loc Cert.SeqmixIdeal.main_arg12)
      ∧ r.2.mem ((c.tc : Thread Cert.SeqmixIdeal.nD Cert.SeqmixIdeal.τ).loc Cert.SeqmixIdeal.main_arg13) = m ((c.tc : Thread Cert.SeqmixIdeal.nD Cert.SeqmixIdeal.τ).loc Cert.SeqmixIdeal.main_arg13))
      ∧ r.2.sem = fun _ => 0)

def quiescent_SeqmixRefIdeal [hSeqmixRefIdeal : Cert.SeqmixRefIdeal.Facts] : Prop :=
  ∀ (m : (ℓ : Loc Cert.SeqmixRefIdeal.nD Cert.SeqmixRefIdeal.τ Cert.SeqmixRefIdeal.sig) → Buf (Elt Ideal) ℓ) (g : Dev Cert.SeqmixRefIdeal.nD → PrngReg), Pre_SeqmixRefIdeal m →
    θ_run (Cert.SeqmixRefIdeal.defs (F := Ideal)) (onTc (τ := Cert.SeqmixRefIdeal.τ) (Cert.SeqmixRefIdeal.main (F := Ideal))) ⟨m, fun _ => 0, g⟩ (fun r => (∀ c : Dev Cert.SeqmixRefIdeal.nD,
      r.2.mem ((c.tc : Thread Cert.SeqmixRefIdeal.nD Cert.SeqmixRefIdeal.τ).loc Cert.SeqmixRefIdeal.main_arg0) = m ((c.tc : Thread Cert.SeqmixRefIdeal.nD Cert.SeqmixRefIdeal.τ).loc Cert.SeqmixRefIdeal.main_arg0)
      ∧ r.2.mem ((c.tc : Thread Cert.SeqmixRefIdeal.nD Cert.SeqmixRefIdeal.τ).loc Cert.SeqmixRefIdeal.main_arg1) = m ((c.tc : Thread Cert.SeqmixRefIdeal.nD Cert.SeqmixRefIdeal.τ).loc Cert.SeqmixRefIdeal.main_arg1)
      ∧ r.2.mem ((c.tc : Thread Cert.SeqmixRefIdeal.nD Cert.SeqmixRefIdeal.τ).loc Cert.SeqmixRefIdeal.main_arg2) = m ((c.tc : Thread Cert.SeqmixRefIdeal.nD Cert.SeqmixRefIdeal.τ).loc Cert.SeqmixRefIdeal.main_arg2)
      ∧ r.2.mem ((c.tc : Thread Cert.SeqmixRefIdeal.nD Cert.SeqmixRefIdeal.τ).loc Cert.SeqmixRefIdeal.main_arg3) = m ((c.tc : Thread Cert.SeqmixRefIdeal.nD Cert.SeqmixRefIdeal.τ).loc Cert.SeqmixRefIdeal.main_arg3)
      ∧ r.2.mem ((c.tc : Thread Cert.SeqmixRefIdeal.nD Cert.SeqmixRefIdeal.τ).loc Cert.SeqmixRefIdeal.main_arg4) = m ((c.tc : Thread Cert.SeqmixRefIdeal.nD Cert.SeqmixRefIdeal.τ).loc Cert.SeqmixRefIdeal.main_arg4)
      ∧ r.2.mem ((c.tc : Thread Cert.SeqmixRefIdeal.nD Cert.SeqmixRefIdeal.τ).loc Cert.SeqmixRefIdeal.main_arg5) = m ((c.tc : Thread Cert.SeqmixRefIdeal.nD Cert.SeqmixRefIdeal.τ).loc Cert.SeqmixRefIdeal.main_arg5)
      ∧ r.2.mem ((c.tc : Thread Cert.SeqmixRefIdeal.nD Cert.SeqmixRefIdeal.τ).loc Cert.SeqmixRefIdeal.main_arg6) = m ((c.tc : Thread Cert.SeqmixRefIdeal.nD Cert.SeqmixRefIdeal.τ).loc Cert.SeqmixRefIdeal.main_arg6)
      ∧ r.2.mem ((c.tc : Thread Cert.SeqmixRefIdeal.nD Cert.SeqmixRefIdeal.τ).loc Cert.SeqmixRefIdeal.main_arg7) = m ((c.tc : Thread Cert.SeqmixRefIdeal.nD Cert.SeqmixRefIdeal.τ).loc Cert.SeqmixRefIdeal.main_arg7)
      ∧ r.2.mem ((c.tc : Thread Cert.SeqmixRefIdeal.nD Cert.SeqmixRefIdeal.τ).loc Cert.SeqmixRefIdeal.main_arg8) = m ((c.tc : Thread Cert.SeqmixRefIdeal.nD Cert.SeqmixRefIdeal.τ).loc Cert.SeqmixRefIdeal.main_arg8)
      ∧ r.2.mem ((c.tc : Thread Cert.SeqmixRefIdeal.nD Cert.SeqmixRefIdeal.τ).loc Cert.SeqmixRefIdeal.main_arg9) = m ((c.tc : Thread Cert.SeqmixRefIdeal.nD Cert.SeqmixRefIdeal.τ).loc Cert.SeqmixRefIdeal.main_arg9)
      ∧ r.2.mem ((c.tc : Thread Cert.SeqmixRefIdeal.nD Cert.SeqmixRefIdeal.τ).loc Cert.SeqmixRefIdeal.main_arg10) = m ((c.tc : Thread Cert.SeqmixRefIdeal.nD Cert.SeqmixRefIdeal.τ).loc Cert.SeqmixRefIdeal.main_arg10)
      ∧ r.2.mem ((c.tc : Thread Cert.SeqmixRefIdeal.nD Cert.SeqmixRefIdeal.τ).loc Cert.SeqmixRefIdeal.main_arg11) = m ((c.tc : Thread Cert.SeqmixRefIdeal.nD Cert.SeqmixRefIdeal.τ).loc Cert.SeqmixRefIdeal.main_arg11)
      ∧ r.2.mem ((c.tc : Thread Cert.SeqmixRefIdeal.nD Cert.SeqmixRefIdeal.τ).loc Cert.SeqmixRefIdeal.main_arg12) = m ((c.tc : Thread Cert.SeqmixRefIdeal.nD Cert.SeqmixRefIdeal.τ).loc Cert.SeqmixRefIdeal.main_arg12)
      ∧ r.2.mem ((c.tc : Thread Cert.SeqmixRefIdeal.nD Cert.SeqmixRefIdeal.τ).loc Cert.SeqmixRefIdeal.main_arg13) = m ((c.tc : Thread Cert.SeqmixRefIdeal.nD Cert.SeqmixRefIdeal.τ).loc Cert.SeqmixRefIdeal.main_arg13))
      ∧ r.2.sem = fun _ => 0)

def quiescent_SeqmixRefIdeal_pre_finite_seqmix [hSeqmixRefIdeal : Cert.SeqmixRefIdeal.Facts] [hPre_finite_seqmix : Cert.Pre_finite_seqmix.Facts] : Prop :=
  ∀ (m : (ℓ : Loc Cert.SeqmixRefIdeal.nD Cert.SeqmixRefIdeal.τ Cert.SeqmixRefIdeal.sig) → Buf (Elt Ideal) ℓ) (g : Dev Cert.SeqmixRefIdeal.nD → PrngReg), Pre_SeqmixRefIdeal_finite_seqmix m →
    θ_run (Cert.SeqmixRefIdeal.defs (F := Ideal)) (onTc (τ := Cert.SeqmixRefIdeal.τ) (Cert.SeqmixRefIdeal.main (F := Ideal))) ⟨m, fun _ => 0, g⟩ (fun r => (∀ c : Dev Cert.SeqmixRefIdeal.nD,
      r.2.mem ((c.tc : Thread Cert.SeqmixRefIdeal.nD Cert.SeqmixRefIdeal.τ).loc Cert.SeqmixRefIdeal.main_arg0) = m ((c.tc : Thread Cert.SeqmixRefIdeal.nD Cert.SeqmixRefIdeal.τ).loc Cert.SeqmixRefIdeal.main_arg0)
      ∧ r.2.mem ((c.tc : Thread Cert.SeqmixRefIdeal.nD Cert.SeqmixRefIdeal.τ).loc Cert.SeqmixRefIdeal.main_arg1) = m ((c.tc : Thread Cert.SeqmixRefIdeal.nD Cert.SeqmixRefIdeal.τ).loc Cert.SeqmixRefIdeal.main_arg1)
      ∧ r.2.mem ((c.tc : Thread Cert.SeqmixRefIdeal.nD Cert.SeqmixRefIdeal.τ).loc Cert.SeqmixRefIdeal.main_arg2) = m ((c.tc : Thread Cert.SeqmixRefIdeal.nD Cert.SeqmixRefIdeal.τ).loc Cert.SeqmixRefIdeal.main_arg2)
      ∧ r.2.mem ((c.tc : Thread Cert.SeqmixRefIdeal.nD Cert.SeqmixRefIdeal.τ).loc Cert.SeqmixRefIdeal.main_arg3) = m ((c.tc : Thread Cert.SeqmixRefIdeal.nD Cert.SeqmixRefIdeal.τ).loc Cert.SeqmixRefIdeal.main_arg3)
      ∧ r.2.mem ((c.tc : Thread Cert.SeqmixRefIdeal.nD Cert.SeqmixRefIdeal.τ).loc Cert.SeqmixRefIdeal.main_arg4) = m ((c.tc : Thread Cert.SeqmixRefIdeal.nD Cert.SeqmixRefIdeal.τ).loc Cert.SeqmixRefIdeal.main_arg4)
      ∧ r.2.mem ((c.tc : Thread Cert.SeqmixRefIdeal.nD Cert.SeqmixRefIdeal.τ).loc Cert.SeqmixRefIdeal.main_arg5) = m ((c.tc : Thread Cert.SeqmixRefIdeal.nD Cert.SeqmixRefIdeal.τ).loc Cert.SeqmixRefIdeal.main_arg5)
      ∧ r.2.mem ((c.tc : Thread Cert.SeqmixRefIdeal.nD Cert.SeqmixRefIdeal.τ).loc Cert.SeqmixRefIdeal.main_arg6) = m ((c.tc : Thread Cert.SeqmixRefIdeal.nD Cert.SeqmixRefIdeal.τ).loc Cert.SeqmixRefIdeal.main_arg6)
      ∧ r.2.mem ((c.tc : Thread Cert.SeqmixRefIdeal.nD Cert.SeqmixRefIdeal.τ).loc Cert.SeqmixRefIdeal.main_arg7) = m ((c.tc : Thread Cert.SeqmixRefIdeal.nD Cert.SeqmixRefIdeal.τ).loc Cert.SeqmixRefIdeal.main_arg7)
      ∧ r.2.mem ((c.tc : Thread Cert.SeqmixRefIdeal.nD Cert.SeqmixRefIdeal.τ).loc Cert.SeqmixRefIdeal.main_arg8) = m ((c.tc : Thread Cert.SeqmixRefIdeal.nD Cert.SeqmixRefIdeal.τ).loc Cert.SeqmixRefIdeal.main_arg8)
      ∧ r.2.mem ((c.tc : Thread Cert.SeqmixRefIdeal.nD Cert.SeqmixRefIdeal.τ).loc Cert.SeqmixRefIdeal.main_arg9) = m ((c.tc : Thread Cert.SeqmixRefIdeal.nD Cert.SeqmixRefIdeal.τ).loc Cert.SeqmixRefIdeal.main_arg9)
      ∧ r.2.mem ((c.tc : Thread Cert.SeqmixRefIdeal.nD Cert.SeqmixRefIdeal.τ).loc Cert.SeqmixRefIdeal.main_arg10) = m ((c.tc : Thread Cert.SeqmixRefIdeal.nD Cert.SeqmixRefIdeal.τ).loc Cert.SeqmixRefIdeal.main_arg10)
      ∧ r.2.mem ((c.tc : Thread Cert.SeqmixRefIdeal.nD Cert.SeqmixRefIdeal.τ).loc Cert.SeqmixRefIdeal.main_arg11) = m ((c.tc : Thread Cert.SeqmixRefIdeal.nD Cert.SeqmixRefIdeal.τ).loc Cert.SeqmixRefIdeal.main_arg11)
      ∧ r.2.mem ((c.tc : Thread Cert.SeqmixRefIdeal.nD Cert.SeqmixRefIdeal.τ).loc Cert.SeqmixRefIdeal.main_arg12) = m ((c.tc : Thread Cert.SeqmixRefIdeal.nD Cert.SeqmixRefIdeal.τ).loc Cert.SeqmixRefIdeal.main_arg12)
      ∧ r.2.mem ((c.tc : Thread Cert.SeqmixRefIdeal.nD Cert.SeqmixRefIdeal.τ).loc Cert.SeqmixRefIdeal.main_arg13) = m ((c.tc : Thread Cert.SeqmixRefIdeal.nD Cert.SeqmixRefIdeal.τ).loc Cert.SeqmixRefIdeal.main_arg13))
      ∧ r.2.sem = fun _ => 0)

def quiescent_SeqmixFwd [hSeqmixFwd : Cert.SeqmixFwd.Facts] : Prop :=
  ∀ (m : (ℓ : Loc Cert.SeqmixFwd.nD Cert.SeqmixFwd.τ Cert.SeqmixFwd.sig) → Buf (Elt Bits) ℓ) (g : Dev Cert.SeqmixFwd.nD → PrngReg), Pre_SeqmixFwd m →
    θ_run (Cert.SeqmixFwd.defs (F := Bits)) (onTc (τ := Cert.SeqmixFwd.τ) (Cert.SeqmixFwd.main (F := Bits))) ⟨m, fun _ => 0, g⟩ (fun r => (∀ c : Dev Cert.SeqmixFwd.nD,
      r.2.mem ((c.tc : Thread Cert.SeqmixFwd.nD Cert.SeqmixFwd.τ).loc Cert.SeqmixFwd.main_arg0) = m ((c.tc : Thread Cert.SeqmixFwd.nD Cert.SeqmixFwd.τ).loc Cert.SeqmixFwd.main_arg0)
      ∧ r.2.mem ((c.tc : Thread Cert.SeqmixFwd.nD Cert.SeqmixFwd.τ).loc Cert.SeqmixFwd.main_arg1) = m ((c.tc : Thread Cert.SeqmixFwd.nD Cert.SeqmixFwd.τ).loc Cert.SeqmixFwd.main_arg1)
      ∧ r.2.mem ((c.tc : Thread Cert.SeqmixFwd.nD Cert.SeqmixFwd.τ).loc Cert.SeqmixFwd.main_arg2) = m ((c.tc : Thread Cert.SeqmixFwd.nD Cert.SeqmixFwd.τ).loc Cert.SeqmixFwd.main_arg2)
      ∧ r.2.mem ((c.tc : Thread Cert.SeqmixFwd.nD Cert.SeqmixFwd.τ).loc Cert.SeqmixFwd.main_arg3) = m ((c.tc : Thread Cert.SeqmixFwd.nD Cert.SeqmixFwd.τ).loc Cert.SeqmixFwd.main_arg3)
      ∧ r.2.mem ((c.tc : Thread Cert.SeqmixFwd.nD Cert.SeqmixFwd.τ).loc Cert.SeqmixFwd.main_arg4) = m ((c.tc : Thread Cert.SeqmixFwd.nD Cert.SeqmixFwd.τ).loc Cert.SeqmixFwd.main_arg4)
      ∧ r.2.mem ((c.tc : Thread Cert.SeqmixFwd.nD Cert.SeqmixFwd.τ).loc Cert.SeqmixFwd.main_arg5) = m ((c.tc : Thread Cert.SeqmixFwd.nD Cert.SeqmixFwd.τ).loc Cert.SeqmixFwd.main_arg5)
      ∧ r.2.mem ((c.tc : Thread Cert.SeqmixFwd.nD Cert.SeqmixFwd.τ).loc Cert.SeqmixFwd.main_arg6) = m ((c.tc : Thread Cert.SeqmixFwd.nD Cert.SeqmixFwd.τ).loc Cert.SeqmixFwd.main_arg6)
      ∧ r.2.mem ((c.tc : Thread Cert.SeqmixFwd.nD Cert.SeqmixFwd.τ).loc Cert.SeqmixFwd.main_arg7) = m ((c.tc : Thread Cert.SeqmixFwd.nD Cert.SeqmixFwd.τ).loc Cert.SeqmixFwd.main_arg7)
      ∧ r.2.mem ((c.tc : Thread Cert.SeqmixFwd.nD Cert.SeqmixFwd.τ).loc Cert.SeqmixFwd.main_arg8) = m ((c.tc : Thread Cert.SeqmixFwd.nD Cert.SeqmixFwd.τ).loc Cert.SeqmixFwd.main_arg8)
      ∧ r.2.mem ((c.tc : Thread Cert.SeqmixFwd.nD Cert.SeqmixFwd.τ).loc Cert.SeqmixFwd.main_arg9) = m ((c.tc : Thread Cert.SeqmixFwd.nD Cert.SeqmixFwd.τ).loc Cert.SeqmixFwd.main_arg9)
      ∧ r.2.mem ((c.tc : Thread Cert.SeqmixFwd.nD Cert.SeqmixFwd.τ).loc Cert.SeqmixFwd.main_arg10) = m ((c.tc : Thread Cert.SeqmixFwd.nD Cert.SeqmixFwd.τ).loc Cert.SeqmixFwd.main_arg10))
      ∧ r.2.sem = fun _ => 0)

def quiescent_SeqmixFwdIdeal [hSeqmixFwdIdeal : Cert.SeqmixFwdIdeal.Facts] : Prop :=
  ∀ (m : (ℓ : Loc Cert.SeqmixFwdIdeal.nD Cert.SeqmixFwdIdeal.τ Cert.SeqmixFwdIdeal.sig) → Buf (Elt Ideal) ℓ) (g : Dev Cert.SeqmixFwdIdeal.nD → PrngReg), Pre_SeqmixFwdIdeal m →
    θ_run (Cert.SeqmixFwdIdeal.defs (F := Ideal)) (onTc (τ := Cert.SeqmixFwdIdeal.τ) (Cert.SeqmixFwdIdeal.main (F := Ideal))) ⟨m, fun _ => 0, g⟩ (fun r => (∀ c : Dev Cert.SeqmixFwdIdeal.nD,
      r.2.mem ((c.tc : Thread Cert.SeqmixFwdIdeal.nD Cert.SeqmixFwdIdeal.τ).loc Cert.SeqmixFwdIdeal.main_arg0) = m ((c.tc : Thread Cert.SeqmixFwdIdeal.nD Cert.SeqmixFwdIdeal.τ).loc Cert.SeqmixFwdIdeal.main_arg0)
      ∧ r.2.mem ((c.tc : Thread Cert.SeqmixFwdIdeal.nD Cert.SeqmixFwdIdeal.τ).loc Cert.SeqmixFwdIdeal.main_arg1) = m ((c.tc : Thread Cert.SeqmixFwdIdeal.nD Cert.SeqmixFwdIdeal.τ).loc Cert.SeqmixFwdIdeal.main_arg1)
      ∧ r.2.mem ((c.tc : Thread Cert.SeqmixFwdIdeal.nD Cert.SeqmixFwdIdeal.τ).loc Cert.SeqmixFwdIdeal.main_arg2) = m ((c.tc : Thread Cert.SeqmixFwdIdeal.nD Cert.SeqmixFwdIdeal.τ).loc Cert.SeqmixFwdIdeal.main_arg2)
      ∧ r.2.mem ((c.tc : Thread Cert.SeqmixFwdIdeal.nD Cert.SeqmixFwdIdeal.τ).loc Cert.SeqmixFwdIdeal.main_arg3) = m ((c.tc : Thread Cert.SeqmixFwdIdeal.nD Cert.SeqmixFwdIdeal.τ).loc Cert.SeqmixFwdIdeal.main_arg3)
      ∧ r.2.mem ((c.tc : Thread Cert.SeqmixFwdIdeal.nD Cert.SeqmixFwdIdeal.τ).loc Cert.SeqmixFwdIdeal.main_arg4) = m ((c.tc : Thread Cert.SeqmixFwdIdeal.nD Cert.SeqmixFwdIdeal.τ).loc Cert.SeqmixFwdIdeal.main_arg4)
      ∧ r.2.mem ((c.tc : Thread Cert.SeqmixFwdIdeal.nD Cert.SeqmixFwdIdeal.τ).loc Cert.SeqmixFwdIdeal.main_arg5) = m ((c.tc : Thread Cert.SeqmixFwdIdeal.nD Cert.SeqmixFwdIdeal.τ).loc Cert.SeqmixFwdIdeal.main_arg5)
      ∧ r.2.mem ((c.tc : Thread Cert.SeqmixFwdIdeal.nD Cert.SeqmixFwdIdeal.τ).loc Cert.SeqmixFwdIdeal.main_arg6) = m ((c.tc : Thread Cert.SeqmixFwdIdeal.nD Cert.SeqmixFwdIdeal.τ).loc Cert.SeqmixFwdIdeal.main_arg6)
      ∧ r.2.mem ((c.tc : Thread Cert.SeqmixFwdIdeal.nD Cert.SeqmixFwdIdeal.τ).loc Cert.SeqmixFwdIdeal.main_arg7) = m ((c.tc : Thread Cert.SeqmixFwdIdeal.nD Cert.SeqmixFwdIdeal.τ).loc Cert.SeqmixFwdIdeal.main_arg7)
      ∧ r.2.mem ((c.tc : Thread Cert.SeqmixFwdIdeal.nD Cert.SeqmixFwdIdeal.τ).loc Cert.SeqmixFwdIdeal.main_arg8) = m ((c.tc : Thread Cert.SeqmixFwdIdeal.nD Cert.SeqmixFwdIdeal.τ).loc Cert.SeqmixFwdIdeal.main_arg8)
      ∧ r.2.mem ((c.tc : Thread Cert.SeqmixFwdIdeal.nD Cert.SeqmixFwdIdeal.τ).loc Cert.SeqmixFwdIdeal.main_arg9) = m ((c.tc : Thread Cert.SeqmixFwdIdeal.nD Cert.SeqmixFwdIdeal.τ).loc Cert.SeqmixFwdIdeal.main_arg9)
      ∧ r.2.mem ((c.tc : Thread Cert.SeqmixFwdIdeal.nD Cert.SeqmixFwdIdeal.τ).loc Cert.SeqmixFwdIdeal.main_arg10) = m ((c.tc : Thread Cert.SeqmixFwdIdeal.nD Cert.SeqmixFwdIdeal.τ).loc Cert.SeqmixFwdIdeal.main_arg10))
      ∧ r.2.sem = fun _ => 0)

def quiescent_SeqmixFwdRefIdeal [hSeqmixFwdRefIdeal : Cert.SeqmixFwdRefIdeal.Facts] : Prop :=
  ∀ (m : (ℓ : Loc Cert.SeqmixFwdRefIdeal.nD Cert.SeqmixFwdRefIdeal.τ Cert.SeqmixFwdRefIdeal.sig) → Buf (Elt Ideal) ℓ) (g : Dev Cert.SeqmixFwdRefIdeal.nD → PrngReg), Pre_SeqmixFwdRefIdeal m →
    θ_run (Cert.SeqmixFwdRefIdeal.defs (F := Ideal)) (onTc (τ := Cert.SeqmixFwdRefIdeal.τ) (Cert.SeqmixFwdRefIdeal.main (F := Ideal))) ⟨m, fun _ => 0, g⟩ (fun r => (∀ c : Dev Cert.SeqmixFwdRefIdeal.nD,
      r.2.mem ((c.tc : Thread Cert.SeqmixFwdRefIdeal.nD Cert.SeqmixFwdRefIdeal.τ).loc Cert.SeqmixFwdRefIdeal.main_arg0) = m ((c.tc : Thread Cert.SeqmixFwdRefIdeal.nD Cert.SeqmixFwdRefIdeal.τ).loc Cert.SeqmixFwdRefIdeal.main_arg0)
      ∧ r.2.mem ((c.tc : Thread Cert.SeqmixFwdRefIdeal.nD Cert.SeqmixFwdRefIdeal.τ).loc Cert.SeqmixFwdRefIdeal.main_arg1) = m ((c.tc : Thread Cert.SeqmixFwdRefIdeal.nD Cert.SeqmixFwdRefIdeal.τ).loc Cert.SeqmixFwdRefIdeal.main_arg1)
      ∧ r.2.mem ((c.tc : Thread Cert.SeqmixFwdRefIdeal.nD Cert.SeqmixFwdRefIdeal.τ).loc Cert.SeqmixFwdRefIdeal.main_arg2) = m ((c.tc : Thread Cert.SeqmixFwdRefIdeal.nD Cert.SeqmixFwdRefIdeal.τ).loc Cert.SeqmixFwdRefIdeal.main_arg2)
      ∧ r.2.mem ((c.tc : Thread Cert.SeqmixFwdRefIdeal.nD Cert.SeqmixFwdRefIdeal.τ).loc Cert.SeqmixFwdRefIdeal.main_arg3) = m ((c.tc : Thread Cert.SeqmixFwdRefIdeal.nD Cert.SeqmixFwdRefIdeal.τ).loc Cert.SeqmixFwdRefIdeal.main_arg3)
      ∧ r.2.mem ((c.tc : Thread Cert.SeqmixFwdRefIdeal.nD Cert.SeqmixFwdRefIdeal.τ).loc Cert.SeqmixFwdRefIdeal.main_arg4) = m ((c.tc : Thread Cert.SeqmixFwdRefIdeal.nD Cert.SeqmixFwdRefIdeal.τ).loc Cert.SeqmixFwdRefIdeal.main_arg4)
      ∧ r.2.mem ((c.tc : Thread Cert.SeqmixFwdRefIdeal.nD Cert.SeqmixFwdRefIdeal.τ).loc Cert.SeqmixFwdRefIdeal.main_arg5) = m ((c.tc : Thread Cert.SeqmixFwdRefIdeal.nD Cert.SeqmixFwdRefIdeal.τ).loc Cert.SeqmixFwdRefIdeal.main_arg5)
      ∧ r.2.mem ((c.tc : Thread Cert.SeqmixFwdRefIdeal.nD Cert.SeqmixFwdRefIdeal.τ).loc Cert.SeqmixFwdRefIdeal.main_arg6) = m ((c.tc : Thread Cert.SeqmixFwdRefIdeal.nD Cert.SeqmixFwdRefIdeal.τ).loc Cert.SeqmixFwdRefIdeal.main_arg6)
      ∧ r.2.mem ((c.tc : Thread Cert.SeqmixFwdRefIdeal.nD Cert.SeqmixFwdRefIdeal.τ).loc Cert.SeqmixFwdRefIdeal.main_arg7) = m ((c.tc : Thread Cert.SeqmixFwdRefIdeal.nD Cert.SeqmixFwdRefIdeal.τ).loc Cert.SeqmixFwdRefIdeal.main_arg7)
      ∧ r.2.mem ((c.tc : Thread Cert.SeqmixFwdRefIdeal.nD Cert.SeqmixFwdRefIdeal.τ).loc Cert.SeqmixFwdRefIdeal.main_arg8) = m ((c.tc : Thread Cert.SeqmixFwdRefIdeal.nD Cert.SeqmixFwdRefIdeal.τ).loc Cert.SeqmixFwdRefIdeal.main_arg8)
      ∧ r.2.mem ((c.tc : Thread Cert.SeqmixFwdRefIdeal.nD Cert.SeqmixFwdRefIdeal.τ).loc Cert.SeqmixFwdRefIdeal.main_arg9) = m ((c.tc : Thread Cert.SeqmixFwdRefIdeal.nD Cert.SeqmixFwdRefIdeal.τ).loc Cert.SeqmixFwdRefIdeal.main_arg9)
      ∧ r.2.mem ((c.tc : Thread Cert.SeqmixFwdRefIdeal.nD Cert.SeqmixFwdRefIdeal.τ).loc Cert.SeqmixFwdRefIdeal.main_arg10) = m ((c.tc : Thread Cert.SeqmixFwdRefIdeal.nD Cert.SeqmixFwdRefIdeal.τ).loc Cert.SeqmixFwdRefIdeal.main_arg10))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0)
      ∧ r.2.mem ((c.tc : Thread Cert.JoinRef.nD Cert.JoinRef.τ).loc Cert.JoinRef.main_arg1) = m ((c.tc : Thread Cert.JoinRef.nD Cert.JoinRef.τ).loc Cert.JoinRef.main_arg1)
      ∧ r.2.mem ((c.tc : Thread Cert.JoinRef.nD Cert.JoinRef.τ).loc Cert.JoinRef.main_arg2) = m ((c.tc : Thread Cert.JoinRef.nD Cert.JoinRef.τ).loc Cert.JoinRef.main_arg2))
      ∧ r.2.sem = fun _ => 0)

def quiescent_Pass [hPass : Cert.Pass.Facts] : Prop :=
  ∀ (m : (ℓ : Loc Cert.Pass.nD Cert.Pass.τ Cert.Pass.sig) → Buf (Elt Bits) ℓ) (g : Dev Cert.Pass.nD → PrngReg), Pre_Pass m →
    θ_run (Cert.Pass.defs (F := Bits)) (onTc (τ := Cert.Pass.τ) (Cert.Pass.main (F := Bits))) ⟨m, fun _ => 0, g⟩ (fun r => (∀ c : Dev Cert.Pass.nD,
      r.2.mem ((c.tc : Thread Cert.Pass.nD Cert.Pass.τ).loc Cert.Pass.main_arg0) = m ((c.tc : Thread Cert.Pass.nD Cert.Pass.τ).loc Cert.Pass.main_arg0))
      ∧ r.2.sem = fun _ => 0)

def quiescent_PassIdeal [hPassIdeal : Cert.PassIdeal.Facts] : Prop :=
  ∀ (m : (ℓ : Loc Cert.PassIdeal.nD Cert.PassIdeal.τ Cert.PassIdeal.sig) → Buf (Elt Ideal) ℓ) (g : Dev Cert.PassIdeal.nD → PrngReg), Pre_PassIdeal m →
    θ_run (Cert.PassIdeal.defs (F := Ideal)) (onTc (τ := Cert.PassIdeal.τ) (Cert.PassIdeal.main (F := Ideal))) ⟨m, fun _ => 0, g⟩ (fun r => (∀ c : Dev Cert.PassIdeal.nD,
      r.2.mem ((c.tc : Thread Cert.PassIdeal.nD Cert.PassIdeal.τ).loc Cert.PassIdeal.main_arg0) = m ((c.tc : Thread Cert.PassIdeal.nD Cert.PassIdeal.τ).loc Cert.PassIdeal.main_arg0))
      ∧ r.2.sem = fun _ => 0)

def quiescent_PassRefIdeal [hPassRefIdeal : Cert.PassRefIdeal.Facts] : Prop :=
  ∀ (m : (ℓ : Loc Cert.PassRefIdeal.nD Cert.PassRefIdeal.τ Cert.PassRefIdeal.sig) → Buf (Elt Ideal) ℓ) (g : Dev Cert.PassRefIdeal.nD → PrngReg), Pre_PassRefIdeal m →
    θ_run (Cert.PassRefIdeal.defs (F := Ideal)) (onTc (τ := Cert.PassRefIdeal.τ) (Cert.PassRefIdeal.main (F := Ideal))) ⟨m, fun _ => 0, g⟩ (fun r => (∀ c : Dev Cert.PassRefIdeal.nD,
      r.2.mem ((c.tc : Thread Cert.PassRefIdeal.nD Cert.PassRefIdeal.τ).loc Cert.PassRefIdeal.main_arg0) = m ((c.tc : Thread Cert.PassRefIdeal.nD Cert.PassRefIdeal.τ).loc Cert.PassRefIdeal.main_arg0))
      ∧ r.2.sem = fun _ => 0)

def quiescent_PassRef [hPassRef : Cert.PassRef.Facts] : Prop :=
  ∀ (m : (ℓ : Loc Cert.PassRef.nD Cert.PassRef.τ Cert.PassRef.sig) → Buf (Elt Bits) ℓ) (g : Dev Cert.PassRef.nD → PrngReg), Pre_PassRef m →
    θ_run (Cert.PassRef.defs (F := Bits)) (onTc (τ := Cert.PassRef.τ) (Cert.PassRef.main (F := Bits))) ⟨m, fun _ => 0, g⟩ (fun r => (∀ c : Dev Cert.PassRef.nD,
      r.2.mem ((c.tc : Thread Cert.PassRef.nD Cert.PassRef.τ).loc Cert.PassRef.main_arg0) = m ((c.tc : Thread Cert.PassRef.nD Cert.PassRef.τ).loc Cert.PassRef.main_arg0))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_GradSq [hGradSq : Cert.GradSq.Facts] : Prop :=
  ∀ (m : (ℓ : Loc Cert.GradSq.nD Cert.GradSq.τ Cert.GradSq.sig) → Buf (Elt Bits) ℓ) (g : Dev Cert.GradSq.nD → PrngReg), Pre_GradSq m →
    θ_run (Cert.GradSq.defs (F := Bits)) (onTc (τ := Cert.GradSq.τ) (Cert.GradSq.main (F := Bits))) ⟨m, fun _ => 0, g⟩ (fun r => (∀ c : Dev Cert.GradSq.nD,
      r.2.mem ((c.tc : Thread Cert.GradSq.nD Cert.GradSq.τ).loc Cert.GradSq.main_arg0) = m ((c.tc : Thread Cert.GradSq.nD Cert.GradSq.τ).loc Cert.GradSq.main_arg0)
      ∧ r.2.mem ((c.tc : Thread Cert.GradSq.nD Cert.GradSq.τ).loc Cert.GradSq.main_arg1) = m ((c.tc : Thread Cert.GradSq.nD Cert.GradSq.τ).loc Cert.GradSq.main_arg1)
      ∧ r.2.mem ((c.tc : Thread Cert.GradSq.nD Cert.GradSq.τ).loc Cert.GradSq.main_arg2) = m ((c.tc : Thread Cert.GradSq.nD Cert.GradSq.τ).loc Cert.GradSq.main_arg2)
      ∧ r.2.mem ((c.tc : Thread Cert.GradSq.nD Cert.GradSq.τ).loc Cert.GradSq.main_arg3) = m ((c.tc : Thread Cert.GradSq.nD Cert.GradSq.τ).loc Cert.GradSq.main_arg3)
      ∧ r.2.mem ((c.tc : Thread Cert.GradSq.nD Cert.GradSq.τ).loc Cert.GradSq.main_arg4) = m ((c.tc : Thread Cert.GradSq.nD Cert.GradSq.τ).loc Cert.GradSq.main_arg4)
      ∧ r.2.mem ((c.tc : Thread Cert.GradSq.nD Cert.GradSq.τ).loc Cert.GradSq.main_arg5) = m ((c.tc : Thread Cert.GradSq.nD Cert.GradSq.τ).loc Cert.GradSq.main_arg5))
      ∧ r.2.sem = fun _ => 0)

def quiescent_GradSqIdeal [hGradSqIdeal : Cert.GradSqIdeal.Facts] : Prop :=
  ∀ (m : (ℓ : Loc Cert.GradSqIdeal.nD Cert.GradSqIdeal.τ Cert.GradSqIdeal.sig) → Buf (Elt Ideal) ℓ) (g : Dev Cert.GradSqIdeal.nD → PrngReg), Pre_GradSqIdeal m →
    θ_run (Cert.GradSqIdeal.defs (F := Ideal)) (onTc (τ := Cert.GradSqIdeal.τ) (Cert.GradSqIdeal.main (F := Ideal))) ⟨m, fun _ => 0, g⟩ (fun r => (∀ c : Dev Cert.GradSqIdeal.nD,
      r.2.mem ((c.tc : Thread Cert.GradSqIdeal.nD Cert.GradSqIdeal.τ).loc Cert.GradSqIdeal.main_arg0) = m ((c.tc : Thread Cert.GradSqIdeal.nD Cert.GradSqIdeal.τ).loc Cert.GradSqIdeal.main_arg0)
      ∧ r.2.mem ((c.tc : Thread Cert.GradSqIdeal.nD Cert.GradSqIdeal.τ).loc Cert.GradSqIdeal.main_arg1) = m ((c.tc : Thread Cert.GradSqIdeal.nD Cert.GradSqIdeal.τ).loc Cert.GradSqIdeal.main_arg1)
      ∧ r.2.mem ((c.tc : Thread Cert.GradSqIdeal.nD Cert.GradSqIdeal.τ).loc Cert.GradSqIdeal.main_arg2) = m ((c.tc : Thread Cert.GradSqIdeal.nD Cert.GradSqIdeal.τ).loc Cert.GradSqIdeal.main_arg2)
      ∧ r.2.mem ((c.tc : Thread Cert.GradSqIdeal.nD Cert.GradSqIdeal.τ).loc Cert.GradSqIdeal.main_arg3) = m ((c.tc : Thread Cert.GradSqIdeal.nD Cert.GradSqIdeal.τ).loc Cert.GradSqIdeal.main_arg3)
      ∧ r.2.mem ((c.tc : Thread Cert.GradSqIdeal.nD Cert.GradSqIdeal.τ).loc Cert.GradSqIdeal.main_arg4) = m ((c.tc : Thread Cert.GradSqIdeal.nD Cert.GradSqIdeal.τ).loc Cert.GradSqIdeal.main_arg4)
      ∧ r.2.mem ((c.tc : Thread Cert.GradSqIdeal.nD Cert.GradSqIdeal.τ).loc Cert.GradSqIdeal.main_arg5) = m ((c.tc : Thread Cert.GradSqIdeal.nD Cert.GradSqIdeal.τ).loc Cert.GradSqIdeal.main_arg5))
      ∧ r.2.sem = fun _ => 0)

def quiescent_GradSqRefIdeal [hGradSqRefIdeal : Cert.GradSqRefIdeal.Facts] : Prop :=
  ∀ (m : (ℓ : Loc Cert.GradSqRefIdeal.nD Cert.GradSqRefIdeal.τ Cert.GradSqRefIdeal.sig) → Buf (Elt Ideal) ℓ) (g : Dev Cert.GradSqRefIdeal.nD → PrngReg), Pre_GradSqRefIdeal m →
    θ_run (Cert.GradSqRefIdeal.defs (F := Ideal)) (onTc (τ := Cert.GradSqRefIdeal.τ) (Cert.GradSqRefIdeal.main (F := Ideal))) ⟨m, fun _ => 0, g⟩ (fun r => (∀ c : Dev Cert.GradSqRefIdeal.nD,
      r.2.mem ((c.tc : Thread Cert.GradSqRefIdeal.nD Cert.GradSqRefIdeal.τ).loc Cert.GradSqRefIdeal.main_arg0) = m ((c.tc : Thread Cert.GradSqRefIdeal.nD Cert.GradSqRefIdeal.τ).loc Cert.GradSqRefIdeal.main_arg0)
      ∧ r.2.mem ((c.tc : Thread Cert.GradSqRefIdeal.nD Cert.GradSqRefIdeal.τ).loc Cert.GradSqRefIdeal.main_arg1) = m ((c.tc : Thread Cert.GradSqRefIdeal.nD Cert.GradSqRefIdeal.τ).loc Cert.GradSqRefIdeal.main_arg1)
      ∧ r.2.mem ((c.tc : Thread Cert.GradSqRefIdeal.nD Cert.GradSqRefIdeal.τ).loc Cert.GradSqRefIdeal.main_arg2) = m ((c.tc : Thread Cert.GradSqRefIdeal.nD Cert.GradSqRefIdeal.τ).loc Cert.GradSqRefIdeal.main_arg2)
      ∧ r.2.mem ((c.tc : Thread Cert.GradSqRefIdeal.nD Cert.GradSqRefIdeal.τ).loc Cert.GradSqRefIdeal.main_arg3) = m ((c.tc : Thread Cert.GradSqRefIdeal.nD Cert.GradSqRefIdeal.τ).loc Cert.GradSqRefIdeal.main_arg3)
      ∧ r.2.mem ((c.tc : Thread Cert.GradSqRefIdeal.nD Cert.GradSqRefIdeal.τ).loc Cert.GradSqRefIdeal.main_arg4) = m ((c.tc : Thread Cert.GradSqRefIdeal.nD Cert.GradSqRefIdeal.τ).loc Cert.GradSqRefIdeal.main_arg4)
      ∧ r.2.mem ((c.tc : Thread Cert.GradSqRefIdeal.nD Cert.GradSqRefIdeal.τ).loc Cert.GradSqRefIdeal.main_arg5) = m ((c.tc : Thread Cert.GradSqRefIdeal.nD Cert.GradSqRefIdeal.τ).loc Cert.GradSqRefIdeal.main_arg5))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v19_0)) (v1 : (c : Dev Cert.AttnIdeal.nD) → Buf (Elt Ideal) ((c.tc : Thread Cert.AttnIdeal.nD Cert.AttnIdeal.τ).loc Cert.AttnIdeal.main_v19_1)) (v2 : (c : Dev Cert.AttnIdeal.nD) → Buf (Elt Ideal) ((c.tc : Thread Cert.AttnIdeal.nD Cert.AttnIdeal.τ).loc Cert.AttnIdeal.main_v19_2)) (v3 : (c : Dev Cert.AttnIdeal.nD) → Buf (Elt Ideal) ((c.tc : Thread Cert.AttnIdeal.nD Cert.AttnIdeal.τ).loc Cert.AttnIdeal.main_v19_3)) (v4 : (c : Dev Cert.AttnIdeal.nD) → Buf (Elt Ideal) ((c.tc : Thread Cert.AttnIdeal.nD Cert.AttnIdeal.τ).loc Cert.AttnIdeal.main_v19_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v19_0) = v0 c
          ∧ r.2.mem ((c.tc : Thread Cert.AttnIdeal.nD Cert.AttnIdeal.τ).loc Cert.AttnIdeal.main_v19_1) = v1 c
          ∧ r.2.mem ((c.tc : Thread Cert.AttnIdeal.nD Cert.AttnIdeal.τ).loc Cert.AttnIdeal.main_v19_2) = v2 c
          ∧ r.2.mem ((c.tc : Thread Cert.AttnIdeal.nD Cert.AttnIdeal.τ).loc Cert.AttnIdeal.main_v19_3) = v3 c
          ∧ r.2.mem ((c.tc : Thread Cert.AttnIdeal.nD Cert.AttnIdeal.τ).loc Cert.AttnIdeal.main_v19_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v106) = v0 c
          ∧ r.2.mem ((c.tc : Thread Cert.AttnRefIdeal.nD Cert.AttnRefIdeal.τ).loc Cert.AttnRefIdeal.main_v107) = v1 c
          ∧ r.2.mem ((c.tc : Thread Cert.AttnRefIdeal.nD Cert.AttnRefIdeal.τ).loc Cert.AttnRefIdeal.main_v108) = v2 c
          ∧ r.2.mem ((c.tc : Thread Cert.AttnRefIdeal.nD Cert.AttnRefIdeal.τ).loc Cert.AttnRefIdeal.main_v83) = v3 c
          ∧ r.2.mem ((c.tc : Thread Cert.AttnRefIdeal.nD Cert.AttnRefIdeal.τ).loc Cert.AttnRefIdeal.main_v109) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v22_0)) (v1 : (c : Dev Cert.FfnIdeal.nD) → Buf (Elt Ideal) ((c.tc : Thread Cert.FfnIdeal.nD Cert.FfnIdeal.τ).loc Cert.FfnIdeal.main_v22_1)) (v2 : (c : Dev Cert.FfnIdeal.nD) → Buf (Elt Ideal) ((c.tc : Thread Cert.FfnIdeal.nD Cert.FfnIdeal.τ).loc Cert.FfnIdeal.main_v22_2)) (v3 : (c : Dev Cert.FfnIdeal.nD) → Buf (Elt Ideal) ((c.tc : Thread Cert.FfnIdeal.nD Cert.FfnIdeal.τ).loc Cert.FfnIdeal.main_v22_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v22_0) = v0 c
          ∧ r.2.mem ((c.tc : Thread Cert.FfnIdeal.nD Cert.FfnIdeal.τ).loc Cert.FfnIdeal.main_v22_1) = v1 c
          ∧ r.2.mem ((c.tc : Thread Cert.FfnIdeal.nD Cert.FfnIdeal.τ).loc Cert.FfnIdeal.main_v22_2) = v2 c
          ∧ r.2.mem ((c.tc : Thread Cert.FfnIdeal.nD Cert.FfnIdeal.τ).loc Cert.FfnIdeal.main_v22_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v48) = v1 c
          ∧ r.2.mem ((c.tc : Thread Cert.FfnRefIdeal.nD Cert.FfnRefIdeal.τ).loc Cert.FfnRefIdeal.main_v55) = v2 c
          ∧ r.2.mem ((c.tc : Thread Cert.FfnRefIdeal.nD Cert.FfnRefIdeal.τ).loc Cert.FfnRefIdeal.main_v56) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v18_0)) (v1 : (c : Dev Cert.MemKvIdeal.nD) → Buf (Elt Ideal) ((c.tc : Thread Cert.MemKvIdeal.nD Cert.MemKvIdeal.τ).loc Cert.MemKvIdeal.main_v18_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v18_0) = v0 c
          ∧ r.2.mem ((c.tc : Thread Cert.MemKvIdeal.nD Cert.MemKvIdeal.τ).loc Cert.MemKvIdeal.main_v18_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v22) = v0 c
          ∧ r.2.mem ((c.tc : Thread Cert.MemKvRefIdeal.nD Cert.MemKvRefIdeal.τ).loc Cert.MemKvRefIdeal.main_v23) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_HeadBias_HeadBiasIdeal : Prop :=
  True

def algebraic_HeadBiasIdeal_HeadBiasRefIdeal [hHeadBiasIdeal : Cert.HeadBiasIdeal.Facts] [hHeadBiasRefIdeal : Cert.HeadBiasRefIdeal.Facts] : Prop :=
  ∀ (m : (ℓ : Loc Cert.HeadBiasIdeal.nD Cert.HeadBiasIdeal.τ Cert.HeadBiasIdeal.sig) → Buf (Elt Ideal) ℓ) (g : Dev Cert.HeadBiasIdeal.nD → PrngReg)
    (m' : (ℓ : Loc Cert.HeadBiasRefIdeal.nD Cert.HeadBiasRefIdeal.τ Cert.HeadBiasRefIdeal.sig) → Buf (Elt Ideal) ℓ) (g' : Dev Cert.HeadBiasRefIdeal.nD → PrngReg), Pre_HeadBiasIdeal m →
    (∀ c : Dev Cert.HeadBiasIdeal.nD,
      m' ((c.tc : Thread Cert.HeadBiasRefIdeal.nD Cert.HeadBiasRefIdeal.τ).loc Cert.HeadBiasRefIdeal.main_arg0) = m ((c.tc : Thread Cert.HeadBiasIdeal.nD Cert.HeadBiasIdeal.τ).loc Cert.HeadBiasIdeal.main_arg0)
      ∧ m' ((c.tc : Thread Cert.HeadBiasRefIdeal.nD Cert.HeadBiasRefIdeal.τ).loc Cert.HeadBiasRefIdeal.main_arg1) = m ((c.tc : Thread Cert.HeadBiasIdeal.nD Cert.HeadBiasIdeal.τ).loc Cert.HeadBiasIdeal.main_arg1)) →
    ∃ (v0 : (c : Dev Cert.HeadBiasIdeal.nD) → Buf (Elt Ideal) ((c.tc : Thread Cert.HeadBiasIdeal.nD Cert.HeadBiasIdeal.τ).loc Cert.HeadBiasIdeal.main_v0)),
      θ_run (Cert.HeadBiasIdeal.defs (F := Ideal)) (onTc (τ := Cert.HeadBiasIdeal.τ) (Cert.HeadBiasIdeal.main (F := Ideal))) ⟨m, fun _ => 0, g⟩ (fun r => ∀ c : Dev Cert.HeadBiasIdeal.nD,
          r.2.mem ((c.tc : Thread Cert.HeadBiasIdeal.nD Cert.HeadBiasIdeal.τ).loc Cert.HeadBiasIdeal.main_v0) = v0 c
          ∧ r.2.mem ((c.tc : Thread Cert.HeadBiasIdeal.nD Cert.HeadBiasIdeal.τ).loc Cert.HeadBiasIdeal.main_arg0) = m ((c.tc : Thread Cert.HeadBiasIdeal.nD Cert.HeadBiasIdeal.τ).loc Cert.HeadBiasIdeal.main_arg0)
          ∧ r.2.mem ((c.tc : Thread Cert.HeadBiasIdeal.nD Cert.HeadBiasIdeal.τ).loc Cert.HeadBiasIdeal.main_arg1) = m ((c.tc : Thread Cert.HeadBiasIdeal.nD Cert.HeadBiasIdeal.τ).loc Cert.HeadBiasIdeal.main_arg1))
      ∧ θ_run (Cert.HeadBiasRefIdeal.defs (F := Ideal)) (onTc (τ := Cert.HeadBiasRefIdeal.τ) (Cert.HeadBiasRefIdeal.main (F := Ideal))) ⟨m', fun _ => 0, g'⟩ (fun r => ∀ c : Dev Cert.HeadBiasRefIdeal.nD,
          r.2.mem ((c.tc : Thread Cert.HeadBiasRefIdeal.nD Cert.HeadBiasRefIdeal.τ).loc Cert.HeadBiasRefIdeal.main_v10) = v0 c
          ∧ r.2.mem ((c.tc : Thread Cert.HeadBiasRefIdeal.nD Cert.HeadBiasRefIdeal.τ).loc Cert.HeadBiasRefIdeal.main_arg0) = m' ((c.tc : Thread Cert.HeadBiasRefIdeal.nD Cert.HeadBiasRefIdeal.τ).loc Cert.HeadBiasRefIdeal.main_arg0)
          ∧ r.2.mem ((c.tc : Thread Cert.HeadBiasRefIdeal.nD Cert.HeadBiasRefIdeal.τ).loc Cert.HeadBiasRefIdeal.main_arg1) = m' ((c.tc : Thread Cert.HeadBiasRefIdeal.nD Cert.HeadBiasRefIdeal.τ).loc Cert.HeadBiasRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)
      ∧ m' ((c.tc : Thread Cert.AttnFwdRefIdeal.nD Cert.AttnFwdRefIdeal.τ).loc Cert.AttnFwdRefIdeal.main_arg5) = m ((c.tc : Thread Cert.AttnFwdIdeal.nD Cert.AttnFwdIdeal.τ).loc Cert.AttnFwdIdeal.main_arg5)
      ∧ m' ((c.tc : Thread Cert.AttnFwdRefIdeal.nD Cert.AttnFwdRefIdeal.τ).loc Cert.AttnFwdRefIdeal.main_arg6) = m ((c.tc : Thread Cert.AttnFwdIdeal.nD Cert.AttnFwdIdeal.τ).loc Cert.AttnFwdIdeal.main_arg6)
      ∧ m' ((c.tc : Thread Cert.AttnFwdRefIdeal.nD Cert.AttnFwdRefIdeal.τ).loc Cert.AttnFwdRefIdeal.main_arg7) = m ((c.tc : Thread Cert.AttnFwdIdeal.nD Cert.AttnFwdIdeal.τ).loc Cert.AttnFwdIdeal.main_arg7)) →
    ∃ (v0 : (c : Dev Cert.AttnFwdIdeal.nD) → Buf (Elt Ideal) ((c.tc : Thread Cert.AttnFwdIdeal.nD Cert.AttnFwdIdeal.τ).loc Cert.AttnFwdIdeal.main_v7_0)) (v1 : (c : Dev Cert.AttnFwdIdeal.nD) → Buf (Elt Ideal) ((c.tc : Thread Cert.AttnFwdIdeal.nD Cert.AttnFwdIdeal.τ).loc Cert.AttnFwdIdeal.main_v7_1)) (v2 : (c : Dev Cert.AttnFwdIdeal.nD) → Buf (Elt Ideal) ((c.tc : Thread Cert.AttnFwdIdeal.nD Cert.AttnFwdIdeal.τ).loc Cert.AttnFwdIdeal.main_v7_2)) (v3 : (c : Dev Cert.AttnFwdIdeal.nD) → Buf (Elt Ideal) ((c.tc : Thread Cert.AttnFwdIdeal.nD Cert.AttnFwdIdeal.τ).loc Cert.AttnFwdIdeal.main_v7_3)) (v4 : (c : Dev Cert.AttnFwdIdeal.nD) → Buf (Elt Ideal) ((c.tc : Thread Cert.AttnFwdIdeal.nD Cert.AttnFwdIdeal.τ).loc Cert.AttnFwdIdeal.main_v7_4)) (v5 : (c : Dev Cert.AttnFwdIdeal.nD) → Buf (Elt Ideal) ((c.tc : Thread Cert.AttnFwdIdeal.nD Cert.AttnFwdIdeal.τ).loc Cert.AttnFwdIdeal.main_v7_5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v7_0) = v0 c
          ∧ r.2.mem ((c.tc : Thread Cert.AttnFwdIdeal.nD Cert.AttnFwdIdeal.τ).loc Cert.AttnFwdIdeal.main_v7_1) = v1 c
          ∧ r.2.mem ((c.tc : Thread Cert.AttnFwdIdeal.nD Cert.AttnFwdIdeal.τ).loc Cert.AttnFwdIdeal.main_v7_2) = v2 c
          ∧ r.2.mem ((c.tc : Thread Cert.AttnFwdIdeal.nD Cert.AttnFwdIdeal.τ).loc Cert.AttnFwdIdeal.main_v7_3) = v3 c
          ∧ r.2.mem ((c.tc : Thread Cert.AttnFwdIdeal.nD Cert.AttnFwdIdeal.τ).loc Cert.AttnFwdIdeal.main_v7_4) = v4 c
          ∧ r.2.mem ((c.tc : Thread Cert.AttnFwdIdeal.nD Cert.AttnFwdIdeal.τ).loc Cert.AttnFwdIdeal.main_v7_5) = v5 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
          ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5)
          ∧ r.2.mem ((c.tc : Thread Cert.AttnFwdIdeal.nD Cert.AttnFwdIdeal.τ).loc Cert.AttnFwdIdeal.main_arg6) = m ((c.tc : Thread Cert.AttnFwdIdeal.nD Cert.AttnFwdIdeal.τ).loc Cert.AttnFwdIdeal.main_arg6)
          ∧ r.2.mem ((c.tc : Thread Cert.AttnFwdIdeal.nD Cert.AttnFwdIdeal.τ).loc Cert.AttnFwdIdeal.main_arg7) = m ((c.tc : Thread Cert.AttnFwdIdeal.nD Cert.AttnFwdIdeal.τ).loc Cert.AttnFwdIdeal.main_arg7))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v1) = v0 c
          ∧ r.2.mem ((c.tc : Thread Cert.AttnFwdRefIdeal.nD Cert.AttnFwdRefIdeal.τ).loc Cert.AttnFwdRefIdeal.main_v53) = v1 c
          ∧ r.2.mem ((c.tc : Thread Cert.AttnFwdRefIdeal.nD Cert.AttnFwdRefIdeal.τ).loc Cert.AttnFwdRefIdeal.main_v54) = v2 c
          ∧ r.2.mem ((c.tc : Thread Cert.AttnFwdRefIdeal.nD Cert.AttnFwdRefIdeal.τ).loc Cert.AttnFwdRefIdeal.main_v55) = v3 c
          ∧ r.2.mem ((c.tc : Thread Cert.AttnFwdRefIdeal.nD Cert.AttnFwdRefIdeal.τ).loc Cert.AttnFwdRefIdeal.main_v39) = v4 c
          ∧ r.2.mem ((c.tc : Thread Cert.AttnFwdRefIdeal.nD Cert.AttnFwdRefIdeal.τ).loc Cert.AttnFwdRefIdeal.main_v56) = v5 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4)
          ∧ r.2.mem ((c.tc : Thread Cert.AttnFwdRefIdeal.nD Cert.AttnFwdRefIdeal.τ).loc Cert.AttnFwdRefIdeal.main_arg5) = m' ((c.tc : Thread Cert.AttnFwdRefIdeal.nD Cert.AttnFwdRefIdeal.τ).loc Cert.AttnFwdRefIdeal.main_arg5)
          ∧ r.2.mem ((c.tc : Thread Cert.AttnFwdRefIdeal.nD Cert.AttnFwdRefIdeal.τ).loc Cert.AttnFwdRefIdeal.main_arg6) = m' ((c.tc : Thread Cert.AttnFwdRefIdeal.nD Cert.AttnFwdRefIdeal.τ).loc Cert.AttnFwdRefIdeal.main_arg6)
          ∧ r.2.mem ((c.tc : Thread Cert.AttnFwdRefIdeal.nD Cert.AttnFwdRefIdeal.τ).loc Cert.AttnFwdRefIdeal.main_arg7) = m' ((c.tc : Thread Cert.AttnFwdRefIdeal.nD Cert.AttnFwdRefIdeal.τ).loc Cert.AttnFwdRefIdeal.main_arg7))

def preserves_MemKvFwd_MemKvFwdIdeal : Prop :=
  True

def algebraic_MemKvFwdIdeal_MemKvFwdRefIdeal [hMemKvFwdIdeal : Cert.MemKvFwdIdeal.Facts] [hMemKvFwdRefIdeal : Cert.MemKvFwdRefIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdRefIdeal.nD Cert.MemKvFwdRefIdeal.τ Cert.MemKvFwdRefIdeal.sig) → Buf (Elt Ideal) ℓ) (g' : Dev Cert.MemKvFwdRefIdeal.nD → PrngReg), Pre_MemKvFwdIdeal m →
    (∀ c : Dev Cert.MemKvFwdIdeal.nD,
      m' ((c.tc : Thread Cert.MemKvFwdRefIdeal.nD Cert.MemKvFwdRefIdeal.τ).loc Cert.MemKvFwdRefIdeal.main_arg0) = m ((c.tc : Thread Cert.MemKvFwdIdeal.nD Cert.MemKvFwdIdeal.τ).loc Cert.MemKvFwdIdeal.main_arg0)
      ∧ m' ((c.tc : Thread Cert.MemKvFwdRefIdeal.nD Cert.MemKvFwdRefIdeal.τ).loc Cert.MemKvFwdRefIdeal.main_arg1) = m ((c.tc : Thread Cert.MemKvFwdIdeal.nD Cert.MemKvFwdIdeal.τ).loc Cert.MemKvFwdIdeal.main_arg1)
      ∧ m' ((c.tc : Thread Cert.MemKvFwdRefIdeal.nD Cert.MemKvFwdRefIdeal.τ).loc Cert.MemKvFwdRefIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v4_0)) (v1 : (c : Dev Cert.MemKvFwdIdeal.nD) → Buf (Elt Ideal) ((c.tc : Thread Cert.MemKvFwdIdeal.nD Cert.MemKvFwdIdeal.τ).loc Cert.MemKvFwdIdeal.main_v4_1)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v4_0) = v0 c
          ∧ r.2.mem ((c.tc : Thread Cert.MemKvFwdIdeal.nD Cert.MemKvFwdIdeal.τ).loc Cert.MemKvFwdIdeal.main_v4_1) = v1 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdRefIdeal.defs (F := Ideal)) (onTc (τ := Cert.MemKvFwdRefIdeal.τ) (Cert.MemKvFwdRefIdeal.main (F := Ideal))) ⟨m', fun _ => 0, g'⟩ (fun r => ∀ c : Dev Cert.MemKvFwdRefIdeal.nD,
          r.2.mem ((c.tc : Thread Cert.MemKvFwdRefIdeal.nD Cert.MemKvFwdRefIdeal.τ).loc Cert.MemKvFwdRefIdeal.main_v13) = v0 c
          ∧ r.2.mem ((c.tc : Thread Cert.MemKvFwdRefIdeal.nD Cert.MemKvFwdRefIdeal.τ).loc Cert.MemKvFwdRefIdeal.main_v15) = v1 c
          ∧ r.2.mem ((c.tc : Thread Cert.MemKvFwdRefIdeal.nD Cert.MemKvFwdRefIdeal.τ).loc Cert.MemKvFwdRefIdeal.main_arg0) = m' ((c.tc : Thread Cert.MemKvFwdRefIdeal.nD Cert.MemKvFwdRefIdeal.τ).loc Cert.MemKvFwdRefIdeal.main_arg0)
          ∧ r.2.mem ((c.tc : Thread Cert.MemKvFwdRefIdeal.nD Cert.MemKvFwdRefIdeal.τ).loc Cert.MemKvFwdRefIdeal.main_arg1) = m' ((c.tc : Thread Cert.MemKvFwdRefIdeal.nD Cert.MemKvFwdRefIdeal.τ).loc Cert.MemKvFwdRefIdeal.main_arg1)
          ∧ r.2.mem ((c.tc : Thread Cert.MemKvFwdRefIdeal.nD Cert.MemKvFwdRefIdeal.τ).loc Cert.MemKvFwdRefIdeal.main_arg2) = m' ((c.tc : Thread Cert.MemKvFwdRefIdeal.nD Cert.MemKvFwdRefIdeal.τ).loc Cert.MemKvFwdRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v13) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_Seqmix_SeqmixIdeal : Prop :=
  True

def algebraic_SeqmixIdeal_SeqmixRefIdeal_pre_finite_seqmix [hSeqmixIdeal : Cert.SeqmixIdeal.Facts] [hSeqmixRefIdeal : Cert.SeqmixRefIdeal.Facts] [hPre_finite_seqmix : Cert.Pre_finite_seqmix.Facts] : Prop :=
  ∀ (m : (ℓ : Loc Cert.SeqmixIdeal.nD Cert.SeqmixIdeal.τ Cert.SeqmixIdeal.sig) → Buf (Elt Ideal) ℓ) (g : Dev Cert.SeqmixIdeal.nD → PrngReg)
    (m' : (ℓ : Loc Cert.SeqmixRefIdeal.nD Cert.SeqmixRefIdeal.τ Cert.SeqmixRefIdeal.sig) → Buf (Elt Ideal) ℓ) (g' : Dev Cert.SeqmixRefIdeal.nD → PrngReg), Pre_SeqmixIdeal_finite_seqmix m →
    (∀ c : Dev Cert.SeqmixIdeal.nD,
      m' ((c.tc : Thread Cert.SeqmixRefIdeal.nD Cert.SeqmixRefIdeal.τ).loc Cert.SeqmixRefIdeal.main_arg0) = m ((c.tc : Thread Cert.SeqmixIdeal.nD Cert.SeqmixIdeal.τ).loc Cert.SeqmixIdeal.main_arg0)
      ∧ m' ((c.tc : Thread Cert.SeqmixRefIdeal.nD Cert.SeqmixRefIdeal.τ).loc Cert.SeqmixRefIdeal.main_arg1) = m ((c.tc : Thread Cert.SeqmixIdeal.nD Cert.SeqmixIdeal.τ).loc Cert.SeqmixIdeal.main_arg1)
      ∧ m' ((c.tc : Thread Cert.SeqmixRefIdeal.nD Cert.SeqmixRefIdeal.τ).loc Cert.SeqmixRefIdeal.main_arg2) = m ((c.tc : Thread Cert.SeqmixIdeal.nD Cert.SeqmixIdeal.τ).loc Cert.SeqmixIdeal.main_arg2)
      ∧ m' ((c.tc : Thread Cert.SeqmixRefIdeal.nD Cert.SeqmixRefIdeal.τ).loc Cert.SeqmixRefIdeal.main_arg3) = m ((c.tc : Thread Cert.SeqmixIdeal.nD Cert.SeqmixIdeal.τ).loc Cert.SeqmixIdeal.main_arg3)
      ∧ m' ((c.tc : Thread Cert.SeqmixRefIdeal.nD Cert.SeqmixRefIdeal.τ).loc Cert.SeqmixRefIdeal.main_arg4) = m ((c.tc : Thread Cert.SeqmixIdeal.nD Cert.SeqmixIdeal.τ).loc Cert.SeqmixIdeal.main_arg4)
      ∧ m' ((c.tc : Thread Cert.SeqmixRefIdeal.nD Cert.SeqmixRefIdeal.τ).loc Cert.SeqmixRefIdeal.main_arg5) = m ((c.tc : Thread Cert.SeqmixIdeal.nD Cert.SeqmixIdeal.τ).loc Cert.SeqmixIdeal.main_arg5)
      ∧ m' ((c.tc : Thread Cert.SeqmixRefIdeal.nD Cert.SeqmixRefIdeal.τ).loc Cert.SeqmixRefIdeal.main_arg6) = m ((c.tc : Thread Cert.SeqmixIdeal.nD Cert.SeqmixIdeal.τ).loc Cert.SeqmixIdeal.main_arg6)
      ∧ m' ((c.tc : Thread Cert.SeqmixRefIdeal.nD Cert.SeqmixRefIdeal.τ).loc Cert.SeqmixRefIdeal.main_arg7) = m ((c.tc : Thread Cert.SeqmixIdeal.nD Cert.SeqmixIdeal.τ).loc Cert.SeqmixIdeal.main_arg7)
      ∧ m' ((c.tc : Thread Cert.SeqmixRefIdeal.nD Cert.SeqmixRefIdeal.τ).loc Cert.SeqmixRefIdeal.main_arg8) = m ((c.tc : Thread Cert.SeqmixIdeal.nD Cert.SeqmixIdeal.τ).loc Cert.SeqmixIdeal.main_arg8)
      ∧ m' ((c.tc : Thread Cert.SeqmixRefIdeal.nD Cert.SeqmixRefIdeal.τ).loc Cert.SeqmixRefIdeal.main_arg9) = m ((c.tc : Thread Cert.SeqmixIdeal.nD Cert.SeqmixIdeal.τ).loc Cert.SeqmixIdeal.main_arg9)
      ∧ m' ((c.tc : Thread Cert.SeqmixRefIdeal.nD Cert.SeqmixRefIdeal.τ).loc Cert.SeqmixRefIdeal.main_arg10) = m ((c.tc : Thread Cert.SeqmixIdeal.nD Cert.SeqmixIdeal.τ).loc Cert.SeqmixIdeal.main_arg10)
      ∧ m' ((c.tc : Thread Cert.SeqmixRefIdeal.nD Cert.SeqmixRefIdeal.τ).loc Cert.SeqmixRefIdeal.main_arg11) = m ((c.tc : Thread Cert.SeqmixIdeal.nD Cert.SeqmixIdeal.τ).loc Cert.SeqmixIdeal.main_arg11)
      ∧ m' ((c.tc : Thread Cert.SeqmixRefIdeal.nD Cert.SeqmixRefIdeal.τ).loc Cert.SeqmixRefIdeal.main_arg12) = m ((c.tc : Thread Cert.SeqmixIdeal.nD Cert.SeqmixIdeal.τ).loc Cert.SeqmixIdeal.main_arg12)
      ∧ m' ((c.tc : Thread Cert.SeqmixRefIdeal.nD Cert.SeqmixRefIdeal.τ).loc Cert.SeqmixRefIdeal.main_arg13) = m ((c.tc : Thread Cert.SeqmixIdeal.nD Cert.SeqmixIdeal.τ).loc Cert.SeqmixIdeal.main_arg13)) →
    ∃ (v0 : (c : Dev Cert.SeqmixIdeal.nD) → Buf (Elt Ideal) ((c.tc : Thread Cert.SeqmixIdeal.nD Cert.SeqmixIdeal.τ).loc Cert.SeqmixIdeal.main_v71_3)) (v1 : (c : Dev Cert.SeqmixIdeal.nD) → Buf (Elt Ideal) ((c.tc : Thread Cert.SeqmixIdeal.nD Cert.SeqmixIdeal.τ).loc Cert.SeqmixIdeal.main_v71_4)) (v2 : (c : Dev Cert.SeqmixIdeal.nD) → Buf (Elt Ideal) ((c.tc : Thread Cert.SeqmixIdeal.nD Cert.SeqmixIdeal.τ).loc Cert.SeqmixIdeal.main_v71_5)) (v3 : (c : Dev Cert.SeqmixIdeal.nD) → Buf (Elt Ideal) ((c.tc : Thread Cert.SeqmixIdeal.nD Cert.SeqmixIdeal.τ).loc Cert.SeqmixIdeal.main_v71_9)),
      θ_run (Cert.SeqmixIdeal.defs (F := Ideal)) (onTc (τ := Cert.SeqmixIdeal.τ) (Cert.SeqmixIdeal.main (F := Ideal))) ⟨m, fun _ => 0, g⟩ (fun r => ∀ c : Dev Cert.SeqmixIdeal.nD,
          r.2.mem ((c.tc : Thread Cert.SeqmixIdeal.nD Cert.SeqmixIdeal.τ).loc Cert.SeqmixIdeal.main_v71_3) = v0 c
          ∧ r.2.mem ((c.tc : Thread Cert.SeqmixIdeal.nD Cert.SeqmixIdeal.τ).loc Cert.SeqmixIdeal.main_v71_4) = v1 c
          ∧ r.2.mem ((c.tc : Thread Cert.SeqmixIdeal.nD Cert.SeqmixIdeal.τ).loc Cert.SeqmixIdeal.main_v71_5) = v2 c
          ∧ r.2.mem ((c.tc : Thread Cert.SeqmixIdeal.nD Cert.SeqmixIdeal.τ).loc Cert.SeqmixIdeal.main_v71_9) = v3 c
          ∧ r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
          ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1)
          ∧ r.2.mem ((c.tc : Thread Cert.SeqmixIdeal.nD Cert.SeqmixIdeal.τ).loc Cert.SeqmixIdeal.main_arg2) = m ((c.tc : Thread Cert.SeqmixIdeal.nD Cert.SeqmixIdeal.τ).loc Cert.SeqmixIdeal.main_arg2)
          ∧ r.2.mem ((c.tc : Thread Cert.SeqmixIdeal.nD Cert.SeqmixIdeal.τ).loc Cert.SeqmixIdeal.main_arg3) = m ((c.tc : Thread Cert.SeqmixIdeal.nD Cert.SeqmixIdeal.τ).loc Cert.SeqmixIdeal.main_arg3)
          ∧ r.2.mem ((c.tc : Thread Cert.SeqmixIdeal.nD Cert.SeqmixIdeal.τ).loc Cert.SeqmixIdeal.main_arg4) = m ((c.tc : Thread Cert.SeqmixIdeal.nD Cert.SeqmixIdeal.τ).loc Cert.SeqmixIdeal.main_arg4)
          ∧ r.2.mem ((c.tc : Thread Cert.SeqmixIdeal.nD Cert.SeqmixIdeal.τ).loc Cert.SeqmixIdeal.main_arg5) = m ((c.tc : Thread Cert.SeqmixIdeal.nD Cert.SeqmixIdeal.τ).loc Cert.SeqmixIdeal.main_arg5)
          ∧ r.2.mem ((c.tc : Thread Cert.SeqmixIdeal.nD Cert.SeqmixIdeal.τ).loc Cert.SeqmixIdeal.main_arg6) = m ((c.tc : Thread Cert.SeqmixIdeal.nD Cert.SeqmixIdeal.τ).loc Cert.SeqmixIdeal.main_arg6)
          ∧ r.2.mem ((c.tc : Thread Cert.SeqmixIdeal.nD Cert.SeqmixIdeal.τ).loc Cert.SeqmixIdeal.main_arg7) = m ((c.tc : Thread Cert.SeqmixIdeal.nD Cert.SeqmixIdeal.τ).loc Cert.SeqmixIdeal.main_arg7)
          ∧ r.2.mem ((c.tc : Thread Cert.SeqmixIdeal.nD Cert.SeqmixIdeal.τ).loc Cert.SeqmixIdeal.main_arg8) = m ((c.tc : Thread Cert.SeqmixIdeal.nD Cert.SeqmixIdeal.τ).loc Cert.SeqmixIdeal.main_arg8)
          ∧ r.2.mem ((c.tc : Thread Cert.SeqmixIdeal.nD Cert.SeqmixIdeal.τ).loc Cert.SeqmixIdeal.main_arg9) = m ((c.tc : Thread Cert.SeqmixIdeal.nD Cert.SeqmixIdeal.τ).loc Cert.SeqmixIdeal.main_arg9)
          ∧ r.2.mem ((c.tc : Thread Cert.SeqmixIdeal.nD Cert.SeqmixIdeal.τ).loc Cert.SeqmixIdeal.main_arg10) = m ((c.tc : Thread Cert.SeqmixIdeal.nD Cert.SeqmixIdeal.τ).loc Cert.SeqmixIdeal.main_arg10)
          ∧ r.2.mem ((c.tc : Thread Cert.SeqmixIdeal.nD Cert.SeqmixIdeal.τ).loc Cert.SeqmixIdeal.main_arg11) = m ((c.tc : Thread Cert.SeqmixIdeal.nD Cert.SeqmixIdeal.τ).loc Cert.SeqmixIdeal.main_arg11)
          ∧ r.2.mem ((c.tc : Thread Cert.SeqmixIdeal.nD Cert.SeqmixIdeal.τ).loc Cert.SeqmixIdeal.main_arg12) = m ((c.tc : Thread Cert.SeqmixIdeal.nD Cert.SeqmixIdeal.τ).loc Cert.SeqmixIdeal.main_arg12)
          ∧ r.2.mem ((c.tc : Thread Cert.SeqmixIdeal.nD Cert.SeqmixIdeal.τ).loc Cert.SeqmixIdeal.main_arg13) = m ((c.tc : Thread Cert.SeqmixIdeal.nD Cert.SeqmixIdeal.τ).loc Cert.SeqmixIdeal.main_arg13))
      ∧ θ_run (Cert.SeqmixRefIdeal.defs (F := Ideal)) (onTc (τ := Cert.SeqmixRefIdeal.τ) (Cert.SeqmixRefIdeal.main (F := Ideal))) ⟨m', fun _ => 0, g'⟩ (fun r => ∀ c : Dev Cert.SeqmixRefIdeal.nD,
          r.2.mem ((c.tc : Thread Cert.SeqmixRefIdeal.nD Cert.SeqmixRefIdeal.τ).loc Cert.SeqmixRefIdeal.main_v190) = v0 c
          ∧ r.2.mem ((c.tc : Thread Cert.SeqmixRefIdeal.nD Cert.SeqmixRefIdeal.τ).loc Cert.SeqmixRefIdeal.main_v191) = v1 c
          ∧ r.2.mem ((c.tc : Thread Cert.SeqmixRefIdeal.nD Cert.SeqmixRefIdeal.τ).loc Cert.SeqmixRefIdeal.main_v192) = v2 c
          ∧ r.2.mem ((c.tc : Thread Cert.SeqmixRefIdeal.nD Cert.SeqmixRefIdeal.τ).loc Cert.SeqmixRefIdeal.main_v193) = v3 c
          ∧ r.2.mem ((c.tc : Thread Cert.SeqmixRefIdeal.nD Cert.SeqmixRefIdeal.τ).loc Cert.SeqmixRefIdeal.main_arg0) = m' ((c.tc : Thread Cert.SeqmixRefIdeal.nD Cert.SeqmixRefIdeal.τ).loc Cert.SeqmixRefIdeal.main_arg0)
          ∧ r.2.mem ((c.tc : Thread Cert.SeqmixRefIdeal.nD Cert.SeqmixRefIdeal.τ).loc Cert.SeqmixRefIdeal.main_arg1) = m' ((c.tc : Thread Cert.SeqmixRefIdeal.nD Cert.SeqmixRefIdeal.τ).loc Cert.SeqmixRefIdeal.main_arg1)
          ∧ r.2.mem ((c.tc : Thread Cert.SeqmixRefIdeal.nD Cert.SeqmixRefIdeal.τ).loc Cert.SeqmixRefIdeal.main_arg2) = m' ((c.tc : Thread Cert.SeqmixRefIdeal.nD Cert.SeqmixRefIdeal.τ).loc Cert.SeqmixRefIdeal.main_arg2)
          ∧ r.2.mem ((c.tc : Thread Cert.SeqmixRefIdeal.nD Cert.SeqmixRefIdeal.τ).loc Cert.SeqmixRefIdeal.main_arg3) = m' ((c.tc : Thread Cert.SeqmixRefIdeal.nD Cert.SeqmixRefIdeal.τ).loc Cert.SeqmixRefIdeal.main_arg3)
          ∧ r.2.mem ((c.tc : Thread Cert.SeqmixRefIdeal.nD Cert.SeqmixRefIdeal.τ).loc Cert.SeqmixRefIdeal.main_arg4) = m' ((c.tc : Thread Cert.SeqmixRefIdeal.nD Cert.SeqmixRefIdeal.τ).loc Cert.SeqmixRefIdeal.main_arg4)
          ∧ r.2.mem ((c.tc : Thread Cert.SeqmixRefIdeal.nD Cert.SeqmixRefIdeal.τ).loc Cert.SeqmixRefIdeal.main_arg5) = m' ((c.tc : Thread Cert.SeqmixRefIdeal.nD Cert.SeqmixRefIdeal.τ).loc Cert.SeqmixRefIdeal.main_arg5)
          ∧ r.2.mem ((c.tc : Thread Cert.SeqmixRefIdeal.nD Cert.SeqmixRefIdeal.τ).loc Cert.SeqmixRefIdeal.main_arg6) = m' ((c.tc : Thread Cert.SeqmixRefIdeal.nD Cert.SeqmixRefIdeal.τ).loc Cert.SeqmixRefIdeal.main_arg6)
          ∧ r.2.mem ((c.tc : Thread Cert.SeqmixRefIdeal.nD Cert.SeqmixRefIdeal.τ).loc Cert.SeqmixRefIdeal.main_arg7) = m' ((c.tc : Thread Cert.SeqmixRefIdeal.nD Cert.SeqmixRefIdeal.τ).loc Cert.SeqmixRefIdeal.main_arg7)
          ∧ r.2.mem ((c.tc : Thread Cert.SeqmixRefIdeal.nD Cert.SeqmixRefIdeal.τ).loc Cert.SeqmixRefIdeal.main_arg8) = m' ((c.tc : Thread Cert.SeqmixRefIdeal.nD Cert.SeqmixRefIdeal.τ).loc Cert.SeqmixRefIdeal.main_arg8)
          ∧ r.2.mem ((c.tc : Thread Cert.SeqmixRefIdeal.nD Cert.SeqmixRefIdeal.τ).loc Cert.SeqmixRefIdeal.main_arg9) = m' ((c.tc : Thread Cert.SeqmixRefIdeal.nD Cert.SeqmixRefIdeal.τ).loc Cert.SeqmixRefIdeal.main_arg9)
          ∧ r.2.mem ((c.tc : Thread Cert.SeqmixRefIdeal.nD Cert.SeqmixRefIdeal.τ).loc Cert.SeqmixRefIdeal.main_arg10) = m' ((c.tc : Thread Cert.SeqmixRefIdeal.nD Cert.SeqmixRefIdeal.τ).loc Cert.SeqmixRefIdeal.main_arg10)
          ∧ r.2.mem ((c.tc : Thread Cert.SeqmixRefIdeal.nD Cert.SeqmixRefIdeal.τ).loc Cert.SeqmixRefIdeal.main_arg11) = m' ((c.tc : Thread Cert.SeqmixRefIdeal.nD Cert.SeqmixRefIdeal.τ).loc Cert.SeqmixRefIdeal.main_arg11)
          ∧ r.2.mem ((c.tc : Thread Cert.SeqmixRefIdeal.nD Cert.SeqmixRefIdeal.τ).loc Cert.SeqmixRefIdeal.main_arg12) = m' ((c.tc : Thread Cert.SeqmixRefIdeal.nD Cert.SeqmixRefIdeal.τ).loc Cert.SeqmixRefIdeal.main_arg12)
          ∧ r.2.mem ((c.tc : Thread Cert.SeqmixRefIdeal.nD Cert.SeqmixRefIdeal.τ).loc Cert.SeqmixRefIdeal.main_arg13) = m' ((c.tc : Thread Cert.SeqmixRefIdeal.nD Cert.SeqmixRefIdeal.τ).loc Cert.SeqmixRefIdeal.main_arg13))

def preserves_SeqmixFwd_SeqmixFwdIdeal : Prop :=
  True

def algebraic_SeqmixFwdIdeal_SeqmixFwdRefIdeal [hSeqmixFwdIdeal : Cert.SeqmixFwdIdeal.Facts] [hSeqmixFwdRefIdeal : Cert.SeqmixFwdRefIdeal.Facts] : Prop :=
  ∀ (m : (ℓ : Loc Cert.SeqmixFwdIdeal.nD Cert.SeqmixFwdIdeal.τ Cert.SeqmixFwdIdeal.sig) → Buf (Elt Ideal) ℓ) (g : Dev Cert.SeqmixFwdIdeal.nD → PrngReg)
    (m' : (ℓ : Loc Cert.SeqmixFwdRefIdeal.nD Cert.SeqmixFwdRefIdeal.τ Cert.SeqmixFwdRefIdeal.sig) → Buf (Elt Ideal) ℓ) (g' : Dev Cert.SeqmixFwdRefIdeal.nD → PrngReg), Pre_SeqmixFwdIdeal m →
    (∀ c : Dev Cert.SeqmixFwdIdeal.nD,
      m' ((c.tc : Thread Cert.SeqmixFwdRefIdeal.nD Cert.SeqmixFwdRefIdeal.τ).loc Cert.SeqmixFwdRefIdeal.main_arg0) = m ((c.tc : Thread Cert.SeqmixFwdIdeal.nD Cert.SeqmixFwdIdeal.τ).loc Cert.SeqmixFwdIdeal.main_arg0)
      ∧ m' ((c.tc : Thread Cert.SeqmixFwdRefIdeal.nD Cert.SeqmixFwdRefIdeal.τ).loc Cert.SeqmixFwdRefIdeal.main_arg1) = m ((c.tc : Thread Cert.SeqmixFwdIdeal.nD Cert.SeqmixFwdIdeal.τ).loc Cert.SeqmixFwdIdeal.main_arg1)
      ∧ m' ((c.tc : Thread Cert.SeqmixFwdRefIdeal.nD Cert.SeqmixFwdRefIdeal.τ).loc Cert.SeqmixFwdRefIdeal.main_arg2) = m ((c.tc : Thread Cert.SeqmixFwdIdeal.nD Cert.SeqmixFwdIdeal.τ).loc Cert.SeqmixFwdIdeal.main_arg2)
      ∧ m' ((c.tc : Thread Cert.SeqmixFwdRefIdeal.nD Cert.SeqmixFwdRefIdeal.τ).loc Cert.SeqmixFwdRefIdeal.main_arg3) = m ((c.tc : Thread Cert.SeqmixFwdIdeal.nD Cert.SeqmixFwdIdeal.τ).loc Cert.SeqmixFwdIdeal.main_arg3)
      ∧ m' ((c.tc : Thread Cert.SeqmixFwdRefIdeal.nD Cert.SeqmixFwdRefIdeal.τ).loc Cert.SeqmixFwdRefIdeal.main_arg4) = m ((c.tc : Thread Cert.SeqmixFwdIdeal.nD Cert.SeqmixFwdIdeal.τ).loc Cert.SeqmixFwdIdeal.main_arg4)
      ∧ m' ((c.tc : Thread Cert.SeqmixFwdRefIdeal.nD Cert.SeqmixFwdRefIdeal.τ).loc Cert.SeqmixFwdRefIdeal.main_arg5) = m ((c.tc : Thread Cert.SeqmixFwdIdeal.nD Cert.SeqmixFwdIdeal.τ).loc Cert.SeqmixFwdIdeal.main_arg5)
      ∧ m' ((c.tc : Thread Cert.SeqmixFwdRefIdeal.nD Cert.SeqmixFwdRefIdeal.τ).loc Cert.SeqmixFwdRefIdeal.main_arg6) = m ((c.tc : Thread Cert.SeqmixFwdIdeal.nD Cert.SeqmixFwdIdeal.τ).loc Cert.SeqmixFwdIdeal.main_arg6)
      ∧ m' ((c.tc : Thread Cert.SeqmixFwdRefIdeal.nD Cert.SeqmixFwdRefIdeal.τ).loc Cert.SeqmixFwdRefIdeal.main_arg7) = m ((c.tc : Thread Cert.SeqmixFwdIdeal.nD Cert.SeqmixFwdIdeal.τ).loc Cert.SeqmixFwdIdeal.main_arg7)
      ∧ m' ((c.tc : Thread Cert.SeqmixFwdRefIdeal.nD Cert.SeqmixFwdRefIdeal.τ).loc Cert.SeqmixFwdRefIdeal.main_arg8) = m ((c.tc : Thread Cert.SeqmixFwdIdeal.nD Cert.SeqmixFwdIdeal.τ).loc Cert.SeqmixFwdIdeal.main_arg8)
      ∧ m' ((c.tc : Thread Cert.SeqmixFwdRefIdeal.nD Cert.SeqmixFwdRefIdeal.τ).loc Cert.SeqmixFwdRefIdeal.main_arg9) = m ((c.tc : Thread Cert.SeqmixFwdIdeal.nD Cert.SeqmixFwdIdeal.τ).loc Cert.SeqmixFwdIdeal.main_arg9)
      ∧ m' ((c.tc : Thread Cert.SeqmixFwdRefIdeal.nD Cert.SeqmixFwdRefIdeal.τ).loc Cert.SeqmixFwdRefIdeal.main_arg10) = m ((c.tc : Thread Cert.SeqmixFwdIdeal.nD Cert.SeqmixFwdIdeal.τ).loc Cert.SeqmixFwdIdeal.main_arg10)) →
    ∃ (v0 : (c : Dev Cert.SeqmixFwdIdeal.nD) → Buf (Elt Ideal) ((c.tc : Thread Cert.SeqmixFwdIdeal.nD Cert.SeqmixFwdIdeal.τ).loc Cert.SeqmixFwdIdeal.main_v22_0)) (v1 : (c : Dev Cert.SeqmixFwdIdeal.nD) → Buf (Elt Ideal) ((c.tc : Thread Cert.SeqmixFwdIdeal.nD Cert.SeqmixFwdIdeal.τ).loc Cert.SeqmixFwdIdeal.main_v22_2)),
      θ_run (Cert.SeqmixFwdIdeal.defs (F := Ideal)) (onTc (τ := Cert.SeqmixFwdIdeal.τ) (Cert.SeqmixFwdIdeal.main (F := Ideal))) ⟨m, fun _ => 0, g⟩ (fun r => ∀ c : Dev Cert.SeqmixFwdIdeal.nD,
          r.2.mem ((c.tc : Thread Cert.SeqmixFwdIdeal.nD Cert.SeqmixFwdIdeal.τ).loc Cert.SeqmixFwdIdeal.main_v22_0) = v0 c
          ∧ r.2.mem ((c.tc : Thread Cert.SeqmixFwdIdeal.nD Cert.SeqmixFwdIdeal.τ).loc Cert.SeqmixFwdIdeal.main_v22_2) = v1 c
          ∧ r.2.mem ((c.tc : Thread Cert.SeqmixFwdIdeal.nD Cert.SeqmixFwdIdeal.τ).loc Cert.SeqmixFwdIdeal.main_arg0) = m ((c.tc : Thread Cert.SeqmixFwdIdeal.nD Cert.SeqmixFwdIdeal.τ).loc Cert.SeqmixFwdIdeal.main_arg0)
          ∧ r.2.mem ((c.tc : Thread Cert.SeqmixFwdIdeal.nD Cert.SeqmixFwdIdeal.τ).loc Cert.SeqmixFwdIdeal.main_arg1) = m ((c.tc : Thread Cert.SeqmixFwdIdeal.nD Cert.SeqmixFwdIdeal.τ).loc Cert.SeqmixFwdIdeal.main_arg1)
          ∧ r.2.mem ((c.tc : Thread Cert.SeqmixFwdIdeal.nD Cert.SeqmixFwdIdeal.τ).loc Cert.SeqmixFwdIdeal.main_arg2) = m ((c.tc : Thread Cert.SeqmixFwdIdeal.nD Cert.SeqmixFwdIdeal.τ).loc Cert.SeqmixFwdIdeal.main_arg2)
          ∧ r.2.mem ((c.tc : Thread Cert.SeqmixFwdIdeal.nD Cert.SeqmixFwdIdeal.τ).loc Cert.SeqmixFwdIdeal.main_arg3) = m ((c.tc : Thread Cert.SeqmixFwdIdeal.nD Cert.SeqmixFwdIdeal.τ).loc Cert.SeqmixFwdIdeal.main_arg3)
          ∧ r.2.mem ((c.tc : Thread Cert.SeqmixFwdIdeal.nD Cert.SeqmixFwdIdeal.τ).loc Cert.SeqmixFwdIdeal.main_arg4) = m ((c.tc : Thread Cert.SeqmixFwdIdeal.nD Cert.SeqmixFwdIdeal.τ).loc Cert.SeqmixFwdIdeal.main_arg4)
          ∧ r.2.mem ((c.tc : Thread Cert.SeqmixFwdIdeal.nD Cert.SeqmixFwdIdeal.τ).loc Cert.SeqmixFwdIdeal.main_arg5) = m ((c.tc : Thread Cert.SeqmixFwdIdeal.nD Cert.SeqmixFwdIdeal.τ).loc Cert.SeqmixFwdIdeal.main_arg5)
          ∧ r.2.mem ((c.tc : Thread Cert.SeqmixFwdIdeal.nD Cert.SeqmixFwdIdeal.τ).loc Cert.SeqmixFwdIdeal.main_arg6) = m ((c.tc : Thread Cert.SeqmixFwdIdeal.nD Cert.SeqmixFwdIdeal.τ).loc Cert.SeqmixFwdIdeal.main_arg6)
          ∧ r.2.mem ((c.tc : Thread Cert.SeqmixFwdIdeal.nD Cert.SeqmixFwdIdeal.τ).loc Cert.SeqmixFwdIdeal.main_arg7) = m ((c.tc : Thread Cert.SeqmixFwdIdeal.nD Cert.SeqmixFwdIdeal.τ).loc Cert.SeqmixFwdIdeal.main_arg7)
          ∧ r.2.mem ((c.tc : Thread Cert.SeqmixFwdIdeal.nD Cert.SeqmixFwdIdeal.τ).loc Cert.SeqmixFwdIdeal.main_arg8) = m ((c.tc : Thread Cert.SeqmixFwdIdeal.nD Cert.SeqmixFwdIdeal.τ).loc Cert.SeqmixFwdIdeal.main_arg8)
          ∧ r.2.mem ((c.tc : Thread Cert.SeqmixFwdIdeal.nD Cert.SeqmixFwdIdeal.τ).loc Cert.SeqmixFwdIdeal.main_arg9) = m ((c.tc : Thread Cert.SeqmixFwdIdeal.nD Cert.SeqmixFwdIdeal.τ).loc Cert.SeqmixFwdIdeal.main_arg9)
          ∧ r.2.mem ((c.tc : Thread Cert.SeqmixFwdIdeal.nD Cert.SeqmixFwdIdeal.τ).loc Cert.SeqmixFwdIdeal.main_arg10) = m ((c.tc : Thread Cert.SeqmixFwdIdeal.nD Cert.SeqmixFwdIdeal.τ).loc Cert.SeqmixFwdIdeal.main_arg10))
      ∧ θ_run (Cert.SeqmixFwdRefIdeal.defs (F := Ideal)) (onTc (τ := Cert.SeqmixFwdRefIdeal.τ) (Cert.SeqmixFwdRefIdeal.main (F := Ideal))) ⟨m', fun _ => 0, g'⟩ (fun r => ∀ c : Dev Cert.SeqmixFwdRefIdeal.nD,
          r.2.mem ((c.tc : Thread Cert.SeqmixFwdRefIdeal.nD Cert.SeqmixFwdRefIdeal.τ).loc Cert.SeqmixFwdRefIdeal.main_v3) = v0 c
          ∧ r.2.mem ((c.tc : Thread Cert.SeqmixFwdRefIdeal.nD Cert.SeqmixFwdRefIdeal.τ).loc Cert.SeqmixFwdRefIdeal.main_v31) = v1 c
          ∧ r.2.mem ((c.tc : Thread Cert.SeqmixFwdRefIdeal.nD Cert.SeqmixFwdRefIdeal.τ).loc Cert.SeqmixFwdRefIdeal.main_arg0) = m' ((c.tc : Thread Cert.SeqmixFwdRefIdeal.nD Cert.SeqmixFwdRefIdeal.τ).loc Cert.SeqmixFwdRefIdeal.main_arg0)
          ∧ r.2.mem ((c.tc : Thread Cert.SeqmixFwdRefIdeal.nD Cert.SeqmixFwdRefIdeal.τ).loc Cert.SeqmixFwdRefIdeal.main_arg1) = m' ((c.tc : Thread Cert.SeqmixFwdRefIdeal.nD Cert.SeqmixFwdRefIdeal.τ).loc Cert.SeqmixFwdRefIdeal.main_arg1)
          ∧ r.2.mem ((c.tc : Thread Cert.SeqmixFwdRefIdeal.nD Cert.SeqmixFwdRefIdeal.τ).loc Cert.SeqmixFwdRefIdeal.main_arg2) = m' ((c.tc : Thread Cert.SeqmixFwdRefIdeal.nD Cert.SeqmixFwdRefIdeal.τ).loc Cert.SeqmixFwdRefIdeal.main_arg2)
          ∧ r.2.mem ((c.tc : Thread Cert.SeqmixFwdRefIdeal.nD Cert.SeqmixFwdRefIdeal.τ).loc Cert.SeqmixFwdRefIdeal.main_arg3) = m' ((c.tc : Thread Cert.SeqmixFwdRefIdeal.nD Cert.SeqmixFwdRefIdeal.τ).loc Cert.SeqmixFwdRefIdeal.main_arg3)
          ∧ r.2.mem ((c.tc : Thread Cert.SeqmixFwdRefIdeal.nD Cert.SeqmixFwdRefIdeal.τ).loc Cert.SeqmixFwdRefIdeal.main_arg4) = m' ((c.tc : Thread Cert.SeqmixFwdRefIdeal.nD Cert.SeqmixFwdRefIdeal.τ).loc Cert.SeqmixFwdRefIdeal.main_arg4)
          ∧ r.2.mem ((c.tc : Thread Cert.SeqmixFwdRefIdeal.nD Cert.SeqmixFwdRefIdeal.τ).loc Cert.SeqmixFwdRefIdeal.main_arg5) = m' ((c.tc : Thread Cert.SeqmixFwdRefIdeal.nD Cert.SeqmixFwdRefIdeal.τ).loc Cert.SeqmixFwdRefIdeal.main_arg5)
          ∧ r.2.mem ((c.tc : Thread Cert.SeqmixFwdRefIdeal.nD Cert.SeqmixFwdRefIdeal.τ).loc Cert.SeqmixFwdRefIdeal.main_arg6) = m' ((c.tc : Thread Cert.SeqmixFwdRefIdeal.nD Cert.SeqmixFwdRefIdeal.τ).loc Cert.SeqmixFwdRefIdeal.main_arg6)
          ∧ r.2.mem ((c.tc : Thread Cert.SeqmixFwdRefIdeal.nD Cert.SeqmixFwdRefIdeal.τ).loc Cert.SeqmixFwdRefIdeal.main_arg7) = m' ((c.tc : Thread Cert.SeqmixFwdRefIdeal.nD Cert.SeqmixFwdRefIdeal.τ).loc Cert.SeqmixFwdRefIdeal.main_arg7)
          ∧ r.2.mem ((c.tc : Thread Cert.SeqmixFwdRefIdeal.nD Cert.SeqmixFwdRefIdeal.τ).loc Cert.SeqmixFwdRefIdeal.main_arg8) = m' ((c.tc : Thread Cert.SeqmixFwdRefIdeal.nD Cert.SeqmixFwdRefIdeal.τ).loc Cert.SeqmixFwdRefIdeal.main_arg8)
          ∧ r.2.mem ((c.tc : Thread Cert.SeqmixFwdRefIdeal.nD Cert.SeqmixFwdRefIdeal.τ).loc Cert.SeqmixFwdRefIdeal.main_arg9) = m' ((c.tc : Thread Cert.SeqmixFwdRefIdeal.nD Cert.SeqmixFwdRefIdeal.τ).loc Cert.SeqmixFwdRefIdeal.main_arg9)
          ∧ r.2.mem ((c.tc : Thread Cert.SeqmixFwdRefIdeal.nD Cert.SeqmixFwdRefIdeal.τ).loc Cert.SeqmixFwdRefIdeal.main_arg10) = m' ((c.tc : Thread Cert.SeqmixFwdRefIdeal.nD Cert.SeqmixFwdRefIdeal.τ).loc Cert.SeqmixFwdRefIdeal.main_arg10))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![1, 2, 640, 128]⟩ ⟨4, ![8, 2, 640, 128]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨4, ![1, 2, 8, 128]⟩ ⟨4, ![8, 2, 8, 128]⟩ 0 8 c (m' (((0 : Dev Cert.SwapRefIdeal.nD).tc : Thread Cert.SwapRefIdeal.nD Cert.SwapRefIdeal.τ).loc Cert.SwapRefIdeal.main_arg1))) →
    ∃ (v0 : Buf (Elt Ideal) (((0 : Dev Cert.SwapRefIdeal.nD).tc : Thread Cert.SwapRefIdeal.nD Cert.SwapRefIdeal.τ).loc Cert.SwapRefIdeal.main_v8)) (v1 : Buf (Elt Ideal) (((0 : Dev Cert.SwapRefIdeal.nD).tc : Thread Cert.SwapRefIdeal.nD Cert.SwapRefIdeal.τ).loc Cert.SwapRefIdeal.main_v17)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨4, ![1, 1, 640, 128]⟩ ⟨4, ![8, 1, 640, 128]⟩ 0 8 c v0
          ∧ r.2.mem ((c.tc : Thread Cert.SwapIdeal.nD Cert.SwapIdeal.τ).loc Cert.SwapIdeal.main_v1_1) = Layout.block ⟨4, ![1, 1, 8, 128]⟩ ⟨4, ![8, 1, 8, 128]⟩ 0 8 c v1
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![1, 2, 640, 128]⟩ ⟨4, ![8, 2, 640, 128]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨4, ![1, 2, 8, 128]⟩ ⟨4, ![8, 2, 8, 128]⟩ 0 8 c (m' (((0 : Dev Cert.SwapRef.nD).tc : Thread Cert.SwapRef.nD Cert.SwapRef.τ).loc Cert.SwapRef.main_arg1))) →
    ∃ (v0 : Buf (Elt Bits) (((0 : Dev Cert.SwapRef.nD).tc : Thread Cert.SwapRef.nD Cert.SwapRef.τ).loc Cert.SwapRef.main_v8)) (v1 : Buf (Elt Bits) (((0 : Dev Cert.SwapRef.nD).tc : Thread Cert.SwapRef.nD Cert.SwapRef.τ).loc Cert.SwapRef.main_v17)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨4, ![1, 1, 640, 128]⟩ ⟨4, ![8, 1, 640, 128]⟩ 0 8 c v0
          ∧ r.2.mem ((c.tc : Thread Cert.Swap.nD Cert.Swap.τ).loc Cert.Swap.main_v1_1) = Layout.block ⟨4, ![1, 1, 8, 128]⟩ ⟨4, ![8, 1, 8, 128]⟩ 0 8 c v1
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_v17) = v1
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨3, ![2, 512, 512]⟩ ⟨3, ![16, 512, 512]⟩ 0 8 c (m' (((0 : Dev Cert.JoinRefIdeal.nD).tc : Thread Cert.JoinRefIdeal.nD Cert.JoinRefIdeal.τ).loc Cert.JoinRefIdeal.main_arg0))
      ∧ m ((c.tc : Thread Cert.JoinIdeal.nD Cert.JoinIdeal.τ).loc Cert.JoinIdeal.main_arg1) = Layout.block ⟨3, ![2, 640, 128]⟩ ⟨3, ![16, 640, 128]⟩ 0 8 c (m' (((0 : Dev Cert.JoinRefIdeal.nD).tc : Thread Cert.JoinRefIdeal.nD Cert.JoinRefIdeal.τ).loc Cert.JoinRefIdeal.main_arg1))
      ∧ m ((c.tc : Thread Cert.JoinIdeal.nD Cert.JoinIdeal.τ).loc Cert.JoinIdeal.main_arg2) = Layout.block ⟨3, ![2, 8, 128]⟩ ⟨3, ![16, 8, 128]⟩ 0 8 c (m' (((0 : Dev Cert.JoinRefIdeal.nD).tc : Thread Cert.JoinRefIdeal.nD Cert.JoinRefIdeal.τ).loc Cert.JoinRefIdeal.main_arg2))) →
    ∃ (v0 : Buf (Elt Ideal) (((0 : Dev Cert.JoinRefIdeal.nD).tc : Thread Cert.JoinRefIdeal.nD Cert.JoinRefIdeal.τ).loc Cert.JoinRefIdeal.main_v11)) (v1 : Buf (Elt Ideal) (((0 : Dev Cert.JoinRefIdeal.nD).tc : Thread Cert.JoinRefIdeal.nD Cert.JoinRefIdeal.τ).loc Cert.JoinRefIdeal.main_v23)) (v2 : Buf (Elt Ideal) (((0 : Dev Cert.JoinRefIdeal.nD).tc : Thread Cert.JoinRefIdeal.nD Cert.JoinRefIdeal.τ).loc Cert.JoinRefIdeal.main_v35)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1_0) = Layout.block ⟨3, ![2, 512, 512]⟩ ⟨3, ![16, 512, 512]⟩ 0 8 c v0
          ∧ r.2.mem ((c.tc : Thread Cert.JoinIdeal.nD Cert.JoinIdeal.τ).loc Cert.JoinIdeal.main_v1_1) = Layout.block ⟨3, ![2, 640, 128]⟩ ⟨3, ![16, 640, 128]⟩ 0 8 c v1
          ∧ r.2.mem ((c.tc : Thread Cert.JoinIdeal.nD Cert.JoinIdeal.τ).loc Cert.JoinIdeal.main_v1_2) = Layout.block ⟨3, ![2, 8, 128]⟩ ⟨3, ![16, 8, 128]⟩ 0 8 c v2
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v11) = v0
          ∧ r.2.mem (((0 : Dev Cert.JoinRefIdeal.nD).tc : Thread Cert.JoinRefIdeal.nD Cert.JoinRefIdeal.τ).loc Cert.JoinRefIdeal.main_v23) = v1
          ∧ r.2.mem (((0 : Dev Cert.JoinRefIdeal.nD).tc : Thread Cert.JoinRefIdeal.nD Cert.JoinRefIdeal.τ).loc Cert.JoinRefIdeal.main_v35) = v2
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨3, ![2, 512, 512]⟩ ⟨3, ![16, 512, 512]⟩ 0 8 c (m' (((0 : Dev Cert.JoinRef.nD).tc : Thread Cert.JoinRef.nD Cert.JoinRef.τ).loc Cert.JoinRef.main_arg0))
      ∧ m ((c.tc : Thread Cert.Join.nD Cert.Join.τ).loc Cert.Join.main_arg1) = Layout.block ⟨3, ![2, 640, 128]⟩ ⟨3, ![16, 640, 128]⟩ 0 8 c (m' (((0 : Dev Cert.JoinRef.nD).tc : Thread Cert.JoinRef.nD Cert.JoinRef.τ).loc Cert.JoinRef.main_arg1))
      ∧ m ((c.tc : Thread Cert.Join.nD Cert.Join.τ).loc Cert.Join.main_arg2) = Layout.block ⟨3, ![2, 8, 128]⟩ ⟨3, ![16, 8, 128]⟩ 0 8 c (m' (((0 : Dev Cert.JoinRef.nD).tc : Thread Cert.JoinRef.nD Cert.JoinRef.τ).loc Cert.JoinRef.main_arg2))) →
    ∃ (v0 : Buf (Elt Bits) (((0 : Dev Cert.JoinRef.nD).tc : Thread Cert.JoinRef.nD Cert.JoinRef.τ).loc Cert.JoinRef.main_v11)) (v1 : Buf (Elt Bits) (((0 : Dev Cert.JoinRef.nD).tc : Thread Cert.JoinRef.nD Cert.JoinRef.τ).loc Cert.JoinRef.main_v23)) (v2 : Buf (Elt Bits) (((0 : Dev Cert.JoinRef.nD).tc : Thread Cert.JoinRef.nD Cert.JoinRef.τ).loc Cert.JoinRef.main_v35)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1_0) = Layout.block ⟨3, ![2, 512, 512]⟩ ⟨3, ![16, 512, 512]⟩ 0 8 c v0
          ∧ r.2.mem ((c.tc : Thread Cert.Join.nD Cert.Join.τ).loc Cert.Join.main_v1_1) = Layout.block ⟨3, ![2, 640, 128]⟩ ⟨3, ![16, 640, 128]⟩ 0 8 c v1
          ∧ r.2.mem ((c.tc : Thread Cert.Join.nD Cert.Join.τ).loc Cert.Join.main_v1_2) = Layout.block ⟨3, ![2, 8, 128]⟩ ⟨3, ![16, 8, 128]⟩ 0 8 c v2
          ∧ r.2.mem ((c.tc : Thread Cert.Join.nD Cert.Join.τ).loc Cert.Join.main_arg0) = m ((c.tc : Thread Cert.Join.nD Cert.Join.τ).loc Cert.Join.main_arg0)
          ∧ r.2.mem ((c.tc : Thread Cert.Join.nD Cert.Join.τ).loc Cert.Join.main_arg1) = m ((c.tc : Thread Cert.Join.nD Cert.Join.τ).loc Cert.Join.main_arg1)
          ∧ r.2.mem ((c.tc : Thread Cert.Join.nD Cert.Join.τ).loc Cert.Join.main_arg2) = m ((c.tc : Thread Cert.Join.nD Cert.Join.τ).loc Cert.Join.main_arg2))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v11) = v0
          ∧ r.2.mem (((0 : Dev Cert.JoinRef.nD).tc : Thread Cert.JoinRef.nD Cert.JoinRef.τ).loc Cert.JoinRef.main_v23) = v1
          ∧ r.2.mem (((0 : Dev Cert.JoinRef.nD).tc : Thread Cert.JoinRef.nD Cert.JoinRef.τ).loc Cert.JoinRef.main_v35) = v2
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0)
          ∧ r.2.mem (((0 : Dev Cert.JoinRef.nD).tc : Thread Cert.JoinRef.nD Cert.JoinRef.τ).loc Cert.JoinRef.main_arg1) = m' (((0 : Dev Cert.JoinRef.nD).tc : Thread Cert.JoinRef.nD Cert.JoinRef.τ).loc Cert.JoinRef.main_arg1)
          ∧ r.2.mem (((0 : Dev Cert.JoinRef.nD).tc : Thread Cert.JoinRef.nD Cert.JoinRef.τ).loc Cert.JoinRef.main_arg2) = m' (((0 : Dev Cert.JoinRef.nD).tc : Thread Cert.JoinRef.nD Cert.JoinRef.τ).loc Cert.JoinRef.main_arg2))

def preserves_Pass_PassIdeal : Prop :=
  True

def algebraic_PassIdeal_PassRefIdeal [hPassIdeal : Cert.PassIdeal.Facts] [hPassRefIdeal : Cert.PassRefIdeal.Facts] : Prop :=
  ∀ (m : (ℓ : Loc Cert.PassIdeal.nD Cert.PassIdeal.τ Cert.PassIdeal.sig) → Buf (Elt Ideal) ℓ) (g : Dev Cert.PassIdeal.nD → PrngReg)
    (m' : (ℓ : Loc Cert.PassRefIdeal.nD Cert.PassRefIdeal.τ Cert.PassRefIdeal.sig) → Buf (Elt Ideal) ℓ) (g' : Dev Cert.PassRefIdeal.nD → PrngReg), Pre_PassIdeal m →
    (∀ c : Dev Cert.PassIdeal.nD,
      m ((c.tc : Thread Cert.PassIdeal.nD Cert.PassIdeal.τ).loc Cert.PassIdeal.main_arg0) = Layout.block ⟨4, ![4, 2, 352, 1024]⟩ ⟨4, ![32, 2, 352, 1024]⟩ 0 8 c (m' (((0 : Dev Cert.PassRefIdeal.nD).tc : Thread Cert.PassRefIdeal.nD Cert.PassRefIdeal.τ).loc Cert.PassRefIdeal.main_arg0))) →
    ∃ (v0 : Buf (Elt Ideal) (((0 : Dev Cert.PassRefIdeal.nD).tc : Thread Cert.PassRefIdeal.nD Cert.PassRefIdeal.τ).loc Cert.PassRefIdeal.main_v18)),
      θ_run (Cert.PassIdeal.defs (F := Ideal)) (onTc (τ := Cert.PassIdeal.τ) (Cert.PassIdeal.main (F := Ideal))) ⟨m, fun _ => 0, g⟩ (fun r => ∀ c : Dev Cert.PassIdeal.nD,
          r.2.mem ((c.tc : Thread Cert.PassIdeal.nD Cert.PassIdeal.τ).loc Cert.PassIdeal.main_v1) = Layout.block ⟨4, ![4, 2, 352, 1024]⟩ ⟨4, ![32, 2, 352, 1024]⟩ 0 8 c v0
          ∧ r.2.mem ((c.tc : Thread Cert.PassIdeal.nD Cert.PassIdeal.τ).loc Cert.PassIdeal.main_arg0) = m ((c.tc : Thread Cert.PassIdeal.nD Cert.PassIdeal.τ).loc Cert.PassIdeal.main_arg0))
      ∧ θ_run (Cert.PassRefIdeal.defs (F := Ideal)) (onTc (τ := Cert.PassRefIdeal.τ) (Cert.PassRefIdeal.main (F := Ideal))) ⟨m', fun _ => 0, g'⟩ (fun r =>
          r.2.mem (((0 : Dev Cert.PassRefIdeal.nD).tc : Thread Cert.PassRefIdeal.nD Cert.PassRefIdeal.τ).loc Cert.PassRefIdeal.main_v18) = v0
          ∧ r.2.mem (((0 : Dev Cert.PassRefIdeal.nD).tc : Thread Cert.PassRefIdeal.nD Cert.PassRefIdeal.τ).loc Cert.PassRefIdeal.main_arg0) = m' (((0 : Dev Cert.PassRefIdeal.nD).tc : Thread Cert.PassRefIdeal.nD Cert.PassRefIdeal.τ).loc Cert.PassRefIdeal.main_arg0))

def bitexact_Pass_PassRef [hPass : Cert.Pass.Facts] [hPassRef : Cert.PassRef.Facts] : Prop :=
  ∀ (m : (ℓ : Loc Cert.Pass.nD Cert.Pass.τ Cert.Pass.sig) → Buf (Elt Bits) ℓ) (g : Dev Cert.Pass.nD → PrngReg)
    (m' : (ℓ : Loc Cert.PassRef.nD Cert.PassRef.τ Cert.PassRef.sig) → Buf (Elt Bits) ℓ) (g' : Dev Cert.PassRef.nD → PrngReg), Pre_Pass m →
    (∀ c : Dev Cert.Pass.nD,
      m ((c.tc : Thread Cert.Pass.nD Cert.Pass.τ).loc Cert.Pass.main_arg0) = Layout.block ⟨4, ![4, 2, 352, 1024]⟩ ⟨4, ![32, 2, 352, 1024]⟩ 0 8 c (m' (((0 : Dev Cert.PassRef.nD).tc : Thread Cert.PassRef.nD Cert.PassRef.τ).loc Cert.PassRef.main_arg0))) →
    ∃ (v0 : Buf (Elt Bits) (((0 : Dev Cert.PassRef.nD).tc : Thread Cert.PassRef.nD Cert.PassRef.τ).loc Cert.PassRef.main_v18)),
      θ_run (Cert.Pass.defs (F := Bits)) (onTc (τ := Cert.Pass.τ) (Cert.Pass.main (F := Bits))) ⟨m, fun _ => 0, g⟩ (fun r => ∀ c : Dev Cert.Pass.nD,
          r.2.mem ((c.tc : Thread Cert.Pass.nD Cert.Pass.τ).loc Cert.Pass.main_v1) = Layout.block ⟨4, ![4, 2, 352, 1024]⟩ ⟨4, ![32, 2, 352, 1024]⟩ 0 8 c v0
          ∧ r.2.mem ((c.tc : Thread Cert.Pass.nD Cert.Pass.τ).loc Cert.Pass.main_arg0) = m ((c.tc : Thread Cert.Pass.nD Cert.Pass.τ).loc Cert.Pass.main_arg0))
      ∧ θ_run (Cert.PassRef.defs (F := Bits)) (onTc (τ := Cert.PassRef.τ) (Cert.PassRef.main (F := Bits))) ⟨m', fun _ => 0, g'⟩ (fun r =>
          r.2.mem (((0 : Dev Cert.PassRef.nD).tc : Thread Cert.PassRef.nD Cert.PassRef.τ).loc Cert.PassRef.main_v18) = v0
          ∧ r.2.mem (((0 : Dev Cert.PassRef.nD).tc : Thread Cert.PassRef.nD Cert.PassRef.τ).loc Cert.PassRef.main_arg0) = m' (((0 : Dev Cert.PassRef.nD).tc : Thread Cert.PassRef.nD Cert.PassRef.τ).loc Cert.PassRef.main_arg0))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v5) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_GradSq_GradSqIdeal : Prop :=
  True

def algebraic_GradSqIdeal_GradSqRefIdeal [hGradSqIdeal : Cert.GradSqIdeal.Facts] [hGradSqRefIdeal : Cert.GradSqRefIdeal.Facts] : Prop :=
  ∀ (m : (ℓ : Loc Cert.GradSqIdeal.nD Cert.GradSqIdeal.τ Cert.GradSqIdeal.sig) → Buf (Elt Ideal) ℓ) (g : Dev Cert.GradSqIdeal.nD → PrngReg)
    (m' : (ℓ : Loc Cert.GradSqRefIdeal.nD Cert.GradSqRefIdeal.τ Cert.GradSqRefIdeal.sig) → Buf (Elt Ideal) ℓ) (g' : Dev Cert.GradSqRefIdeal.nD → PrngReg), Pre_GradSqIdeal m →
    (∀ c : Dev Cert.GradSqIdeal.nD,
      m' ((c.tc : Thread Cert.GradSqRefIdeal.nD Cert.GradSqRefIdeal.τ).loc Cert.GradSqRefIdeal.main_arg0) = m ((c.tc : Thread Cert.GradSqIdeal.nD Cert.GradSqIdeal.τ).loc Cert.GradSqIdeal.main_arg0)
      ∧ m' ((c.tc : Thread Cert.GradSqRefIdeal.nD Cert.GradSqRefIdeal.τ).loc Cert.GradSqRefIdeal.main_arg1) = m ((c.tc : Thread Cert.GradSqIdeal.nD Cert.GradSqIdeal.τ).loc Cert.GradSqIdeal.main_arg1)
      ∧ m' ((c.tc : Thread Cert.GradSqRefIdeal.nD Cert.GradSqRefIdeal.τ).loc Cert.GradSqRefIdeal.main_arg2) = m ((c.tc : Thread Cert.GradSqIdeal.nD Cert.GradSqIdeal.τ).loc Cert.GradSqIdeal.main_arg2)
      ∧ m' ((c.tc : Thread Cert.GradSqRefIdeal.nD Cert.GradSqRefIdeal.τ).loc Cert.GradSqRefIdeal.main_arg3) = m ((c.tc : Thread Cert.GradSqIdeal.nD Cert.GradSqIdeal.τ).loc Cert.GradSqIdeal.main_arg3)
      ∧ m' ((c.tc : Thread Cert.GradSqRefIdeal.nD Cert.GradSqRefIdeal.τ).loc Cert.GradSqRefIdeal.main_arg4) = m ((c.tc : Thread Cert.GradSqIdeal.nD Cert.GradSqIdeal.τ).loc Cert.GradSqIdeal.main_arg4)
      ∧ m' ((c.tc : Thread Cert.GradSqRefIdeal.nD Cert.GradSqRefIdeal.τ).loc Cert.GradSqRefIdeal.main_arg5) = m ((c.tc : Thread Cert.GradSqIdeal.nD Cert.GradSqIdeal.τ).loc Cert.GradSqIdeal.main_arg5)) →
    ∃ (v0 : (c : Dev Cert.GradSqIdeal.nD) → Buf (Elt Ideal) ((c.tc : Thread Cert.GradSqIdeal.nD Cert.GradSqIdeal.τ).loc Cert.GradSqIdeal.main_v0_0)) (v1 : (c : Dev Cert.GradSqIdeal.nD) → Buf (Elt Ideal) ((c.tc : Thread Cert.GradSqIdeal.nD Cert.GradSqIdeal.τ).loc Cert.GradSqIdeal.main_v0_1)) (v2 : (c : Dev Cert.GradSqIdeal.nD) → Buf (Elt Ideal) ((c.tc : Thread Cert.GradSqIdeal.nD Cert.GradSqIdeal.τ).loc Cert.GradSqIdeal.main_v0_2)),
      θ_run (Cert.GradSqIdeal.defs (F := Ideal)) (onTc (τ := Cert.GradSqIdeal.τ) (Cert.GradSqIdeal.main (F := Ideal))) ⟨m, fun _ => 0, g⟩ (fun r => ∀ c : Dev Cert.GradSqIdeal.nD,
          r.2.mem ((c.tc : Thread Cert.GradSqIdeal.nD Cert.GradSqIdeal.τ).loc Cert.GradSqIdeal.main_v0_0) = v0 c
          ∧ r.2.mem ((c.tc : Thread Cert.GradSqIdeal.nD Cert.GradSqIdeal.τ).loc Cert.GradSqIdeal.main_v0_1) = v1 c
          ∧ r.2.mem ((c.tc : Thread Cert.GradSqIdeal.nD Cert.GradSqIdeal.τ).loc Cert.GradSqIdeal.main_v0_2) = v2 c
          ∧ r.2.mem ((c.tc : Thread Cert.GradSqIdeal.nD Cert.GradSqIdeal.τ).loc Cert.GradSqIdeal.main_arg0) = m ((c.tc : Thread Cert.GradSqIdeal.nD Cert.GradSqIdeal.τ).loc Cert.GradSqIdeal.main_arg0)
          ∧ r.2.mem ((c.tc : Thread Cert.GradSqIdeal.nD Cert.GradSqIdeal.τ).loc Cert.GradSqIdeal.main_arg1) = m ((c.tc : Thread Cert.GradSqIdeal.nD Cert.GradSqIdeal.τ).loc Cert.GradSqIdeal.main_arg1)
          ∧ r.2.mem ((c.tc : Thread Cert.GradSqIdeal.nD Cert.GradSqIdeal.τ).loc Cert.GradSqIdeal.main_arg2) = m ((c.tc : Thread Cert.GradSqIdeal.nD Cert.GradSqIdeal.τ).loc Cert.GradSqIdeal.main_arg2)
          ∧ r.2.mem ((c.tc : Thread Cert.GradSqIdeal.nD Cert.GradSqIdeal.τ).loc Cert.GradSqIdeal.main_arg3) = m ((c.tc : Thread Cert.GradSqIdeal.nD Cert.GradSqIdeal.τ).loc Cert.GradSqIdeal.main_arg3)
          ∧ r.2.mem ((c.tc : Thread Cert.GradSqIdeal.nD Cert.GradSqIdeal.τ).loc Cert.GradSqIdeal.main_arg4) = m ((c.tc : Thread Cert.GradSqIdeal.nD Cert.GradSqIdeal.τ).loc Cert.GradSqIdeal.main_arg4)
          ∧ r.2.mem ((c.tc : Thread Cert.GradSqIdeal.nD Cert.GradSqIdeal.τ).loc Cert.GradSqIdeal.main_arg5) = m ((c.tc : Thread Cert.GradSqIdeal.nD Cert.GradSqIdeal.τ).loc Cert.GradSqIdeal.main_arg5))
      ∧ θ_run (Cert.GradSqRefIdeal.defs (F := Ideal)) (onTc (τ := Cert.GradSqRefIdeal.τ) (Cert.GradSqRefIdeal.main (F := Ideal))) ⟨m', fun _ => 0, g'⟩ (fun r => ∀ c : Dev Cert.GradSqRefIdeal.nD,
          r.2.mem ((c.tc : Thread Cert.GradSqRefIdeal.nD Cert.GradSqRefIdeal.τ).loc Cert.GradSqRefIdeal.main_v3) = v0 c
          ∧ r.2.mem ((c.tc : Thread Cert.GradSqRefIdeal.nD Cert.GradSqRefIdeal.τ).loc Cert.GradSqRefIdeal.main_v7) = v1 c
          ∧ r.2.mem ((c.tc : Thread Cert.GradSqRefIdeal.nD Cert.GradSqRefIdeal.τ).loc Cert.GradSqRefIdeal.main_v11) = v2 c
          ∧ r.2.mem ((c.tc : Thread Cert.GradSqRefIdeal.nD Cert.GradSqRefIdeal.τ).loc Cert.GradSqRefIdeal.main_arg0) = m' ((c.tc : Thread Cert.GradSqRefIdeal.nD Cert.GradSqRefIdeal.τ).loc Cert.GradSqRefIdeal.main_arg0)
          ∧ r.2.mem ((c.tc : Thread Cert.GradSqRefIdeal.nD Cert.GradSqRefIdeal.τ).loc Cert.GradSqRefIdeal.main_arg1) = m' ((c.tc : Thread Cert.GradSqRefIdeal.nD Cert.GradSqRefIdeal.τ).loc Cert.GradSqRefIdeal.main_arg1)
          ∧ r.2.mem ((c.tc : Thread Cert.GradSqRefIdeal.nD Cert.GradSqRefIdeal.τ).loc Cert.GradSqRefIdeal.main_arg2) = m' ((c.tc : Thread Cert.GradSqRefIdeal.nD Cert.GradSqRefIdeal.τ).loc Cert.GradSqRefIdeal.main_arg2)
          ∧ r.2.mem ((c.tc : Thread Cert.GradSqRefIdeal.nD Cert.GradSqRefIdeal.τ).loc Cert.GradSqRefIdeal.main_arg3) = m' ((c.tc : Thread Cert.GradSqRefIdeal.nD Cert.GradSqRefIdeal.τ).loc Cert.GradSqRefIdeal.main_arg3)
          ∧ r.2.mem ((c.tc : Thread Cert.GradSqRefIdeal.nD Cert.GradSqRefIdeal.τ).loc Cert.GradSqRefIdeal.main_arg4) = m' ((c.tc : Thread Cert.GradSqRefIdeal.nD Cert.GradSqRefIdeal.τ).loc Cert.GradSqRefIdeal.main_arg4)
          ∧ r.2.mem ((c.tc : Thread Cert.GradSqRefIdeal.nD Cert.GradSqRefIdeal.τ).loc Cert.GradSqRefIdeal.main_arg5) = m' ((c.tc : Thread Cert.GradSqRefIdeal.nD Cert.GradSqRefIdeal.τ).loc Cert.GradSqRefIdeal.main_arg5))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg1) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hHeadBias : Cert.HeadBias.Facts) (hHeadBiasIdeal : Cert.HeadBiasIdeal.Facts) (hHeadBiasRefIdeal : Cert.HeadBiasRefIdeal.Facts) (hAttnFwd : Cert.AttnFwd.Facts) (hAttnFwdIdeal : Cert.AttnFwdIdeal.Facts) (hAttnFwdRefIdeal : Cert.AttnFwdRefIdeal.Facts) (hMemKvFwd : Cert.MemKvFwd.Facts) (hMemKvFwdIdeal : Cert.MemKvFwdIdeal.Facts) (hMemKvFwdRefIdeal : Cert.MemKvFwdRefIdeal.Facts) (hFfnUp : Cert.FfnUp.Facts) (hFfnUpIdeal : Cert.FfnUpIdeal.Facts) (hFfnUpRefIdeal : Cert.FfnUpRefIdeal.Facts) (hNormIn : Cert.NormIn.Facts) (hNormInIdeal : Cert.NormInIdeal.Facts) (hNormInRefIdeal : Cert.NormInRefIdeal.Facts) (hSeqmix : Cert.Seqmix.Facts) (hSeqmixIdeal : Cert.SeqmixIdeal.Facts) (hSeqmixRefIdeal : Cert.SeqmixRefIdeal.Facts) (hSeqmixFwd : Cert.SeqmixFwd.Facts) (hSeqmixFwdIdeal : Cert.SeqmixFwdIdeal.Facts) (hSeqmixFwdRefIdeal : Cert.SeqmixFwdRefIdeal.Facts) (hSwap : Cert.Swap.Facts) (hSwapIdeal : Cert.SwapIdeal.Facts) (hSwapRefIdeal : Cert.SwapRefIdeal.Facts) (hSwapRef : Cert.SwapRef.Facts) (hJoin : Cert.Join.Facts) (hJoinIdeal : Cert.JoinIdeal.Facts) (hJoinRefIdeal : Cert.JoinRefIdeal.Facts) (hJoinRef : Cert.JoinRef.Facts) (hPass : Cert.Pass.Facts) (hPassIdeal : Cert.PassIdeal.Facts) (hPassRefIdeal : Cert.PassRefIdeal.Facts) (hPassRef : Cert.PassRef.Facts) (hGradW : Cert.GradW.Facts) (hGradWIdeal : Cert.GradWIdeal.Facts) (hGradWRefIdeal : Cert.GradWRefIdeal.Facts) (hGradSq : Cert.GradSq.Facts) (hGradSqIdeal : Cert.GradSqIdeal.Facts) (hGradSqRefIdeal : Cert.GradSqRefIdeal.Facts) (hAdamW : Cert.AdamW.Facts) (hAdamWIdeal : Cert.AdamWIdeal.Facts) (hAdamWRefIdeal : Cert.AdamWRefIdeal.Facts) (hPre_finite_loss : Cert.Pre_finite_loss.Facts) (hPre_finite_attn : Cert.Pre_finite_attn.Facts) (hPre_finite_ffn : Cert.Pre_finite_ffn.Facts) (hPre_finite_seqmix : Cert.Pre_finite_seqmix.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_HeadBias (hHeadBias := hHeadBias)
    ∧ quiescent_HeadBiasIdeal (hHeadBiasIdeal := hHeadBiasIdeal)
    ∧ quiescent_HeadBiasRefIdeal (hHeadBiasRefIdeal := hHeadBiasRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_MemKvFwd (hMemKvFwd := hMemKvFwd)
    ∧ quiescent_MemKvFwdIdeal (hMemKvFwdIdeal := hMemKvFwdIdeal)
    ∧ quiescent_MemKvFwdRefIdeal (hMemKvFwdRefIdeal := hMemKvFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_Seqmix (hSeqmix := hSeqmix)
    ∧ quiescent_SeqmixIdeal (hSeqmixIdeal := hSeqmixIdeal)
    ∧ quiescent_SeqmixIdeal_pre_finite_seqmix (hSeqmixIdeal := hSeqmixIdeal) (hPre_finite_seqmix := hPre_finite_seqmix)
    ∧ quiescent_SeqmixRefIdeal (hSeqmixRefIdeal := hSeqmixRefIdeal)
    ∧ quiescent_SeqmixRefIdeal_pre_finite_seqmix (hSeqmixRefIdeal := hSeqmixRefIdeal) (hPre_finite_seqmix := hPre_finite_seqmix)
    ∧ quiescent_SeqmixFwd (hSeqmixFwd := hSeqmixFwd)
    ∧ quiescent_SeqmixFwdIdeal (hSeqmixFwdIdeal := hSeqmixFwdIdeal)
    ∧ quiescent_SeqmixFwdRefIdeal (hSeqmixFwdRefIdeal := hSeqmixFwdRefIdeal)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Pass (hPass := hPass)
    ∧ quiescent_PassIdeal (hPassIdeal := hPassIdeal)
    ∧ quiescent_PassRefIdeal (hPassRefIdeal := hPassRefIdeal)
    ∧ quiescent_PassRef (hPassRef := hPassRef)
    ∧ quiescent_GradW (hGradW := hGradW)
    ∧ quiescent_GradWIdeal (hGradWIdeal := hGradWIdeal)
    ∧ quiescent_GradWRefIdeal (hGradWRefIdeal := hGradWRefIdeal)
    ∧ quiescent_GradSq (hGradSq := hGradSq)
    ∧ quiescent_GradSqIdeal (hGradSqIdeal := hGradSqIdeal)
    ∧ quiescent_GradSqRefIdeal (hGradSqRefIdeal := hGradSqRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_MemKv_MemKvIdeal
    ∧ algebraic_MemKvIdeal_MemKvRefIdeal (hMemKvIdeal := hMemKvIdeal) (hMemKvRefIdeal := hMemKvRefIdeal)
    ∧ preserves_HeadBias_HeadBiasIdeal
    ∧ algebraic_HeadBiasIdeal_HeadBiasRefIdeal (hHeadBiasIdeal := hHeadBiasIdeal) (hHeadBiasRefIdeal := hHeadBiasRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_MemKvFwd_MemKvFwdIdeal
    ∧ algebraic_MemKvFwdIdeal_MemKvFwdRefIdeal (hMemKvFwdIdeal := hMemKvFwdIdeal) (hMemKvFwdRefIdeal := hMemKvFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_NormIn_NormInIdeal
    ∧ algebraic_NormInIdeal_NormInRefIdeal (hNormInIdeal := hNormInIdeal) (hNormInRefIdeal := hNormInRefIdeal)
    ∧ preserves_Seqmix_SeqmixIdeal
    ∧ algebraic_SeqmixIdeal_SeqmixRefIdeal_pre_finite_seqmix (hSeqmixIdeal := hSeqmixIdeal) (hSeqmixRefIdeal := hSeqmixRefIdeal) (hPre_finite_seqmix := hPre_finite_seqmix)
    ∧ preserves_SeqmixFwd_SeqmixFwdIdeal
    ∧ algebraic_SeqmixFwdIdeal_SeqmixFwdRefIdeal (hSeqmixFwdIdeal := hSeqmixFwdIdeal) (hSeqmixFwdRefIdeal := hSeqmixFwdRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Pass_PassIdeal
    ∧ algebraic_PassIdeal_PassRefIdeal (hPassIdeal := hPassIdeal) (hPassRefIdeal := hPassRefIdeal)
    ∧ bitexact_Pass_PassRef (hPass := hPass) (hPassRef := hPassRef)
    ∧ preserves_GradW_GradWIdeal
    ∧ algebraic_GradWIdeal_GradWRefIdeal (hGradWIdeal := hGradWIdeal) (hGradWRefIdeal := hGradWRefIdeal)
    ∧ preserves_GradSq_GradSqIdeal
    ∧ algebraic_GradSqIdeal_GradSqRefIdeal (hGradSqIdeal := hGradSqIdeal) (hGradSqRefIdeal := hGradSqRefIdeal)
    ∧ preserves_AdamW_AdamWIdeal
    ∧ algebraic_AdamWIdeal_AdamWRefIdeal (hAdamWIdeal := hAdamWIdeal) (hAdamWRefIdeal := hAdamWRefIdeal)
-- ==== Pre_finite_attn.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S256x2048 : S_.BroadcastsInDim S256x2048 (![] : Fin 0 → Fin S256x2048.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x1024 .f32) (main_arg2 : FVec F S1024 .f32) (main_arg3 : FVec F S256x2048 .f32) (main_arg4 : FVec F S1024x1024 .f32) (main_arg5 : FVec F S1024x1024 .f32) : IVec S4096x1024 1 × IVec S4096x1024 1 × IVec S1024 1 × IVec S256x2048 1 × IVec S1024x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S256x2048 .f32 := Host.absf main_arg3
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite_ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S4096x1024 1 × IVec S4096x1024 1 × IVec S1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_loss.lean ====
abbrev S4096x2816 : Shape := ⟨2, ![4096, 2816]⟩
abbrev S4096x1024 : Shape := ⟨2, ![4096, 1024]⟩
abbrev S1024 : Shape := ⟨1, ![1024]⟩
abbrev S2816x1024 : Shape := ⟨2, ![2816, 1024]⟩
abbrev S_ : Shape := ⟨0, ![]⟩

class Facts : Prop where
  bcast_S_S4096x2816 : S_.BroadcastsInDim S4096x2816 (![] : Fin 0 → Fin S4096x2816.rank)
  bcast_S_S4096x1024 : S_.BroadcastsInDim S4096x1024 (![] : Fin 0 → Fin S4096x1024.rank)
  bcast_S_S1024 : S_.BroadcastsInDim S1024 (![] : Fin 0 → Fin S1024.rank)
  bcast_S_S2816x1024 : S_.BroadcastsInDim S2816x1024 (![] : Fin 0 → Fin S2816x1024.rank)

variable [Facts]

def fn {F : FTy → Type} [FloatOps F] (main_arg0 : FVec F S4096x2816 .f32) (main_arg1 : FVec F S4096x1024 .f32) (main_arg2 : FVec F S1024 .f32) (main_arg3 : FVec F S4096x1024 .f32) (main_arg4 : FVec F S2816x1024 .f32) : IVec S4096x2816 1 × IVec S4096x1024 1 × IVec S1024 1 × IVec S4096x1024 1 × IVec S2816x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_seqmix.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S2048 : S_.BroadcastsInDim S2048 (![] : Fin 0 → Fin S2048.rank)
  bcast_S_S31x512 : S_.BroadcastsInDim S31x512 (![] : Fin 0 → Fin S31x512.rank)
  bcast_S_S512 : S_.BroadcastsInDim S512 (![] : Fin 0 → Fin S512.rank)
  bcast_S_S1024x1024 : S_.BroadcastsInDim S1024x1024 (![] : Fin 0 → Fin S1024x1024.rank)

variable [Facts]

def fn_part1 {F : FTy → Type} [FloatOps F] (main_arg6 : FVec F S512 .f32) (main_arg7 : FVec F S512 .f32) (main_arg8 : FVec F S512 .f32) (main_arg13 : FVec F S1024x1024 .f32) (main_v2 : IVec S4096x1024 1) (main_v5 : IVec S4096x1024 1) (main_v8 : IVec S1024 1) (main_v11 : IVec S1024x2048 1) (main_v14 : IVec S2048 1) (main_v17 : IVec S31x512 1) : IVec S4096x1024 1 × IVec S4096x1024 1 × IVec S1024 1 × IVec S1024x2048 1 × IVec S2048 1 × IVec S31x512 1 × IVec S512 1 × IVec S512 1 × IVec S512 1 × IVec S1024x1024 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S1024x1024 .f32 := Host.absf main_arg13
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x1024 .f32) (main_arg2 : FVec F S1024 .f32) (main_arg3 : FVec F S1024x2048 .f32) (main_arg4 : FVec F S2048 .f32) (main_arg5 : FVec F S31x512 .f32) (main_arg6 : FVec F S512 .f32) (main_arg7 : FVec F S512 .f32) (main_arg8 : FVec F S512 .f32) (main_arg9 : FVec F S512 .f32) (main_arg10 : FVec F S512 .f32) (main_arg11 : FVec F S8x128x128 .f32) (main_arg12 : FVec F S8x128 .f32) (main_arg13 : FVec F S1024x1024 .f32) : IVec S4096x1024 1 × IVec S4096x1024 1 × IVec S1024 1 × IVec S1024x2048 1 × IVec S2048 1 × IVec S31x512 1 × IVec S512 1 × IVec S512 1 × IVec S512 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S31x512 .f32 := Host.absf main_arg5
  let main_cst_4 : FVec F S_ .f32 := constant S_ .f32 0x7F800000#32
  let main_v16 : FVec F S31x512 .f32 := broadcastInDim S31x512 ![] bcast_S_S31x512 main_cst_4
  let main_v17 : IVec S31x512 1 := cmpf .olt main_v15 main_v16
  fn_part1 (F := F) main_arg6 main_arg7 main_arg8 main_arg13 main_v2 main_v5 main_v8 main_v11 main_v14 main_v17
-- ==== Loss.lean ====
abbrev S4096x2816 : Shape := ⟨2, ![4096, 2816]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S2816x1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x2816 : Shape := ⟨2, ![4096, 2816]⟩
abbrev S4096x1024 : Shape := ⟨2, ![4096, 1024]⟩
abbrev S1024 : Shape := ⟨1, ![1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_cst_9 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Attn.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x256 : Shape := ⟨2, ![1024, 256]⟩
abbrev S256x256 : Shape := ⟨2, ![256, 256]⟩
abbrev S1024x1 : Shape := ⟨2, ![1024, 1]⟩

abbrev nBuf : Space → Nat
  | .hbm => 33
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S256x2048, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x1024, .bf16⟩
  | .hbm, ⟨25, _⟩ => ⟨S256x2048, .bf16⟩
  | .hbm, ⟨26, _⟩ => ⟨S1024x1024, .bf16⟩
  | .hbm, ⟨27, _⟩ => ⟨S1x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S256x2048, .f32⟩
  | .hbm, ⟨32, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x2048, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x2048, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnRefIdeal.lean ====
abbrev S4096x1024 : Shape := ⟨2, ![4096, 1024]⟩
abbrev S1024 : Shape := ⟨1, ![1024]⟩
abbrev S256x2048 : Shape := ⟨2, ![256, 2048]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S256x2048, .f32⟩
  | 4 => ⟨S1024x1024, .f32⟩
  | 5 => ⟨S1024x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S4096x4x256, .f32⟩
  | 28 => ⟨S256x1024, .f32⟩
  | 29 => ⟨S256x1024, .f32⟩
  | 30 => ⟨S256x4x256, .f32⟩
  | 31 => ⟨S256x4x256, .f32⟩
  | 32 => ⟨S4x4096x256, .f32⟩
  | 33 => ⟨S_, .f32⟩
  | 34 => ⟨S4x4096x256, .f32⟩
  | 35 => ⟨S4x4096x256, .f32⟩
  | 36 => ⟨S_, .f32⟩
  | 37 => ⟨S4x4096, .f32⟩
  | 38 => ⟨S4x4096x1, .f32⟩
  | 39 => ⟨S4x4096x256, .f32⟩
  | 40 => ⟨S4x4096x256, .i1⟩
  | 41 => ⟨S4x4096x256, .f32⟩
  | 42 => ⟨S_, .f32⟩
  | 43 => ⟨S4x4096, .f32⟩
  | 44 => ⟨S_, .f32⟩
  | 45 => ⟨S4x4096, .f32⟩
  | 46 => ⟨S4x4096, .f32⟩
  | 47 => ⟨S_, .f32⟩
  | 48 => ⟨S4x4096, .f32⟩
  | 49 => ⟨S4x4096, .i1⟩
  | 50 => ⟨S_, .f32⟩
  | 51 => ⟨S4x4096, .f32⟩
  | 52 => ⟨S4x4096, .i1⟩
  | 53 => ⟨S_, .f32⟩
  | 54 => ⟨S4x4096, .f32⟩
  | 55 => ⟨S_, .f32⟩
  | 56 => ⟨S4x4096, .f32⟩
  | 57 => ⟨S_, .f32⟩
  | 58 => ⟨S4x4096, .f32⟩
  | 59 => ⟨S4x4096, .f32⟩
  | 60 => ⟨S4x4096, .f32⟩
  | 61 => ⟨S4x4096x1, .f32⟩
  | 62 => ⟨S4x4096x256, .f32⟩
  | 63 => ⟨S4x4096x256, .f32⟩
  | 64 => ⟨S4x4096x256, .f32⟩
  | 65 => ⟨S_, .f32⟩
  | 66 => ⟨S4x4096, .f32⟩
  | 67 => ⟨S4x4096x1, .f32⟩
  | 68 => ⟨S4x4096x256, .f32⟩
  | 69 => ⟨S4x4096x256, .f32⟩
  | 70 => ⟨S4x4096x1, .f32⟩
  | 71 => ⟨S_, .f32⟩
  | 72 => ⟨S4x4096x1, .f32⟩
  | 73 => ⟨S4x4096x1, .f32⟩
  | 74 => ⟨S4x256x4096, .f32⟩
  | 75 => ⟨S4096x4x256, .f32⟩
  | 76 => ⟨S4096x1024, .f32⟩
  | 77 => ⟨S4096x1024, .f32⟩
  | 78 => ⟨S4096x1024, .f32⟩
  | 79 => ⟨S4096x4x256, .f32⟩
  | 80 => ⟨S4x256x4096, .f32⟩
  | 81 => ⟨S4x4096x256, .f32⟩
  | 82 => ⟨S4x256x256, .f32⟩
  | 83 => ⟨S256x4x256, .f32⟩
  | 84 => ⟨S4x4096x256, .f32⟩
  | 85 => ⟨S4x4096x256, .f32⟩
  | 86 => ⟨S4x4096x256, .f32⟩
  | 87 => ⟨S_, .f32⟩
  | 88 => ⟨S4x4096, .f32⟩
  | 89 => ⟨S4x4096x1, .f32⟩
  | 90 => ⟨S4x4096x1, .f32⟩
  | 91 => ⟨S4x4096x256, .f32⟩
  | 92 => ⟨S4x4096x256, .f32⟩
  | 93 => ⟨S_, .f32⟩
  | 94 => ⟨S4x4096, .f32⟩
  | 95 => ⟨S4x4096x256, .f32⟩
  | 96 => ⟨S4x4096x256, .f32⟩
  | 97 => ⟨S4x4096x256, .f32⟩
  | 98 => ⟨S_, .f32⟩
  | 99 => ⟨S4x4096x256, .f32⟩
  | 100 => ⟨S4x4096x256, .f32⟩
  | 101 => ⟨S4x256x256, .f32⟩
  | 102 => ⟨S256x4x256, .f32⟩
  | 103 => ⟨S4x4096x256, .f32⟩
  | 104 => ⟨S4096x4x256, .f32⟩
  | 105 => ⟨S256x1024, .f32⟩
  | 106 => ⟨S256x1024, .f32⟩
  | 107 => ⟨S256x2048, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .bf16⟩
  | 9 => ⟨S4096x1024, .bf16⟩
  | 10 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_cst_19 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x2x2816 : Shape := ⟨3, ![1024, 2, 2816]⟩
abbrev S2x1024x2816 : Shape := ⟨3, ![2, 1024, 2816]⟩
abbrev S512x1024 : Shape := ⟨2, ![512, 1024]⟩
abbrev S2x512x2816 : Shape := ⟨3, ![2, 512, 2816]⟩
abbrev S1024x1024 : Shape := ⟨2, ![1024, 1024]⟩
abbrev S1x512x1024 : Shape := ⟨3, ![1, 512, 1024]⟩
abbrev S768x1024 : Shape := ⟨2, ![768, 1024]⟩
abbrev S512x768 : Shape := ⟨2, ![512, 768]⟩
abbrev S1x512x768 : Shape := ⟨3, ![1, 512, 768]⟩
abbrev S1x512x2816 : Shape := ⟨3, ![1, 512, 2816]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 34
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2x2816, .f32⟩
  | .hbm, ⟨23, _⟩ => ⟨S2x4096x2816, .f32⟩
  | .hbm, ⟨24, _⟩ => ⟨S2x4096x2816, .bf16⟩
  | .hbm, ⟨25, _⟩ => ⟨S1024x2x2816, .f32⟩
  | .hbm, ⟨26, _⟩ => ⟨S2x1024x2816, .f32⟩
  | .hbm, ⟨27, _⟩ => ⟨S2x1024x2816, .bf16⟩
  | .hbm, ⟨28, _⟩ => ⟨S2816x1024, .bf16⟩
  | .hbm, ⟨29, _⟩ => ⟨S1x1024, .f32⟩
  | .hbm, ⟨30, _⟩ => ⟨S2x4096x2816, .bf16⟩
  | .hbm, ⟨31, _⟩ => ⟨S4096x1024, .f32⟩
  | .hbm, ⟨32, _⟩ => ⟨S4096x1024, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S2x512x2816, .bf16⟩
  | .local _ .vmem, ⟨4, _⟩ => ⟨S2x512x2816, .bf16⟩
  | .local _ .vmem, ⟨5, _⟩ => ⟨S2x1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2x512x2816, .bf16⟩
  | .local _ .vmem, ⟨10, _⟩ => ⟨S2x512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x5632, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x2816, .f32⟩
  | .hbm, ⟨79, _⟩ => ⟨S4096x2816, .f32⟩
  | .hbm, ⟨80, _⟩ => ⟨S1x4096x2816, .f32⟩
  | .hbm, ⟨81, _⟩ => ⟨S1x4096x2816, .f32⟩
  | .hbm, ⟨82, _⟩ => ⟨S2x4096x2816, .f32⟩
  | .hbm, ⟨83, _⟩ => ⟨S2x4096x2816, .bf16⟩
  | .hbm, ⟨84, _⟩ => ⟨S4096x1024, .bf16⟩
  | .hbm, ⟨85, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== MemKv.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024x4x512 : Shape := ⟨3, ![1024, 4, 512]⟩
abbrev S4x1024x512 : Shape := ⟨3, ![4, 1024, 512]⟩
abbrev S256x512 : Shape := ⟨2, ![256, 512]⟩
abbrev S1024x512 : Shape := ⟨2, ![1024, 512]⟩
abbrev S1x1024x512 : Shape := ⟨3, ![1, 1024, 512]⟩

abbrev nBuf : Space → Nat
  | .hbm => 27
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1024x4x512, .f32⟩
  | .hbm, ⟨22, _⟩ => ⟨S4x1024x512, .f32⟩
  | .hbm, ⟨23, _⟩ => ⟨S4x1024x512, .bf16⟩
  | .hbm, ⟨24, _⟩ => ⟨S1x1024, .f32⟩
  | .hbm, ⟨25, _⟩ => ⟨S4x1024x512, .f32⟩
  | .hbm, ⟨26, _⟩ => ⟨S1x1024, .f32⟩
  | .local _ .vmem, ⟨0, _⟩ => ⟨S256x2048, .f32⟩
  | .local _ .vmem, ⟨1, _⟩ => ⟨S256x1024, .bf16⟩
  | .local _ .vmem, ⟨2, _⟩ => ⟨S4x1024x512, .bf16⟩
  | .local _ .vmem, ⟨3, _⟩ => ⟨S256x1024, .f32⟩
  | .local _ .vmem, ⟨4, _⟩ => ⟨S1x1024, .f32⟩
  | .local _ .vmem, ⟨5, _⟩ => ⟨S4x1024x512, .f32⟩
  | .local _ .vmem, ⟨6, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemKvRefIdeal.lean ====
abbrev S256x2048 : Shape := ⟨2, ![256, 2048]⟩
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 33
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S2048x1024, .f32⟩
  | .hbm, ⟨22, _⟩ => ⟨S1024x2048, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1024x4x512, .f32⟩
  | .hbm, ⟨31, _⟩ => ⟨S4x1024x512, .f32⟩
  | .hbm, ⟨32, _⟩ => ⟨S1x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== HeadBias.lean ====
abbrev S128x512 : Shape := ⟨2, ![128, 512]⟩
abbrev S8x128 : Shape := ⟨2, ![8, 128]⟩
abbrev S128x128 : Shape := ⟨2, ![128, 128]⟩
abbrev S128x64 : Shape := ⟨2, ![128, 64]⟩
abbrev S128 : Shape := ⟨1, ![128]⟩
abbrev S128x1 : Shape := ⟨2, ![128, 1]⟩

abbrev nBuf : Space → Nat
  | .hbm => 3
  | .vmem => 2
  | .smem => 0
  | _ => 0

abbrev bufTy : (tb : Table) → Fin (tcTables nBuf tb) → BufTy
  | .hbm, ⟨0, _⟩ => ⟨S128x512, .f32⟩
  | .hbm, ⟨1, _⟩ => ⟨S8x128, .f32⟩
  | .hbm, ⟨2, _⟩ => ⟨S128x128, .f32⟩
  | .local _ .vmem, ⟨0, _⟩ => ⟨S128x512, .f32⟩
  | .local _ .vmem, ⟨1, _⟩ => ⟨S128x128, .f32⟩
  | _, _ => ⟨S128x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== HeadBiasRefIdeal.lean ====
abbrev S128x512 : Shape := ⟨2, ![128, 512]⟩
abbrev S8x128 : Shape := ⟨2, ![8, 128]⟩
abbrev S128x8 : Shape := ⟨2, ![128, 8]⟩
abbrev S128x8x1 : Shape := ⟨3, ![128, 8, 1]⟩
abbrev S128x8x64 : Shape := ⟨3, ![128, 8, 64]⟩
abbrev S_ : Shape := ⟨0, ![]⟩
abbrev S128x128 : Shape := ⟨2, ![128, 128]⟩

abbrev nBuf : Space → Nat
  | .hbm => 17
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S8x128, .f32⟩
  | .hbm, ⟨2, _⟩ => ⟨S128x8, .f32⟩
  | .hbm, ⟨3, _⟩ => ⟨S128x8x1, .f32⟩
  | .hbm, ⟨4, _⟩ => ⟨S128x8x64, .f32⟩
  | .hbm, ⟨5, _⟩ => ⟨S128x512, .f32⟩
  | .hbm, ⟨6, _⟩ => ⟨S128x8x64, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8, .f32⟩
  | .hbm, ⟨12, _⟩ => ⟨S8x128, .f32⟩
  | .hbm, ⟨13, _⟩ => ⟨S128x8, .f32⟩
  | .hbm, ⟨14, _⟩ => ⟨S_, .i32⟩
  | .hbm, ⟨15, _⟩ => ⟨S_, .f32⟩
  | .hbm, ⟨16, _⟩ => ⟨S128x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== AttnFwd.lean ====
abbrev S4096x1024 : Shape := ⟨2, ![4096, 1024]⟩
abbrev S1024x1024 : Shape := ⟨2, ![1024, 1024]⟩
abbrev S1024 : Shape := ⟨1, ![1024]⟩
abbrev S256x2048 : Shape := ⟨2, ![256, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 21
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256x2048, .f32⟩
  | .hbm, ⟨6, _⟩ => ⟨S1024x1024, .f32⟩
  | .hbm, ⟨7, _⟩ => ⟨S1024, .f32⟩
  | .hbm, ⟨8, _⟩ => ⟨S4096x1024, .bf16⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S256x2048, .bf16⟩
  | .hbm, ⟨13, _⟩ => ⟨S1024x1024, .bf16⟩
  | .hbm, ⟨14, _⟩ => ⟨S1x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S256x2048, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnFwdRefIdeal.lean ====
abbrev S4096x1024 : Shape := ⟨2, ![4096, 1024]⟩
abbrev S1024x1024 : Shape := ⟨2, ![1024, 1024]⟩
abbrev S1024 : Shape := ⟨1, ![1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S256x2048, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S256x1024, .f32⟩
  | .hbm, ⟨28, _⟩ => ⟨S256x1024, .f32⟩
  | .hbm, ⟨29, _⟩ => ⟨S256x4x256, .f32⟩
  | .hbm, ⟨30, _⟩ => ⟨S256x4x256, .f32⟩
  | .hbm, ⟨31, _⟩ => ⟨S4096x4x256, .f32⟩
  | .hbm, ⟨32, _⟩ => ⟨S4x4096x256, .f32⟩
  | .hbm, ⟨33, _⟩ => ⟨S_, .f32⟩
  | .hbm, ⟨34, _⟩ => ⟨S4x4096x256, .f32⟩
  | .hbm, ⟨35, _⟩ => ⟨S4x4096x256, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S4x4096x256, .f32⟩
  | .hbm, ⟨49, _⟩ => ⟨S4x4096x256, .f32⟩
  | .hbm, ⟨50, _⟩ => ⟨S4x256x4096, .f32⟩
  | .hbm, ⟨51, _⟩ => ⟨S4096x4x256, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== MemKvFwd.lean ====
abbrev S256x1024 : Shape := ⟨2, ![256, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 9
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S1x1024, .f32⟩
  | .hbm, ⟨7, _⟩ => ⟨S256x1024, .bf16⟩
  | .hbm, ⟨8, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemKvFwdRefIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x2048, .f32⟩
  | .hbm, ⟨21, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S1024x2x2816 : Shape := ⟨3, ![1024, 2, 2816]⟩
abbrev S2x1024x2816 : Shape := ⟨3, ![2, 1024, 2816]⟩
abbrev S2x4096x2816 : Shape := ⟨3, ![2, 4096, 2816]⟩
abbrev S4096x2816 : Shape := ⟨2, ![4096, 2816]⟩
abbrev S512x1024 : Shape := ⟨2, ![512, 1024]⟩
abbrev S2x512x2816 : Shape := ⟨3, ![2, 512, 2816]⟩
abbrev S512x2816 : Shape := ⟨2, ![512, 2816]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1024x768 : Shape := ⟨3, ![1, 1024, 768]⟩
abbrev S1024x768 : Shape := ⟨2, ![1024, 768]⟩
abbrev S512x768 : Shape := ⟨2, ![512, 768]⟩
abbrev S1x512x768 : Shape := ⟨3, ![1, 512, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x2x2816, .f32⟩
  | .hbm, ⟨3, _⟩ => ⟨S2x1024x2816, .f32⟩
  | .hbm, ⟨4, _⟩ => ⟨S2x1024x2816, .bf16⟩
  | .hbm, ⟨5, _⟩ => ⟨S4096x1024, .bf16⟩
  | .hbm, ⟨6, _⟩ => ⟨S2x4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1024x2816, .bf16⟩
  | .local _ .vmem, ⟨3, _⟩ => ⟨S2x512x2816, .bf16⟩
  | .local _ .vmem, ⟨4, _⟩ => ⟨S2x512x2816, .bf16⟩
  | .local _ .vmem, ⟨5, _⟩ => ⟨S512x2816, .bf16⟩
  | .local _ .vmem, ⟨6, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnUpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== NormIn.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Seqmix.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x2048 : Shape := ⟨2, ![1, 2048]⟩
abbrev S4096x512 : Shape := ⟨2, ![4096, 512]⟩
abbrev S30x512 : Shape := ⟨2, ![30, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S32x512 : Shape := ⟨2, ![32, 512]⟩
abbrev S128x128 : Shape := ⟨2, ![128, 128]⟩
abbrev S1x128x128 : Shape := ⟨3, ![1, 128, 128]⟩
abbrev S4x128x128 : Shape := ⟨3, ![4, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S1024x4x512 : Shape := ⟨3, ![1024, 4, 512]⟩
abbrev S4x1024x512 : Shape := ⟨3, ![4, 1024, 512]⟩
abbrev S256x1024 : Shape := ⟨2, ![256, 1024]⟩
abbrev S256x2048 : Shape := ⟨2, ![256, 2048]⟩
abbrev S256x512 : Shape := ⟨2, ![256, 512]⟩
abbrev S288x512 : Shape := ⟨2, ![288, 512]⟩
abbrev S7x280x512 : Shape := ⟨3, ![7, 280, 512]⟩
abbrev S256 : Shape := ⟨1, ![256]⟩
abbrev S256x1 : Shape := ⟨2, ![256, 1]⟩
abbrev S280x512 : Shape := ⟨2, ![280, 512]⟩
abbrev S1x280x512 : Shape := ⟨3, ![1, 280, 512]⟩
abbrev S1x256x512 : Shape := ⟨3, ![1, 256, 512]⟩
abbrev S256x128 : Shape := ⟨2, ![256, 128]⟩
abbrev S1x128x256 : Shape := ⟨3, ![1, 128, 256]⟩
abbrev S128x256 : Shape := ⟨2, ![128, 256]⟩
abbrev S1x1024x512 : Shape := ⟨3, ![1, 1024, 512]⟩
abbrev S1024x512 : Shape := ⟨2, ![1024, 512]⟩

abbrev nBuf : Space → Nat
  | .hbm => 121
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S31x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S8x128x128, .f32⟩
  | .hbm, ⟨12, _⟩ => ⟨S8x128, .f32⟩
  | .hbm, ⟨13, _⟩ => ⟨S1024x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S30x512, .f32⟩
  | .hbm, ⟨47, _⟩ => ⟨S4126x512, .f32⟩
  | .hbm, ⟨48, _⟩ => ⟨S4096x31, .i32⟩
  | .hbm, ⟨49, _⟩ => ⟨S4096x31, .i32⟩
  | .hbm, ⟨50, _⟩ => ⟨S4096x31, .i32⟩
  | .hbm, ⟨51, _⟩ => ⟨S_, .i32⟩
  | .hbm, ⟨52, _⟩ => ⟨S4096x31, .i32⟩
  | .hbm, ⟨53, _⟩ => ⟨S4096x31, .i1⟩
  | .hbm, ⟨54, _⟩ => ⟨S_, .i32⟩
  | .hbm, ⟨55, _⟩ => ⟨S4096x31, .i32⟩
  | .hbm, ⟨56, _⟩ => ⟨S4096x31, .i32⟩
  | .hbm, ⟨57, _⟩ => ⟨S4096x31, .i32⟩
  | .hbm, ⟨58, _⟩ => ⟨S4096x31x1, .i32⟩
  | .hbm, ⟨59, _⟩ => ⟨S4096x31x512, .f32⟩
  | .hbm, ⟨60, _⟩ => ⟨S1x31x512, .f32⟩
  | .hbm, ⟨61, _⟩ => ⟨S4096x31x512, .f32⟩
  | .hbm, ⟨62, _⟩ => ⟨S4096x31x512, .f32⟩
  | .hbm, ⟨63, _⟩ => ⟨S_, .f32⟩
  | .hbm, ⟨64, _⟩ => ⟨S4096x512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S_, .i32⟩
  | .hbm, ⟨69, _⟩ => ⟨S_, .f32⟩
  | .hbm, ⟨70, _⟩ => ⟨S32x512, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S1x128x128, .i1⟩
  | .hbm, ⟨83, _⟩ => ⟨S_, .f32⟩
  | .hbm, ⟨84, _⟩ => ⟨S_, .f32⟩
  | .hbm, ⟨85, _⟩ => ⟨S8x128x128, .i1⟩
  | .hbm, ⟨86, _⟩ => ⟨S8x128x128, .f32⟩
  | .hbm, ⟨87, _⟩ => ⟨S8x128x128, .f32⟩
  | .hbm, ⟨88, _⟩ => ⟨S4x128x128, .f32⟩
  | .hbm, ⟨89, _⟩ => ⟨S4x128x128, .f32⟩
  | .hbm, ⟨90, _⟩ => ⟨S4x128x256, .f32⟩
  | .hbm, ⟨91, _⟩ => ⟨S4x128x256, .bf16⟩
  | .hbm, ⟨92, _⟩ => ⟨S8x128x128, .f32⟩
  | .hbm, ⟨93, _⟩ => ⟨S4x128x128, .f32⟩
  | .hbm, ⟨94, _⟩ => ⟨S4x128x128, .f32⟩
  | .hbm, ⟨95, _⟩ => ⟨S4x128x256, .f32⟩
  | .hbm, ⟨96, _⟩ => ⟨S4x128x256, .bf16⟩
  | .hbm, ⟨97, _⟩ => ⟨S128x8, .f32⟩
  | .hbm, ⟨98, _⟩ => ⟨S128x8x64, .f32⟩
  | .hbm, ⟨99, _⟩ => ⟨S128x512, .f32⟩
  | .hbm, ⟨100, _⟩ => ⟨S1024x4x512, .f32⟩
  | .hbm, ⟨101, _⟩ => ⟨S4x1024x512, .f32⟩
  | .hbm, ⟨102, _⟩ => ⟨S4x1024x512, .bf16⟩
  | .hbm, ⟨103, _⟩ => ⟨S1024x1024, .bf16⟩
  | .hbm, ⟨104, _⟩ => ⟨S1x1024, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S1x512, .f32⟩
  | .hbm, ⟨109, _⟩ => ⟨S4096x1024, .f32⟩
  | .hbm, ⟨110, _⟩ => ⟨S4096x2048, .bf16⟩
  | .hbm, ⟨111, _⟩ => ⟨S32x512, .f32⟩
  | .hbm, ⟨112, _⟩ => ⟨S1x512, .f32⟩
  | .hbm, ⟨113, _⟩ => ⟨S1x512, .f32⟩
  | .hbm, ⟨114, _⟩ => ⟨S1x512, .f32⟩
  | .hbm, ⟨115, _⟩ => ⟨S1x512, .f32⟩
  | .hbm, ⟨116, _⟩ => ⟨S1x512, .f32⟩
  | .hbm, ⟨117, _⟩ => ⟨S8x128x128, .f32⟩
  | .hbm, ⟨118, _⟩ => ⟨S128x512, .f32⟩
  | .hbm, ⟨119, _⟩ => ⟨S1x2048, .f32⟩
  | .hbm, ⟨120, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S1024x1024, .bf16⟩
  | .local _ .vmem, ⟨9, _⟩ => ⟨S4x1024x512, .bf16⟩
  | .local _ .vmem, ⟨10, _⟩ => ⟨S1x1024, .f32⟩
  | .local _ .vmem, ⟨11, _⟩ => ⟨S32x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S4x128x256, .bf16⟩
  | .local _ .vmem, ⟨17, _⟩ => ⟨S4x128x256, .bf16⟩
  | .local _ .vmem, ⟨18, _⟩ => ⟨S128x512, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x2048, .bf16⟩
  | .local _ .vmem, ⟨23, _⟩ => ⟨S32x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S8x128x128, .f32⟩
  | .local _ .vmem, ⟨30, _⟩ => ⟨S128x512, .f32⟩
  | .local _ .vmem, ⟨31, _⟩ => ⟨S1x2048, .f32⟩
  | .local _ .vmem, ⟨32, _⟩ => ⟨S1x1024, .f32⟩
  | .local _ .vmem, ⟨33, _⟩ => ⟨S288x512, .f32⟩
  | .local _ .vmem, ⟨34, _⟩ => ⟨S7x280x512, .f32⟩
  | .local _ .vmem, ⟨35, _⟩ => ⟨S256x512, .f32⟩
  | .local _ .vmem, ⟨36, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_call0_v0 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_call1_v0 : Ref sig .tc := ⟨.hbm, 73, rfl⟩
abbrev main_call1_c : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_0 : Ref sig .tc := ⟨.hbm, 79, rfl⟩
abbrev main_call1_v5 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71_0 : Ref sig .tc := ⟨.hbm, 109, rfl⟩
abbrev main_v71_1 : Ref sig .tc := ⟨.hbm, 110, rfl⟩
abbrev main_v71_2 : Ref sig .tc := ⟨.hbm, 111, rfl⟩
abbrev main_v71_3 : Ref sig .tc := ⟨.hbm, 112, rfl⟩
abbrev main_v71_4 : Ref sig .tc := ⟨.hbm, 113, rfl⟩
abbrev main_v71_5 : Ref sig .tc := ⟨.hbm, 114, rfl⟩
abbrev main_v71_6 : Ref sig .tc := ⟨.hbm, 115, rfl⟩
abbrev main_v71_7 : Ref sig .tc := ⟨.hbm, 116, rfl⟩
abbrev main_v71_8 : Ref sig .tc := ⟨.hbm, 117, rfl⟩
abbrev main_v71_9 : Ref sig .tc := ⟨.hbm, 118, rfl⟩
abbrev main_v71_10 : Ref sig .tc := ⟨.hbm, 119, rfl⟩
abbrev main_v71_11 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== SeqmixRefIdeal.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x1 : Shape := ⟨3, ![128, 8, 1]⟩
abbrev S128x8x64 : Shape := ⟨3, ![128, 8, 64]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x2048 : Shape := ⟨2, ![1, 2048]⟩
abbrev S4096x512 : Shape := ⟨2, ![4096, 512]⟩
abbrev S30x512 : Shape := ⟨2, ![30, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S1x128x8x64 : Shape := ⟨4, ![1, 128, 8, 64]⟩
abbrev S128x512 : Shape := ⟨2, ![128, 512]⟩

abbrev nBuf : Space → Nat
  | .hbm => 278
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x2048, .f32⟩
  | 4 => ⟨S2048, .f32⟩
  | 5 => ⟨S31x512, .f32⟩
  | 6 => ⟨S512, .f32⟩
  | 7 => ⟨S512, .f32⟩
  | 8 => ⟨S512, .f32⟩
  | 9 => ⟨S512, .f32⟩
  | 10 => ⟨S512, .f32⟩
  | 11 => ⟨S8x128x128, .f32⟩
  | 12 => ⟨S8x128, .f32⟩
  | 13 => ⟨S1024x1024, .f32⟩
  | 14 => ⟨S128x8, .f32⟩
  | 15 => ⟨S128x8x1, .f32⟩
  | 16 => ⟨S128x8x64, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x2048, .f32⟩
  | 34 => ⟨S1x2048, .f32⟩
  | 35 => ⟨S4096x2048, .f32⟩
  | 36 => ⟨S4096x2048, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S_, .f32⟩
  | 51 => ⟨S30x512, .f32⟩
  | 52 => ⟨S4126x512, .f32⟩
  | 53 => ⟨S4096x31, .i32⟩
  | 54 => ⟨S4096x31, .i32⟩
  | 55 => ⟨S4096x31, .i32⟩
  | 56 => ⟨S_, .i32⟩
  | 57 => ⟨S4096x31, .i32⟩
  | 58 => ⟨S4096x31, .i1⟩
  | 59 => ⟨S_, .i32⟩
  | 60 => ⟨S4096x31, .i32⟩
  | 61 => ⟨S4096x31, .i32⟩
  | 62 => ⟨S4096x31, .i32⟩
  | 63 => ⟨S4096x31x1, .i32⟩
  | 64 => ⟨S4096x31x512, .f32⟩
  | 65 => ⟨S1x31x512, .f32⟩
  | 66 => ⟨S4096x31x512, .f32⟩
  | 67 => ⟨S4096x31x512, .f32⟩
  | 68 => ⟨S_, .f32⟩
  | 69 => ⟨S4096x512, .f32⟩
  | 70 => ⟨S1x512, .f32⟩
  | 71 => ⟨S4096x512, .f32⟩
  | 72 => ⟨S4096x512, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S4096x512, .f32⟩
  | 92 => ⟨S4096x512, .f32⟩
  | 93 => ⟨S_, .f32⟩
  | 94 => ⟨S4096x1, .f32⟩
  | 95 => ⟨S4096x1, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x512, .f32⟩
  | 102 => ⟨S4096x512, .f32⟩
  | 103 => ⟨S1x512, .f32⟩
  | 104 => ⟨S4096x512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S4096x512, .f32⟩
  | _ => ⟨S4096x1024, .f32⟩

abbrev hbmTy0_1 (i : Nat) : BufTy := match i % 128 with
  | 0 => ⟨S_, .f32⟩
  | 1 => ⟨S4096x512, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S_, .f32⟩
  | 25 => ⟨S4096x512, .f32⟩
  | 26 => ⟨S4096x512, .f32⟩
  | 27 => ⟨S4096x512, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x512, .f32⟩
  | 35 => ⟨S4096x512, .f32⟩
  | 36 => ⟨S4096x512, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x512, .f32⟩
  | 44 => ⟨S4096x512, .f32⟩
  | 45 => ⟨S_, .f32⟩
  | 46 => ⟨S4096x1, .f32⟩
  | 47 => ⟨S4096x1, .f32⟩
  | 48 => ⟨S4096x1, .f32⟩
  | 49 => ⟨S4096x512, .f32⟩
  | 50 => ⟨S4096x512, .f32⟩
  | 51 => ⟨S1x512, .f32⟩
  | 52 => ⟨S4096x512, .f32⟩
  | 53 => ⟨S4096x512, .f32⟩
  | 54 => ⟨S1x512, .f32⟩
  | 55 => ⟨S4096x512, .f32⟩
  | 56 => ⟨S4096x512, .f32⟩
  | 57 => ⟨S32x128x8x64, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S8x128x128, .f32⟩
  | 72 => ⟨S8x128x128, .i1⟩
  | 73 => ⟨S8x128x128, .f32⟩
  | 74 => ⟨S8x32x64x128, .f32⟩
  | 75 => ⟨S32x128x8x64, .f32⟩
  | 76 => ⟨S1x128x8x64, .f32⟩
  | 77 => ⟨S32x128x8x64, .f32⟩
  | 78 => ⟨S32x128x8x64, .f32⟩
  | 79 => ⟨S4096x512, .f32⟩
  | 80 => ⟨S4096x512, .f32⟩
  | 81 => ⟨S4096x1024, .f32⟩
  | 82 => ⟨S4096x1024, .f32⟩
  | 83 => ⟨S4096x1024, .f32⟩
  | 84 => ⟨S4096x512, .f32⟩
  | 85 => ⟨S4096x512, .f32⟩
  | 86 => ⟨S4096x512, .f32⟩
  | 87 => ⟨S32x128x8x64, .f32⟩
  | 88 => ⟨S_, .f32⟩
  | 89 => ⟨S128x8x64, .f32⟩
  | 90 => ⟨S1x128x8x64, .f32⟩
  | 91 => ⟨S_, .f32⟩
  | 92 => ⟨S128x8x64, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S512, .f32⟩
  | 99 => ⟨S1x512, .f32⟩
  | 100 => ⟨S_, .f32⟩
  | 101 => ⟨S512, .f32⟩
  | 102 => ⟨S4096x512, .f32⟩
  | 103 => ⟨S_, .f32⟩
  | 104 => ⟨S512, .f32⟩
  | 105 => ⟨S1x512, .f32⟩
  | 106 => ⟨S4096x512, .f32⟩
  | 107 => ⟨S4096x512, .f32⟩
  | 108 => ⟨S_, .f32⟩
  | 109 => ⟨S512, .f32⟩
  | 110 => ⟨S4096x512, .f32⟩
  | 111 => ⟨S_, .f32⟩
  | 112 => ⟨S4096, .f32⟩
  | 113 => ⟨S4096x1, .f32⟩
  | 114 => ⟨S4096x512, .f32⟩
  | 115 => ⟨S4096x512, .f32⟩
  | 116 => ⟨S4096x1, .f32⟩
  | 117 => ⟨S4096x512, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x512, .f32⟩
  | 127 => ⟨S4096x512, .f32⟩
  | _ => ⟨S4096x1024, .f32⟩

abbrev hbmTy0_2 (i : Nat) : BufTy := match i % 128 with
  | 0 => ⟨S4096x512, .f32⟩
  | 1 => ⟨S_, .f32⟩
  | 2 => ⟨S4096, .f32⟩
  | 3 => ⟨S4096x1, .f32⟩
  | 4 => ⟨S4096x512, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x512, .f32⟩
  | 12 => ⟨S4096x512, .f32⟩
  | 13 => ⟨S_, .f32⟩
  | 14 => ⟨S512, .f32⟩
  | 15 => ⟨S1x512, .f32⟩
  | 16 => ⟨S_, .f32⟩
  | 17 => ⟨S512, .f32⟩
  | 18 => ⟨S1x512, .f32⟩
  | 19 => ⟨S1x512, .f32⟩
  | 20 => ⟨S1x512, .f32⟩
  | 21 => ⟨S128x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call0_v0 : Ref sig .tc := ⟨.hbm, 109, rfl⟩
abbrev main_call0_v1 : Ref sig .tc := ⟨.hbm, 110, rfl⟩
abbrev main_call0_cst : Ref sig .tc := ⟨.hbm, 111, rfl⟩
abbrev main_call0_v2 : Ref sig .tc := ⟨.hbm, 112, rfl⟩
abbrev main_call0_v3 : Ref sig .tc := ⟨.hbm, 113, rfl⟩
abbrev main_call0_cst_0 : Ref sig .tc := ⟨.hbm, 114, rfl⟩
abbrev main_call0_v4 : Ref sig .tc := ⟨.hbm, 115, rfl⟩
abbrev main_v79_2 : Ref sig .tc := ⟨.hbm, 116, rfl⟩
abbrev main_call0_cst_1 : Ref sig .tc := ⟨.hbm, 117, rfl⟩
abbrev main_call0_v6 : Ref sig .tc := ⟨.hbm, 118, rfl⟩
abbrev main_call0_v7 : Ref sig .tc := ⟨.hbm, 119, rfl⟩
abbrev main_v79_1 : Ref sig .tc := ⟨.hbm, 120, rfl⟩
abbrev main_v79_0 : Ref sig .tc := ⟨.hbm, 121, rfl⟩
abbrev main_v80 : Ref sig .tc := ⟨.hbm, 122, rfl⟩
abbrev main_v81 : Ref sig .tc := ⟨.hbm, 123, rfl⟩
abbrev main_cst_14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_15 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_16 : Ref sig .tc := ⟨.hbm, 132, rfl⟩
abbrev main_v88 : Ref sig .tc := ⟨.hbm, 133, rfl⟩
abbrev main_v89 : Ref sig .tc := ⟨.hbm, 134, rfl⟩
abbrev main_cst_17 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_18 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_19 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_v102 : Ref sig .tc := ⟨.hbm, 151, rfl⟩
abbrev main_cst_21 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_22 : Ref sig .tc := ⟨.hbm, 156, rfl⟩
abbrev main_v106 : Ref sig .tc := ⟨.hbm, 157, rfl⟩
abbrev main_v107 : Ref sig .tc := ⟨.hbm, 158, rfl⟩
abbrev main_cst_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_24 : Ref sig .tc := ⟨.hbm, 165, rfl⟩
abbrev main_v113 : Ref sig .tc := ⟨.hbm, 166, rfl⟩
abbrev main_v114 : Ref sig .tc := ⟨.hbm, 167, rfl⟩
abbrev main_cst_25 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_26 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_c_27 : Ref sig .tc := ⟨.hbm, 186, rfl⟩
abbrev main_v131 : Ref sig .tc := ⟨.hbm, 187, rfl⟩
abbrev main_call1_v0 : Ref sig .tc := ⟨.hbm, 188, rfl⟩
abbrev main_call1_c : Ref sig .tc := ⟨.hbm, 189, rfl⟩
abbrev main_call1_v1 : Ref sig .tc := ⟨.hbm, 190, rfl⟩
abbrev main_call1_v2 : Ref sig .tc := ⟨.hbm, 191, rfl⟩
abbrev main_call1_v3 : Ref sig .tc := ⟨.hbm, 192, rfl⟩
abbrev main_call1_v4 : Ref sig .tc := ⟨.hbm, 193, rfl⟩
abbrev main_call1_c_0 : Ref sig .tc := ⟨.hbm, 194, rfl⟩
abbrev main_call1_v5 : Ref sig .tc := ⟨.hbm, 195, rfl⟩
abbrev main_v132 : Ref sig .tc := ⟨.hbm, 196, rfl⟩
abbrev main_v133 : Ref sig .tc := ⟨.hbm, 197, rfl⟩
abbrev main_cst_28 : Ref sig .tc := ⟨.hbm, 198, rfl⟩
abbrev main_v134 : Ref sig .tc := ⟨.hbm, 199, rfl⟩
abbrev main_call2_v0 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_29 : Ref sig .tc := ⟨.hbm, 216, rfl⟩
abbrev main_v150 : Ref sig .tc := ⟨.hbm, 217, rfl⟩
abbrev main_v151 : Ref sig .tc := ⟨.hbm, 218, rfl⟩
abbrev main_cst_30 : Ref sig .tc := ⟨.hbm, 219, rfl⟩
abbrev main_v152 : Ref sig .tc := ⟨.hbm, 220, rfl⟩
abbrev main_call3_v0 : Ref sig .tc := ⟨.hbm, 221, rfl⟩
abbrev main_call3_v1 : Ref sig .tc := ⟨.hbm, 222, rfl⟩
abbrev main_call3_v2 : Ref sig .tc := ⟨.hbm, 223, rfl⟩
abbrev main_v153 : Ref sig .tc := ⟨.hbm, 224, rfl⟩
abbrev main_cst_31 : Ref sig .tc := ⟨.hbm, 225, rfl⟩
abbrev main_v154 : Ref sig .tc := ⟨.hbm, 226, rfl⟩
abbrev main_v155 : Ref sig .tc := ⟨.hbm, 227, rfl⟩
abbrev main_cst_32 : Ref sig .tc := ⟨.hbm, 228, rfl⟩
abbrev main_v156 : Ref sig .tc := ⟨.hbm, 229, rfl⟩
abbrev main_v157 : Ref sig .tc := ⟨.hbm, 230, rfl⟩
abbrev main_cst_33 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_34 : Ref sig .tc := ⟨.hbm, 236, rfl⟩
abbrev main_v162 : Ref sig .tc := ⟨.hbm, 237, rfl⟩
abbrev main_v163 : Ref sig .tc := ⟨.hbm, 238, rfl⟩
abbrev main_cst_35 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_cst_36 : Ref sig .tc := ⟨.hbm, 246, rfl⟩
abbrev main_v170 : Ref sig .tc := ⟨.hbm, 247, rfl⟩
abbrev main_v171 : Ref sig .tc := ⟨.hbm, 248, rfl⟩
abbrev main_cst_37 : Ref sig .tc := ⟨.hbm, 249, rfl⟩
abbrev main_v172 : Ref sig .tc := ⟨.hbm, 250, rfl⟩
abbrev main_v173 : Ref sig .tc := ⟨.hbm, 251, rfl⟩
abbrev main_cst_38 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_39 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_cst_40 : Ref sig .tc := ⟨.hbm, 262, rfl⟩
abbrev main_v182 : Ref sig .tc := ⟨.hbm, 263, rfl⟩
abbrev main_v183 : Ref sig .tc := ⟨.hbm, 264, rfl⟩
abbrev main_cst_41 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_42 : Ref sig .tc := ⟨.hbm, 269, rfl⟩
abbrev main_v187 : Ref sig .tc := ⟨.hbm, 270, rfl⟩
abbrev main_v188 : Ref sig .tc := ⟨.hbm, 271, rfl⟩
abbrev main_cst_43 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩

abbrev nD : Nat := 1
abbrev τ : Topo := Topo.v7x

variable {F : FTy → Type} [FloatOps F]
-- ==== SeqmixFwd.lean ====
abbrev S4096x1024 : Shape := ⟨2, ![4096, 1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S32x512 : Shape := ⟨2, ![32, 512]⟩
abbrev S128x128 : Shape := ⟨2, ![128, 128]⟩
abbrev S1x128x128 : Shape := ⟨3, ![1, 128, 128]⟩
abbrev S4x128x128 : Shape := ⟨3, ![4, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S1024x4x512 : Shape := ⟨3, ![1024, 4, 512]⟩
abbrev S4x1024x512 : Shape := ⟨3, ![4, 1024, 512]⟩
abbrev S1x2048 : Shape := ⟨2, ![1, 2048]⟩
abbrev S1x512 : Shape := ⟨2, ![1, 512]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S544x512 : Shape := ⟨2, ![544, 512]⟩
abbrev S7x536x512 : Shape := ⟨3, ![7, 536, 512]⟩
abbrev S1x1024x512 : Shape := ⟨3, ![1, 1024, 512]⟩
abbrev S1024x512 : Shape := ⟨2, ![1024, 512]⟩
abbrev S536x512 : Shape := ⟨2, ![536, 512]⟩
abbrev S1x536x512 : Shape := ⟨3, ![1, 536, 512]⟩
abbrev S1x512x512 : Shape := ⟨3, ![1, 512, 512]⟩
abbrev S512x1 : Shape := ⟨2, ![512, 1]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 51
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S2048, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S8x128x128, .f32⟩
  | .hbm, ⟨10, _⟩ => ⟨S8x128, .f32⟩
  | .hbm, ⟨11, _⟩ => ⟨S_, .i32⟩
  | .hbm, ⟨12, _⟩ => ⟨S_, .f32⟩
  | .hbm, ⟨13, _⟩ => ⟨S32x512, .f32⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S1x128x128, .i1⟩
  | .hbm, ⟨26, _⟩ => ⟨S_, .f32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S4x128x128, .f32⟩
  | .hbm, ⟨32, _⟩ => ⟨S4x128x128, .f32⟩
  | .hbm, ⟨33, _⟩ => ⟨S4x128x256, .f32⟩
  | .hbm, ⟨34, _⟩ => ⟨S4x128x256, .bf16⟩
  | .hbm, ⟨35, _⟩ => ⟨S128x8, .f32⟩
  | .hbm, ⟨36, _⟩ => ⟨S128x8x64, .f32⟩
  | .hbm, ⟨37, _⟩ => ⟨S128x512, .f32⟩
  | .hbm, ⟨38, _⟩ => ⟨S1024x4x512, .f32⟩
  | .hbm, ⟨39, _⟩ => ⟨S4x1024x512, .f32⟩
  | .hbm, ⟨40, _⟩ => ⟨S4x1024x512, .bf16⟩
  | .hbm, ⟨41, _⟩ => ⟨S4096x1024, .bf16⟩
  | .hbm, ⟨42, _⟩ => ⟨S1x2048, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S4096x2048, .f32⟩
  | .hbm, ⟨49, _⟩ => ⟨S4096x1024, .bf16⟩
  | .hbm, ⟨50, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S4x1024x512, .bf16⟩
  | .local _ .vmem, ⟨3, _⟩ => ⟨S1x2048, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x128x256, .bf16⟩
  | .local _ .vmem, ⟨11, _⟩ => ⟨S128x512, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S544x512, .f32⟩
  | .local _ .vmem, ⟨19, _⟩ => ⟨S7x536x512, .f32⟩
  | .local _ .vmem, ⟨20, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_0 : Ref sig .tc := ⟨.hbm, 22, rfl⟩
abbrev main_call1_v5 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v22_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SeqmixFwdRefIdeal.lean ====
abbrev S4096x1024 : Shape := ⟨2, ![4096, 1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S1x2048 : Shape := ⟨2, ![1, 2048]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S1x31x512 : Shape := ⟨3, ![1, 31, 512]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S2048, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S8x128x128, .f32⟩
  | .hbm, ⟨10, _⟩ => ⟨S8x128, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S30x512, .f32⟩
  | .hbm, ⟨28, _⟩ => ⟨S4126x512, .f32⟩
  | .hbm, ⟨29, _⟩ => ⟨S4096x31, .i32⟩
  | .hbm, ⟨30, _⟩ => ⟨S4096x31, .i32⟩
  | .hbm, ⟨31, _⟩ => ⟨S4096x31, .i32⟩
  | .hbm, ⟨32, _⟩ => ⟨S_, .i32⟩
  | .hbm, ⟨33, _⟩ => ⟨S4096x31, .i32⟩
  | .hbm, ⟨34, _⟩ => ⟨S4096x31, .i1⟩
  | .hbm, ⟨35, _⟩ => ⟨S_, .i32⟩
  | .hbm, ⟨36, _⟩ => ⟨S4096x31, .i32⟩
  | .hbm, ⟨37, _⟩ => ⟨S4096x31, .i32⟩
  | .hbm, ⟨38, _⟩ => ⟨S4096x31, .i32⟩
  | .hbm, ⟨39, _⟩ => ⟨S4096x31x1, .i32⟩
  | .hbm, ⟨40, _⟩ => ⟨S4096x31x512, .f32⟩
  | .hbm, ⟨41, _⟩ => ⟨S1x31x512, .f32⟩
  | .hbm, ⟨42, _⟩ => ⟨S4096x31x512, .f32⟩
  | .hbm, ⟨43, _⟩ => ⟨S4096x31x512, .f32⟩
  | .hbm, ⟨44, _⟩ => ⟨S_, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Swap.lean ====
abbrev S1x2x640x128 : Shape := ⟨4, ![1, 2, 640, 128]⟩
abbrev S1x2x8x128 : Shape := ⟨4, ![1, 2, 8, 128]⟩
abbrev S1x1x640x128 : Shape := ⟨4, ![1, 1, 640, 128]⟩
abbrev S1x1x8x128 : Shape := ⟨4, ![1, 1, 8, 128]⟩
abbrev S2 : Shape := ⟨1, ![2]⟩
abbrev S_ : Shape := ⟨0, ![]⟩
abbrev S1 : Shape := ⟨1, ![1]⟩

abbrev nBuf : Space → Nat
  | .hbm => 4
  | .vmem => 0
  | .smem => 0
  | _ => 0

abbrev bufTy : (tb : Table) → Fin (tcTables nBuf tb) → BufTy
  | .hbm, ⟨0, _⟩ => ⟨S1x2x640x128, .f32⟩
  | .hbm, ⟨1, _⟩ => ⟨S1x2x8x128, .f32⟩
  | .hbm, ⟨2, _⟩ => ⟨S1x1x640x128, .f32⟩
  | .hbm, ⟨3, _⟩ => ⟨S1x1x8x128, .f32⟩
  | _, _ => ⟨S1x2x640x128, .f32⟩

abbrev bufScoped : (cs : CoreSpace) → Fin (nBuf (.core cs)) → Bool
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_off1 (d0 : Dev nD) : Fin 4 → Nat :=
  let c0_i32_25 : BitVec 32 := 0#32
  let c1_i32_15 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v26 : BitVec 32 := Scalar.subi c1_i32_15 v25
  let c0_i32_26 : BitVec 32 := 0#32
  let c0_i32_27 : BitVec 32 := 0#32
  ![0, v26.toNat, 0, 0]
def k0_dev2 (d0 : Dev nD) : Nat :=
  let c0_i32_22 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_21 : BitVec 32 := 4#32
  let v30 : BitVec 32 := Scalar.muli v19 c4_i32_21
  let v31 : BitVec 32 := Scalar.addi c0_i32_22 v30
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_23 : BitVec 32 := 2#32
  let v32 : BitVec 32 := Scalar.muli v22 c2_i32_23
  let v33 : BitVec 32 := Scalar.addi v31 v32
  let c1_i32_16 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v27 : BitVec 32 := Scalar.subi c1_i32_16 v25
  let c1_i32_24 : BitVec 32 := 1#32
  let v34 : BitVec 32 := Scalar.muli v27 c1_i32_24
  let v35 : BitVec 32 := Scalar.addi v33 v34
  v35.toNat
def k0_off2 (d0 : Dev nD) : Fin 4 → Nat :=
  let c0_i32_34 : BitVec 32 := 0#32
  let c1_i32_17 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v28 : BitVec 32 := Scalar.subi c1_i32_17 v25
  let c0_i32_35 : BitVec 32 := 0#32
  let c0_i32_36 : BitVec 32 := 0#32
  ![0, v28.toNat, 0, 0]
def k0_dev3 (d0 : Dev nD) : Nat :=
  let c0_i32_31 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_30 : BitVec 32 := 4#32
  let v41 : BitVec 32 := Scalar.muli v19 c4_i32_30
  let v42 : BitVec 32 := Scalar.addi c0_i32_31 v41
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_32 : BitVec 32 := 2#32
  let v43 : BitVec 32 := Scalar.muli v22 c2_i32_32
  let v44 : BitVec 32 := Scalar.addi v42 v43
  let c1_i32_18 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v29 : BitVec 32 := Scalar.subi c1_i32_18 v25
  let c1_i32_33 : BitVec 32 := 1#32
  let v45 : BitVec 32 := Scalar.muli v29 c1_i32_33
  let v46 : BitVec 32 := Scalar.addi v44 v45
  v46.toNat
-- ==== SwapRef.lean ====
abbrev S8x2x640x128 : Shape := ⟨4, ![8, 2, 640, 128]⟩
abbrev S8x2x8x128 : Shape := ⟨4, ![8, 2, 8, 128]⟩
abbrev S4x2x2x640x128 : Shape := ⟨5, ![4, 2, 2, 640, 128]⟩
abbrev S4x1x1x640x128 : Shape := ⟨5, ![4, 1, 1, 640, 128]⟩
abbrev S4x640x128 : Shape := ⟨3, ![4, 640, 128]⟩
abbrev S4x1x640x128 : Shape := ⟨4, ![4, 1, 640, 128]⟩
abbrev S4x2x640x128 : Shape := ⟨4, ![4, 2, 640, 128]⟩
abbrev S8x1x640x128 : Shape := ⟨4, ![8, 1, 640, 128]⟩
abbrev S4x2x2x8x128 : Shape := ⟨5, ![4, 2, 2, 8, 128]⟩
abbrev S4x1x1x8x128 : Shape := ⟨5, ![4, 1, 1, 8, 128]⟩
abbrev S4x8x128 : Shape := ⟨3, ![4, 8, 128]⟩
abbrev S4x1x8x128 : Shape := ⟨4, ![4, 1, 8, 128]⟩
abbrev S4x2x8x128 : Shape := ⟨4, ![4, 2, 8, 128]⟩
abbrev S8x1x8x128 : Shape := ⟨4, ![8, 1, 8, 128]⟩

abbrev nBuf : Space → Nat
  | .hbm => 20
  | .vmem => 0
  | .smem => 0
  | _ => 0

abbrev bufTy : (tb : Table) → Fin (tcTables nBuf tb) → BufTy
  | .hbm, ⟨0, _⟩ => ⟨S8x2x640x128, .f32⟩
  | .hbm, ⟨1, _⟩ => ⟨S8x2x8x128, .f32⟩
  | .hbm, ⟨2, _⟩ => ⟨S4x2x2x640x128, .f32⟩
  | .hbm, ⟨3, _⟩ => ⟨S4x1x1x640x128, .f32⟩
  | .hbm, ⟨4, _⟩ => ⟨S4x640x128, .f32⟩
  | .hbm, ⟨5, _⟩ => ⟨S4x1x1x640x128, .f32⟩
  | .hbm, ⟨6, _⟩ => ⟨S4x640x128, .f32⟩
  | .hbm, ⟨7, _⟩ => ⟨S4x1x640x128, .f32⟩
  | .hbm, ⟨8, _⟩ => ⟨S4x1x640x128, .f32⟩
  | .hbm, ⟨9, _⟩ => ⟨S4x2x640x128, .f32⟩
  | .hbm, ⟨10, _⟩ => ⟨S8x1x640x128, .f32⟩
  | .hbm, ⟨11, _⟩ => ⟨S4x2x2x8x128, .f32⟩
  | .hbm, ⟨12, _⟩ => ⟨S4x1x1x8x128, .f32⟩
  | .hbm, ⟨13, _⟩ => ⟨S4x8x128, .f32⟩
  | .hbm, ⟨14, _⟩ => ⟨S4x1x1x8x128, .f32⟩
  | .hbm, ⟨15, _⟩ => ⟨S4x8x128, .f32⟩
  | .hbm, ⟨16, _⟩ => ⟨S4x1x8x128, .f32⟩
  | .hbm, ⟨17, _⟩ => ⟨S4x1x8x128, .f32⟩
  | .hbm, ⟨18, _⟩ => ⟨S4x2x8x128, .f32⟩
  | .hbm, ⟨19, _⟩ => ⟨S8x1x8x128, .f32⟩
  | _, _ => ⟨S8x2x640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Join.lean ====
abbrev S2x512x512 : Shape := ⟨3, ![2, 512, 512]⟩
abbrev S2x640x128 : Shape := ⟨3, ![2, 640, 128]⟩
abbrev S2x8x128 : Shape := ⟨3, ![2, 8, 128]⟩
abbrev S3 : Shape := ⟨1, ![3]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x640x128 : Shape := ⟨3, ![1, 640, 128]⟩
abbrev S640x128 : Shape := ⟨2, ![640, 128]⟩
abbrev S1x8x128 : Shape := ⟨3, ![1, 8, 128]⟩
abbrev S8x128 : Shape := ⟨2, ![8, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x640x128, .f32⟩
  | .hbm, ⟨2, _⟩ => ⟨S2x8x128, .f32⟩
  | .hbm, ⟨3, _⟩ => ⟨S2x512x512, .f32⟩
  | .hbm, ⟨4, _⟩ => ⟨S2x640x128, .f32⟩
  | .hbm, ⟨5, _⟩ => ⟨S2x8x128, .f32⟩
  | _, _ => ⟨S2x512x512, .f32⟩

abbrev bufScoped : (cs : CoreSpace) → Fin (nBuf (.core cs)) → Bool
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_off1 (d0 : Dev nD) : Fin 3 → Nat :=
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_30 : BitVec 32 := 0#32
  let c0_i32_31 : BitVec 32 := 0#32
  ![v25.toNat, 0, 0]
def k0_dev2 (d0 : Dev nD) : Nat :=
  let c0_i32_27 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_26 : BitVec 32 := 4#32
  let v35 : BitVec 32 := Scalar.muli v19 c4_i32_26
  let v36 : BitVec 32 := Scalar.addi c0_i32_27 v35
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_28 : BitVec 32 := 2#32
  let v37 : BitVec 32 := Scalar.muli v22 c2_i32_28
  let v38 : BitVec 32 := Scalar.addi v36 v37
  let c1_i32_15 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v26 : BitVec 32 := Scalar.subi c1_i32_15 v25
  let c1_i32_29 : BitVec 32 := 1#32
  let v39 : BitVec 32 := Scalar.muli v26 c1_i32_29
  let v40 : BitVec 32 := Scalar.addi v38 v39
  v40.toNat
def k0_off2 (d0 : Dev nD) : Fin 3 → Nat :=
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_40 : BitVec 32 := 0#32
  let c0_i32_41 : BitVec 32 := 0#32
  ![v25.toNat, 0, 0]
def k0_dev3 (d0 : Dev nD) : Nat :=
  let c0_i32_37 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_36 : BitVec 32 := 4#32
  let v49 : BitVec 32 := Scalar.muli v19 c4_i32_36
  let v50 : BitVec 32 := Scalar.addi c0_i32_37 v49
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_38 : BitVec 32 := 2#32
  let v51 : BitVec 32 := Scalar.muli v22 c2_i32_38
  let v52 : BitVec 32 := Scalar.addi v50 v51
  let c1_i32_16 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v27 : BitVec 32 := Scalar.subi c1_i32_16 v25
  let c1_i32_39 : BitVec 32 := 1#32
  let v53 : BitVec 32 := Scalar.muli v27 c1_i32_39
  let v54 : BitVec 32 := Scalar.addi v52 v53
  v54.toNat
def k0_off3 (d0 : Dev nD) : Fin 3 → Nat :=
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_50 : BitVec 32 := 0#32
  let c0_i32_51 : BitVec 32 := 0#32
  ![v25.toNat, 0, 0]
def k0_dev4 (d0 : Dev nD) : Nat :=
  let c0_i32_47 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_46 : BitVec 32 := 4#32
  let v63 : BitVec 32 := Scalar.muli v19 c4_i32_46
  let v64 : BitVec 32 := Scalar.addi c0_i32_47 v63
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_48 : BitVec 32 := 2#32
  let v65 : BitVec 32 := Scalar.muli v22 c2_i32_48
  let v66 : BitVec 32 := Scalar.addi v64 v65
  let c1_i32_17 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v28 : BitVec 32 := Scalar.subi c1_i32_17 v25
  let c1_i32_49 : BitVec 32 := 1#32
  let v67 : BitVec 32 := Scalar.muli v28 c1_i32_49
  let v68 : BitVec 32 := Scalar.addi v66 v67
  v68.toNat
def k0_off4 (d0 : Dev nD) : Fin 3 → Nat :=
  let c1_i32_18 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v29 : BitVec 32 := Scalar.subi c1_i32_18 v25
  let c0_i32_60 : BitVec 32 := 0#32
  let c0_i32_61 : BitVec 32 := 0#32
  ![v29.toNat, 0, 0]
def k0_off5 (d0 : Dev nD) : Fin 3 → Nat :=
  let c1_i32_20 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v31 : BitVec 32 := Scalar.subi c1_i32_20 v25
  let c0_i32_70 : BitVec 32 := 0#32
  let c0_i32_71 : BitVec 32 := 0#32
  ![v31.toNat, 0, 0]
def k0_off6 (d0 : Dev nD) : Fin 3 → Nat :=
  let c1_i32_22 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v33 : BitVec 32 := Scalar.subi c1_i32_22 v25
  let c0_i32_80 : BitVec 32 := 0#32
  let c0_i32_81 : BitVec 32 := 0#32
  ![v33.toNat, 0, 0]
-- ==== JoinRef.lean ====
abbrev S16x512x512 : Shape := ⟨3, ![16, 512, 512]⟩
abbrev S16x640x128 : Shape := ⟨3, ![16, 640, 128]⟩
abbrev S16x8x128 : Shape := ⟨3, ![16, 8, 128]⟩
abbrev S4x2x2x512x512 : Shape := ⟨5, ![4, 2, 2, 512, 512]⟩
abbrev S4x1x1x512x512 : Shape := ⟨5, ![4, 1, 1, 512, 512]⟩
abbrev S4x512x512 : Shape := ⟨3, ![4, 512, 512]⟩
abbrev S4x1x512x512 : Shape := ⟨4, ![4, 1, 512, 512]⟩
abbrev S4x2x512x512 : Shape := ⟨4, ![4, 2, 512, 512]⟩
abbrev S4x1x2x512x512 : Shape := ⟨5, ![4, 1, 2, 512, 512]⟩
abbrev S4x2x2x640x128 : Shape := ⟨5, ![4, 2, 2, 640, 128]⟩
abbrev S4x1x1x640x128 : Shape := ⟨5, ![4, 1, 1, 640, 128]⟩
abbrev S4x640x128 : Shape := ⟨3, ![4, 640, 128]⟩
abbrev S4x1x640x128 : Shape := ⟨4, ![4, 1, 640, 128]⟩
abbrev S4x2x640x128 : Shape := ⟨4, ![4, 2, 640, 128]⟩
abbrev S4x1x2x640x128 : Shape := ⟨5, ![4, 1, 2, 640, 128]⟩
abbrev S4x2x2x8x128 : Shape := ⟨5, ![4, 2, 2, 8, 128]⟩
abbrev S4x1x1x8x128 : Shape := ⟨5, ![4, 1, 1, 8, 128]⟩
abbrev S4x8x128 : Shape := ⟨3, ![4, 8, 128]⟩
abbrev S4x1x8x128 : Shape := ⟨4, ![4, 1, 8, 128]⟩
abbrev S4x2x8x128 : Shape := ⟨4, ![4, 2, 8, 128]⟩
abbrev S4x1x2x8x128 : Shape := ⟨5, ![4, 1, 2, 8, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x640x128, .f32⟩
  | .hbm, ⟨2, _⟩ => ⟨S16x8x128, .f32⟩
  | .hbm, ⟨3, _⟩ => ⟨S4x2x2x512x512, .f32⟩
  | .hbm, ⟨4, _⟩ => ⟨S4x1x1x512x512, .f32⟩
  | .hbm, ⟨5, _⟩ => ⟨S4x512x512, .f32⟩
  | .hbm, ⟨6, _⟩ => ⟨S4x1x1x512x512, .f32⟩
  | .hbm, ⟨7, _⟩ => ⟨S4x512x512, .f32⟩
  | .hbm, ⟨8, _⟩ => ⟨S4x1x512x512, .f32⟩
  | .hbm, ⟨9, _⟩ => ⟨S4x1x512x512, .f32⟩
  | .hbm, ⟨10, _⟩ => ⟨S4x2x512x512, .f32⟩
  | .hbm, ⟨11, _⟩ => ⟨S4x1x2x512x512, .f32⟩
  | .hbm, ⟨12, _⟩ => ⟨S4x1x2x512x512, .f32⟩
  | .hbm, ⟨13, _⟩ => ⟨S4x2x2x512x512, .f32⟩
  | .hbm, ⟨14, _⟩ => ⟨S16x512x512, .f32⟩
  | .hbm, ⟨15, _⟩ => ⟨S4x2x2x640x128, .f32⟩
  | .hbm, ⟨16, _⟩ => ⟨S4x1x1x640x128, .f32⟩
  | .hbm, ⟨17, _⟩ => ⟨S4x640x128, .f32⟩
  | .hbm, ⟨18, _⟩ => ⟨S4x1x1x640x128, .f32⟩
  | .hbm, ⟨19, _⟩ => ⟨S4x640x128, .f32⟩
  | .hbm, ⟨20, _⟩ => ⟨S4x1x640x128, .f32⟩
  | .hbm, ⟨21, _⟩ => ⟨S4x1x640x128, .f32⟩
  | .hbm, ⟨22, _⟩ => ⟨S4x2x640x128, .f32⟩
  | .hbm, ⟨23, _⟩ => ⟨S4x1x2x640x128, .f32⟩
  | .hbm, ⟨24, _⟩ => ⟨S4x1x2x640x128, .f32⟩
  | .hbm, ⟨25, _⟩ => ⟨S4x2x2x640x128, .f32⟩
  | .hbm, ⟨26, _⟩ => ⟨S16x640x128, .f32⟩
  | .hbm, ⟨27, _⟩ => ⟨S4x2x2x8x128, .f32⟩
  | .hbm, ⟨28, _⟩ => ⟨S4x1x1x8x128, .f32⟩
  | .hbm, ⟨29, _⟩ => ⟨S4x8x128, .f32⟩
  | .hbm, ⟨30, _⟩ => ⟨S4x1x1x8x128, .f32⟩
  | .hbm, ⟨31, _⟩ => ⟨S4x8x128, .f32⟩
  | .hbm, ⟨32, _⟩ => ⟨S4x1x8x128, .f32⟩
  | .hbm, ⟨33, _⟩ => ⟨S4x1x8x128, .f32⟩
  | .hbm, ⟨34, _⟩ => ⟨S4x2x8x128, .f32⟩
  | .hbm, ⟨35, _⟩ => ⟨S4x1x2x8x128, .f32⟩
  | .hbm, ⟨36, _⟩ => ⟨S4x1x2x8x128, .f32⟩
  | .hbm, ⟨37, _⟩ => ⟨S4x2x2x8x128, .f32⟩
  | .hbm, ⟨38, _⟩ => ⟨S16x8x128, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== Pass.lean ====
abbrev S4x2x352x1024 : Shape := ⟨4, ![4, 2, 352, 1024]⟩
abbrev S1x3 : Shape := ⟨2, ![1, 3]⟩
abbrev S_ : Shape := ⟨0, ![]⟩
abbrev S1x1 : Shape := ⟨2, ![1, 1]⟩
abbrev S1x1x352x1024 : Shape := ⟨4, ![1, 1, 352, 1024]⟩
abbrev S352x1024 : Shape := ⟨2, ![352, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2x352x1024, .bf16⟩
  | .hbm, ⟨1, _⟩ => ⟨S4x2x352x1024, .bf16⟩
  | _, _ => ⟨S4x2x352x1024, .bf16⟩

abbrev bufScoped : (cs : CoreSpace) → Fin (nBuf (.core cs)) → Bool
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_off1 (d0 : Dev nD) : Fin 4 → Nat :=
  let c2_i32_19 : BitVec 32 := 2#32
  let c1_i32_15 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v26 : BitVec 32 := Scalar.subi c1_i32_15 v19
  let v30 : BitVec 32 := Scalar.muli c2_i32_19 v26
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v31 : BitVec 32 := Scalar.addi v30 v22
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_42 : BitVec 32 := 0#32
  let c0_i32_43 : BitVec 32 := 0#32
  ![v31.toNat, v25.toNat, 0, 0]
def k0_dev2 (d0 : Dev nD) : Nat :=
  let c0_i32_39 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_38 : BitVec 32 := 4#32
  let v51 : BitVec 32 := Scalar.muli v19 c4_i32_38
  let v52 : BitVec 32 := Scalar.addi c0_i32_39 v51
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_40 : BitVec 32 := 2#32
  let v53 : BitVec 32 := Scalar.muli v22 c2_i32_40
  let v54 : BitVec 32 := Scalar.addi v52 v53
  let c1_i32_20 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v32 : BitVec 32 := Scalar.subi c1_i32_20 v25
  let c1_i32_41 : BitVec 32 := 1#32
  let v55 : BitVec 32 := Scalar.muli v32 c1_i32_41
  let v56 : BitVec 32 := Scalar.addi v54 v55
  v56.toNat
def k0_off2 (d0 : Dev nD) : Fin 4 → Nat :=
  let c2_i32_21 : BitVec 32 := 2#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v33 : BitVec 32 := Scalar.muli c2_i32_21 v19
  let c1_i32_16 : BitVec 32 := 1#32
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v27 : BitVec 32 := Scalar.subi c1_i32_16 v22
  let v34 : BitVec 32 := Scalar.addi v33 v27
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_54 : BitVec 32 := 0#32
  let c0_i32_55 : BitVec 32 := 0#32
  ![v34.toNat, v25.toNat, 0, 0]
def k0_dev3 (d0 : Dev nD) : Nat :=
  let c0_i32_51 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_50 : BitVec 32 := 4#32
  let v65 : BitVec 32 := Scalar.muli v19 c4_i32_50
  let v66 : BitVec 32 := Scalar.addi c0_i32_51 v65
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_52 : BitVec 32 := 2#32
  let v67 : BitVec 32 := Scalar.muli v22 c2_i32_52
  let v68 : BitVec 32 := Scalar.addi v66 v67
  let c1_i32_22 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v35 : BitVec 32 := Scalar.subi c1_i32_22 v25
  let c1_i32_53 : BitVec 32 := 1#32
  let v69 : BitVec 32 := Scalar.muli v35 c1_i32_53
  let v70 : BitVec 32 := Scalar.addi v68 v69
  v70.toNat
def k0_off3 (d0 : Dev nD) : Fin 4 → Nat :=
  let c2_i32_23 : BitVec 32 := 2#32
  let c1_i32_17 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v28 : BitVec 32 := Scalar.subi c1_i32_17 v19
  let v36 : BitVec 32 := Scalar.muli c2_i32_23 v28
  let c1_i32_18 : BitVec 32 := 1#32
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v29 : BitVec 32 := Scalar.subi c1_i32_18 v22
  let v37 : BitVec 32 := Scalar.addi v36 v29
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let c0_i32_66 : BitVec 32 := 0#32
  let c0_i32_67 : BitVec 32 := 0#32
  ![v37.toNat, v25.toNat, 0, 0]
def k0_dev4 (d0 : Dev nD) : Nat :=
  let c0_i32_63 : BitVec 32 := 0#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let c4_i32_62 : BitVec 32 := 4#32
  let v79 : BitVec 32 := Scalar.muli v19 c4_i32_62
  let v80 : BitVec 32 := Scalar.addi c0_i32_63 v79
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let c2_i32_64 : BitVec 32 := 2#32
  let v81 : BitVec 32 := Scalar.muli v22 c2_i32_64
  let v82 : BitVec 32 := Scalar.addi v80 v81
  let c1_i32_24 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v38 : BitVec 32 := Scalar.subi c1_i32_24 v25
  let c1_i32_65 : BitVec 32 := 1#32
  let v83 : BitVec 32 := Scalar.muli v38 c1_i32_65
  let v84 : BitVec 32 := Scalar.addi v82 v83
  v84.toNat
def k0_off4 (d0 : Dev nD) : Fin 4 → Nat :=
  let c2_i32_26 : BitVec 32 := 2#32
  let c1_i32_15 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v26 : BitVec 32 := Scalar.subi c1_i32_15 v19
  let v40 : BitVec 32 := Scalar.muli c2_i32_26 v26
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v41 : BitVec 32 := Scalar.addi v40 v22
  let c1_i32_25 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v39 : BitVec 32 := Scalar.subi c1_i32_25 v25
  let c0_i32_78 : BitVec 32 := 0#32
  let c0_i32_79 : BitVec 32 := 0#32
  ![v41.toNat, v39.toNat, 0, 0]
def k0_off5 (d0 : Dev nD) : Fin 4 → Nat :=
  let c2_i32_29 : BitVec 32 := 2#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v44 : BitVec 32 := Scalar.muli c2_i32_29 v19
  let c1_i32_16 : BitVec 32 := 1#32
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v27 : BitVec 32 := Scalar.subi c1_i32_16 v22
  let v45 : BitVec 32 := Scalar.addi v44 v27
  let c1_i32_28 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v43 : BitVec 32 := Scalar.subi c1_i32_28 v25
  let c0_i32_90 : BitVec 32 := 0#32
  let c0_i32_91 : BitVec 32 := 0#32
  ![v45.toNat, v43.toNat, 0, 0]
def k0_off6 (d0 : Dev nD) : Fin 4 → Nat :=
  let c2_i32_32 : BitVec 32 := 2#32
  let c1_i32_17 : BitVec 32 := 1#32
  let v17 : BitVec 32 := Dev.word d0
  let c4_i32_10 : BitVec 32 := 4#32
  let v18 : BitVec 32 := Scalar.divsi v17 c4_i32_10
  let c2_i32_9 : BitVec 32 := 2#32
  let v19 : BitVec 32 := Scalar.remsi v18 c2_i32_9
  let v28 : BitVec 32 := Scalar.subi c1_i32_17 v19
  let v48 : BitVec 32 := Scalar.muli c2_i32_32 v28
  let c1_i32_18 : BitVec 32 := 1#32
  let v20 : BitVec 32 := Dev.word d0
  let c2_i32_12 : BitVec 32 := 2#32
  let v21 : BitVec 32 := Scalar.divsi v20 c2_i32_12
  let c2_i32_11 : BitVec 32 := 2#32
  let v22 : BitVec 32 := Scalar.remsi v21 c2_i32_11
  let v29 : BitVec 32 := Scalar.subi c1_i32_18 v22
  let v49 : BitVec 32 := Scalar.addi v48 v29
  let c1_i32_31 : BitVec 32 := 1#32
  let v23 : BitVec 32 := Dev.word d0
  let c1_i32_14 : BitVec 32 := 1#32
  let v24 : BitVec 32 := Scalar.divsi v23 c1_i32_14
  let c2_i32_13 : BitVec 32 := 2#32
  let v25 : BitVec 32 := Scalar.remsi v24 c2_i32_13
  let v47 : BitVec 32 := Scalar.subi c1_i32_31 v25
  let c0_i32_102 : BitVec 32 := 0#32
  let c0_i32_103 : BitVec 32 := 0#32
  ![v49.toNat, v47.toNat, 0, 0]
-- ==== PassRef.lean ====
abbrev S32x2x352x1024 : Shape := ⟨4, ![32, 2, 352, 1024]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x4x1x352x1024 : Shape := ⟨5, ![4, 4, 1, 352, 1024]⟩
abbrev S4x4x2x352x1024 : Shape := ⟨5, ![4, 4, 2, 352, 1024]⟩
abbrev S4x1x4x2x352x1024 : Shape := ⟨6, ![4, 1, 4, 2, 352, 1024]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1x1x1 : Shape := ⟨6, ![4, 1, 4, 1, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2x352x1024, .bf16⟩
  | .hbm, ⟨1, _⟩ => ⟨S4x2x4x2x352x1024, .bf16⟩
  | .hbm, ⟨2, _⟩ => ⟨S4x1x4x1x352x1024, .bf16⟩
  | .hbm, ⟨3, _⟩ => ⟨S4x4x352x1024, .bf16⟩
  | .hbm, ⟨4, _⟩ => ⟨S4x1x4x1x352x1024, .bf16⟩
  | .hbm, ⟨5, _⟩ => ⟨S4x4x352x1024, .bf16⟩
  | .hbm, ⟨6, _⟩ => ⟨S4x4x1x352x1024, .bf16⟩
  | .hbm, ⟨7, _⟩ => ⟨S4x4x1x352x1024, .bf16⟩
  | .hbm, ⟨8, _⟩ => ⟨S4x4x2x352x1024, .bf16⟩
  | .hbm, ⟨9, _⟩ => ⟨S4x1x4x2x352x1024, .bf16⟩
  | .hbm, ⟨10, _⟩ => ⟨S4, .i32⟩
  | .hbm, ⟨11, _⟩ => ⟨S4x1, .i32⟩
  | .hbm, ⟨12, _⟩ => ⟨S4, .i32⟩
  | .hbm, ⟨13, _⟩ => ⟨S1x4, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x1x4x1x1x1, .i1⟩
  | .hbm, ⟨18, _⟩ => ⟨S4x2x4x2x352x1024, .i1⟩
  | .hbm, ⟨19, _⟩ => ⟨S4x2x4x2x352x1024, .bf16⟩
  | .hbm, ⟨20, _⟩ => ⟨S4x2x4x2x352x1024, .bf16⟩
  | .hbm, ⟨21, _⟩ => ⟨S32x2x352x1024, .bf16⟩
  | _, _ => ⟨S32x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_call0_v0 : Ref sig .tc := ⟨.hbm, 18, rfl⟩
abbrev main_call0_v1 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== GradW.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWRefIdeal.lean ====
abbrev S4096x1024 : Shape := ⟨2, ![4096, 1024]⟩
abbrev S2x4096x2816 : Shape := ⟨3, ![2, 4096, 2816]⟩
abbrev S2x4096x2x1408 : Shape := ⟨4, ![2, 4096, 2, 1408]⟩
abbrev S2x2x1408x1024 : Shape := ⟨4, ![2, 2, 1408, 1024]⟩
abbrev S2x2x1024x1408 : Shape := ⟨4, ![2, 2, 1024, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S2x4096x2816, .f32⟩
  | .hbm, ⟨3, _⟩ => ⟨S2x4096x2x1408, .f32⟩
  | .hbm, ⟨4, _⟩ => ⟨S4096x1024, .f32⟩
  | .hbm, ⟨5, _⟩ => ⟨S2x2x1408x1024, .f32⟩
  | .hbm, ⟨6, _⟩ => ⟨S2x2x1024x1408, .f32⟩
  | .hbm, ⟨7, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GradSq.lean ====
abbrev S4096x1024 : Shape := ⟨2, ![4096, 1024]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_13 : BitVec 32 := 0#32
  let v11 : BitVec 1 := Scalar.cmpi .ne v10 c0_i32_13
  v11

def k0_cond2 (i : grid0.Coords) : BitVec 1 :=
  let arg0 : BitVec 32 := BitVec.ofNat 32 (i 0).val
  let c0_i32_14 : BitVec 32 := 0#32
  let v12 : BitVec 1 := Scalar.cmpi .sgt arg0 c0_i32_14
  let v13 : BitVec 32 := Scalar.extui v12
  let c0_i32_15 : BitVec 32 := 0#32
  let v14 : BitVec 1 := Scalar.cmpi .ne v13 c0_i32_15
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GradSqRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S1024x4096, .f32⟩
  | .hbm, ⟨16, _⟩ => ⟨S4096x1024, .f32⟩
  | .hbm, ⟨17, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== AdamW.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Finite extended reals: an array of finite numbers is an array of reals, and the operations of the
   ideal instance on reals are the operations on reals. -/
module

public import Idealize.ShloMosaic.Lib.Pointwise

@[expose] public section

namespace Cert.Reals

open Idealize.ShloMosaic

/-- A number whose magnitude compares below the infinity is a real. -/
theorem real_of_below {x y : EReal} (hy : y = ⊤) (h : Ideal.cmp .olt (max x (-x)) y = 1#1) : ((x.toReal : ℝ) : EReal) = x := by
  subst hy
  have h2 : max x (-x) < ⊤ := by
    by_contra hn
    simp [Ideal.cmp, hn] at h
  refine EReal.coe_toReal ?_ ?_
  · rintro rfl; simp at h2
  · rintro rfl; simp at h2

/-- An array of numbers of which each compares below the infinity in magnitude: each is the real it reads as. -/
theorem reals_of_below {s : Shape} {x : FVec Ideal s .f32} {b : FVec Ideal s .f32} (hb : ∀ i, b i = Ideal.ofBits .f32 0x7F800000#32)
    (h : cmpf .olt (Host.absf x) b = fun _ => 1#1) (i : s.Idx) : x i = (((x i).toReal : ℝ) : EReal) :=
  (real_of_below ((hb i).trans (by simp [Ideal.ofBits, Ideal.ieee])) (congrFun h i)).symm

/-- A sum of reals is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Sums over blocks of rows make the sum over all rows. -/
theorem sum_blocks {N T M : ℕ} (hM : N * T = M) (F : Fin M → ℝ) (row : Fin N → Fin T → Fin M) (hrow : ∀ p j, (row p j).val = p.val * T + j.val) :
    ∑ p, ((∑ j, F (row p j) : ℝ) : EReal) = ((∑ i, F i : ℝ) : EReal) := by
  subst hM
  rw [sum_coe, Fin.sum_univ_tiles N T rfl F]
  exact congrArg _ (Finset.sum_congr rfl fun p _ => Finset.sum_congr rfl fun j _ => congrArg F (Fin.ext (hrow p j)))

/-- A quotient of reals by a real other than zero. -/
theorem div_coe_coe {x y : ℝ} (h : y ≠ 0) : Ideal.div (x : EReal) (y : EReal) = ((x / y : ℝ) : EReal) := by
  rw [Ideal.div_coe h, ← EReal.coe_mul, mul_one_div]

/-- The reciprocal root of a positive real. -/
theorem rsqrt_pos {x : ℝ} (h : 0 < x) : Ideal.rsqrt (x : EReal) = (((Real.sqrt x)⁻¹ : ℝ) : EReal) := by
  rw [Ideal.rsqrt_coe, if_neg h.le.not_gt, if_neg h.ne']

theorem c1024 : Ideal.ofBits .f32 0x44800000#32 = ((1024 : ℝ) : EReal) := by
  simp [Ideal.ofBits, Ideal.ieee]; rw [← EReal.coe_mul]; norm_num
theorem c2 : Ideal.ofBits .f32 0x40000000#32 = ((2 : ℝ) : EReal) := by
  simp [Ideal.ofBits, Ideal.ieee]; rw [← EReal.coe_mul]; norm_num
theorem chalf : Ideal.ofBits .f32 0x3F000000#32 = ((1 / 2 : ℝ) : EReal) := by
  simp [Ideal.ofBits, Ideal.ieee]; rw [← EReal.coe_mul]; norm_num
theorem cneghalf : Ideal.ofBits .f32 0xBF000000#32 = ((-(1 / 2) : ℝ) : EReal) := by
  simp [Ideal.ofBits, Ideal.ieee]; rw [← EReal.coe_mul]; norm_num
/-- The small constant under the roots. -/
noncomputable def eps : ℝ := 8796093 / 2 ^ 43
theorem ceps : Ideal.ofBits .f32 0x358637BD#32 = ((eps : ℝ) : EReal) := by
  simp [Ideal.ofBits, Ideal.ieee, eps]; rw [← EReal.coe_mul]; norm_num
theorem eps_pos : 0 < eps := by unfold eps; norm_num

/-! ## A row's root mean square -/

/-- The mean square of a row of 1024, the small constant added. -/
noncomputable def msq (h : Fin 1024 → ℝ) : ℝ := (∑ x, h x * h x) / 1024 + eps
/-- Its reciprocal root. -/
noncomputable def rinv (h : Fin 1024 → ℝ) : ℝ := (Real.sqrt (msq h))⁻¹

theorem msq_pos (h : Fin 1024 → ℝ) : 0 < msq h :=
  add_pos_of_nonneg_of_pos (div_nonneg (Finset.sum_nonneg fun x _ => mul_self_nonneg _) (by norm_num)) eps_pos

theorem rinv_sq (h : Fin 1024 → ℝ) : rinv h * rinv h = 1 / msq h := by
  rw [rinv, ← mul_inv, Real.mul_self_sqrt (msq_pos h).le, one_div]

theorem rinv_coe (h : Fin 1024 → ℝ) : Ideal.rsqrt (((msq h : ℝ)) : EReal) = ((rinv h : ℝ) : EReal) := rsqrt_pos (msq_pos h)

/-- The mean square as the programs write it. -/
theorem msq_coe (h : Fin 1024 → ℝ) :
    Ideal.div (∑ x, ((h x : ℝ) : EReal) * ((h x : ℝ) : EReal)) (Ideal.ofBits .f32 0x44800000#32) + Ideal.ofBits .f32 0x358637BD#32 = ((msq h : ℝ) : EReal) := by
  simp only [← EReal.coe_mul, sum_coe, c1024, ceps, div_coe_coe (show (1024 : ℝ) ≠ 0 by norm_num), ← EReal.coe_add, msq]

/-- The gradient of a row through its normalization: `e` is the gradient of the normalized row. -/
noncomputable def rback (h e : Fin 1024 → ℝ) (k : Fin 1024) : ℝ :=
  rinv h * (e k - h k * rinv h * ((∑ x, e x * (h x * rinv h)) / 1024))

/-- The same gradient as the derivative of the product and of the reciprocal root give it. -/
theorem rback_eq (h e : Fin 1024 → ℝ) (k : Fin 1024) :
    e k * rinv h + h k * ((∑ x, h x * e x) * (-(1 / 2) * (rinv h / msq h)) / 1024)
      + (∑ x, h x * e x) * (-(1 / 2) * (rinv h / msq h)) / 1024 * h k = rback h e k := by
  have h1 : ∑ x, e x * (h x * rinv h) = rinv h * ∑ x, h x * e x := by
    rw [Finset.mul_sum]; exact Finset.sum_congr rfl fun x _ => by ring
  have h2 : rinv h / msq h = rinv h * (rinv h * rinv h) := by rw [rinv_sq]; ring
  rw [rback, h1, h2]; ring

end Cert.Reals

end
-- ==== Proof.LossValue.lean ====
/- The loss and the final normalization's gradient: each result of the call as a real function of the
   arguments, of the reference and of the kernel. -/
module

public import proofs.«01_k».proof.Proof.Reals
public import proofs.«01_k».proof.Proof.Gen.LossIdeal.Value
public import proofs.«01_k».proof.Proof.Gen.LossRefIdeal.Read
public import Idealize.ShloMosaic.Lib.Pipeline.ValueKit

@[expose] public section

set_option maxRecDepth 16384

noncomputable section

open Idealize.ShloMosaic Idealize.ShloMosaic.TcCoe Idealize.SL.Sem

namespace Cert.Loss.Real
open Cert.Reals

variable (a : Fin 4096 → Fin 2816 → ℝ) (b : Fin 4096 → Fin 1024 → ℝ) (g : Fin 1024 → ℝ) (t : Fin 4096 → Fin 1024 → ℝ) (w : Fin 2816 → Fin 1024 → ℝ)

/-- The last residual stream. -/
def hid (i : Fin 4096) (k : Fin 1024) : ℝ := b i k + ∑ x, a i x * w x k
/-- The prediction's error. -/
def err (i : Fin 4096) (k : Fin 1024) : ℝ := hid a b w i k * rinv (hid a b w i) * g k - t i k
/-- The stream's gradient. -/
def dh (i : Fin 4096) (k : Fin 1024) : ℝ := rback (hid a b w i) (fun x => err a b g t w i x / 1024 * g x) k
/-- The squared error of a column. -/
def sq (k : Fin 1024) : ℝ := ∑ i, err a b g t w i k * err a b g t w i k
/-- The scale's gradient. -/
def dg (k : Fin 1024) : ℝ := ∑ i, err a b g t w i k / 1024 * (hid a b w i k * rinv (hid a b w i))

end Cert.Loss.Real

namespace Cert.LossRefIdeal.Rows
open Cert.LossRefIdeal Cert.LossRefIdeal.Gen Cert.LossRefIdeal.Read Cert.Reals Cert.Loss.Real

variable {a : Fin 4096 → Fin 2816 → ℝ} {b : Fin 4096 → Fin 1024 → ℝ} {g : Fin 1024 → ℝ} {t : Fin 4096 → Fin 1024 → ℝ} {w : Fin 2816 → Fin 1024 → ℝ}
  {x0 : FVec Ideal S4096x2816 .f32} {x1 : FVec Ideal S4096x1024 .f32} {x2 : FVec Ideal S1024 .f32} {x3 : FVec Ideal S4096x1024 .f32} {x4 : FVec Ideal S2816x1024 .f32}
  (h0 : ∀ i k, x0 (ix2 i k) = ((a i k : ℝ) : EReal)) (h1 : ∀ i k, x1 (ix2 i k) = ((b i k : ℝ) : EReal)) (h2 : ∀ k, x2 (ix1 k) = ((g k : ℝ) : EReal))
  (h3 : ∀ i k, x3 (ix2 i k) = ((t i k : ℝ) : EReal)) (h4 : ∀ i k, x4 (ix2 i k) = ((w i k : ℝ) : EReal))
include h0 h1 h4

theorem r1 (i : Fin 4096) (k : Fin 1024) : val_main_v1 (F := Ideal) x0 x1 x4 (ix2 i k) = ((hid a b w i k : ℝ) : EReal) := by
  pointwise [val_main_v1, val_main_v0]
  simp only [h0, h1, h4, ← EReal.coe_mul, sum_coe, ← EReal.coe_add, hid]

theorem r8 (i : Fin 4096) (k : Fin 1) : val_main_v8 (F := Ideal) x0 x1 x4 (ix2 i k) = ((msq (hid a b w i) : ℝ) : EReal) := by
  pointwise [val_main_v8, val_main_v7, val_main_v6, val_main_v5, val_main_v4, val_main_v3, val_main_v2, val_main_cst, val_main_cst_0, val_main_cst_1]
  simp only [r1 h0 h1 h4, zero_add]
  exact msq_coe _

theorem r9 (i : Fin 4096) (k : Fin 1) : val_main_v9 (F := Ideal) x0 x1 x4 (ix2 i k) = ((rinv (hid a b w i) : ℝ) : EReal) := by
  pointwise [val_main_v9]
  rw [r8 h0 h1 h4, rinv_coe]

theorem r12 (i : Fin 4096) (k : Fin 1) : val_main_v12 (F := Ideal) x0 x1 x4 (ix2 i k) = ((-(1 / 2) * (rinv (hid a b w i) / msq (hid a b w i)) : ℝ) : EReal) := by
  pointwise [val_main_v12, val_main_v11, val_main_v10, val_main_cst_2]
  rw [r8 h0 h1 h4, r9 h0 h1 h4, div_coe_coe (msq_pos _).ne', cneghalf, EReal.coe_mul]

theorem r14 (i : Fin 4096) (k : Fin 1024) : val_main_v14 (F := Ideal) x0 x1 x4 (ix2 i k) = ((hid a b w i k * rinv (hid a b w i) : ℝ) : EReal) := by
  pointwise [val_main_v14, val_main_v13]
  rw [r1 h0 h1 h4, r9 h0 h1 h4, EReal.coe_mul]

include h2 h3
theorem r18 (i : Fin 4096) (k : Fin 1024) : val_main_v18 (F := Ideal) x0 x1 x2 x3 x4 (ix2 i k) = ((err a b g t w i k : ℝ) : EReal) := by
  pointwise [val_main_v18, val_main_v17, val_main_v16, val_main_v15]
  rw [r14 h0 h1 h4, h2, h3, ← EReal.coe_mul, ← EReal.coe_sub, err]

theorem r33 (i : Fin 4096) (k : Fin 1024) : val_main_v33 (F := Ideal) x0 x1 x2 x3 x4 (ix2 i k) = ((err a b g t w i k / 1024 : ℝ) : EReal) := by
  pointwise [val_main_v33, val_main_v32, val_main_v31, val_main_v30, val_main_v29, val_main_v28, val_main_v21, val_main_v20, val_main_cst_4, val_main_cst_3, val_main_cst_9, val_main_cst_10, val_main_cst_11]
  rw [r18 h0 h1 h2 h3 h4, c1024, chalf, c2, div_coe_coe (by norm_num), ← EReal.coe_mul, ← EReal.coe_mul]
  congr 1; ring

theorem r38 (i : Fin 4096) (k : Fin 1024) : val_main_v38 (F := Ideal) x0 x1 x2 x3 x4 (ix2 i k) = ((err a b g t w i k / 1024 * g k : ℝ) : EReal) := by
  pointwise [val_main_v38, val_main_v37, val_main_v15]
  rw [r33 h0 h1 h2 h3 h4, h2, EReal.coe_mul]

theorem rdh (i : Fin 4096) (k : Fin 1024) : val_main_v53 (F := Ideal) x0 x1 x2 x3 x4 (ix2 i k) = ((dh a b g t w i k : ℝ) : EReal) := by
  pointwise [val_main_v53, val_main_v52, val_main_v51, val_main_v50, val_main_v49, val_main_v48, val_main_v47, val_main_v45, val_main_v44, val_main_v43, val_main_v42,
    val_main_v41, val_main_v40, val_main_v46, val_main_cst_14, val_main_cst_15, val_main_cst_16]
  simp only [r1 h0 h1 h4, r9 h0 h1 h4, r12 h0 h1 h4, r38 h0 h1 h2 h3 h4, zero_add, c1024, Fin.sum_univ_one, ← EReal.coe_mul, sum_coe,
    div_coe_coe (show (1024 : ℝ) ≠ 0 by norm_num), ← EReal.coe_add]
  exact congrArg _ (rback_eq (hid a b w i) (fun x => err a b g t w i x / 1024 * g x) k)

theorem rsq (i : Fin 1) (k : Fin 1024) : val_main_v54 (F := Ideal) x0 x1 x2 x3 x4 (ix2 i k) = ((sq a b g t w k : ℝ) : EReal) := by
  pointwise [val_main_v54, val_main_v27, val_main_v19, val_main_cst_8]
  simp only [r18 h0 h1 h2 h3 h4, zero_add, ← EReal.coe_mul, sum_coe, Cert.Loss.Real.sq]

theorem rdg (i : Fin 1) (k : Fin 1024) : val_main_v55 (F := Ideal) x0 x1 x2 x3 x4 (ix2 i k) = ((dg a b g t w k : ℝ) : EReal) := by
  pointwise [val_main_v55, val_main_v39, val_main_v36, val_main_v35, val_main_v34, val_main_cst_13, val_main_cst_12]
  simp only [r14 h0 h1 h4, r33 h0 h1 h2 h3 h4, zero_add, Fin.sum_univ_one, ← EReal.coe_mul, sum_coe, dg]
  exact congrArg _ (Finset.sum_congr rfl fun x _ => mul_comm _ _)

end Cert.LossRefIdeal.Rows

namespace Cert.LossIdeal.Rows
open Cert.LossIdeal Cert.LossIdeal.Gen Cert.Reals Cert.Loss.Real
open Idealize.ShloMosaic.Pipeline (Dat)

variable (m : (ℓ : Loc nD τ sig) → Buf (Elt Ideal) ℓ)

/-- The windows' blocks: rows `512 t …` of the activations, the stream, the target and the gradient; else the whole array. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] ∧ win0_7.index t = ![0, 0] :=
  (by decide +kernel : ∀ t : Fin grid0.N, _)

/-- Row `j` of block `t`. -/
abbrev row (t : Fin cfg0.N) (j : Fin 512) : Fin 4096 := ⟨t.val * 512 + j.val, by have := lt_of_lt_of_eq t.isLt N_0; omega⟩

variable {a : Fin 4096 → Fin 2816 → ℝ} {b : Fin 4096 → Fin 1024 → ℝ} {g : Fin 1024 → ℝ} {t : Fin 4096 → Fin 1024 → ℝ} {w : Fin 2816 → Fin 1024 → ℝ}
  {x0 : FVec Ideal S512x2816 .bf16} {x1 : FVec Ideal S2816x1024 .bf16} {x2 : FVec Ideal S512x1024 .f32} {x3 : FVec Ideal S1x1024 .f32} {x4 : FVec Ideal S512x1024 .f32}
  {p : Fin cfg0.N}
  (h0 : ∀ j k, x0 (ix2 j k) = ((a (row p j) k : ℝ) : EReal)) (h1 : ∀ j k, x1 (ix2 j k) = ((w j k : ℝ) : EReal)) (h2 : ∀ j k, x2 (ix2 j k) = ((b (row p j) k : ℝ) : EReal))
  (h3 : ∀ i k, x3 (ix2 i k) = ((g k : ℝ) : EReal)) (h4 : ∀ j k, x4 (ix2 j k) = ((t (row p j) k : ℝ) : EReal))
include h0 h1 h2

theorem k6 (j : Fin 512) (k : Fin 1024) : k0_pay6 (F := Ideal) x2 x0 x1 (ix2 j k) = ((hid a b w (row p j) k : ℝ) : EReal) := by
  pointwise [k0_pay6]
  simp only [h0, h1, h2, ← EReal.coe_mul, sum_coe, ← EReal.coe_add, hid]

theorem k7 (j : Fin 512) (k : Fin 1) : k0_pay7 (F := Ideal) x2 x0 x1 (ix2 j k) = ((rinv (hid a b w (row p j)) : ℝ) : EReal) := by
  pointwise [k0_pay7]
  simp only [k6 h0 h1 h2, msq_coe, rinv_coe]

include h3 h4
theorem k9 (j : Fin 512) (k : Fin 1024) : k0_pay9 (F := Ideal) x2 x0 x1 x3 x4 (ix2 j k) = ((err a b g t w (row p j) k : ℝ) : EReal) := by
  pointwise [k0_pay9, k0_pay8]
  simp only [k6 h0 h1 h2, k7 h0 h1 h2, h3, h4, ← EReal.coe_mul, ← EReal.coe_sub, err]

theorem k11 (j : Fin 512) (k : Fin 1024) : k0_pay11 (F := Ideal) x2 x0 x1 x3 x4 (ix2 j k) = ((err a b g t w (row p j) k / 1024 : ℝ) : EReal) := by
  pointwise [k0_pay11]
  rw [k9 h0 h1 h2 h3 h4, c1024, div_coe_coe (by norm_num)]

theorem kdh (j : Fin 512) (k : Fin 1024) :
    k0_pay2 (F := Ideal) (k0_pay6 x2 x0 x1) (k0_pay7 x2 x0 x1) (k0_pay8 x3) (k0_pay11 x2 x0 x1 x3 x4) (ix2 j k) = ((dh a b g t w (row p j) k : ℝ) : EReal) := by
  pointwise [k0_pay2, k0_pay1, k0_pay8]
  simp only [k6 h0 h1 h2, k7 h0 h1 h2, k11 h0 h1 h2 h3 h4, h3, c1024, ← EReal.coe_mul, ← EReal.coe_sub, sum_coe,
    div_coe_coe (show (1024 : ℝ) ≠ 0 by norm_num), dh, rback]

/-- What a block adds to the squared errors' column sums. -/
theorem ksq (v : FVec Ideal S1x1024 .f32) (i : Fin 1) (k : Fin 1024) :
    k0_pay10 (F := Ideal) x2 x0 x1 x3 x4 v (ix2 i k) = v (ix2 i k) + ((∑ j : Fin 512, err a b g t w (row p j) k * err a b g t w (row p j) k : ℝ) : EReal) := by
  pointwise [k0_pay10]
  simp only [k9 h0 h1 h2 h3 h4, ← EReal.coe_mul, sum_coe]

/-- What a block adds to the scale's gradient. -/
theorem kdg (v : FVec Ideal S1x1024 .f32) (i : Fin 1) (k : Fin 1024) :
    k0_pay3 (F := Ideal) (k0_pay6 x2 x0 x1) (k0_pay7 x2 x0 x1) (k0_pay11 x2 x0 x1 x3 x4) v (ix2 i k)
      = v (ix2 i k) + ((∑ j : Fin 512, err a b g t w (row p j) k / 1024 * (hid a b w (row p j) k * rinv (hid a b w (row p j))) : ℝ) : EReal) := by
  pointwise [k0_pay3, k0_pay1]
  simp only [k6 h0 h1 h2, k7 h0 h1 h2, k11 h0 h1 h2 h3 h4, ← EReal.coe_mul, sum_coe]

end Cert.LossIdeal.Rows

namespace Cert.LossIdeal.Arrays
open Cert.LossIdeal Cert.LossIdeal.Gen Cert.LossIdeal.Rows Cert.Reals Cert.Loss.Real
open Idealize.ShloMosaic.Pipeline (Dat)

variable {m : (ℓ : Loc nD τ sig) → Buf (Elt Ideal) ℓ} {c : Dev nD}
  {a : Fin 4096 → Fin 2816 → ℝ} {b : Fin 4096 → Fin 1024 → ℝ} {g : Fin 1024 → ℝ} {t : Fin 4096 → Fin 1024 → ℝ} {w : Fin 2816 → Fin 1024 → ℝ}
  (h0 : ∀ i k, (show FVec Ideal S4096x2816 .f32 from m ((c : Thread nD τ).loc main_arg0)) (ix2 i k) = ((a i k : ℝ) : EReal))
  (h1 : ∀ i k, (show FVec Ideal S4096x1024 .f32 from m ((c : Thread nD τ).loc main_arg1)) (ix2 i k) = ((b i k : ℝ) : EReal))
  (h2 : ∀ k, (show FVec Ideal S1024 .f32 from m ((c : Thread nD τ).loc main_arg2)) (ix1 k) = ((g k : ℝ) : EReal))
  (h3 : ∀ i k, (show FVec Ideal S4096x1024 .f32 from m ((c : Thread nD τ).loc main_arg3)) (ix2 i k) = ((t i k : ℝ) : EReal))
  (h4 : ∀ i k, (show FVec Ideal S2816x1024 .f32 from m ((c : Thread nD τ).loc main_arg4)) (ix2 i k) = ((w i k : ℝ) : EReal))

include h0 in
theorem b0 (p : Fin cfg0.N) (j : Fin 512) (k : Fin 2816) : (show FVec Ideal S512x2816 .bf16 from iblk m c 0 p) (ix2 j k) = ((a (row p j) k : ℝ) : EReal) := by
  rw [← h0]; blk_ext [iblk, V, idx p]
include h4 in
theorem b1 (p : Fin cfg0.N) (j : Fin 2816) (k : Fin 1024) : (show FVec Ideal S2816x1024 .bf16 from iblk m c 1 p) (ix2 j k) = ((w j k : ℝ) : EReal) := by
  rw [← h4]; blk_ext [iblk, V, idx p]
include h1 in
theorem b2 (p : Fin cfg0.N) (j : Fin 512) (k : Fin 1024) : (show FVec Ideal S512x1024 .f32 from iblk m c 2 p) (ix2 j k) = ((b (row p j) k : ℝ) : EReal) := by
  rw [← h1]; blk_ext [iblk, V, idx p]
include h2 in
theorem b3 (p : Fin cfg0.N) (j : Fin 1) (k : Fin 1024) : (show FVec Ideal S1x1024 .f32 from iblk m c 3 p) (ix2 j k) = ((g k : ℝ) : EReal) := by
  rw [← h2]; blk_point [iblk, V, idx p]
include h3 in
theorem b4 (p : Fin cfg0.N) (j : Fin 512) (k : Fin 1024) : (show FVec Ideal S512x1024 .f32 from iblk m c 4 p) (ix2 j k) = ((t (row p j) k : ℝ) : EReal) := by
  rw [← h3]; blk_ext [iblk, V, idx p]

include h0 h1 h2 h3 h4

theorem final_dh : (dats m 0 c).arrAt 5 cfg0.N = fun i : S4096x1024.Idx => ((dh a b g t w (i 0) (i 1) : ℝ) : EReal) := by
  refine (dats m 0 c).arrAt_eq_of_covers 5 _ (by decide +kernel) fun p _ y => ?_
  have key : ∀ y : S512x1024.Idx, k0_pay2 (F := Ideal) (k0_pay6 (iblk m c 2 p) (iblk m c 0 p) (iblk m c 1 p)) (k0_pay7 (iblk m c 2 p) (iblk m c 0 p) (iblk m c 1 p))
      (k0_pay8 (iblk m c 3 p)) (k0_pay11 (iblk m c 2 p) (iblk m c 0 p) (iblk m c 1 p) (iblk m c 3 p) (iblk m c 4 p)) y
      = ((dh a b g t w (((View.whole main_v3_0).slice (win0_5.rect p)).emb y 0) (((View.whole main_v3_0).slice (win0_5.rect p)).emb y 1) : ℝ) : EReal) := by
    intro y
    idx_vars y
    rw [kdh (b0 h0 p) (b1 h4 p) (b2 h1 p) (b3 h2 p) (b4 h3 p)]
    refine congrArg _ (congrArg₂ (dh a b g t w) (Fin.ext ?_) (Fin.ext ?_)) <;> blk_simp [idx p]
  blk_simp
  rw [after0_5]
  by_cases hp : p.val % 8 = 0
  · rw [outsAt0_A m c p hp]; frame_out
    exact key y
  · rw [outsAt0_B m c p hp]; frame_out
    exact key y

theorem final_sq : (dats m 0 c).arrAt 6 cfg0.N = fun i : S1x1024.Idx => ((sq a b g t w (i 1) : ℝ) : EReal) := by
  refine (dats m 0 c).arrAt_eq_of_after_last 6 t0_7 (by decide +kernel) _ fun j => ?_
  have key (p : Fin cfg0.N) (v : FVec Ideal S1x1024 .f32) (j : S1x1024.Idx) : k0_pay10 (F := Ideal) (iblk m c 2 p) (iblk m c 0 p) (iblk m c 1 p) (iblk m c 3 p) (iblk m c 4 p) v j
      = v j + ((∑ q : Fin 512, err a b g t w (row p q) (j 1) * err a b g t w (row p q) (j 1) : ℝ) : EReal) := by
    idx_vars j
    exact ksq (b0 h0 p) (b1 h4 p) (b2 h1 p) (b3 h2 p) (b4 h3 p) v _ _
  blk_simp
  rw [after0_6]
  rw [Pipeline.eq_sum_fin_of_reset_step_apply_last (fun n h => (outsAt0 m c n h).2.1) 8 (fun _ => (0 : EReal))
    (fun p j => ((∑ q : Fin 512, err a b g t w (row p q) (j 1) * err a b g t w (row p q) (j 1) : ℝ) : EReal))
    (fun p h j => by rw [outsAt0_A m c p h]; frame_out; rw [key]; exact congrArg (· + _) (by pointwise [k0_pay4]))
    (fun p h j => by rw [outsAt0_B m c p h]; frame_out; rw [key])
    (le_of_eq N_0) t0_7 rfl j, zero_add]
  exact sum_blocks (congrArg (· * 512) N_0) (fun i => err a b g t w i (j 1) * err a b g t w i (j 1)) row fun _ _ => rfl

theorem final_dg : (dats m 0 c).arrAt 7 cfg0.N = fun i : S1x1024.Idx => ((dg a b g t w (i 1) : ℝ) : EReal) := by
  refine (dats m 0 c).arrAt_eq_of_after_last 7 t0_7 (by decide +kernel) _ fun j => ?_
  have key (p : Fin cfg0.N) (v : FVec Ideal S1x1024 .f32) (j : S1x1024.Idx) :
      k0_pay3 (F := Ideal) (k0_pay6 (iblk m c 2 p) (iblk m c 0 p) (iblk m c 1 p)) (k0_pay7 (iblk m c 2 p) (iblk m c 0 p) (iblk m c 1 p))
        (k0_pay11 (iblk m c 2 p) (iblk m c 0 p) (iblk m c 1 p) (iblk m c 3 p) (iblk m c 4 p)) v j
      = v j + ((∑ q : Fin 512, err a b g t w (row p q) (j 1) / 1024 * (hid a b w (row p q) (j 1) * rinv (hid a b w (row p q))) : ℝ) : EReal) := by
    idx_vars j
    exact kdg (b0 h0 p) (b1 h4 p) (b2 h1 p) (b3 h2 p) (b4 h3 p) v _ _
  blk_simp
  rw [after0_7]
  rw [Pipeline.eq_sum_fin_of_reset_step_apply_last (fun n h => (outsAt0 m c n h).2.2) 8 (fun _ => (0 : EReal))
    (fun p j => ((∑ q : Fin 512, err a b g t w (row p q) (j 1) / 1024 * (hid a b w (row p q) (j 1) * rinv (hid a b w (row p q))) : ℝ) : EReal))
    (fun p h j => by rw [outsAt0_A m c p h]; frame_out; rw [key]; exact congrArg (· + _) (by pointwise [k0_pay5]))
    (fun p h j => by rw [outsAt0_B m c p h]; frame_out; rw [key])
    (le_of_eq N_0) t0_7 rfl j, zero_add]
  exact sum_blocks (congrArg (· * 512) N_0) (fun i => err a b g t w i (j 1) / 1024 * (hid a b w i (j 1) * rinv (hid a b w i))) row fun _ _ => rfl

end Cert.LossIdeal.Arrays

end
-- ==== Proof.LossClaim.lean ====
/- The claims about the loss and the final normalization's gradient. -/
module

public import proofs.«01_k».proof.Defs
public import proofs.«01_k».proof.Proof.LossValue
public import proofs.«01_k».proof.Proof.Gen.Loss.Frame
public import Idealize.ShloMosaic.Lib.Claim

@[expose] public section

set_option maxRecDepth 16384

noncomputable section

open Idealize.ShloMosaic Idealize.ShloMosaic.TcCoe Idealize.SL.Sem Cert.Reals

namespace Cert.Proof

theorem facts_finite_loss : Cert.Pre_finite_loss.Facts where
  bcast_S_S4096x2816 := by decide
  bcast_S_S4096x1024 := by decide
  bcast_S_S1024 := by decide
  bcast_S_S2816x1024 := by decide

section
open Cert.LossIdeal

/-- What the precondition says of a device's arguments: each is an array of reals. -/
theorem loss_reals (m : (ℓ : Loc nD τ sig) → Buf (Elt Ideal) ℓ) (c : Dev nD) (hpre : Cert.Pre_LossIdeal_finite_loss (hPre_finite_loss := facts_finite_loss) m) :
    ∃ (a : Fin 4096 → Fin 2816 → ℝ) (b : Fin 4096 → Fin 1024 → ℝ) (g : Fin 1024 → ℝ) (t : Fin 4096 → Fin 1024 → ℝ) (w : Fin 2816 → Fin 1024 → ℝ),
      (∀ i k, (show FVec Ideal S4096x2816 .f32 from m ((c : Thread nD τ).loc main_arg0)) (ix2 i k) = ((a i k : ℝ) : EReal))
      ∧ (∀ i k, (show FVec Ideal S4096x1024 .f32 from m ((c : Thread nD τ).loc main_arg1)) (ix2 i k) = ((b i k : ℝ) : EReal))
      ∧ (∀ k, (show FVec Ideal S1024 .f32 from m ((c : Thread nD τ).loc main_arg2)) (ix1 k) = ((g k : ℝ) : EReal))
      ∧ (∀ i k, (show FVec Ideal S4096x1024 .f32 from m ((c : Thread nD τ).loc main_arg3)) (ix2 i k) = ((t i k : ℝ) : EReal))
      ∧ (∀ i k, (show FVec Ideal S2816x1024 .f32 from m ((c : Thread nD τ).loc main_arg4)) (ix2 i k) = ((w i k : ℝ) : EReal)) :=
  ⟨_, _, _, _, _, fun i k => reals_of_below (fun _ => rfl) (hpre c).1 (ix2 i k), fun i k => reals_of_below (fun _ => rfl) (hpre c).2.1 (ix2 i k),
    fun k => reals_of_below (fun _ => rfl) (hpre c).2.2.1 (ix1 k), fun i k => reals_of_below (fun _ => rfl) (hpre c).2.2.2.1 (ix2 i k),
    fun i k => reals_of_below (fun _ => rfl) (hpre c).2.2.2.2 (ix2 i k)⟩

end

open Cert.LossIdeal.Arrays Cert.LossRefIdeal.Rows Cert.LossRefIdeal.Read in
theorem loss_value : Cert.algebraic_LossIdeal_LossRefIdeal_pre_finite_loss (hPre_finite_loss := facts_finite_loss) := by
  intro m g m' g' hpre hagree
  refine ⟨_, _, _, Cert.LossIdeal.Value.run_blocks m g, (θ_run _ _ _).mono (fun r h c => ?_) (Cert.LossRefIdeal.Value.run m' g')⟩
  obtain ⟨a, b, w, t, u, h0, h1, h2, h3, h4⟩ := loss_reals m c hpre
  obtain ⟨e0, e1, e2, e3, e4⟩ := hagree c
  obtain ⟨r0, r1, r2, k⟩ := h c
  refine ⟨(r0.trans (val_main_v53_eq m' c)).trans ?_, (r1.trans (val_main_v54_eq _ _ _ _ _)).trans ?_, (r2.trans (val_main_v55_eq _ _ _ _ _)).trans ?_, k⟩
  · rw [e0, e1, e2, e3, e4]
    refine Eq.trans (funext fun i => ?_) (final_dh h0 h1 h2 h3 h4).symm
    idx_vars i
    exact rdh h0 h1 h2 h3 h4 _ _
  · rw [e0, e1, e2, e3, e4]
    refine Eq.trans (funext fun i => ?_) (final_sq h0 h1 h2 h3 h4).symm
    idx_vars i
    exact rsq h0 h1 h2 h3 h4 _ _
  · rw [e0, e1, e2, e3, e4]
    refine Eq.trans (funext fun i => ?_) (final_dg h0 h1 h2 h3 h4).symm
    idx_vars i
    exact rdg h0 h1 h2 h3 h4 _ _

theorem loss : ∃ (hLoss : Cert.Loss.Facts) (hLossIdeal : Cert.LossIdeal.Facts) (hLossRefIdeal : Cert.LossRefIdeal.Facts) (hPre_finite_loss : Cert.Pre_finite_loss.Facts),
    quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ preserves_Loss_LossIdeal
    ∧ algebraic_LossIdeal_LossRefIdeal_pre_finite_loss (hLossIdeal := hLossIdeal) (hLossRefIdeal := hLossRefIdeal) (hPre_finite_loss := hPre_finite_loss) :=
  ⟨Cert.Loss.Gen.facts, Cert.LossIdeal.Gen.facts, Cert.LossRefIdeal.Gen.facts, facts_finite_loss,
    fun m ρ _ => Cert.Loss.Gen.frame m ρ, fun m ρ _ => Cert.LossIdeal.Gen.frame m ρ, fun m ρ _ => Cert.LossIdeal.Gen.frame m ρ,
    fun m ρ _ => (θ_run_mono (Cert.LossRefIdeal.Value.run m ρ) fun r h => ⟨fun c => (h c).2.2.2, sem_eq_zero_of_no_sems rfl r.2⟩), fun m ρ _ => (θ_run_mono (Cert.LossRefIdeal.Value.run m ρ) fun r h => ⟨fun c => (h c).2.2.2, sem_eq_zero_of_no_sems rfl r.2⟩), trivial, loss_value⟩

end Cert.Proof

end
-- ==== Proof.Softmax.lean ====
/- A row's softmax over the reals, written with the row's greatest entry subtracted as the programs write it,
   and its gradient. -/
module

public import proofs.«01_k».proof.Proof.Reals

@[expose] public section

namespace Cert.Reals

open Idealize.ShloMosaic

/-- A row's greatest entry. -/
noncomputable def mx {n : ℕ} (s : Fin n → ℝ) : ℝ := (Finset.univ.fold max (⊥ : EReal) fun x => ((s x : ℝ) : EReal)).toReal
/-- The exponentials of a row, its greatest entry subtracted. -/
noncomputable def sexp {n : ℕ} (s : Fin n → ℝ) (j : Fin n) : ℝ := Real.exp (s j - mx s)
/-- Their sum. -/
noncomputable def ssum {n : ℕ} (s : Fin n → ℝ) : ℝ := ∑ x, sexp s x
/-- The softmax. -/
noncomputable def soft {n : ℕ} (s : Fin n → ℝ) (j : Fin n) : ℝ := sexp s j / ssum s
/-- The gradient of a row through a sixteenth and the softmax: `e` is the gradient of the softmax. -/
noncomputable def sback {n : ℕ} (s e : Fin n → ℝ) (j : Fin n) : ℝ := soft s j * (e j - ∑ x, e x * soft s x) * (1 / 16)

theorem cneginf : Ideal.ofBits .f32 0xFF800000#32 = (⊥ : EReal) := by simp [Ideal.ofBits, Ideal.ieee]
theorem c16th : Ideal.ofBits .f32 0x3D800000#32 = ((1 / 16 : ℝ) : EReal) := by
  simp [Ideal.ofBits, Ideal.ieee]; rw [← EReal.coe_mul]; norm_num
theorem c1 : Ideal.ofBits .f32 0x3F800000#32 = ((1 : ℝ) : EReal) := by
  simp [Ideal.ofBits, Ideal.ieee]; rw [← EReal.coe_mul]; norm_num

theorem mx_coe {n : ℕ} [NeZero n] (s : Fin n → ℝ) : Finset.univ.fold max (⊥ : EReal) (fun x => ((s x : ℝ) : EReal)) = ((mx s : ℝ) : EReal) := by
  refine (EReal.coe_toReal (ne_of_lt ?_) (ne_of_gt ?_)).symm
  · exact (Finset.fold_max_lt _).mpr ⟨bot_lt_top, fun x _ => EReal.coe_lt_top _⟩
  · exact (Finset.lt_fold_max _).mpr (.inr ⟨0, Finset.mem_univ _, EReal.bot_lt_coe _⟩)

theorem bot_max (x : EReal) : max (⊥ : EReal) x = x := max_eq_right bot_le

theorem ssum_pos {n : ℕ} [NeZero n] (s : Fin n → ℝ) : 0 < ssum s :=
  Finset.sum_pos (fun _ _ => Real.exp_pos _) ⟨0, Finset.mem_univ _⟩

/-- The softmax as the programs write it. -/
theorem soft_coe {n : ℕ} [NeZero n] (s : Fin n → ℝ) (j : Fin n) : Ideal.div ((sexp s j : ℝ) : EReal) ((ssum s : ℝ) : EReal) = ((soft s j : ℝ) : EReal) :=
  div_coe_coe (ssum_pos s).ne'

theorem sexp_coe {n : ℕ} (s : Fin n → ℝ) (j : Fin n) : Ideal.exp (((s j : ℝ) : EReal) - ((mx s : ℝ) : EReal)) = ((sexp s j : ℝ) : EReal) := by
  rw [← EReal.coe_sub, Ideal.exp_coe, sexp]

/-- The gradient as the derivative of the quotient gives it. -/
theorem sback_eq {n : ℕ} (s e : Fin n → ℝ) (j : Fin n) :
    (e j / ssum s + -(∑ x, e x * (1 / (ssum s * ssum s)) * sexp s x)) * sexp s j * (1 / 16) = sback s e j := by
  have h : ∑ x, e x * (1 / (ssum s * ssum s)) * sexp s x = (∑ x, e x * soft s x) / ssum s := by
    rw [Finset.sum_div]
    refine Finset.sum_congr rfl fun x _ => ?_
    rw [soft, one_div, mul_inv]; ring
  rw [h, sback, soft]; ring

end Cert.Reals

end
-- ==== Proof.AttnValue.lean ====
/- The attention's gradient: each result of the call as a real function of the arguments, of the reference and of the kernel. -/
module

public import proofs.«01_k».proof.Proof.Softmax
public import proofs.«01_k».proof.Proof.Gen.AttnIdeal.Value
public import proofs.«01_k».proof.Proof.Gen.AttnRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Attn.Real
open Cert.Reals

/-- Lane `e` of head `H` among the model's columns, and among the keys' and the values' columns. -/
abbrev col (H : Fin 4) (e : Fin 256) : Fin 1024 := ⟨H.val * 256 + e.val, by omega⟩
abbrev kcol (H : Fin 4) (e : Fin 256) : Fin 2048 := ⟨H.val * 256 + e.val, by omega⟩
abbrev vcol (H : Fin 4) (e : Fin 256) : Fin 2048 := ⟨1024 + (H.val * 256 + e.val), by omega⟩
/-- The head of a column. -/
abbrev hd (k : Fin 1024) : Fin 4 := ⟨k.val / 256, by omega⟩

theorem hd_col (H : Fin 4) (e : Fin 256) : hd (col H e) = H := Fin.ext (by show (H.val * 256 + e.val) / 256 = H.val; omega)

variable (d h : Fin 4096 → Fin 1024 → ℝ) (g : Fin 1024 → ℝ) (kv : Fin 256 → Fin 2048 → ℝ) (wq wo : Fin 1024 → Fin 1024 → ℝ)

/-- The queries. -/
def q (i : Fin 4096) (k : Fin 1024) : ℝ := ∑ x, h i x * rinv (h i) * g x * wq x k
/-- The gradient of the heads' outputs. -/
def dO (i : Fin 4096) (k : Fin 1024) : ℝ := ∑ x, d i x * wo k x
/-- A query's scores in a head. -/
def score (H : Fin 4) (i : Fin 4096) (j : Fin 256) : ℝ := (∑ e, q h g wq i (col H e) * kv j (kcol H e)) * (1 / 16)
/-- The gradient of its weights. -/
def dp (H : Fin 4) (i : Fin 4096) (j : Fin 256) : ℝ := ∑ e, dO d wo i (col H e) * kv j (vcol H e)
/-- The gradient of its products with the keys. -/
def ds (H : Fin 4) (i : Fin 4096) (j : Fin 256) : ℝ := sback (score h g kv wq H i) (dp d kv wo H i) j
/-- The queries' gradient. -/
def dq (i : Fin 4096) (k : Fin 1024) : ℝ := ∑ j, ds d h g kv wq wo (hd k) i j * kv j ⟨k.val, by omega⟩
/-- What a row adds to the gradient of the keys and of the values. -/
def dkvt (i : Fin 4096) (j : Fin 256) (k : Fin 2048) : ℝ :=
  if hk : k.val < 1024 then ds d h g kv wq wo (hd ⟨k.val, hk⟩) i j * q h g wq i ⟨k.val, hk⟩
  else soft (score h g kv wq (hd ⟨k.val - 1024, by omega⟩) i) j * dO d wo i ⟨k.val - 1024, by omega⟩
/-- The gradient of the normalized stream. -/
def dhn (i : Fin 4096) (k : Fin 1024) : ℝ := ∑ x, dq d h g kv wq wo i x * wq k x
/-- The stream's gradient. -/
def dh (i : Fin 4096) (k : Fin 1024) : ℝ := d i k + rback (h i) (fun x => dhn d h g kv wq wo i x * g x) k
/-- The scale's gradient, a row's part. -/
def dgt (i : Fin 4096) (k : Fin 1024) : ℝ := dhn d h g kv wq wo i k * (h i k * rinv (h i))

theorem dq_col (H : Fin 4) (i : Fin 4096) (e : Fin 256) : dq d h g kv wq wo i (col H e) = ∑ j, ds d h g kv wq wo H i j * kv j (kcol H e) := by
  rw [dq, hd_col]

theorem dkvt_k (H : Fin 4) (i : Fin 4096) (j e : Fin 256) : dkvt d h g kv wq wo i j (kcol H e) = ds d h g kv wq wo H i j * q h g wq i (col H e) := by
  rw [dkvt, dif_pos (show (kcol H e).val < 1024 from (col H e).isLt)]
  exact congrArg (fun x => ds d h g kv wq wo x i j * q h g wq i (col H e)) (hd_col H e)

theorem dkvt_v (H : Fin 4) (i : Fin 4096) (j e : Fin 256) : dkvt d h g kv wq wo i j (vcol H e) = soft (score h g kv wq H i) j * dO d wo i (col H e) := by
  rw [dkvt, dif_neg (show ¬(vcol H e).val < 1024 by show ¬1024 + _ < 1024; omega)]
  have hc : (⟨(vcol H e).val - 1024, by omega⟩ : Fin 1024) = col H e := Fin.ext (Nat.add_sub_cancel_left ..)
  rw [hc, hd_col]

end Cert.Attn.Real

namespace Cert.AttnRefIdeal.Rows
open Cert.AttnRefIdeal Cert.AttnRefIdeal.Gen Cert.AttnRefIdeal.Read Cert.Reals Cert.Attn.Real

variable {d h : Fin 4096 → Fin 1024 → ℝ} {g : Fin 1024 → ℝ} {kv : Fin 256 → Fin 2048 → ℝ} {wq wo : Fin 1024 → Fin 1024 → ℝ}
  {x0 : FVec Ideal S4096x1024 .f32} {x1 : FVec Ideal S4096x1024 .f32} {x2 : FVec Ideal S1024 .f32} {x3 : FVec Ideal S256x2048 .f32} {x4 : FVec Ideal S1024x1024 .f32} {x5 : FVec Ideal S1024x1024 .f32}
  (h0 : ∀ i k, x0 (ix2 i k) = ((d i k : ℝ) : EReal)) (h1 : ∀ i k, x1 (ix2 i k) = ((h i k : ℝ) : EReal)) (h2 : ∀ k, x2 (ix1 k) = ((g k : ℝ) : EReal))
  (h3 : ∀ i k, x3 (ix2 i k) = ((kv i k : ℝ) : EReal)) (h4 : ∀ i k, x4 (ix2 i k) = ((wq i k : ℝ) : EReal)) (h5 : ∀ i k, x5 (ix2 i k) = ((wo i k : ℝ) : EReal))

section
include h1
theorem r6 (i : Fin 4096) (k : Fin 1) : val_main_v6 (F := Ideal) x1 (ix2 i k) = ((msq (h i) : ℝ) : EReal) := by
  pointwise [val_main_v6, val_main_v5, val_main_v4, val_main_v3, val_main_v2, val_main_v1, val_main_v0, val_main_cst, val_main_cst_0, val_main_cst_1]
  simp only [h1, zero_add]
  exact msq_coe _

theorem r7 (i : Fin 4096) (k : Fin 1) : val_main_v7 (F := Ideal) x1 (ix2 i k) = ((rinv (h i) : ℝ) : EReal) := by
  pointwise [val_main_v7]
  rw [r6 h1, rinv_coe]

theorem r10 (i : Fin 4096) (k : Fin 1) : val_main_v10 (F := Ideal) x1 (ix2 i k) = ((-(1 / 2) * (rinv (h i) / msq (h i)) : ℝ) : EReal) := by
  pointwise [val_main_v10, val_main_v9, val_main_v8, val_main_cst_2]
  rw [r6 h1, r7 h1, div_coe_coe (msq_pos _).ne', cneghalf, EReal.coe_mul]

theorem r12 (i : Fin 4096) (k : Fin 1024) : val_main_v12 (F := Ideal) x1 (ix2 i k) = ((h i k * rinv (h i) : ℝ) : EReal) := by
  pointwise [val_main_v12, val_main_v11]
  rw [h1, r7 h1, EReal.coe_mul]
end

section
include h1 h2 h4
theorem r16 (i : Fin 4096) (k : Fin 1024) : val_main_v16 (F := Ideal) x1 x2 x4 (ix2 i k) = ((q h g wq i k : ℝ) : EReal) := by
  pointwise [val_main_v16, val_main_v15, val_main_v14, val_main_v13]
  simp only [r12 h1, h2, h4, ← EReal.coe_mul, sum_coe, q]

include h3
theorem r24 (H : Fin 4) (i : Fin 4096) (j : Fin 256) : val_main_v24 (F := Ideal) x1 x2 x3 x4 (ix3 H i j) = ((score h g kv wq H i j : ℝ) : EReal) := by
  pointwise [val_main_v24, val_main_v23, val_main_v22, val_main_v20, val_main_v18, val_main_v17, val_main_cst_3]
  simp only [r16 h1 h2 h4, h3, c16th, ← EReal.coe_mul, sum_coe, score]

theorem r25 (H : Fin 4) (i : Fin 4096) : val_main_v25 (F := Ideal) x1 x2 x3 x4 (ix2 H i) = ((mx (score h g kv wq H i) : ℝ) : EReal) := by
  pointwise [val_main_v25, val_main_cst_4]
  simp only [r24 h1 h2 h3 h4, cneginf]
  exact mx_coe _

theorem r32 (H : Fin 4) (i : Fin 4096) : val_main_v32 (F := Ideal) x1 x2 x3 x4 (ix2 H i) = ((mx (score h g kv wq H i) : ℝ) : EReal) := by
  have e : val_main_v31 (F := Ideal) (ix2 H i) = (⊥ : EReal) := by
    pointwise [val_main_v31, val_main_cst_6]
    exact cneginf
  rw [val_main_v32_apply, Ideal.maximumf_def, r25 h1 h2 h3 h4, e, bot_max]

theorem r45 (H : Fin 4) (i : Fin 4096) (j : Fin 256) : val_main_v45 (F := Ideal) x1 x2 x3 x4 (ix3 H i j) = ((sexp (score h g kv wq H i) j : ℝ) : EReal) := by
  pointwise [val_main_v45, val_main_v44, val_main_v43, val_main_v42]
  rw [r24 h1 h2 h3 h4, r32 h1 h2 h3 h4]
  exact sexp_coe _ _

theorem r47 (H : Fin 4) (i : Fin 4096) (j : Fin 1) : val_main_v47 (F := Ideal) x1 x2 x3 x4 (ix3 H i j) = ((ssum (score h g kv wq H i) : ℝ) : EReal) := by
  pointwise [val_main_v47, val_main_v46, val_main_cst_12]
  simp only [r45 h1 h2 h3 h4, sum_coe, zero_add, ssum]

theorem r49 (H : Fin 4) (i : Fin 4096) (j : Fin 256) : val_main_v49 (F := Ideal) x1 x2 x3 x4 (ix3 H i j) = ((soft (score h g kv wq H i) j : ℝ) : EReal) := by
  pointwise [val_main_v49, val_main_v48]
  rw [r45 h1 h2 h3 h4, r47 h1 h2 h3 h4, soft_coe]
end

section
include h0 h5
theorem r57 (i : Fin 4096) (k : Fin 1024) : val_main_v57 (F := Ideal) x0 x5 (ix2 i k) = ((dO d wo i k : ℝ) : EReal) := by
  pointwise [val_main_v57]
  simp only [h0, h5, ← EReal.coe_mul, sum_coe, dO]

include h3
theorem r60 (H : Fin 4) (i : Fin 4096) (j : Fin 256) : val_main_v60 (F := Ideal) x0 x3 x5 (ix3 H i j) = ((dp d kv wo H i j : ℝ) : EReal) := by
  pointwise [val_main_v60, val_main_v59, val_main_v58, val_main_v21, val_main_v19]
  simp only [r57 h0 h5, h3, ← EReal.coe_mul, sum_coe, dp]
end

include h0 h1 h2 h3 h4 h5

theorem r76 (H : Fin 4) (i : Fin 4096) (j : Fin 256) : val_main_v76 (F := Ideal) x0 x1 x2 x3 x4 x5 (ix3 H i j) = ((ds d h g kv wq wo H i j : ℝ) : EReal) := by
  pointwise [val_main_v76, val_main_v75, val_main_v74, val_main_v73, val_main_v72, val_main_v71, val_main_v70, val_main_v69, val_main_v68, val_main_v67, val_main_v66,
    val_main_v65, val_main_v64, val_main_v63, val_main_v52, val_main_v51, val_main_v50, val_main_cst_13, val_main_cst_14, val_main_cst_15, val_main_cst_16]
  have hz := (ssum_pos (score h g kv wq H i)).ne'
  simp only [r60 h0 h3 h5, r45 h1 h2 h3 h4, r47 h1 h2 h3 h4, zero_add, Fin.sum_univ_one, c16th, ← EReal.coe_one, ← EReal.coe_mul, div_coe_coe hz, div_coe_coe (mul_ne_zero hz hz), sum_coe,
    ← EReal.coe_neg, ← EReal.coe_add]
  exact congrArg _ (sback_eq _ _ _)

theorem rdq (i : Fin 4096) (k : Fin 1024) : val_main_v84 (F := Ideal) x0 x1 x2 x3 x4 x5 (ix2 i k) = ((dq d h g kv wq wo i k : ℝ) : EReal) := by
  pointwise [val_main_v84, val_main_v80, val_main_v79, val_main_v20, val_main_v18]
  simp only [r76 h0 h1 h2 h3 h4 h5, h3, ← EReal.coe_mul, sum_coe, dq]

theorem rdkv (j : Fin 256) (k : Fin 2048) : val_main_v83 (F := Ideal) x0 x1 x2 x3 x4 x5 (ix2 j k) = ((∑ i, dkvt d h g kv wq wo i j k : ℝ) : EReal) := by
  pointwise [val_main_v83, val_main_v82, val_main_v81, val_main_v78, val_main_v62, val_main_v77, val_main_v61, val_main_v59, val_main_v58, val_main_v17]
  unfold dkvt
  split
  · simp only [r76 h0 h1 h2 h3 h4 h5, r16 h1 h2 h4, ← EReal.coe_mul, sum_coe]
    refine congrArg _ (Finset.sum_congr rfl fun i _ => congrArg (_ * q h g wq i ·) (Fin.ext ?_))
    show k.val / 256 * 256 + k.val % 256 = k.val
    omega
  · simp only [r49 h1 h2 h3 h4, r57 h0 h5, ← EReal.coe_mul, sum_coe]
    refine congrArg _ (Finset.sum_congr rfl fun i _ => ?_)
    rw [mul_comm]
    refine congrArg (_ * dO d wo i ·) (Fin.ext ?_)
    show (k.val - 1024) / 256 * 256 + (k.val - 1024) % 256 = k.val - 1024
    omega

theorem r85 (i : Fin 4096) (k : Fin 1024) : val_main_v85 (F := Ideal) x0 x1 x2 x3 x4 x5 (ix2 i k) = ((dhn d h g kv wq wo i k : ℝ) : EReal) := by
  pointwise [val_main_v85]
  simp only [rdq h0 h1 h2 h3 h4 h5, h4, ← EReal.coe_mul, sum_coe, dhn]

theorem r90 (i : Fin 4096) (k : Fin 1024) : val_main_v90 (F := Ideal) x0 x1 x2 x3 x4 x5 (ix2 i k) = ((dhn d h g kv wq wo i k * g k : ℝ) : EReal) := by
  pointwise [val_main_v90, val_main_v89, val_main_v13]
  rw [r85 h0 h1 h2 h3 h4 h5, h2, EReal.coe_mul]

theorem rdh (i : Fin 4096) (k : Fin 1024) : val_main_v106 (F := Ideal) x0 x1 x2 x3 x4 x5 (ix2 i k) = ((dh d h g kv wq wo i k : ℝ) : EReal) := by
  pointwise [val_main_v106, val_main_v105, val_main_v104, val_main_v103, val_main_v102, val_main_v101, val_main_v100, val_main_v99, val_main_v98, val_main_v97, val_main_v96,
    val_main_v95, val_main_v94, val_main_v93, val_main_v92, val_main_cst_19, val_main_cst_20, val_main_cst_21]
  simp only [h0, h1, r7 h1, r10 h1, r90 h0 h1 h2 h3 h4 h5, zero_add, c1024, Fin.sum_univ_one, ← EReal.coe_mul, sum_coe,
    div_coe_coe (show (1024 : ℝ) ≠ 0 by norm_num), ← EReal.coe_add]
  exact congrArg _ (congrArg (d i k + ·) (rback_eq (h i) (fun x => dhn d h g kv wq wo i x * g x) k))

theorem rdg (i : Fin 1) (k : Fin 1024) : val_main_v109 (F := Ideal) x0 x1 x2 x3 x4 x5 (ix2 i k) = ((∑ i, dgt d h g kv wq wo i k : ℝ) : EReal) := by
  pointwise [val_main_v109, val_main_v91, val_main_v88, val_main_v87, val_main_v86, val_main_cst_17, val_main_cst_18]
  simp only [r12 h1, r85 h0 h1 h2 h3 h4 h5, zero_add, Fin.sum_univ_one, ← EReal.coe_mul, sum_coe, dgt]
  exact congrArg _ (Finset.sum_congr rfl fun x _ => mul_comm _ _)

end Cert.AttnRefIdeal.Rows

namespace Cert.AttnIdeal.Rows
open Cert.AttnIdeal Cert.AttnIdeal.Gen Cert.Reals Cert.Attn.Real

/-- The windows' blocks: rows `1024 t …` of the gradient, the queries, the stream and the results of their shape; else the whole array. -/
theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![0, 0] ∧ win0_7.index t = ![t.val, 0] ∧ win0_8.index t = ![t.val, 0] ∧ win0_9.index t = ![t.val, 0]
    ∧ win0_10.index t = ![0, 0] ∧ win0_11.index t = ![0, 0] :=
  (by decide +kernel : ∀ t : Fin grid0.N, _)

/-- Row `j` of block `t`. -/
abbrev row (t : Fin cfg0.N) (j : Fin 1024) : Fin 4096 := ⟨t.val * 1024 + j.val, by have := lt_of_lt_of_eq t.isLt N_0; omega⟩

/-! A head's tiles: its queries `a`, its keys `b`, its values `v` and the gradient `o` of its outputs. -/

abbrev pT (a : FVec Ideal S1024x256 .bf16) (b : FVec Ideal S256x256 .bf16) : FVec Ideal S1024x256 .f32 := k0_pay18 a b
abbrev dsT (a : FVec Ideal S1024x256 .bf16) (b v : FVec Ideal S256x256 .bf16) (o : FVec Ideal S1024x256 .bf16) : FVec Ideal S1024x256 .bf16 :=
  k0_pay19 (k0_pay16 v) o (pT a b) (constant S1024x256 .f32 0x00000000#32)
abbrev dqT (a : FVec Ideal S1024x256 .bf16) (b v : FVec Ideal S256x256 .bf16) (o : FVec Ideal S1024x256 .bf16) : FVec Ideal S1024x256 .bf16 :=
  k0_pay20 (k0_pay15 b) (k0_pay16 v) o (pT a b) (constant S1024x256 .f32 0x00000000#32)
abbrev dkT (a : FVec Ideal S1024x256 .bf16) (b v : FVec Ideal S256x256 .bf16) (o : FVec Ideal S1024x256 .bf16) (acc : FVec Ideal S256x256 .f32) : FVec Ideal S256x256 .f32 :=
  k0_pay21 (k0_pay14 a) (k0_pay16 v) o (pT a b) (constant S1024x256 .f32 0x00000000#32) acc
abbrev dvT (a : FVec Ideal S1024x256 .bf16) (b : FVec Ideal S256x256 .bf16) (o : FVec Ideal S1024x256 .bf16) (acc : FVec Ideal S256x256 .f32) : FVec Ideal S256x256 .f32 :=
  k0_pay22 o (pT a b) acc

variable {d h : Fin 4096 → Fin 1024 → ℝ} {g : Fin 1024 → ℝ} {kv : Fin 256 → Fin 2048 → ℝ} {wq wo : Fin 1024 → Fin 1024 → ℝ} {p : Fin cfg0.N}

section
variable {H : Fin 4} {a o : FVec Ideal S1024x256 .bf16} {b v : FVec Ideal S256x256 .bf16}
  (ha : ∀ i e, a (ix2 i e) = ((q h g wq (row p i) (col H e) : ℝ) : EReal)) (hb : ∀ j e, b (ix2 j e) = ((kv j (kcol H e) : ℝ) : EReal))
  (hv : ∀ j e, v (ix2 j e) = ((kv j (vcol H e) : ℝ) : EReal)) (ho : ∀ i e, o (ix2 i e) = ((dO d wo (row p i) (col H e) : ℝ) : EReal))
include ha hb

theorem kp (i : Fin 1024) (j : Fin 256) : pT a b (ix2 i j) = ((soft (score h g kv wq H (row p i)) j : ℝ) : EReal) := by
  pointwise [k0_pay18, k0_pay14, k0_pay15]
  simp only [ha, hb, c16th, cneginf, ← EReal.coe_mul, sum_coe]
  simp only [← score.eq_def, mx_coe, sexp_coe, sum_coe]
  exact soft_coe _ _

include ho
theorem kdv (acc : FVec Ideal S256x256 .f32) (j e : Fin 256) :
    dvT a b o acc (ix2 j e) = acc (ix2 j e) + ((∑ i, dkvt d h g kv wq wo (row p i) j (vcol H e) : ℝ) : EReal) := by
  pointwise [k0_pay22]
  simp only [kp ha hb, ho, dkvt_v, ← EReal.coe_mul, sum_coe]

include hv
theorem kds (i : Fin 1024) (j : Fin 256) : dsT a b v o (ix2 i j) = ((ds d h g kv wq wo H (row p i) j : ℝ) : EReal) := by
  pointwise [k0_pay19, k0_pay16]
  simp only [kp ha hb, hv, ho, c16th, ← EReal.coe_mul, sum_coe, ← EReal.coe_sub]
  rfl

theorem kdq (i : Fin 1024) (e : Fin 256) : dqT a b v o (ix2 i e) = ((dq d h g kv wq wo (row p i) (col H e) : ℝ) : EReal) := by
  pointwise [k0_pay20, k0_pay15]
  simp only [kds ha hb hv ho, hb, dq_col, ← EReal.coe_mul, sum_coe]

theorem kdk (acc : FVec Ideal S256x256 .f32) (j e : Fin 256) :
    dkT a b v o acc (ix2 j e) = acc (ix2 j e) + ((∑ i, dkvt d h g kv wq wo (row p i) j (kcol H e) : ℝ) : EReal) := by
  pointwise [k0_pay21, k0_pay14]
  simp only [kds ha hb hv ho, ha, dkvt_k, ← EReal.coe_mul, sum_coe]
end

variable {x0 : FVec Ideal S1024x1024 .f32} {x1 x2 : FVec Ideal S1024x1024 .bf16} {x3 : FVec Ideal S256x2048 .bf16} {x4 : FVec Ideal S1024x1024 .bf16}
  {x5 : FVec Ideal S1024x1024 .f32} {x6 : FVec Ideal S1x1024 .f32}
  (h0 : ∀ i k, x0 (ix2 i k) = ((d (row p i) k : ℝ) : EReal)) (h1 : ∀ i k, x1 (ix2 i k) = ((wo i k : ℝ) : EReal)) (h2 : ∀ i k, x2 (ix2 i k) = ((q h g wq (row p i) k : ℝ) : EReal))
  (h3 : ∀ i k, x3 (ix2 i k) = ((kv i k : ℝ) : EReal)) (h4 : ∀ i k, x4 (ix2 i k) = ((wq i k : ℝ) : EReal)) (h5 : ∀ i k, x5 (ix2 i k) = ((h (row p i) k : ℝ) : EReal))
  (h6 : ∀ i k, x6 (ix2 i k) = ((g k : ℝ) : EReal))

section
include h0 h1
theorem kdo (i k : Fin 1024) : k0_pay5 (F := Ideal) x0 x1 (ix2 i k) = ((dO d wo (row p i) k : ℝ) : EReal) := by
  pointwise [k0_pay5]
  simp only [h0, h1, ← EReal.coe_mul, sum_coe, dO]

theorem o0 (i : Fin 1024) (e : Fin 256) : k0_pay8 (F := Ideal) x0 x1 (ix2 i e) = ((dO d wo (row p i) (col 0 e) : ℝ) : EReal) := by
  pointwise [k0_pay8]
  rw [kdo h0 h1]
  exact congrArg _ (congrArg (dO d wo _) (Fin.ext (by simp)))
theorem o1 (i : Fin 1024) (e : Fin 256) : k0_pay17 (F := Ideal) (k0_pay5 x0 x1) (ix2 i e) = ((dO d wo (row p i) (col 1 e) : ℝ) : EReal) := by
  pointwise [k0_pay17]
  rw [kdo h0 h1]
  exact congrArg _ (congrArg (dO d wo _) (Fin.ext rfl))
theorem o2 (i : Fin 1024) (e : Fin 256) : k0_pay26 (F := Ideal) (k0_pay5 x0 x1) (ix2 i e) = ((dO d wo (row p i) (col 2 e) : ℝ) : EReal) := by
  pointwise [k0_pay26]
  rw [kdo h0 h1]
  exact congrArg _ (congrArg (dO d wo _) (Fin.ext rfl))
theorem o3 (i : Fin 1024) (e : Fin 256) : k0_pay35 (F := Ideal) (k0_pay5 x0 x1) (ix2 i e) = ((dO d wo (row p i) (col 3 e) : ℝ) : EReal) := by
  pointwise [k0_pay35]
  rw [kdo h0 h1]
  exact congrArg _ (congrArg (dO d wo _) (Fin.ext rfl))
end

section
variable {y : FVec Ideal S1024x1024 .bf16} (hy : ∀ i k, y (ix2 i k) = ((dq d h g kv wq wo (row p i) k : ℝ) : EReal))
include hy h4
theorem kdhn (i k : Fin 1024) : k0_pay43 (F := Ideal) y x4 (ix2 i k) = ((dhn d h g kv wq wo (row p i) k : ℝ) : EReal) := by
  pointwise [k0_pay43]
  simp only [hy, h4, ← EReal.coe_mul, sum_coe, dhn]

include h5
theorem k44 (i : Fin 1024) (k : Fin 1) : k0_pay44 (F := Ideal) x5 (ix2 i k) = ((rinv (h (row p i)) : ℝ) : EReal) := by
  pointwise [k0_pay44]
  simp only [h5, msq_coe, rinv_coe]

theorem kdgt (i : Fin 1) (k : Fin 1024) : k0_pay46 (F := Ideal) y x4 x5 (ix2 i k) = ((∑ j, dgt d h g kv wq wo (row p j) k : ℝ) : EReal) := by
  pointwise [k0_pay46, k0_pay45]
  simp only [kdhn h4 hy, k44 h4 h5 hy, h5, ← EReal.coe_mul, sum_coe, dgt]

include h0 h6
theorem kdh (i k : Fin 1024) : k0_pay47 (F := Ideal) y x4 x5 x6 x0 (ix2 i k) = ((dh d h g kv wq wo (row p i) k : ℝ) : EReal) := by
  pointwise [k0_pay47, k0_pay45]
  simp only [kdhn h4 hy, k44 h4 h5 hy, h0, h5, h6, c1024, ← EReal.coe_mul, ← EReal.coe_sub, ← EReal.coe_add, sum_coe,
    div_coe_coe (show (1024 : ℝ) ≠ 0 by norm_num), dh, rback]
end

/-! ## The stores of a point -/

/-- A head's columns of a block of rows. -/
abbrev ldq (x : FVec Ideal S1024x1024 .bf16) (o : Nat) (inb : ∀ a, (![0, o] : Fin 2 → Nat) a + S1024x256.size a ≤ S1024x1024.size a) : FVec Ideal S1024x256 .bf16 :=
  View.ld (Val := Elt Ideal) (e' := .bf16) x (Rect.unit (s := S1024x1024) ![0, o] S1024x256.size inb)

/-- Some 256 columns of the keys and values. -/
abbrev ldk (x : FVec Ideal S256x2048 .bf16) (o : Nat) (inb : ∀ a, (![0, o] : Fin 2 → Nat) a + S256x256.size a ≤ S256x2048.size a) : FVec Ideal S256x256 .bf16 :=
  View.ld (Val := Elt Ideal) (e' := .bf16) x (Rect.unit (s := S256x2048) ![0, o] S256x256.size inb)

/-- Some 256 columns of their gradient. -/
abbrev ldz (x : FVec Ideal S256x2048 .f32) (o : Nat) (inb : ∀ a, (![0, o] : Fin 2 → Nat) a + S256x256.size a ≤ S256x2048.size a) : FVec Ideal S256x256 .f32 :=
  View.ld (Val := Elt Ideal) (e' := .f32) x (Rect.unit (s := S256x2048) ![0, o] S256x256.size inb)

/-- The queries' gradient, stored head by head. -/
def dqL (x0 : FVec Ideal S1024x1024 .f32) (x1 x2 : FVec Ideal S1024x1024 .bf16) (x3 : FVec Ideal S256x2048 .bf16) : List (View.Piece (Elt Ideal) S1024x1024 .bf16) :=
  [⟨Rect.unit ![0, 768] ![1024, 256] inb_S1024x1024_S1024x256_0_768, dqT (ldq x2 768 inb_S1024x1024_S1024x256_0_768)
      (ldk x3 768 inb_S256x2048_S256x256_0_768) (ldk x3 1792 inb_S256x2048_S256x256_0_1792) (k0_pay35 (k0_pay5 x0 x1))⟩,
    ⟨Rect.unit ![0, 512] ![1024, 256] inb_S1024x1024_S1024x256_0_512, dqT (ldq x2 512 inb_S1024x1024_S1024x256_0_512)
      (ldk x3 512 inb_S256x2048_S256x256_0_512) (ldk x3 1536 inb_S256x2048_S256x256_0_1536) (k0_pay26 (k0_pay5 x0 x1))⟩,
    ⟨Rect.unit ![0, 256] ![1024, 256] inb_S1024x1024_S1024x256_0_256, dqT (ldq x2 256 inb_S1024x1024_S1024x256_0_256)
      (ldk x3 256 inb_S256x2048_S256x256_0_256) (ldk x3 1280 inb_S256x2048_S256x256_0_1280) (k0_pay17 (k0_pay5 x0 x1))⟩,
    ⟨Rect.unit ![0, 0] ![1024, 256] inb_S1024x1024_S1024x256_0_0, dqT (ldq x2 0 inb_S1024x1024_S1024x256_0_0)
      (ldk x3 0 inb_S256x2048_S256x256_0_0) (ldk x3 1024 inb_S256x2048_S256x256_0_1024) (k0_pay8 x0 x1)⟩]

/-- The gradient of the keys and of the values, added head by head to `z`. -/
def kvL (x0 : FVec Ideal S1024x1024 .f32) (x1 x2 : FVec Ideal S1024x1024 .bf16) (x3 : FVec Ideal S256x2048 .bf16) (z : FVec Ideal S256x2048 .f32) :
    List (View.Piece (Elt Ideal) S256x2048 .f32) :=
  [⟨Rect.unit ![0, 1792] ![256, 256] inb_S256x2048_S256x256_0_1792,
      k0_pay42 (F := Ideal) (k0_pay35 (k0_pay5 x0 x1))
        (k0_pay40 (ldz z 1792 inb_S256x2048_S256x256_0_1792))
        (k0_pay41
          (k0_pay33 (ldq x2 768 inb_S1024x1024_S1024x256_0_768))
          (ldk x3 768 inb_S256x2048_S256x256_0_768))
        (constant S256x256 .f32 0#32)⟩,
    ⟨Rect.unit ![0, 768] ![256, 256] inb_S256x2048_S256x256_0_768,
      k0_pay39 (F := Ideal) (k0_pay5 x0 x1)
        (k0_pay33 (ldq x2 768 inb_S1024x1024_S1024x256_0_768))
        (ldk x3 768 inb_S256x2048_S256x256_0_768)
        (ldk x3 1792 inb_S256x2048_S256x256_0_1792)
        (ldz z 768 inb_S256x2048_S256x256_0_768)⟩,
    ⟨Rect.unit ![0, 1536] ![256, 256] inb_S256x2048_S256x256_0_1536,
      k0_pay32 (F := Ideal) (k0_pay26 (k0_pay5 x0 x1))
        (k0_pay27 (ldq x2 512 inb_S1024x1024_S1024x256_0_512)
          (ldk x3 512 inb_S256x2048_S256x256_0_512))
        (ldz z 1536 inb_S256x2048_S256x256_0_1536)⟩,
    ⟨Rect.unit ![0, 512] ![256, 256] inb_S256x2048_S256x256_0_512,
      k0_pay31 (F := Ideal) (k0_pay23 (ldq x2 512 inb_S1024x1024_S1024x256_0_512))
        (k0_pay25 (ldk x3 1536 inb_S256x2048_S256x256_0_1536))
        (k0_pay26 (k0_pay5 x0 x1))
        (k0_pay27 (ldq x2 512 inb_S1024x1024_S1024x256_0_512)
          (ldk x3 512 inb_S256x2048_S256x256_0_512))
        (ldz z 512 inb_S256x2048_S256x256_0_512)⟩,
    ⟨Rect.unit ![0, 1280] ![256, 256] inb_S256x2048_S256x256_0_1280,
      k0_pay22 (F := Ideal) (k0_pay17 (k0_pay5 x0 x1))
        (k0_pay18 (ldq x2 256 inb_S1024x1024_S1024x256_0_256)
          (ldk x3 256 inb_S256x2048_S256x256_0_256))
        (ldz z 1280 inb_S256x2048_S256x256_0_1280)⟩,
    ⟨Rect.unit ![0, 256] ![256, 256] inb_S256x2048_S256x256_0_256,
      k0_pay21 (F := Ideal) (k0_pay14 (ldq x2 256 inb_S1024x1024_S1024x256_0_256))
        (k0_pay16 (ldk x3 1280 inb_S256x2048_S256x256_0_1280))
        (k0_pay17 (k0_pay5 x0 x1))
        (k0_pay18 (ldq x2 256 inb_S1024x1024_S1024x256_0_256)
          (ldk x3 256 inb_S256x2048_S256x256_0_256))
        (constant S1024x256 .f32 0#32)
        (ldz z 256 inb_S256x2048_S256x256_0_256)⟩,
    ⟨Rect.unit ![0, 1024] ![256, 256] inb_S256x2048_S256x256_0_1024,
      k0_pay13 (F := Ideal) (k0_pay8 x0 x1)
        (k0_pay9 (ldq x2 0 inb_S1024x1024_S1024x256_0_0)
          (ldk x3 0 inb_S256x2048_S256x256_0_0))
        (ldz z 1024 inb_S256x2048_S256x256_0_1024)⟩,
    ⟨Rect.unit ![0, 0] ![256, 256] inb_S256x2048_S256x256_0_0,
      k0_pay12 (F := Ideal) (k0_pay6 (ldq x2 0 inb_S1024x1024_S1024x256_0_0))
        (k0_pay10 x0 x1
          (ldq x2 0 inb_S1024x1024_S1024x256_0_0)
          (ldk x3 0 inb_S256x2048_S256x256_0_0)
          (ldk x3 1024 inb_S256x2048_S256x256_0_1024))
        (ldz z 0 inb_S256x2048_S256x256_0_0)⟩]

section
include h2 in
theorem lq (H : Fin 4) (inb) (i : Fin 1024) (e : Fin 256) :
    ldq x2 (H.val * 256) inb (ix2 i e) = ((q h g wq (row p i) (col H e) : ℝ) : EReal) := by
  rw [← h2]
  exact congrArg x2 (funext fun a => by
    fin_cases a
    · exact Fin.ext (show 0 + 1 * i.val = i.val by omega)
    · exact Fin.ext (show H.val * 256 + 1 * e.val = H.val * 256 + e.val by omega))
include h3 in
theorem lk (H : Fin 4) (inb) (i : Fin 256) (e : Fin 256) :
    ldk x3 (H.val * 256) inb (ix2 i e) = ((kv i (kcol H e) : ℝ) : EReal) := by
  rw [← h3]
  exact congrArg x3 (funext fun a => by
    fin_cases a
    · exact Fin.ext (show 0 + 1 * i.val = i.val by omega)
    · exact Fin.ext (show H.val * 256 + 1 * e.val = H.val * 256 + e.val by omega))
include h3 in
theorem lv (H : Fin 4) (inb) (i : Fin 256) (e : Fin 256) :
    ldk x3 (1024 + H.val * 256) inb (ix2 i e) = ((kv i (vcol H e) : ℝ) : EReal) := by
  rw [← h3]
  exact congrArg x3 (funext fun a => by
    fin_cases a
    · exact Fin.ext (show 0 + 1 * i.val = i.val by omega)
    · exact Fin.ext (show 1024 + H.val * 256 + 1 * e.val = 1024 + (H.val * 256 + e.val) by omega))
include h0 h1 h2 h3

/-- A head's store of the queries' gradient is a block of it. -/
theorem dq_piece (H : Fin 4) (inb inb1 inb2 inb3) {o : FVec Ideal S1024x256 .bf16} (ho : ∀ i e, o (ix2 i e) = ((dO d wo (row p i) (col H e) : ℝ) : EReal)) (t : S1024x256.Idx) :
    dqT (ldq x2 (H.val * 256) inb1) (ldk x3 (H.val * 256) inb2)
        (ldk x3 (1024 + H.val * 256) inb3) o t
      = (fun y : S1024x1024.Idx => ((dq d h g kv wq wo (row p (y 0)) (y 1) : ℝ) : EReal)) ((Rect.unit (s := S1024x1024) ![0, H.val * 256] ![1024, 256] inb).emb t) := by
  idx_vars t
  rw [kdq (lq h2 H inb1) (lk h3 H inb2) (lv h3 H inb3) ho]
  refine congrArg _ (congrArg₂ (dq d h g kv wq wo) (Fin.ext ?_) (Fin.ext ?_))
  · show p.val * 1024 + t0.val = p.val * 1024 + (0 + 1 * t0.val); omega
  · show H.val * 256 + t1.val = H.val * 256 + 1 * t1.val; omega

theorem dqL_eq : View.canon (dqL x0 x1 x2 x3) = fun y : S1024x1024.Idx => ((dq d h g kv wq wo (row p (y 0)) (y 1) : ℝ) : EReal) := by
  funext y
  refine View.canon_append_of_piecesOf (fun y : S1024x1024.Idx => ((dq d h g kv wq wo (row p (y 0)) (y 1) : ℝ) : EReal)) [] (dqL x0 x1 x2 x3) ⟨?_, ?_, ?_, ?_, trivial⟩ y
    (View.cover_of_tiledL (dqL x0 x1 x2 x3) S1024x256.size (by sl_kernel_rfl) y)
  · exact dq_piece h0 h1 h2 h3 3 inb_S1024x1024_S1024x256_0_768 inb_S1024x1024_S1024x256_0_768 inb_S256x2048_S256x256_0_768 inb_S256x2048_S256x256_0_1792 (o3 h0 h1)
  · exact dq_piece h0 h1 h2 h3 2 inb_S1024x1024_S1024x256_0_512 inb_S1024x1024_S1024x256_0_512 inb_S256x2048_S256x256_0_512 inb_S256x2048_S256x256_0_1536 (o2 h0 h1)
  · exact dq_piece h0 h1 h2 h3 1 inb_S1024x1024_S1024x256_0_256 inb_S1024x1024_S1024x256_0_256 inb_S256x2048_S256x256_0_256 inb_S256x2048_S256x256_0_1280 (o1 h0 h1)
  · exact dq_piece h0 h1 h2 h3 0 inb_S1024x1024_S1024x256_0_0 inb_S1024x1024_S1024x256_0_0 inb_S256x2048_S256x256_0_0 inb_S256x2048_S256x256_0_1024 (o0 h0 h1)
/-- A head's store of the keys' gradient is a block of it. -/
theorem dk_piece (z : FVec Ideal S256x2048 .f32) (H : Fin 4) (inb inb1 inb2 inb3) {o : FVec Ideal S1024x256 .bf16} (ho : ∀ i e, o (ix2 i e) = ((dO d wo (row p i) (col H e) : ℝ) : EReal)) (t : S256x256.Idx) :
    dkT (ldq x2 (H.val * 256) inb1) (ldk x3 (H.val * 256) inb2) (ldk x3 (1024 + H.val * 256) inb3) o (ldz z (H.val * 256) inb) t
      = (fun y : S256x2048.Idx => z y + ((∑ i, dkvt d h g kv wq wo (row p i) (y 0) (y 1) : ℝ) : EReal)) ((Rect.unit (s := S256x2048) ![0, H.val * 256] ![256, 256] inb).emb t) := by
  idx_vars t
  rw [kdk (lq h2 H inb1) (lk h3 H inb2) (lv h3 H inb3) ho]
  have e0 : (Rect.unit (s := S256x2048) ![0, H.val * 256] ![256, 256] inb).emb (ix2 t0 t1) = ix2 t0 (kcol H t1) := funext fun a => by
    fin_cases a
    · exact Fin.ext (show 0 + 1 * t0.val = t0.val by omega)
    · exact Fin.ext (show H.val * 256 + 1 * t1.val = H.val * 256 + t1.val by omega)
  exact congrArg₂ (· + ·) rfl (congrArg (fun y : S256x2048.Idx => ((∑ i, dkvt d h g kv wq wo (row p i) (y 0) (y 1) : ℝ) : EReal)) e0.symm)

/-- A head's store of the values' gradient is a block of it. -/
theorem dv_piece (z : FVec Ideal S256x2048 .f32) (H : Fin 4) (inb inb1 inb2) {o : FVec Ideal S1024x256 .bf16} (ho : ∀ i e, o (ix2 i e) = ((dO d wo (row p i) (col H e) : ℝ) : EReal)) (t : S256x256.Idx) :
    dvT (ldq x2 (H.val * 256) inb1) (ldk x3 (H.val * 256) inb2) o (ldz z (1024 + H.val * 256) inb) t
      = (fun y : S256x2048.Idx => z y + ((∑ i, dkvt d h g kv wq wo (row p i) (y 0) (y 1) : ℝ) : EReal)) ((Rect.unit (s := S256x2048) ![0, 1024 + H.val * 256] ![256, 256] inb).emb t) := by
  idx_vars t
  rw [kdv (lq h2 H inb1) (lk h3 H inb2) ho]
  have e0 : (Rect.unit (s := S256x2048) ![0, 1024 + H.val * 256] ![256, 256] inb).emb (ix2 t0 t1) = ix2 t0 (vcol H t1) := funext fun a => by
    fin_cases a
    · exact Fin.ext (show 0 + 1 * t0.val = t0.val by omega)
    · exact Fin.ext (show 1024 + H.val * 256 + 1 * t1.val = 1024 + (H.val * 256 + t1.val) by omega)
  exact congrArg₂ (· + ·) rfl (congrArg (fun y : S256x2048.Idx => ((∑ i, dkvt d h g kv wq wo (row p i) (y 0) (y 1) : ℝ) : EReal)) e0.symm)

theorem kvL_eq (z : FVec Ideal S256x2048 .f32) (L : List (View.Piece (Elt Ideal) S256x2048 .f32)) (y : S256x2048.Idx) :
    View.canon (kvL x0 x1 x2 x3 z ++ L) y = z y + ((∑ i, dkvt d h g kv wq wo (row p i) (y 0) (y 1) : ℝ) : EReal) := by
  refine View.canon_append_of_piecesOf (fun y : S256x2048.Idx => z y + ((∑ i, dkvt d h g kv wq wo (row p i) (y 0) (y 1) : ℝ) : EReal)) L (kvL x0 x1 x2 x3 z)
    ⟨?_, ?_, ?_, ?_, ?_, ?_, ?_, ?_, trivial⟩ y (View.cover_of_tiledL (kvL x0 x1 x2 x3 z) S256x256.size (by sl_kernel_rfl) y)
  · exact dv_piece h0 h1 h2 h3 z 3 inb_S256x2048_S256x256_0_1792 inb_S1024x1024_S1024x256_0_768 inb_S256x2048_S256x256_0_768 (o3 h0 h1)
  · exact dk_piece h0 h1 h2 h3 z 3 inb_S256x2048_S256x256_0_768 inb_S1024x1024_S1024x256_0_768 inb_S256x2048_S256x256_0_768 inb_S256x2048_S256x256_0_1792 (o3 h0 h1)
  · exact dv_piece h0 h1 h2 h3 z 2 inb_S256x2048_S256x256_0_1536 inb_S1024x1024_S1024x256_0_512 inb_S256x2048_S256x256_0_512 (o2 h0 h1)
  · exact dk_piece h0 h1 h2 h3 z 2 inb_S256x2048_S256x256_0_512 inb_S1024x1024_S1024x256_0_512 inb_S256x2048_S256x256_0_512 inb_S256x2048_S256x256_0_1536 (o2 h0 h1)
  · exact dv_piece h0 h1 h2 h3 z 1 inb_S256x2048_S256x256_0_1280 inb_S1024x1024_S1024x256_0_256 inb_S256x2048_S256x256_0_256 (o1 h0 h1)
  · exact dk_piece h0 h1 h2 h3 z 1 inb_S256x2048_S256x256_0_256 inb_S1024x1024_S1024x256_0_256 inb_S256x2048_S256x256_0_256 inb_S256x2048_S256x256_0_1280 (o1 h0 h1)
  · exact dv_piece h0 h1 h2 h3 z 0 inb_S256x2048_S256x256_0_1024 inb_S1024x1024_S1024x256_0_0 inb_S256x2048_S256x256_0_0 (o0 h0 h1)
  · exact dk_piece h0 h1 h2 h3 z 0 inb_S256x2048_S256x256_0_0 inb_S1024x1024_S1024x256_0_0 inb_S256x2048_S256x256_0_0 inb_S256x2048_S256x256_0_1024 (o0 h0 h1)
end

end Cert.AttnIdeal.Rows

namespace Cert.AttnIdeal.Arrays
open Cert.AttnIdeal Cert.AttnIdeal.Gen Cert.AttnIdeal.Rows Cert.Reals Cert.Attn.Real
open Idealize.ShloMosaic.Pipeline (Dat)

variable {m : (ℓ : Loc nD τ sig) → Buf (Elt Ideal) ℓ} {c : Dev nD}
  {d h : Fin 4096 → Fin 1024 → ℝ} {g : Fin 1024 → ℝ} {kv : Fin 256 → Fin 2048 → ℝ} {wq wo : Fin 1024 → Fin 1024 → ℝ}
  (h0 : ∀ i k, (show FVec Ideal S4096x1024 .f32 from m ((c : Thread nD τ).loc main_arg0)) (ix2 i k) = ((d i k : ℝ) : EReal))
  (h1 : ∀ i k, (show FVec Ideal S4096x1024 .f32 from m ((c : Thread nD τ).loc main_arg1)) (ix2 i k) = ((h i k : ℝ) : EReal))
  (h2 : ∀ k, (show FVec Ideal S1024 .f32 from m ((c : Thread nD τ).loc main_arg2)) (ix1 k) = ((g k : ℝ) : EReal))
  (h3 : ∀ i k, (show FVec Ideal S256x2048 .f32 from m ((c : Thread nD τ).loc main_arg3)) (ix2 i k) = ((kv i k : ℝ) : EReal))
  (h4 : ∀ i k, (show FVec Ideal S1024x1024 .f32 from m ((c : Thread nD τ).loc main_arg4)) (ix2 i k) = ((wq i k : ℝ) : EReal))
  (h5 : ∀ i k, (show FVec Ideal S1024x1024 .f32 from m ((c : Thread nD τ).loc main_arg5)) (ix2 i k) = ((wo i k : ℝ) : EReal))

/-- Reading a whole block back. -/
theorem whole_idx (j : S1024x1024.Idx) : (Rect.unit (s := S1024x1024) ![0, 0] ![1024, 1024] inb_S1024x1024_S1024x1024_0_0).idx j = j := funext fun a => by
  fin_cases a
  · exact Fin.ext (show 0 + 1 * (j 0).val = (j 0).val by omega)
  · exact Fin.ext (show 0 + 1 * (j 1).val = (j 1).val by omega)

include h1 h2 h4 in
/-- The queries, which the host computes from the stream. -/
theorem hq (i : Fin 4096) (k : Fin 1024) : (show FVec Ideal S4096x1024 .bf16 from V m c main_v14) (ix2 i k) = ((q h g wq i k : ℝ) : EReal) := by
  entry_read
  exact Cert.AttnRefIdeal.Rows.r16 h1 h2 h4 i k

include h0 in
theorem b0 (p : Fin cfg0.N) (j k : Fin 1024) : (show FVec Ideal S1024x1024 .f32 from iblk m c 0 p) (ix2 j k) = ((d (row p j) k : ℝ) : EReal) := by
  rw [← h0]; blk_ext [iblk, V, idx p]
include h5 in
theorem b1 (p : Fin cfg0.N) (j k : Fin 1024) : (show FVec Ideal S1024x1024 .bf16 from iblk m c 1 p) (ix2 j k) = ((wo j k : ℝ) : EReal) := by
  rw [← h5]; blk_ext [iblk, V, idx p]
include h1 h2 h4 in
theorem b2 (p : Fin cfg0.N) (j k : Fin 1024) : (show FVec Ideal S1024x1024 .bf16 from iblk m c 2 p) (ix2 j k) = ((q h g wq (row p j) k : ℝ) : EReal) := by
  rw [← hq h1 h2 h4]; blk_ext [iblk, idx p]
include h3 in
theorem b3 (p : Fin cfg0.N) (j : Fin 256) (k : Fin 2048) : (show FVec Ideal S256x2048 .bf16 from iblk m c 3 p) (ix2 j k) = ((kv j k : ℝ) : EReal) := by
  rw [← h3]; blk_ext [iblk, V, idx p]
include h4 in
theorem b4 (p : Fin cfg0.N) (j k : Fin 1024) : (show FVec Ideal S1024x1024 .bf16 from iblk m c 4 p) (ix2 j k) = ((wq j k : ℝ) : EReal) := by
  rw [← h4]; blk_ext [iblk, V, idx p]
include h1 in
theorem b5 (p : Fin cfg0.N) (j k : Fin 1024) : (show FVec Ideal S1024x1024 .f32 from iblk m c 5 p) (ix2 j k) = ((h (row p j) k : ℝ) : EReal) := by
  rw [← h1]; blk_ext [iblk, V, idx p]
include h2 in
theorem b6 (p : Fin cfg0.N) (j : Fin 1) (k : Fin 1024) : (show FVec Ideal S1x1024 .f32 from iblk m c 6 p) (ix2 j k) = ((g k : ℝ) : EReal) := by
  rw [← h2]; blk_point [iblk, V, idx p]

include h0 h1 h2 h3 h4 h5

theorem dqs (p : Fin cfg0.N) : View.canon (dqL (iblk m c 0 p) (iblk m c 1 p) (iblk m c 2 p) (iblk m c 3 p))
    = fun y : S1024x1024.Idx => ((dq d h g kv wq wo (row p (y 0)) (y 1) : ℝ) : EReal) :=
  dqL_eq (b0 h0 p) (b1 h5 p) (b2 h1 h2 h4 p) (b3 h3 p)

theorem final_dq : (dats m 0 c).arrAt 9 cfg0.N = fun i : S4096x1024.Idx => ((dq d h g kv wq wo (i 0) (i 1) : ℝ) : EReal) := by
  refine (dats m 0 c).arrAt_eq_of_covers 9 _ (by decide +kernel) fun p _ y => ?_
  have key : ∀ y : S1024x1024.Idx, View.canon (dqL (iblk m c 0 p) (iblk m c 1 p) (iblk m c 2 p) (iblk m c 3 p)) y
      = ((dq d h g kv wq wo (((View.whole main_v19_2).slice (win0_9.rect p)).emb y 0) (((View.whole main_v19_2).slice (win0_9.rect p)).emb y 1) : ℝ) : EReal) := by
    intro y
    rw [dqs h0 h1 h2 h3 h4 h5 p]
    refine congrArg _ (congrArg₂ (dq d h g kv wq wo) (Fin.ext ?_) (Fin.ext ?_)) <;> blk_simp [idx p]
  blk_simp
  rw [after0_9]
  by_cases hp : p.val % 4 = 0
  · rw [outsAt0_A m c p hp]; frame_out
    exact key y
  · rw [outsAt0_B m c p hp]; frame_out
    exact key y

theorem kvs (p : Fin cfg0.N) (z : FVec Ideal S256x2048 .f32) (L : List (View.Piece (Elt Ideal) S256x2048 .f32)) (y : S256x2048.Idx) :
    View.canon (kvL (iblk m c 0 p) (iblk m c 1 p) (iblk m c 2 p) (iblk m c 3 p) z ++ L) y
      = z y + ((∑ i, dkvt d h g kv wq wo (row p i) (y 0) (y 1) : ℝ) : EReal) :=
  kvL_eq (b0 h0 p) (b1 h5 p) (b2 h1 h2 h4 p) (b3 h3 p) z L y

/-- The queries' gradient, read back whole within the point that stored it. -/
theorem dqw (p : Fin cfg0.N) : (fun j => View.canon (dqL (iblk m c 0 p) (iblk m c 1 p) (iblk m c 2 p) (iblk m c 3 p))
      ((Rect.unit (s := S1024x1024) ![0, 0] ![1024, 1024] inb_S1024x1024_S1024x1024_0_0).idx j))
    = fun y : S1024x1024.Idx => ((dq d h g kv wq wo (row p (y 0)) (y 1) : ℝ) : EReal) := by
  rw [dqs h0 h1 h2 h3 h4 h5 p]
  exact funext fun j => congrArg (fun y : S1024x1024.Idx => ((dq d h g kv wq wo (row p (y 0)) (y 1) : ℝ) : EReal)) (whole_idx j)

theorem final_dkv : (dats m 0 c).arrAt 10 cfg0.N = fun i : S256x2048.Idx => ((∑ x, dkvt d h g kv wq wo x (i 0) (i 1) : ℝ) : EReal) := by
  refine (dats m 0 c).arrAt_eq_of_after_last 10 t0_3 (by decide +kernel) _ fun j => ?_
  blk_simp
  rw [after0_10]
  have kA (p : Fin cfg0.N) (hp : p.val % 4 = 0) (j : S256x2048.Idx) : (outsAt0 m c p.val p.isLt).2.2.2.1 j = 0 + ((∑ i : Fin 1024, dkvt d h g kv wq wo (row p i) (j 0) (j 1) : ℝ) : EReal) := by
    rw [outsAt0_A m c p hp]; frame_open
    simp (disch := first | decide | rfl) only [↓View.readCov_skip, ↓View.readCov_fill]
    frame_out
    show View.canon (kvL (iblk m c 0 p) (iblk m c 1 p) (iblk m c 2 p) (iblk m c 3 p) k0_pay3 ++ [⟨Rect.unit ![0, 0] ![256, 2048] inb_S256x2048_S256x2048_0_0, k0_pay3 (F := Ideal)⟩]) j = _
    rw [kvs h0 h1 h2 h3 h4 h5 p]
    exact congrArg (· + _) (by pointwise [k0_pay3])
  have kB (p : Fin cfg0.N) (hp : ¬p.val % 4 = 0) (j : S256x2048.Idx) : (outsAt0 m c p.val p.isLt).2.2.2.1 j
      = (outsAt0 m c (p.val - 1) (by omega)).2.2.2.1 j + ((∑ i : Fin 1024, dkvt d h g kv wq wo (row p i) (j 0) (j 1) : ℝ) : EReal) := by
    rw [outsAt0_B m c p hp]; frame_open
    simp (disch := first | decide | rfl) only [↓View.readCov_skip, ↓View.readCov_fill]
    frame_out
    exact kvs h0 h1 h2 h3 h4 h5 p (outsAt0 m c (p.val - 1) (by omega)).2.2.2.1 [] j
  rw [Pipeline.eq_sum_fin_of_reset_step_apply_last (fun n h => (outsAt0 m c n h).2.2.2.1) 4 (fun _ => (0 : EReal))
    (fun p y => ((∑ i : Fin 1024, dkvt d h g kv wq wo (row p i) (y 0) (y 1) : ℝ) : EReal)) kA kB (le_of_eq N_0) t0_3 rfl j, zero_add]
  exact sum_blocks (congrArg (· * 1024) N_0) (fun i => dkvt d h g kv wq wo i (j 0) (j 1)) row fun _ _ => rfl

theorem final_dh : (dats m 0 c).arrAt 7 cfg0.N = fun i : S4096x1024.Idx => ((dh d h g kv wq wo (i 0) (i 1) : ℝ) : EReal) := by
  refine (dats m 0 c).arrAt_eq_of_covers 7 _ (by decide +kernel) fun p _ y => ?_
  have key (v : FVec Ideal S1024x1024 .bf16) (hv : v = fun y : S1024x1024.Idx => ((dq d h g kv wq wo (row p (y 0)) (y 1) : ℝ) : EReal)) (y : S1024x1024.Idx) :
      k0_pay47 (F := Ideal) v (iblk m c 4 p) (iblk m c 5 p) (iblk m c 6 p) (iblk m c 0 p) y
      = ((dh d h g kv wq wo (((View.whole main_v19_0).slice (win0_7.rect p)).emb y 0) (((View.whole main_v19_0).slice (win0_7.rect p)).emb y 1) : ℝ) : EReal) := by
    subst hv
    idx_vars y
    rw [kdh (b0 h0 p) (b4 h4 p) (b5 h1 p) (b6 h2 p) (fun _ _ => rfl)]
    refine congrArg _ (congrArg₂ (dh d h g kv wq wo) (Fin.ext ?_) (Fin.ext ?_)) <;> blk_simp [idx p]
  blk_simp
  rw [after0_7]
  by_cases hp : p.val % 4 = 0
  · rw [outsAt0_A m c p hp]; frame_out
    refine key _ ?_ y
    rw [View.readCov_eq_canon']
    exact dqw h0 h1 h2 h3 h4 h5 p
  · rw [outsAt0_B m c p hp]; frame_out
    refine key _ ?_ y
    rw [View.readCov_eq_canon']
    exact dqw h0 h1 h2 h3 h4 h5 p

theorem final_dhb : (dats m 0 c).arrAt 8 cfg0.N = fun i : S4096x1024.Idx => ((dh d h g kv wq wo (i 0) (i 1) : ℝ) : EReal) := by
  refine (dats m 0 c).arrAt_eq_of_covers 8 _ (by decide +kernel) fun p _ y => ?_
  have key (v : FVec Ideal S1024x1024 .bf16) (hv : v = fun y : S1024x1024.Idx => ((dq d h g kv wq wo (row p (y 0)) (y 1) : ℝ) : EReal)) (y : S1024x1024.Idx) :
      k0_pay1 (F := Ideal) (k0_pay47 v (iblk m c 4 p) (iblk m c 5 p) (iblk m c 6 p) (iblk m c 0 p)) y
      = ((dh d h g kv wq wo (((View.whole main_v19_1).slice (win0_8.rect p)).emb y 0) (((View.whole main_v19_1).slice (win0_8.rect p)).emb y 1) : ℝ) : EReal) := by
    subst hv
    idx_vars y
    pointwise [k0_pay1]
    rw [kdh (b0 h0 p) (b4 h4 p) (b5 h1 p) (b6 h2 p) (fun _ _ => rfl)]
    refine congrArg _ (congrArg₂ (dh d h g kv wq wo) (Fin.ext ?_) (Fin.ext ?_)) <;> blk_simp [idx p]
  blk_simp
  rw [after0_8]
  by_cases hp : p.val % 4 = 0
  · rw [outsAt0_A m c p hp]; frame_out
    refine key _ ?_ y
    rw [View.readCov_eq_canon']
    exact dqw h0 h1 h2 h3 h4 h5 p
  · rw [outsAt0_B m c p hp]; frame_out
    refine key _ ?_ y
    rw [View.readCov_eq_canon']
    exact dqw h0 h1 h2 h3 h4 h5 p

theorem final_dg : (dats m 0 c).arrAt 11 cfg0.N = fun i : S1x1024.Idx => ((∑ x, dgt d h g kv wq wo x (i 1) : ℝ) : EReal) := by
  refine (dats m 0 c).arrAt_eq_of_after_last 11 t0_3 (by decide +kernel) _ fun j => ?_
  have key (p : Fin cfg0.N) (v : FVec Ideal S1024x1024 .bf16) (hv : v = fun y : S1024x1024.Idx => ((dq d h g kv wq wo (row p (y 0)) (y 1) : ℝ) : EReal)) (z : FVec Ideal S1x1024 .f32) (y : S1x1024.Idx) :
      k0_pay2 (F := Ideal) (k0_pay46 v (iblk m c 4 p) (iblk m c 5 p)) z y = z y + ((∑ i : Fin 1024, dgt d h g kv wq wo (row p i) (y 1) : ℝ) : EReal) := by
    subst hv
    idx_vars y
    pointwise [k0_pay2]
    rw [kdgt (b4 h4 p) (b5 h1 p) (fun _ _ => rfl)]
  blk_simp
  rw [after0_11]
  rw [Pipeline.eq_sum_fin_of_reset_step_apply_last (fun n h => (outsAt0 m c n h).2.2.2.2) 4 (fun _ => (0 : EReal))
    (fun p y => ((∑ i : Fin 1024, dgt d h g kv wq wo (row p i) (y 1) : ℝ) : EReal))
    (fun p hp j => by
      rw [outsAt0_A m c p hp]; frame_out
      rw [View.readCov_eq_canon']
      refine Eq.trans (key p _ (dqw h0 h1 h2 h3 h4 h5 p) _ j) ?_
      exact congrArg (· + _) (by pointwise [k0_pay4]))
    (fun p hp j => by
      rw [outsAt0_B m c p hp]; frame_out
      rw [View.readCov_eq_canon']
      exact key p _ (dqw h0 h1 h2 h3 h4 h5 p) _ j)
    (le_of_eq N_0) t0_3 rfl j, zero_add]
  exact sum_blocks (congrArg (· * 1024) N_0) (fun i => dgt d h g kv wq wo i (j 1)) row fun _ _ => rfl

end Cert.AttnIdeal.Arrays

end
-- ==== Proof.AttnClaim.lean ====
/- The claims about the attention's gradient. -/
module

public import proofs.«01_k».proof.Defs
public import proofs.«01_k».proof.Proof.AttnValue
public import proofs.«01_k».proof.Proof.Gen.Attn.Frame
public import Idealize.ShloMosaic.Lib.Claim

@[expose] public section

set_option maxRecDepth 16384

noncomputable section

open Idealize.ShloMosaic Idealize.ShloMosaic.TcCoe Idealize.SL.Sem Cert.Reals

namespace Cert.Proof

theorem facts_finite_attn : Cert.Pre_finite_attn.Facts where
  bcast_S_S4096x1024 := by decide
  bcast_S_S1024 := by decide
  bcast_S_S256x2048 := by decide
  bcast_S_S1024x1024 := by decide

section
open Cert.AttnIdeal

/-- What the precondition says of a device's arguments: each is an array of reals. -/
theorem attn_reals (m : (ℓ : Loc nD τ sig) → Buf (Elt Ideal) ℓ) (c : Dev nD) (hpre : Cert.Pre_AttnIdeal_finite_attn (hPre_finite_attn := facts_finite_attn) m) :
    ∃ (d h : Fin 4096 → Fin 1024 → ℝ) (g : Fin 1024 → ℝ) (kv : Fin 256 → Fin 2048 → ℝ) (wq wo : Fin 1024 → Fin 1024 → ℝ),
      (∀ i k, (show FVec Ideal S4096x1024 .f32 from m ((c : Thread nD τ).loc main_arg0)) (ix2 i k) = ((d i k : ℝ) : EReal))
      ∧ (∀ i k, (show FVec Ideal S4096x1024 .f32 from m ((c : Thread nD τ).loc main_arg1)) (ix2 i k) = ((h i k : ℝ) : EReal))
      ∧ (∀ k, (show FVec Ideal S1024 .f32 from m ((c : Thread nD τ).loc main_arg2)) (ix1 k) = ((g k : ℝ) : EReal))
      ∧ (∀ i k, (show FVec Ideal S256x2048 .f32 from m ((c : Thread nD τ).loc main_arg3)) (ix2 i k) = ((kv i k : ℝ) : EReal))
      ∧ (∀ i k, (show FVec Ideal S1024x1024 .f32 from m ((c : Thread nD τ).loc main_arg4)) (ix2 i k) = ((wq i k : ℝ) : EReal))
      ∧ (∀ i k, (show FVec Ideal S1024x1024 .f32 from m ((c : Thread nD τ).loc main_arg5)) (ix2 i k) = ((wo i k : ℝ) : EReal)) :=
  ⟨_, _, _, _, _, _, fun i k => reals_of_below (fun _ => rfl) (hpre c).1 (ix2 i k), fun i k => reals_of_below (fun _ => rfl) (hpre c).2.1 (ix2 i k),
    fun k => reals_of_below (fun _ => rfl) (hpre c).2.2.1 (ix1 k), fun i k => reals_of_below (fun _ => rfl) (hpre c).2.2.2.1 (ix2 i k),
    fun i k => reals_of_below (fun _ => rfl) (hpre c).2.2.2.2.1 (ix2 i k), fun i k => reals_of_below (fun _ => rfl) (hpre c).2.2.2.2.2 (ix2 i k)⟩

end

open Cert.AttnIdeal.Arrays Cert.AttnRefIdeal.Rows Cert.AttnRefIdeal.Read in
theorem attn_value : Cert.algebraic_AttnIdeal_AttnRefIdeal_pre_finite_attn (hPre_finite_attn := facts_finite_attn) := by
  intro m g m' g' hpre hagree
  refine ⟨_, _, _, _, _, Cert.AttnIdeal.Value.run_blocks m g, (θ_run _ _ _).mono (fun r h c => ?_) (Cert.AttnRefIdeal.Value.run m' g')⟩
  obtain ⟨d, y, w, kv, wq, wo, h0, h1, h2, h3, h4, h5⟩ := attn_reals m c hpre
  obtain ⟨e0, e1, e2, e3, e4, e5⟩ := hagree c
  obtain ⟨r0, r1, r2, r3, r4, k⟩ := h c
  refine ⟨(r0.trans (val_main_v106_eq m' c)).trans ?_, (r1.trans (val_main_v107_eq m' c)).trans ?_, (r2.trans (val_main_v108_eq m' c)).trans ?_,
    (r3.trans (val_main_v83_eq m' c)).trans ?_, (r4.trans (val_main_v109_eq m' c)).trans ?_, k⟩ <;> rw [e0, e1, e2, e3, e4, e5]
  · refine Eq.trans (funext fun i => ?_) (final_dh h0 h1 h2 h3 h4 h5).symm
    idx_vars i
    exact rdh h0 h1 h2 h3 h4 h5 _ _
  · refine Eq.trans (funext fun i => ?_) (final_dhb h0 h1 h2 h3 h4 h5).symm
    idx_vars i
    exact rdh h0 h1 h2 h3 h4 h5 _ _
  · refine Eq.trans (funext fun i => ?_) (final_dq h0 h1 h2 h3 h4 h5).symm
    idx_vars i
    exact rdq h0 h1 h2 h3 h4 h5 _ _
  · refine Eq.trans (funext fun i => ?_) (final_dkv h0 h1 h2 h3 h4 h5).symm
    idx_vars i
    exact rdkv h0 h1 h2 h3 h4 h5 _ _
  · refine Eq.trans (funext fun i => ?_) (final_dg h0 h1 h2 h3 h4 h5).symm
    idx_vars i
    exact rdg h0 h1 h2 h3 h4 h5 _ _

theorem attn : ∃ (hAttn : Cert.Attn.Facts) (hAttnIdeal : Cert.AttnIdeal.Facts) (hAttnRefIdeal : Cert.AttnRefIdeal.Facts) (hPre_finite_attn : Cert.Pre_finite_attn.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Attn_AttnIdeal
    ∧ algebraic_AttnIdeal_AttnRefIdeal_pre_finite_attn (hAttnIdeal := hAttnIdeal) (hAttnRefIdeal := hAttnRefIdeal) (hPre_finite_attn := hPre_finite_attn) :=
  ⟨Cert.Attn.Gen.facts, Cert.AttnIdeal.Gen.facts, Cert.AttnRefIdeal.Gen.facts, facts_finite_attn,
    fun m ρ _ => Cert.Attn.Gen.frame m ρ, fun m ρ _ => Cert.AttnIdeal.Gen.frame m ρ, fun m ρ _ => Cert.AttnIdeal.Gen.frame m ρ,
    fun m ρ _ => (θ_run_mono (Cert.AttnRefIdeal.Value.run m ρ) fun r h => ⟨fun c => (h c).2.2.2.2.2, sem_eq_zero_of_no_sems rfl r.2⟩), fun m ρ _ => (θ_run_mono (Cert.AttnRefIdeal.Value.run m ρ) fun r h => ⟨fun c => (h c).2.2.2.2.2, sem_eq_zero_of_no_sems rfl r.2⟩), trivial, attn_value⟩

end Cert.Proof

end
-- ==== Proof.FfnValue.lean ====
/- The gated network's gradient: each result of the call as a real function of the arguments, of the reference and of the kernel. -/
module

public import proofs.«01_k».proof.Proof.Reals
public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Ffn.Real
open Cert.Reals

/-- The logistic function. -/
def sg (z : ℝ) : ℝ := 1 / (1 + Real.exp (-z))

theorem sg_coe (z : ℝ) : Ideal.div 1 (1 + Ideal.exp (((-z : ℝ)) : EReal)) = ((sg z : ℝ) : EReal) := by
  rw [Ideal.exp_coe, ← EReal.coe_one, ← EReal.coe_add, div_coe_coe (by positivity), sg]

/-- A gate's column and a value's column among the two projections' columns. -/
abbrev gcol (n : Fin 2816) : Fin 5632 := ⟨n.val, by omega⟩
abbrev ucol (n : Fin 2816) : Fin 5632 := ⟨2816 + n.val, by omega⟩

variable (d h : Fin 4096 → Fin 1024 → ℝ) (g : Fin 1024 → ℝ) (w : Fin 1024 → Fin 5632 → ℝ) (wd : Fin 2816 → Fin 1024 → ℝ)

/-- The projections of the normalized stream. -/
def gu (i : Fin 4096) (k : Fin 5632) : ℝ := ∑ x, h i x * rinv (h i) * g x * w x k
/-- The gradient of the gated values. -/
def da (i : Fin 4096) (n : Fin 2816) : ℝ := ∑ x, d i x * wd n x
/-- The gates' gradient. -/
def dgate (i : Fin 4096) (n : Fin 2816) : ℝ :=
  da d wd i n * gu h g w i (ucol n) * (sg (gu h g w i (gcol n)) * (1 + gu h g w i (gcol n) * (1 - sg (gu h g w i (gcol n)))))
/-- The values' gradient. -/
def dup (i : Fin 4096) (n : Fin 2816) : ℝ := da d wd i n * (gu h g w i (gcol n) * sg (gu h g w i (gcol n)))
/-- The two, the gates' first. -/
def dgu (s : Fin 2) (i : Fin 4096) (n : Fin 2816) : ℝ := if s.val = 0 then dgate d h g w wd i n else dup d h g w wd i n
/-- The gradient of the normalized stream. -/
def dhn (i : Fin 4096) (k : Fin 1024) : ℝ := ∑ n, dgate d h g w wd i n * w k (gcol n) + ∑ n, dup d h g w wd i n * w k (ucol n)
/-- The stream's gradient. -/
def dh (i : Fin 4096) (k : Fin 1024) : ℝ := d i k + rback (h i) (fun x => dhn d h g w wd i x * g x) k
/-- The scale's gradient, a row's part. -/
def dgt (i : Fin 4096) (k : Fin 1024) : ℝ := dhn d h g w wd i k * (h i k * rinv (h i))

end Cert.Ffn.Real

namespace Cert.FfnRefIdeal.Rows
open Cert.FfnRefIdeal Cert.FfnRefIdeal.Gen Cert.FfnRefIdeal.Read Cert.Reals Cert.Ffn.Real

variable {d h : Fin 4096 → Fin 1024 → ℝ} {g : Fin 1024 → ℝ} {w : Fin 1024 → Fin 5632 → ℝ} {wd : Fin 2816 → Fin 1024 → ℝ}
  {x0 x1 : FVec Ideal S4096x1024 .f32} {x2 : FVec Ideal S1024 .f32} {x3 : FVec Ideal S1024x5632 .f32} {x4 : FVec Ideal S2816x1024 .f32}
  (h0 : ∀ i k, x0 (ix2 i k) = ((d i k : ℝ) : EReal)) (h1 : ∀ i k, x1 (ix2 i k) = ((h i k : ℝ) : EReal)) (h2 : ∀ k, x2 (ix1 k) = ((g k : ℝ) : EReal))
  (h3 : ∀ i k, x3 (ix2 i k) = ((w i k : ℝ) : EReal)) (h4 : ∀ i k, x4 (ix2 i k) = ((wd i k : ℝ) : EReal))

section
include h1
theorem r6 (i : Fin 4096) (k : Fin 1) : val_main_v6 (F := Ideal) x1 (ix2 i k) = ((msq (h i) : ℝ) : EReal) := by
  pointwise [val_main_v6, val_main_v5, val_main_v4, val_main_v3, val_main_v2, val_main_v1, val_main_v0, val_main_cst, val_main_cst_0, val_main_cst_1]
  simp only [h1, zero_add]
  exact msq_coe _

theorem r7 (i : Fin 4096) (k : Fin 1) : val_main_v7 (F := Ideal) x1 (ix2 i k) = ((rinv (h i) : ℝ) : EReal) := by
  pointwise [val_main_v7]
  rw [r6 h1, rinv_coe]

theorem r10 (i : Fin 4096) (k : Fin 1) : val_main_v10 (F := Ideal) x1 (ix2 i k) = ((-(1 / 2) * (rinv (h i) / msq (h i)) : ℝ) : EReal) := by
  pointwise [val_main_v10, val_main_v9, val_main_v8, val_main_cst_2]
  rw [r6 h1, r7 h1, div_coe_coe (msq_pos _).ne', cneghalf, EReal.coe_mul]

theorem r12 (i : Fin 4096) (k : Fin 1024) : val_main_v12 (F := Ideal) x1 (ix2 i k) = ((h i k * rinv (h i) : ℝ) : EReal) := by
  pointwise [val_main_v12, val_main_v11]
  rw [h1, r7 h1, EReal.coe_mul]
end

section
include h1 h2 h3
theorem r16 (i : Fin 4096) (k : Fin 5632) : val_main_v16 (F := Ideal) x1 x2 x3 (ix2 i k) = ((gu h g w i k : ℝ) : EReal) := by
  pointwise [val_main_v16, val_main_v15, val_main_v14, val_main_v13]
  simp only [r12 h1, h2, h3, ← EReal.coe_mul, sum_coe, gu]

theorem r17 (i : Fin 4096) (n : Fin 2816) : val_main_v17 (F := Ideal) x1 x2 x3 (ix2 i n) = ((gu h g w i (gcol n) : ℝ) : EReal) := by
  pointwise [val_main_v17]
  rw [r16 h1 h2 h3]

theorem r18 (i : Fin 4096) (n : Fin 2816) : val_main_v18 (F := Ideal) x1 x2 x3 (ix2 i n) = ((gu h g w i (ucol n) : ℝ) : EReal) := by
  pointwise [val_main_v18]
  rw [r16 h1 h2 h3]

theorem rsg (i : Fin 4096) (n : Fin 2816) : val_main_v19_2 (F := Ideal) x1 x2 x3 (ix2 i n) = ((sg (gu h g w i (gcol n)) : ℝ) : EReal) := by
  pointwise [val_main_v19_2, val_main_call0_v4, val_main_call0_v3, val_main_call0_v2, val_main_call0_v1, val_main_call0_v0, val_main_call0_cst, val_main_call0_cst_0]
  rw [r17 h1 h2 h3, ← EReal.coe_neg]
  exact sg_coe _
end

section
include h0 h4
theorem r22 (i : Fin 4096) (n : Fin 2816) : val_main_v22 (F := Ideal) x0 x4 (ix2 i n) = ((da d wd i n : ℝ) : EReal) := by
  pointwise [val_main_v22]
  simp only [h0, h4, ← EReal.coe_mul, sum_coe, da]
end

include h0 h1 h2 h3 h4

theorem r25 (i : Fin 4096) (n : Fin 2816) : val_main_v25 (F := Ideal) x0 x1 x2 x3 x4 (ix2 i n) = ((dgate d h g w wd i n : ℝ) : EReal) := by
  pointwise [val_main_v25, val_main_call1_v2, val_main_call1_v1, val_main_call1_v0, val_main_v24, val_main_v19_1, val_main_call0_v7, val_main_call0_v6, val_main_call0_cst_1]
  rw [r22 h0 h4, r17 h1 h2 h3, r18 h1 h2 h3, rsg h1 h2 h3]
  simp only [← EReal.coe_one, ← EReal.coe_mul, ← EReal.coe_sub, ← EReal.coe_add]
  exact congrArg _ (by rw [dgate]; ring)

theorem r23 (i : Fin 4096) (n : Fin 2816) : val_main_v23 (F := Ideal) x0 x1 x2 x3 x4 (ix2 i n) = ((dup d h g w wd i n : ℝ) : EReal) := by
  pointwise [val_main_v23, val_main_v19_0]
  rw [r22 h0 h4, r17 h1 h2 h3, rsg h1 h2 h3]
  simp only [← EReal.coe_mul]
  exact congrArg _ (by rw [dup]; ring)

theorem r26g (i : Fin 4096) (n : Fin 2816) : val_main_v26 (F := Ideal) x0 x1 x2 x3 x4 (ix2 i (gcol n)) = ((dgate d h g w wd i n : ℝ) : EReal) := by
  pointwise [val_main_v26]
  exact r25 h0 h1 h2 h3 h4 i n

theorem r26u (i : Fin 4096) (n : Fin 2816) : val_main_v26 (F := Ideal) x0 x1 x2 x3 x4 (ix2 i (ucol n)) = ((dup d h g w wd i n : ℝ) : EReal) := by
  pointwise [val_main_v26]
  rw [r23 h0 h1 h2 h3 h4]

theorem rdgu (s : Fin 2) (i : Fin 4096) (n : Fin 2816) : val_main_v54 (F := Ideal) x0 x1 x2 x3 x4 (ix3 s i n) = ((dgu d h g w wd s i n : ℝ) : EReal) := by
  pointwise [val_main_v54, val_main_v53, val_main_v52, val_main_v51, val_main_v50, val_main_v49]
  unfold dgu
  fin_cases s
  · exact r26g h0 h1 h2 h3 h4 i n
  · exact r26u h0 h1 h2 h3 h4 i n

theorem r27 (i : Fin 4096) (k : Fin 1024) : val_main_v27 (F := Ideal) x0 x1 x2 x3 x4 (ix2 i k) = ((dhn d h g w wd i k : ℝ) : EReal) := by
  pointwise [val_main_v27]
  refine (Fin.sum_univ_add (a := 2816) (b := 2816) _).trans ?_
  rw [dhn, EReal.coe_add]
  refine congrArg₂ (· + ·) ?_ ?_
  · refine Eq.trans (Finset.sum_congr rfl fun n _ => ?_) (sum_coe _ _)
    refine (congrArg₂ (· * ·) (r26g h0 h1 h2 h3 h4 i n) (h3 k (gcol n))).trans (EReal.coe_mul _ _).symm
  · refine Eq.trans (Finset.sum_congr rfl fun n _ => ?_) (sum_coe _ _)
    refine (congrArg₂ (· * ·) (r26u h0 h1 h2 h3 h4 i n) (h3 k (ucol n))).trans (EReal.coe_mul _ _).symm

theorem r32 (i : Fin 4096) (k : Fin 1024) : val_main_v32 (F := Ideal) x0 x1 x2 x3 x4 (ix2 i k) = ((dhn d h g w wd i k * g k : ℝ) : EReal) := by
  pointwise [val_main_v32, val_main_v31, val_main_v13]
  rw [r27 h0 h1 h2 h3 h4, h2, EReal.coe_mul]

theorem rdh (i : Fin 4096) (k : Fin 1024) : val_main_v48 (F := Ideal) x0 x1 x2 x3 x4 (ix2 i k) = ((dh d h g w wd i k : ℝ) : EReal) := by
  pointwise [val_main_v48, val_main_v47, val_main_v46, val_main_v45, val_main_v44, val_main_v43, val_main_v42, val_main_v41, val_main_v40, val_main_v39, val_main_v38,
    val_main_v37, val_main_v36, val_main_v35, val_main_v34, val_main_cst_5, val_main_cst_6, val_main_cst_7]
  simp only [h0, h1, r7 h1, r10 h1, r32 h0 h1 h2 h3 h4, zero_add, c1024, Fin.sum_univ_one, ← EReal.coe_mul, sum_coe,
    div_coe_coe (show (1024 : ℝ) ≠ 0 by norm_num), ← EReal.coe_add]
  exact congrArg _ (congrArg (d i k + ·) (rback_eq (h i) (fun x => dhn d h g w wd i x * g x) k))

theorem rdg (i : Fin 1) (k : Fin 1024) : val_main_v56 (F := Ideal) x0 x1 x2 x3 x4 (ix2 i k) = ((∑ i, dgt d h g w wd i k : ℝ) : EReal) := by
  pointwise [val_main_v56, val_main_v33, val_main_v30, val_main_v29, val_main_v28, val_main_cst_3, val_main_cst_4]
  simp only [r12 h1, r27 h0 h1 h2 h3 h4, zero_add, Fin.sum_univ_one, ← EReal.coe_mul, sum_coe, dgt]
  exact congrArg _ (Finset.sum_congr rfl fun x _ => mul_comm _ _)

end Cert.FfnRefIdeal.Rows

namespace Cert.FfnIdeal.Rows
open Cert.FfnIdeal Cert.FfnIdeal.Gen Cert.Reals Cert.Ffn.Real

/-- The windows' blocks: rows `512 t …` of the gradient, the projections, the stream and the results of their shape; else the whole array. -/
theorem idx : ∀ t : Fin cfg0.N, win0_0.index t = ![t.val, 0] ∧ win0_1.index t = ![0, 0] ∧ win0_2.index t = ![0, t.val, 0] ∧ win0_3.index t = ![0, 0, 0] ∧ win0_4.index t = ![t.val, 0]
    ∧ win0_5.index t = ![0, 0] ∧ win0_6.index t = ![0, t.val, 0] ∧ win0_7.index t = ![t.val, 0] ∧ win0_8.index t = ![t.val, 0] ∧ win0_9.index t = ![0, 0] :=
  (by decide +kernel : ∀ t : Fin grid0.N, _)

/-- Row `j` of block `t`. -/
abbrev row (t : Fin cfg0.N) (j : Fin 512) : Fin 4096 := ⟨t.val * 512 + j.val, by have := lt_of_lt_of_eq t.isLt N_0; omega⟩

variable {d h : Fin 4096 → Fin 1024 → ℝ} {g : Fin 1024 → ℝ} {w : Fin 1024 → Fin 5632 → ℝ} {wd : Fin 2816 → Fin 1024 → ℝ} {p : Fin cfg0.N}
  {x0 : FVec Ideal S512x1024 .f32} {x1 : FVec Ideal S2816x1024 .bf16} {x2 : FVec Ideal S2x512x2816 .bf16} {x3 : FVec Ideal S2x1024x2816 .bf16}
  {x4 : FVec Ideal S512x1024 .f32} {x5 : FVec Ideal S1x1024 .f32}
  (h0 : ∀ i k, x0 (ix2 i k) = ((d (row p i) k : ℝ) : EReal)) (h1 : ∀ n k, x1 (ix2 n k) = ((wd n k : ℝ) : EReal))
  (h2g : ∀ i n, x2 (ix3 0 i n) = ((gu h g w (row p i) (gcol n) : ℝ) : EReal)) (h2u : ∀ i n, x2 (ix3 1 i n) = ((gu h g w (row p i) (ucol n) : ℝ) : EReal))
  (h3g : ∀ i n, x3 (ix3 0 i n) = ((w i (gcol n) : ℝ) : EReal)) (h3u : ∀ i n, x3 (ix3 1 i n) = ((w i (ucol n) : ℝ) : EReal))
  (h4 : ∀ i k, x4 (ix2 i k) = ((h (row p i) k : ℝ) : EReal)) (h5 : ∀ i k, x5 (ix2 i k) = ((g k : ℝ) : EReal))

/-! Tiles of columns: `n` of a tile is column `c n`; `b` are the projection's rows, `a` the gates, `u` the values. -/

section
variable {c : Fin 1024 → Fin 2816} {b : FVec Ideal S1024x1024 .bf16} {a u : FVec Ideal S1x512x1024 .bf16}
  (hb : ∀ n k, b (ix2 n k) = ((wd (c n) k : ℝ) : EReal)) (ha : ∀ s i n, a (ix3 s i n) = ((gu h g w (row p i) (gcol (c n)) : ℝ) : EReal))
  (hu : ∀ s i n, u (ix3 s i n) = ((gu h g w (row p i) (ucol (c n)) : ℝ) : EReal))
include ha in
theorem k7 (i : Fin 512) (n : Fin 1024) : k0_pay7 (F := Ideal) a (ix2 i n) = ((gu h g w (row p i) (gcol (c n)) : ℝ) : EReal) := by
  pointwise [k0_pay7]
  rw [ha]
include ha in
theorem k8 (i : Fin 512) (n : Fin 1024) : k0_pay8 (F := Ideal) a (ix2 i n) = ((sg (gu h g w (row p i) (gcol (c n))) : ℝ) : EReal) := by
  pointwise [k0_pay8]
  rw [k7 ha, zero_sub, ← EReal.coe_neg]
  exact sg_coe _
include h0 hb in
theorem k6 (i : Fin 512) (n : Fin 1024) : k0_pay6 (F := Ideal) x0 b (ix2 i n) = ((da d wd (row p i) (c n) : ℝ) : EReal) := by
  pointwise [k0_pay6, k0_pay5]
  simp only [h0, hb, ← EReal.coe_mul, sum_coe, da]
include h0 hb ha in
theorem kdu (s : Fin 1) (i : Fin 512) (n : Fin 1024) : k0_pay11 (F := Ideal) (k0_pay10 x0 b a) (ix3 s i n) = ((dup d h g w wd (row p i) (c n) : ℝ) : EReal) := by
  pointwise [k0_pay11, k0_pay10]
  rw [k6 h0 hb, k7 ha, k8 ha, ← EReal.coe_mul, ← EReal.coe_mul, dup]
include h0 hb ha hu in
theorem kdg (s : Fin 1) (i : Fin 512) (n : Fin 1024) : k0_pay9 (F := Ideal) x0 b a u (ix3 s i n) = ((dgate d h g w wd (row p i) (c n) : ℝ) : EReal) := by
  pointwise [k0_pay9]
  rw [k6 h0 hb, k7 ha, k8 ha, hu]
  simp only [← EReal.coe_one, ← EReal.coe_mul, ← EReal.coe_sub, ← EReal.coe_add, dgate]
end

section
variable {c : Fin 768 → Fin 2816} {b : FVec Ideal S768x1024 .bf16} {a u : FVec Ideal S1x512x768 .bf16}
  (hb : ∀ n k, b (ix2 n k) = ((wd (c n) k : ℝ) : EReal)) (ha : ∀ s i n, a (ix3 s i n) = ((gu h g w (row p i) (gcol (c n)) : ℝ) : EReal))
  (hu : ∀ s i n, u (ix3 s i n) = ((gu h g w (row p i) (ucol (c n)) : ℝ) : EReal))
include ha in
theorem k19 (i : Fin 512) (n : Fin 768) : k0_pay19 (F := Ideal) a (ix2 i n) = ((gu h g w (row p i) (gcol (c n)) : ℝ) : EReal) := by
  pointwise [k0_pay19]
  rw [ha]
include ha in
theorem k20 (i : Fin 512) (n : Fin 768) : k0_pay20 (F := Ideal) a (ix2 i n) = ((sg (gu h g w (row p i) (gcol (c n))) : ℝ) : EReal) := by
  pointwise [k0_pay20]
  rw [k19 ha, zero_sub, ← EReal.coe_neg]
  exact sg_coe _
include h0 hb in
theorem k18 (i : Fin 512) (n : Fin 768) : k0_pay18 (F := Ideal) (k0_pay5 x0) b (ix2 i n) = ((da d wd (row p i) (c n) : ℝ) : EReal) := by
  pointwise [k0_pay18, k0_pay5]
  simp only [h0, hb, ← EReal.coe_mul, sum_coe, da]
include h0 hb ha in
theorem kdu' (s : Fin 1) (i : Fin 512) (n : Fin 768) : k0_pay22 (F := Ideal) (k0_pay5 x0) b a (ix3 s i n) = ((dup d h g w wd (row p i) (c n) : ℝ) : EReal) := by
  pointwise [k0_pay22]
  rw [k18 h0 hb, k19 ha, k20 ha, ← EReal.coe_mul, ← EReal.coe_mul, dup]
include h0 hb ha hu in
theorem kdg' (s : Fin 1) (i : Fin 512) (n : Fin 768) : k0_pay21 (F := Ideal) (k0_pay5 x0) b a u (ix3 s i n) = ((dgate d h g w wd (row p i) (c n) : ℝ) : EReal) := by
  pointwise [k0_pay21]
  rw [k18 h0 hb, k19 ha, k20 ha, hu]
  simp only [← EReal.coe_one, ← EReal.coe_mul, ← EReal.coe_sub, ← EReal.coe_add, dgate]
end

section
variable {yg yu : FVec Ideal S1x512x2816 .bf16} {wg wu : FVec Ideal S1x1024x2816 .bf16}
  (hg : ∀ s i n, yg (ix3 s i n) = ((dgate d h g w wd (row p i) n : ℝ) : EReal)) (hu : ∀ s i n, yu (ix3 s i n) = ((dup d h g w wd (row p i) n : ℝ) : EReal))
  (hwg : ∀ s k n, wg (ix3 s k n) = ((w k (gcol n) : ℝ) : EReal)) (hwu : ∀ s k n, wu (ix3 s k n) = ((w k (ucol n) : ℝ) : EReal))

include h4 in
theorem k24 (i : Fin 512) (k : Fin 1) : k0_pay24 (F := Ideal) x4 (ix2 i k) = ((rinv (h (row p i)) : ℝ) : EReal) := by
  pointwise [k0_pay24]
  simp only [h4, msq_coe, rinv_coe]

include hg hu hwg hwu
theorem k23 (i : Fin 512) (k : Fin 1024) : k0_pay23 (F := Ideal) yg wg yu wu (ix2 i k) = ((dhn d h g w wd (row p i) k : ℝ) : EReal) := by
  pointwise [k0_pay23]
  simp only [hg, hu, hwg, hwu, ← EReal.coe_mul, sum_coe, ← EReal.coe_add, dhn]

include h4
theorem k27 (i : Fin 512) (k : Fin 1024) : k0_pay27 (F := Ideal) yg wg yu wu x4 (ix2 i k) = ((dgt d h g w wd (row p i) k : ℝ) : EReal) := by
  pointwise [k0_pay27, k0_pay25]
  rw [k23 hg hu hwg hwu, k24 h4, h4, ← EReal.coe_mul, ← EReal.coe_mul, dgt]

include h0 h5
theorem kdh (i : Fin 512) (k : Fin 1024) : k0_pay1 (F := Ideal) x0 (k0_pay26 yg wg yu wu x4 x5) (ix2 i k) = ((dh d h g w wd (row p i) k : ℝ) : EReal) := by
  pointwise [k0_pay1, k0_pay26, k0_pay25]
  simp only [k23 hg hu hwg hwu, k24 h4, h0, h4, h5, c1024, ← EReal.coe_mul, ← EReal.coe_sub, ← EReal.coe_add, sum_coe,
    div_coe_coe (show (1024 : ℝ) ≠ 0 by norm_num), dh, rback]
end

/-! ## The stores of a point -/

/-- The two gradients on a block of rows. -/
abbrev dguF (d h : Fin 4096 → Fin 1024 → ℝ) (g : Fin 1024 → ℝ) (w : Fin 1024 → Fin 5632 → ℝ) (wd : Fin 2816 → Fin 1024 → ℝ) (p : Fin cfg0.N) (y : S2x512x2816.Idx) : EReal :=
  ((dgu d h g w wd (y 0) (row p (y 1)) (y 2) : ℝ) : EReal)

/-- Some rows of the projection. -/
abbrev ldb (x : FVec Ideal S2816x1024 .bf16) (o n : Nat) (inb : ∀ a, (![o, 0] : Fin 2 → Nat) a + (![n, 1024] : Fin 2 → Nat) a ≤ S2816x1024.size a) :=
  View.ld (Val := Elt Ideal) (e' := .bf16) x (Rect.unit (s := S2816x1024) ![o, 0] ![n, 1024] inb)

/-- Some columns of the gates or of the values. -/
abbrev lda (x : FVec Ideal S2x512x2816 .bf16) (s o n : Nat) (inb : ∀ a, (![s, 0, o] : Fin 3 → Nat) a + (![1, 512, n] : Fin 3 → Nat) a ≤ S2x512x2816.size a) :=
  View.ld (Val := Elt Ideal) (e' := .bf16) x (Rect.unit (s := S2x512x2816) ![s, 0, o] ![1, 512, n] inb)

/-- The gates' or the values' half of the weights. -/
abbrev ldw (x : FVec Ideal S2x1024x2816 .bf16) (s : Nat) (inb : ∀ a, (![s, 0, 0] : Fin 3 → Nat) a + (![1, 1024, 2816] : Fin 3 → Nat) a ≤ S2x1024x2816.size a) :=
  View.ld (Val := Elt Ideal) (e' := .bf16) x (Rect.unit (s := S2x1024x2816) ![s, 0, 0] ![1, 1024, 2816] inb)

/-- The gates' and the values' gradient, stored by columns. -/
def dguL (x0 : FVec Ideal S512x1024 .f32) (x1 : FVec Ideal S2816x1024 .bf16) (x2 : FVec Ideal S2x512x2816 .bf16) : List (View.Piece (Elt Ideal) S2x512x2816 .bf16) :=
  [⟨Rect.unit ![1, 0, 2048] ![1, 512, 768] inb_S2x512x2816_S1x512x768_1_0_2048,
      k0_pay22 (F := Ideal) (k0_pay5 x0) (ldb x1 2048 768 inb_S2816x1024_S768x1024_2048_0) (lda x2 0 2048 768 inb_S2x512x2816_S1x512x768_0_0_2048)⟩,
    ⟨Rect.unit ![0, 0, 2048] ![1, 512, 768] inb_S2x512x2816_S1x512x768_0_0_2048,
      k0_pay21 (F := Ideal) (k0_pay5 x0) (ldb x1 2048 768 inb_S2816x1024_S768x1024_2048_0) (lda x2 0 2048 768 inb_S2x512x2816_S1x512x768_0_0_2048)
        (lda x2 1 2048 768 inb_S2x512x2816_S1x512x768_1_0_2048)⟩,
    ⟨Rect.unit ![1, 0, 1024] ![1, 512, 1024] inb_S2x512x2816_S1x512x1024_1_0_1024,
      k0_pay17 (F := Ideal) (k0_pay16 (k0_pay5 x0) (ldb x1 1024 1024 inb_S2816x1024_S1024x1024_1024_0) (lda x2 0 1024 1024 inb_S2x512x2816_S1x512x1024_0_0_1024))⟩,
    ⟨Rect.unit ![0, 0, 1024] ![1, 512, 1024] inb_S2x512x2816_S1x512x1024_0_0_1024,
      k0_pay15 (F := Ideal) (k0_pay5 x0) (ldb x1 1024 1024 inb_S2816x1024_S1024x1024_1024_0) (lda x2 0 1024 1024 inb_S2x512x2816_S1x512x1024_0_0_1024)
        (lda x2 1 1024 1024 inb_S2x512x2816_S1x512x1024_1_0_1024)⟩,
    ⟨Rect.unit ![1, 0, 0] ![1, 512, 1024] inb_S2x512x2816_S1x512x1024_1_0_0,
      k0_pay11 (F := Ideal) (k0_pay10 x0 (ldb x1 0 1024 inb_S2816x1024_S1024x1024_0_0) (lda x2 0 0 1024 inb_S2x512x2816_S1x512x1024_0_0_0))⟩,
    ⟨Rect.unit ![0, 0, 0] ![1, 512, 1024] inb_S2x512x2816_S1x512x1024_0_0_0,
      k0_pay9 (F := Ideal) x0 (ldb x1 0 1024 inb_S2816x1024_S1024x1024_0_0) (lda x2 0 0 1024 inb_S2x512x2816_S1x512x1024_0_0_0)
        (lda x2 1 0 1024 inb_S2x512x2816_S1x512x1024_1_0_0)⟩]

section
variable {n o : Nat} (hn : o + n ≤ 2816)

include h1 in
theorem lb (inb) (j : Fin n) (k : Fin 1024) : ldb x1 o n inb (ix2 j k) = ((wd ⟨o + j.val, by omega⟩ k : ℝ) : EReal) := by
  rw [← h1]
  exact congrArg x1 (funext fun a => by
    fin_cases a
    · exact Fin.ext (show o + 1 * j.val = o + j.val by omega)
    · exact Fin.ext (show 0 + 1 * k.val = k.val by omega))
include h2g in
theorem lg (inb) (s : Fin 1) (i : Fin 512) (j : Fin n) : lda x2 0 o n inb (ix3 s i j) = ((gu h g w (row p i) (gcol ⟨o + j.val, by omega⟩) : ℝ) : EReal) := by
  rw [← h2g]
  exact congrArg x2 (funext fun a => by
    fin_cases a
    · exact Fin.ext (show 0 + 1 * s.val = 0 by omega)
    · exact Fin.ext (show 0 + 1 * i.val = i.val by omega)
    · exact Fin.ext (show o + 1 * j.val = o + j.val by omega))
include h2u in
theorem lu (inb) (s : Fin 1) (i : Fin 512) (j : Fin n) : lda x2 1 o n inb (ix3 s i j) = ((gu h g w (row p i) (ucol ⟨o + j.val, by omega⟩) : ℝ) : EReal) := by
  rw [← h2u]
  exact congrArg x2 (funext fun a => by
    fin_cases a
    · exact Fin.ext (show 1 + 1 * s.val = 1 by omega)
    · exact Fin.ext (show 0 + 1 * i.val = i.val by omega)
    · exact Fin.ext (show o + 1 * j.val = o + j.val by omega))
end

include h3g in
theorem lwg (inb) (s : Fin 1) (k : Fin 1024) (n : Fin 2816) : ldw x3 0 inb (ix3 s k n) = ((w k (gcol n) : ℝ) : EReal) := by
  rw [← h3g]
  exact congrArg x3 (funext fun a => by
    fin_cases a
    · exact Fin.ext (show 0 + 1 * s.val = 0 by omega)
    · exact Fin.ext (show 0 + 1 * k.val = k.val by omega)
    · exact Fin.ext (show 0 + 1 * n.val = n.val by omega))
include h3u in
theorem lwu (inb) (s : Fin 1) (k : Fin 1024) (n : Fin 2816) : ldw x3 1 inb (ix3 s k n) = ((w k (ucol n) : ℝ) : EReal) := by
  rw [← h3u]
  exact congrArg x3 (funext fun a => by
    fin_cases a
    · exact Fin.ext (show 1 + 1 * s.val = 1 by omega)
    · exact Fin.ext (show 0 + 1 * k.val = k.val by omega)
    · exact Fin.ext (show 0 + 1 * n.val = n.val by omega))

/-- Where a store of columns lands. -/
theorem emb_at {s o n : Nat} (hs : s < 2) (hn : o + n ≤ 2816) (inb : ∀ a, (![s, 0, o] : Fin 3 → Nat) a + (![1, 512, n] : Fin 3 → Nat) a ≤ S2x512x2816.size a) (t0 : Fin 1) (t1 : Fin 512) (t2 : Fin n) :
    (Rect.unit (s := S2x512x2816) ![s, 0, o] ![1, 512, n] inb).emb (ix3 t0 t1 t2) = ix3 (⟨s, hs⟩ : Fin 2) t1 (⟨o + t2.val, by omega⟩ : Fin 2816) := funext fun a => by
  fin_cases a
  · exact Fin.ext (show s + 1 * t0.val = s by omega)
  · exact Fin.ext (show 0 + 1 * t1.val = t1.val by omega)
  · exact Fin.ext (show o + 1 * t2.val = o + t2.val by omega)

include h0 h1 h2g in
theorem du_piece {o : Nat} (hn : o + 1024 ≤ 2816) (inb inb1 inb2) (t : S1x512x1024.Idx) :
    k0_pay11 (F := Ideal) (k0_pay10 x0 (ldb x1 o 1024 inb1) (lda x2 0 o 1024 inb2)) t = dguF d h g w wd p ((Rect.unit (s := S2x512x2816) ![1, 0, o] ![1, 512, 1024] inb).emb t) := by
  idx_vars t
  rw [emb_at (by decide) hn]
  exact kdu h0 (lb h1 hn inb1) (lg h2g hn inb2) t0 t1 t2
include h0 h1 h2g h2u in
theorem dg_piece {o : Nat} (hn : o + 1024 ≤ 2816) (inb inb1 inb2 inb3) (t : S1x512x1024.Idx) :
    k0_pay9 (F := Ideal) x0 (ldb x1 o 1024 inb1) (lda x2 0 o 1024 inb2) (lda x2 1 o 1024 inb3) t = dguF d h g w wd p ((Rect.unit (s := S2x512x2816) ![0, 0, o] ![1, 512, 1024] inb).emb t) := by
  idx_vars t
  rw [emb_at (by decide) hn]
  exact kdg h0 (lb h1 hn inb1) (lg h2g hn inb2) (lu h2u hn inb3) t0 t1 t2
include h0 h1 h2g in
theorem du_piece' {o : Nat} (hn : o + 768 ≤ 2816) (inb inb1 inb2) (t : S1x512x768.Idx) :
    k0_pay22 (F := Ideal) (k0_pay5 x0) (ldb x1 o 768 inb1) (lda x2 0 o 768 inb2) t = dguF d h g w wd p ((Rect.unit (s := S2x512x2816) ![1, 0, o] ![1, 512, 768] inb).emb t) := by
  idx_vars t
  rw [emb_at (by decide) hn]
  exact kdu' h0 (lb h1 hn inb1) (lg h2g hn inb2) t0 t1 t2
include h0 h1 h2g h2u in
theorem dg_piece' {o : Nat} (hn : o + 768 ≤ 2816) (inb inb1 inb2 inb3) (t : S1x512x768.Idx) :
    k0_pay21 (F := Ideal) (k0_pay5 x0) (ldb x1 o 768 inb1) (lda x2 0 o 768 inb2) (lda x2 1 o 768 inb3) t = dguF d h g w wd p ((Rect.unit (s := S2x512x2816) ![0, 0, o] ![1, 512, 768] inb).emb t) := by
  idx_vars t
  rw [emb_at (by decide) hn]
  exact kdg' h0 (lb h1 hn inb1) (lg h2g hn inb2) (lu h2u hn inb3) t0 t1 t2

include h0 h1 h2g h2u in
theorem dguL_eq : View.canon (dguL x0 x1 x2) = dguF d h g w wd p := by
  funext y
  refine View.canon_append_of_piecesOf (dguF d h g w wd p) [] (dguL x0 x1 x2) ⟨?_, ?_, ?_, ?_, ?_, ?_, trivial⟩ y (View.cover_of_tiledBy (dguL x0 x1 x2) ![1, 512, 256] (by sl_kernel_rfl) y)
  · exact du_piece' h0 h1 h2g (o := 2048) (by decide) inb_S2x512x2816_S1x512x768_1_0_2048 inb_S2816x1024_S768x1024_2048_0 inb_S2x512x2816_S1x512x768_0_0_2048
  · exact dg_piece' h0 h1 h2g h2u (o := 2048) (by decide) inb_S2x512x2816_S1x512x768_0_0_2048 inb_S2816x1024_S768x1024_2048_0 inb_S2x512x2816_S1x512x768_0_0_2048 inb_S2x512x2816_S1x512x768_1_0_2048
  · exact du_piece h0 h1 h2g (o := 1024) (by decide) inb_S2x512x2816_S1x512x1024_1_0_1024 inb_S2816x1024_S1024x1024_1024_0 inb_S2x512x2816_S1x512x1024_0_0_1024
  · exact dg_piece h0 h1 h2g h2u (o := 1024) (by decide) inb_S2x512x2816_S1x512x1024_0_0_1024 inb_S2816x1024_S1024x1024_1024_0 inb_S2x512x2816_S1x512x1024_0_0_1024 inb_S2x512x2816_S1x512x1024_1_0_1024
  · exact du_piece h0 h1 h2g (o := 0) (by decide) inb_S2x512x2816_S1x512x1024_1_0_0 inb_S2816x1024_S1024x1024_0_0 inb_S2x512x2816_S1x512x1024_0_0_0
  · exact dg_piece h0 h1 h2g h2u (o := 0) (by decide) inb_S2x512x2816_S1x512x1024_0_0_0 inb_S2816x1024_S1024x1024_0_0 inb_S2x512x2816_S1x512x1024_0_0_0 inb_S2x512x2816_S1x512x1024_1_0_0

end Cert.FfnIdeal.Rows

namespace Cert.FfnIdeal.Arrays
open Cert.FfnIdeal Cert.FfnIdeal.Gen Cert.FfnIdeal.Rows Cert.Reals Cert.Ffn.Real
open Idealize.ShloMosaic.Pipeline (Dat)

variable {m : (ℓ : Loc nD τ sig) → Buf (Elt Ideal) ℓ} {c : Dev nD}
  {d h : Fin 4096 → Fin 1024 → ℝ} {g : Fin 1024 → ℝ} {w : Fin 1024 → Fin 5632 → ℝ} {wd : Fin 2816 → Fin 1024 → ℝ}
  (h0 : ∀ i k, (show FVec Ideal S4096x1024 .f32 from m ((c : Thread nD τ).loc main_arg0)) (ix2 i k) = ((d i k : ℝ) : EReal))
  (h1 : ∀ i k, (show FVec Ideal S4096x1024 .f32 from m ((c : Thread nD τ).loc main_arg1)) (ix2 i k) = ((h i k : ℝ) : EReal))
  (h2 : ∀ k, (show FVec Ideal S1024 .f32 from m ((c : Thread nD τ).loc main_arg2)) (ix1 k) = ((g k : ℝ) : EReal))
  (h3 : ∀ i k, (show FVec Ideal S1024x5632 .f32 from m ((c : Thread nD τ).loc main_arg3)) (ix2 i k) = ((w i k : ℝ) : EReal))
  (h4 : ∀ i k, (show FVec Ideal S2816x1024 .f32 from m ((c : Thread nD τ).loc main_arg4)) (ix2 i k) = ((wd i k : ℝ) : EReal))

/-- The projections' columns in two halves. -/
theorem halves (X : FVec Ideal S4096x5632 .f32) (s : Fin 2) (i : Fin 4096) (n : Fin 2816) :
    truncf (F := Ideal) .bf16 (transpose S2x4096x2816 [1, 0, 2] (shapeCast S4096x2x2816 X shapeCasts_S4096x5632_S4096x2x2816) transposes_S4096x2x2816_S2x4096x2816_1_0_2) bitsLt_bf16_f32 (ix3 s i n)
      = X (ix2 i ⟨s.val * 2816 + n.val, by omega⟩) := by
  pointwise []

include h1 h2 h3 in
/-- The projections, which the host computes from the stream: the gates. -/
theorem hgg (i : Fin 4096) (n : Fin 2816) : (show FVec Ideal S2x4096x2816 .bf16 from V m c main_v16) (ix3 0 i n) = ((gu h g w i (gcol n) : ℝ) : EReal) := by
  entry_read
  exact ((halves _ 0 i n).trans (Cert.FfnRefIdeal.Rows.r16 h1 h2 h3 i ⟨0 * 2816 + n.val, by omega⟩)).trans
    (congrArg (fun k => ((gu h g w i k : ℝ) : EReal)) (Fin.ext (show 0 * 2816 + n.val = n.val by omega)))
include h1 h2 h3 in
/-- The values. -/
theorem hgu (i : Fin 4096) (n : Fin 2816) : (show FVec Ideal S2x4096x2816 .bf16 from V m c main_v16) (ix3 1 i n) = ((gu h g w i (ucol n) : ℝ) : EReal) := by
  entry_read
  exact (halves _ 1 i n).trans (Cert.FfnRefIdeal.Rows.r16 h1 h2 h3 i _)

/-- The weights' columns in two halves. -/
theorem halvesw (X : FVec Ideal S1024x5632 .f32) (s : Fin 2) (i : Fin 1024) (n : Fin 2816) :
    truncf (F := Ideal) .bf16 (transpose S2x1024x2816 [1, 0, 2] (shapeCast S1024x2x2816 X shapeCasts_S1024x5632_S1024x2x2816) transposes_S1024x2x2816_S2x1024x2816_1_0_2) bitsLt_bf16_f32 (ix3 s i n)
      = X (ix2 i ⟨s.val * 2816 + n.val, by omega⟩) := by
  pointwise []

include h3 in
/-- The weights of the gates. -/
theorem hwg (i : Fin 1024) (n : Fin 2816) : (show FVec Ideal S2x1024x2816 .bf16 from V m c main_v19) (ix3 0 i n) = ((w i (gcol n) : ℝ) : EReal) := by
  entry_read
  exact ((halvesw _ 0 i n).trans (h3 i ⟨0 * 2816 + n.val, by omega⟩)).trans
    (congrArg (fun k => ((w i k : ℝ) : EReal)) (Fin.ext (show 0 * 2816 + n.val = n.val by omega)))
include h3 in
/-- The weights of the values. -/
theorem hwu (i : Fin 1024) (n : Fin 2816) : (show FVec Ideal S2x1024x2816 .bf16 from V m c main_v19) (ix3 1 i n) = ((w i (ucol n) : ℝ) : EReal) := by
  entry_read
  exact (halvesw _ 1 i n).trans (h3 i _)

include h0 in
theorem b0 (p : Fin cfg0.N) (j : Fin 512) (k : Fin 1024) : (show FVec Ideal S512x1024 .f32 from iblk m c 0 p) (ix2 j k) = ((d (row p j) k : ℝ) : EReal) := by
  rw [← h0]; blk_ext [iblk, V, idx p]
include h4 in
theorem b1 (p : Fin cfg0.N) (j : Fin 2816) (k : Fin 1024) : (show FVec Ideal S2816x1024 .bf16 from iblk m c 1 p) (ix2 j k) = ((wd j k : ℝ) : EReal) := by
  rw [← h4]; blk_ext [iblk, V, idx p]
include h1 h2 h3 in
theorem b2g (p : Fin cfg0.N) (j : Fin 512) (n : Fin 2816) : (show FVec Ideal S2x512x2816 .bf16 from iblk m c 2 p) (ix3 0 j n) = ((gu h g w (row p j) (gcol n) : ℝ) : EReal) := by
  rw [← hgg h1 h2 h3]; blk_ext [iblk, idx p]
include h1 h2 h3 in
theorem b2u (p : Fin cfg0.N) (j : Fin 512) (n : Fin 2816) : (show FVec Ideal S2x512x2816 .bf16 from iblk m c 2 p) (ix3 1 j n) = ((gu h g w (row p j) (ucol n) : ℝ) : EReal) := by
  rw [← hgu h1 h2 h3]; blk_ext [iblk, idx p]
include h3 in
theorem b3g (p : Fin cfg0.N) (j : Fin 1024) (n : Fin 2816) : (show FVec Ideal S2x1024x2816 .bf16 from iblk m c 3 p) (ix3 0 j n) = ((w j (gcol n) : ℝ) : EReal) := by
  rw [← hwg h3]; blk_ext [iblk, idx p]
include h3 in
theorem b3u (p : Fin cfg0.N) (j : Fin 1024) (n : Fin 2816) : (show FVec Ideal S2x1024x2816 .bf16 from iblk m c 3 p) (ix3 1 j n) = ((w j (ucol n) : ℝ) : EReal) := by
  rw [← hwu h3]; blk_ext [iblk, idx p]
include h1 in
theorem b4 (p : Fin cfg0.N) (j : Fin 512) (k : Fin 1024) : (show FVec Ideal S512x1024 .f32 from iblk m c 4 p) (ix2 j k) = ((h (row p j) k : ℝ) : EReal) := by
  rw [← h1]; blk_ext [iblk, V, idx p]
include h2 in
theorem b5 (p : Fin cfg0.N) (j : Fin 1) (k : Fin 1024) : (show FVec Ideal S1x1024 .f32 from iblk m c 5 p) (ix2 j k) = ((g k : ℝ) : EReal) := by
  rw [← h2]; blk_point [iblk, V, idx p]

include h0 h1 h2 h3 h4

theorem dgus (p : Fin cfg0.N) : View.canon (dguL (iblk m c 0 p) (iblk m c 1 p) (iblk m c 2 p)) = dguF d h g w wd p :=
  dguL_eq (b0 h0 p) (b1 h4 p) (b2g h1 h2 h3 p) (b2u h1 h2 h3 p)

/-- The gates' gradient, read back within the point that stored it. -/
theorem dgw (p : Fin cfg0.N) (s : Fin 1) (i : Fin 512) (n : Fin 2816) : View.canon (dguL (iblk m c 0 p) (iblk m c 1 p) (iblk m c 2 p))
      ((Rect.unit (s := S2x512x2816) ![0, 0, 0] ![1, 512, 2816] inb_S2x512x2816_S1x512x2816_0_0_0).idx (ix3 s i n))
    = ((dgate d h g w wd (row p i) n : ℝ) : EReal) := by
  rw [dgus h0 h1 h2 h3 h4 p]
  refine (congrArg (dguF d h g w wd p) (emb_at (s := 0) (o := 0) (n := 2816) (by decide) (by decide) inb_S2x512x2816_S1x512x2816_0_0_0 s i n)).trans ?_
  exact congrArg (fun k => ((dgate d h g w wd (row p i) k : ℝ) : EReal)) (Fin.ext (show 0 + n.val = n.val by omega))
/-- The values' gradient. -/
theorem duw (p : Fin cfg0.N) (s : Fin 1) (i : Fin 512) (n : Fin 2816) : View.canon (dguL (iblk m c 0 p) (iblk m c 1 p) (iblk m c 2 p))
      ((Rect.unit (s := S2x512x2816) ![1, 0, 0] ![1, 512, 2816] inb_S2x512x2816_S1x512x2816_1_0_0).idx (ix3 s i n))
    = ((dup d h g w wd (row p i) n : ℝ) : EReal) := by
  rw [dgus h0 h1 h2 h3 h4 p]
  refine (congrArg (dguF d h g w wd p) (emb_at (s := 1) (o := 0) (n := 2816) (by decide) (by decide) inb_S2x512x2816_S1x512x2816_1_0_0 s i n)).trans ?_
  exact congrArg (fun k => ((dup d h g w wd (row p i) k : ℝ) : EReal)) (Fin.ext (show 0 + n.val = n.val by omega))

theorem final_dgu : (dats m 0 c).arrAt 6 cfg0.N = fun i : S2x4096x2816.Idx => ((dgu d h g w wd (i 0) (i 1) (i 2) : ℝ) : EReal) := by
  refine (dats m 0 c).arrAt_eq_of_covers 6 _ (by decide +kernel) fun p _ y => ?_
  have key : ∀ y : S2x512x2816.Idx, View.canon (dguL (iblk m c 0 p) (iblk m c 1 p) (iblk m c 2 p)) y
      = ((dgu d h g w wd (((View.whole main_v22_0).slice (win0_6.rect p)).emb y 0) (((View.whole main_v22_0).slice (win0_6.rect p)).emb y 1) (((View.whole main_v22_0).slice (win0_6.rect p)).emb y 2) : ℝ) : EReal) := by
    intro y
    rw [dgus h0 h1 h2 h3 h4 p]
    have e (s s' : Fin 2) (i i' : Fin 4096) (n n' : Fin 2816) (hs : s = s') (hi : i = i') (hn : n = n') : ((dgu d h g w wd s i n : ℝ) : EReal) = ((dgu d h g w wd s' i' n' : ℝ) : EReal) := by rw [hs, hi, hn]
    refine e _ _ _ _ _ _ (Fin.ext ?_) (Fin.ext ?_) (Fin.ext ?_) <;> blk_simp [idx p]
  blk_simp
  rw [after0_6]
  by_cases hp : p.val % 8 = 0
  · rw [outsAt0_A m c p hp]; frame_out
    exact key y
  · rw [outsAt0_B m c p hp]; frame_out
    exact key y

theorem final_dh : (dats m 0 c).arrAt 7 cfg0.N = fun i : S4096x1024.Idx => ((dh d h g w wd (i 0) (i 1) : ℝ) : EReal) := by
  refine (dats m 0 c).arrAt_eq_of_covers 7 _ (by decide +kernel) fun p _ y => ?_
  have key (yg yu : FVec Ideal S1x512x2816 .bf16) (hg : ∀ s i n, yg (ix3 s i n) = ((dgate d h g w wd (row p i) n : ℝ) : EReal)) (hu : ∀ s i n, yu (ix3 s i n) = ((dup d h g w wd (row p i) n : ℝ) : EReal)) (y : S512x1024.Idx) :
      k0_pay1 (F := Ideal) (iblk m c 0 p) (k0_pay26 yg (ldw (iblk m c 3 p) 0 inb_S2x1024x2816_S1x1024x2816_0_0_0) yu (ldw (iblk m c 3 p) 1 inb_S2x1024x2816_S1x1024x2816_1_0_0) (iblk m c 4 p) (iblk m c 5 p)) y
      = ((dh d h g w wd (((View.whole main_v22_1).slice (win0_7.rect p)).emb y 0) (((View.whole main_v22_1).slice (win0_7.rect p)).emb y 1) : ℝ) : EReal) := by
    idx_vars y
    rw [kdh (b0 h0 p) (b4 h1 p) (b5 h2 p) hg hu (lwg (b3g h3 p) _) (lwu (b3u h3 p) _)]
    refine congrArg _ (congrArg₂ (dh d h g w wd) (Fin.ext ?_) (Fin.ext ?_)) <;> blk_simp [idx p]
  blk_simp
  rw [after0_7]
  by_cases hp : p.val % 8 = 0
  · rw [outsAt0_A m c p hp]; frame_out
    refine key _ _ ?_ ?_ y <;> (intro s i n; rw [View.readCov_eq_canon'])
    · exact dgw h0 h1 h2 h3 h4 p s i n
    · exact duw h0 h1 h2 h3 h4 p s i n
  · rw [outsAt0_B m c p hp]; frame_out
    refine key _ _ ?_ ?_ y <;> (intro s i n; rw [View.readCov_eq_canon'])
    · exact dgw h0 h1 h2 h3 h4 p s i n
    · exact duw h0 h1 h2 h3 h4 p s i n

theorem final_dhb : (dats m 0 c).arrAt 8 cfg0.N = fun i : S4096x1024.Idx => ((dh d h g w wd (i 0) (i 1) : ℝ) : EReal) := by
  refine (dats m 0 c).arrAt_eq_of_covers 8 _ (by decide +kernel) fun p _ y => ?_
  have key (yg yu : FVec Ideal S1x512x2816 .bf16) (hg : ∀ s i n, yg (ix3 s i n) = ((dgate d h g w wd (row p i) n : ℝ) : EReal)) (hu : ∀ s i n, yu (ix3 s i n) = ((dup d h g w wd (row p i) n : ℝ) : EReal)) (y : S512x1024.Idx) :
      k0_pay2 (F := Ideal) (iblk m c 0 p) (k0_pay26 yg (ldw (iblk m c 3 p) 0 inb_S2x1024x2816_S1x1024x2816_0_0_0) yu (ldw (iblk m c 3 p) 1 inb_S2x1024x2816_S1x1024x2816_1_0_0) (iblk m c 4 p) (iblk m c 5 p)) y
      = ((dh d h g w wd (((View.whole main_v22_2).slice (win0_8.rect p)).emb y 0) (((View.whole main_v22_2).slice (win0_8.rect p)).emb y 1) : ℝ) : EReal) := by
    idx_vars y
    pointwise [k0_pay2]
    rw [kdh (b0 h0 p) (b4 h1 p) (b5 h2 p) hg hu (lwg (b3g h3 p) _) (lwu (b3u h3 p) _)]
    refine congrArg _ (congrArg₂ (dh d h g w wd) (Fin.ext ?_) (Fin.ext ?_)) <;> blk_simp [idx p]
  blk_simp
  rw [after0_8]
  by_cases hp : p.val % 8 = 0
  · rw [outsAt0_A m c p hp]; frame_out
    refine key _ _ ?_ ?_ y <;> (intro s i n; rw [View.readCov_eq_canon'])
    · exact dgw h0 h1 h2 h3 h4 p s i n
    · exact duw h0 h1 h2 h3 h4 p s i n
  · rw [outsAt0_B m c p hp]; frame_out
    refine key _ _ ?_ ?_ y <;> (intro s i n; rw [View.readCov_eq_canon'])
    · exact dgw h0 h1 h2 h3 h4 p s i n
    · exact duw h0 h1 h2 h3 h4 p s i n

theorem final_dg : (dats m 0 c).arrAt 9 cfg0.N = fun i : S1x1024.Idx => ((∑ x, dgt d h g w wd x (i 1) : ℝ) : EReal) := by
  refine (dats m 0 c).arrAt_eq_of_after_last 9 t0_7 (by decide +kernel) _ fun j => ?_
  have key (p : Fin cfg0.N) (yg yu : FVec Ideal S1x512x2816 .bf16) (hg : ∀ s i n, yg (ix3 s i n) = ((dgate d h g w wd (row p i) n : ℝ) : EReal))
      (hu : ∀ s i n, yu (ix3 s i n) = ((dup d h g w wd (row p i) n : ℝ) : EReal)) (z : FVec Ideal S1x1024 .f32) (y : S1x1024.Idx) :
      k0_pay3 (F := Ideal) (k0_pay27 yg (ldw (iblk m c 3 p) 0 inb_S2x1024x2816_S1x1024x2816_0_0_0) yu (ldw (iblk m c 3 p) 1 inb_S2x1024x2816_S1x1024x2816_1_0_0) (iblk m c 4 p)) z y
      = z y + ((∑ i : Fin 512, dgt d h g w wd (row p i) (y 1) : ℝ) : EReal) := by
    idx_vars y
    pointwise [k0_pay3]
    simp only [k27 (b4 h1 p) hg hu (lwg (b3g h3 p) _) (lwu (b3u h3 p) _), sum_coe]
  blk_simp
  rw [after0_9]
  rw [Pipeline.eq_sum_fin_of_reset_step_apply_last (fun n h => (outsAt0 m c n h).2.2.2) 8 (fun _ => (0 : EReal))
    (fun p y => ((∑ i : Fin 512, dgt d h g w wd (row p i) (y 1) : ℝ) : EReal))
    (fun p hp j => by
      rw [outsAt0_A m c p hp]; frame_out
      refine Eq.trans (key p _ _ ?_ ?_ _ j) (congrArg (· + _) (by pointwise [k0_pay4])) <;> (intro s i n; rw [View.readCov_eq_canon'])
      · exact dgw h0 h1 h2 h3 h4 p s i n
      · exact duw h0 h1 h2 h3 h4 p s i n)
    (fun p hp j => by
      rw [outsAt0_B m c p hp]; frame_out
      refine key p _ _ ?_ ?_ _ j <;> (intro s i n; rw [View.readCov_eq_canon'])
      · exact dgw h0 h1 h2 h3 h4 p s i n
      · exact duw h0 h1 h2 h3 h4 p s i n)
    (le_of_eq N_0) t0_7 rfl j, zero_add]
  exact sum_blocks (congrArg (· * 512) N_0) (fun i => dgt d h g w wd i (j 1)) row fun _ _ => rfl

end Cert.FfnIdeal.Arrays

end
-- ==== Proof.FfnClaim.lean ====
/- The claims about the gated network's gradient. -/
module

public import proofs.«01_k».proof.Defs
public import proofs.«01_k».proof.Proof.FfnValue
public import proofs.«01_k».proof.Proof.Gen.Ffn.Frame
public import Idealize.ShloMosaic.Lib.Claim

@[expose] public section

set_option maxRecDepth 16384

noncomputable section

open Idealize.ShloMosaic Idealize.ShloMosaic.TcCoe Idealize.SL.Sem Cert.Reals

namespace Cert.Proof

theorem facts_finite_ffn : Cert.Pre_finite_ffn.Facts where
  bcast_S_S4096x1024 := by decide
  bcast_S_S1024 := by decide
  bcast_S_S1024x5632 := by decide
  bcast_S_S2816x1024 := by decide

section
open Cert.FfnIdeal

/-- What the precondition says of a device's arguments: each is an array of reals. -/
theorem ffn_reals (m : (ℓ : Loc nD τ sig) → Buf (Elt Ideal) ℓ) (c : Dev nD) (hpre : Cert.Pre_FfnIdeal_finite_ffn (hPre_finite_ffn := facts_finite_ffn) m) :
    ∃ (d h : Fin 4096 → Fin 1024 → ℝ) (g : Fin 1024 → ℝ) (w : Fin 1024 → Fin 5632 → ℝ) (wd : Fin 2816 → Fin 1024 → ℝ),
      (∀ i k, (show FVec Ideal S4096x1024 .f32 from m ((c : Thread nD τ).loc main_arg0)) (ix2 i k) = ((d i k : ℝ) : EReal))
      ∧ (∀ i k, (show FVec Ideal S4096x1024 .f32 from m ((c : Thread nD τ).loc main_arg1)) (ix2 i k) = ((h i k : ℝ) : EReal))
      ∧ (∀ k, (show FVec Ideal S1024 .f32 from m ((c : Thread nD τ).loc main_arg2)) (ix1 k) = ((g k : ℝ) : EReal))
      ∧ (∀ i k, (show FVec Ideal S1024x5632 .f32 from m ((c : Thread nD τ).loc main_arg3)) (ix2 i k) = ((w i k : ℝ) : EReal))
      ∧ (∀ i k, (show FVec Ideal S2816x1024 .f32 from m ((c : Thread nD τ).loc main_arg4)) (ix2 i k) = ((wd i k : ℝ) : EReal)) :=
  ⟨_, _, _, _, _, fun i k => reals_of_below (fun _ => rfl) (hpre c).1 (ix2 i k), fun i k => reals_of_below (fun _ => rfl) (hpre c).2.1 (ix2 i k),
    fun k => reals_of_below (fun _ => rfl) (hpre c).2.2.1 (ix1 k), fun i k => reals_of_below (fun _ => rfl) (hpre c).2.2.2.1 (ix2 i k),
    fun i k => reals_of_below (fun _ => rfl) (hpre c).2.2.2.2 (ix2 i k)⟩

end

open Cert.FfnIdeal.Arrays Cert.FfnRefIdeal.Rows Cert.FfnRefIdeal.Read in
theorem ffn_value : Cert.algebraic_FfnIdeal_FfnRefIdeal_pre_finite_ffn (hPre_finite_ffn := facts_finite_ffn) := by
  intro m g m' g' hpre hagree
  refine ⟨_, _, _, _, Cert.FfnIdeal.Value.run_blocks m g, (θ_run _ _ _).mono (fun r h c => ?_) (Cert.FfnRefIdeal.Value.run m' g')⟩
  obtain ⟨d, y, w, wg, wd, h0, h1, h2, h3, h4⟩ := ffn_reals m c hpre
  obtain ⟨e0, e1, e2, e3, e4⟩ := hagree c
  obtain ⟨r0, r1, r2, r3, k⟩ := h c
  refine ⟨(r0.trans (val_main_v54_eq m' c)).trans ?_, (r1.trans (val_main_v48_eq m' c)).trans ?_, (r2.trans (val_main_v55_eq m' c)).trans ?_,
    (r3.trans (val_main_v56_eq m' c)).trans ?_, k⟩ <;> rw [e0, e1, e2, e3, e4]
  · refine Eq.trans (funext fun i => ?_) (final_dgu h0 h1 h2 h3 h4).symm
    idx_vars i
    exact rdgu h0 h1 h2 h3 h4 _ _ _
  · refine Eq.trans (funext fun i => ?_) (final_dh h0 h1 h2 h3 h4).symm
    idx_vars i
    exact rdh h0 h1 h2 h3 h4 _ _
  · refine Eq.trans (funext fun i => ?_) (final_dhb h0 h1 h2 h3 h4).symm
    idx_vars i
    exact rdh h0 h1 h2 h3 h4 _ _
  · refine Eq.trans (funext fun i => ?_) (final_dg h0 h1 h2 h3 h4).symm
    idx_vars i
    exact rdg h0 h1 h2 h3 h4 _ _

theorem ffn : ∃ (hFfn : Cert.Ffn.Facts) (hFfnIdeal : Cert.FfnIdeal.Facts) (hFfnRefIdeal : Cert.FfnRefIdeal.Facts) (hPre_finite_ffn : Cert.Pre_finite_ffn.Facts),
    quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn) :=
  ⟨Cert.Ffn.Gen.facts, Cert.FfnIdeal.Gen.facts, Cert.FfnRefIdeal.Gen.facts, facts_finite_ffn,
    fun m ρ _ => Cert.Ffn.Gen.frame m ρ, fun m ρ _ => Cert.FfnIdeal.Gen.frame m ρ, fun m ρ _ => Cert.FfnIdeal.Gen.frame m ρ,
    fun m ρ _ => (θ_run_mono (Cert.FfnRefIdeal.Value.run m ρ) fun r h => ⟨fun c => (h c).2.2.2.2, sem_eq_zero_of_no_sems rfl r.2⟩), fun m ρ _ => (θ_run_mono (Cert.FfnRefIdeal.Value.run m ρ) fun r h => ⟨fun c => (h c).2.2.2.2, sem_eq_zero_of_no_sems rfl r.2⟩), trivial, ffn_value⟩

end Cert.Proof

end
-- ==== Proof.Entries.lean ====
/- An array as the function of its coordinates, and the norm the calls share, as a function of extended reals. -/
module

public import Idealize.ShloMosaic.Lib.Pointwise

@[expose] public section

noncomputable section

namespace Cert.Reals

open Idealize.ShloMosaic

theorem entries1 {a : ℕ} (v : (⟨1, ![a]⟩ : Shape).Idx → EReal) : ∃ x : Fin a → EReal, ∀ i, v (ix1 i) = x i := ⟨_, fun _ => rfl⟩
theorem entries2 {a b : ℕ} (v : (⟨2, ![a, b]⟩ : Shape).Idx → EReal) : ∃ x : Fin a → Fin b → EReal, ∀ i k, v (ix2 i k) = x i k := ⟨_, fun _ _ => rfl⟩

/-- The reciprocal root mean square of a row. -/
def rstd (v : Fin 1024 → EReal) : EReal :=
  Ideal.rsqrt (Ideal.div (∑ k, v k * v k) (Ideal.ofBits .f32 0x44800000#32) + Ideal.ofBits .f32 0x358637BD#32)
/-- A normalized array. -/
def hn {n : ℕ} (h : Fin n → Fin 1024 → EReal) (g : Fin 1024 → EReal) (i : Fin n) (k : Fin 1024) : EReal := h i k * rstd (h i) * g k

end Cert.Reals

end
-- ==== Proof.MemKvValue.lean ====
/- The memory's gradient: of the projection and of the scale, of the reference and of the kernel. -/
module

public import proofs.«01_k».proof.Proof.Entries
public import proofs.«01_k».proof.Proof.Gen.MemKvIdeal.Value
public import proofs.«01_k».proof.Proof.Gen.MemKvRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MemKv.Real
open Cert.Reals

/-- Column `e` of the `j`-th quarter of the keys' and values' columns. -/
abbrev qcol (j : Fin 4) (e : Fin 512) : Fin 2048 := ⟨j.val * 512 + e.val, by omega⟩

variable (d : Fin 256 → Fin 2048 → EReal) (x : Fin 256 → Fin 1024 → EReal) (g : Fin 1024 → EReal) (w : Fin 1024 → Fin 2048 → EReal)

/-- The gradient of the weights, by quarters of their columns. -/
def dw (j : Fin 4) (k : Fin 1024) (e : Fin 512) : EReal := ∑ i, hn x g i k * d i (qcol j e)
/-- The gradient of the normalized memory. -/
def dhn (i : Fin 256) (k : Fin 1024) : EReal := ∑ n, d i n * w k n
/-- The gradient of the scale. -/
def dg (k : Fin 1024) : EReal := ∑ i, dhn d w i k * (x i k * rstd (x i))

/-- The columns' sum quarter by quarter. -/
theorem dhn_quarters (i : Fin 256) (k : Fin 1024) : dhn d w i k = (((∑ e, d i (qcol 0 e) * w k (qcol 0 e)) + ∑ e, d i (qcol 1 e) * w k (qcol 1 e))
    + ∑ e, d i (qcol 2 e) * w k (qcol 2 e)) + ∑ e, d i (qcol 3 e) * w k (qcol 3 e) := by
  rw [dhn, Fin.sum_univ_tiles 4 512 rfl, Fin.sum_univ_four]

end Cert.MemKv.Real

namespace Cert.MemKvRefIdeal.Rows
open Cert.MemKvRefIdeal Cert.MemKvRefIdeal.Gen Cert.MemKvRefIdeal.Read Cert.Reals Cert.MemKv.Real

variable {d : Fin 256 → Fin 2048 → EReal} {x : Fin 256 → Fin 1024 → EReal} {g : Fin 1024 → EReal} {w : Fin 1024 → Fin 2048 → EReal}
  {x0 : FVec Ideal S256x2048 .f32} {x1 : FVec Ideal S256x1024 .f32} {x2 : FVec Ideal S1024 .f32} {x3 : FVec Ideal S1024x2048 .f32}
  (a0 : ∀ i k, x0 (ix2 i k) = d i k) (a1 : ∀ i k, x1 (ix2 i k) = x i k) (a2 : ∀ k, x2 (ix1 k) = g k) (a3 : ∀ i k, x3 (ix2 i k) = w i k)

include a1 in
theorem ry (i : Fin 256) (k : Fin 1024) : val_main_v9 (F := Ideal) x1 (ix2 i k) = x i k * rstd (x i) := by
  pointwise [val_main_v9, val_main_v8, val_main_v7, val_main_v6, val_main_v5,
    val_main_v4, val_main_v3, val_main_v2, val_main_v1, val_main_v0, val_main_cst, val_main_cst_0, val_main_cst_1]
  simp only [a1, zero_add, rstd]

include a1 a2 in
theorem rhn (i : Fin 256) (k : Fin 1024) : val_main_v12 (F := Ideal) x1 x2 (ix2 i k) = hn x g i k := by
  pointwise [val_main_v12, val_main_v11, val_main_v10]
  simp only [ry a1, a2, hn]

include a0 a1 a2 in
theorem rdw (j : Fin 4) (k : Fin 1024) (e : Fin 512) : val_main_v22 (F := Ideal) x0 x1 x2 (ix3 j k e) = dw d x g j k e := by
  pointwise [val_main_v22, val_main_v21, val_main_v15, val_main_v14]
  simp only [rhn a1 a2, a0, dw]
  exact Finset.sum_congr rfl fun _ _ => mul_comm _ _

include a0 a3 in
theorem rdhn (i : Fin 256) (k : Fin 1024) : val_main_v16 (F := Ideal) x0 x3 (ix2 i k) = dhn d w i k := by
  pointwise [val_main_v16]
  simp only [a0, a3, dhn]

include a0 a1 a3 in
theorem rdg (z : Fin 1) (k : Fin 1024) : val_main_v23 (F := Ideal) x0 x1 x3 (ix2 z k) = dg d x w k := by
  pointwise [val_main_v23, val_main_v20, val_main_v19, val_main_v18, val_main_v17, val_main_cst_2, val_main_cst_3]
  simp only [ry a1, rdhn a0 a3, zero_add, dg]
  rw [Fin.sum_univ_one]
  exact Finset.sum_congr rfl fun _ _ => mul_comm _ _

end Cert.MemKvRefIdeal.Rows

namespace Cert.MemKvIdeal.Arrays
open Cert.MemKvIdeal Cert.MemKvIdeal.Gen Cert.Reals Cert.MemKv.Real
open Idealize.ShloMosaic.Pipeline (Dat)

/-- There is one point: every window is its whole array. -/
theorem idx : ∀ t : Fin cfg0.N, win0_0.index t = ![0, 0] ∧ win0_1.index t = ![0, 0] ∧ win0_2.index t = ![0, 0, 0] ∧ win0_3.index t = ![0, 0] ∧ win0_4.index t = ![0, 0]
    ∧ win0_5.index t = ![0, 0, 0] ∧ win0_6.index t = ![0, 0] :=
  (by decide +kernel : ∀ t : Fin grid0.N, _)

section
variable {d : Fin 256 → Fin 2048 → EReal} {x : Fin 256 → Fin 1024 → EReal} {g : Fin 1024 → EReal} {w : Fin 1024 → Fin 2048 → EReal}
  {x0 : FVec Ideal S256x2048 .f32} {x1 : FVec Ideal S256x1024 .bf16} {x2 : FVec Ideal S4x1024x512 .bf16} {x3 : FVec Ideal S256x1024 .f32}
  (a0 : ∀ i k, x0 (ix2 i k) = d i k) (a1 : ∀ i k, x1 (ix2 i k) = hn x g i k) (a2 : ∀ j k e, x2 (ix3 j k e) = w k (qcol j e)) (a3 : ∀ i k, x3 (ix2 i k) = x i k)

/-- A quarter of the weights, and of the cotangent's columns. -/
abbrev ldw (x : FVec Ideal S4x1024x512 .bf16) (j : Nat) (inb : ∀ a, (![j, 0, 0] : Fin 3 → Nat) a + S1x1024x512.size a ≤ S4x1024x512.size a) : FVec Ideal S1x1024x512 .bf16 :=
  View.ld (Val := Elt Ideal) (e' := .bf16) x (Rect.unit (s := S4x1024x512) ![j, 0, 0] S1x1024x512.size inb)
abbrev ldd (x : FVec Ideal S256x2048 .f32) (o : Nat) (inb : ∀ a, (![0, o] : Fin 2 → Nat) a + S256x512.size a ≤ S256x2048.size a) : FVec Ideal S256x512 .f32 :=
  View.ld (Val := Elt Ideal) (e' := .f32) x (Rect.unit (s := S256x2048) ![0, o] S256x512.size inb)

include a2 in
theorem lw (j : Fin 4) (inb) (z : Fin 1) (k : Fin 1024) (e : Fin 512) : ldw x2 j.val inb (ix3 z k e) = w k (qcol j e) := by
  rw [← a2]
  exact congrArg x2 (funext fun a => by
    fin_cases a
    · exact Fin.ext (show j.val + 1 * z.val = j.val by omega)
    · exact Fin.ext (show 0 + 1 * k.val = k.val by omega)
    · exact Fin.ext (show 0 + 1 * e.val = e.val by omega))
include a0 in
theorem ld (j : Fin 4) (inb) (i : Fin 256) (e : Fin 512) : ldd x0 (j.val * 512) inb (ix2 i e) = d i (qcol j e) := by
  rw [← a0]
  exact congrArg x0 (funext fun a => by
    fin_cases a
    · exact Fin.ext (show 0 + 1 * i.val = i.val by omega)
    · exact Fin.ext (show j.val * 512 + 1 * e.val = j.val * 512 + e.val by omega))

include a1 in
theorem kdw {v : FVec Ideal S256x512 .f32} {j : Fin 4} (hv : ∀ i e, v (ix2 i e) = d i (qcol j e)) (z : Fin 1) (k : Fin 1024) (e : Fin 512) :
    k0_pay2 (F := Ideal) (k0_pay4 x1) v (ix3 z k e) = dw d x g j k e := by
  pointwise [k0_pay2, k0_pay1, k0_pay4]
  simp only [a1, hv, dw]

include a3 in
theorem kdg {v0 v1 v2 v3 : FVec Ideal S256x512 .f32} {w0 w1 w2 w3 : FVec Ideal S1x1024x512 .bf16}
    (hv0 : ∀ i e, v0 (ix2 i e) = d i (qcol 0 e)) (hv1 : ∀ i e, v1 (ix2 i e) = d i (qcol 1 e)) (hv2 : ∀ i e, v2 (ix2 i e) = d i (qcol 2 e)) (hv3 : ∀ i e, v3 (ix2 i e) = d i (qcol 3 e))
    (hw0 : ∀ z k e, w0 (ix3 z k e) = w k (qcol 0 e)) (hw1 : ∀ z k e, w1 (ix3 z k e) = w k (qcol 1 e)) (hw2 : ∀ z k e, w2 (ix3 z k e) = w k (qcol 2 e))
    (hw3 : ∀ z k e, w3 (ix3 z k e) = w k (qcol 3 e)) (z : Fin 1) (k : Fin 1024) :
    k0_pay3 (F := Ideal) (k0_pay9 v0 w0 v1 w1) (k0_pay10 v2) w2 v3 w3 x3 (ix2 z k) = dg d x w k := by
  pointwise [k0_pay3, k0_pay9, k0_pay10, k0_pay5, k0_pay7, k0_pay1]
  simp only [hv0, hv1, hv2, hv3, hw0, hw1, hw2, hw3, a3, zero_add, dg, rstd, dhn_quarters]

/-- The weights' gradient, stored by quarters. -/
def dwL (x0 : FVec Ideal S256x2048 .f32) (x1 : FVec Ideal S256x1024 .bf16) : List (View.Piece (Elt Ideal) S4x1024x512 .f32) :=
  [⟨Rect.unit ![3, 0, 0] ![1, 1024, 512] inb_S4x1024x512_S1x1024x512_3_0_0, k0_pay2 (F := Ideal) (k0_pay4 x1) (ldd x0 1536 inb_S256x2048_S256x512_0_1536)⟩,
    ⟨Rect.unit ![2, 0, 0] ![1, 1024, 512] inb_S4x1024x512_S1x1024x512_2_0_0, k0_pay11 (F := Ideal) x1 (ldd x0 1024 inb_S256x2048_S256x512_0_1024)⟩,
    ⟨Rect.unit ![1, 0, 0] ![1, 1024, 512] inb_S4x1024x512_S1x1024x512_1_0_0, k0_pay8 (F := Ideal) x1 (ldd x0 512 inb_S256x2048_S256x512_0_512)⟩,
    ⟨Rect.unit ![0, 0, 0] ![1, 1024, 512] inb_S4x1024x512_S1x1024x512_0_0_0, k0_pay6 (F := Ideal) x1 (ldd x0 0 inb_S256x2048_S256x512_0_0)⟩]

include a0 a1
theorem dw_piece (j : Fin 4) (inb inb2) (t : S1x1024x512.Idx) : k0_pay2 (F := Ideal) (k0_pay4 x1) (ldd x0 (j.val * 512) inb2) t
    = (fun y : S4x1024x512.Idx => dw d x g (y 0) (y 1) (y 2)) ((Rect.unit (s := S4x1024x512) ![j.val, 0, 0] ![1, 1024, 512] inb).emb t) := by
  idx_vars t
  rw [kdw a1 (ld a0 j inb2)]
  refine congr (congrArg₂ (dw d x g) (Fin.ext ?_) (Fin.ext ?_)) (Fin.ext ?_)
  · show j.val = j.val + 1 * t0.val; omega
  · show t1.val = 0 + 1 * t1.val; omega
  · show t2.val = 0 + 1 * t2.val; omega

theorem dwL_eq (y : S4x1024x512.Idx) : View.canon (dwL x0 x1) y = dw d x g (y 0) (y 1) (y 2) := by
  refine View.canon_append_of_piecesOf (fun y : S4x1024x512.Idx => dw d x g (y 0) (y 1) (y 2)) [] (dwL x0 x1) ⟨?_, ?_, ?_, ?_, trivial⟩ y
    (View.cover_of_tiledL (dwL x0 x1) S1x1024x512.size (by sl_kernel_rfl) y)
  · exact dw_piece a0 a1 3 inb_S4x1024x512_S1x1024x512_3_0_0 inb_S256x2048_S256x512_0_1536
  · exact dw_piece a0 a1 2 inb_S4x1024x512_S1x1024x512_2_0_0 inb_S256x2048_S256x512_0_1024
  · exact dw_piece a0 a1 1 inb_S4x1024x512_S1x1024x512_1_0_0 inb_S256x2048_S256x512_0_512
  · exact dw_piece a0 a1 0 inb_S4x1024x512_S1x1024x512_0_0_0 inb_S256x2048_S256x512_0_0
end

variable {m : (ℓ : Loc nD τ sig) → Buf (Elt Ideal) ℓ} {c : Dev nD}
  {d : Fin 256 → Fin 2048 → EReal} {x : Fin 256 → Fin 1024 → EReal} {g : Fin 1024 → EReal} {w : Fin 1024 → Fin 2048 → EReal}
  (a0 : ∀ i k, (show FVec Ideal S256x2048 .f32 from m ((c : Thread nD τ).loc main_arg0)) (ix2 i k) = d i k)
  (a1 : ∀ i k, (show FVec Ideal S256x1024 .f32 from m ((c : Thread nD τ).loc main_arg1)) (ix2 i k) = x i k)
  (a2 : ∀ k, (show FVec Ideal S1024 .f32 from m ((c : Thread nD τ).loc main_arg2)) (ix1 k) = g k)
  (a3 : ∀ i k, (show FVec Ideal S1024x2048 .f32 from m ((c : Thread nD τ).loc main_arg3)) (ix2 i k) = w i k)

/-- The weights' columns in four quarters. -/
theorem quarters (X : FVec Ideal S1024x2048 .f32) (j : Fin 4) (k : Fin 1024) (e : Fin 512) :
    truncf (F := Ideal) .bf16 (transpose S4x1024x512 [1, 0, 2] (shapeCast S1024x4x512 X shapeCasts_S1024x2048_S1024x4x512) transposes_S1024x4x512_S4x1024x512_1_0_2) bitsLt_bf16_f32 (ix3 j k e)
      = X (ix2 k (qcol j e)) := by
  pointwise []

include a0 in
theorem b0 (p : Fin cfg0.N) (j : Fin 256) (k : Fin 2048) : (show FVec Ideal S256x2048 .f32 from iblk m c 0 p) (ix2 j k) = d j k := by
  rw [← a0]; blk_ext [iblk, V, idx p]
include a1 a2 in
/-- The normalized memory, which the host computes by the forward's lines. -/
theorem hhn (i : Fin 256) (k : Fin 1024) : (show FVec Ideal S256x1024 .bf16 from V m c main_v13) (ix2 i k) = hn x g i k := by
  entry_read
  exact Cert.MemKvRefIdeal.Rows.rhn a1 a2 i k
include a1 a2 in
theorem b1 (p : Fin cfg0.N) (j : Fin 256) (k : Fin 1024) : (show FVec Ideal S256x1024 .bf16 from iblk m c 1 p) (ix2 j k) = hn x g j k := by
  rw [← hhn a1 a2 j k]; blk_ext [iblk, idx p]
include a3 in
theorem hw (j : Fin 4) (k : Fin 1024) (e : Fin 512) : (show FVec Ideal S4x1024x512 .bf16 from V m c main_v16) (ix3 j k e) = w k (qcol j e) := by
  entry_read
  exact (quarters _ j k e).trans (a3 k _)
include a3 in
theorem b2 (p : Fin cfg0.N) (j : Fin 4) (k : Fin 1024) (e : Fin 512) : (show FVec Ideal S4x1024x512 .bf16 from iblk m c 2 p) (ix3 j k e) = w k (qcol j e) := by
  rw [← hw a3 j k e]; blk_ext [iblk, idx p]
include a1 in
theorem b3 (p : Fin cfg0.N) (j : Fin 256) (k : Fin 1024) : (show FVec Ideal S256x1024 .f32 from iblk m c 3 p) (ix2 j k) = x j k := by
  rw [← a1]; blk_ext [iblk, V, idx p]

include a0 a1 a2 in
theorem final_dw : (dats m 0 c).arrAt 5 cfg0.N = fun i : S4x1024x512.Idx => dw d x g (i 0) (i 1) (i 2) := by
  refine (dats m 0 c).arrAt_eq_of_covers 5 _ (by decide +kernel) fun p _ y => ?_
  have key : ∀ y : S4x1024x512.Idx, View.canon (dwL (iblk m c 0 p) (iblk m c 1 p)) y
      = dw d x g (((View.whole main_v18_0).slice (win0_5.rect p)).emb y 0) (((View.whole main_v18_0).slice (win0_5.rect p)).emb y 1)
        (((View.whole main_v18_0).slice (win0_5.rect p)).emb y 2) := by
    intro y
    rw [dwL_eq (b0 a0 p) (b1 a1 a2 p)]
    refine congr (congrArg₂ (dw d x g) (Fin.ext ?_) (Fin.ext ?_)) (Fin.ext ?_) <;> blk_simp [idx p]
  blk_simp
  rw [after0_5]; frame_out
  exact key y

include a0 a1 a3 in
theorem final_dg : (dats m 0 c).arrAt 6 cfg0.N = fun i : S1x1024.Idx => dg d x w (i 1) := by
  refine (dats m 0 c).arrAt_eq_of_covers 6 _ (by decide +kernel) fun p _ y => ?_
  have key (v0 v1 v2 v3 : FVec Ideal S256x512 .f32) (w0 w1 w2 w3 : FVec Ideal S1x1024x512 .bf16)
      (hv0 : ∀ i e, v0 (ix2 i e) = d i (qcol 0 e)) (hv1 : ∀ i e, v1 (ix2 i e) = d i (qcol 1 e)) (hv2 : ∀ i e, v2 (ix2 i e) = d i (qcol 2 e)) (hv3 : ∀ i e, v3 (ix2 i e) = d i (qcol 3 e))
      (hw0 : ∀ z k e, w0 (ix3 z k e) = w k (qcol 0 e)) (hw1 : ∀ z k e, w1 (ix3 z k e) = w k (qcol 1 e)) (hw2 : ∀ z k e, w2 (ix3 z k e) = w k (qcol 2 e))
      (hw3 : ∀ z k e, w3 (ix3 z k e) = w k (qcol 3 e)) (y : S1x1024.Idx) :
      k0_pay3 (F := Ideal) (k0_pay9 v0 w0 v1 w1) (k0_pay10 v2) w2 v3 w3 (iblk m c 3 p) y = dg d x w (((View.whole main_v18_1).slice (win0_6.rect p)).emb y 1) := by
    idx_vars y
    rw [kdg (b3 a1 p) hv0 hv1 hv2 hv3 hw0 hw1 hw2 hw3]
    refine congrArg (dg d x w) (Fin.ext ?_); blk_simp [idx p]
  blk_simp
  rw [after0_6]; frame_out
  exact key _ _ _ _ _ _ _ _ (ld (b0 a0 p) 0 inb_S256x2048_S256x512_0_0) (ld (b0 a0 p) 1 inb_S256x2048_S256x512_0_512) (ld (b0 a0 p) 2 inb_S256x2048_S256x512_0_1024)
    (ld (b0 a0 p) 3 inb_S256x2048_S256x512_0_1536) (lw (b2 a3 p) 0 inb_S4x1024x512_S1x1024x512_0_0_0) (lw (b2 a3 p) 1 inb_S4x1024x512_S1x1024x512_1_0_0)
    (lw (b2 a3 p) 2 inb_S4x1024x512_S1x1024x512_2_0_0) (lw (b2 a3 p) 3 inb_S4x1024x512_S1x1024x512_3_0_0) y

end Cert.MemKvIdeal.Arrays

end
-- ==== Proof.MemKvClaim.lean ====
/- The claims about the memory's gradient. -/
module

public import proofs.«01_k».proof.Defs
public import proofs.«01_k».proof.Proof.MemKvValue
public import proofs.«01_k».proof.Proof.Gen.MemKv.Frame
public import Idealize.ShloMosaic.Lib.Claim

@[expose] public section

set_option maxRecDepth 16384

noncomputable section

open Idealize.ShloMosaic Idealize.ShloMosaic.TcCoe Idealize.SL.Sem Cert.Reals

namespace Cert.Proof

open Cert.MemKvIdeal Cert.MemKvIdeal.Arrays Cert.MemKvRefIdeal.Rows Cert.MemKvRefIdeal.Read in
theorem memkv_value : Cert.algebraic_MemKvIdeal_MemKvRefIdeal := by
  intro m g m' g' _ hagree
  refine ⟨_, _, Cert.MemKvIdeal.Value.run_blocks m g, (θ_run _ _ _).mono (fun r h c => ?_) (Cert.MemKvRefIdeal.Value.run m' g')⟩
  obtain ⟨_, a0⟩ := entries2 (m ((c : Thread nD τ).loc main_arg0))
  obtain ⟨_, a1⟩ := entries2 (m ((c : Thread nD τ).loc main_arg1))
  obtain ⟨_, a2⟩ := entries1 (m ((c : Thread nD τ).loc main_arg2))
  obtain ⟨_, a3⟩ := entries2 (m ((c : Thread nD τ).loc main_arg3))
  obtain ⟨e0, e1, e2, e3⟩ := hagree c
  obtain ⟨r0, r1, k⟩ := h c
  refine ⟨(r0.trans (val_main_v22_eq _ _ _)).trans ?_, (r1.trans (val_main_v23_eq _ _ _)).trans ?_, k⟩
  · rw [e0, e1, e2]
    refine Eq.trans (funext fun i => ?_) (final_dw a0 a1 a2).symm
    idx_vars i
    exact rdw a0 a1 a2 _ _ _
  · rw [e0, e1, e3]
    refine Eq.trans (funext fun i => ?_) (final_dg a0 a1 a3).symm
    idx_vars i
    exact rdg a0 a1 a3 _ _

theorem memkv : ∃ (hMemKv : Cert.MemKv.Facts) (hMemKvIdeal : Cert.MemKvIdeal.Facts) (hMemKvRefIdeal : Cert.MemKvRefIdeal.Facts),
    quiescent_MemKv (hMemKv := hMemKv)
    ∧ quiescent_MemKvIdeal (hMemKvIdeal := hMemKvIdeal)
    ∧ quiescent_MemKvRefIdeal (hMemKvRefIdeal := hMemKvRefIdeal)
    ∧ preserves_MemKv_MemKvIdeal
    ∧ algebraic_MemKvIdeal_MemKvRefIdeal (hMemKvIdeal := hMemKvIdeal) (hMemKvRefIdeal := hMemKvRefIdeal) :=
  ⟨Cert.MemKv.Gen.facts, Cert.MemKvIdeal.Gen.facts, Cert.MemKvRefIdeal.Gen.facts,
    fun m ρ _ => Cert.MemKv.Gen.frame m ρ, fun m ρ _ => Cert.MemKvIdeal.Gen.frame m ρ,
    fun m ρ _ => (θ_run_mono (Cert.MemKvRefIdeal.Value.run m ρ) fun r h => ⟨fun c => (h c).2.2, sem_eq_zero_of_no_sems rfl r.2⟩), trivial, memkv_value⟩

end Cert.Proof

end
-- ==== Proof.HeadBiasValue.lean ====
/- The gradient of the bias a head, of the reference and of the kernel. -/
module

public import proofs.«01_k».proof.Proof.Entries
public import proofs.«01_k».proof.Proof.Gen.HeadBiasIdeal.Value
public import proofs.«01_k».proof.Proof.Gen.HeadBiasRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.HeadBias.Real

/-- The gradient of a bias a head: the sum of the head's 64 columns, zero in the lanes that hold no head. -/
def hb (x : Fin 128 → Fin 512 → EReal) (r l : Fin 128) : EReal := if h : l.val < 8 then ∑ e : Fin 64, x r ⟨64 * l.val + e.val, by omega⟩ else 0

end Cert.HeadBias.Real

namespace Cert.HeadBiasRefIdeal.Rows
open Cert.HeadBiasRefIdeal Cert.HeadBiasRefIdeal.Gen Cert.HeadBiasRefIdeal.Read Cert.Reals Cert.HeadBias.Real

variable {x : Fin 128 → Fin 512 → EReal} {x0 : FVec Ideal S128x512 .f32} (a0 : ∀ i k, x0 (ix2 i k) = x i k)

include a0
theorem rhb (r l : Fin 128) : val_main_v10 (F := Ideal) x0 (ix2 r l) = hb x r l := by
  pointwise [val_main_v10, val_main_v9, val_main_v8, val_main_v7, val_main_v6, val_main_v5, val_main_v4, val_main_cst, val_main_cst_0, val_main_c, val_main_call0_v0]
  simp only [a0, hb]
  split
  · rw [Fin.sum_univ_one]
    exact Finset.sum_congr rfl fun e _ => congrArg (x r) (Fin.ext (show l.val * 64 + e.val = 64 * l.val + e.val by omega))
  · simp [FloatOps.sitofp]

end Cert.HeadBiasRefIdeal.Rows

namespace Cert.HeadBiasIdeal.Arrays
open Cert.HeadBiasIdeal Cert.HeadBiasIdeal.Gen Cert.Reals Cert.HeadBias.Real

variable {x : Fin 128 → Fin 512 → EReal} {x0 : FVec Ideal S128x512 .f32} (a0 : ∀ i k, x0 (ix2 i k) = x i k)

/-- A choice by comparing a lane's number. -/
theorem choice (l : Fin 128) (n : Nat) (hn : n < 8) (a : EReal) : Scalar.select (IntOp.cmpi .eq (BitVec.ofNat 32 l.val) (BitVec.ofNat 32 n)) a 0 = if l.val = n then a else 0 := by
  have e : (BitVec.ofNat 32 l.val = BitVec.ofNat 32 n) ↔ l.val = n := by
    rw [← BitVec.toNat_inj, BitVec.toNat_ofNat, BitVec.toNat_ofNat]; omega
  by_cases h : l.val = n
  · rw [if_pos h, h]; simp [Scalar.select, IntOp.cmpi]
  · have h' := mt e.1 h
    rw [if_neg h]; simp [Scalar.select, IntOp.cmpi, beq_eq_false_iff_ne.2 h']

include a0
theorem khb (r l : Fin 128) : Cert.HeadBiasIdeal.Value.G1 (F := Ideal) x0 (ix2 r l) = hb x r l := by
  unfold Cert.HeadBiasIdeal.Value.G1
  pointwise [k0_pay1, k0_pay2, k0_pay3]
  simp only [a0, hb]
  rw [choice l 0 (by decide), choice l 1 (by decide), choice l 2 (by decide), choice l 3 (by decide), choice l 4 (by decide), choice l 5 (by decide), choice l 6 (by decide), choice l 7 (by decide)]
  obtain ⟨l, hl⟩ := l
  by_cases h : l < 8
  · interval_cases l <;> simp
  · have q : ∀ n < 8, l ≠ n := by omega
    simp [h, q]

end Cert.HeadBiasIdeal.Arrays

end
-- ==== Proof.HeadBiasClaim.lean ====
/- The claims about the gradient of the bias a head. -/
module

public import proofs.«01_k».proof.Defs
public import proofs.«01_k».proof.Proof.HeadBiasValue
public import proofs.«01_k».proof.Proof.Gen.HeadBias.Frame
public import Idealize.ShloMosaic.Lib.Claim

@[expose] public section

set_option maxRecDepth 16384

noncomputable section

open Idealize.ShloMosaic Idealize.ShloMosaic.TcCoe Idealize.SL.Sem Cert.Reals

namespace Cert.Proof

open Cert.HeadBiasIdeal Cert.HeadBiasIdeal.Arrays Cert.HeadBiasRefIdeal.Rows Cert.HeadBiasRefIdeal.Read in
theorem headbias_value : Cert.algebraic_HeadBiasIdeal_HeadBiasRefIdeal := by
  intro m g m' g' _ hagree
  refine ⟨_, Cert.HeadBiasIdeal.Value.run m g, (θ_run _ _ _).mono (fun r h c => ?_) (Cert.HeadBiasRefIdeal.Value.run m' g')⟩
  obtain ⟨_, a0⟩ := entries2 (m ((c : Thread nD τ).loc main_arg0))
  obtain ⟨e0, e1⟩ := hagree c
  obtain ⟨r0, k⟩ := h c
  refine ⟨(r0.trans (val_main_v10_eq _)).trans ?_, k⟩
  rw [e0]
  refine funext fun i => ?_
  idx_vars i
  exact (rhb a0 _ _).trans (khb a0 _ _).symm

theorem headbias : ∃ (hHeadBias : Cert.HeadBias.Facts) (hHeadBiasIdeal : Cert.HeadBiasIdeal.Facts) (hHeadBiasRefIdeal : Cert.HeadBiasRefIdeal.Facts),
    quiescent_HeadBias (hHeadBias := hHeadBias)
    ∧ quiescent_HeadBiasIdeal (hHeadBiasIdeal := hHeadBiasIdeal)
    ∧ quiescent_HeadBiasRefIdeal (hHeadBiasRefIdeal := hHeadBiasRefIdeal)
    ∧ preserves_HeadBias_HeadBiasIdeal
    ∧ algebraic_HeadBiasIdeal_HeadBiasRefIdeal (hHeadBiasIdeal := hHeadBiasIdeal) (hHeadBiasRefIdeal := hHeadBiasRefIdeal) :=
  ⟨Cert.HeadBias.Gen.facts, Cert.HeadBiasIdeal.Gen.facts, Cert.HeadBiasRefIdeal.Gen.facts,
    fun m ρ _ => Cert.HeadBias.Gen.frame m ρ, fun m ρ _ => Cert.HeadBiasIdeal.Gen.frame m ρ,
    fun m ρ _ => (θ_run_mono (Cert.HeadBiasRefIdeal.Value.run m ρ) fun r h => ⟨fun c => (h c).2, sem_eq_zero_of_no_sems rfl r.2⟩), trivial, headbias_value⟩

end Cert.Proof

end
-- ==== Proof.AttnFwdValue.lean ====
/- The attention, forward: each result of the call as a function of the arguments, of the reference and of the kernel.
   Both compute the same sums of the same terms, so nothing is asked of the arguments: the functions are of extended reals. -/
module

public import proofs.«01_k».proof.Proof.Softmax
public import proofs.«01_k».proof.Proof.Entries
public import proofs.«01_k».proof.Proof.Gen.AttnFwdIdeal.Value
public import proofs.«01_k».proof.Proof.Gen.AttnFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AttnFwd.Real
open Cert.Reals

/-- Lane `e` of head `H` among the model's columns, and among the keys' and the values' columns. -/
abbrev col (H : Fin 4) (e : Fin 256) : Fin 1024 := ⟨H.val * 256 + e.val, by omega⟩
abbrev kcol (H : Fin 4) (e : Fin 256) : Fin 2048 := ⟨H.val * 256 + e.val, by omega⟩
abbrev vcol (H : Fin 4) (e : Fin 256) : Fin 2048 := ⟨1024 + (H.val * 256 + e.val), by omega⟩
/-- The head of a column. -/
abbrev hd (k : Fin 1024) : Fin 4 := ⟨k.val / 256, by omega⟩

theorem hd_col (H : Fin 4) (e : Fin 256) : hd (col H e) = H := Fin.ext (by show (H.val * 256 + e.val) / 256 = H.val; omega)

variable (x mix : Fin 4096 → Fin 1024 → EReal) (w : Fin 1024 → Fin 1024 → EReal) (g : Fin 1024 → EReal) (wq : Fin 1024 → Fin 1024 → EReal)
  (kv : Fin 256 → Fin 2048 → EReal) (wo : Fin 1024 → Fin 1024 → EReal)

/-- The stream after the mixing. -/
def h1 (i : Fin 4096) (k : Fin 1024) : EReal := x i k + ∑ e, mix i e * w e k
/-- The queries. -/
def q (i : Fin 4096) (k : Fin 1024) : EReal := ∑ e, hn (h1 x mix w) g i e * wq e k
/-- A query's scores in a head. -/
def score (H : Fin 4) (i : Fin 4096) (j : Fin 256) : EReal := (∑ e, q x mix w g wq i (col H e) * kv j (kcol H e)) * Ideal.ofBits .f32 0x3D800000#32
/-- A row's exponentials, its greatest entry subtracted, and its softmax. -/
def ex (s : Fin 256 → EReal) (j : Fin 256) : EReal := Ideal.exp (s j - Finset.univ.fold max (⊥ : EReal) s)
def sm (s : Fin 256 → EReal) (j : Fin 256) : EReal := Ideal.div (ex s j) (∑ t, ex s t)
/-- The heads' outputs. -/
def o (i : Fin 4096) (k : Fin 1024) : EReal := ∑ j, sm (score x mix w g wq kv (hd k) i) j * kv j ⟨1024 + k.val, by omega⟩
/-- The stream after the attention. -/
def h2 (i : Fin 4096) (k : Fin 1024) : EReal := h1 x mix w i k + ∑ e, o x mix w g wq kv i e * wo e k

theorem o_col (H : Fin 4) (i : Fin 4096) (e : Fin 256) : o x mix w g wq kv i (col H e) = ∑ j, sm (score x mix w g wq kv H i) j * kv j (vcol H e) := by
  rw [o, hd_col]

end Cert.AttnFwd.Real

namespace Cert.AttnFwdRefIdeal.Rows
open Cert.AttnFwdRefIdeal Cert.AttnFwdRefIdeal.Gen Cert.AttnFwdRefIdeal.Read Cert.Reals Cert.AttnFwd.Real

variable {x mix : Fin 4096 → Fin 1024 → EReal} {w : Fin 1024 → Fin 1024 → EReal} {g : Fin 1024 → EReal} {wq : Fin 1024 → Fin 1024 → EReal}
  {kv : Fin 256 → Fin 2048 → EReal} {wo : Fin 1024 → Fin 1024 → EReal} {gf : Fin 1024 → EReal}
  {x0 x1 : FVec Ideal S4096x1024 .f32} {x2 : FVec Ideal S1024x1024 .f32} {x3 : FVec Ideal S1024 .f32} {x4 : FVec Ideal S1024x1024 .f32}
  {x5 : FVec Ideal S256x2048 .f32} {x6 : FVec Ideal S1024x1024 .f32} {x7 : FVec Ideal S1024 .f32}
  (a0 : ∀ i k, x0 (ix2 i k) = x i k) (a1 : ∀ i k, x1 (ix2 i k) = mix i k) (a2 : ∀ i k, x2 (ix2 i k) = w i k) (a3 : ∀ k, x3 (ix1 k) = g k)
  (a4 : ∀ i k, x4 (ix2 i k) = wq i k) (a5 : ∀ i k, x5 (ix2 i k) = kv i k) (a6 : ∀ i k, x6 (ix2 i k) = wo i k) (a7 : ∀ k, x7 (ix1 k) = gf k)

include a0 a1 a2
theorem rh1 (i : Fin 4096) (k : Fin 1024) : val_main_v1 (F := Ideal) x0 x1 x2 (ix2 i k) = h1 x mix w i k := by
  pointwise [val_main_v1, val_main_v0]
  simp only [a0, a1, a2, h1]

include a3
theorem rhn2 (i : Fin 4096) (k : Fin 1024) : val_main_v14 (F := Ideal) x0 x1 x2 x3 (ix2 i k) = hn (h1 x mix w) g i k := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]
  simp only [rh1 a0 a1 a2, a3, zero_add, hn, rstd]

include a4
theorem rq (i : Fin 4096) (k : Fin 1024) : val_main_v15 (F := Ideal) x0 x1 x2 x3 x4 (ix2 i k) = q x mix w g wq i k := by
  pointwise [val_main_v15]
  simp only [rhn2 a0 a1 a2 a3, a4, q]

include a5
theorem rscore (H : Fin 4) (i : Fin 4096) (j : Fin 256) : val_main_v23 (F := Ideal) x0 x1 x2 x3 x4 x5 (ix3 H i j) = score x mix w g wq kv H i j := by
  pointwise [val_main_v23, val_main_v22, val_main_v21, val_main_v20, val_main_v18, val_main_v16, val_main_cst_2]
  simp only [rq a0 a1 a2 a3 a4, a5, score]

theorem rmax (H : Fin 4) (i : Fin 4096) : val_main_v26 (F := Ideal) x0 x1 x2 x3 x4 x5 (ix2 H i) = Finset.univ.fold max (⊥ : EReal) (score x mix w g wq kv H i) := by
  have e : val_main_v25 (F := Ideal) (ix2 H i) = (⊥ : EReal) := by
    pointwise [val_main_v25, val_main_cst_4]
    exact cneginf
  have f : val_main_v24 (F := Ideal) x0 x1 x2 x3 x4 x5 (ix2 H i) = Finset.univ.fold max (⊥ : EReal) (score x mix w g wq kv H i) := by
    pointwise [val_main_v24, val_main_cst_3]
    simp only [rscore a0 a1 a2 a3 a4 a5, cneginf]
  rw [val_main_v26_apply, Ideal.maximumf_def, e, f, bot_max]

theorem rex (H : Fin 4) (i : Fin 4096) (j : Fin 256) : val_main_v30 (F := Ideal) x0 x1 x2 x3 x4 x5 (ix3 H i j) = ex (score x mix w g wq kv H i) j := by
  pointwise [val_main_v30, val_main_v29, val_main_v28, val_main_v27]
  simp only [rscore a0 a1 a2 a3 a4 a5, rmax a0 a1 a2 a3 a4 a5, ex]

theorem rsm (H : Fin 4) (i : Fin 4096) (j : Fin 256) : val_main_v34 (F := Ideal) x0 x1 x2 x3 x4 x5 (ix3 H i j) = sm (score x mix w g wq kv H i) j := by
  pointwise [val_main_v34, val_main_v33, val_main_v32, val_main_v31, val_main_cst_5]
  simp only [rex a0 a1 a2 a3 a4 a5, zero_add, sm]

theorem ro (i : Fin 4096) (k : Fin 1024) : val_main_v37 (F := Ideal) x0 x1 x2 x3 x4 x5 (ix2 i k) = o x mix w g wq kv i k := by
  pointwise [val_main_v37, val_main_v36, val_main_v35, val_main_v19, val_main_v17]
  simp only [rsm a0 a1 a2 a3 a4 a5, a5, o]
  exact Finset.sum_congr rfl fun _ _ => mul_comm _ _

include a6
theorem rh2 (i : Fin 4096) (k : Fin 1024) : val_main_v39 (F := Ideal) x0 x1 x2 x3 x4 x5 x6 (ix2 i k) = h2 x mix w g wq kv wo i k := by
  pointwise [val_main_v39, val_main_v38]
  simp only [rh1 a0 a1 a2, ro a0 a1 a2 a3 a4 a5, a6, h2]

include a7
theorem rhn3 (i : Fin 4096) (k : Fin 1024) : val_main_v52 (F := Ideal) x0 x1 x2 x3 x4 x5 x6 x7 (ix2 i k) = hn (h2 x mix w g wq kv wo) gf i k := by
  pointwise [val_main_v52, val_main_v51, val_main_v50, val_main_v49, val_main_v48, val_main_v47, val_main_v46, val_main_v45, val_main_v44, val_main_v43,
    val_main_v42, val_main_v41, val_main_v40, val_main_cst_6, val_main_cst_7, val_main_cst_8]
  simp only [rh2 a0 a1 a2 a3 a4 a5 a6, a7, zero_add, hn, rstd]

end Cert.AttnFwdRefIdeal.Rows

namespace Cert.AttnFwdIdeal.Rows
open Cert.AttnFwdIdeal Cert.AttnFwdIdeal.Gen Cert.Reals Cert.AttnFwd.Real

/-- The windows' blocks: rows `512 t …` of the stream, the mixing and the results; else the whole array. -/
theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

/-- Row `j` of block `t`. -/
abbrev row (t : Fin cfg0.N) (j : Fin 512) : Fin 4096 := ⟨t.val * 512 + j.val, by have := lt_of_lt_of_eq t.isLt N_0; omega⟩

variable {x mix : Fin 4096 → Fin 1024 → EReal} {w : Fin 1024 → Fin 1024 → EReal} {g : Fin 1024 → EReal} {wq : Fin 1024 → Fin 1024 → EReal}
  {kv : Fin 256 → Fin 2048 → EReal} {wo : Fin 1024 → Fin 1024 → EReal} {gf : Fin 1024 → EReal} {p : Fin cfg0.N}
  {x0 : FVec Ideal S512x1024 .f32} {x1 : FVec Ideal S512x1024 .bf16} {x2 : FVec Ideal S1024x1024 .bf16} {x3 : FVec Ideal S1x1024 .f32} {x4 : FVec Ideal S1024x1024 .bf16}
  {x5 : FVec Ideal S256x2048 .bf16} {x6 : FVec Ideal S1024x1024 .bf16} {x7 : FVec Ideal S1x1024 .f32}
  (a0 : ∀ i k, x0 (ix2 i k) = x (row p i) k) (a1 : ∀ i k, x1 (ix2 i k) = mix (row p i) k) (a2 : ∀ i k, x2 (ix2 i k) = w i k) (a3 : ∀ i k, x3 (ix2 i k) = g k)
  (a4 : ∀ i k, x4 (ix2 i k) = wq i k) (a5 : ∀ i k, x5 (ix2 i k) = kv i k) (a6 : ∀ i k, x6 (ix2 i k) = wo i k) (a7 : ∀ i k, x7 (ix2 i k) = gf k)

section
include a0 a1 a2
theorem kh1 (i : Fin 512) (k : Fin 1024) : k0_pay1 (F := Ideal) x0 x1 x2 (ix2 i k) = h1 x mix w (row p i) k := by
  pointwise [k0_pay1]
  simp only [a0, a1, a2, h1]

include a3
theorem khn2 (i : Fin 512) (k : Fin 1024) : k0_pay2 (F := Ideal) x0 x1 x2 x3 (ix2 i k) = hn (h1 x mix w) g (row p i) k := by
  pointwise [k0_pay2]
  simp only [kh1 a0 a1 a2, a3, hn, rstd]

include a4
theorem kq (i : Fin 512) (k : Fin 1024) : k0_pay3 (F := Ideal) x0 x1 x2 x3 x4 (ix2 i k) = q x mix w g wq (row p i) k := by
  pointwise [k0_pay3]
  simp only [khn2 a0 a1 a2 a3, a4, q]
end

/-- A head's outputs, of its queries `a`, its keys `b` and its values `v`. -/
abbrev oT (a : FVec Ideal S512x256 .bf16) (b v : FVec Ideal S256x256 .bf16) : FVec Ideal S512x256 .bf16 := k0_pay9 a b v

theorem ko {H : Fin 4} {a : FVec Ideal S512x256 .bf16} {b v : FVec Ideal S256x256 .bf16} (ha : ∀ i e, a (ix2 i e) = q x mix w g wq (row p i) (col H e))
    (hb : ∀ j e, b (ix2 j e) = kv j (kcol H e)) (hv : ∀ j e, v (ix2 j e) = kv j (vcol H e)) (i : Fin 512) (e : Fin 256) :
    oT a b v (ix2 i e) = o x mix w g wq kv (row p i) (col H e) := by
  pointwise [k0_pay9]
  simp only [ha, hb, hv, cneginf, o_col]
  rfl

/-- Some 256 columns of the keys and values. -/
abbrev ldk (x : FVec Ideal S256x2048 .bf16) (o : Nat) (inb : ∀ a, (![0, o] : Fin 2 → Nat) a + S256x256.size a ≤ S256x2048.size a) : FVec Ideal S256x256 .bf16 :=
  View.ld (Val := Elt Ideal) (e' := .bf16) x (Rect.unit (s := S256x2048) ![0, o] S256x256.size inb)

/-- The heads' outputs, stored head by head: `b0 … b3` are the heads' queries. -/
def oL (b0 b1 b2 b3 : FVec Ideal S512x256 .bf16) (x5 : FVec Ideal S256x2048 .bf16) : List (View.Piece (Elt Ideal) S512x1024 .bf16) :=
  [⟨Rect.unit ![0, 768] ![512, 256] inb_S512x1024_S512x256_0_768,
      k0_pay11 (F := Ideal) (k0_pay10 b3 (ldk x5 768 inb_S256x2048_S256x256_0_768)) (ldk x5 1792 inb_S256x2048_S256x256_0_1792)⟩,
    ⟨Rect.unit ![0, 512] ![512, 256] inb_S512x1024_S512x256_0_512,
      k0_pay9 (F := Ideal) b2 (ldk x5 512 inb_S256x2048_S256x256_0_512) (ldk x5 1536 inb_S256x2048_S256x256_0_1536)⟩,
    ⟨Rect.unit ![0, 256] ![512, 256] inb_S512x1024_S512x256_0_256,
      k0_pay8 (F := Ideal) (k0_pay6 b1 (ldk x5 256 inb_S256x2048_S256x256_0_256)) (k0_pay7 (ldk x5 1280 inb_S256x2048_S256x256_0_1280))
        (constant S512x256 .f32 0#32)⟩,
    ⟨Rect.unit ![0, 0] ![512, 256] inb_S512x1024_S512x256_0_0,
      k0_pay5 (F := Ideal) (k0_pay4 b0) (ldk x5 0 inb_S256x2048_S256x256_0_0) (ldk x5 1024 inb_S256x2048_S256x256_0_1024)⟩]

section
include a5
theorem lk (H : Fin 4) (inb) (i : Fin 256) (e : Fin 256) : ldk x5 (H.val * 256) inb (ix2 i e) = kv i (kcol H e) := by
  rw [← a5]
  exact congrArg x5 (funext fun a => by
    fin_cases a
    · exact Fin.ext (show 0 + 1 * i.val = i.val by omega)
    · exact Fin.ext (show H.val * 256 + 1 * e.val = H.val * 256 + e.val by omega))
theorem lv (H : Fin 4) (inb) (i : Fin 256) (e : Fin 256) : ldk x5 (1024 + H.val * 256) inb (ix2 i e) = kv i (vcol H e) := by
  rw [← a5]
  exact congrArg x5 (funext fun a => by
    fin_cases a
    · exact Fin.ext (show 0 + 1 * i.val = i.val by omega)
    · exact Fin.ext (show 1024 + H.val * 256 + 1 * e.val = 1024 + (H.val * 256 + e.val) by omega))

/-- A head's store is a block of the outputs. -/
theorem o_piece (H : Fin 4) (inb inb2 inb3) {b : FVec Ideal S512x256 .bf16} (hb : ∀ i e, b (ix2 i e) = q x mix w g wq (row p i) (col H e)) (t : S512x256.Idx) :
    oT b (ldk x5 (H.val * 256) inb2) (ldk x5 (1024 + H.val * 256) inb3) t
      = (fun y : S512x1024.Idx => o x mix w g wq kv (row p (y 0)) (y 1)) ((Rect.unit (s := S512x1024) ![0, H.val * 256] ![512, 256] inb).emb t) := by
  idx_vars t
  rw [ko hb (lk a5 H inb2) (lv a5 H inb3)]
  refine congrArg₂ (o x mix w g wq kv) (Fin.ext ?_) (Fin.ext ?_)
  · show p.val * 512 + t0.val = p.val * 512 + (0 + 1 * t0.val); omega
  · show H.val * 256 + t1.val = H.val * 256 + 1 * t1.val; omega

theorem oL_eq {b0 b1 b2 b3 : FVec Ideal S512x256 .bf16} (h0 : ∀ i e, b0 (ix2 i e) = q x mix w g wq (row p i) (col 0 e))
    (h1 : ∀ i e, b1 (ix2 i e) = q x mix w g wq (row p i) (col 1 e)) (h2 : ∀ i e, b2 (ix2 i e) = q x mix w g wq (row p i) (col 2 e))
    (h3 : ∀ i e, b3 (ix2 i e) = q x mix w g wq (row p i) (col 3 e)) (y : S512x1024.Idx) :
    View.canon (oL b0 b1 b2 b3 x5) y = o x mix w g wq kv (row p (y 0)) (y 1) := by
  refine View.canon_append_of_piecesOf (fun y : S512x1024.Idx => o x mix w g wq kv (row p (y 0)) (y 1)) [] (oL b0 b1 b2 b3 x5) ⟨?_, ?_, ?_, ?_, trivial⟩ y
    (View.cover_of_tiledL (oL b0 b1 b2 b3 x5) S512x256.size (by sl_kernel_rfl) y)
  · exact o_piece a5 3 inb_S512x1024_S512x256_0_768 inb_S256x2048_S256x256_0_768 inb_S256x2048_S256x256_0_1792 h3
  · exact o_piece a5 2 inb_S512x1024_S512x256_0_512 inb_S256x2048_S256x256_0_512 inb_S256x2048_S256x256_0_1536 h2
  · exact o_piece a5 1 inb_S512x1024_S512x256_0_256 inb_S256x2048_S256x256_0_256 inb_S256x2048_S256x256_0_1280 h1
  · exact o_piece a5 0 inb_S512x1024_S512x256_0_0 inb_S256x2048_S256x256_0_0 inb_S256x2048_S256x256_0_1024 h0
end

section
variable {v6 : FVec Ideal S512x1024 .f32} {v : FVec Ideal S512x1024 .bf16} (h6 : ∀ i k, v6 (ix2 i k) = h1 x mix w (row p i) k)
  (hv : ∀ i k, v (ix2 i k) = o x mix w g wq kv (row p i) k)
include h6 hv a6
theorem kh2 (i : Fin 512) (k : Fin 1024) : k0_pay12 (F := Ideal) v6 v x6 (ix2 i k) = h2 x mix w g wq kv wo (row p i) k := by
  pointwise [k0_pay12]
  simp only [h6, hv, a6, h2]

include a7
theorem khn3 (i : Fin 512) (k : Fin 1024) : k0_pay13 (F := Ideal) v6 v x6 x7 (ix2 i k) = hn (h2 x mix w g wq kv wo) gf (row p i) k := by
  pointwise [k0_pay13]
  simp only [kh2 a6 h6 hv, a7, hn, rstd]
end

end Cert.AttnFwdIdeal.Rows

namespace Cert.AttnFwdIdeal.Arrays
open Cert.AttnFwdIdeal Cert.AttnFwdIdeal.Gen Cert.AttnFwdIdeal.Rows Cert.Reals Cert.AttnFwd.Real
open Idealize.ShloMosaic.Pipeline (Dat)

variable {m : (ℓ : Loc nD τ sig) → Buf (Elt Ideal) ℓ} {c : Dev nD}
  {x mix : Fin 4096 → Fin 1024 → EReal} {w : Fin 1024 → Fin 1024 → EReal} {g : Fin 1024 → EReal} {wq : Fin 1024 → Fin 1024 → EReal}
  {kv : Fin 256 → Fin 2048 → EReal} {wo : Fin 1024 → Fin 1024 → EReal} {gf : Fin 1024 → EReal}
  (a0 : ∀ i k, (show FVec Ideal S4096x1024 .f32 from m ((c : Thread nD τ).loc main_arg0)) (ix2 i k) = x i k)
  (a1 : ∀ i k, (show FVec Ideal S4096x1024 .f32 from m ((c : Thread nD τ).loc main_arg1)) (ix2 i k) = mix i k)
  (a2 : ∀ i k, (show FVec Ideal S1024x1024 .f32 from m ((c : Thread nD τ).loc main_arg2)) (ix2 i k) = w i k)
  (a3 : ∀ k, (show FVec Ideal S1024 .f32 from m ((c : Thread nD τ).loc main_arg3)) (ix1 k) = g k)
  (a4 : ∀ i k, (show FVec Ideal S1024x1024 .f32 from m ((c : Thread nD τ).loc main_arg4)) (ix2 i k) = wq i k)
  (a5 : ∀ i k, (show FVec Ideal S256x2048 .f32 from m ((c : Thread nD τ).loc main_arg5)) (ix2 i k) = kv i k)
  (a6 : ∀ i k, (show FVec Ideal S1024x1024 .f32 from m ((c : Thread nD τ).loc main_arg6)) (ix2 i k) = wo i k)
  (a7 : ∀ k, (show FVec Ideal S1024 .f32 from m ((c : Thread nD τ).loc main_arg7)) (ix1 k) = gf k)

include a0 in
theorem b0 (p : Fin cfg0.N) (j : Fin 512) (k : Fin 1024) : (show FVec Ideal S512x1024 .f32 from iblk m c 0 p) (ix2 j k) = x (row p j) k := by
  rw [← a0]; blk_ext [iblk, V, idx p]
include a1 in
theorem b1 (p : Fin cfg0.N) (j : Fin 512) (k : Fin 1024) : (show FVec Ideal S512x1024 .bf16 from iblk m c 1 p) (ix2 j k) = mix (row p j) k := by
  rw [← a1]; blk_ext [iblk, V, idx p]
include a2 in
theorem b2 (p : Fin cfg0.N) (j k : Fin 1024) : (show FVec Ideal S1024x1024 .bf16 from iblk m c 2 p) (ix2 j k) = w j k := by
  rw [← a2]; blk_ext [iblk, V, idx p]
include a3 in
theorem b3 (p : Fin cfg0.N) (j : Fin 1) (k : Fin 1024) : (show FVec Ideal S1x1024 .f32 from iblk m c 3 p) (ix2 j k) = g k := by
  rw [← a3]; blk_point [iblk, V, idx p]
include a4 in
theorem b4 (p : Fin cfg0.N) (j k : Fin 1024) : (show FVec Ideal S1024x1024 .bf16 from iblk m c 4 p) (ix2 j k) = wq j k := by
  rw [← a4]; blk_ext [iblk, V, idx p]
include a5 in
theorem b5 (p : Fin cfg0.N) (j : Fin 256) (k : Fin 2048) : (show FVec Ideal S256x2048 .bf16 from iblk m c 5 p) (ix2 j k) = kv j k := by
  rw [← a5]; blk_ext [iblk, V, idx p]
include a6 in
theorem b6 (p : Fin cfg0.N) (j k : Fin 1024) : (show FVec Ideal S1024x1024 .bf16 from iblk m c 6 p) (ix2 j k) = wo j k := by
  rw [← a6]; blk_ext [iblk, V, idx p]
include a7 in
theorem b7 (p : Fin cfg0.N) (j : Fin 1) (k : Fin 1024) : (show FVec Ideal S1x1024 .f32 from iblk m c 7 p) (ix2 j k) = gf k := by
  rw [← a7]; blk_point [iblk, V, idx p]

/-- One store of a whole block. -/
def wL (v : FVec Ideal S512x1024 .bf16) : List (View.Piece (Elt Ideal) S512x1024 .bf16) :=
  [⟨Rect.unit ![0, 0] ![512, 1024] inb_S512x1024_S512x1024_0_0, v⟩]

/-- It is what is read back. -/
theorem canon_whole (v : FVec Ideal S512x1024 .bf16) (y : S512x1024.Idx) :
    View.canon (wL v) y = v y := by
  refine View.canon_append_of_piecesOf v [] (wL v) ⟨fun t => ?_, trivial⟩ y
    (View.cover_of_tiledL (wL v) S512x1024.size (by sl_kernel_rfl) y)
  exact congrArg v (funext fun a => by
    fin_cases a
    · exact Fin.ext (show (t 0).val = 0 + 1 * (t 0).val by omega)
    · exact Fin.ext (show (t 1).val = 0 + 1 * (t 1).val by omega))

include a0 a1 a2
theorem final_h1 : (dats m 0 c).arrAt 8 cfg0.N = fun i : S4096x1024.Idx => h1 x mix w (i 0) (i 1) := by
  refine (dats m 0 c).arrAt_eq_of_covers 8 _ (by decide +kernel) fun p _ y => ?_
  have key : ∀ y : S512x1024.Idx, k0_pay1 (F := Ideal) (iblk m c 0 p) (iblk m c 1 p) (iblk m c 2 p) y
      = h1 x mix w (((View.whole main_v7_0).slice (win0_8.rect p)).emb y 0) (((View.whole main_v7_0).slice (win0_8.rect p)).emb y 1) := by
    intro y
    idx_vars y
    rw [kh1 (b0 a0 p) (b1 a1 p) (b2 a2 p)]
    refine congrArg₂ (h1 x mix w) (Fin.ext ?_) (Fin.ext ?_) <;> blk_simp [idx p]
  blk_simp
  rw [after0_8]; unfold outsAt0; frame_out
  exact key y

include a3
theorem final_hn2 : (dats m 0 c).arrAt 9 cfg0.N = fun i : S4096x1024.Idx => hn (h1 x mix w) g (i 0) (i 1) := by
  refine (dats m 0 c).arrAt_eq_of_covers 9 _ (by decide +kernel) fun p _ y => ?_
  have key : ∀ y : S512x1024.Idx, k0_pay2 (F := Ideal) (iblk m c 0 p) (iblk m c 1 p) (iblk m c 2 p) (iblk m c 3 p) y
      = hn (h1 x mix w) g (((View.whole main_v7_1).slice (win0_9.rect p)).emb y 0) (((View.whole main_v7_1).slice (win0_9.rect p)).emb y 1) := by
    intro y
    idx_vars y
    rw [khn2 (b0 a0 p) (b1 a1 p) (b2 a2 p) (b3 a3 p)]
    refine congrArg₂ (hn (h1 x mix w) g) (Fin.ext ?_) (Fin.ext ?_) <;> blk_simp [idx p]
  blk_simp
  rw [after0_9]; unfold outsAt0; frame_out
  exact key y

include a4
theorem final_q : (dats m 0 c).arrAt 10 cfg0.N = fun i : S4096x1024.Idx => q x mix w g wq (i 0) (i 1) := by
  refine (dats m 0 c).arrAt_eq_of_covers 10 _ (by decide +kernel) fun p _ y => ?_
  have key : ∀ y : S512x1024.Idx, k0_pay3 (F := Ideal) (iblk m c 0 p) (iblk m c 1 p) (iblk m c 2 p) (iblk m c 3 p) (iblk m c 4 p) y
      = q x mix w g wq (((View.whole main_v7_2).slice (win0_10.rect p)).emb y 0) (((View.whole main_v7_2).slice (win0_10.rect p)).emb y 1) := by
    intro y
    idx_vars y
    rw [kq (b0 a0 p) (b1 a1 p) (b2 a2 p) (b3 a3 p) (b4 a4 p)]
    refine congrArg₂ (q x mix w g wq) (Fin.ext ?_) (Fin.ext ?_) <;> blk_simp [idx p]
  blk_simp
  rw [after0_10]; unfold outsAt0; frame_out
  exact key y

/-- A head's queries, read back from the point's store of all of them. -/
theorem qs (p : Fin cfg0.N) (H : Fin 4) (inb) (i : Fin 512) (e : Fin 256) :
    View.canon (wL (k0_pay3 (F := Ideal) (iblk m c 0 p) (iblk m c 1 p) (iblk m c 2 p) (iblk m c 3 p) (iblk m c 4 p)))
      ((Rect.unit (s := S512x1024) ![0, H.val * 256] ![512, 256] inb).idx (ix2 i e)) = q x mix w g wq (row p i) (col H e) := by
  rw [canon_whole, ← kq (b0 a0 p) (b1 a1 p) (b2 a2 p) (b3 a3 p) (b4 a4 p)]
  exact congrArg (k0_pay3 (F := Ideal) (iblk m c 0 p) (iblk m c 1 p) (iblk m c 2 p) (iblk m c 3 p) (iblk m c 4 p)) (funext fun a => by
    fin_cases a
    · exact Fin.ext (show 0 + 1 * i.val = i.val by omega)
    · exact Fin.ext (show H.val * 256 + 1 * e.val = H.val * 256 + e.val by omega))

include a5
theorem final_o : (dats m 0 c).arrAt 11 cfg0.N = fun i : S4096x1024.Idx => o x mix w g wq kv (i 0) (i 1) := by
  refine (dats m 0 c).arrAt_eq_of_covers 11 _ (by decide +kernel) fun p _ y => ?_
  have key (t0 t1 t2 t3 : FVec Ideal S512x256 .bf16) (h0 : ∀ i e, t0 (ix2 i e) = q x mix w g wq (row p i) (col 0 e))
      (h1 : ∀ i e, t1 (ix2 i e) = q x mix w g wq (row p i) (col 1 e)) (h2 : ∀ i e, t2 (ix2 i e) = q x mix w g wq (row p i) (col 2 e))
      (h3 : ∀ i e, t3 (ix2 i e) = q x mix w g wq (row p i) (col 3 e)) (y : S512x1024.Idx) :
      View.canon (oL t0 t1 t2 t3 (iblk m c 5 p)) y
      = o x mix w g wq kv (((View.whole main_v7_3).slice (win0_11.rect p)).emb y 0) (((View.whole main_v7_3).slice (win0_11.rect p)).emb y 1) := by
    rw [oL_eq (b5 a5 p) h0 h1 h2 h3]
    refine congrArg₂ (o x mix w g wq kv) (Fin.ext ?_) (Fin.ext ?_) <;> blk_simp [idx p]
  blk_simp
  rw [after0_11]; unfold outsAt0; frame_out
  refine key _ _ _ _ ?_ ?_ ?_ ?_ y <;> (intro i e; rw [View.readCov_eq_canon'])
  · exact qs a0 a1 a2 a3 a4 p 0 inb_S512x1024_S512x256_0_0 i e
  · exact qs a0 a1 a2 a3 a4 p 1 inb_S512x1024_S512x256_0_256 i e
  · exact qs a0 a1 a2 a3 a4 p 2 inb_S512x1024_S512x256_0_512 i e
  · exact qs a0 a1 a2 a3 a4 p 3 inb_S512x1024_S512x256_0_768 i e

omit a0 a1 a2 a3 a4 in
/-- The heads' outputs, read back whole within the point that stored them. -/
theorem os (p : Fin cfg0.N) {t0 t1 t2 t3 : FVec Ideal S512x256 .bf16} (h0 : ∀ i e, t0 (ix2 i e) = q x mix w g wq (row p i) (col 0 e))
    (h1 : ∀ i e, t1 (ix2 i e) = q x mix w g wq (row p i) (col 1 e)) (h2 : ∀ i e, t2 (ix2 i e) = q x mix w g wq (row p i) (col 2 e))
    (h3 : ∀ i e, t3 (ix2 i e) = q x mix w g wq (row p i) (col 3 e)) (i : Fin 512) (k : Fin 1024) :
    View.canon (oL t0 t1 t2 t3 (iblk m c 5 p)) ((Rect.unit (s := S512x1024) ![0, 0] ![512, 1024] inb_S512x1024_S512x1024_0_0).idx (ix2 i k)) = o x mix w g wq kv (row p i) k := by
  rw [oL_eq (b5 a5 p) h0 h1 h2 h3]
  refine congrArg₂ (o x mix w g wq kv) (Fin.ext ?_) (Fin.ext ?_)
  · show p.val * 512 + (0 + 1 * i.val) = p.val * 512 + i.val; omega
  · show 0 + 1 * k.val = k.val; omega

include a6
theorem final_h2 : (dats m 0 c).arrAt 12 cfg0.N = fun i : S4096x1024.Idx => h2 x mix w g wq kv wo (i 0) (i 1) := by
  refine (dats m 0 c).arrAt_eq_of_covers 12 _ (by decide +kernel) fun p _ y => ?_
  have key (v : FVec Ideal S512x1024 .bf16) (hv : ∀ i k, v (ix2 i k) = o x mix w g wq kv (row p i) k) (y : S512x1024.Idx) :
      k0_pay12 (F := Ideal) (k0_pay1 (iblk m c 0 p) (iblk m c 1 p) (iblk m c 2 p)) v (iblk m c 6 p) y
      = h2 x mix w g wq kv wo (((View.whole main_v7_4).slice (win0_12.rect p)).emb y 0) (((View.whole main_v7_4).slice (win0_12.rect p)).emb y 1) := by
    idx_vars y
    rw [kh2 (b6 a6 p) (kh1 (b0 a0 p) (b1 a1 p) (b2 a2 p)) hv]
    refine congrArg₂ (h2 x mix w g wq kv wo) (Fin.ext ?_) (Fin.ext ?_) <;> blk_simp [idx p]
  blk_simp
  rw [after0_12]; unfold outsAt0; frame_out
  refine key _ ?_ y
  intro i k; rw [View.readCov_eq_canon']
  refine os a5 p ?_ ?_ ?_ ?_ i k <;> (intro i e; rw [View.readCov_eq_canon'])
  · exact qs a0 a1 a2 a3 a4 p 0 inb_S512x1024_S512x256_0_0 i e
  · exact qs a0 a1 a2 a3 a4 p 1 inb_S512x1024_S512x256_0_256 i e
  · exact qs a0 a1 a2 a3 a4 p 2 inb_S512x1024_S512x256_0_512 i e
  · exact qs a0 a1 a2 a3 a4 p 3 inb_S512x1024_S512x256_0_768 i e

include a7
theorem final_hn3 : (dats m 0 c).arrAt 13 cfg0.N = fun i : S4096x1024.Idx => hn (h2 x mix w g wq kv wo) gf (i 0) (i 1) := by
  refine (dats m 0 c).arrAt_eq_of_covers 13 _ (by decide +kernel) fun p _ y => ?_
  have key (v : FVec Ideal S512x1024 .bf16) (hv : ∀ i k, v (ix2 i k) = o x mix w g wq kv (row p i) k) (y : S512x1024.Idx) :
      k0_pay13 (F := Ideal) (k0_pay1 (iblk m c 0 p) (iblk m c 1 p) (iblk m c 2 p)) v (iblk m c 6 p) (iblk m c 7 p) y
      = hn (h2 x mix w g wq kv wo) gf (((View.whole main_v7_5).slice (win0_13.rect p)).emb y 0) (((View.whole main_v7_5).slice (win0_13.rect p)).emb y 1) := by
    idx_vars y
    rw [khn3 (b6 a6 p) (b7 a7 p) (kh1 (b0 a0 p) (b1 a1 p) (b2 a2 p)) hv]
    refine congrArg₂ (hn (h2 x mix w g wq kv wo) gf) (Fin.ext ?_) (Fin.ext ?_) <;> blk_simp [idx p]
  blk_simp
  rw [after0_13]; unfold outsAt0; frame_out
  refine key _ ?_ y
  intro i k; rw [View.readCov_eq_canon']
  refine os a5 p ?_ ?_ ?_ ?_ i k <;> (intro i e; rw [View.readCov_eq_canon'])
  · exact qs a0 a1 a2 a3 a4 p 0 inb_S512x1024_S512x256_0_0 i e
  · exact qs a0 a1 a2 a3 a4 p 1 inb_S512x1024_S512x256_0_256 i e
  · exact qs a0 a1 a2 a3 a4 p 2 inb_S512x1024_S512x256_0_512 i e
  · exact qs a0 a1 a2 a3 a4 p 3 inb_S512x1024_S512x256_0_768 i e

end Cert.AttnFwdIdeal.Arrays

end
-- ==== Proof.AttnFwdClaim.lean ====
/- The claims about the attention, forward. -/
module

public import proofs.«01_k».proof.Defs
public import proofs.«01_k».proof.Proof.AttnFwdValue
public import proofs.«01_k».proof.Proof.Gen.AttnFwd.Frame
public import Idealize.ShloMosaic.Lib.Claim

@[expose] public section

set_option maxRecDepth 16384

noncomputable section

open Idealize.ShloMosaic Idealize.ShloMosaic.TcCoe Idealize.SL.Sem Cert.Reals

namespace Cert.Proof

set_option maxHeartbeats 2000000 in
open Cert.AttnFwdIdeal Cert.AttnFwdIdeal.Arrays Cert.AttnFwdRefIdeal.Rows Cert.AttnFwdRefIdeal.Read in
theorem attnfwd_value : Cert.algebraic_AttnFwdIdeal_AttnFwdRefIdeal := by
  intro m g m' g' _ hagree
  refine ⟨_, _, _, _, _, _, Cert.AttnFwdIdeal.Value.run_blocks m g, (θ_run _ _ _).mono (fun r h c => ?_) (Cert.AttnFwdRefIdeal.Value.run m' g')⟩
  obtain ⟨_, a0⟩ := entries2 (m ((c : Thread nD τ).loc main_arg0))
  obtain ⟨_, a1⟩ := entries2 (m ((c : Thread nD τ).loc main_arg1))
  obtain ⟨_, a2⟩ := entries2 (m ((c : Thread nD τ).loc main_arg2))
  obtain ⟨_, a3⟩ := entries1 (m ((c : Thread nD τ).loc main_arg3))
  obtain ⟨_, a4⟩ := entries2 (m ((c : Thread nD τ).loc main_arg4))
  obtain ⟨_, a5⟩ := entries2 (m ((c : Thread nD τ).loc main_arg5))
  obtain ⟨_, a6⟩ := entries2 (m ((c : Thread nD τ).loc main_arg6))
  obtain ⟨_, a7⟩ := entries1 (m ((c : Thread nD τ).loc main_arg7))
  obtain ⟨e0, e1, e2, e3, e4, e5, e6, e7⟩ := hagree c
  obtain ⟨r0, r1, r2, r3, r4, r5, k⟩ := h c
  refine ⟨(r0.trans (val_main_v1_eq _ _ _)).trans ?_, (r1.trans (val_main_v53_eq _ _ _ _)).trans ?_, (r2.trans (val_main_v54_eq _ _ _ _ _)).trans ?_,
    (r3.trans (val_main_v55_eq m' c)).trans ?_, (r4.trans (val_main_v39_eq m' c)).trans ?_, (r5.trans (val_main_v56_eq m' c)).trans ?_, k⟩
  · rw [e0, e1, e2]
    refine Eq.trans (funext fun i => ?_) (final_h1 a0 a1 a2).symm
    idx_vars i
    exact rh1 a0 a1 a2 _ _
  · rw [e0, e1, e2, e3]
    refine Eq.trans (funext fun i => ?_) (final_hn2 a0 a1 a2 a3).symm
    idx_vars i
    exact rhn2 a0 a1 a2 a3 _ _
  · rw [e0, e1, e2, e3, e4]
    refine Eq.trans (funext fun i => ?_) (final_q a0 a1 a2 a3 a4).symm
    idx_vars i
    exact rq a0 a1 a2 a3 a4 _ _
  · rw [e0, e1, e2, e3, e4, e5]
    refine Eq.trans (funext fun i => ?_) (final_o a0 a1 a2 a3 a4 a5).symm
    idx_vars i
    exact ro a0 a1 a2 a3 a4 a5 _ _
  · rw [e0, e1, e2, e3, e4, e5, e6]
    refine Eq.trans (funext fun i => ?_) (final_h2 a0 a1 a2 a3 a4 a5 a6).symm
    idx_vars i
    exact rh2 a0 a1 a2 a3 a4 a5 a6 _ _
  · rw [e0, e1, e2, e3, e4, e5, e6, e7]
    refine Eq.trans (funext fun i => ?_) (final_hn3 a0 a1 a2 a3 a4 a5 a6 a7).symm
    idx_vars i
    exact rhn3 a0 a1 a2 a3 a4 a5 a6 a7 _ _

theorem attnfwd : ∃ (hAttnFwd : Cert.AttnFwd.Facts) (hAttnFwdIdeal : Cert.AttnFwdIdeal.Facts) (hAttnFwdRefIdeal : Cert.AttnFwdRefIdeal.Facts),
    quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_AttnFwd_AttnFwdIdeal
    ∧ algebraic_AttnFwdIdeal_AttnFwdRefIdeal (hAttnFwdIdeal := hAttnFwdIdeal) (hAttnFwdRefIdeal := hAttnFwdRefIdeal) :=
  ⟨Cert.AttnFwd.Gen.facts, Cert.AttnFwdIdeal.Gen.facts, Cert.AttnFwdRefIdeal.Gen.facts,
    fun m ρ _ => Cert.AttnFwd.Gen.frame m ρ, fun m ρ _ => Cert.AttnFwdIdeal.Gen.frame m ρ,
    fun m ρ _ => (θ_run_mono (Cert.AttnFwdRefIdeal.Value.run m ρ) fun r h => ⟨fun c => (h c).2.2.2.2.2.2, sem_eq_zero_of_no_sems rfl r.2⟩), trivial, attnfwd_value⟩

end Cert.Proof

end
-- ==== Proof.MemKvFwdValue.lean ====
/- The memory, forward: its normalization, and the keys and values, of the reference and of the kernel. -/
module

public import proofs.«01_k».proof.Proof.Entries
public import proofs.«01_k».proof.Proof.Gen.MemKvFwdIdeal.Value
public import proofs.«01_k».proof.Proof.Gen.MemKvFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MemKvFwd.Real
open Cert.Reals

/-- Column `e` of the `j`-th quarter of the keys' and values' columns. -/
abbrev qcol (j : Fin 4) (e : Fin 512) : Fin 2048 := ⟨j.val * 512 + e.val, by omega⟩

/-- The keys and values of the normalized memory. -/
def kvf (x : Fin 256 → Fin 1024 → EReal) (g : Fin 1024 → EReal) (w : Fin 1024 → Fin 2048 → EReal) (i : Fin 256) (n : Fin 2048) : EReal := ∑ k, hn x g i k * w k n

end Cert.MemKvFwd.Real

namespace Cert.MemKvFwdRefIdeal.Rows
open Cert.MemKvFwdRefIdeal Cert.MemKvFwdRefIdeal.Gen Cert.MemKvFwdRefIdeal.Read Cert.Reals Cert.MemKvFwd.Real

variable {x : Fin 256 → Fin 1024 → EReal} {g : Fin 1024 → EReal} {w : Fin 1024 → Fin 2048 → EReal}
  {x0 : FVec Ideal S256x1024 .f32} {x1 : FVec Ideal S1024 .f32} {x2 : FVec Ideal S1024x2048 .f32}
  (a0 : ∀ i k, x0 (ix2 i k) = x i k) (a1 : ∀ k, x1 (ix1 k) = g k) (a2 : ∀ i k, x2 (ix2 i k) = w i k)

include a0 a1
theorem rhn' (i : Fin 256) (k : Fin 1024) : val_main_v12 (F := Ideal) x0 x1 (ix2 i k) = hn x g i k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [a0, a1, zero_add, hn, rstd]
theorem rhn (i : Fin 256) (k : Fin 1024) : val_main_v13 (F := Ideal) x0 x1 (ix2 i k) = hn x g i k := by
  pointwise [val_main_v13]
  exact rhn' a0 a1 i k

include a2
theorem rkv (i : Fin 256) (n : Fin 2048) : val_main_v15 (F := Ideal) x0 x1 x2 (ix2 i n) = kvf x g w i n := by
  pointwise [val_main_v15, val_main_v14]
  simp only [rhn' a0 a1, a2, kvf]

end Cert.MemKvFwdRefIdeal.Rows

namespace Cert.MemKvFwdIdeal.Arrays
open Cert.MemKvFwdIdeal Cert.MemKvFwdIdeal.Gen Cert.Reals Cert.MemKvFwd.Real
open Idealize.ShloMosaic.Pipeline (Dat)

/-- There is one point: every window is its whole array. -/
theorem idx : ∀ t : Fin cfg0.N, win0_0.index t = ![0, 0] ∧ win0_1.index t = ![0, 0] ∧ win0_2.index t = ![0, 0, 0] ∧ win0_3.index t = ![0, 0] ∧ win0_4.index t = ![0, 0] :=
  (by decide +kernel : ∀ t : Fin grid0.N, _)

section
variable {x : Fin 256 → Fin 1024 → EReal} {g : Fin 1024 → EReal} {w : Fin 1024 → Fin 2048 → EReal}
  {x0 : FVec Ideal S256x1024 .f32} {x1 : FVec Ideal S1x1024 .f32} {x2 : FVec Ideal S4x1024x512 .bf16}
  (a0 : ∀ i k, x0 (ix2 i k) = x i k) (a1 : ∀ i k, x1 (ix2 i k) = g k) (a2 : ∀ j k e, x2 (ix3 j k e) = w k (qcol j e))

include a0 a1
theorem khn (i : Fin 256) (k : Fin 1024) : k0_pay2 (F := Ideal) x0 x1 (ix2 i k) = hn x g i k := by
  pointwise [k0_pay2]
  simp only [a0, a1, hn, rstd]

theorem kkv {v : FVec Ideal S1x1024x512 .bf16} {j : Fin 4} (hv : ∀ z k e, v (ix3 z k e) = w k (qcol j e)) (i : Fin 256) (e : Fin 512) :
    k0_pay1 (F := Ideal) (k0_pay2 x0 x1) v (ix2 i e) = kvf x g w i (qcol j e) := by
  pointwise [k0_pay1]
  simp only [khn a0 a1, hv, kvf]
omit a0 a1

/-- A quarter of the weights. -/
abbrev ldw (x : FVec Ideal S4x1024x512 .bf16) (j : Nat) (inb : ∀ a, (![j, 0, 0] : Fin 3 → Nat) a + S1x1024x512.size a ≤ S4x1024x512.size a) : FVec Ideal S1x1024x512 .bf16 :=
  View.ld (Val := Elt Ideal) (e' := .bf16) x (Rect.unit (s := S4x1024x512) ![j, 0, 0] S1x1024x512.size inb)

/-- The keys and values, stored by quarters. -/
def kvL (x0 : FVec Ideal S256x1024 .f32) (x1 : FVec Ideal S1x1024 .f32) (x2 : FVec Ideal S4x1024x512 .bf16) : List (View.Piece (Elt Ideal) S256x2048 .bf16) :=
  [⟨Rect.unit ![0, 1536] ![256, 512] inb_S256x2048_S256x512_0_1536, k0_pay1 (F := Ideal) (k0_pay2 x0 x1) (ldw x2 3 inb_S4x1024x512_S1x1024x512_3_0_0)⟩,
    ⟨Rect.unit ![0, 1024] ![256, 512] inb_S256x2048_S256x512_0_1024, k0_pay5 (F := Ideal) x0 x1 (ldw x2 2 inb_S4x1024x512_S1x1024x512_2_0_0)⟩,
    ⟨Rect.unit ![0, 512] ![256, 512] inb_S256x2048_S256x512_0_512, k0_pay4 (F := Ideal) x0 x1 (ldw x2 1 inb_S4x1024x512_S1x1024x512_1_0_0)⟩,
    ⟨Rect.unit ![0, 0] ![256, 512] inb_S256x2048_S256x512_0_0, k0_pay3 (F := Ideal) x0 x1 (ldw x2 0 inb_S4x1024x512_S1x1024x512_0_0_0)⟩]

include a2 in
theorem lw (j : Fin 4) (inb) (z : Fin 1) (k : Fin 1024) (e : Fin 512) : ldw x2 j.val inb (ix3 z k e) = w k (qcol j e) := by
  rw [← a2]
  exact congrArg x2 (funext fun a => by
    fin_cases a
    · exact Fin.ext (show j.val + 1 * z.val = j.val by omega)
    · exact Fin.ext (show 0 + 1 * k.val = k.val by omega)
    · exact Fin.ext (show 0 + 1 * e.val = e.val by omega))

include a0 a1 a2
theorem kv_piece (j : Fin 4) (inb inb2) (t : S256x512.Idx) : k0_pay1 (F := Ideal) (k0_pay2 x0 x1) (ldw x2 j.val inb2) t
    = (fun y : S256x2048.Idx => kvf x g w (y 0) (y 1)) ((Rect.unit (s := S256x2048) ![0, j.val * 512] ![256, 512] inb).emb t) := by
  idx_vars t
  rw [kkv a0 a1 (lw a2 j inb2)]
  refine congrArg₂ (kvf x g w) (Fin.ext ?_) (Fin.ext ?_)
  · show t0.val = 0 + 1 * t0.val; omega
  · show j.val * 512 + t1.val = j.val * 512 + 1 * t1.val; omega

theorem kvL_eq (y : S256x2048.Idx) : View.canon (kvL x0 x1 x2) y = kvf x g w (y 0) (y 1) := by
  refine View.canon_append_of_piecesOf (fun y : S256x2048.Idx => kvf x g w (y 0) (y 1)) [] (kvL x0 x1 x2) ⟨?_, ?_, ?_, ?_, trivial⟩ y
    (View.cover_of_tiledL (kvL x0 x1 x2) S256x512.size (by sl_kernel_rfl) y)
  · exact kv_piece a0 a1 a2 3 inb_S256x2048_S256x512_0_1536 inb_S4x1024x512_S1x1024x512_3_0_0
  · exact kv_piece a0 a1 a2 2 inb_S256x2048_S256x512_0_1024 inb_S4x1024x512_S1x1024x512_2_0_0
  · exact kv_piece a0 a1 a2 1 inb_S256x2048_S256x512_0_512 inb_S4x1024x512_S1x1024x512_1_0_0
  · exact kv_piece a0 a1 a2 0 inb_S256x2048_S256x512_0_0 inb_S4x1024x512_S1x1024x512_0_0_0
end

variable {m : (ℓ : Loc nD τ sig) → Buf (Elt Ideal) ℓ} {c : Dev nD} {x : Fin 256 → Fin 1024 → EReal} {g : Fin 1024 → EReal} {w : Fin 1024 → Fin 2048 → EReal}
  (a0 : ∀ i k, (show FVec Ideal S256x1024 .f32 from m ((c : Thread nD τ).loc main_arg0)) (ix2 i k) = x i k)
  (a1 : ∀ k, (show FVec Ideal S1024 .f32 from m ((c : Thread nD τ).loc main_arg1)) (ix1 k) = g k)
  (a2 : ∀ i k, (show FVec Ideal S1024x2048 .f32 from m ((c : Thread nD τ).loc main_arg2)) (ix2 i k) = w i k)

/-- The weights' columns in four quarters. -/
theorem quarters (X : FVec Ideal S1024x2048 .f32) (j : Fin 4) (k : Fin 1024) (e : Fin 512) :
    truncf (F := Ideal) .bf16 (transpose S4x1024x512 [1, 0, 2] (shapeCast S1024x4x512 X shapeCasts_S1024x2048_S1024x4x512) transposes_S1024x4x512_S4x1024x512_1_0_2) bitsLt_bf16_f32 (ix3 j k e)
      = X (ix2 k (qcol j e)) := by
  pointwise []

include a0 in
theorem b0 (p : Fin cfg0.N) (j : Fin 256) (k : Fin 1024) : (show FVec Ideal S256x1024 .f32 from iblk m c 0 p) (ix2 j k) = x j k := by
  rw [← a0]; blk_ext [iblk, V, idx p]
include a1 in
theorem b1 (p : Fin cfg0.N) (j : Fin 1) (k : Fin 1024) : (show FVec Ideal S1x1024 .f32 from iblk m c 1 p) (ix2 j k) = g k := by
  rw [← a1]; blk_point [iblk, V, idx p]
include a2 in
theorem hw (j : Fin 4) (k : Fin 1024) (e : Fin 512) : (show FVec Ideal S4x1024x512 .bf16 from V m c main_v2) (ix3 j k e) = w k (qcol j e) := by
  entry_read
  exact (quarters _ j k e).trans (a2 k _)
include a2 in
theorem b2 (p : Fin cfg0.N) (j : Fin 4) (k : Fin 1024) (e : Fin 512) : (show FVec Ideal S4x1024x512 .bf16 from iblk m c 2 p) (ix3 j k e) = w k (qcol j e) := by
  rw [← hw a2 j k e]; blk_ext [iblk, idx p]

include a0 a1
theorem final_hn : (dats m 0 c).arrAt 3 cfg0.N = fun i : S256x1024.Idx => hn x g (i 0) (i 1) := by
  refine (dats m 0 c).arrAt_eq_of_covers 3 _ (by decide +kernel) fun p _ y => ?_
  have key : ∀ y : S256x1024.Idx, k0_pay2 (F := Ideal) (iblk m c 0 p) (iblk m c 1 p) y
      = hn x g (((View.whole main_v4_0).slice (win0_3.rect p)).emb y 0) (((View.whole main_v4_0).slice (win0_3.rect p)).emb y 1) := by
    intro y
    idx_vars y
    rw [khn (b0 a0 p) (b1 a1 p)]
    refine congrArg₂ (hn x g) (Fin.ext ?_) (Fin.ext ?_) <;> blk_simp [idx p]
  blk_simp
  rw [after0_3]; frame_out
  exact key y

include a2
theorem final_kv : (dats m 0 c).arrAt 4 cfg0.N = fun i : S256x2048.Idx => kvf x g w (i 0) (i 1) := by
  refine (dats m 0 c).arrAt_eq_of_covers 4 _ (by decide +kernel) fun p _ y => ?_
  have key : ∀ y : S256x2048.Idx, View.canon (kvL (iblk m c 0 p) (iblk m c 1 p) (iblk m c 2 p)) y
      = kvf x g w (((View.whole main_v4_1).slice (win0_4.rect p)).emb y 0) (((View.whole main_v4_1).slice (win0_4.rect p)).emb y 1) := by
    intro y
    rw [kvL_eq (b0 a0 p) (b1 a1 p) (b2 a2 p)]
    refine congrArg₂ (kvf x g w) (Fin.ext ?_) (Fin.ext ?_) <;> blk_simp [idx p]
  blk_simp
  rw [after0_4]; frame_out
  exact key y

end Cert.MemKvFwdIdeal.Arrays

end
-- ==== Proof.MemKvFwdClaim.lean ====
/- The claims about the memory, forward. -/
module

public import proofs.«01_k».proof.Defs
public import proofs.«01_k».proof.Proof.MemKvFwdValue
public import proofs.«01_k».proof.Proof.Gen.MemKvFwd.Frame
public import Idealize.ShloMosaic.Lib.Claim

@[expose] public section

set_option maxRecDepth 16384

noncomputable section

open Idealize.ShloMosaic Idealize.ShloMosaic.TcCoe Idealize.SL.Sem Cert.Reals

namespace Cert.Proof

open Cert.MemKvFwdIdeal Cert.MemKvFwdIdeal.Arrays Cert.MemKvFwdRefIdeal.Rows Cert.MemKvFwdRefIdeal.Read in
theorem memkvfwd_value : Cert.algebraic_MemKvFwdIdeal_MemKvFwdRefIdeal := by
  intro m g m' g' _ hagree
  refine ⟨_, _, Cert.MemKvFwdIdeal.Value.run_blocks m g, (θ_run _ _ _).mono (fun r h c => ?_) (Cert.MemKvFwdRefIdeal.Value.run m' g')⟩
  obtain ⟨_, a0⟩ := entries2 (m ((c : Thread nD τ).loc main_arg0))
  obtain ⟨_, a1⟩ := entries1 (m ((c : Thread nD τ).loc main_arg1))
  obtain ⟨_, a2⟩ := entries2 (m ((c : Thread nD τ).loc main_arg2))
  obtain ⟨e0, e1, e2⟩ := hagree c
  obtain ⟨r0, r1, k⟩ := h c
  refine ⟨(r0.trans (val_main_v13_eq _ _)).trans ?_, (r1.trans (val_main_v15_eq _ _ _)).trans ?_, k⟩
  · rw [e0, e1]
    refine Eq.trans (funext fun i => ?_) (final_hn a0 a1).symm
    idx_vars i
    exact rhn a0 a1 _ _
  · rw [e0, e1, e2]
    refine Eq.trans (funext fun i => ?_) (final_kv a0 a1 a2).symm
    idx_vars i
    exact rkv a0 a1 a2 _ _

theorem memkvfwd : ∃ (hMemKvFwd : Cert.MemKvFwd.Facts) (hMemKvFwdIdeal : Cert.MemKvFwdIdeal.Facts) (hMemKvFwdRefIdeal : Cert.MemKvFwdRefIdeal.Facts),
    quiescent_MemKvFwd (hMemKvFwd := hMemKvFwd)
    ∧ quiescent_MemKvFwdIdeal (hMemKvFwdIdeal := hMemKvFwdIdeal)
    ∧ quiescent_MemKvFwdRefIdeal (hMemKvFwdRefIdeal := hMemKvFwdRefIdeal)
    ∧ preserves_MemKvFwd_MemKvFwdIdeal
    ∧ algebraic_MemKvFwdIdeal_MemKvFwdRefIdeal (hMemKvFwdIdeal := hMemKvFwdIdeal) (hMemKvFwdRefIdeal := hMemKvFwdRefIdeal) :=
  ⟨Cert.MemKvFwd.Gen.facts, Cert.MemKvFwdIdeal.Gen.facts, Cert.MemKvFwdRefIdeal.Gen.facts,
    fun m ρ _ => Cert.MemKvFwd.Gen.frame m ρ, fun m ρ _ => Cert.MemKvFwdIdeal.Gen.frame m ρ,
    fun m ρ _ => (θ_run_mono (Cert.MemKvFwdRefIdeal.Value.run m ρ) fun r h => ⟨fun c => (h c).2.2, sem_eq_zero_of_no_sems rfl r.2⟩), trivial, memkvfwd_value⟩

end Cert.Proof

end
-- ==== Proof.FfnUpValue.lean ====
/- The gated unit, forward: the projections and the gated values, of the reference and of the kernel. -/
module

public import proofs.«01_k».proof.Proof.Entries
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FfnUp.Real

/-- Column `n` of the gates (`s = 0`) or of the values (`s = 1`) among the projections' columns. -/
abbrev half (s : Fin 2) (n : Fin 2816) : Fin 5632 := ⟨s.val * 2816 + n.val, by omega⟩

variable (h : Fin 4096 → Fin 1024 → EReal) (w : Fin 1024 → Fin 5632 → EReal)

/-- The projections, gates and values. -/
def gu (s : Fin 2) (i : Fin 4096) (n : Fin 2816) : EReal := ∑ k, h i k * w k (half s n)
/-- The gated values. -/
def act (i : Fin 4096) (n : Fin 2816) : EReal := gu h w 0 i n * Ideal.div 1 (1 + Ideal.exp (-gu h w 0 i n)) * gu h w 1 i n

end Cert.FfnUp.Real

namespace Cert.FfnUpRefIdeal.Rows
open Cert.FfnUpRefIdeal Cert.FfnUpRefIdeal.Gen Cert.FfnUpRefIdeal.Read Cert.Reals Cert.FfnUp.Real

variable {h : Fin 4096 → Fin 1024 → EReal} {w : Fin 1024 → Fin 5632 → EReal} {x0 : FVec Ideal S4096x1024 .f32} {x1 : FVec Ideal S1024x5632 .f32}
  (a0 : ∀ i k, x0 (ix2 i k) = h i k) (a1 : ∀ i k, x1 (ix2 i k) = w i k)

include a0 a1
theorem rg (i : Fin 4096) (n : Fin 2816) : val_main_v1 (F := Ideal) x0 x1 (ix2 i n) = gu h w 0 i n := by
  pointwise [val_main_v1, val_main_v0]
  simp only [a0, a1, gu]
  exact Finset.sum_congr rfl fun k _ => congrArg (fun n => h i k * w k n) (Fin.ext (show n.val = 0 * 2816 + n.val by omega))
theorem ru (i : Fin 4096) (n : Fin 2816) : val_main_v2 (F := Ideal) x0 x1 (ix2 i n) = gu h w 1 i n := by
  pointwise [val_main_v2, val_main_v0]
  simp only [a0, a1, gu]
  exact Finset.sum_congr rfl fun k _ => congrArg (fun n => h i k * w k n) (Fin.ext (show 2816 + n.val = 1 * 2816 + n.val by omega))

theorem rgu (s : Fin 2) (i : Fin 4096) (n : Fin 2816) : val_main_v6 (F := Ideal) x0 x1 (ix3 s i n) = gu h w s i n := by
  have hs : s = 0 ∨ s = 1 := by omega
  rcases hs with rfl | rfl
  · pointwise [val_main_v6, val_main_v5, val_main_v3, val_main_v4]
    exact rg a0 a1 i n
  · pointwise [val_main_v6, val_main_v5, val_main_v3, val_main_v4]
    exact ru a0 a1 i n

theorem ract (i : Fin 4096) (n : Fin 2816) : val_main_v9 (F := Ideal) x0 x1 (ix2 i n) = act h w i n := by
  pointwise [val_main_v9, val_main_v8, val_main_v7, val_main_call0_v5, val_main_call0_v4, val_main_call0_v3, val_main_call0_v2, val_main_call0_v1, val_main_call0_v0,
    val_main_call0_cst, val_main_call0_cst_0]
  simp only [rg a0 a1, ru a0 a1, act]

end Cert.FfnUpRefIdeal.Rows

namespace Cert.FfnUpIdeal.Arrays
open Cert.FfnUpIdeal Cert.FfnUpIdeal.Gen Cert.Reals Cert.FfnUp.Real
open Idealize.ShloMosaic.Pipeline (Dat)

/-- The windows' blocks: rows `512 t …` of the stream and the results, and all of the weights. -/
theorem idx : ∀ t : Fin cfg0.N, win0_0.index t = ![t.val, 0] ∧ win0_1.index t = ![0, 0, 0] ∧ win0_2.index t = ![0, t.val, 0] ∧ win0_3.index t = ![t.val, 0] :=
  (by decide +kernel : ∀ t : Fin grid0.N, _)

/-- Row `j` of block `t`. -/
abbrev row (t : Fin cfg0.N) (j : Fin 512) : Fin 4096 := ⟨t.val * 512 + j.val, by have := lt_of_lt_of_eq t.isLt N_0; omega⟩

section
variable {h : Fin 4096 → Fin 1024 → EReal} {w : Fin 1024 → Fin 5632 → EReal} {p : Fin cfg0.N}
  {x0 : FVec Ideal S512x1024 .bf16} {x1 : FVec Ideal S2x1024x2816 .bf16}
  (a0 : ∀ i k, x0 (ix2 i k) = h (row p i) k) (a1 : ∀ s k n, x1 (ix3 s k n) = w k (half s n))

/-- Some columns of the gates' or the values' weights. -/
abbrev ldw (x : FVec Ideal S2x1024x2816 .bf16) (s o n : Nat) (inb : ∀ a, (![s, 0, o] : Fin 3 → Nat) a + (![1, 1024, n] : Fin 3 → Nat) a ≤ S2x1024x2816.size a) :=
  View.ld (Val := Elt Ideal) (e' := .bf16) x (Rect.unit (s := S2x1024x2816) ![s, 0, o] ![1, 1024, n] inb)

include a1 in
theorem lw {o n : Nat} (hn : o + n ≤ 2816) (s : Fin 2) (inb) (z : Fin 1) (k : Fin 1024) (e : Fin n) : ldw x1 s.val o n inb (ix3 z k e) = w k (half s ⟨o + e.val, by omega⟩) := by
  rw [← a1]
  exact congrArg x1 (funext fun a => by
    fin_cases a
    · exact Fin.ext (show s.val + 1 * z.val = s.val by omega)
    · exact Fin.ext (show 0 + 1 * k.val = k.val by omega)
    · exact Fin.ext (show o + 1 * e.val = o + e.val by omega))

include a0
/-- A chunk of 1024 columns, and the last, of 768: a projection, and the gated values. -/
theorem kgu {v : FVec Ideal S1x1024x1024 .bf16} {s : Fin 2} {f : Fin 1024 → Fin 2816} (hv : ∀ z k e, v (ix3 z k e) = w k (half s (f e))) (z : Fin 1) (i : Fin 512) (e : Fin 1024) :
    k0_pay6 (F := Ideal) x0 v (ix3 z i e) = gu h w s (row p i) (f e) := by
  pointwise [k0_pay6, k0_pay4, k0_pay3]
  simp only [a0, hv, gu]
theorem kgu' {v : FVec Ideal S1x1024x768 .bf16} {s : Fin 2} {f : Fin 768 → Fin 2816} (hv : ∀ z k e, v (ix3 z k e) = w k (half s (f e))) (z : Fin 1) (i : Fin 512) (e : Fin 768) :
    k0_pay16 (F := Ideal) (k0_pay3 x0) v (ix3 z i e) = gu h w s (row p i) (f e) := by
  pointwise [k0_pay16, k0_pay14, k0_pay3]
  simp only [a0, hv, gu]
theorem kact {v u : FVec Ideal S1x1024x1024 .bf16} {f : Fin 1024 → Fin 2816} (hv : ∀ z k e, v (ix3 z k e) = w k (half 0 (f e)))
    (hu : ∀ z k e, u (ix3 z k e) = w k (half 1 (f e))) (i : Fin 512) (e : Fin 1024) : k0_pay8 (F := Ideal) x0 v u (ix2 i e) = act h w (row p i) (f e) := by
  pointwise [k0_pay8, k0_pay4, k0_pay5, k0_pay3]
  simp only [a0, hv, hu, act, gu, zero_sub]
theorem kact' {v u : FVec Ideal S1x1024x768 .bf16} {f : Fin 768 → Fin 2816} (hv : ∀ z k e, v (ix3 z k e) = w k (half 0 (f e)))
    (hu : ∀ z k e, u (ix3 z k e) = w k (half 1 (f e))) (i : Fin 512) (e : Fin 768) :
    k0_pay2 (F := Ideal) (k0_pay14 (k0_pay3 x0) v) (k0_pay15 (k0_pay3 x0) u) (ix2 i e) = act h w (row p i) (f e) := by
  pointwise [k0_pay2, k0_pay14, k0_pay15, k0_pay3]
  simp only [a0, hv, hu, act, gu, zero_sub]
omit a0

/-- The projections' stores, and the gated values'. -/
def guL (x0 : FVec Ideal S512x1024 .bf16) (x1 : FVec Ideal S2x1024x2816 .bf16) : List (View.Piece (Elt Ideal) S2x512x2816 .bf16) :=
  [⟨Rect.unit ![1, 0, 2048] ![1, 512, 768] inb_S2x512x2816_S1x512x768_1_0_2048, k0_pay1 (F := Ideal) (k0_pay15 (k0_pay3 x0) (ldw x1 1 2048 768 inb_S2x1024x2816_S1x1024x768_1_0_2048))⟩,
    ⟨Rect.unit ![0, 0, 2048] ![1, 512, 768] inb_S2x512x2816_S1x512x768_0_0_2048, k0_pay16 (F := Ideal) (k0_pay3 x0) (ldw x1 0 2048 768 inb_S2x1024x2816_S1x1024x768_0_0_2048)⟩,
    ⟨Rect.unit ![1, 0, 1024] ![1, 512, 1024] inb_S2x512x2816_S1x512x1024_1_0_1024, k0_pay12 (F := Ideal) (k0_pay3 x0) (ldw x1 1 1024 1024 inb_S2x1024x2816_S1x1024x1024_1_0_1024)⟩,
    ⟨Rect.unit ![0, 0, 1024] ![1, 512, 1024] inb_S2x512x2816_S1x512x1024_0_0_1024, k0_pay11 (F := Ideal) (k0_pay9 x0 (ldw x1 0 1024 1024 inb_S2x1024x2816_S1x1024x1024_0_0_1024))⟩,
    ⟨Rect.unit ![1, 0, 0] ![1, 512, 1024] inb_S2x512x2816_S1x512x1024_1_0_0, k0_pay7 (F := Ideal) x0 (ldw x1 1 0 1024 inb_S2x1024x2816_S1x1024x1024_1_0_0)⟩,
    ⟨Rect.unit ![0, 0, 0] ![1, 512, 1024] inb_S2x512x2816_S1x512x1024_0_0_0, k0_pay6 (F := Ideal) x0 (ldw x1 0 0 1024 inb_S2x1024x2816_S1x1024x1024_0_0_0)⟩]
def actL (x0 : FVec Ideal S512x1024 .bf16) (x1 : FVec Ideal S2x1024x2816 .bf16) : List (View.Piece (Elt Ideal) S512x2816 .bf16) :=
  [⟨Rect.unit ![0, 2048] ![512, 768] inb_S512x2816_S512x768_0_2048, k0_pay2 (F := Ideal) (k0_pay14 (k0_pay3 x0) (ldw x1 0 2048 768 inb_S2x1024x2816_S1x1024x768_0_0_2048))
      (k0_pay15 (k0_pay3 x0) (ldw x1 1 2048 768 inb_S2x1024x2816_S1x1024x768_1_0_2048))⟩,
    ⟨Rect.unit ![0, 1024] ![512, 1024] inb_S512x2816_S512x1024_0_1024, k0_pay13 (F := Ideal) (k0_pay3 x0) (k0_pay9 x0 (ldw x1 0 1024 1024 inb_S2x1024x2816_S1x1024x1024_0_0_1024))
      (ldw x1 1 1024 1024 inb_S2x1024x2816_S1x1024x1024_1_0_1024)⟩,
    ⟨Rect.unit ![0, 0] ![512, 1024] inb_S512x2816_S512x1024_0_0, k0_pay8 (F := Ideal) x0 (ldw x1 0 0 1024 inb_S2x1024x2816_S1x1024x1024_0_0_0)
      (ldw x1 1 0 1024 inb_S2x1024x2816_S1x1024x1024_1_0_0)⟩]

/-- Where a store of columns lands. -/
theorem emb3 {o n : Nat} (s : Fin 2) (hn : o + n ≤ 2816) (inb : ∀ a, (![s.val, 0, o] : Fin 3 → Nat) a + (![1, 512, n] : Fin 3 → Nat) a ≤ S2x512x2816.size a) (t0 : Fin 1) (t1 : Fin 512) (t2 : Fin n) :
    (Rect.unit (s := S2x512x2816) ![s.val, 0, o] ![1, 512, n] inb).emb (ix3 t0 t1 t2) = ix3 s t1 (⟨o + t2.val, by omega⟩ : Fin 2816) := funext fun a => by
  fin_cases a
  · exact Fin.ext (show s.val + 1 * t0.val = s.val by omega)
  · exact Fin.ext (show 0 + 1 * t1.val = t1.val by omega)
  · exact Fin.ext (show o + 1 * t2.val = o + t2.val by omega)
theorem emb2 {o n : Nat} (hn : o + n ≤ 2816) (inb : ∀ a, (![0, o] : Fin 2 → Nat) a + (![512, n] : Fin 2 → Nat) a ≤ S512x2816.size a) (t1 : Fin 512) (t2 : Fin n) :
    (Rect.unit (s := S512x2816) ![0, o] ![512, n] inb).emb (ix2 t1 t2) = ix2 t1 (⟨o + t2.val, by omega⟩ : Fin 2816) := funext fun a => by
  fin_cases a
  · exact Fin.ext (show 0 + 1 * t1.val = t1.val by omega)
  · exact Fin.ext (show o + 1 * t2.val = o + t2.val by omega)

/-- A block of the projections, and of the gated values. -/
def guF (h : Fin 4096 → Fin 1024 → EReal) (w : Fin 1024 → Fin 5632 → EReal) (p : Fin cfg0.N) (y : S2x512x2816.Idx) : EReal := gu h w (y 0) (row p (y 1)) (y 2)
def actF (h : Fin 4096 → Fin 1024 → EReal) (w : Fin 1024 → Fin 5632 → EReal) (p : Fin cfg0.N) (y : S512x2816.Idx) : EReal := act h w (row p (y 0)) (y 1)

include a0 a1
theorem gu_piece {o : Nat} (hn : o + 1024 ≤ 2816) (s : Fin 2) (inb inb1) (t : S1x512x1024.Idx) :
    k0_pay6 (F := Ideal) x0 (ldw x1 s.val o 1024 inb1) t = guF h w p ((Rect.unit (s := S2x512x2816) ![s.val, 0, o] ![1, 512, 1024] inb).emb t) := by
  idx_vars t
  rw [emb3 s hn]
  exact kgu a0 (f := fun e => ⟨o + e.val, by omega⟩) (lw a1 hn s inb1) t0 t1 t2
theorem gu_piece' {o : Nat} (hn : o + 768 ≤ 2816) (s : Fin 2) (inb inb1) (t : S1x512x768.Idx) :
    k0_pay16 (F := Ideal) (k0_pay3 x0) (ldw x1 s.val o 768 inb1) t = guF h w p ((Rect.unit (s := S2x512x2816) ![s.val, 0, o] ![1, 512, 768] inb).emb t) := by
  idx_vars t
  rw [emb3 s hn]
  exact kgu' a0 (f := fun e => ⟨o + e.val, by omega⟩) (lw a1 hn s inb1) t0 t1 t2
theorem act_piece {o : Nat} (hn : o + 1024 ≤ 2816) (inb inb1 inb2) (t : S512x1024.Idx) :
    k0_pay8 (F := Ideal) x0 (ldw x1 0 o 1024 inb1) (ldw x1 1 o 1024 inb2) t = actF h w p ((Rect.unit (s := S512x2816) ![0, o] ![512, 1024] inb).emb t) := by
  idx_vars t
  rw [emb2 hn]
  exact kact a0 (f := fun e => ⟨o + e.val, by omega⟩) (lw a1 hn 0 inb1) (lw a1 hn 1 inb2) t0 t1
theorem act_piece' {o : Nat} (hn : o + 768 ≤ 2816) (inb inb1 inb2) (t : S512x768.Idx) :
    k0_pay2 (F := Ideal) (k0_pay14 (k0_pay3 x0) (ldw x1 0 o 768 inb1)) (k0_pay15 (k0_pay3 x0) (ldw x1 1 o 768 inb2)) t
      = actF h w p ((Rect.unit (s := S512x2816) ![0, o] ![512, 768] inb).emb t) := by
  idx_vars t
  rw [emb2 hn]
  exact kact' a0 (f := fun e => ⟨o + e.val, by omega⟩) (lw a1 hn 0 inb1) (lw a1 hn 1 inb2) t0 t1

theorem guL_eq : View.canon (guL x0 x1) = guF h w p := by
  funext y
  refine View.canon_append_of_piecesOf (guF h w p) [] (guL x0 x1) ⟨?_, ?_, ?_, ?_, ?_, ?_, trivial⟩ y (View.cover_of_tiledBy (guL x0 x1) ![1, 512, 256] (by sl_kernel_rfl) y)
  · exact gu_piece' a0 a1 (o := 2048) (by decide) 1 inb_S2x512x2816_S1x512x768_1_0_2048 inb_S2x1024x2816_S1x1024x768_1_0_2048
  · exact gu_piece' a0 a1 (o := 2048) (by decide) 0 inb_S2x512x2816_S1x512x768_0_0_2048 inb_S2x1024x2816_S1x1024x768_0_0_2048
  · exact gu_piece a0 a1 (o := 1024) (by decide) 1 inb_S2x512x2816_S1x512x1024_1_0_1024 inb_S2x1024x2816_S1x1024x1024_1_0_1024
  · exact gu_piece a0 a1 (o := 1024) (by decide) 0 inb_S2x512x2816_S1x512x1024_0_0_1024 inb_S2x1024x2816_S1x1024x1024_0_0_1024
  · exact gu_piece a0 a1 (o := 0) (by decide) 1 inb_S2x512x2816_S1x512x1024_1_0_0 inb_S2x1024x2816_S1x1024x1024_1_0_0
  · exact gu_piece a0 a1 (o := 0) (by decide) 0 inb_S2x512x2816_S1x512x1024_0_0_0 inb_S2x1024x2816_S1x1024x1024_0_0_0

theorem actL_eq : View.canon (actL x0 x1) = actF h w p := by
  funext y
  refine View.canon_append_of_piecesOf (actF h w p) [] (actL x0 x1) ⟨?_, ?_, ?_, trivial⟩ y (View.cover_of_tiledBy (actL x0 x1) ![512, 256] (by sl_kernel_rfl) y)
  · exact act_piece' a0 a1 (o := 2048) (by decide) inb_S512x2816_S512x768_0_2048 inb_S2x1024x2816_S1x1024x768_0_0_2048 inb_S2x1024x2816_S1x1024x768_1_0_2048
  · exact act_piece a0 a1 (o := 1024) (by decide) inb_S512x2816_S512x1024_0_1024 inb_S2x1024x2816_S1x1024x1024_0_0_1024 inb_S2x1024x2816_S1x1024x1024_1_0_1024
  · exact act_piece a0 a1 (o := 0) (by decide) inb_S512x2816_S512x1024_0_0 inb_S2x1024x2816_S1x1024x1024_0_0_0 inb_S2x1024x2816_S1x1024x1024_1_0_0
end

variable {m : (ℓ : Loc nD τ sig) → Buf (Elt Ideal) ℓ} {c : Dev nD} {h : Fin 4096 → Fin 1024 → EReal} {w : Fin 1024 → Fin 5632 → EReal}
  (a0 : ∀ i k, (show FVec Ideal S4096x1024 .f32 from m ((c : Thread nD τ).loc main_arg0)) (ix2 i k) = h i k)
  (a1 : ∀ i k, (show FVec Ideal S1024x5632 .f32 from m ((c : Thread nD τ).loc main_arg1)) (ix2 i k) = w i k)

/-- The weights' columns in two halves. -/
theorem halvesw (X : FVec Ideal S1024x5632 .f32) (s : Fin 2) (k : Fin 1024) (n : Fin 2816) :
    truncf (F := Ideal) .bf16 (transpose S2x1024x2816 [1, 0, 2] (shapeCast S1024x2x2816 X shapeCasts_S1024x5632_S1024x2x2816) transposes_S1024x2x2816_S2x1024x2816_1_0_2) bitsLt_bf16_f32 (ix3 s k n)
      = X (ix2 k (half s n)) := by
  pointwise []

include a0 in
theorem b0 (p : Fin cfg0.N) (j : Fin 512) (k : Fin 1024) : (show FVec Ideal S512x1024 .bf16 from iblk m c 0 p) (ix2 j k) = h (row p j) k := by
  rw [← a0]; blk_ext [iblk, V, idx p]
include a1 in
theorem hw (s : Fin 2) (k : Fin 1024) (n : Fin 2816) : (show FVec Ideal S2x1024x2816 .bf16 from V m c main_v2) (ix3 s k n) = w k (half s n) := by
  entry_read
  exact (halvesw _ s k n).trans (a1 k _)
include a1 in
theorem b1 (p : Fin cfg0.N) (s : Fin 2) (k : Fin 1024) (n : Fin 2816) : (show FVec Ideal S2x1024x2816 .bf16 from iblk m c 1 p) (ix3 s k n) = w k (half s n) := by
  rw [← hw a1 s k n]; blk_ext [iblk, idx p]

include a0 a1
theorem final_gu : (dats m 0 c).arrAt 2 cfg0.N = fun i : S2x4096x2816.Idx => gu h w (i 0) (i 1) (i 2) := by
  refine (dats m 0 c).arrAt_eq_of_covers 2 _ (by decide +kernel) fun p _ y => ?_
  have key : ∀ y : S2x512x2816.Idx, View.canon (guL (iblk m c 0 p) (iblk m c 1 p)) y
      = gu h w (((View.whole main_v4_0).slice (win0_2.rect p)).emb y 0) (((View.whole main_v4_0).slice (win0_2.rect p)).emb y 1)
        (((View.whole main_v4_0).slice (win0_2.rect p)).emb y 2) := by
    intro y
    rw [guL_eq (b0 a0 p) (b1 a1 p)]
    refine congr (congrArg₂ (gu h w) (Fin.ext ?_) (Fin.ext ?_)) (Fin.ext ?_) <;> blk_simp [idx p]
  blk_simp
  rw [after0_2]; unfold outsAt0; frame_out
  exact key y

theorem final_act : (dats m 0 c).arrAt 3 cfg0.N = fun i : S4096x2816.Idx => act h w (i 0) (i 1) := by
  refine (dats m 0 c).arrAt_eq_of_covers 3 _ (by decide +kernel) fun p _ y => ?_
  have key : ∀ y : S512x2816.Idx, View.canon (actL (iblk m c 0 p) (iblk m c 1 p)) y
      = act h w (((View.whole main_v4_1).slice (win0_3.rect p)).emb y 0) (((View.whole main_v4_1).slice (win0_3.rect p)).emb y 1) := by
    intro y
    rw [actL_eq (b0 a0 p) (b1 a1 p)]
    refine congrArg₂ (act h w) (Fin.ext ?_) (Fin.ext ?_) <;> blk_simp [idx p]
  blk_simp
  rw [after0_3]; unfold outsAt0; frame_out
  exact key y

end Cert.FfnUpIdeal.Arrays

end
-- ==== Proof.FfnUpClaim.lean ====
/- The claims about the gated unit, forward. -/
module

public import proofs.«01_k».proof.Defs
public import proofs.«01_k».proof.Proof.FfnUpValue
public import proofs.«01_k».proof.Proof.Gen.FfnUp.Frame
public import Idealize.ShloMosaic.Lib.Claim

@[expose] public section

set_option maxRecDepth 16384

noncomputable section

open Idealize.ShloMosaic Idealize.ShloMosaic.TcCoe Idealize.SL.Sem Cert.Reals

namespace Cert.Proof

open Cert.FfnUpIdeal Cert.FfnUpIdeal.Arrays Cert.FfnUpRefIdeal.Rows Cert.FfnUpRefIdeal.Read in
theorem ffnup_value : Cert.algebraic_FfnUpIdeal_FfnUpRefIdeal := by
  intro m g m' g' _ hagree
  refine ⟨_, _, Cert.FfnUpIdeal.Value.run_blocks m g, (θ_run _ _ _).mono (fun r h c => ?_) (Cert.FfnUpRefIdeal.Value.run m' g')⟩
  obtain ⟨_, a0⟩ := entries2 (m ((c : Thread nD τ).loc main_arg0))
  obtain ⟨_, a1⟩ := entries2 (m ((c : Thread nD τ).loc main_arg1))
  obtain ⟨e0, e1⟩ := hagree c
  obtain ⟨r0, r1, k⟩ := h c
  refine ⟨(r0.trans (val_main_v6_eq _ _)).trans ?_, (r1.trans (val_main_v9_eq _ _)).trans ?_, k⟩
  · rw [e0, e1]
    refine Eq.trans (funext fun i => ?_) (final_gu a0 a1).symm
    idx_vars i
    exact rgu a0 a1 _ _ _
  · rw [e0, e1]
    refine Eq.trans (funext fun i => ?_) (final_act a0 a1).symm
    idx_vars i
    exact ract a0 a1 _ _

theorem ffnup : ∃ (hFfnUp : Cert.FfnUp.Facts) (hFfnUpIdeal : Cert.FfnUpIdeal.Facts) (hFfnUpRefIdeal : Cert.FfnUpRefIdeal.Facts),
    quiescent_FfnUp (hFfnUp := hFfnUp)
    ∧ quiescent_FfnUpIdeal (hFfnUpIdeal := hFfnUpIdeal)
    ∧ quiescent_FfnUpRefIdeal (hFfnUpRefIdeal := hFfnUpRefIdeal)
    ∧ preserves_FfnUp_FfnUpIdeal
    ∧ algebraic_FfnUpIdeal_FfnUpRefIdeal (hFfnUpIdeal := hFfnUpIdeal) (hFfnUpRefIdeal := hFfnUpRefIdeal) :=
  ⟨Cert.FfnUp.Gen.facts, Cert.FfnUpIdeal.Gen.facts, Cert.FfnUpRefIdeal.Gen.facts,
    fun m ρ _ => Cert.FfnUp.Gen.frame m ρ, fun m ρ _ => Cert.FfnUpIdeal.Gen.frame m ρ,
    fun m ρ _ => (θ_run_mono (Cert.FfnUpRefIdeal.Value.run m ρ) fun r h => ⟨fun c => (h c).2.2, sem_eq_zero_of_no_sems rfl r.2⟩), trivial, ffnup_value⟩

end Cert.Proof

end
-- ==== Proof.NormInValue.lean ====
/- The first normalization: each row by its root mean square, of the reference and of the kernel. -/
module

public import proofs.«01_k».proof.Proof.Entries
public import proofs.«01_k».proof.Proof.Gen.NormInIdeal.Value
public import proofs.«01_k».proof.Proof.Gen.NormInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.NormInRefIdeal.Rows
open Cert.NormInRefIdeal Cert.NormInRefIdeal.Gen Cert.NormInRefIdeal.Read Cert.Reals

variable {x : Fin 4096 → Fin 1024 → EReal} {g : Fin 1024 → EReal} {x0 : FVec Ideal S4096x1024 .f32} {x1 : FVec Ideal S1024 .f32}
  (a0 : ∀ i k, x0 (ix2 i k) = x i k) (a1 : ∀ k, x1 (ix1 k) = g k)

include a0 a1
theorem rhn (i : Fin 4096) (k : Fin 1024) : val_main_v13 (F := Ideal) x0 x1 (ix2 i k) = hn x g i k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [a0, a1, zero_add, hn, rstd]

end Cert.NormInRefIdeal.Rows

namespace Cert.NormInIdeal.Arrays
open Cert.NormInIdeal Cert.NormInIdeal.Gen Cert.Reals
open Idealize.ShloMosaic.Pipeline (Dat)

/-- The windows' blocks: rows `1024 t …` of the array and of the result, and the whole scale. -/
theorem idx : ∀ t : Fin cfg0.N, win0_0.index t = ![t.val, 0] ∧ win0_1.index t = ![0, 0] ∧ win0_2.index t = ![t.val, 0] :=
  (by decide +kernel : ∀ t : Fin grid0.N, _)

/-- Row `j` of block `t`. -/
abbrev row (t : Fin cfg0.N) (j : Fin 1024) : Fin 4096 := ⟨t.val * 1024 + j.val, by have := lt_of_lt_of_eq t.isLt N_0; omega⟩

variable {m : (ℓ : Loc nD τ sig) → Buf (Elt Ideal) ℓ} {c : Dev nD} {x : Fin 4096 → Fin 1024 → EReal} {g : Fin 1024 → EReal}
  (a0 : ∀ i k, (show FVec Ideal S4096x1024 .f32 from m ((c : Thread nD τ).loc main_arg0)) (ix2 i k) = x i k)
  (a1 : ∀ k, (show FVec Ideal S1024 .f32 from m ((c : Thread nD τ).loc main_arg1)) (ix1 k) = g k)

include a0 in
theorem b0 (p : Fin cfg0.N) (j k : Fin 1024) : (show FVec Ideal S1024x1024 .f32 from iblk m c 0 p) (ix2 j k) = x (row p j) k := by
  rw [← a0]; blk_ext [iblk, V, idx p]
include a1 in
theorem b1 (p : Fin cfg0.N) (j : Fin 1) (k : Fin 1024) : (show FVec Ideal S1x1024 .f32 from iblk m c 1 p) (ix2 j k) = g k := by
  rw [← a1]; blk_point [iblk, V, idx p]

theorem khn {p : Fin cfg0.N} {x0 : FVec Ideal S1024x1024 .f32} {x1 : FVec Ideal S1x1024 .f32} (b0 : ∀ i k, x0 (ix2 i k) = x (row p i) k) (b1 : ∀ i k, x1 (ix2 i k) = g k)
    (i k : Fin 1024) : k0_pay1 (F := Ideal) x0 x1 (ix2 i k) = hn x g (row p i) k := by
  pointwise [k0_pay1]
  simp only [b0, b1, hn, rstd]

include a0 a1
theorem final_hn : (dats m 0 c).arrAt 2 cfg0.N = fun i : S4096x1024.Idx => hn x g (i 0) (i 1) := by
  refine (dats m 0 c).arrAt_eq_of_covers 2 _ (by decide +kernel) fun p _ y => ?_
  have key : ∀ y : S1024x1024.Idx, k0_pay1 (F := Ideal) (iblk m c 0 p) (iblk m c 1 p) y
      = hn x g (((View.whole main_v1).slice (win0_2.rect p)).emb y 0) (((View.whole main_v1).slice (win0_2.rect p)).emb y 1) := by
    intro y
    idx_vars y
    rw [khn (b0 a0 p) (b1 a1 p)]
    refine congrArg₂ (hn x g) (Fin.ext ?_) (Fin.ext ?_) <;> blk_simp [idx p]
  blk_simp
  rw [after0_2]; frame_out
  exact key y

end Cert.NormInIdeal.Arrays

end
-- ==== Proof.NormInClaim.lean ====
/- The claims about the first normalization. -/
module

public import proofs.«01_k».proof.Defs
public import proofs.«01_k».proof.Proof.NormInValue
public import proofs.«01_k».proof.Proof.Gen.NormIn.Frame
public import Idealize.ShloMosaic.Lib.Claim

@[expose] public section

set_option maxRecDepth 16384

noncomputable section

open Idealize.ShloMosaic Idealize.ShloMosaic.TcCoe Idealize.SL.Sem Cert.Reals

namespace Cert.Proof

open Cert.NormInIdeal Cert.NormInIdeal.Arrays Cert.NormInRefIdeal.Rows Cert.NormInRefIdeal.Read in
theorem normin_value : Cert.algebraic_NormInIdeal_NormInRefIdeal := by
  intro m g m' g' _ hagree
  refine ⟨_, Cert.NormInIdeal.Value.run_blocks m g, (θ_run _ _ _).mono (fun r h c => ?_) (Cert.NormInRefIdeal.Value.run m' g')⟩
  obtain ⟨_, a0⟩ := entries2 (m ((c : Thread nD τ).loc main_arg0))
  obtain ⟨_, a1⟩ := entries1 (m ((c : Thread nD τ).loc main_arg1))
  obtain ⟨e0, e1⟩ := hagree c
  obtain ⟨r0, k⟩ := h c
  refine ⟨(r0.trans (val_main_v13_eq _ _)).trans ?_, k⟩
  rw [e0, e1]
  refine Eq.trans (funext fun i => ?_) (final_hn a0 a1).symm
  idx_vars i
  exact rhn a0 a1 _ _

theorem normin : ∃ (hNormIn : Cert.NormIn.Facts) (hNormInIdeal : Cert.NormInIdeal.Facts) (hNormInRefIdeal : Cert.NormInRefIdeal.Facts),
    quiescent_NormIn (hNormIn := hNormIn)
    ∧ quiescent_NormInIdeal (hNormInIdeal := hNormInIdeal)
    ∧ quiescent_NormInRefIdeal (hNormInRefIdeal := hNormInRefIdeal)
    ∧ preserves_NormIn_NormInIdeal
    ∧ algebraic_NormInIdeal_NormInRefIdeal (hNormInIdeal := hNormInIdeal) (hNormInRefIdeal := hNormInRefIdeal) :=
  ⟨Cert.NormIn.Gen.facts, Cert.NormInIdeal.Gen.facts, Cert.NormInRefIdeal.Gen.facts,
    fun m ρ _ => Cert.NormIn.Gen.frame m ρ, fun m ρ _ => Cert.NormInIdeal.Gen.frame m ρ,
    fun m ρ _ => (θ_run_mono (Cert.NormInRefIdeal.Value.run m ρ) fun r h => ⟨fun c => (h c).2, sem_eq_zero_of_no_sems rfl r.2⟩), trivial, normin_value⟩

end Cert.Proof

end
-- ==== Proof.SeqRun.lean ====
/- The body of the mixer's gradient at the points after the first. -/
module

public import proofs.«01_k».proof.Proof.Gen.SeqmixIdeal.Frame.RunA

@[expose] public section

set_option maxRecDepth 16384

noncomputable section

namespace Cert.SeqmixIdeal.Own

open Cert.SeqmixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 12000000 in
set_option Elab.async false in
/-- The body at a point after the first: what its stores leave in each output's staging buffer and in the scratch
    buffers, found by running it, and the proof that it runs so. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x512 .f32) (harg4 : arg4.IsWhole) (arg5 : Memref sig .tc .vmem S1024x1024 .bf16) (harg5 : arg5.IsWhole) (arg6 : Memref sig .tc .vmem S4x1024x512 .bf16) (harg6 : arg6.IsWhole) (arg7 : Memref sig .tc .vmem S1x1024 .f32) (harg7 : arg7.IsWhole) (arg8 : Memref sig .tc .vmem S32x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S4x128x256 .bf16) (harg13 : arg13.IsWhole) (arg14 : Memref sig .tc .vmem S4x128x256 .bf16) (harg14 : arg14.IsWhole) (arg15 : Memref sig .tc .vmem S128x512 .f32) (harg15 : arg15.IsWhole) (arg16 : Memref sig .tc .vmem S256x1024 .f32) (harg16 : arg16.IsWhole) (arg17 : Memref sig .tc .vmem S256x2048 .bf16) (harg17 : arg17.IsWhole) (arg18 : Memref sig .tc .vmem S32x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S8x128x128 .f32) (harg24 : arg24.IsWhole) (arg25 : Memref sig .tc .vmem S128x512 .f32) (harg25 : arg25.IsWhole) (arg26 : Memref sig .tc .vmem S1x2048 .f32) (harg26 : arg26.IsWhole) (arg27 : Memref sig .tc .vmem S1x1024 .f32) (harg27 : arg27.IsWhole) (arg28 : Memref sig .tc .vmem S288x512 .f32) (harg28 : arg28.IsWhole) (arg29 : Memref sig .tc .vmem S7x280x512 .f32) (harg29 : arg29.IsWhole) (arg30 : Memref sig .tc .vmem S256x512 .f32) (harg30 : arg30.IsWhole) (arg31 : Memref sig .tc .vmem S256x512 .f32) (harg31 : arg31.IsWhole) (hc0 : ¬cond0_0 i) (hc1 : cond0_1 i)
    (x0 : Vec F S256x1024 .f32) (x1 : Vec F S256x1024 .f32) (x2 : Vec F S256x2048 .f32) (x3 : Vec F S256x512 .f32) (x4 : Vec F S1024x1024 .bf16) (x5 : Vec F S4x1024x512 .bf16) (x6 : Vec F S1x1024 .f32) (x7 : Vec F S32x512 .f32) (x8 : Vec F S1x512 .f32) (x9 : Vec F S1x512 .f32) (x10 : Vec F S1x512 .f32) (x11 : Vec F S1x512 .f32) (x12 : Vec F S4x128x256 .bf16) (x13 : Vec F S4x128x256 .bf16) (x14 : Vec F S128x512 .f32) (xo17 : Vec F S32x512 .f32) (xo18 : Vec F S1x512 .f32) (xo19 : Vec F S1x512 .f32) (xo20 : Vec F S1x512 .f32) (xo21 : Vec F S1x512 .f32) (xo22 : Vec F S1x512 .f32) (xo23 : Vec F S8x128x128 .f32) (xo24 : Vec F S128x512 .f32) (xo25 : Vec F S1x2048 .f32) (xo26 : Vec F S1x1024 .f32) (xs0 : Vec F S288x512 .f32) :
    Σ' (L15 : List (View.Piece (Elt F) S256x1024 .f32)), Σ' (L16 : List (View.Piece (Elt F) S256x2048 .bf16)), Σ' (L17 : List (View.Piece (Elt F) S32x512 .f32)), Σ' (L18 : List (View.Piece (Elt F) S1x512 .f32)), Σ' (L19 : List (View.Piece (Elt F) S1x512 .f32)), Σ' (L20 : List (View.Piece (Elt F) S1x512 .f32)), Σ' (L21 : List (View.Piece (Elt F) S1x512 .f32)), Σ' (L22 : List (View.Piece (Elt F) S1x512 .f32)), Σ' (L23 : List (View.Piece (Elt F) S8x128x128 .f32)), Σ' (L24 : List (View.Piece (Elt F) S128x512 .f32)), Σ' (L25 : List (View.Piece (Elt F) S1x2048 .f32)), Σ' (L26 : List (View.Piece (Elt F) S1x1024 .f32)), Σ' (LS0 : List (View.Piece (Elt F) S288x512 .f32)), Σ' (LT1 : List (View.Piece (Elt F) S7x280x512 .f32)), Σ' (LT2 : List (View.Piece (Elt F) S256x512 .f32)), { LT3 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg23 fullShare xo22 ∗ owns (c : Thread nD τ) arg24 fullShare xo23 ∗ owns (c : Thread nD τ) arg25 fullShare xo24 ∗ owns (c : Thread nD τ) arg26 fullShare xo25 ∗ owns (c : Thread nD τ) arg27 fullShare xo26 ∗ owns (c : Thread nD τ) arg28 fullShare xs0 ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread xo17) L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LT1) ∗ (∃ f, arg30.view.loc (c : Thread nD τ) ↦[arg30.view.set]{fullShare} arg30.view.writes (Elt F) f LT2) ∗ (∃ f, arg31.view.loc (c : Thread nD τ) ↦[arg31.view.set]{fullShare} arg31.view.writes (Elt F) f LT3)) -∗ K ⟨⟩))
          ⊢ wp frame (wpE (defs₀ (F := F)) Variants.none c none) E (cc0_seqmix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, ?_, ?_, ?_, ?_, ?_, ?_, fun E K => ?run⟩
  case run =>
    simp only [cc0_seqmix_bwd_eq_skeleton]; unfold cc0_seqmix_bwd_skel
    simp only [k0_part35_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]; · iexists _; iexact HS0
    isplitl [HS1]; · iexists _; iexact HS1
    isplitl [HS2]; · iexists _; iexact HS2
    iexists _; iexact HS3

end Cert.SeqmixIdeal.Own

end
-- ==== Proof.SeqFrame.lean ====
/- The mixer's gradient call runs: what its buffers hold at every point, and its run. -/
module

public import proofs.«01_k».proof.Proof.SeqRun
public import Idealize.ShloMosaic.Lib.Claim

@[expose] public section

set_option maxRecDepth 16384

noncomputable section

namespace Cert.SeqmixIdeal.Own

open Cert.SeqmixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers and the carried scratch hold. -/
abbrev Outs (F : FTy → Type) := Vec F S256x1024 .f32 × Vec F S256x2048 .bf16 × Vec F S32x512 .f32 × Vec F S1x512 .f32 × Vec F S1x512 .f32 × Vec F S1x512 .f32 × Vec F S1x512 .f32 × Vec F S1x512 .f32 × Vec F S8x128x128 .f32 × Vec F S128x512 .f32 × Vec F S1x2048 .f32 × Vec F S1x1024 .f32 × Vec F S288x512 .f32

/-- The body's run at a first point. -/
def rA (c : Dev nD) (t : Fin cfg0.N) (h0 : t.val % 16 = 0) (h1 : ¬1 ≤ t.val) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The body's run at a later point, over what the point before left. -/
def rB (c : Dev nD) (t : Fin cfg0.N) (h0 : ¬t.val % 16 = 0) (h1 : 1 ≤ t.val) (p : Outs F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2

theorem coverA_15 (c : Dev nD) (t : Fin cfg0.N) (h0 : t.val % 16 = 0) (h1 : ¬1 ≤ t.val) (y : S256x1024.Idx) :
    ∃ pc ∈ (rA m c t h0 h1).1, y ∈ pc.1.set :=
  View.cover_of_tiledL (rA m c t h0 h1).1 S256x1024.size (by sl_kernel_rfl) y

def outA_15 (c : Dev nD) (t : Fin cfg0.N) (h0 : t.val % 16 = 0) (h1 : ¬1 ≤ t.val) : Vec F S256x1024 .f32 :=
  VO0_15.read (Elt F) (VO0_15.writes (Elt F) VO0_15.junk (rA m c t h0 h1).1)

theorem coverA_16 (c : Dev nD) (t : Fin cfg0.N) (h0 : t.val % 16 = 0) (h1 : ¬1 ≤ t.val) (y : S256x2048.Idx) :
    ∃ pc ∈ (rA m c t h0 h1).2.1, y ∈ pc.1.set :=
  View.cover_of_tiledL (rA m c t h0 h1).2.1 S256x512.size (by sl_kernel_rfl) y

def outA_16 (c : Dev nD) (t : Fin cfg0.N) (h0 : t.val % 16 = 0) (h1 : ¬1 ≤ t.val) : Vec F S256x2048 .bf16 :=
  VO0_16.read (Elt F) (VO0_16.writes (Elt F) VO0_16.junk (rA m c t h0 h1).2.1)

theorem coverA_17 (c : Dev nD) (t : Fin cfg0.N) (h0 : t.val % 16 = 0) (h1 : ¬1 ≤ t.val) (y : S32x512.Idx) :
    ∃ pc ∈ (rA m c t h0 h1).2.2.1, y ∈ pc.1.set :=
  View.cover_of_tiledBy (rA m c t h0 h1).2.2.1 ![1, 512] (by sl_kernel_rfl) y

def outA_17 (c : Dev nD) (t : Fin cfg0.N) (h0 : t.val % 16 = 0) (h1 : ¬1 ≤ t.val) : Vec F S32x512 .f32 :=
  VO0_17.read (Elt F) (VO0_17.writes (Elt F) VO0_17.junk (rA m c t h0 h1).2.2.1)

theorem coverA_18 (c : Dev nD) (t : Fin cfg0.N) (h0 : t.val % 16 = 0) (h1 : ¬1 ≤ t.val) (y : S1x512.Idx) :
    ∃ pc ∈ (rA m c t h0 h1).2.2.2.1, y ∈ pc.1.set :=
  View.cover_of_tiledL (rA m c t h0 h1).2.2.2.1 S1x512.size (by sl_kernel_rfl) y

def outA_18 (c : Dev nD) (t : Fin cfg0.N) (h0 : t.val % 16 = 0) (h1 : ¬1 ≤ t.val) : Vec F S1x512 .f32 :=
  VO0_18.read (Elt F) (VO0_18.writes (Elt F) VO0_18.junk (rA m c t h0 h1).2.2.2.1)

theorem coverA_19 (c : Dev nD) (t : Fin cfg0.N) (h0 : t.val % 16 = 0) (h1 : ¬1 ≤ t.val) (y : S1x512.Idx) :
    ∃ pc ∈ (rA m c t h0 h1).2.2.2.2.1, y ∈ pc.1.set :=
  View.cover_of_tiledL (rA m c t h0 h1).2.2.2.2.1 S1x512.size (by sl_kernel_rfl) y

def outA_19 (c : Dev nD) (t : Fin cfg0.N) (h0 : t.val % 16 = 0) (h1 : ¬1 ≤ t.val) : Vec F S1x512 .f32 :=
  VO0_19.read (Elt F) (VO0_19.writes (Elt F) VO0_19.junk (rA m c t h0 h1).2.2.2.2.1)

theorem coverA_20 (c : Dev nD) (t : Fin cfg0.N) (h0 : t.val % 16 = 0) (h1 : ¬1 ≤ t.val) (y : S1x512.Idx) :
    ∃ pc ∈ (rA m c t h0 h1).2.2.2.2.2.1, y ∈ pc.1.set :=
  View.cover_of_tiledL (rA m c t h0 h1).2.2.2.2.2.1 S1x512.size (by sl_kernel_rfl) y

def outA_20 (c : Dev nD) (t : Fin cfg0.N) (h0 : t.val % 16 = 0) (h1 : ¬1 ≤ t.val) : Vec F S1x512 .f32 :=
  VO0_20.read (Elt F) (VO0_20.writes (Elt F) VO0_20.junk (rA m c t h0 h1).2.2.2.2.2.1)

theorem coverA_21 (c : Dev nD) (t : Fin cfg0.N) (h0 : t.val % 16 = 0) (h1 : ¬1 ≤ t.val) (y : S1x512.Idx) :
    ∃ pc ∈ (rA m c t h0 h1).2.2.2.2.2.2.1, y ∈ pc.1.set :=
  View.cover_of_tiledL (rA m c t h0 h1).2.2.2.2.2.2.1 S1x512.size (by sl_kernel_rfl) y

def outA_21 (c : Dev nD) (t : Fin cfg0.N) (h0 : t.val % 16 = 0) (h1 : ¬1 ≤ t.val) : Vec F S1x512 .f32 :=
  VO0_21.read (Elt F) (VO0_21.writes (Elt F) VO0_21.junk (rA m c t h0 h1).2.2.2.2.2.2.1)

theorem coverA_22 (c : Dev nD) (t : Fin cfg0.N) (h0 : t.val % 16 = 0) (h1 : ¬1 ≤ t.val) (y : S1x512.Idx) :
    ∃ pc ∈ (rA m c t h0 h1).2.2.2.2.2.2.2.1, y ∈ pc.1.set :=
  View.cover_of_tiledL (rA m c t h0 h1).2.2.2.2.2.2.2.1 S1x512.size (by sl_kernel_rfl) y

def outA_22 (c : Dev nD) (t : Fin cfg0.N) (h0 : t.val % 16 = 0) (h1 : ¬1 ≤ t.val) : Vec F S1x512 .f32 :=
  VO0_22.read (Elt F) (VO0_22.writes (Elt F) VO0_22.junk (rA m c t h0 h1).2.2.2.2.2.2.2.1)

theorem coverA_23 (c : Dev nD) (t : Fin cfg0.N) (h0 : t.val % 16 = 0) (h1 : ¬1 ≤ t.val) (y : S8x128x128.Idx) :
    ∃ pc ∈ (rA m c t h0 h1).2.2.2.2.2.2.2.2.1, y ∈ pc.1.set :=
  View.cover_of_tiledBy (rA m c t h0 h1).2.2.2.2.2.2.2.2.1 ![1, 128, 128] (by sl_kernel_rfl) y

def outA_23 (c : Dev nD) (t : Fin cfg0.N) (h0 : t.val % 16 = 0) (h1 : ¬1 ≤ t.val) : Vec F S8x128x128 .f32 :=
  VO0_23.read (Elt F) (VO0_23.writes (Elt F) VO0_23.junk (rA m c t h0 h1).2.2.2.2.2.2.2.2.1)

theorem coverA_24 (c : Dev nD) (t : Fin cfg0.N) (h0 : t.val % 16 = 0) (h1 : ¬1 ≤ t.val) (y : S128x512.Idx) :
    ∃ pc ∈ (rA m c t h0 h1).2.2.2.2.2.2.2.2.2.1, y ∈ pc.1.set :=
  View.cover_of_tiledL (rA m c t h0 h1).2.2.2.2.2.2.2.2.2.1 S128x512.size (by sl_kernel_rfl) y

def outA_24 (c : Dev nD) (t : Fin cfg0.N) (h0 : t.val % 16 = 0) (h1 : ¬1 ≤ t.val) : Vec F S128x512 .f32 :=
  VO0_24.read (Elt F) (VO0_24.writes (Elt F) VO0_24.junk (rA m c t h0 h1).2.2.2.2.2.2.2.2.2.1)

theorem coverA_25 (c : Dev nD) (t : Fin cfg0.N) (h0 : t.val % 16 = 0) (h1 : ¬1 ≤ t.val) (y : S1x2048.Idx) :
    ∃ pc ∈ (rA m c t h0 h1).2.2.2.2.2.2.2.2.2.2.1, y ∈ pc.1.set :=
  View.cover_of_tiledBy (rA m c t h0 h1).2.2.2.2.2.2.2.2.2.2.1 ![1, 512] (by sl_kernel_rfl) y

def outA_25 (c : Dev nD) (t : Fin cfg0.N) (h0 : t.val % 16 = 0) (h1 : ¬1 ≤ t.val) : Vec F S1x2048 .f32 :=
  VO0_25.read (Elt F) (VO0_25.writes (Elt F) VO0_25.junk (rA m c t h0 h1).2.2.2.2.2.2.2.2.2.2.1)

theorem coverA_26 (c : Dev nD) (t : Fin cfg0.N) (h0 : t.val % 16 = 0) (h1 : ¬1 ≤ t.val) (y : S1x1024.Idx) :
    ∃ pc ∈ (rA m c t h0 h1).2.2.2.2.2.2.2.2.2.2.2.1, y ∈ pc.1.set :=
  View.cover_of_tiledL (rA m c t h0 h1).2.2.2.2.2.2.2.2.2.2.2.1 S1x1024.size (by sl_kernel_rfl) y

def outA_26 (c : Dev nD) (t : Fin cfg0.N) (h0 : t.val % 16 = 0) (h1 : ¬1 ≤ t.val) : Vec F S1x1024 .f32 :=
  VO0_26.read (Elt F) (VO0_26.writes (Elt F) VO0_26.junk (rA m c t h0 h1).2.2.2.2.2.2.2.2.2.2.2.1)

theorem scoverA_0 (c : Dev nD) (t : Fin cfg0.N) (h0 : t.val % 16 = 0) (h1 : ¬1 ≤ t.val) (y : S288x512.Idx) :
    ∃ pc ∈ (rA m c t h0 h1).2.2.2.2.2.2.2.2.2.2.2.2.1, y ∈ pc.1.set :=
  View.cover_of_tiledBy (rA m c t h0 h1).2.2.2.2.2.2.2.2.2.2.2.2.1 ![32, 512] (by sl_kernel_rfl) y

def soutA_0 (c : Dev nD) (t : Fin cfg0.N) (h0 : t.val % 16 = 0) (h1 : ¬1 ≤ t.val) : Vec F S288x512 .f32 :=
  VS0_0.read (Elt F) (VS0_0.writes (Elt F) VS0_0.junk (rA m c t h0 h1).2.2.2.2.2.2.2.2.2.2.2.2.1)

theorem coverB_15 (c : Dev nD) (t : Fin cfg0.N) (h0 : ¬t.val % 16 = 0) (h1 : 1 ≤ t.val) (p : Outs F) (y : S256x1024.Idx) :
    ∃ pc ∈ (rB m c t h0 h1 p).1, y ∈ pc.1.set :=
  View.cover_of_tiledL (rB m c t h0 h1 p).1 S256x1024.size (by sl_kernel_rfl) y

def outB_15 (c : Dev nD) (t : Fin cfg0.N) (h0 : ¬t.val % 16 = 0) (h1 : 1 ≤ t.val) (p : Outs F) : Vec F S256x1024 .f32 :=
  VO0_15.read (Elt F) (VO0_15.writes (Elt F) VO0_15.junk (rB m c t h0 h1 p).1)

theorem coverB_16 (c : Dev nD) (t : Fin cfg0.N) (h0 : ¬t.val % 16 = 0) (h1 : 1 ≤ t.val) (p : Outs F) (y : S256x2048.Idx) :
    ∃ pc ∈ (rB m c t h0 h1 p).2.1, y ∈ pc.1.set :=
  View.cover_of_tiledL (rB m c t h0 h1 p).2.1 S256x512.size (by sl_kernel_rfl) y

def outB_16 (c : Dev nD) (t : Fin cfg0.N) (h0 : ¬t.val % 16 = 0) (h1 : 1 ≤ t.val) (p : Outs F) : Vec F S256x2048 .bf16 :=
  VO0_16.read (Elt F) (VO0_16.writes (Elt F) VO0_16.junk (rB m c t h0 h1 p).2.1)

def outB_17 (c : Dev nD) (t : Fin cfg0.N) (h0 : ¬t.val % 16 = 0) (h1 : 1 ≤ t.val) (p : Outs F) : Vec F S32x512 .f32 :=
  (ms0_17 t).view.read (Elt F) ((ms0_17 t).view.writes (Elt F) ((hs0_17 t).unread p.2.2.1) (rB m c t h0 h1 p).2.2.1)

theorem coverB_18 (c : Dev nD) (t : Fin cfg0.N) (h0 : ¬t.val % 16 = 0) (h1 : 1 ≤ t.val) (p : Outs F) (y : S1x512.Idx) :
    ∃ pc ∈ (rB m c t h0 h1 p).2.2.2.1, y ∈ pc.1.set :=
  View.cover_of_tiledL (rB m c t h0 h1 p).2.2.2.1 S1x512.size (by sl_kernel_rfl) y

def outB_18 (c : Dev nD) (t : Fin cfg0.N) (h0 : ¬t.val % 16 = 0) (h1 : 1 ≤ t.val) (p : Outs F) : Vec F S1x512 .f32 :=
  VO0_18.read (Elt F) (VO0_18.writes (Elt F) VO0_18.junk (rB m c t h0 h1 p).2.2.2.1)

theorem coverB_19 (c : Dev nD) (t : Fin cfg0.N) (h0 : ¬t.val % 16 = 0) (h1 : 1 ≤ t.val) (p : Outs F) (y : S1x512.Idx) :
    ∃ pc ∈ (rB m c t h0 h1 p).2.2.2.2.1, y ∈ pc.1.set :=
  View.cover_of_tiledL (rB m c t h0 h1 p).2.2.2.2.1 S1x512.size (by sl_kernel_rfl) y

def outB_19 (c : Dev nD) (t : Fin cfg0.N) (h0 : ¬t.val % 16 = 0) (h1 : 1 ≤ t.val) (p : Outs F) : Vec F S1x512 .f32 :=
  VO0_19.read (Elt F) (VO0_19.writes (Elt F) VO0_19.junk (rB m c t h0 h1 p).2.2.2.2.1)

theorem coverB_20 (c : Dev nD) (t : Fin cfg0.N) (h0 : ¬t.val % 16 = 0) (h1 : 1 ≤ t.val) (p : Outs F) (y : S1x512.Idx) :
    ∃ pc ∈ (rB m c t h0 h1 p).2.2.2.2.2.1, y ∈ pc.1.set :=
  View.cover_of_tiledL (rB m c t h0 h1 p).2.2.2.2.2.1 S1x512.size (by sl_kernel_rfl) y

def outB_20 (c : Dev nD) (t : Fin cfg0.N) (h0 : ¬t.val % 16 = 0) (h1 : 1 ≤ t.val) (p : Outs F) : Vec F S1x512 .f32 :=
  VO0_20.read (Elt F) (VO0_20.writes (Elt F) VO0_20.junk (rB m c t h0 h1 p).2.2.2.2.2.1)

theorem coverB_21 (c : Dev nD) (t : Fin cfg0.N) (h0 : ¬t.val % 16 = 0) (h1 : 1 ≤ t.val) (p : Outs F) (y : S1x512.Idx) :
    ∃ pc ∈ (rB m c t h0 h1 p).2.2.2.2.2.2.1, y ∈ pc.1.set :=
  View.cover_of_tiledL (rB m c t h0 h1 p).2.2.2.2.2.2.1 S1x512.size (by sl_kernel_rfl) y

def outB_21 (c : Dev nD) (t : Fin cfg0.N) (h0 : ¬t.val % 16 = 0) (h1 : 1 ≤ t.val) (p : Outs F) : Vec F S1x512 .f32 :=
  VO0_21.read (Elt F) (VO0_21.writes (Elt F) VO0_21.junk (rB m c t h0 h1 p).2.2.2.2.2.2.1)

theorem coverB_22 (c : Dev nD) (t : Fin cfg0.N) (h0 : ¬t.val % 16 = 0) (h1 : 1 ≤ t.val) (p : Outs F) (y : S1x512.Idx) :
    ∃ pc ∈ (rB m c t h0 h1 p).2.2.2.2.2.2.2.1, y ∈ pc.1.set :=
  View.cover_of_tiledL (rB m c t h0 h1 p).2.2.2.2.2.2.2.1 S1x512.size (by sl_kernel_rfl) y

def outB_22 (c : Dev nD) (t : Fin cfg0.N) (h0 : ¬t.val % 16 = 0) (h1 : 1 ≤ t.val) (p : Outs F) : Vec F S1x512 .f32 :=
  VO0_22.read (Elt F) (VO0_22.writes (Elt F) VO0_22.junk (rB m c t h0 h1 p).2.2.2.2.2.2.2.1)

theorem coverB_23 (c : Dev nD) (t : Fin cfg0.N) (h0 : ¬t.val % 16 = 0) (h1 : 1 ≤ t.val) (p : Outs F) (y : S8x128x128.Idx) :
    ∃ pc ∈ (rB m c t h0 h1 p).2.2.2.2.2.2.2.2.1, y ∈ pc.1.set :=
  View.cover_of_tiledL (rB m c t h0 h1 p).2.2.2.2.2.2.2.2.1 S1x128x128.size (by sl_kernel_rfl) y

def outB_23 (c : Dev nD) (t : Fin cfg0.N) (h0 : ¬t.val % 16 = 0) (h1 : 1 ≤ t.val) (p : Outs F) : Vec F S8x128x128 .f32 :=
  VO0_23.read (Elt F) (VO0_23.writes (Elt F) VO0_23.junk (rB m c t h0 h1 p).2.2.2.2.2.2.2.2.1)

theorem coverB_24 (c : Dev nD) (t : Fin cfg0.N) (h0 : ¬t.val % 16 = 0) (h1 : 1 ≤ t.val) (p : Outs F) (y : S128x512.Idx) :
    ∃ pc ∈ (rB m c t h0 h1 p).2.2.2.2.2.2.2.2.2.1, y ∈ pc.1.set :=
  View.cover_of_tiledL (rB m c t h0 h1 p).2.2.2.2.2.2.2.2.2.1 S128x512.size (by sl_kernel_rfl) y

def outB_24 (c : Dev nD) (t : Fin cfg0.N) (h0 : ¬t.val % 16 = 0) (h1 : 1 ≤ t.val) (p : Outs F) : Vec F S128x512 .f32 :=
  VO0_24.read (Elt F) (VO0_24.writes (Elt F) VO0_24.junk (rB m c t h0 h1 p).2.2.2.2.2.2.2.2.2.1)

theorem coverB_25 (c : Dev nD) (t : Fin cfg0.N) (h0 : ¬t.val % 16 = 0) (h1 : 1 ≤ t.val) (p : Outs F) (y : S1x2048.Idx) :
    ∃ pc ∈ (rB m c t h0 h1 p).2.2.2.2.2.2.2.2.2.2.1, y ∈ pc.1.set :=
  View.cover_of_tiledL (rB m c t h0 h1 p).2.2.2.2.2.2.2.2.2.2.1 S1x512.size (by sl_kernel_rfl) y

def outB_25 (c : Dev nD) (t : Fin cfg0.N) (h0 : ¬t.val % 16 = 0) (h1 : 1 ≤ t.val) (p : Outs F) : Vec F S1x2048 .f32 :=
  VO0_25.read (Elt F) (VO0_25.writes (Elt F) VO0_25.junk (rB m c t h0 h1 p).2.2.2.2.2.2.2.2.2.2.1)

theorem coverB_26 (c : Dev nD) (t : Fin cfg0.N) (h0 : ¬t.val % 16 = 0) (h1 : 1 ≤ t.val) (p : Outs F) (y : S1x1024.Idx) :
    ∃ pc ∈ (rB m c t h0 h1 p).2.2.2.2.2.2.2.2.2.2.2.1, y ∈ pc.1.set :=
  View.cover_of_tiledL (rB m c t h0 h1 p).2.2.2.2.2.2.2.2.2.2.2.1 S1x1024.size (by sl_kernel_rfl) y

def outB_26 (c : Dev nD) (t : Fin cfg0.N) (h0 : ¬t.val % 16 = 0) (h1 : 1 ≤ t.val) (p : Outs F) : Vec F S1x1024 .f32 :=
  VO0_26.read (Elt F) (VO0_26.writes (Elt F) VO0_26.junk (rB m c t h0 h1 p).2.2.2.2.2.2.2.2.2.2.2.1)

theorem scoverB_0 (c : Dev nD) (t : Fin cfg0.N) (h0 : ¬t.val % 16 = 0) (h1 : 1 ≤ t.val) (p : Outs F) (y : S288x512.Idx) :
    ∃ pc ∈ (rB m c t h0 h1 p).2.2.2.2.2.2.2.2.2.2.2.2.1, y ∈ pc.1.set :=
  View.cover_of_tiledBy (rB m c t h0 h1 p).2.2.2.2.2.2.2.2.2.2.2.2.1 ![32, 512] (by sl_kernel_rfl) y

def soutB_0 (c : Dev nD) (t : Fin cfg0.N) (h0 : ¬t.val % 16 = 0) (h1 : 1 ≤ t.val) (p : Outs F) : Vec F S288x512 .f32 :=
  VS0_0.read (Elt F) (VS0_0.writes (Elt F) VS0_0.junk (rB m c t h0 h1 p).2.2.2.2.2.2.2.2.2.2.2.2.1)

/-- What the outputs and the carried scratch hold after a first point. -/
def outsA (c : Dev nD) (t : Fin cfg0.N) (h0 : t.val % 16 = 0) (h1 : ¬1 ≤ t.val) : Outs F :=
  (outA_15 m c t h0 h1, outA_16 m c t h0 h1, outA_17 m c t h0 h1, outA_18 m c t h0 h1, outA_19 m c t h0 h1, outA_20 m c t h0 h1, outA_21 m c t h0 h1, outA_22 m c t h0 h1, outA_23 m c t h0 h1, outA_24 m c t h0 h1, outA_25 m c t h0 h1, outA_26 m c t h0 h1, soutA_0 m c t h0 h1)

/-- What they hold after a later point, over what the point before left. -/
def outsB (c : Dev nD) (t : Fin cfg0.N) (h0 : ¬t.val % 16 = 0) (h1 : 1 ≤ t.val) (p : Outs F) : Outs F :=
  (outB_15 m c t h0 h1 p, outB_16 m c t h0 h1 p, outB_17 m c t h0 h1 p, outB_18 m c t h0 h1 p, outB_19 m c t h0 h1 p, outB_20 m c t h0 h1 p, outB_21 m c t h0 h1 p, outB_22 m c t h0 h1 p, outB_23 m c t h0 h1 p, outB_24 m c t h0 h1 p, outB_25 m c t h0 h1 p, outB_26 m c t h0 h1 p, soutB_0 m c t h0 h1 p)

/-- What the outputs and the carried scratch hold after each point. -/
def outsAt0 (c : Dev nD) : (n : ℕ) → n < cfg0.N → Outs F
  | 0, hn => outsA m c ⟨0, hn⟩ (Nat.zero_mod _) (Nat.not_succ_le_zero 0)
  | n + 1, hn => outsB m c ⟨n + 1, hn⟩ (by have hN : n + 1 < 16 := lt_of_lt_of_eq hn (show cfg0.N = 16 from N_0); show ¬(n + 1) % 16 = 0; omega) (Nat.succ_le_succ (Nat.zero_le n))
      (outsAt0 c n (Nat.lt_of_succ_lt hn))

theorem outsAt0_A (c : Dev nD) (t : Fin cfg0.N) (h0 : t.val % 16 = 0) (h1 : ¬1 ≤ t.val) : outsAt0 m c t.val t.isLt = outsA m c t h0 h1 := by
  obtain ⟨n, hn⟩ := t
  cases n with
  | zero => rfl
  | succ n => exact absurd (Nat.succ_le_succ (Nat.zero_le n)) h1

theorem outsAt0_B (c : Dev nD) (t : Fin cfg0.N) (h0 : ¬t.val % 16 = 0) (h1 : 1 ≤ t.val) :
    outsAt0 m c t.val t.isLt = outsB m c t h0 h1 (outsAt0 m c (t.val - 1) (Nat.lt_of_le_of_lt (Nat.sub_le _ _) t.isLt)) := by
  obtain ⟨n, hn⟩ := t
  cases n with
  | zero => exact absurd h1 (Nat.not_succ_le_zero 0)
  | succ n => rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨22, _⟩ => (outsAt0 m c t.val t.isLt).2.2.2.2.2.2.2.1
    | ⟨23, _⟩ => (outsAt0 m c t.val t.isLt).2.2.2.2.2.2.2.2.1
    | ⟨24, _⟩ => (outsAt0 m c t.val t.isLt).2.2.2.2.2.2.2.2.2.1
    | ⟨25, _⟩ => (outsAt0 m c t.val t.isLt).2.2.2.2.2.2.2.2.2.2.1
    | ⟨26, _⟩ => (outsAt0 m c t.val t.isLt).2.2.2.2.2.2.2.2.2.2.2.1
    | ⟨_ + 27, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]
theorem after0_22 (c : Dev nD) (t : Fin cfg0.N) : (dats m 0 c).after 22 t = (outsAt0 m c t.val t.isLt).2.2.2.2.2.2.2.1 := by dsimp only [dats]
theorem after0_23 (c : Dev nD) (t : Fin cfg0.N) : (dats m 0 c).after 23 t = (outsAt0 m c t.val t.isLt).2.2.2.2.2.2.2.2.1 := by dsimp only [dats]
theorem after0_24 (c : Dev nD) (t : Fin cfg0.N) : (dats m 0 c).after 24 t = (outsAt0 m c t.val t.isLt).2.2.2.2.2.2.2.2.2.1 := by dsimp only [dats]
theorem after0_25 (c : Dev nD) (t : Fin cfg0.N) : (dats m 0 c).after 25 t = (outsAt0 m c t.val t.isLt).2.2.2.2.2.2.2.2.2.2.1 := by dsimp only [dats]
theorem after0_26 (c : Dev nD) (t : Fin cfg0.N) : (dats m 0 c).after 26 t = (outsAt0 m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_17_B (c : Dev nD) (t : Fin cfg0.N) (h0 : ¬t.val % 16 = 0) (h1 : 1 ≤ t.val) (d) :
    (dats m 0 c).before 17 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 16 = 0) (h1 : 1 ≤ t.val) (d) :
    (dats m 0 c).before 18 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (h1 : 1 ≤ t.val) (d) :
    (dats m 0 c).before 19 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 16 = 0) (h1 : 1 ≤ t.val) (d) :
    (dats m 0 c).before 20 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_21_B (c : Dev nD) (t : Fin cfg0.N) (h0 : ¬t.val % 16 = 0) (h1 : 1 ≤ t.val) (d) :
    (dats m 0 c).before 21 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
theorem before0_22_B (c : Dev nD) (t : Fin cfg0.N) (h0 : ¬t.val % 16 = 0) (h1 : 1 ≤ t.val) (d) :
    (dats m 0 c).before 22 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]
theorem before0_23_B (c : Dev nD) (t : Fin cfg0.N) (h0 : ¬t.val % 16 = 0) (h1 : 1 ≤ t.val) (d) :
    (dats m 0 c).before 23 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 23 rfl t (by omega) (Bool.eq_false_iff.mpr fun h => by have := (flush0_23 _).mp h; dsimp only at this; omega)
    (fun _ => rfl) (fun _ _ => rfl)]
  dsimp only [dats]
theorem before0_24_B (c : Dev nD) (t : Fin cfg0.N) (h0 : ¬t.val % 16 = 0) (h1 : 1 ≤ t.val) (d) :
    (dats m 0 c).before 24 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 24 rfl t (by omega) (Bool.eq_false_iff.mpr fun h => by have := (flush0_24 _).mp h; dsimp only at this; omega)
    (fun _ => rfl) (fun _ _ => rfl)]
  dsimp only [dats]
theorem before0_25_B (c : Dev nD) (t : Fin cfg0.N) (h0 : ¬t.val % 16 = 0) (h1 : 1 ≤ t.val) (d) :
    (dats m 0 c).before 25 t d = (outsAt0 m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 25 rfl t (by omega) (Bool.eq_false_iff.mpr fun h => by have := (flush0_25 _).mp h; dsimp only at this; omega)
    (fun _ => rfl) (fun _ _ => rfl)]
  dsimp only [dats]
theorem before0_26_B (c : Dev nD) (t : Fin cfg0.N) (h0 : ¬t.val % 16 = 0) (h1 : 1 ≤ t.val) (d) :
    (dats m 0 c).before 26 t d = (outsAt0 m c (t.val - 1) (Nat.lt_of_le_of_lt (Nat.sub_le _ _) t.isLt)).2.2.2.2.2.2.2.2.2.2.2.1 := by
  have hN : t.val < 16 := lt_of_lt_of_eq t.isLt (show cfg0.N = 16 from N_0)
  rw [Dat.before_out_kept _ 26 rfl t (by omega) (Bool.eq_false_iff.mpr fun h => by have := (flush0_26 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 22400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : 1 ≤ t.val
    · exfalso; omega
    · by_cases hz : t.val = 0
      · rw [PhiS_castSucc m c t, PhiS_zero m c _ _ hz, PhiA0_eq]
        rw [outsAt0_A m c t h0 h1]
        unfold outsA outA_15 outA_16 outA_17 outA_18 outA_19 outA_20 outA_21 outA_22 outA_23 outA_24 outA_25 outA_26 soutA_0; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((rA m c t h0 h1).2.2.2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩, ⟨%fT1, HS1⟩, ⟨%fT2, HS2⟩, ⟨%fT3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverA_0 m c t h0 h1)
            isplitl [HS1]
            · iexists _; unfold owns; iexists _; isplitr
              swap; · iexact HS1
              ipureintro; rfl
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (coverA_15 m c t h0 h1)
        isplitl [H16]
        · unfold owns; iexists _; isplitr
          swap; · iexact H16
          ipureintro; exact View.read_writes_of_cover _ _ _ _ _ (coverA_16 m c t h0 h1)
        isplitl [H17]
        · unfold owns; iexists _; isplitr
          swap; · iexact H17
          ipureintro; exact View.read_writes_of_cover _ _ _ _ _ (coverA_17 m c t h0 h1)
        isplitl [H18]
        · unfold owns; iexists _; isplitr
          swap; · iexact H18
          ipureintro; exact View.read_writes_of_cover _ _ _ _ _ (coverA_18 m c t h0 h1)
        isplitl [H19]
        · unfold owns; iexists _; isplitr
          swap; · iexact H19
          ipureintro; exact View.read_writes_of_cover _ _ _ _ _ (coverA_19 m c t h0 h1)
        isplitl [H20]
        · unfold owns; iexists _; isplitr
          swap; · iexact H20
          ipureintro; exact View.read_writes_of_cover _ _ _ _ _ (coverA_20 m c t h0 h1)
        isplitl [H21]
        · unfold owns; iexists _; isplitr
          swap; · iexact H21
          ipureintro; exact View.read_writes_of_cover _ _ _ _ _ (coverA_21 m c t h0 h1)
        isplitl [H22]
        · unfold owns; iexists _; isplitr
          swap; · iexact H22
          ipureintro; exact View.read_writes_of_cover _ _ _ _ _ (coverA_22 m c t h0 h1)
        isplitl [H23]
        · unfold owns; iexists _; isplitr
          swap; · iexact H23
          ipureintro; exact View.read_writes_of_cover _ _ _ _ _ (coverA_23 m c t h0 h1)
        isplitl [H24]
        · unfold owns; iexists _; isplitr
          swap; · iexact H24
          ipureintro; exact View.read_writes_of_cover _ _ _ _ _ (coverA_24 m c t h0 h1)
        isplitl [H25]
        · unfold owns; iexists _; isplitr
          swap; · iexact H25
          ipureintro; exact View.read_writes_of_cover _ _ _ _ _ (coverA_25 m c t h0 h1)
        unfold owns; iexists _; isplitr
        swap; · iexact H26
        ipureintro; exact View.read_writes_of_cover _ _ _ _ _ (coverA_26 m c t h0 h1)
      · exfalso; have hN : t.val < 16 := lt_of_lt_of_eq t.isLt (show cfg0.N = 16 from N_0); omega
  · by_cases h1 : 1 ≤ t.val
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_17_B m c t h0 h1, before0_18_B m c t h0 h1, before0_19_B m c t h0 h1, before0_20_B m c t h0 h1, before0_21_B m c t h0 h1, before0_22_B m c t h0 h1, before0_23_B m c t h0 h1, before0_24_B m c t h0 h1, before0_25_B m c t h0 h1, before0_26_B m c t h0 h1]
        unfold outsB outB_15 outB_16 outB_17 outB_18 outB_19 outB_20 outB_21 outB_22 outB_23 outB_24 outB_25 outB_26 soutB_0; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
        iapply ((rB m c t h0 h1 (outsAt0 m c (t.val - 1) (Nat.lt_of_le_of_lt (Nat.sub_le _ _) t.isLt))).2.2.2.2.2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, ⟨%e15, H15⟩, ⟨%e16, H16⟩, H17, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩, ⟨%fT1, HS1⟩, ⟨%fT2, HS2⟩, ⟨%fT3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scoverB_0 m c t h0 h1 (outsAt0 m c (t.val - 1) (Nat.lt_of_le_of_lt (Nat.sub_le _ _) t.isLt)))
            isplitl [HS1]
            · iexists _; unfold owns; iexists _; isplitr
              swap; · iexact HS1
              ipureintro; rfl
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (coverB_15 m c t h0 h1 (outsAt0 m c (t.val - 1) (Nat.lt_of_le_of_lt (Nat.sub_le _ _) t.isLt)))
        isplitl [H16]
        · unfold owns; iexists _; isplitr
          swap; · iexact H16
          ipureintro; exact View.read_writes_of_cover _ _ _ _ _ (coverB_16 m c t h0 h1 (outsAt0 m c (t.val - 1) (Nat.lt_of_le_of_lt (Nat.sub_le _ _) t.isLt)))
        isplitl [H17]
        · unfold owns; iexists _; isplitr
          swap; · iexact H17
          ipureintro; rfl
        isplitl [H18]
        · unfold owns; iexists _; isplitr
          swap; · iexact H18
          ipureintro; exact View.read_writes_of_cover _ _ _ _ _ (coverB_18 m c t h0 h1 (outsAt0 m c (t.val - 1) (Nat.lt_of_le_of_lt (Nat.sub_le _ _) t.isLt)))
        isplitl [H19]
        · unfold owns; iexists _; isplitr
          swap; · iexact H19
          ipureintro; exact View.read_writes_of_cover _ _ _ _ _ (coverB_19 m c t h0 h1 (outsAt0 m c (t.val - 1) (Nat.lt_of_le_of_lt (Nat.sub_le _ _) t.isLt)))
        isplitl [H20]
        · unfold owns; iexists _; isplitr
          swap; · iexact H20
          ipureintro; exact View.read_writes_of_cover _ _ _ _ _ (coverB_20 m c t h0 h1 (outsAt0 m c (t.val - 1) (Nat.lt_of_le_of_lt (Nat.sub_le _ _) t.isLt)))
        isplitl [H21]
        · unfold owns; iexists _; isplitr
          swap; · iexact H21
          ipureintro; exact View.read_writes_of_cover _ _ _ _ _ (coverB_21 m c t h0 h1 (outsAt0 m c (t.val - 1) (Nat.lt_of_le_of_lt (Nat.sub_le _ _) t.isLt)))
        isplitl [H22]
        · unfold owns; iexists _; isplitr
          swap; · iexact H22
          ipureintro; exact View.read_writes_of_cover _ _ _ _ _ (coverB_22 m c t h0 h1 (outsAt0 m c (t.val - 1) (Nat.lt_of_le_of_lt (Nat.sub_le _ _) t.isLt)))
        isplitl [H23]
        · unfold owns; iexists _; isplitr
          swap; · iexact H23
          ipureintro; exact View.read_writes_of_cover _ _ _ _ _ (coverB_23 m c t h0 h1 (outsAt0 m c (t.val - 1) (Nat.lt_of_le_of_lt (Nat.sub_le _ _) t.isLt)))
        isplitl [H24]
        · unfold owns; iexists _; isplitr
          swap; · iexact H24
          ipureintro; exact View.read_writes_of_cover _ _ _ _ _ (coverB_24 m c t h0 h1 (outsAt0 m c (t.val - 1) (Nat.lt_of_le_of_lt (Nat.sub_le _ _) t.isLt)))
        isplitl [H25]
        · unfold owns; iexists _; isplitr
          swap; · iexact H25
          ipureintro; exact View.read_writes_of_cover _ _ _ _ _ (coverB_25 m c t h0 h1 (outsAt0 m c (t.val - 1) (Nat.lt_of_le_of_lt (Nat.sub_le _ _) t.isLt)))
        unfold owns; iexists _; isplitr
        swap; · iexact H26
        ipureintro; exact View.read_writes_of_cover _ _ _ _ _ (coverB_26 m c t h0 h1 (outsAt0 m c (t.val - 1) (Nat.lt_of_le_of_lt (Nat.sub_le _ _) t.isLt)))
    · exfalso; omega

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- θ_run_frame_track's implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.SeqmixIdeal.Own

end
-- ==== Proof.SeqBits.lean ====
/- The mixer's gradient call as compiled runs as its ideal reading does. -/
module

public import proofs.«01_k».proof.Defs
public import proofs.«01_k».proof.Proof.SeqFrame
public import proofs.«01_k».proof.Proof.Gen.Seqmix

@[expose] public section

set_option maxRecDepth 16384

noncomputable section

open Idealize.ShloMosaic Idealize.ShloMosaic.TcCoe Idealize.SL.Sem

namespace Cert.Proof

/-- The compiled program and the ideal one are the same text, so what is proved of one over any numbers holds of the other. -/
theorem seq_same : (type_of% (fun (m : (ℓ : Loc Cert.SeqmixIdeal.nD Cert.SeqmixIdeal.τ Cert.SeqmixIdeal.sig) → Buf (Elt Bits) ℓ) (ρ : Dev Cert.SeqmixIdeal.nD → PrngReg) (_ : True) =>
    Cert.SeqmixIdeal.Own.frame (F := Bits) m ρ)) = quiescent_Seqmix := by
  sl_kernel_rfl

theorem seq_frame : quiescent_Seqmix := by
  rw [← seq_same]
  exact fun m ρ _ => Cert.SeqmixIdeal.Own.frame (F := Bits) m ρ

end Cert.Proof

end
-- ==== Proof.SeqReals.lean ====
/- The real functions of the mixer's gradient: a row's layer norm and its gradient, the logistic function and the gelu. -/
module

public import proofs.«01_k».proof.Proof.Reals

@[expose] public section

noncomputable section

open Idealize.ShloMosaic

namespace Cert.Seq.Real
open Cert.Reals

/-- The logistic function. -/
def sg (z : ℝ) : ℝ := 1 / (1 + Real.exp (-z))

theorem sg_coe (z : ℝ) : Ideal.div 1 (1 + Ideal.exp (((-z : ℝ)) : EReal)) = ((sg z : ℝ) : EReal) := by
  rw [Ideal.exp_coe, ← EReal.coe_one, ← EReal.coe_add, div_coe_coe (by positivity), sg]

theorem c512 : Ideal.ofBits .f32 0x44000000#32 = ((512 : ℝ) : EReal) := by
  simp [Ideal.ofBits, Ideal.ieee]; rw [← EReal.coe_mul]; norm_num
/-- The small constant of the layer norms. -/
def eps5 : ℝ := 10995116 / 2 ^ 40
theorem ceps5 : Ideal.ofBits .f32 0x3727C5AC#32 = ((eps5 : ℝ) : EReal) := by
  simp [Ideal.ofBits, Ideal.ieee, eps5]; rw [← EReal.coe_mul]; norm_num
/-- The two constants of the gelu. -/
def ga : ℝ := 13386282 / 2 ^ 24
theorem cga : Ideal.ofBits .f32 0x3F4C422A#32 = ((ga : ℝ) : EReal) := by
  simp [Ideal.ofBits, Ideal.ieee, ga]; rw [← EReal.coe_mul]; norm_num
def gb : ℝ := 12003091 / 2 ^ 28
theorem cgb : Ideal.ofBits .f32 0x3D372713#32 = ((gb : ℝ) : EReal) := by
  simp [Ideal.ofBits, Ideal.ieee, gb]; rw [← EReal.coe_mul]; norm_num

/-- The gelu, by the hyperbolic tangent. -/
def gelu (x : ℝ) : ℝ := x * (1 / 2 * (1 + Real.tanh (ga * (x + gb * (x * x * x)))))

/-! ## A row's layer norm -/

variable (v e : Fin 512 → ℝ) (k : Fin 512)

def mean : ℝ := (∑ x, v x) / 512
def xc : ℝ := v k - mean v
def vs : ℝ := (∑ x, xc v x * xc v x) / 512 + eps5
def ri : ℝ := (Real.sqrt (vs v))⁻¹
def xh : ℝ := xc v k * ri v
/-- The gradient of a row through its layer norm: `e` is the gradient of the normalized row. -/
def lnback : ℝ := ri v * (e k - (∑ x, e x) / 512 - xh v k * ((∑ x, e x * xh v x) / 512))

theorem vs_pos : 0 < vs v :=
  add_pos_of_nonneg_of_pos (div_nonneg (Finset.sum_nonneg fun x _ => mul_self_nonneg _) (by norm_num)) (by unfold eps5; norm_num)

theorem ri_coe : Ideal.rsqrt ((vs v : ℝ) : EReal) = ((ri v : ℝ) : EReal) := rsqrt_pos (vs_pos v)

theorem ri_sq : ri v * ri v = 1 / vs v := by
  rw [ri, ← mul_inv, Real.mul_self_sqrt (vs_pos v).le, one_div]

theorem xc_coe : ((v k : ℝ) : EReal) - Ideal.div (∑ x, ((v x : ℝ) : EReal)) (Ideal.ofBits .f32 0x44000000#32) = ((xc v k : ℝ) : EReal) := by
  rw [sum_coe, c512, div_coe_coe (by norm_num), ← EReal.coe_sub, xc, mean]

theorem vs_coe : Ideal.div (∑ x, ((xc v x : ℝ) : EReal) * ((xc v x : ℝ) : EReal)) (Ideal.ofBits .f32 0x44000000#32) + Ideal.ofBits .f32 0x3727C5AC#32 = ((vs v : ℝ) : EReal) := by
  simp only [← EReal.coe_mul, sum_coe, c512, ceps5, div_coe_coe (show (512 : ℝ) ≠ 0 by norm_num), ← EReal.coe_add, vs]

theorem xc_sum : ∑ x, xc v x = 0 := by
  simp only [xc, Finset.sum_sub_distrib, Finset.sum_const, Finset.card_univ, Fintype.card_fin, mean, nsmul_eq_mul]
  push_cast
  ring

/-- The same gradient as the derivatives of the mean, the variance and the reciprocal root give it. -/
theorem lnback_eq :
    e k * ri v + (∑ x, xc v x * e x) * (-(1 / 2) * (ri v / vs v)) / 512 * (2 * xc v k)
      + ((∑ x, -(e x * ri v)) + ∑ x, -((∑ x, xc v x * e x) * (-(1 / 2) * (ri v / vs v)) / 512 * (2 * xc v x))) / 512 = lnback v e k := by
  have h1 : ∑ x, e x * xh v x = ri v * ∑ x, xc v x * e x := by
    rw [Finset.mul_sum]; exact Finset.sum_congr rfl fun x _ => by rw [xh]; ring
  have h2 : ri v / vs v = ri v * (ri v * ri v) := by rw [ri_sq]; ring
  have h3 : ∑ x, -((∑ x, xc v x * e x) * (-(1 / 2) * (ri v / vs v)) / 512 * (2 * xc v x)) = 0 := by
    rw [Finset.sum_neg_distrib, ← Finset.mul_sum, ← Finset.mul_sum, xc_sum]; ring
  have h4 : ∑ x, -(e x * ri v) = -((∑ x, e x) * ri v) := by
    rw [Finset.sum_neg_distrib, Finset.sum_mul]
  rw [lnback, h1, h2, h4]
  rw [h2] at h3
  rw [h3, xh]; ring

/-! ## The mixer's gradient -/

/-- A column among the first or the second 512 of 1024. -/
abbrev lo (k : Fin 512) : Fin 1024 := ⟨k.val, by omega⟩
abbrev hi (k : Fin 512) : Fin 1024 := ⟨512 + k.val, by omega⟩

variable (d : Fin 4096 → Fin 1024 → ℝ) (wo : Fin 1024 → Fin 1024 → ℝ) (c : Fin 4096 → Fin 512 → ℝ) (lg lb : Fin 512 → ℝ) (u : Fin 4096 → Fin 512 → ℝ)

/-- The gradient of the mixed columns. -/
def dmix (i : Fin 4096) (k : Fin 1024) : ℝ := ∑ x, d i x * wo k x
/-- The convolution's norm. -/
def ln (i : Fin 4096) (k : Fin 512) : ℝ := xh (c i) k * lg k + lb k
/-- The gradient of the convolution's norm. -/
def dln (i : Fin 4096) (k : Fin 512) : ℝ :=
  dmix d wo i (lo k) * (sg (ln c lg lb i k) * (1 + ln c lg lb i k * (1 - sg (ln c lg lb i k))))
/-- The gradient of the convolution. -/
def dc (i : Fin 4096) (k : Fin 512) : ℝ := lnback (c i) (fun x => dln d wo c lg lb i x * lg x) k
/-- A row's part of the gradient of the norm's scale. -/
def dlg (i : Fin 4096) (k : Fin 512) : ℝ := dln d wo c lg lb i k * xh (c i) k
/-- The gradient of the mixed values: `u` is what they are multiplied by. -/
def dm (i : Fin 4096) (k : Fin 512) : ℝ := dmix d wo i (hi k) * gelu (u i k)

end Cert.Seq.Real

end
-- ==== Proof.SeqRows.lean ====
/- The payloads of the mixer's gradient on a block of rows. -/
module

public import proofs.«01_k».proof.Proof.SeqReals
public import proofs.«01_k».proof.Proof.Gen.SeqmixIdeal.Skeleton
public import Idealize.ShloMosaic.Lib.Pipeline.ValueKit

@[expose] public section

set_option maxRecDepth 16384

noncomputable section

open Idealize.ShloMosaic Idealize.ShloMosaic.TcCoe Idealize.SL.Sem

namespace Cert.SeqmixIdeal.Rows
open Cert.SeqmixIdeal Cert.SeqmixIdeal.Gen Cert.Reals Cert.Seq.Real

variable {d : Fin 4096 → Fin 1024 → ℝ} {wo : Fin 1024 → Fin 1024 → ℝ} {c u : Fin 4096 → Fin 512 → ℝ} {lg lb : Fin 512 → ℝ} {r : Fin 256 → Fin 4096}
  {x0 : FVec Ideal S256x1024 .f32} {x3 xu : FVec Ideal S256x512 .f32} {x4 : FVec Ideal S1024x1024 .bf16} {x8 x9 y : FVec Ideal S1x512 .f32} {y24 : FVec Ideal S128x512 .f32}
  (h0 : ∀ i k, x0 (ix2 i k) = ((d (r i) k : ℝ) : EReal)) (h4 : ∀ i k, x4 (ix2 i k) = ((wo i k : ℝ) : EReal)) (h3 : ∀ i k, x3 (ix2 i k) = ((c (r i) k : ℝ) : EReal))
  (h8 : ∀ s k, x8 (ix2 s k) = ((lg k : ℝ) : EReal)) (h9 : ∀ s k, x9 (ix2 s k) = ((lb k : ℝ) : EReal)) (hu : ∀ i k, xu (ix2 i k) = ((u (r i) k : ℝ) : EReal))

include h0 h4 in
theorem k14 (i : Fin 256) (k : Fin 1024) : k0_pay14 (F := Ideal) x0 x4 (ix2 i k) = ((dmix d wo (r i) k : ℝ) : EReal) := by
  pointwise [k0_pay14]
  simp only [h0, h4, ← EReal.coe_mul, sum_coe, dmix]

section
include h3
theorem k15 (i : Fin 256) (k : Fin 512) : k0_pay15 (F := Ideal) x3 (ix2 i k) = ((xc (c (r i)) k : ℝ) : EReal) := by
  pointwise [k0_pay15]
  simp only [h3]
  exact xc_coe _ _

theorem k16 (i : Fin 256) (k : Fin 1) : k0_pay16 (F := Ideal) x3 (ix2 i k) = ((ri (c (r i)) : ℝ) : EReal) := by
  pointwise [k0_pay16]
  simp only [k15 h3, vs_coe, ri_coe]

theorem k17 (i : Fin 256) (k : Fin 512) : k0_pay17 (F := Ideal) x3 (ix2 i k) = ((xh (c (r i)) k : ℝ) : EReal) := by
  pointwise [k0_pay17]
  rw [k15 h3, k16 h3, ← EReal.coe_mul, xh]

include h8 h9
theorem k19 (i : Fin 256) (k : Fin 512) : k0_pay19 (F := Ideal) x3 x8 x9 (ix2 i k) = ((ln c lg lb (r i) k : ℝ) : EReal) := by
  pointwise [k0_pay19, k0_pay18]
  rw [k17 h3, h8, h9, ← EReal.coe_mul, ← EReal.coe_add, ln]

include h0 h4
theorem k20 (i : Fin 256) (k : Fin 512) : k0_pay20 (F := Ideal) (k0_pay14 x0 x4) (k0_pay19 x3 x8 x9) (ix2 i k) = ((dln d wo c lg lb (r i) k : ℝ) : EReal) := by
  pointwise [k0_pay20]
  rw [k14 h0 h4, k19 h3 h8 h9, zero_sub, ← EReal.coe_neg, sg_coe]
  simp only [← EReal.coe_one, ← EReal.coe_mul, ← EReal.coe_sub, ← EReal.coe_add, dln, lo]

theorem k21 (i : Fin 256) (k : Fin 512) : k0_pay21 (F := Ideal) (k0_pay14 x0 x4) (k0_pay16 x3) (k0_pay17 x3) (k0_pay18 x8) (k0_pay19 x3 x8 x9) (ix2 i k)
    = ((dc d wo c lg lb (r i) k : ℝ) : EReal) := by
  pointwise [k0_pay21, k0_pay18]
  simp only [k20 h0 h4 h3 h8 h9, k16 h3, k17 h3, h8, c512, ← EReal.coe_mul, ← EReal.coe_sub, sum_coe, div_coe_coe (show (512 : ℝ) ≠ 0 by norm_num), dc, lnback]

/-! The steps of the accumulators. -/

theorem step18 (s : Fin 1) (k : Fin 512) :
    k0_pay25 (F := Ideal) (k0_pay21 (k0_pay14 x0 x4) (k0_pay16 x3) (k0_pay17 x3) (k0_pay18 x8) (k0_pay19 x3 x8 x9)) y (ix2 s k)
      = y (ix2 s k) + ((∑ i, dc d wo c lg lb (r i) k : ℝ) : EReal) := by
  pointwise [k0_pay25]
  simp only [k21 h0 h4 h3 h8 h9, sum_coe]

theorem step19 (s : Fin 1) (k : Fin 512) :
    k0_pay23 (F := Ideal) (k0_pay14 x0 x4) (k0_pay17 x3) (k0_pay19 x3 x8 x9) y (ix2 s k) = y (ix2 s k) + ((∑ i, dlg d wo c lg lb (r i) k : ℝ) : EReal) := by
  pointwise [k0_pay23]
  simp only [k20 h0 h4 h3 h8 h9, k17 h3, ← EReal.coe_mul, sum_coe, dlg]

theorem step20 (s : Fin 1) (k : Fin 512) :
    k0_pay24 (F := Ideal) (k0_pay22 (k0_pay14 x0 x4) (k0_pay19 x3 x8 x9)) y (ix2 s k) = y (ix2 s k) + ((∑ i, dln d wo c lg lb (r i) k : ℝ) : EReal) := by
  pointwise [k0_pay24, k0_pay22]
  simp only [k20 h0 h4 h3 h8 h9, sum_coe]
end

/-! The mixing's part. -/

theorem gelu_coe' (x : ℝ) : Ideal.ofBits .f32 0x3F000000#32 * ((x : ℝ) : EReal) * (1 + Ideal.tanh (Ideal.ofBits .f32 0x3F4C422A#32 * (((x : ℝ) : EReal)
    + Ideal.ofBits .f32 0x3D372713#32 * ((x : ℝ) : EReal) * (((x : ℝ) : EReal) * ((x : ℝ) : EReal))))) = ((gelu x : ℝ) : EReal) := by
  simp only [chalf, cga, cgb, ← EReal.coe_mul, ← EReal.coe_add]
  rw [show ∀ y : ℝ, Ideal.tanh ((y : ℝ) : EReal) = ((Real.tanh y : ℝ) : EReal) from fun _ => rfl, ← EReal.coe_one]
  simp only [← EReal.coe_mul, ← EReal.coe_add]
  exact congrArg _ (by rw [gelu, show gb * x * (x * x) = gb * (x * x * x) by ring]; ring)

section
include hu
theorem k125 (i : Fin 256) (k : Fin 512) : k0_pay125 (F := Ideal) xu (ix2 i k) = ((gelu (u (r i) k) : ℝ) : EReal) := by
  pointwise [k0_pay125, k0_pay124, k0_pay123, k0_pay122]
  simp only [hu]
  exact gelu_coe' _

include h0 h4
theorem k156 (i : Fin 256) (k : Fin 512) : k0_pay156 (F := Ideal) (k0_pay121 (k0_pay14 x0 x4)) (k0_pay125 xu) (ix2 i k) = ((dm d wo u (r i) k : ℝ) : EReal) := by
  pointwise [k0_pay156, k0_pay121]
  rw [k14 h0 h4, k125 hu, ← EReal.coe_mul, dm]

theorem step24 (q : Fin 128) (k : Fin 512) :
    k0_pay186 (F := Ideal) (k0_pay156 (k0_pay121 (k0_pay14 x0 x4)) (k0_pay125 xu)) (k0_pay161 (F := Ideal) (k0_pay156 (k0_pay121 (k0_pay14 x0 x4)) (k0_pay125 xu)) y24) (ix2 q k)
      = y24 (ix2 q k) + ((∑ n : Fin 2, dm d wo u (r ⟨n.val * 128 + q.val, by omega⟩) k : ℝ) : EReal) := by
  pointwise [k0_pay186, k0_pay161]
  rw [k156 h0 h4 hu, k156 h0 h4 hu, Fin.sum_univ_two, EReal.coe_add, ← add_assoc]
  simp
end

end Cert.SeqmixIdeal.Rows

end
-- ==== Proof.SeqRef.lean ====
/- The reference of the mixer's gradient: each result as a real function of the pre-activations and the convolution. -/
module

public import proofs.«01_k».proof.Proof.SeqReals
public import proofs.«01_k».proof.Proof.Gen.SeqmixRefIdeal.Read
public import Idealize.ShloMosaic.Lib.Pipeline.ValueKit

@[expose] public section

set_option maxRecDepth 16384

noncomputable section

open Idealize.ShloMosaic Idealize.ShloMosaic.TcCoe Idealize.SL.Sem

namespace Cert.SeqmixRefIdeal.Rows
open Cert.SeqmixRefIdeal Cert.SeqmixRefIdeal.Gen Cert.SeqmixRefIdeal.Read Cert.Reals Cert.Seq.Real

variable {d h : Fin 4096 → Fin 1024 → ℝ} {g : Fin 1024 → ℝ} {w : Fin 1024 → Fin 2048 → ℝ} {b : Fin 2048 → ℝ} {cw : Fin 31 → Fin 512 → ℝ}
  {cb lg lb : Fin 512 → ℝ} {wo : Fin 1024 → Fin 1024 → ℝ} {z : Fin 4096 → Fin 2048 → ℝ} {c : Fin 4096 → Fin 512 → ℝ}
  {x0 x1 : FVec Ideal S4096x1024 .f32} {x2 : FVec Ideal S1024 .f32} {x3 : FVec Ideal S1024x2048 .f32} {x4 : FVec Ideal S2048 .f32}
  {x5 : FVec Ideal S31x512 .f32} {x6 x7 x8 : FVec Ideal S512 .f32} {x13 : FVec Ideal S1024x1024 .f32}
  (h0 : ∀ i k, x0 (ix2 i k) = ((d i k : ℝ) : EReal)) (h1 : ∀ i k, x1 (ix2 i k) = ((h i k : ℝ) : EReal)) (h2 : ∀ k, x2 (ix1 k) = ((g k : ℝ) : EReal))
  (h3 : ∀ i k, x3 (ix2 i k) = ((w i k : ℝ) : EReal)) (h4 : ∀ k, x4 (ix1 k) = ((b k : ℝ) : EReal)) (h5 : ∀ i k, x5 (ix2 i k) = ((cw i k : ℝ) : EReal))
  (h6 : ∀ k, x6 (ix1 k) = ((cb k : ℝ) : EReal)) (h7 : ∀ k, x7 (ix1 k) = ((lg k : ℝ) : EReal)) (h8 : ∀ k, x8 (ix1 k) = ((lb k : ℝ) : EReal))
  (h13 : ∀ i k, x13 (ix2 i k) = ((wo i k : ℝ) : EReal))
  (hz : ∀ i k, val_main_v19 (F := Ideal) x1 x2 x3 x4 (ix2 i k) = ((z i k : ℝ) : EReal))
  (hc : ∀ i k, val_main_v49 (F := Ideal) x1 x2 x3 x4 x5 x6 (ix2 i k) = ((c i k : ℝ) : EReal))

/-! ## The pre-activations and the convolution are real -/

include h1 h2 h3 h4 in
theorem z_real : ∃ z : Fin 4096 → Fin 2048 → ℝ, ∀ i k, val_main_v19 (F := Ideal) x1 x2 x3 x4 (ix2 i k) = ((z i k : ℝ) : EReal) := by
  refine ⟨fun i k => (∑ x, h i x * rinv (h i) * g x * w x k) + b k, fun i k => ?_⟩
  pointwise [val_main_v19, val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [h1, h2, h3, h4, zero_add, msq_coe, rinv_coe]
  simp only [← EReal.coe_mul, sum_coe, ← EReal.coe_add]

include hz in
theorem a_real (y) : ∃ r : ℝ, val_main_v30 (F := Ideal) x1 x2 x3 x4 y = ((r : ℝ) : EReal) := by
  obtain ⟨i, k, rfl⟩ : ∃ i k, y = ix2 i k := ⟨y 0, y 1, (ix2_eta y).symm⟩
  pointwise [val_main_v30, val_main_v29, val_main_v28, val_main_v27, val_main_v26, val_main_v25, val_main_v24, val_main_v21, val_main_v20, val_main_cst_2, val_main_cst_3]
  simp only [hz, ← EReal.coe_neg, sg_coe, ← EReal.coe_mul]
  exact ⟨_, rfl⟩

include hz in
theorem pad_real (y) : ∃ r : ℝ, val_main_v32 (F := Ideal) x1 x2 x3 x4 y = ((r : ℝ) : EReal) := by
  obtain ⟨i, k, rfl⟩ : ∃ i k, y = ix2 i k := ⟨y 0, y 1, (ix2_eta y).symm⟩
  by_cases hi : i.val < 30
  · refine ⟨0, ?_⟩
    obtain ⟨j, hj⟩ : ∃ j : Fin 30, i = ⟨j.val, by omega⟩ := ⟨⟨i.val, hi⟩, rfl⟩
    rw [hj]
    pointwise [val_main_v32, val_main_v31, val_main_cst_4]
    exact EReal.coe_zero.symm
  · obtain ⟨j, hj⟩ : ∃ j : Fin 4096, i = ⟨30 + j.val, by have := j.isLt; omega⟩ := ⟨⟨i.val - 30, by omega⟩, Fin.ext (by simp; omega)⟩
    rw [hj]
    obtain ⟨r, hr⟩ := a_real hz (ix2 j k)
    refine ⟨r, ?_⟩
    pointwise [val_main_v32]
    exact hr

include hz in
theorem win_real (y) : ∃ r : ℝ, val_main_v42 (F := Ideal) x1 x2 x3 x4 y = ((r : ℝ) : EReal) :=
  pad_real hz _

include hz h5 h6 in
theorem c_real : ∃ c : Fin 4096 → Fin 512 → ℝ, ∀ i k, val_main_v49 (F := Ideal) x1 x2 x3 x4 x5 x6 (ix2 i k) = ((c i k : ℝ) : EReal) := by
  choose r hr using win_real hz
  refine ⟨fun i k => (∑ j, r (ix3 i j k) * cw j k) + cb k, fun i k => ?_⟩
  pointwise [val_main_v49, val_main_v48, val_main_v47, val_main_v46, val_main_v45, val_main_v44, val_main_v43, val_main_cst_6]
  simp only [hr, h5, h6, zero_add, ← EReal.coe_mul, sum_coe, ← EReal.coe_add]

/-! ## The convolution's part -/

section
include hc
theorem r55 (i : Fin 4096) (k : Fin 512) : val_main_v55 (F := Ideal) x1 x2 x3 x4 x5 x6 (ix2 i k) = ((xc (c i) k : ℝ) : EReal) := by
  pointwise [val_main_v55, val_main_v54, val_main_v53, val_main_v52, val_main_v51, val_main_v50, val_main_cst_7, val_main_cst_8]
  simp only [hc, zero_add]
  exact xc_coe _ _

theorem r64 (i : Fin 4096) (k : Fin 512) : val_main_v64 (F := Ideal) x1 x2 x3 x4 x5 x6 (ix2 i k) = ((xc (c i) k : ℝ) : EReal) :=
  r55 hc i k

theorem r66 (i : Fin 4096) (k : Fin 1) : val_main_v66 (F := Ideal) x1 x2 x3 x4 x5 x6 (ix2 i k) = ((vs (c i) : ℝ) : EReal) := by
  pointwise [val_main_v66, val_main_v65, val_main_v62, val_main_v61, val_main_v60, val_main_v59, val_main_v56, val_main_cst_10, val_main_cst_11, val_main_cst_12]
  simp only [r55 hc, zero_add]
  exact vs_coe _

theorem r67 (i : Fin 4096) (k : Fin 1) : val_main_v67 (F := Ideal) x1 x2 x3 x4 x5 x6 (ix2 i k) = ((ri (c i) : ℝ) : EReal) := by
  pointwise [val_main_v67]
  rw [r66 hc, ri_coe]

theorem r70 (i : Fin 4096) (k : Fin 1) : val_main_v70 (F := Ideal) x1 x2 x3 x4 x5 x6 (ix2 i k) = ((-(1 / 2) * (ri (c i) / vs (c i)) : ℝ) : EReal) := by
  pointwise [val_main_v70, val_main_v69, val_main_v68, val_main_cst_13]
  rw [r66 hc, r67 hc, div_coe_coe (vs_pos _).ne', cneghalf, EReal.coe_mul]

theorem r72 (i : Fin 4096) (k : Fin 512) : val_main_v72 (F := Ideal) x1 x2 x3 x4 x5 x6 (ix2 i k) = ((xh (c i) k : ℝ) : EReal) := by
  pointwise [val_main_v72, val_main_v71]
  rw [r64 hc, r67 hc, ← EReal.coe_mul, xh]

theorem r58 (i : Fin 4096) (k : Fin 512) : val_main_v58 (F := Ideal) x1 x2 x3 x4 x5 x6 (ix2 i k) = ((2 * xc (c i) k : ℝ) : EReal) := by
  pointwise [val_main_v58, val_main_v57, val_main_cst_9]
  rw [r55 hc, c2, ← EReal.coe_mul]

include h7 h8
theorem r78 (i : Fin 4096) (k : Fin 512) : val_main_v78 (F := Ideal) x1 x2 x3 x4 x5 x6 x7 x8 (ix2 i k) = ((ln c lg lb i k : ℝ) : EReal) := by
  pointwise [val_main_v78, val_main_v77, val_main_v76, val_main_v75, val_main_v74, val_main_v73]
  rw [r72 hc, h7, h8, ← EReal.coe_mul, ← EReal.coe_add, ln]

theorem rsg (i : Fin 4096) (k : Fin 512) : val_main_v79_2 (F := Ideal) x1 x2 x3 x4 x5 x6 x7 x8 (ix2 i k) = ((sg (ln c lg lb i k) : ℝ) : EReal) := by
  pointwise [val_main_v79_2, val_main_call0_v4, val_main_call0_v3, val_main_call0_v2, val_main_call0_v1, val_main_call0_v0, val_main_call0_cst, val_main_call0_cst_0]
  rw [r78 h7 h8 hc, ← EReal.coe_neg]
  exact sg_coe _
end

include h0 h13 in
theorem r145 (i : Fin 4096) (k : Fin 1024) : val_main_v145 (F := Ideal) x0 x13 (ix2 i k) = ((dmix d wo i k : ℝ) : EReal) := by
  pointwise [val_main_v145]
  simp only [h0, h13, ← EReal.coe_mul, sum_coe, dmix]

section
include h0 h7 h8 h13 hc
theorem r153 (i : Fin 4096) (k : Fin 512) : val_main_v153 (F := Ideal) x0 x1 x2 x3 x4 x5 x6 x7 x8 x13 (ix2 i k) = ((dln d wo c lg lb i k : ℝ) : EReal) := by
  pointwise [val_main_v153, val_main_call3_v2, val_main_call3_v1, val_main_call3_v0, val_main_v79_1, val_main_call0_v7, val_main_call0_v6, val_main_call0_cst_1, val_main_v146]
  rw [r145 h0 h13, r78 h7 h8 hc, rsg h7 h8 hc]
  simp only [← EReal.coe_one, ← EReal.coe_mul, ← EReal.coe_sub, ← EReal.coe_add]
  exact congrArg _ (by rw [dln, lo]; ring)

theorem r192 (s : Fin 1) (k : Fin 512) : val_main_v192 (F := Ideal) x0 x1 x2 x3 x4 x5 x6 x7 x8 x13 (ix2 s k) = ((∑ i, dln d wo c lg lb i k : ℝ) : EReal) := by
  pointwise [val_main_v192, val_main_v156, val_main_v155, val_main_v154, val_main_cst_31, val_main_cst_32]
  simp only [r153 h0 h7 h8 h13 hc, zero_add, Fin.sum_univ_one, sum_coe]

theorem r191 (s : Fin 1) (k : Fin 512) : val_main_v191 (F := Ideal) x0 x1 x2 x3 x4 x5 x6 x7 x8 x13 (ix2 s k) = ((∑ i, dlg d wo c lg lb i k : ℝ) : EReal) := by
  pointwise [val_main_v191, val_main_v162, val_main_v159, val_main_v158, val_main_v157, val_main_cst_33, val_main_cst_34]
  simp only [r72 hc, r153 h0 h7 h8 h13 hc, zero_add, Fin.sum_univ_one, ← EReal.coe_mul, sum_coe, dlg]
  exact congrArg _ (Finset.sum_congr rfl fun x _ => mul_comm _ _)

theorem r161 (i : Fin 4096) (k : Fin 512) : val_main_v161 (F := Ideal) x0 x1 x2 x3 x4 x5 x6 x7 x8 x13 (ix2 i k) = ((dln d wo c lg lb i k * lg k : ℝ) : EReal) := by
  pointwise [val_main_v161, val_main_v160, val_main_v73]
  rw [r153 h0 h7 h8 h13 hc, h7, EReal.coe_mul]

theorem r167 (i : Fin 4096) (k : Fin 512) : val_main_v167 (F := Ideal) x0 x1 x2 x3 x4 x5 x6 x7 x8 x13 (ix2 i k) = ((dln d wo c lg lb i k * lg k * ri (c i) : ℝ) : EReal) := by
  pointwise [val_main_v167, val_main_v166]
  rw [r161 h0 h7 h8 h13 hc, r67 hc, ← EReal.coe_mul]

theorem r176 (i : Fin 4096) (k : Fin 512) : val_main_v176 (F := Ideal) x0 x1 x2 x3 x4 x5 x6 x7 x8 x13 (ix2 i k)
    = (((∑ x, xc (c i) x * (dln d wo c lg lb i x * lg x)) * (-(1 / 2) * (ri (c i) / vs (c i))) / 512 * (2 * xc (c i) k) : ℝ) : EReal) := by
  pointwise [val_main_v176, val_main_v175, val_main_v174, val_main_v173, val_main_v172, val_main_v168, val_main_v165, val_main_v164, val_main_v163,
    val_main_cst_35, val_main_cst_37, val_main_cst_38]
  simp only [r161 h0 h7 h8 h13 hc, r64 hc, r70 hc, r58 hc, zero_add, Fin.sum_univ_one, ← EReal.coe_mul, sum_coe, c512, div_coe_coe (show (512 : ℝ) ≠ 0 by norm_num)]

theorem r186 (i : Fin 4096) (k : Fin 512) : val_main_v186 (F := Ideal) x0 x1 x2 x3 x4 x5 x6 x7 x8 x13 (ix2 i k) = ((dc d wo c lg lb i k : ℝ) : EReal) := by
  pointwise [val_main_v186, val_main_v185, val_main_v184, val_main_v183, val_main_v182, val_main_v181, val_main_v180, val_main_v179, val_main_v178, val_main_v177,
    val_main_v171, val_main_v170, val_main_v169, val_main_cst_36, val_main_cst_39, val_main_cst_40, val_main_cst_41]
  simp only [r167 h0 h7 h8 h13 hc, r176 h0 h7 h8 h13 hc, zero_add, Fin.sum_univ_one, ← EReal.coe_mul, ← EReal.coe_neg, ← EReal.coe_add, sum_coe, c512, div_coe_coe (show (512 : ℝ) ≠ 0 by norm_num)]
  exact congrArg _ (lnback_eq (c i) (fun x => dln d wo c lg lb i x * lg x) k)

theorem r190 (s : Fin 1) (k : Fin 512) : val_main_v190 (F := Ideal) x0 x1 x2 x3 x4 x5 x6 x7 x8 x13 (ix2 s k) = ((∑ i, dc d wo c lg lb i k : ℝ) : EReal) := by
  pointwise [val_main_v190, val_main_v189, val_main_v188, val_main_v187, val_main_cst_42, val_main_cst_43]
  simp only [r186 h0 h7 h8 h13 hc, zero_add, Fin.sum_univ_one, sum_coe]
end

/-! ## The mixing's part -/

/-- The values that the mixed ones are multiplied by, before the gelu, and the values mixed, before the gelu. -/
abbrev zu (z : Fin 4096 → Fin 2048 → ℝ) (i : Fin 4096) (k : Fin 512) : ℝ := z i ⟨1024 + k.val, by omega⟩
abbrev zv (z : Fin 4096 → Fin 2048 → ℝ) (i : Fin 4096) (k : Fin 512) : ℝ := z i ⟨1536 + k.val, by omega⟩

theorem gelu_coe (x : ℝ) : ((x : ℝ) : EReal) * (Ideal.ofBits .f32 0x3F000000#32 * (1 + Ideal.tanh (Ideal.ofBits .f32 0x3F4C422A#32 * (((x : ℝ) : EReal)
    + Ideal.ofBits .f32 0x3D372713#32 * (((x : ℝ) : EReal) * ((x : ℝ) : EReal) * ((x : ℝ) : EReal)))))) = ((gelu x : ℝ) : EReal) := by
  simp only [chalf, cga, cgb, ← EReal.coe_mul, ← EReal.coe_add]
  rw [show ∀ y : ℝ, Ideal.tanh ((y : ℝ) : EReal) = ((Real.tanh y : ℝ) : EReal) from fun _ => rfl, ← EReal.coe_one]
  simp only [← EReal.coe_mul, ← EReal.coe_add]
  rfl

section
include hz
theorem r92 (i : Fin 4096) (k : Fin 512) : val_main_v92 (F := Ideal) x1 x2 x3 x4 (ix2 i k) = ((gelu (zu z i k) : ℝ) : EReal) := by
  pointwise [val_main_v92, val_main_v91, val_main_v90, val_main_v89, val_main_v88, val_main_v87, val_main_v86, val_main_v85, val_main_v84, val_main_v83, val_main_v82, val_main_v81,
    val_main_v80, val_main_v22, val_main_cst_14, val_main_cst_15, val_main_cst_16, val_main_cst_17]
  simp only [hz]
  exact gelu_coe _

include h0 h13
theorem r148 (i : Fin 4096) (k : Fin 512) : val_main_v148 (F := Ideal) x0 x1 x2 x3 x4 x13 (ix2 i k) = ((dm d wo (zu z) i k : ℝ) : EReal) := by
  pointwise [val_main_v148, val_main_v147]
  rw [r92 hz, r145 h0 h13, ← EReal.coe_mul, mul_comm, dm]
end

section
include hz h0 h13
theorem r193 (q : Fin 128) (k : Fin 512) : val_main_v193 (F := Ideal) x0 x1 x2 x3 x4 x13 (ix2 q k) = ((∑ n : Fin 32, dm d wo (zu z) ⟨n.val * 128 + q.val, by omega⟩ k : ℝ) : EReal) := by
  pointwise [val_main_v193, val_main_v152, val_main_v151, val_main_v150, val_main_v149, val_main_cst_29, val_main_cst_30]
  simp only [r148 h0 h13 hz, zero_add, Fin.sum_univ_one, sum_coe]
end

end Cert.SeqmixRefIdeal.Rows

end
-- ==== Proof.SeqValue.lean ====
/- The mixer's gradient call computes the sums of the reference: the convolution's bias, its norm's scale and shift, the gMLP's bias. -/
module

public import proofs.«01_k».proof.Proof.SeqFrame
public import proofs.«01_k».proof.Proof.SeqRows
public import proofs.«01_k».proof.Proof.SeqRef

@[expose] public section

set_option maxRecDepth 16384

noncomputable section

open Idealize.ShloMosaic Idealize.ShloMosaic.TcCoe Idealize.SL.Sem

namespace Cert.SeqmixIdeal.Arrays
open Cert.SeqmixIdeal Cert.SeqmixIdeal.Gen Cert.SeqmixIdeal.Own Cert.SeqmixIdeal.Rows Cert.Reals Cert.Seq.Real
open Idealize.ShloMosaic.Pipeline (Dat)

/-- The row that point t reads as its row j: the blocks are visited from the last to the first. -/
def row (t : Fin cfg0.N) (j : Fin 256) : Fin 4096 := ⟨(15 - t.val) * 256 + j.val, by omega⟩

theorem row_val (t : Fin cfg0.N) (j : Fin 256) : (row t j).val = (15 - t.val) * 256 + j.val := rfl

theorem idx : ∀ t : Fin cfg0.N, win0_0.index t = ![15 - t.val, 0] ∧ win0_2.index t = ![15 - t.val, 0] ∧ win0_3.index t = ![15 - t.val, 0]
    ∧ win0_4.index t = ![0, 0] ∧ win0_8.index t = ![0, 0] ∧ win0_9.index t = ![0, 0] ∧ win0_18.index t = ![0, 0] ∧ win0_19.index t = ![0, 0]
    ∧ win0_20.index t = ![0, 0] ∧ win0_24.index t = ![0, 0] :=
  (by decide +kernel : ∀ t : Fin grid0.N, _)

/-- The sums over blocks, visited from the last to the first, make the sum over all. -/
theorem sum_rev {T M : ℕ} (hM : 16 * T = M) (f : Fin M → ℝ) (r : Fin cfg0.N → Fin T → Fin M) (hr : ∀ p j, (r p j).val = (15 - p.val) * T + j.val) :
    ∑ p, ((∑ j, f (r p j) : ℝ) : EReal) = ((∑ i, f i : ℝ) : EReal) := by
  have hN : cfg0.N = 16 := N_0
  rw [← Equiv.sum_comp Fin.revPerm]
  refine sum_blocks ((congrArg (· * T) hN).trans hM) f (fun p j => r (Fin.revPerm p) j) fun p j => ?_
  have := p.isLt
  rw [hr]
  show (15 - (Fin.rev p).val) * T + j.val = p.val * T + j.val
  rw [Fin.val_rev]
  congr 2
  omega

theorem bnd (n : Fin 2) (q : Fin 128) : n.val * 128 + q.val < 256 := by omega
theorem bnd' (n : Fin 32) (q : Fin 128) : n.val * 128 + q.val < 4096 := by omega

/-- The same of the sums over the chunks of 128 rows, two in each block. -/
theorem sum_chunks (f : Fin 4096 → ℝ) (q : Fin 128) : ∑ p, ((∑ n : Fin 2, f (row p ⟨n.val * 128 + q.val, bnd n q⟩) : ℝ) : EReal)
    = ((∑ n : Fin 32, f ⟨n.val * 128 + q.val, bnd' n q⟩ : ℝ) : EReal) := by
  rw [← sum_rev (M := 32) (by decide) (fun n => f ⟨n.val * 128 + q.val, bnd' n q⟩) (fun p (n : Fin 2) => ⟨(15 - p.val) * 2 + n.val, by omega⟩) fun _ _ => rfl]
  refine Finset.sum_congr rfl fun p _ => congrArg _ (Finset.sum_congr rfl fun n _ => congrArg f (Fin.ext ?_))
  show (15 - p.val) * 256 + (n.val * 128 + q.val) = ((15 - p.val) * 2 + n.val) * 128 + q.val
  ring

variable (m : (ℓ : Loc nD τ sig) → Buf (Elt Ideal) ℓ) (c : Dev nD)

/-! What a point adds: the steps of the four accumulators, over the blocks that the point reads. -/

/-- The gMLP's gate at a point: a part of the pre-activations' columns. -/
abbrev ublk (t : Fin cfg0.N) : FVec Ideal S256x512 .f32 := View.ld (iblk m c 2 t) (Rect.unit (s := S256x2048) ![0, 1024] ![256, 512] inb_S256x2048_S256x512_0_1024)

def st18 (t : Fin cfg0.N) (y : FVec Ideal S1x512 .f32) : FVec Ideal S1x512 .f32 :=
  k0_pay25 (k0_pay21 (k0_pay14 (iblk m c 0 t) (iblk m c 4 t)) (k0_pay16 (iblk m c 3 t)) (k0_pay17 (iblk m c 3 t)) (k0_pay18 (iblk m c 8 t))
    (k0_pay19 (iblk m c 3 t) (iblk m c 8 t) (iblk m c 9 t))) y
def st19 (t : Fin cfg0.N) (y : FVec Ideal S1x512 .f32) : FVec Ideal S1x512 .f32 :=
  k0_pay23 (k0_pay14 (iblk m c 0 t) (iblk m c 4 t)) (k0_pay17 (iblk m c 3 t)) (k0_pay19 (iblk m c 3 t) (iblk m c 8 t) (iblk m c 9 t)) y
def st20 (t : Fin cfg0.N) (y : FVec Ideal S1x512 .f32) : FVec Ideal S1x512 .f32 :=
  k0_pay24 (k0_pay22 (k0_pay14 (iblk m c 0 t) (iblk m c 4 t)) (k0_pay19 (iblk m c 3 t) (iblk m c 8 t) (iblk m c 9 t))) y
def st24 (t : Fin cfg0.N) (y : FVec Ideal S128x512 .f32) : FVec Ideal S128x512 .f32 :=
  k0_pay186 (k0_pay156 (k0_pay121 (k0_pay14 (iblk m c 0 t) (iblk m c 4 t))) (k0_pay125 (ublk m c t)))
    (k0_pay161 (k0_pay156 (k0_pay121 (k0_pay14 (iblk m c 0 t) (iblk m c 4 t))) (k0_pay125 (ublk m c t))) y)

section
variable (t : Fin cfg0.N)
theorem outB18 (h0 : ¬t.val % 16 = 0) (h1 : 1 ≤ t.val) (p : Outs Ideal) : (outsB m c t h0 h1 p).2.2.2.1 = st18 m c t p.2.2.2.1 := by
  dsimp only [outsB, outB_18, rB]
  frame_out
  all_goals first | done | rfl
theorem outA18 (h0 : t.val % 16 = 0) (h1 : ¬1 ≤ t.val) : (outsA m c t h0 h1).2.2.2.1 = st18 m c t k0_pay3 := by
  dsimp only [outsA, outA_18, rA]
  frame_out
  all_goals first | done | rfl
theorem outB19 (h0 : ¬t.val % 16 = 0) (h1 : 1 ≤ t.val) (p : Outs Ideal) : (outsB m c t h0 h1 p).2.2.2.2.1 = st19 m c t p.2.2.2.2.1 := by
  dsimp only [outsB, outB_19, rB]
  frame_out
  all_goals first | done | rfl
theorem outA19 (h0 : t.val % 16 = 0) (h1 : ¬1 ≤ t.val) : (outsA m c t h0 h1).2.2.2.2.1 = st19 m c t k0_pay4 := by
  dsimp only [outsA, outA_19, rA]
  frame_out
  all_goals first | done | rfl
theorem outB20 (h0 : ¬t.val % 16 = 0) (h1 : 1 ≤ t.val) (p : Outs Ideal) : (outsB m c t h0 h1 p).2.2.2.2.2.1 = st20 m c t p.2.2.2.2.2.1 := by
  dsimp only [outsB, outB_20, rB]
  frame_out
  all_goals first | done | rfl
theorem outA20 (h0 : t.val % 16 = 0) (h1 : ¬1 ≤ t.val) : (outsA m c t h0 h1).2.2.2.2.2.1 = st20 m c t k0_pay5 := by
  dsimp only [outsA, outA_20, rA]
  frame_out
  all_goals first | done | rfl
theorem outB24 (h0 : ¬t.val % 16 = 0) (h1 : 1 ≤ t.val) (p : Outs Ideal) : (outsB m c t h0 h1 p).2.2.2.2.2.2.2.2.2.1 = st24 m c t p.2.2.2.2.2.2.2.2.2.1 := by
  dsimp only [outsB, outB_24, rB]
  frame_out
  all_goals first | done | rfl
theorem outA24 (h0 : t.val % 16 = 0) (h1 : ¬1 ≤ t.val) : (outsA m c t h0 h1).2.2.2.2.2.2.2.2.2.1 = st24 m c t k0_pay9 := by
  dsimp only [outsA, outA_24, rA]
  frame_out
  all_goals first | done | rfl
end

/-! What the blocks hold. -/

variable {m c}
variable {d : Fin 4096 → Fin 1024 → ℝ} {wo : Fin 1024 → Fin 1024 → ℝ} {z : Fin 4096 → Fin 2048 → ℝ} {cv : Fin 4096 → Fin 512 → ℝ} {lg lb : Fin 512 → ℝ}
  (h0 : ∀ i k, (show FVec Ideal S4096x1024 .f32 from m ((c : Thread nD τ).loc main_arg0)) (ix2 i k) = ((d i k : ℝ) : EReal))
  (h7 : ∀ k, (show FVec Ideal S512 .f32 from m ((c : Thread nD τ).loc main_arg7)) (ix1 k) = ((lg k : ℝ) : EReal))
  (h8 : ∀ k, (show FVec Ideal S512 .f32 from m ((c : Thread nD τ).loc main_arg8)) (ix1 k) = ((lb k : ℝ) : EReal))
  (h13 : ∀ i k, (show FVec Ideal S1024x1024 .f32 from m ((c : Thread nD τ).loc main_arg13)) (ix2 i k) = ((wo i k : ℝ) : EReal))
  (hz : ∀ i k, Cert.SeqmixRefIdeal.Read.val_main_v19 (F := Ideal) (m ((c : Thread nD τ).loc main_arg1)) (m ((c : Thread nD τ).loc main_arg2))
    (m ((c : Thread nD τ).loc main_arg3)) (m ((c : Thread nD τ).loc main_arg4)) (ix2 i k) = ((z i k : ℝ) : EReal))
  (hc : ∀ i k, Cert.SeqmixRefIdeal.Read.val_main_v49 (F := Ideal) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (ix2 i k) = ((cv i k : ℝ) : EReal))

include hz in
/-- The pre-activations, which the host computes. -/
theorem hz2 (i : Fin 4096) (k : Fin 2048) : (show FVec Ideal S4096x2048 .f32 from V m c main_v16) (ix2 i k) = ((z i k : ℝ) : EReal) := by
  entry_read
  exact hz i k
include hc in
/-- The convolution, which the host computes. -/
theorem hc3 (i : Fin 4096) (k : Fin 512) : (show FVec Ideal S4096x512 .f32 from V m c main_v44) (ix2 i k) = ((cv i k : ℝ) : EReal) := by
  entry_read
  refine Eq.trans ?_ (hc i k)
  sl_kernel_rfl

include h0 in
theorem b0 (p : Fin cfg0.N) (j : Fin 256) (k : Fin 1024) : (show FVec Ideal S256x1024 .f32 from iblk m c 0 p) (ix2 j k) = ((d (row p j) k : ℝ) : EReal) := by
  rw [← h0]; blk_ext [iblk, V, idx p]; rfl
include hz in
theorem b2' (p : Fin cfg0.N) (j : Fin 256) (k : Fin 2048) : (show FVec Ideal S256x2048 .f32 from iblk m c 2 p) (ix2 j k) = ((z (row p j) k : ℝ) : EReal) := by
  rw [← hz2 hz]; blk_ext [iblk, idx p]; rfl
include hz in
theorem b2 (p : Fin cfg0.N) (j : Fin 256) (k : Fin 512) : ublk m c p (ix2 j k) = ((z (row p j) ⟨1024 + k.val, by omega⟩ : ℝ) : EReal) := by
  rw [← b2' hz]; exact View.ld_unit_apply_of _ _ _ _ _ _ fun a => by fin_cases a <;> simp
include hc in
theorem b3 (p : Fin cfg0.N) (j : Fin 256) (k : Fin 512) : (show FVec Ideal S256x512 .f32 from iblk m c 3 p) (ix2 j k) = ((cv (row p j) k : ℝ) : EReal) := by
  rw [← hc3 hc]; blk_ext [iblk, idx p]; rfl
include h13 in
theorem b4 (p : Fin cfg0.N) (j : Fin 1024) (k : Fin 1024) : (show FVec Ideal S1024x1024 .bf16 from iblk m c 4 p) (ix2 j k) = ((wo j k : ℝ) : EReal) := by
  rw [← h13]; blk_point [iblk, V, idx p]
include h7 in
/-- The norm's scale, as a row. -/
theorem hr8 (j : Fin 1) (k : Fin 512) : (show FVec Ideal S1x512 .f32 from V m c main_v67) (ix2 j k) = ((lg k : ℝ) : EReal) := by
  have e : V m c main_v67 = shapeCast S1x512 (m ((c : Thread nD τ).loc main_arg7)) shapeCasts_S512_S1x512 := by sl_kernel_rfl
  rw [e, ← h7]
  pointwise []
include h8 in
/-- The norm's shift, as a row. -/
theorem hr9 (j : Fin 1) (k : Fin 512) : (show FVec Ideal S1x512 .f32 from V m c main_v68) (ix2 j k) = ((lb k : ℝ) : EReal) := by
  have e : V m c main_v68 = shapeCast S1x512 (m ((c : Thread nD τ).loc main_arg8)) shapeCasts_S512_S1x512 := by sl_kernel_rfl
  rw [e, ← h8]
  pointwise []
include h7 in
theorem b8 (p : Fin cfg0.N) (j : Fin 1) (k : Fin 512) : (show FVec Ideal S1x512 .f32 from iblk m c 8 p) (ix2 j k) = ((lg k : ℝ) : EReal) := by
  rw [← hr8 h7 j]; blk_ext [iblk, idx p]
include h8 in
theorem b9 (p : Fin cfg0.N) (j : Fin 1) (k : Fin 512) : (show FVec Ideal S1x512 .f32 from iblk m c 9 p) (ix2 j k) = ((lb k : ℝ) : EReal) := by
  rw [← hr9 h8 j]; blk_ext [iblk, idx p]

/-! What the arrays hold after the run. -/

/-- The last point. -/
def tl : Fin cfg0.N := ⟨15, by decide⟩

section
include h0 h7 h8 h13 hc
/-- The gradient of the convolution's bias. -/
theorem final_dcb : (dats m 0 c).arrAt 18 cfg0.N = fun i : S1x512.Idx => ((∑ n, dc d wo cv lg lb n (i 1) : ℝ) : EReal) := by
  refine (dats m 0 c).arrAt_eq_of_after_last 18 tl (by decide +kernel) _ fun j => ?_
  have key (p : Fin cfg0.N) (v : FVec Ideal S1x512 .f32) (j : S1x512.Idx) : st18 m c p v j = v j + ((∑ q, dc d wo cv lg lb (row p q) (j 1) : ℝ) : EReal) := by
    idx_vars j; exact step18 (r := row p) (b0 h0 p) (b4 h13 p) (b3 hc p) (b8 h7 p) (b9 h8 p) _ _
  blk_simp
  rw [after0_18]
  rw [Pipeline.eq_sum_fin_of_reset_step_apply_last (fun n h => (outsAt0 m c n h).2.2.2.1) 16 (fun _ => (0 : EReal))
    (fun p j => ((∑ q, dc d wo cv lg lb (row p q) (j 1) : ℝ) : EReal))
    (fun p h j => by rw [outsAt0_A m c p h (by have := p.isLt; have : cfg0.N = 16 := N_0; omega), outA18, key]; exact congrArg (· + _) (by pointwise [k0_pay3]))
    (fun p h j => by rw [outsAt0_B m c p h (by omega), outB18, key])
    (le_of_eq N_0) tl (by decide) j, zero_add]
  exact sum_rev (by decide) (fun n => dc d wo cv lg lb n (j 1)) row row_val

/-- The gradient of the norm's scale. -/
theorem final_dlng : (dats m 0 c).arrAt 19 cfg0.N = fun i : S1x512.Idx => ((∑ n, dlg d wo cv lg lb n (i 1) : ℝ) : EReal) := by
  refine (dats m 0 c).arrAt_eq_of_after_last 19 tl (by decide +kernel) _ fun j => ?_
  have key (p : Fin cfg0.N) (v : FVec Ideal S1x512 .f32) (j : S1x512.Idx) : st19 m c p v j = v j + ((∑ q, dlg d wo cv lg lb (row p q) (j 1) : ℝ) : EReal) := by
    idx_vars j; exact step19 (r := row p) (b0 h0 p) (b4 h13 p) (b3 hc p) (b8 h7 p) (b9 h8 p) _ _
  blk_simp
  rw [after0_19]
  rw [Pipeline.eq_sum_fin_of_reset_step_apply_last (fun n h => (outsAt0 m c n h).2.2.2.2.1) 16 (fun _ => (0 : EReal))
    (fun p j => ((∑ q, dlg d wo cv lg lb (row p q) (j 1) : ℝ) : EReal))
    (fun p h j => by rw [outsAt0_A m c p h (by have := p.isLt; have : cfg0.N = 16 := N_0; omega), outA19, key]; exact congrArg (· + _) (by pointwise [k0_pay4]))
    (fun p h j => by rw [outsAt0_B m c p h (by omega), outB19, key])
    (le_of_eq N_0) tl (by decide) j, zero_add]
  exact sum_rev (by decide) (fun n => dlg d wo cv lg lb n (j 1)) row row_val

/-- The gradient of its shift. -/
theorem final_dlnb : (dats m 0 c).arrAt 20 cfg0.N = fun i : S1x512.Idx => ((∑ n, dln d wo cv lg lb n (i 1) : ℝ) : EReal) := by
  refine (dats m 0 c).arrAt_eq_of_after_last 20 tl (by decide +kernel) _ fun j => ?_
  have key (p : Fin cfg0.N) (v : FVec Ideal S1x512 .f32) (j : S1x512.Idx) : st20 m c p v j = v j + ((∑ q, dln d wo cv lg lb (row p q) (j 1) : ℝ) : EReal) := by
    idx_vars j; exact step20 (r := row p) (b0 h0 p) (b4 h13 p) (b3 hc p) (b8 h7 p) (b9 h8 p) _ _
  blk_simp
  rw [after0_20]
  rw [Pipeline.eq_sum_fin_of_reset_step_apply_last (fun n h => (outsAt0 m c n h).2.2.2.2.2.1) 16 (fun _ => (0 : EReal))
    (fun p j => ((∑ q, dln d wo cv lg lb (row p q) (j 1) : ℝ) : EReal))
    (fun p h j => by rw [outsAt0_A m c p h (by have := p.isLt; have : cfg0.N = 16 := N_0; omega), outA20, key]; exact congrArg (· + _) (by pointwise [k0_pay5]))
    (fun p h j => by rw [outsAt0_B m c p h (by omega), outB20, key])
    (le_of_eq N_0) tl (by decide) j, zero_add]
  exact sum_rev (by decide) (fun n => dln d wo cv lg lb n (j 1)) row row_val
end

section
include h0 h13 hz
/-- The gradient of the gMLP's bias, for each column. -/
theorem final_dbs : (dats m 0 c).arrAt 24 cfg0.N = fun i : S128x512.Idx => ((∑ n : Fin 32, dm d wo (Cert.SeqmixRefIdeal.Rows.zu z) ⟨n.val * 128 + (i 0).val, bnd' n (i 0)⟩ (i 1) : ℝ) : EReal) := by
  refine (dats m 0 c).arrAt_eq_of_after_last 24 tl (by decide +kernel) _ fun j => ?_
  have key (p : Fin cfg0.N) (v : FVec Ideal S128x512 .f32) (j : S128x512.Idx) : st24 m c p v j = v j + ((∑ n : Fin 2, dm d wo (Cert.SeqmixRefIdeal.Rows.zu z) (row p ⟨n.val * 128 + (j 0).val, bnd n (j 0)⟩) (j 1) : ℝ) : EReal) := by
    idx_vars j; exact step24 (r := row p) (b0 h0 p) (b4 h13 p) (b2 hz p) _ _
  blk_simp
  rw [after0_24]
  rw [Pipeline.eq_sum_fin_of_reset_step_apply_last (fun n h => (outsAt0 m c n h).2.2.2.2.2.2.2.2.2.1) 16 (fun _ => (0 : EReal))
    (fun p j => ((∑ n : Fin 2, dm d wo (Cert.SeqmixRefIdeal.Rows.zu z) (row p ⟨n.val * 128 + (j 0).val, bnd n (j 0)⟩) (j 1) : ℝ) : EReal))
    (fun p h j => by rw [outsAt0_A m c p h (by have := p.isLt; have : cfg0.N = 16 := N_0; omega), outA24, key]; exact congrArg (· + _) (by pointwise [k0_pay9]))
    (fun p h j => by rw [outsAt0_B m c p h (by omega), outB24, key])
    (le_of_eq N_0) tl (by decide) j, zero_add]
  exact sum_chunks (fun i => dm d wo (Cert.SeqmixRefIdeal.Rows.zu z) i (j 1)) (j 0)
end

variable (m) in
/-- The run, with what it leaves in the four arrays and in the arguments. -/
theorem run_blocks (ρ : Dev nD → PrngReg) : θ_run defs (onTc (τ := τ) (main (F := Ideal))) ⟨m, fun _ => 0, ρ⟩ (fun r => ∀ c : Dev nD,
      r.2.mem ((c : Thread nD τ).loc main_v71_3) = (dats m 0 c).arrAt 18 cfg0.N
      ∧ r.2.mem ((c : Thread nD τ).loc main_v71_4) = (dats m 0 c).arrAt 19 cfg0.N
      ∧ r.2.mem ((c : Thread nD τ).loc main_v71_5) = (dats m 0 c).arrAt 20 cfg0.N
      ∧ r.2.mem ((c : Thread nD τ).loc main_v71_9) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h.1 c).1 18, (h.1 c).1 19, (h.1 c).1 20, (h.1 c).1 24, h.2 c⟩) (θ_run_and (run_main m ρ) (unchanged m ρ))

end Cert.SeqmixIdeal.Arrays

end
-- ==== Proof.SeqmixClaim.lean ====
/- The claims about the mixer's gradient. -/
module

public import proofs.«01_k».proof.Defs
public import proofs.«01_k».proof.Proof.SeqBits
public import proofs.«01_k».proof.Proof.SeqValue
public import proofs.«01_k».proof.Proof.Gen.SeqmixRefIdeal.Run
public import Idealize.ShloMosaic.Lib.Claim

@[expose] public section

set_option maxRecDepth 16384

noncomputable section

open Idealize.ShloMosaic Idealize.ShloMosaic.TcCoe Idealize.SL.Sem Idealize.ShloMosaic.StableHlo Cert.Reals

namespace Cert.Proof

theorem facts_finite_seqmix : Cert.Pre_finite_seqmix.Facts where
  bcast_S_S4096x1024 := by decide
  bcast_S_S1024 := by decide
  bcast_S_S1024x2048 := by decide
  bcast_S_S2048 := by decide
  bcast_S_S31x512 := by decide
  bcast_S_S512 := by decide
  bcast_S_S1024x1024 := by decide

section
open Cert.SeqmixIdeal

/-- What the precondition says of a device's arguments: each is an array of reals. -/
theorem seqmix_reals (m : (ℓ : Loc nD τ sig) → Buf (Elt Ideal) ℓ) (c : Dev nD) (hpre : Cert.Pre_SeqmixIdeal_finite_seqmix (hPre_finite_seqmix := facts_finite_seqmix) m) :
    ∃ (d : Fin 4096 → Fin 1024 → ℝ) (h : Fin 4096 → Fin 1024 → ℝ) (g : Fin 1024 → ℝ) (w : Fin 1024 → Fin 2048 → ℝ) (b : Fin 2048 → ℝ) (cw : Fin 31 → Fin 512 → ℝ) (cb : Fin 512 → ℝ) (lg : Fin 512 → ℝ) (lb : Fin 512 → ℝ) (wo : Fin 1024 → Fin 1024 → ℝ),
      (∀ i k, (show FVec Ideal S4096x1024 .f32 from m ((c : Thread nD τ).loc main_arg0)) (ix2 i k) = ((d i k : ℝ) : EReal))
      ∧ (∀ i k, (show FVec Ideal S4096x1024 .f32 from m ((c : Thread nD τ).loc main_arg1)) (ix2 i k) = ((h i k : ℝ) : EReal))
      ∧ (∀ k, (show FVec Ideal S1024 .f32 from m ((c : Thread nD τ).loc main_arg2)) (ix1 k) = ((g k : ℝ) : EReal))
      ∧ (∀ i k, (show FVec Ideal S1024x2048 .f32 from m ((c : Thread nD τ).loc main_arg3)) (ix2 i k) = ((w i k : ℝ) : EReal))
      ∧ (∀ k, (show FVec Ideal S2048 .f32 from m ((c : Thread nD τ).loc main_arg4)) (ix1 k) = ((b k : ℝ) : EReal))
      ∧ (∀ i k, (show FVec Ideal S31x512 .f32 from m ((c : Thread nD τ).loc main_arg5)) (ix2 i k) = ((cw i k : ℝ) : EReal))
      ∧ (∀ k, (show FVec Ideal S512 .f32 from m ((c : Thread nD τ).loc main_arg6)) (ix1 k) = ((cb k : ℝ) : EReal))
      ∧ (∀ k, (show FVec Ideal S512 .f32 from m ((c : Thread nD τ).loc main_arg7)) (ix1 k) = ((lg k : ℝ) : EReal))
      ∧ (∀ k, (show FVec Ideal S512 .f32 from m ((c : Thread nD τ).loc main_arg8)) (ix1 k) = ((lb k : ℝ) : EReal))
      ∧ (∀ i k, (show FVec Ideal S1024x1024 .f32 from m ((c : Thread nD τ).loc main_arg13)) (ix2 i k) = ((wo i k : ℝ) : EReal)) :=
  ⟨_, _, _, _, _, _, _, _, _, _, fun i k => reals_of_below (fun _ => rfl) (hpre c).1 (ix2 i k),
    fun i k => reals_of_below (fun _ => rfl) (hpre c).2.1 (ix2 i k),
    fun k => reals_of_below (fun _ => rfl) (hpre c).2.2.1 (ix1 k),
    fun i k => reals_of_below (fun _ => rfl) (hpre c).2.2.2.1 (ix2 i k),
    fun k => reals_of_below (fun _ => rfl) (hpre c).2.2.2.2.1 (ix1 k),
    fun i k => reals_of_below (fun _ => rfl) (hpre c).2.2.2.2.2.1 (ix2 i k),
    fun k => reals_of_below (fun _ => rfl) (hpre c).2.2.2.2.2.2.1 (ix1 k),
    fun k => reals_of_below (fun _ => rfl) (hpre c).2.2.2.2.2.2.2.1 (ix1 k),
    fun k => reals_of_below (fun _ => rfl) (hpre c).2.2.2.2.2.2.2.2.1 (ix1 k),
    fun i k => reals_of_below (fun _ => rfl) (hpre c).2.2.2.2.2.2.2.2.2 (ix2 i k)⟩

end

section
open Cert.SeqmixRefIdeal Cert.SeqmixRefIdeal.Read

/-- The reference's run, its results as functions of the arguments. -/
theorem seqmix_ref (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v190) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13))
      ∧ r.2.mem ((c.tc : Thread nD τ).loc main_v191) = val_main_v191 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13))
      ∧ r.2.mem ((c.tc : Thread nD τ).loc main_v192) = val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (val_main_v190_eq (launchContents m c)), (h c).2.1.trans (val_main_v191_eq (launchContents m c)),
    (h c).2.2.1.trans (val_main_v192_eq (launchContents m c)), (h c).2.2.2.1.trans (val_main_v193_eq (launchContents m c)), (h c).2.2.2.2⟩) (Cert.SeqmixRefIdeal.Value.run m ρ)

end

open Cert.SeqmixIdeal.Arrays Cert.SeqmixRefIdeal.Rows Cert.SeqmixRefIdeal.Read in
set_option maxHeartbeats 2000000 in
theorem seqmix_value : Cert.algebraic_SeqmixIdeal_SeqmixRefIdeal_pre_finite_seqmix (hPre_finite_seqmix := facts_finite_seqmix) := by
  intro m g m' g' hpre hagree
  refine ⟨_, _, _, _, run_blocks m g, (θ_run _ _ _).mono (fun r hr c => ?_) (seqmix_ref m' g')⟩
  obtain ⟨d, h, gm, w, b, cw, cb, lg, lb, wo, h0, h1, h2, h3, h4, h5, h6, h7, h8, h13⟩ := seqmix_reals m c hpre
  obtain ⟨z, hz⟩ := z_real h1 h2 h3 h4
  obtain ⟨cv, hc⟩ := c_real h5 h6 hz
  obtain ⟨e0, e1, e2, e3, e4, e5, e6, e7, e8, -, -, -, -, e13⟩ := hagree c
  obtain ⟨r0, r1, r2, r3, k⟩ := hr c
  refine ⟨r0.trans ?_, r1.trans ?_, r2.trans ?_, r3.trans ?_, k⟩
  · rw [e0, e1, e2, e3, e4, e5, e6, e7, e8, e13]
    refine Eq.trans (funext fun i => ?_) (final_dcb h0 h7 h8 h13 hc).symm
    idx_vars i
    exact r190 h0 h7 h8 h13 hc _ _
  · rw [e0, e1, e2, e3, e4, e5, e6, e7, e8, e13]
    refine Eq.trans (funext fun i => ?_) (final_dlng h0 h7 h8 h13 hc).symm
    idx_vars i
    exact r191 h0 h7 h8 h13 hc _ _
  · rw [e0, e1, e2, e3, e4, e5, e6, e7, e8, e13]
    refine Eq.trans (funext fun i => ?_) (final_dlnb h0 h7 h8 h13 hc).symm
    idx_vars i
    exact r192 h0 h7 h8 h13 hc _ _
  · rw [e0, e1, e2, e3, e4, e13]
    refine Eq.trans (funext fun i => ?_) (final_dbs h0 h13 hz).symm
    idx_vars i
    exact r193 h0 h13 hz _ _

theorem seqmix : ∃ (hSeqmix : Cert.Seqmix.Facts) (hSeqmixIdeal : Cert.SeqmixIdeal.Facts) (hSeqmixRefIdeal : Cert.SeqmixRefIdeal.Facts) (hPre_finite_seqmix : Cert.Pre_finite_seqmix.Facts),
    quiescent_Seqmix (hSeqmix := hSeqmix)
    ∧ quiescent_SeqmixIdeal (hSeqmixIdeal := hSeqmixIdeal)
    ∧ quiescent_SeqmixIdeal_pre_finite_seqmix (hSeqmixIdeal := hSeqmixIdeal) (hPre_finite_seqmix := hPre_finite_seqmix)
    ∧ quiescent_SeqmixRefIdeal (hSeqmixRefIdeal := hSeqmixRefIdeal)
    ∧ quiescent_SeqmixRefIdeal_pre_finite_seqmix (hSeqmixRefIdeal := hSeqmixRefIdeal) (hPre_finite_seqmix := hPre_finite_seqmix)
    ∧ preserves_Seqmix_SeqmixIdeal
    ∧ algebraic_SeqmixIdeal_SeqmixRefIdeal_pre_finite_seqmix (hSeqmixIdeal := hSeqmixIdeal) (hSeqmixRefIdeal := hSeqmixRefIdeal) (hPre_finite_seqmix := hPre_finite_seqmix) :=
  ⟨Cert.Seqmix.Gen.facts, Cert.SeqmixIdeal.Gen.facts, Cert.SeqmixRefIdeal.Gen.facts, facts_finite_seqmix,
    seq_frame, fun m ρ _ => Cert.SeqmixIdeal.Own.frame m ρ, fun m ρ _ => Cert.SeqmixIdeal.Own.frame m ρ,
    fun m ρ _ => (θ_run_mono (Cert.SeqmixRefIdeal.Value.run m ρ) fun r h => ⟨fun c => (h c).2.2.2.2, sem_eq_zero_of_no_sems rfl r.2⟩),
    fun m ρ _ => (θ_run_mono (Cert.SeqmixRefIdeal.Value.run m ρ) fun r h => ⟨fun c => (h c).2.2.2.2, sem_eq_zero_of_no_sems rfl r.2⟩), trivial, seqmix_value⟩

end Cert.Proof

end
-- ==== Proof.SeqFwdRef.lean ====
/- The mixer, forward: the pre-activations and the convolution as functions of the arguments, and those of the reference. -/
module

public import proofs.«01_k».proof.Proof.Entries
public import proofs.«01_k».proof.Proof.Gen.SeqmixFwdRefIdeal.Read
public import Idealize.ShloMosaic.Lib.Pipeline.ValueKit

@[expose] public section

set_option maxRecDepth 16384

noncomputable section

open Idealize.ShloMosaic Idealize.ShloMosaic.TcCoe Idealize.SL.Sem

namespace Cert.SeqFwd.Real

variable (h : Fin 4096 → Fin 1024 → EReal) (w : Fin 1024 → Fin 2048 → EReal) (b : Fin 2048 → EReal) (cw : ℕ → Fin 512 → EReal) (cb : Fin 512 → EReal)

/-- The pre-activations. -/
def zf (i : Fin 4096) (k : Fin 2048) : EReal := (∑ x, h i x * w x k) + b k
/-- The gated values. -/
def af (i : Fin 4096) (k : Fin 512) : EReal :=
  zf h w b i (⟨k.val, by omega⟩ : Fin 2048) * Ideal.div 1 (1 + Ideal.exp (-zf h w b i (⟨512 + k.val, by omega⟩ : Fin 2048)))
/-- The gated values behind 32 rows of zeros. -/
def ap (n : ℕ) (k : Fin 512) : EReal := if hn : 32 ≤ n ∧ n < 4128 then af h w b (⟨n - 32, by omega⟩ : Fin 4096) k else 0
/-- The convolution of the 31 values that end at a row. -/
def cf (i : Fin 4096) (k : Fin 512) : EReal := (∑ j ∈ Finset.range 31, cw j k * ap h w b (i.val + (2 + j)) k) + cb k

theorem ap_row (i : Fin 4096) (k : Fin 512) {n : ℕ} (hn : n = 32 + i.val) : ap h w b n k = af h w b i k := by
  subst hn
  rw [ap, dif_pos ⟨by omega, by omega⟩]
  exact congrArg (fun i => af h w b i k) (Fin.ext (show 32 + i.val - 32 = i.val by omega))
theorem ap_zero (k : Fin 512) {n : ℕ} (hn : n < 32) : ap h w b n k = 0 := dif_neg (by omega)

/-- An array as the function of its row's number. -/
theorem entriesN {a b : ℕ} (v : (⟨2, ![a, b]⟩ : Shape).Idx → EReal) : ∃ x : ℕ → Fin b → EReal, ∀ (j : Fin a) k, v (ix2 j k) = x j.val k :=
  ⟨fun j k => if hj : j < a then v (ix2 ⟨j, hj⟩ k) else 0, fun j k => by simp only [dif_pos j.isLt]⟩

end Cert.SeqFwd.Real

namespace Cert.SeqmixFwdRefIdeal.Rows
open Cert.SeqmixFwdRefIdeal Cert.SeqmixFwdRefIdeal.Gen Cert.SeqmixFwdRefIdeal.Read Cert.Reals Cert.SeqFwd.Real

variable {h : Fin 4096 → Fin 1024 → EReal} {w : Fin 1024 → Fin 2048 → EReal} {b : Fin 2048 → EReal} {cw : ℕ → Fin 512 → EReal} {cb : Fin 512 → EReal}
  {x0 : FVec Ideal S4096x1024 .f32} {x1 : FVec Ideal S1024x2048 .f32} {x2 : FVec Ideal S2048 .f32} {x3 : FVec Ideal S31x512 .f32} {x4 : FVec Ideal S512 .f32}
  (a0 : ∀ i k, x0 (ix2 i k) = h i k) (a1 : ∀ i k, x1 (ix2 i k) = w i k) (a2 : ∀ k, x2 (ix1 k) = b k) (a3 : ∀ j k, x3 (ix2 j k) = cw j.val k) (a4 : ∀ k, x4 (ix1 k) = cb k)

/-- The windows' first rows. -/
theorem rstart (i : Fin 4096) (j : Fin 31) (z : Fin 1) : (val_main_v23 (F := Ideal) (ix3 i j z)).toInt.toNat = i.val + j.val := by
  pointwise [val_main_v23, val_main_v22, val_main_v21, val_main_v20, val_main_v19, val_main_v18, val_main_v17, val_main_v16, val_main_v15, val_main_c, val_main_c_2]
  have hx : IntOp.addi (BitVec.ofNat 32 i.val) (BitVec.ofNat 32 j.val) = BitVec.ofNat 32 (i.val + j.val) := (BitVec.ofNat_add _ _).symm
  have ht : (BitVec.ofNat 32 (i.val + j.val)).toInt = ((i.val + j.val : ℕ) : ℤ) := by
    rw [BitVec.toInt_eq_toNat_of_lt] <;> rw [BitVec.toNat_ofNat, Nat.mod_eq_of_lt] <;> omega
  have hc : IntOp.cmpi CmpIPredicate.slt (BitVec.ofNat 32 (i.val + j.val)) 0#32 = 0#1 := by
    simp only [IntOp.cmpi, BitVec.slt, ht]
    rw [decide_eq_false (by show ¬((i.val + j.val : ℕ) : ℤ) < 0; omega)]
    rfl
  rw [hx, hc]
  exact (congrArg Int.toNat ht).trans (Int.toNat_natCast _)

include a0 a1 a2
theorem rz (i : Fin 4096) (k : Fin 2048) : val_main_v3 (F := Ideal) x0 x1 x2 (ix2 i k) = zf h w b i k := by
  pointwise [val_main_v3, val_main_v2, val_main_v1, val_main_v0]
  simp only [a0, a1, a2, zf]

theorem ra (i : Fin 4096) (k : Fin 512) : val_main_v12 (F := Ideal) x0 x1 x2 (ix2 i k) = af h w b i k := by
  pointwise [val_main_v12, val_main_v11, val_main_v10, val_main_v9, val_main_v8, val_main_v7, val_main_v6, val_main_v5, val_main_v4, val_main_cst, val_main_cst_0]
  simp only [rz a0 a1 a2, af]

theorem rpad (i : Fin 4126) (k : Fin 512) : val_main_v14 (F := Ideal) x0 x1 x2 (ix2 i k) = ap h w b (i.val + 2) k := by
  by_cases hi : i.val < 30
  · obtain ⟨j, hj⟩ : ∃ j : Fin 30, i = ⟨j.val, by omega⟩ := ⟨⟨i.val, hi⟩, rfl⟩
    rw [hj, ap_zero h w b k (show j.val + 2 < 32 by omega)]
    pointwise [val_main_v14, val_main_v13, val_main_cst_1]
  · obtain ⟨j, hj⟩ : ∃ j : Fin 4096, i = ⟨30 + j.val, by have := j.isLt; omega⟩ := ⟨⟨i.val - 30, by omega⟩, Fin.ext (by simp; omega)⟩
    rw [hj, ap_row h w b j k (show 30 + j.val + 2 = 32 + j.val by omega)]
    pointwise [val_main_v14]
    exact ra a0 a1 a2 j k

/-- The windows. -/
theorem rwin (i : Fin 4096) (j : Fin 31) (k : Fin 512) : val_main_v24 (F := Ideal) x0 x1 x2 (ix3 i j k) = ap h w b (i.val + (2 + j.val)) k := by
  have e : val_main_v24 (F := Ideal) x0 x1 x2 (ix3 i j k)
      = val_main_v14 (F := Ideal) x0 x1 x2 (ix2 (⟨min (val_main_v23 (F := Ideal) (ix3 i j (0 : Fin 1))).toInt.toNat 4125, by omega⟩ : Fin 4126) k) := by
    unfold val_main_v24 Host.gather
    refine congrArg _ (funext fun a => Fin.ext ?_)
    show GatherDims.start _ _ _ a + GatherDims.batchCoord _ _ a + GatherDims.offCoord _ _ a = _
    rw [GatherDims.batchCoord_eq_zero _ _ _ List.not_mem_nil]
    have ha : a = 0 ∨ a = 1 := by
      match a with
      | ⟨0, _⟩ => exact .inl rfl
      | ⟨1, _⟩ => exact .inr rfl
    rcases ha with rfl | rfl
    · rw [GatherDims.offCoord_eq_zero _ _ _ (fun h => ((GatherDims.mem_sKept _ _).mp h).1 (List.mem_singleton.mpr rfl))]
      unfold GatherDims.start
      rw [dif_pos (show (0 : Fin 2) ∈ gather_S4126x512_S4096x31x1_S4096x31x512_2_0_n_n_0_2_1512.startIndexMap from List.mem_singleton.mpr rfl)]
      refine congrArg (fun q => min (val_main_v23 (F := Ideal) q).toInt.toNat 4125) (funext fun b => Fin.ext ?_)
      fin_cases b <;> rfl
    · exact (show 0 + 0 + k.val = k.val by omega)
  rw [e, rpad a0 a1 a2]
  exact congrArg (fun n => ap h w b n k) (show min (val_main_v23 (F := Ideal) (ix3 i j (0 : Fin 1))).toInt.toNat 4125 + 2 = i.val + (2 + j.val) by rw [rstart i j 0]; omega)

include a3 a4
theorem rc (i : Fin 4096) (k : Fin 512) : val_main_v31 (F := Ideal) x0 x1 x2 x3 x4 (ix2 i k) = cf h w b cw cb i k := by
  pointwise [val_main_v31, val_main_v30, val_main_v29, val_main_v28, val_main_v27, val_main_v26, val_main_v25, val_main_cst_3]
  simp only [rwin a0 a1 a2, a3, a4, cf, zero_add]
  rw [← Fin.sum_univ_eq_sum_range (fun j => cw j k * ap h w b (i.val + (2 + j)) k)]
  exact congrArg (· + _) (Finset.sum_congr rfl fun j _ => mul_comm _ _)

end Cert.SeqmixFwdRefIdeal.Rows

end
-- ==== Proof.SeqFwdValue.lean ====
/- The mixer, forward: the pre-activations and the convolution, of the kernel. -/
module

public import proofs.«01_k».proof.Proof.SeqFwdRef
public import proofs.«01_k».proof.Proof.Gen.SeqmixFwdIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SeqmixFwdIdeal.Arrays
open Cert.SeqmixFwdIdeal Cert.SeqmixFwdIdeal.Gen Cert.Reals Cert.SeqFwd.Real
open Idealize.ShloMosaic.Pipeline (Dat)

/-- The windows' blocks: rows `512 t …` of the stream and the results, and all of the weights. -/
theorem idx : ∀ t : Fin cfg0.N, win0_0.index t = ![t.val, 0] ∧ win0_1.index t = ![0, 0, 0] ∧ win0_2.index t = ![0, 0] ∧ win0_3.index t = ![0, 0]
    ∧ win0_4.index t = ![0, 0] ∧ win0_11.index t = ![t.val, 0] ∧ win0_13.index t = ![t.val, 0] :=
  (by decide +kernel : ∀ t : Fin grid0.N, _)

/-- Row `j` of block `t`. -/
abbrev row (t : Fin cfg0.N) (j : Fin 512) : Fin 4096 := ⟨t.val * 512 + j.val, by have := lt_of_lt_of_eq t.isLt N_0; omega⟩

section
variable {h : Fin 4096 → Fin 1024 → EReal} {w : Fin 1024 → Fin 2048 → EReal} {b : Fin 2048 → EReal} {cw : ℕ → Fin 512 → EReal} {cb : Fin 512 → EReal} {p : Fin cfg0.N}
  {x0 : FVec Ideal S512x1024 .bf16} {x1 : FVec Ideal S4x1024x512 .bf16} {x2 : FVec Ideal S1x2048 .f32} {x3 : FVec Ideal S32x512 .f32} {x4 : FVec Ideal S1x512 .f32}
  (a0 : ∀ i k, x0 (ix2 i k) = h (row p i) k) (a1 : ∀ (s : Fin 4) k (n : Fin 512), x1 (ix3 s k n) = w k (⟨s.val * 512 + n.val, by omega⟩ : Fin 2048))
  (a2 : ∀ z k, x2 (ix2 z k) = b k) (a3 : ∀ (j : ℕ) (hj : j < 31) k, x3 (ix2 (⟨j, by omega⟩ : Fin 32) k) = cw j k) (a4 : ∀ z k, x4 (ix2 z k) = cb k)

/-! ## The pre-activations -/

/-- A quarter of the weights, and of the bias. -/
abbrev ldw (x : FVec Ideal S4x1024x512 .bf16) (s : ℕ) (inb : ∀ a, (![s, 0, 0] : Fin 3 → ℕ) a + (![1, 1024, 512] : Fin 3 → ℕ) a ≤ S4x1024x512.size a) :=
  View.ld (Val := Elt Ideal) (e' := .bf16) x (Rect.unit (s := S4x1024x512) ![s, 0, 0] ![1, 1024, 512] inb)
abbrev ldb (x : FVec Ideal S1x2048 .f32) (o : ℕ) (inb : ∀ a, (![0, o] : Fin 2 → ℕ) a + (![1, 512] : Fin 2 → ℕ) a ≤ S1x2048.size a) :=
  View.ld (Val := Elt Ideal) (e' := .f32) x (Rect.unit (s := S1x2048) ![0, o] ![1, 512] inb)

include a1 in
theorem lw (s : Fin 4) (inb) (z : Fin 1) (k : Fin 1024) (e : Fin 512) : ldw x1 s.val inb (ix3 z k e) = w k (⟨s.val * 512 + e.val, by omega⟩ : Fin 2048) := by
  rw [← a1]; exact View.ld_unit_apply_of _ _ _ _ _ _ fun a => by fin_cases a <;> simp
include a2 in
theorem lb (o : ℕ) (ho : o + 512 ≤ 2048) (inb) (z : Fin 1) (e : Fin 512) : ldb x2 o inb (ix2 z e) = b (⟨o + e.val, by omega⟩ : Fin 2048) := by
  rw [← a2 z]; exact View.ld_unit_apply_of _ _ _ _ _ _ fun a => by fin_cases a <;> simp

include a0 a1 a2 in
theorem kz (s : Fin 4) {o : ℕ} (ho : o = s.val * 512) (inb inb') (i e : Fin 512) :
    k0_pay6 (F := Ideal) x0 (ldw x1 s.val inb) (ldb x2 o inb') (ix2 i e) = zf h w b (row p i) (⟨o + e.val, by omega⟩ : Fin 2048) := by
  subst ho
  pointwise [k0_pay6, k0_pay5]
  simp only [a0, lw a1, lb a2 (s.val * 512) (by omega), zf]

/-- The pre-activations' stores. -/
def zL (x0 : FVec Ideal S512x1024 .bf16) (x1 : FVec Ideal S4x1024x512 .bf16) (x2 : FVec Ideal S1x2048 .f32) : List (View.Piece (Elt Ideal) S512x2048 .f32) :=
  [⟨Rect.unit ![0, 1536] ![512, 512] inb_S512x2048_S512x512_0_1536, k0_pay10 (F := Ideal) (k0_pay5 x0) (ldw x1 3 inb_S4x1024x512_S1x1024x512_3_0_0) (ldb x2 1536 inb_S1x2048_S1x512_0_1536)⟩,
    ⟨Rect.unit ![0, 1024] ![512, 512] inb_S512x2048_S512x512_0_1024, k0_pay9 (F := Ideal) (k0_pay8 x0 (ldw x1 2 inb_S4x1024x512_S1x1024x512_2_0_0)) (ldb x2 1024 inb_S1x2048_S1x512_0_1024)⟩,
    ⟨Rect.unit ![0, 512] ![512, 512] inb_S512x2048_S512x512_0_512, k0_pay7 (F := Ideal) x0 (ldw x1 1 inb_S4x1024x512_S1x1024x512_1_0_0) (ldb x2 512 inb_S1x2048_S1x512_0_512)⟩,
    ⟨Rect.unit ![0, 0] ![512, 512] inb_S512x2048_S512x512_0_0, k0_pay6 (F := Ideal) x0 (ldw x1 0 inb_S4x1024x512_S1x1024x512_0_0_0) (ldb x2 0 inb_S1x2048_S1x512_0_0)⟩]

/-- A block of the pre-activations. -/
def zF (h : Fin 4096 → Fin 1024 → EReal) (w : Fin 1024 → Fin 2048 → EReal) (b : Fin 2048 → EReal) (p : Fin cfg0.N) (y : S512x2048.Idx) : EReal := zf h w b (row p (y 0)) (y 1)

theorem emb2 {o : ℕ} (ho : o + 512 ≤ 2048) (inb : ∀ a, (![0, o] : Fin 2 → ℕ) a + (![512, 512] : Fin 2 → ℕ) a ≤ S512x2048.size a) (t1 t2 : Fin 512) :
    (Rect.unit (s := S512x2048) ![0, o] ![512, 512] inb).emb (ix2 t1 t2) = ix2 t1 (⟨o + t2.val, by omega⟩ : Fin 2048) := funext fun a => by
  fin_cases a
  · exact Fin.ext (show 0 + 1 * t1.val = t1.val by omega)
  · exact Fin.ext (show o + 1 * t2.val = o + t2.val by omega)

include a0 a1 a2
theorem z_piece (s : Fin 4) {o : ℕ} (ho : o = s.val * 512) (inb inb1 inb2) (t : S512x512.Idx) :
    k0_pay6 (F := Ideal) x0 (ldw x1 s.val inb1) (ldb x2 o inb2) t = zF h w b p ((Rect.unit (s := S512x2048) ![0, o] ![512, 512] inb).emb t) := by
  idx_vars t
  rw [emb2 (by omega)]
  exact kz a0 a1 a2 s ho inb1 inb2 t0 t1

theorem zL_eq : View.canon (zL x0 x1 x2) = zF h w b p := by
  funext y
  refine View.canon_append_of_piecesOf (zF h w b p) [] (zL x0 x1 x2) ⟨?_, ?_, ?_, ?_, trivial⟩ y (View.cover_of_tiledBy (zL x0 x1 x2) ![512, 512] (by sl_kernel_rfl) y)
  · exact z_piece a0 a1 a2 3 rfl inb_S512x2048_S512x512_0_1536 inb_S4x1024x512_S1x1024x512_3_0_0 inb_S1x2048_S1x512_0_1536
  · exact z_piece a0 a1 a2 2 rfl inb_S512x2048_S512x512_0_1024 inb_S4x1024x512_S1x1024x512_2_0_0 inb_S1x2048_S1x512_0_1024
  · exact z_piece a0 a1 a2 1 rfl inb_S512x2048_S512x512_0_512 inb_S4x1024x512_S1x1024x512_1_0_0 inb_S1x2048_S1x512_0_512
  · exact z_piece a0 a1 a2 0 rfl inb_S512x2048_S512x512_0_0 inb_S4x1024x512_S1x1024x512_0_0_0 inb_S1x2048_S1x512_0_0

/-! ## The gated values, and the 32 rows before them -/

/-- Some columns of the pre-activations, read back. -/
abbrev zc (v : View sig .tc .vmem S512x2048 .f32) (x0 : FVec Ideal S512x1024 .bf16) (x1 : FVec Ideal S4x1024x512 .bf16) (x2 : FVec Ideal S1x2048 .f32) (o : ℕ)
    (inb : ∀ a, (![0, o] : Fin 2 → ℕ) a + (![512, 512] : Fin 2 → ℕ) a ≤ S512x2048.size a) : FVec Ideal S512x512 .f32 :=
  v.readCov (Val := Elt Ideal) (zL x0 x1 x2) (Rect.unit (s := S512x2048) ![0, o] ![512, 512] inb).toLoadRect

theorem zc_apply (v : View sig .tc .vmem S512x2048 .f32) {o : ℕ} (ho : o + 512 ≤ 2048) (inb) (i e : Fin 512) :
    zc v x0 x1 x2 o inb (ix2 i e) = zf h w b (row p i) (⟨o + e.val, by omega⟩ : Fin 2048) := by
  rw [zc, View.readCov_eq_canon', zL_eq a0 a1 a2]
  refine congrArg₂ (zf h w b) (Fin.ext ?_) (Fin.ext ?_)
  · exact congrArg (p.val * 512 + ·) (show 0 + 1 * i.val = i.val by omega)
  · exact (show o + 1 * e.val = o + e.val by omega)

theorem ka (v : View sig .tc .vmem S512x2048 .f32) (i e : Fin 512) :
    k0_pay11 (F := Ideal) (zc v x0 x1 x2 0 inb_S512x2048_S512x512_0_0) (zc v x0 x1 x2 512 inb_S512x2048_S512x512_0_512) (ix2 i e) = ap h w b (p.val * 512 + (32 + i.val)) e := by
  pointwise [k0_pay11]
  rw [zc_apply a0 a1 a2 v (by decide), zc_apply a0 a1 a2 v (by decide), ap_row h w b (row p i) e (by show p.val * 512 + (32 + i.val) = 32 + (p.val * 512 + i.val); omega), af, zero_sub]
  exact congrArg₂ (· * ·) (congrArg (zf h w b (row p i)) (Fin.ext (show 0 + e.val = e.val by omega))) rfl

/-- The buffer's stores: the 32 rows before the block's, then the block's. -/
def aL (v : View sig .tc .vmem S512x2048 .f32) (x0 : FVec Ideal S512x1024 .bf16) (x1 : FVec Ideal S4x1024x512 .bf16) (x2 : FVec Ideal S1x2048 .f32)
    (q : FVec Ideal S32x512 .f32) : List (View.Piece (Elt Ideal) S544x512 .f32) :=
  [⟨Rect.unit ![32, 0] ![512, 512] inb_S544x512_S512x512_32_0, k0_pay11 (F := Ideal) (zc v x0 x1 x2 0 inb_S512x2048_S512x512_0_0) (zc v x0 x1 x2 512 inb_S512x2048_S512x512_0_512)⟩,
    ⟨Rect.unit ![0, 0] ![32, 512] inb_S544x512_S32x512_0_0, q⟩]

/-- The buffer at a block. -/
def aF (h : Fin 4096 → Fin 1024 → EReal) (w : Fin 1024 → Fin 2048 → EReal) (b : Fin 2048 → EReal) (p : Fin cfg0.N) (y : S544x512.Idx) : EReal := ap h w b (p.val * 512 + (y 0).val) (y 1)

theorem aL_eq (v : View sig .tc .vmem S512x2048 .f32) {q : FVec Ideal S32x512 .f32} (hq : ∀ i k, q (ix2 i k) = ap h w b (p.val * 512 + i.val) k) :
    View.canon (aL v x0 x1 x2 q) = aF h w b p := by
  funext y
  refine View.canon_append_of_piecesOf (aF h w b p) [] (aL v x0 x1 x2 q) ⟨fun t => ?_, fun t => ?_, trivial⟩ y (View.cover_of_tiledBy (aL v x0 x1 x2 q) ![32, 512] (by sl_kernel_rfl) y)
  · obtain ⟨i, e, rfl⟩ : ∃ (i e : Fin 512), t = ix2 i e := ⟨t 0, t 1, (ix2_eta t).symm⟩
    refine (ka a0 a1 a2 v i e).trans (congrArg₂ (ap h w b) (congrArg (p.val * 512 + ·) ?_) (Fin.ext ?_))
    · exact (show 32 + i.val = 32 + 1 * i.val by omega)
    · exact (show e.val = 0 + 1 * e.val by omega)
  · obtain ⟨i, e, rfl⟩ : ∃ (i : Fin 32) (e : Fin 512), t = ix2 i e := ⟨t 0, t 1, (ix2_eta t).symm⟩
    refine (hq i e).trans (congrArg₂ (ap h w b) (congrArg (p.val * 512 + ·) ?_) (Fin.ext ?_))
    · exact (show i.val = 0 + 1 * i.val by omega)
    · exact (show e.val = 0 + 1 * e.val by omega)
omit a0 a1 a2

/-! ## The convolution: windows of the buffer, shifted by each tap's place -/

section
variable {L : List (View.Piece (Elt Ideal) S544x512 .f32)} (hL : View.canon L = aF h w b p)

/-- Rows of the buffer, from row `o`. -/
abbrev rd (L : List (View.Piece (Elt Ideal) S544x512 .f32)) (o n : ℕ) (inb : ∀ a, (![o, 0] : Fin 2 → ℕ) a + (![n, 512] : Fin 2 → ℕ) a ≤ S544x512.size a) : FVec Ideal ⟨2, ![n, 512]⟩ .f32 :=
  (View.whole cc0_scratch0).readCov (Val := Elt Ideal) L (Rect.unit (s := S544x512) ![o, 0] ![n, 512] inb).toLoadRect

include hL in
theorem rd_apply (o n : ℕ) (inb) (i : Fin n) (e : Fin 512) : rd L o n inb (ix2 i e) = ap h w b (p.val * 512 + i.val + o) e := by
  rw [rd, View.readCov_eq_canon', hL]
  refine congrArg₂ (ap h w b) ?_ (Fin.ext ?_)
  · exact (show p.val * 512 + (o + 1 * i.val) = p.val * 512 + i.val + o by omega)
  · exact (show 0 + 1 * e.val = e.val by omega)

/-- The buffer's shifted copies. -/
def shL (L : List (View.Piece (Elt Ideal) S544x512 .f32)) : List (View.Piece (Elt Ideal) S7x536x512 .f32) :=
  [⟨Rect.unit ![6, 0, 0] ![1, 536, 512] inb_S7x536x512_S1x536x512_6_0_0, k0_pay18 (F := Ideal) (rd L 7 536 inb_S544x512_S536x512_7_0)⟩,
    ⟨Rect.unit ![5, 0, 0] ![1, 536, 512] inb_S7x536x512_S1x536x512_5_0_0, k0_pay17 (F := Ideal) (rd L 6 536 inb_S544x512_S536x512_6_0)⟩,
    ⟨Rect.unit ![4, 0, 0] ![1, 536, 512] inb_S7x536x512_S1x536x512_4_0_0, k0_pay16 (F := Ideal) (rd L 5 536 inb_S544x512_S536x512_5_0)⟩,
    ⟨Rect.unit ![3, 0, 0] ![1, 536, 512] inb_S7x536x512_S1x536x512_3_0_0, k0_pay15 (F := Ideal) (rd L 4 536 inb_S544x512_S536x512_4_0)⟩,
    ⟨Rect.unit ![2, 0, 0] ![1, 536, 512] inb_S7x536x512_S1x536x512_2_0_0, k0_pay14 (F := Ideal) (rd L 3 536 inb_S544x512_S536x512_3_0)⟩,
    ⟨Rect.unit ![1, 0, 0] ![1, 536, 512] inb_S7x536x512_S1x536x512_1_0_0, k0_pay13 (F := Ideal) (rd L 2 536 inb_S544x512_S536x512_2_0)⟩,
    ⟨Rect.unit ![0, 0, 0] ![1, 536, 512] inb_S7x536x512_S1x536x512_0_0_0, k0_pay12 (F := Ideal) (rd L 1 536 inb_S544x512_S536x512_1_0)⟩]

/-- The shifted copies at a block. -/
def shF (h : Fin 4096 → Fin 1024 → EReal) (w : Fin 1024 → Fin 2048 → EReal) (b : Fin 2048 → EReal) (p : Fin cfg0.N) (y : S7x536x512.Idx) : EReal :=
  ap h w b (p.val * 512 + (y 1).val + ((y 0).val + 1)) (y 2)

include hL in
theorem sh_piece (r : ℕ) (inb inb1) (t : S1x536x512.Idx) :
    k0_pay12 (F := Ideal) (rd L (r + 1) 536 inb1) t = shF h w b p ((Rect.unit (s := S7x536x512) ![r, 0, 0] ![1, 536, 512] inb).emb t) := by
  obtain ⟨z, i, e, rfl⟩ : ∃ (z : Fin 1) (i : Fin 536) (e : Fin 512), t = ix3 z i e := ⟨t 0, t 1, t 2, (ix3_eta t).symm⟩
  pointwise [k0_pay12]
  refine (rd_apply hL (r + 1) 536 inb1 i e).trans (congrArg₂ (ap h w b) ?_ (Fin.ext ?_))
  · exact (show p.val * 512 + i.val + (r + 1) = p.val * 512 + (0 + 1 * i.val) + ((r + 1 * z.val) + 1) by omega)
  · exact (show e.val = 0 + 1 * e.val by omega)

include hL in
theorem shL_eq : View.canon (shL L) = shF h w b p := by
  funext y
  refine View.canon_append_of_piecesOf (shF h w b p) [] (shL L) ⟨?_, ?_, ?_, ?_, ?_, ?_, ?_, trivial⟩ y (View.cover_of_tiledBy (shL L) ![1, 536, 512] (by sl_kernel_rfl) y)
  · exact sh_piece hL 6 inb_S7x536x512_S1x536x512_6_0_0 inb_S544x512_S536x512_7_0
  · exact sh_piece hL 5 inb_S7x536x512_S1x536x512_5_0_0 inb_S544x512_S536x512_6_0
  · exact sh_piece hL 4 inb_S7x536x512_S1x536x512_4_0_0 inb_S544x512_S536x512_5_0
  · exact sh_piece hL 3 inb_S7x536x512_S1x536x512_3_0_0 inb_S544x512_S536x512_4_0
  · exact sh_piece hL 2 inb_S7x536x512_S1x536x512_2_0_0 inb_S544x512_S536x512_3_0
  · exact sh_piece hL 1 inb_S7x536x512_S1x536x512_1_0_0 inb_S544x512_S536x512_2_0
  · exact sh_piece hL 0 inb_S7x536x512_S1x536x512_0_0_0 inb_S544x512_S536x512_1_0

/-- Rows of a shifted copy, and a tap. -/
abbrev rs (L : List (View.Piece (Elt Ideal) S544x512 .f32)) (r o : ℕ) (inb : ∀ a, (![r, o, 0] : Fin 3 → ℕ) a + (![1, 512, 512] : Fin 3 → ℕ) a ≤ S7x536x512.size a) : FVec Ideal S1x512x512 .f32 :=
  (View.whole cc0_scratch1).readCov (Val := Elt Ideal) (shL L) (Rect.unit (s := S7x536x512) ![r, o, 0] ![1, 512, 512] inb).toLoadRect
abbrev tp (x : FVec Ideal S32x512 .f32) (j : ℕ) (inb : ∀ a, (![j, 0] : Fin 2 → ℕ) a + (![1, 512] : Fin 2 → ℕ) a ≤ S32x512.size a) : FVec Ideal S1x512 .f32 :=
  View.ld (Val := Elt Ideal) (e' := .f32) x (Rect.unit (s := S32x512) ![j, 0] ![1, 512] inb)

include hL in
theorem rs_apply (r o : ℕ) (inb) (z : Fin 1) (i e : Fin 512) : rs L r o inb (ix3 z i e) = ap h w b (p.val * 512 + i.val + (r + 1 + o)) e := by
  rw [rs, View.readCov_eq_canon', shL_eq hL]
  refine congrArg₂ (ap h w b) ?_ (Fin.ext ?_)
  · exact (show p.val * 512 + (o + 1 * i.val) + ((r + 1 * z.val) + 1) = p.val * 512 + i.val + (r + 1 + o) by omega)
  · exact (show 0 + 1 * e.val = e.val by omega)
include a3 in
theorem tp_apply (j : ℕ) (inb) (hj : j < 31) (z : Fin 1) (e : Fin 512) : tp x3 j inb (ix2 z e) = cw j e := by
  rw [← a3 j hj]; exact View.ld_unit_apply_of _ _ _ _ _ _ fun a => by fin_cases a <;> simp

/-- The convolution's value: one tap after another. -/
def cE (L : List (View.Piece (Elt Ideal) S544x512 .f32)) (x3 : FVec Ideal S32x512 .f32) (x4 : FVec Ideal S1x512 .f32) : FVec Ideal S512x512 .f32 :=
  k0_pay29 (F := Ideal) (k0_pay27 (F := Ideal) (k0_pay25 (F := Ideal) (k0_pay24 (F := Ideal) (k0_pay23 (F := Ideal) (k0_pay22 (F := Ideal) (k0_pay19 (F := Ideal) (tp x3 0 inb_S32x512_S1x512_0_0) (rs L 1 0 inb_S7x536x512_S1x512x512_1_0_0) (tp x3 1 inb_S32x512_S1x512_1_0) (rs L 2 0 inb_S7x536x512_S1x512x512_2_0_0) (tp x3 2 inb_S32x512_S1x512_2_0) (rs L 3 0 inb_S7x536x512_S1x512x512_3_0_0) (tp x3 3 inb_S32x512_S1x512_3_0) (rs L 4 0 inb_S7x536x512_S1x512x512_4_0_0)) (k0_pay20 (rs L 5 0 inb_S7x536x512_S1x512x512_5_0_0)) (k0_pay21 (tp x3 4 inb_S32x512_S1x512_4_0)) (tp x3 5 inb_S32x512_S1x512_5_0) (rs L 6 0 inb_S7x536x512_S1x512x512_6_0_0) (tp x3 6 inb_S32x512_S1x512_6_0) (rd L 8 512 inb_S544x512_S512x512_8_0) (tp x3 7 inb_S32x512_S1x512_7_0) (rs L 0 8 inb_S7x536x512_S1x512x512_0_8_0) (tp x3 8 inb_S32x512_S1x512_8_0) (rs L 1 8 inb_S7x536x512_S1x512x512_1_8_0) (tp x3 9 inb_S32x512_S1x512_9_0) (rs L 2 8 inb_S7x536x512_S1x512x512_2_8_0)) (tp x3 10 inb_S32x512_S1x512_10_0) (rs L 3 8 inb_S7x536x512_S1x512x512_3_8_0) (tp x3 11 inb_S32x512_S1x512_11_0) (rs L 4 8 inb_S7x536x512_S1x512x512_4_8_0) (tp x3 12 inb_S32x512_S1x512_12_0) (rs L 5 8 inb_S7x536x512_S1x512x512_5_8_0) (tp x3 13 inb_S32x512_S1x512_13_0) (rs L 6 8 inb_S7x536x512_S1x512x512_6_8_0) (tp x3 14 inb_S32x512_S1x512_14_0) (rd L 16 512 inb_S544x512_S512x512_16_0))
      (tp x3 15 inb_S32x512_S1x512_15_0) (rs L 0 16 inb_S7x536x512_S1x512x512_0_16_0) (tp x3 16 inb_S32x512_S1x512_16_0) (rs L 1 16 inb_S7x536x512_S1x512x512_1_16_0) (tp x3 17 inb_S32x512_S1x512_17_0) (rs L 2 16 inb_S7x536x512_S1x512x512_2_16_0) (tp x3 18 inb_S32x512_S1x512_18_0) (rs L 3 16 inb_S7x536x512_S1x512x512_3_16_0) (tp x3 19 inb_S32x512_S1x512_19_0) (rs L 4 16 inb_S7x536x512_S1x512x512_4_16_0)) (tp x3 20 inb_S32x512_S1x512_20_0) (rs L 5 16 inb_S7x536x512_S1x512x512_5_16_0) (tp x3 21 inb_S32x512_S1x512_21_0) (rs L 6 16 inb_S7x536x512_S1x512x512_6_16_0) (tp x3 22 inb_S32x512_S1x512_22_0) (rd L 24 512 inb_S544x512_S512x512_24_0) (tp x3 23 inb_S32x512_S1x512_23_0) (rs L 0 24 inb_S7x536x512_S1x512x512_0_24_0) (tp x3 24 inb_S32x512_S1x512_24_0) (rs L 1 24 inb_S7x536x512_S1x512x512_1_24_0)) (k0_pay26 (tp x3 25 inb_S32x512_S1x512_25_0)) (rs L 2 24 inb_S7x536x512_S1x512x512_2_24_0) (tp x3 26 inb_S32x512_S1x512_26_0) (rs L 3 24 inb_S7x536x512_S1x512x512_3_24_0) (tp x3 27 inb_S32x512_S1x512_27_0) (rs L 4 24 inb_S7x536x512_S1x512x512_4_24_0) (tp x3 28 inb_S32x512_S1x512_28_0) (rs L 5 24 inb_S7x536x512_S1x512x512_5_24_0) (tp x3 29 inb_S32x512_S1x512_29_0) (rs L 6 24 inb_S7x536x512_S1x512x512_6_24_0))
      (k0_pay28 (tp x3 30 inb_S32x512_S1x512_30_0)) (rd L 32 512 inb_S544x512_S512x512_32_0) x4

include hL a3 a4 in
theorem cE_apply (i e : Fin 512) : cE L x3 x4 (ix2 i e) = cf h w b cw cb (row p i) e := by
  pointwise [cE, k0_pay19, k0_pay20, k0_pay21, k0_pay22, k0_pay23, k0_pay24, k0_pay25, k0_pay26, k0_pay27, k0_pay28, k0_pay29]
  simp (disch := decide) only [tp_apply a3, rs_apply hL, rd_apply hL, a4, cf, Finset.sum_range_succ, Finset.sum_range_zero, Nat.reduceAdd, zero_add]
end
end

/-! ## The arrays -/

variable {m : (ℓ : Loc nD τ sig) → Buf (Elt Ideal) ℓ} {c : Dev nD} {h : Fin 4096 → Fin 1024 → EReal} {w : Fin 1024 → Fin 2048 → EReal} {b : Fin 2048 → EReal}
  {cw : ℕ → Fin 512 → EReal} {cb : Fin 512 → EReal}
  (a0 : ∀ i k, (show FVec Ideal S4096x1024 .f32 from m ((c : Thread nD τ).loc main_arg0)) (ix2 i k) = h i k)
  (a1 : ∀ i k, (show FVec Ideal S1024x2048 .f32 from m ((c : Thread nD τ).loc main_arg1)) (ix2 i k) = w i k)
  (a2 : ∀ k, (show FVec Ideal S2048 .f32 from m ((c : Thread nD τ).loc main_arg2)) (ix1 k) = b k)
  (a3 : ∀ (j : Fin 31) k, (show FVec Ideal S31x512 .f32 from m ((c : Thread nD τ).loc main_arg3)) (ix2 j k) = cw j.val k)
  (a4 : ∀ k, (show FVec Ideal S512 .f32 from m ((c : Thread nD τ).loc main_arg4)) (ix1 k) = cb k)

/-- The weights' columns in four quarters. -/
theorem quartersw (X : FVec Ideal S1024x2048 .f32) (s : Fin 4) (k : Fin 1024) (n : Fin 512) :
    truncf (F := Ideal) .bf16 (transpose S4x1024x512 [1, 0, 2] (shapeCast S1024x4x512 X shapeCasts_S1024x2048_S1024x4x512) transposes_S1024x4x512_S4x1024x512_1_0_2) bitsLt_bf16_f32 (ix3 s k n)
      = X (ix2 k (⟨s.val * 512 + n.val, by omega⟩ : Fin 2048)) := by
  pointwise []

include a0 in
theorem b0 (p : Fin cfg0.N) (j : Fin 512) (k : Fin 1024) : (show FVec Ideal S512x1024 .bf16 from iblk m c 0 p) (ix2 j k) = h (row p j) k := by
  rw [← a0]; blk_ext [iblk, V, idx p]
include a1 in
theorem hw (s : Fin 4) (k : Fin 1024) (n : Fin 512) : (show FVec Ideal S4x1024x512 .bf16 from V m c main_v14) (ix3 s k n) = w k (⟨s.val * 512 + n.val, by omega⟩ : Fin 2048) := by
  entry_read
  exact (quartersw _ s k n).trans (a1 k _)
include a1 in
theorem b1 (p : Fin cfg0.N) (s : Fin 4) (k : Fin 1024) (n : Fin 512) : (show FVec Ideal S4x1024x512 .bf16 from iblk m c 1 p) (ix3 s k n) = w k (⟨s.val * 512 + n.val, by omega⟩ : Fin 2048) := by
  rw [← hw a1 s k n]; blk_ext [iblk, idx p]
include a2 in
theorem hb (z : Fin 1) (k : Fin 2048) : (show FVec Ideal S1x2048 .f32 from V m c main_v16) (ix2 z k) = b k := by
  have e : V m c main_v16 = shapeCast S1x2048 (show FVec Ideal S2048 .f32 from m ((c : Thread nD τ).loc main_arg2)) shapeCasts_S2048_S1x2048 := by sl_kernel_rfl
  rw [e, ← a2]; pointwise []
include a2 in
theorem b2 (p : Fin cfg0.N) (z : Fin 1) (k : Fin 2048) : (show FVec Ideal S1x2048 .f32 from iblk m c 2 p) (ix2 z k) = b k := by
  rw [← hb a2 z k]; blk_ext [iblk, idx p]
include a3 in
theorem hcw (j : ℕ) (hj : j < 31) (k : Fin 512) : (show FVec Ideal S32x512 .f32 from V m c main_v0) (ix2 (⟨j, by omega⟩ : Fin 32) k) = cw j k := by
  have e : V m c main_v0 = pad S32x512 ![0, 0] ![1, 0] ![0, 0] (show FVec Ideal S31x512 .f32 from m ((c : Thread nD τ).loc main_arg3))
      (sitofp (F := Ideal) .f32 (constantI S_ 32 0#32)) pads_S31x512_S32x512_010_000 h_S_ := by sl_kernel_rfl
  rw [e, ← a3 ⟨j, hj⟩ k]
  pointwise []
  simp [hj]
include a3 in
theorem b3 (p : Fin cfg0.N) (j : ℕ) (hj : j < 31) (k : Fin 512) : (show FVec Ideal S32x512 .f32 from iblk m c 3 p) (ix2 (⟨j, by omega⟩ : Fin 32) k) = cw j k := by
  rw [← hcw a3 j hj k]; blk_ext [iblk, idx p]
include a4 in
theorem hcb (z : Fin 1) (k : Fin 512) : (show FVec Ideal S1x512 .f32 from V m c main_v17) (ix2 z k) = cb k := by
  have e : V m c main_v17 = shapeCast S1x512 (show FVec Ideal S512 .f32 from m ((c : Thread nD τ).loc main_arg4)) shapeCasts_S512_S1x512 := by sl_kernel_rfl
  rw [e, ← a4]; pointwise []
include a4 in
theorem b4 (p : Fin cfg0.N) (z : Fin 1) (k : Fin 512) : (show FVec Ideal S1x512 .f32 from iblk m c 4 p) (ix2 z k) = cb k := by
  rw [← hcb a4 z k]; blk_ext [iblk, idx p]

/-- The rows kept from the block before. -/
theorem halo {X : FVec Ideal S544x512 .f32} {p' p : Fin cfg0.N} (hX : X = aF h w b p') (hp : p'.val + 1 = p.val) (inb) (i : Fin 32) (k : Fin 512) :
    k0_pay4 (F := Ideal) (View.ld (Val := Elt Ideal) (e' := .f32) X (Rect.unit (s := S544x512) ![512, 0] ![32, 512] inb)) (ix2 i k) = ap h w b (p.val * 512 + i.val) k := by
  pointwise [k0_pay4]
  rw [hX, ← hp]
  exact congrArg (fun n => ap h w b n k) (show p'.val * 512 + (512 + i.val) = (p'.val + 1) * 512 + i.val by omega)

include a0 a1 a2

theorem final_z : (dats m 0 c).arrAt 11 cfg0.N = fun i : S4096x2048.Idx => zf h w b (i 0) (i 1) := by
  refine (dats m 0 c).arrAt_eq_of_covers 11 _ (by decide +kernel) fun p _ y => ?_
  have key : ∀ y : S512x2048.Idx, View.canon (zL (iblk m c 0 p) (iblk m c 1 p) (iblk m c 2 p)) y
      = zf h w b (((View.whole main_v22_0).slice (win0_11.rect p)).emb y 0) (((View.whole main_v22_0).slice (win0_11.rect p)).emb y 1) := by
    intro y
    rw [zL_eq (b0 a0 p) (b1 a1 p) (b2 a2 p)]
    refine congrArg₂ (zf h w b) (Fin.ext ?_) (Fin.ext ?_) <;> blk_simp [idx p]
  blk_simp
  rw [after0_11]
  by_cases hp : p.val % 8 = 0
  · have := lt_of_lt_of_eq p.isLt N_0
    rw [outsAt0_A m c p hp (by omega)]; frame_out
    exact key y
  · rw [outsAt0_B m c p hp (by omega)]; frame_out
    exact key y

/-- What the buffer holds after a block. -/
theorem buf (n : ℕ) : ∀ hn : n < cfg0.N, (outsAt0 m c n hn).2.2.2 = aF h w b ⟨n, hn⟩ := by
  induction n with
  | zero =>
    intro hn
    rw [outsAt0_A m c ⟨0, hn⟩ rfl (by simp)]; frame_out
    exact aL_eq (b0 a0 ⟨0, hn⟩) (b1 a1 ⟨0, hn⟩) (b2 a2 ⟨0, hn⟩) (ms0_11 ⟨0, hn⟩).view (q := k0_pay3 (F := Ideal)) fun i k => by
      rw [ap_zero h w b k (by show 0 * 512 + i.val < 32; omega)]; pointwise [k0_pay3]
  | succ n ih =>
    intro hn
    have hn' := lt_of_lt_of_eq hn N_0
    rw [outsAt0_B m c ⟨n + 1, hn⟩ (by show ¬(n + 1) % 8 = 0; omega) (by show 1 ≤ n + 1; omega)]; frame_out
    rw [read_unread_whole]
    exact aL_eq (b0 a0 ⟨n + 1, hn⟩) (b1 a1 ⟨n + 1, hn⟩) (b2 a2 ⟨n + 1, hn⟩) (ms0_11 ⟨n + 1, hn⟩).view (halo (p' := ⟨n, by omega⟩) (ih _) rfl inb_S544x512_S32x512_512_0)

include a3 a4 in
theorem final_c : (dats m 0 c).arrAt 13 cfg0.N = fun i : S4096x512.Idx => cf h w b cw cb (i 0) (i 1) := by
  refine (dats m 0 c).arrAt_eq_of_covers 13 _ (by decide +kernel) fun p _ y => ?_
  have hp' := lt_of_lt_of_eq p.isLt N_0
  have key : ∀ q : FVec Ideal S32x512 .f32, (∀ i k, q (ix2 i k) = ap h w b (p.val * 512 + i.val) k) → ∀ y : S512x512.Idx,
      cE (aL (ms0_11 p).view (iblk m c 0 p) (iblk m c 1 p) (iblk m c 2 p) q) (iblk m c 3 p) (iblk m c 4 p) y
        = cf h w b cw cb (((View.whole main_v22_2).slice (win0_13.rect p)).emb y 0) (((View.whole main_v22_2).slice (win0_13.rect p)).emb y 1) := by
    intro q hq y
    obtain ⟨i, e, rfl⟩ : ∃ (i e : Fin 512), y = ix2 i e := ⟨y 0, y 1, (ix2_eta y).symm⟩
    rw [cE_apply (b3 a3 p) (b4 a4 p) (aL_eq (b0 a0 p) (b1 a1 p) (b2 a2 p) _ hq)]
    refine congrArg₂ (cf h w b cw cb) (Fin.ext ?_) (Fin.ext ?_) <;> blk_simp [idx p]
  blk_simp
  rw [after0_13]
  by_cases hp : p.val % 8 = 0
  · rw [outsAt0_A m c p hp (by omega)]; frame_out
    refine key (k0_pay3 (F := Ideal)) (fun i k => ?_) y
    rw [ap_zero h w b k (by omega)]; pointwise [k0_pay3]
  · rw [outsAt0_B m c p hp (by omega)]; frame_out
    rw [read_unread_whole]
    exact key _ (halo (p' := ⟨p.val - 1, lt_of_le_of_lt (Nat.sub_le _ _) p.isLt⟩) (buf a0 a1 a2 _ _) (by show p.val - 1 + 1 = p.val; omega) inb_S544x512_S32x512_512_0) y

end Cert.SeqmixFwdIdeal.Arrays

end
-- ==== Proof.SeqmixFwdClaim.lean ====
/- The claims about the mixer, forward. -/
module

public import proofs.«01_k».proof.Defs
public import proofs.«01_k».proof.Proof.SeqFwdValue
public import proofs.«01_k».proof.Proof.Gen.SeqmixFwd.Frame
public import Idealize.ShloMosaic.Lib.Claim

@[expose] public section

set_option maxRecDepth 16384

noncomputable section

open Idealize.ShloMosaic Idealize.ShloMosaic.TcCoe Idealize.SL.Sem Idealize.ShloMosaic.StableHlo Cert.Reals

namespace Cert.Proof

open Cert.SeqmixFwdIdeal Cert.SeqmixFwdIdeal.Arrays Cert.SeqmixFwdRefIdeal.Rows Cert.SeqmixFwdRefIdeal.Read in
theorem seqmixfwd_value : Cert.algebraic_SeqmixFwdIdeal_SeqmixFwdRefIdeal := by
  intro m g m' g' _ hagree
  refine ⟨_, _, θ_run_mono (Cert.SeqmixFwdIdeal.Value.run_blocks m g) fun r h c => ⟨(h c).1, (h c).2.2.1, (h c).2.2.2⟩, (θ_run _ _ _).mono (fun r h c => ?_) (Cert.SeqmixFwdRefIdeal.Value.run m' g')⟩
  obtain ⟨_, a0⟩ := entries2 (m ((c : Thread nD τ).loc main_arg0))
  obtain ⟨_, a1⟩ := entries2 (m ((c : Thread nD τ).loc main_arg1))
  obtain ⟨_, a2⟩ := entries1 (m ((c : Thread nD τ).loc main_arg2))
  obtain ⟨_, a3⟩ := Cert.SeqFwd.Real.entriesN (m ((c : Thread nD τ).loc main_arg3))
  obtain ⟨_, a4⟩ := entries1 (m ((c : Thread nD τ).loc main_arg4))
  obtain ⟨e0, e1, e2, e3, e4, -⟩ := hagree c
  obtain ⟨r0, r1, k⟩ := h c
  refine ⟨(r0.trans (val_main_v3_eq _ _ _)).trans ?_, (r1.trans (val_main_v31_eq _ _ _ _ _)).trans ?_, k⟩
  · rw [e0, e1, e2]
    refine Eq.trans (funext fun i => ?_) (final_z a0 a1 a2).symm
    idx_vars i
    exact rz a0 a1 a2 _ _
  · rw [e0, e1, e2, e3, e4]
    refine Eq.trans (funext fun i => ?_) (final_c a0 a1 a2 a3 a4).symm
    idx_vars i
    exact rc a0 a1 a2 a3 a4 _ _

theorem seqmixfwd : ∃ (hSeqmixFwd : Cert.SeqmixFwd.Facts) (hSeqmixFwdIdeal : Cert.SeqmixFwdIdeal.Facts) (hSeqmixFwdRefIdeal : Cert.SeqmixFwdRefIdeal.Facts),
    quiescent_SeqmixFwd (hSeqmixFwd := hSeqmixFwd)
    ∧ quiescent_SeqmixFwdIdeal (hSeqmixFwdIdeal := hSeqmixFwdIdeal)
    ∧ quiescent_SeqmixFwdRefIdeal (hSeqmixFwdRefIdeal := hSeqmixFwdRefIdeal)
    ∧ preserves_SeqmixFwd_SeqmixFwdIdeal
    ∧ algebraic_SeqmixFwdIdeal_SeqmixFwdRefIdeal (hSeqmixFwdIdeal := hSeqmixFwdIdeal) (hSeqmixFwdRefIdeal := hSeqmixFwdRefIdeal) :=
  ⟨Cert.SeqmixFwd.Gen.facts, Cert.SeqmixFwdIdeal.Gen.facts, Cert.SeqmixFwdRefIdeal.Gen.facts,
    fun m ρ _ => Cert.SeqmixFwd.Gen.frame m ρ, fun m ρ _ => Cert.SeqmixFwdIdeal.Gen.frame m ρ,
    fun m ρ _ => (θ_run_mono (Cert.SeqmixFwdRefIdeal.Value.run m ρ) fun r h => ⟨fun c => (h c).2.2, sem_eq_zero_of_no_sems rfl r.2⟩), trivial, seqmixfwd_value⟩

end Cert.Proof

end
-- ==== Proof.SwapProtocol.lean ====
/- The exchange of halves between the two cores of a chip: who signals, copies and waits, and what each hands over.

   A device and its sibling first greet each other on the runtime's barrier semaphore: a signal hands the
   sibling this device's two landing buffers. Each then copies one half of each of its two arrays into the
   sibling's buffers, and waits for its own copies to have left and for the sibling's to have arrived. -/
module

public import proofs.«01_k».proof.Proof.Gen.SwapIdeal
public import proofs.«01_k».proof.Proof.Gen.SwapIdeal.Skeleton
public import proofs.«01_k».proof.Proof.Gen.SwapIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.SwapProof

open Cert.SwapIdeal Cert.SwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two copies of the rounds library: the pipeline's, and the exchange's with one duty for each cell. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Devices, arrays and cells -/

set_option backward.proofsInPublic true in
/-- The other core of the chip. -/
def sib (c : Dev nD) : Dev nD := ⟨2 * (c.val / 2) + (1 - c.val % 2), by have h : c.val < 8 := c.isLt; show _ < 8; omega⟩

theorem sib_sib (c : Dev nD) : sib (sib c) = c := by revert c; decide
theorem sib_ne (c : Dev nD) : sib c ≠ c := by revert c; decide

theorem dev1_eq (c : Dev nD) : (⟨k0_dev1 c, k0_dev1_lt c⟩ : Dev nD) = sib c := by revert c; decide
theorem dev2_eq (c : Dev nD) : (⟨k0_dev2 c, k0_dev2_lt c⟩ : Dev nD) = sib c := by revert c; decide
theorem dev3_eq (c : Dev nD) : (⟨k0_dev3 c, k0_dev3_lt c⟩ : Dev nD) = sib c := by revert c; decide

/-- The half that a device sends of each array, and where the sibling's lands. -/
abbrev half0 (c : Dev nD) : Memref sig .tc .hbm S1x1x640x128 .f32 :=
  (Memref.whole main_arg0 : Memref sig .tc .hbm S1x2x640x128 .f32).slice (Rect.unit (s := S1x2x640x128) (k0_off1 c) S1x1x640x128.size (k0_off1_inb c)) (fun _ => rfl)
abbrev half1 (c : Dev nD) : Memref sig .tc .hbm S1x1x8x128 .f32 :=
  (Memref.whole main_arg1 : Memref sig .tc .hbm S1x2x8x128 .f32).slice (Rect.unit (s := S1x2x8x128) (k0_off2 c) S1x1x8x128.size (k0_off2_inb c)) (fun _ => rfl)
abbrev land0 : Memref sig .tc .hbm S1x1x640x128 .f32 := Memref.whole main_v1_0
abbrev land1 : Memref sig .tc .hbm S1x1x8x128 .f32 := Memref.whole main_v1_1

abbrev barS : Sem sig := (SemArray.scalar (sig.barrier 0 rfl) : Sems sig S_).sem
abbrev sent0 : DmaSem sig := ((cc0_scratch0.slice (Rect.unit (s := S2) ![0] S1.size inb_S2_S1_0) : DmaSems sig S1).squeeze S_ squeezes_S1_S_).sem
abbrev sent1 : DmaSem sig := ((cc0_scratch0.slice (Rect.unit (s := S2) ![1] S1.size inb_S2_S1_1) : DmaSems sig S1).squeeze S_ squeezes_S1_S_).sem
abbrev here0 : DmaSem sig := ((cc0_scratch1.slice (Rect.unit (s := S2) ![0] S1.size inb_S2_S1_0) : DmaSems sig S1).squeeze S_ squeezes_S1_S_).sem
abbrev here1 : DmaSem sig := ((cc0_scratch1.slice (Rect.unit (s := S2) ![1] S1.size inb_S2_S1_1) : DmaSems sig S1).squeeze S_ squeezes_S1_S_).sem

/-- The five semaphores of a device: the barrier, the two that count what has left, the two that count what has arrived. -/
abbrev csem : Fin 5 → SemLoc sig := fun | 0 => .reg barS | 1 => .dma sent0 | 2 => .dma sent1 | 3 => .dma here0 | 4 => .dma here1
/-- The four of them that are the kernel's own. -/
abbrev osem : Fin 4 → SemLoc sig := fun | 0 => .dma sent0 | 1 => .dma sent1 | 2 => .dma here0 | 3 => .dma here1
abbrev cell (ck : Dev nD × Fin 5) : GSem nD τ sig := ((ck.1 : Thread nD τ), csem ck.2)

theorem csem_injective : Function.Injective csem := by decide

/-- Which of the five a semaphore is. -/
def which (s : SemLoc sig) : Option (Fin 5) := (List.finRange 5).find? fun k => decide (csem k = s)
theorem which_csem (k : Fin 5) : which (csem k) = some k := by revert k; decide
theorem csem_of_which {s : SemLoc sig} {k : Fin 5} (h : which s = some k) : s = csem k := by
  have := List.find?_some h; exact (of_decide_eq_true this).symm

theorem cell_injective : Function.Injective (cell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## Contents -/

abbrev N0 : ℕ := land0.view.dmaCredit
abbrev N1 : ℕ := land1.view.dmaCredit

/-- What device `c` sends of its arrays. -/
def out0 (c : Dev nD) : S1x1x640x128.Idx → Elt F .f32 := (half0 c).view.read (Elt F) (m ((c : Thread nD τ).loc main_arg0))
def out1 (c : Dev nD) : S1x1x8x128.Idx → Elt F .f32 := (half1 c).view.read (Elt F) (m ((c : Thread nD τ).loc main_arg1))

def src0 (c : Dev nD) : sProp 𝕄 := (half0 c).view.loc (c : Thread nD τ) ↦[(half0 c).view.set]{fullShare} m ((c : Thread nD τ).loc main_arg0)
def src1 (c : Dev nD) : sProp 𝕄 := (half1 c).view.loc (c : Thread nD τ) ↦[(half1 c).view.set]{fullShare} m ((c : Thread nD τ).loc main_arg1)
def dst0 (c : Dev nD) (f : Buf (Elt F) ((c : Thread nD τ).loc main_v1_0)) : sProp 𝕄 := land0.view.loc (c : Thread nD τ) ↦[land0.view.set]{fullShare} f
def dst1 (c : Dev nD) (f : Buf (Elt F) ((c : Thread nD τ).loc main_v1_1)) : sProp 𝕄 := land1.view.loc (c : Thread nD τ) ↦[land1.view.set]{fullShare} f

omit [FloatOps F] in
theorem dst0_eq (c : Dev nD) (f : Buf (Elt F) ((c : Thread nD τ).loc main_v1_0)) :
    (dst0 c f : sProp 𝕄) = (((c : Thread nD τ).loc main_v1_0) ↦{fullShare} f) := by unfold dst0; rw [View.set_whole]
omit [FloatOps F] in
theorem dst1_eq (c : Dev nD) (f : Buf (Elt F) ((c : Thread nD τ).loc main_v1_1)) :
    (dst1 c f : sProp 𝕄) = (((c : Thread nD τ).loc main_v1_1) ↦{fullShare} f) := by unfold dst1; rw [View.set_whole]

/-! ## The schedule -/

def amt : Fin 5 → ℕ := fun | 0 => 1 | 1 => N0 | 2 => N1 | 3 => N0 | 4 => N1
theorem amt_pos (k : Fin 5) : 0 < amt k := by
  fin_cases k
  exacts [Nat.one_pos, View.dmaCredit_pos _ (by decide), View.dmaCredit_pos _ (by decide), View.dmaCredit_pos _ (by decide), View.dmaCredit_pos _ (by decide)]

/-- What a unit on each of device `c`'s cells hands to `c`: on the barrier the sibling's landing buffers; of what has left,
    its half again; of what has arrived, the buffer with the sibling's half. -/
def pay : Fin 5 → Dev nD → sProp 𝕄
  | 0, c => iprop((∃ f, dst0 (sib c) f) ∗ ∃ f, dst1 (sib c) f)
  | 1, c => src0 m c
  | 2, c => src1 m c
  | 3, c => dst0 c (out0 m (sib c))
  | 4, c => dst1 c (out1 m (sib c))

omit [FloatOps F] in
instance pay_storable (k : Fin 5) (c : Dev nD) : BI.Storable (upEmb : UEmb _ 𝕄) (pay m k c) := by
  unfold pay src0 src1 dst0 dst1; split <;> infer_instance

/-- One round: each of a device's five cells has one duty. -/
def plan : Rounds.Schedule (GSem nD τ sig) Unit 𝕄 where
  duties g r := if r = 0 ∧ g.1.2 = .tc ∧ (which g.2).isSome then {()} else ∅
  unitless _ := False
  amount g _ _ := ((which g.2).map amt).getD 1
  payload g _ _ := match which g.2 with
    | some k => pay m k g.1.1
    | none => iprop(emp)
  amount_pos g _ _ _ := by
    cases which g.2 with
    | none => exact Nat.one_pos
    | some k => exact amt_pos k

omit [FloatOps F] in
instance plan_storable (g : GSem nD τ sig) (r : ℕ) (d : Unit) : BI.Storable (upEmb : UEmb _ 𝕄) ((plan (F := F) m).payload g r d) := by
  show BI.Storable upEmb (match which g.2 with | some k => pay m k g.1.1 | none => iprop(emp))
  split <;> infer_instance

section Tables
variable (c : Dev nD) (k : Fin 5)

omit [FloatOps F] in
theorem duties_cell : (plan (F := F) m).duties (cell (c, k)) 0 = {()} :=
  if_pos ⟨rfl, rfl, by show (which (csem k)).isSome = true; rw [which_csem]; rfl⟩
omit [FloatOps F] in
theorem mem_duties : () ∈ (plan (F := F) m).duties (cell (c, k)) 0 := by rw [duties_cell]; exact Finset.mem_singleton_self _
omit [FloatOps F] in
theorem duties_later (g : GSem nD τ sig) : ∀ r, 1 ≤ r → (plan (F := F) m).duties g r = ∅ := fun r hr => if_neg fun h => by omega
omit [FloatOps F] in
theorem amount_cell : (plan (F := F) m).amount (cell (c, k)) 0 () = amt k := by
  show ((which (csem k)).map amt).getD 1 = amt k; rw [which_csem]; rfl
omit [FloatOps F] in
theorem expect_cell : (plan (F := F) m).expect (cell (c, k)) 0 = amt k := by
  unfold Schedule.expect Schedule.amountOf; rw [duties_cell, Finset.sum_singleton, amount_cell]
omit [FloatOps F] in
theorem payload_cell : (plan (F := F) m).payload (cell (c, k)) 0 () = pay m k c := by
  show (match which (csem k) with | some k => pay m k c | none => iprop(emp)) = _; rw [which_csem]
omit [FloatOps F] in
theorem rest_cell : bigSep ((plan (F := F) m).duties (cell (c, k)) 0 \ ∅) (fun d => (plan (F := F) m).payload (cell (c, k)) 0 d) = pay m k c := by
  rw [Finset.sdiff_empty, duties_cell, bigSep_singleton, payload_cell]

end Tables

/-! ## What each device owes, and the levels -/

/-- Once greeted, a device owes the sibling its two arrivals; before, a greeting too. -/
def owed1 (c : Dev nD) : CellTallies nD τ sig Unit := tallyAt (cell (sib c, 4)) () N1 + tallyAt (cell (sib c, 3)) () N0
def owed0 (c : Dev nD) : CellTallies nD τ sig Unit := owed1 c + tallyAt (cell (sib c, 0)) () 1

def L (g : GSem nD τ sig) : Finset Unit := if g.1.2 = .tc then {()} else ∅
/-- The barrier below the arrivals. -/
def lv (g : GSem nD τ sig) (_ : Unit) : ℕ := if g.2 = csem 0 then 1 else 2

theorem L_of_ne (g : GSem nD τ sig) (h : g.1.2 ≠ .tc) : L g = ∅ := if_neg h

theorem owed1_pos {c : Dev nD} {g : GSem nD τ sig} {u : Unit} (h : 0 < owed1 c g u) : g = cell (sib c, 4) ∨ g = cell (sib c, 3) := by
  unfold owed1 at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A device may wait for the greeting while it owes the arrivals. -/
theorem mayWait_bar (c : Dev nD) : (levAts L lv : sProp 𝕄) ⊢ MayWait (c : Thread nD τ) (.reg barS) () (owed1 c) :=
  MayOwe.of_cut (L := L) (lev := lv) 1 (fun p hp => by rw [Finset.mem_singleton.mp hp]; exact Finset.mem_singleton_self _)
    (fun g u hg => by rcases owed1_pos hg with rfl | rfl <;> exact Finset.mem_singleton_self _)
    (fun p hp => by rw [Finset.mem_singleton.mp hp]; dsimp only [lv]; rw [if_pos rfl])
    (fun g u hg => by
      rcases owed1_pos hg with rfl | rfl
      · dsimp only [lv]; rw [if_neg (csem_injective.ne (by decide : (4 : Fin 5) ≠ 0))]; decide
      · dsimp only [lv]; rw [if_neg (csem_injective.ne (by decide : (3 : Fin 5) ≠ 0))]; decide)

/-- Whose cell a device's own unit goes to: its own for what has left, the sibling's else. -/
def toWhom (k : Fin 5) (c : Dev nD) : Dev nD := if k = 1 ∨ k = 2 then c else sib c
theorem toWhom_toWhom (k : Fin 5) (c : Dev nD) : toWhom k (toWhom k c) = c := by
  unfold toWhom; split
  · rfl
  · exact sib_sib c
def around : Dev nD × Fin 5 ≃ Dev nD × Fin 5 where
  toFun x := (toWhom x.2 x.1, x.2)
  invFun x := (toWhom x.2 x.1, x.2)
  left_inv x := by simp only [toWhom_toWhom]
  right_inv x := by simp only [toWhom_toWhom]

end Cert.SwapProof

end
-- ==== Proof.SwapBody.lean ====
/- The exchange of halves: one device's run, from greeting its sibling to holding the sibling's halves. -/
module

public import proofs.«01_k».proof.Proof.SwapProtocol

@[expose] public section

noncomputable section

namespace Cert.SwapProof

open Cert.SwapIdeal Cert.SwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := Fin.ext (Nat.lt_one_iff.mp (cfg0_N ▸ t.isLt : t.val < 1))

/-! ## What a run starts and ends with -/

/-- Every cell's invariant, and that each is in its round. -/
def records (K : Dev nD × Fin 5 → ℕ) : sProp 𝕄 :=
  bigSep Finset.univ fun ck : Dev nD × Fin 5 => iprop(cellInv EX (plan m) (K ck) (cell ck) ∗ reached EX (cell ck) 0)
omit [FloatOps F] in
instance records_persistent (K : Dev nD × Fin 5 → ℕ) : BI.Persistent (records m K) := by unfold records; infer_instance
omit [FloatOps F] in
theorem inv_of (K : Dev nD × Fin 5 → ℕ) (ck : Dev nD × Fin 5) : records m K ⊢ cellInv EX (plan m) (K ck) (cell ck) :=
  by
  refine (show records m K ⊢ iprop(cellInv EX (plan m) (K ck) (cell ck) ∗ reached EX (cell ck) 0) from bigSep_elim (Finset.mem_univ ck)).trans ?_
  iintro ⟨H, -⟩; iexact H
omit [FloatOps F] in
theorem reached_of (K : Dev nD × Fin 5 → ℕ) (ck : Dev nD × Fin 5) : records m K ⊢ reached EX (cell ck) 0 :=
  by
  refine (show records m K ⊢ iprop(cellInv EX (plan m) (K ck) (cell ck) ∗ reached EX (cell ck) 0) from bigSep_elim (Finset.mem_univ ck)).trans ?_
  iintro ⟨-, H⟩; iexact H

/-- A device's places in its own cells, and its duties at the cells it pays. -/
def places (c : Dev nD) : sProp 𝕄 :=
  iprop(atPos EX (cell (c, 0)) 0 ∅ 0 ∗ atPos EX (cell (c, 1)) 0 ∅ 0 ∗ atPos EX (cell (c, 2)) 0 ∅ 0 ∗ atPos EX (cell (c, 3)) 0 ∅ 0 ∗ atPos EX (cell (c, 4)) 0 ∅ 0)
def dues (c : Dev nD) : sProp 𝕄 :=
  iprop(dutyTok EX (cell (sib c, 0)) 0 () ∗ dutyTok EX (cell (c, 1)) 0 () ∗ dutyTok EX (cell (c, 2)) 0 () ∗ dutyTok EX (cell (sib c, 3)) 0 () ∗ dutyTok EX (cell (sib c, 4)) 0 ())

def ready (K : Dev nD × Fin 5 → ℕ) (c : Dev nD) : sProp 𝕄 := iprop(records m K ∗ places c ∗ dues c)

def start (c : Dev nD) : sProp 𝕄 :=
  iprop((∃ K, ready m K c) ∗ cred (tallyAt (cell (c, 0)) () 1) ∗ cred (tallyAt (cell (c, 3)) () N0) ∗ cred (tallyAt (cell (c, 4)) () N1) ∗ levAts L lv)

/-- The halves that are kept. -/
def kept (c : Dev nD) : sProp 𝕄 :=
  iprop(((half0 c).view.loc (c : Thread nD τ) ↦[Finset.univ \ (half0 c).view.set]{fullShare} m ((c : Thread nD τ).loc main_arg0))
    ∗ ((half1 c).view.loc (c : Thread nD τ) ↦[Finset.univ \ (half1 c).view.set]{fullShare} m ((c : Thread nD τ).loc main_arg1)))

def Φ₀ (c : Dev nD) : sProp 𝕄 :=
  iprop(kept m c ∗ start m c ∗ src0 m c ∗ src1 m c ∗ (∃ f, dst0 c f) ∗ ∃ f, dst1 c f)

def closed (c : Dev nD) : sProp 𝕄 :=
  iprop(semVal (cell (c, 0)) 0 ∗ semVal (cell (c, 1)) 0 ∗ semVal (cell (c, 2)) 0 ∗ semVal (cell (c, 3)) 0 ∗ semVal (cell (c, 4)) 0)

def Φ₁ (c : Dev nD) : sProp 𝕄 :=
  iprop(kept m c ∗ closed c ∗ src0 m c ∗ src1 m c ∗ dst0 c (out0 m (sib c)) ∗ dst1 c (out1 m (sib c)))

def dats (_ : Fin 1) (c : Dev nD) : Pipeline.Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => owed0 c
    | ⟨_ + 1, _⟩ => 0

abbrev 𝒱₀ : Variants := Variants.none

section Body
variable (K : Dev nD × Fin 5 → ℕ)

theorem half0_credit (c : Dev nD) : (half0 c).view.dmaCredit = N0 := rfl
theorem half1_credit (c : Dev nD) : (half1 c).view.dmaCredit = N1 := rfl

omit [FloatOps F] in
theorem land0_write (c : Dev nD) (f : Buf (Elt F) (land0.view.loc (sib c : Thread nD τ))) :
    land0.view.write (Elt F) f ((half0 c).view.read (Elt F) (m ((c : Thread nD τ).loc main_arg0))) Finset.univ = out0 m c :=
  View.write_whole_univ _ _ _
omit [FloatOps F] in
theorem land1_write (c : Dev nD) (f : Buf (Elt F) (land1.view.loc (sib c : Thread nD τ))) :
    land1.view.write (Elt F) f ((half1 c).view.read (Elt F) (m ((c : Thread nD τ).loc main_arg1))) Finset.univ = out1 m c :=
  View.write_whole_univ _ _ _

set_option maxHeartbeats 2000000 in
/-- The first array's copy: the sibling's buffer is left holding this device's half. -/
theorem wp_copy0 (c n : Dev nD) (hn : n = sib c) {hsc : land0.view.ref.isScScratch = false}
    {hsrc : (half0 c).view.WordExact} {hdst : land0.view.WordExact}
    {hsem : DmaTarget.Typed .hbm (.dma here0) (.remote (Dev.tc n : Thread nD τ) land0 (.dma sent0) hsc)}
    {α : Type} {Q : α → sProp 𝕄} {k : PUnit → Prog (TpuEff nD τ sig (Elt F) Λ₀ .tc) α}
    (fn : Buf (Elt F) ((sib c : Thread nD τ).loc main_v1_0)) (W : Waits sig Unit) :
    iprop(cellInv EX (plan m) (K (c, 1)) (cell (c, 1)) ∗ cellInv EX (plan m) (K (sib c, 3)) (cell (sib c, 3))
        ∗ src0 m c ∗ dst0 (sib c) fn
        ∗ owes (c : Thread nD τ) (owed1 c) W
        ∗ dutyTok EX (cell (c, 1)) 0 () ∗ reached EX (cell (c, 1)) 0
        ∗ dutyTok EX (cell (sib c, 3)) 0 () ∗ reached EX (cell (sib c, 3)) 0)
      ⊢ iprop(((cred (tallyAt (cell (c, 1)) () N0) ∗ owes (c : Thread nD τ) (tallyAt (cell (sib c, 4)) () N1) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half0 c) (.remote (Dev.tc n : Thread nD τ) land0 (.dma sent0) hsc) (.dma here0) hsrc hdst hsem) k) Q) := by
  subst hn
  have hp1 : src0 m c ⊢ (plan m).payload (cell (c, 1)) 0 () := by rw [payload_cell m c 1]; exact Entails.refl _
  have hp2 : (land0.view.loc (sib c : Thread nD τ) ↦[land0.view.set]{fullShare} (land0.view.write (Elt F) fn ((half0 c).view.read (Elt F) (m ((c : Thread nD τ).loc main_arg0))) Finset.univ) : sProp 𝕄)
      ⊢ (plan m).payload (cell (sib c, 3)) 0 () := by
    rw [payload_cell m (sib c) 3, land0_write]; unfold pay dst0; dsimp only; rw [sib_sib]
  have hN : land0.view.amount (.dma here0) = N0 := rfl
  have ha1 : (plan m).amount (cell (c, 1)) 0 () = N0 := by rw [amount_cell m c 1, amt]
  have ha2 : (plan m).amount (cell (sib c, 3)) 0 () = N0 := by rw [amount_cell m (sib c) 3, amt]
  have hO : owed1 c = (tallyAt (cell (sib c, 4)) () N1) + tallyAt (cell (sib c, 3)) () N0 := by unfold owed1; rfl
  have hm1 := mem_duties m c 1
  have hm2 := mem_duties m (sib c) 3
  have hr : τ.routes (c : Thread nD τ) (sib c : Thread nD τ) = true := by routes
  unfold src0 at hp1 ⊢
  unfold dst0
  exact Rounds.wp_send_pointsTo 𝒱₀ EX (plan m) (c : Thread nD τ) none (c' := (sib c : Thread nD τ)) (src := half0 c) (dst := land0) (sS := .dma sent0) (sem := .dma here0) (κ₁ := K (c, 1)) (κ₂ := K (sib c, 3))
    (r₁ := 0) (r₂ := 0) (d₁ := ()) (d₂ := ()) (fd := fn) hm1 hm2 () () N0 hN ha1 ha2 (tallyAt (cell (sib c, 4)) () N1) hO (W := W) hp1 hp2 hr

set_option maxHeartbeats 2000000 in
/-- The second array's copy. -/
theorem wp_copy1 (c n : Dev nD) (hn : n = sib c) {hsc : land1.view.ref.isScScratch = false}
    {hsrc : (half1 c).view.WordExact} {hdst : land1.view.WordExact}
    {hsem : DmaTarget.Typed .hbm (.dma here1) (.remote (Dev.tc n : Thread nD τ) land1 (.dma sent1) hsc)}
    {α : Type} {Q : α → sProp 𝕄} {k : PUnit → Prog (TpuEff nD τ sig (Elt F) Λ₀ .tc) α}
    (fn : Buf (Elt F) ((sib c : Thread nD τ).loc main_v1_1)) (W : Waits sig Unit) :
    iprop(cellInv EX (plan m) (K (c, 2)) (cell (c, 2)) ∗ cellInv EX (plan m) (K (sib c, 4)) (cell (sib c, 4))
        ∗ src1 m c ∗ dst1 (sib c) fn
        ∗ owes (c : Thread nD τ) (tallyAt (cell (sib c, 4)) () N1) W
        ∗ dutyTok EX (cell (c, 2)) 0 () ∗ reached EX (cell (c, 2)) 0
        ∗ dutyTok EX (cell (sib c, 4)) 0 () ∗ reached EX (cell (sib c, 4)) 0)
      ⊢ iprop(((cred (tallyAt (cell (c, 2)) () N1) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half1 c) (.remote (Dev.tc n : Thread nD τ) land1 (.dma sent1) hsc) (.dma here1) hsrc hdst hsem) k) Q) := by
  subst hn
  have hp1 : src1 m c ⊢ (plan m).payload (cell (c, 2)) 0 () := by rw [payload_cell m c 2]; exact Entails.refl _
  have hp2 : (land1.view.loc (sib c : Thread nD τ) ↦[land1.view.set]{fullShare} (land1.view.write (Elt F) fn ((half1 c).view.read (Elt F) (m ((c : Thread nD τ).loc main_arg1))) Finset.univ) : sProp 𝕄)
      ⊢ (plan m).payload (cell (sib c, 4)) 0 () := by
    rw [payload_cell m (sib c) 4, land1_write]; unfold pay dst1; dsimp only; rw [sib_sib]
  have hN : land1.view.amount (.dma here1) = N1 := rfl
  have ha1 : (plan m).amount (cell (c, 2)) 0 () = N1 := by rw [amount_cell m c 2, amt]
  have ha2 : (plan m).amount (cell (sib c, 4)) 0 () = N1 := by rw [amount_cell m (sib c) 4, amt]
  have hO : tallyAt (cell (sib c, 4)) () N1 = 0 + tallyAt (cell (sib c, 4)) () N1 := by rw [zero_add]
  have hm1 := mem_duties m c 2
  have hm2 := mem_duties m (sib c) 4
  have hr : τ.routes (c : Thread nD τ) (sib c : Thread nD τ) = true := by routes
  unfold src1 at hp1 ⊢
  unfold dst1
  exact Rounds.wp_send_pointsTo 𝒱₀ EX (plan m) (c : Thread nD τ) none (c' := (sib c : Thread nD τ)) (src := half1 c) (dst := land1) (sS := .dma sent1) (sem := .dma here1) (κ₁ := K (c, 2)) (κ₂ := K (sib c, 4))
    (r₁ := 0) (r₂ := 0) (d₁ := ()) (d₂ := ()) (fd := fn) hm1 hm2 () () N1 hN ha1 ha2 0 hO (W := W) hp1 hp2 hr

set_option maxHeartbeats 1600000 in
/-- A device's run, one rule for each of its operations, in order. -/
theorem sound_body (c : Dev nD) (Kt : PUnit → sProp 𝕄) :
    iprop((Φ₀ m c ∗ (dats m 0 c).owesAt () t₀.castSucc) ∗ ((Φ₁ m c ∗ (dats m 0 c).owesAt () t₀.succ) -∗ Kt ⟨⟩))
      ⊢ wp frame (wpE (defs₀ (F := F)) 𝒱₀ c none) Set.univ
          (cc0_swap_halves_small (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1) Kt := by
  simp only [cc0_swap_halves_small_eq_skeleton]; unfold cc0_swap_halves_small_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold Φ₀ start ready places dues
  iintro ⟨⟨⟨Hkept, ⟨⟨%K, #HR, ⟨HatB, HatS0, HatS1, HatV0, HatV1⟩, HtB, HtS0, HtS1, HtV0, HtV1⟩, HcB, HcV0, HcV1, #Hlev⟩, Hs0, Hs1, Hd0, Hd1⟩, Ho⟩, Hk⟩
  unfold Pipeline.Dat.owesAt Pipeline.owesWithin
  icases Ho with ⟨%W, %hW, HO⟩
  rw [show (dats m 0 c).owed t₀.castSucc = owed0 c from rfl]
  simp only [dev1_eq c]
  -- the greeting, with this device's buffers
  iapply (Rounds.wp_signal 𝒱₀ EX (plan m) (c : Thread nD τ) none (dst := (sib c : Thread nD τ)) (κ := K (sib c, 0))
      (d := ()) (mem_duties m (sib c) 0) ((amount_cell m (sib c) 0).trans (by decide)) () (owed1 c) rfl)
    $$ [HO HtB Hd0 Hd1]
  · isplitr; · iapply (inv_of m K (sib c, 0)); iexact HR
    isplitl [HO]; · iexact HO
    isplitl [HtB]; · iexact HtB
    isplitl [Hd0 Hd1]
    · iapply (Entails.of_eq (payload_cell m (sib c) 0).symm)
      unfold pay; dsimp only; rw [sib_sib]
      isplitl [Hd0] <;> iassumption
    iapply (reached_of m K (sib c, 0)); iexact HR
  iintro HO
  -- the wait for the sibling's, with its buffers
  iapply (Rounds.wp_wait_rest_token 𝒱₀ EX (plan m) (c : Thread nD τ) none (κ := K (c, 0))
      (wpE_semWait_eq 𝒱₀ (c : Thread nD τ) none Set.univ) (Set.mem_univ _) () (O := owed1 c) (W := W) (R := 0) (m := 0) (T := ∅)
      ((Nat.zero_add _).trans ((by decide : _ = amt 0).trans (expect_cell m c 0).symm))) $$ [HcB HO HatB]
  · isplitr; · iapply (inv_of m K (c, 0)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_cell m c 0)) $$ Hpay
  unfold pay
  icases Hp with ⟨⟨%f0, Hd0⟩, %f1, Hd1⟩
  -- the two copies
  iapply (wp_copy0 m K c _ (dev2_eq c) f0 (insert (SemLoc.reg barS, ()) W)) $$ [Hs0 Hd0 HO HtS0 HtV0]
  · isplitr; · iapply (inv_of m K (c, 1)); iexact HR
    isplitr; · iapply (inv_of m K (sib c, 3)); iexact HR
    isplitl [Hs0]; · iexact Hs0
    isplitl [Hd0]; · iexact Hd0
    isplitl [HO]; · iexact HO
    isplitl [HtS0]; · iexact HtS0
    isplitr; · iapply (reached_of m K (c, 1)); iexact HR
    isplitl [HtV0]; · iexact HtV0
    iapply (reached_of m K (sib c, 3)); iexact HR
  iintro ⟨HcS0, HO⟩
  iapply (wp_copy1 m K c _ (dev3_eq c) f1 (insert (SemLoc.reg barS, ()) W)) $$ [Hs1 Hd1 HO HtS1 HtV1]
  · isplitr; · iapply (inv_of m K (c, 2)); iexact HR
    isplitr; · iapply (inv_of m K (sib c, 4)); iexact HR
    isplitl [Hs1]; · iexact Hs1
    isplitl [Hd1]; · iexact Hd1
    isplitl [HO]; · iexact HO
    isplitl [HtS1]; · iexact HtS1
    isplitr; · iapply (reached_of m K (c, 2)); iexact HR
    isplitl [HtV1]; · iexact HtV1
    iapply (reached_of m K (sib c, 4)); iexact HR
  iintro ⟨HcS1, HO⟩
  -- the four waits, one for each copy that leaves and each that arrives
  iapply (Rounds.wp_wait_rest_token 𝒱₀ EX (plan m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add]; exact (half0_credit c).trans (expect_cell m c 1).symm)) $$ [HcS0 HO HatS0]
  · isplitr; · iapply (inv_of m K (c, 1)); iexact HR
    isplitl [HcS0]; · iexact HcS0
    isplitl [HO]; · iexact HO
    isplitr; · rw [MayWait_zero]; iempintro
    iexact HatS0
  iintro ⟨HO, HatS0, -, Hpay⟩
  ihave Hs0 := (Entails.of_eq ((rest_cell m c 1).trans (show pay m 1 c = src0 m c from rfl))) $$ Hpay
  iapply (Rounds.wp_wait_rest_token 𝒱₀ EX (plan m) (c : Thread nD τ) none (κ := K (c, 3))
      (wpE_waitDma2_eq 𝒱₀ (c : Thread nD τ) none Set.univ) (Set.mem_univ _) () (O := 0) (W := insert (SemLoc.dma sent0, ()) (insert (SemLoc.reg barS, ()) W)) (R := 0) (m := 0) (T := ∅)
      (by rw [Nat.zero_add]; exact (Eq.refl N0).trans (expect_cell m c 3).symm)) $$ [HcV0 HO HatV0]
  · isplitr; · iapply (inv_of m K (c, 3)); iexact HR
    isplitl [HcV0]; · iexact HcV0
    isplitl [HO]; · iexact HO
    isplitr; · rw [MayWait_zero]; iempintro
    iexact HatV0
  iintro ⟨HO, HatV0, -, Hpay⟩
  ihave Hd0 := (Entails.of_eq ((rest_cell m c 3).trans (show pay m 3 c = dst0 c (out0 m (sib c)) from rfl))) $$ Hpay
  iapply (Rounds.wp_wait_rest_token 𝒱₀ EX (plan m) (c : Thread nD τ) none (κ := K (c, 2))
      (wpE_waitDma2_eq 𝒱₀ (c : Thread nD τ) none Set.univ) (Set.mem_univ _) () (O := 0) (W := insert (SemLoc.dma here0, ()) (insert (SemLoc.dma sent0, ()) (insert (SemLoc.reg barS, ()) W))) (R := 0) (m := 0) (T := ∅)
      (by rw [Nat.zero_add]; exact (half1_credit c).trans (expect_cell m c 2).symm)) $$ [HcS1 HO HatS1]
  · isplitr; · iapply (inv_of m K (c, 2)); iexact HR
    isplitl [HcS1]; · iexact HcS1
    isplitl [HO]; · iexact HO
    isplitr; · rw [MayWait_zero]; iempintro
    iexact HatS1
  iintro ⟨HO, HatS1, -, Hpay⟩
  ihave Hs1 := (Entails.of_eq ((rest_cell m c 2).trans (show pay m 2 c = src1 m c from rfl))) $$ Hpay
  iapply (Rounds.wp_wait_rest_token 𝒱₀ EX (plan m) (c : Thread nD τ) none (κ := K (c, 4))
      (wpE_waitDma2_eq 𝒱₀ (c : Thread nD τ) none Set.univ) (Set.mem_univ _) () (O := 0) (W := insert (SemLoc.dma sent1, ()) (insert (SemLoc.dma here0, ()) (insert (SemLoc.dma sent0, ()) (insert (SemLoc.reg barS, ()) W)))) (R := 0) (m := 0) (T := ∅)
      (by rw [Nat.zero_add]; exact (Eq.refl N1).trans (expect_cell m c 4).symm)) $$ [HcV1 HO HatV1]
  · isplitr; · iapply (inv_of m K (c, 4)); iexact HR
    isplitl [HcV1]; · iexact HcV1
    isplitl [HO]; · iexact HO
    isplitr; · rw [MayWait_zero]; iempintro
    iexact HatV1
  iintro ⟨HO, HatV1, -, Hpay⟩
  ihave Hd1 := (Entails.of_eq ((rest_cell m c 4).trans (show pay m 4 c = dst1 c (out1 m (sib c)) from rfl))) $$ Hpay
  -- the five cells close
  imod (Rounds.cell_close EX (plan m) (Set.mem_univ (K (c, 0))) (fun h => h) (R := 0 + 1) (duties_later m (cell (c, 0)))) $$ [HatB] with HatB
  · isplitr; · iapply (inv_of m K (c, 0)); iexact HR
    iexact HatB
  imod (Rounds.cell_close EX (plan m) (Set.mem_univ (K (c, 1))) (fun h => h) (R := 0 + 1) (duties_later m (cell (c, 1)))) $$ [HatS0] with HatS0
  · isplitr; · iapply (inv_of m K (c, 1)); iexact HR
    iexact HatS0
  imod (Rounds.cell_close EX (plan m) (Set.mem_univ (K (c, 2))) (fun h => h) (R := 0 + 1) (duties_later m (cell (c, 2)))) $$ [HatS1] with HatS1
  · isplitr; · iapply (inv_of m K (c, 2)); iexact HR
    iexact HatS1
  imod (Rounds.cell_close EX (plan m) (Set.mem_univ (K (c, 3))) (fun h => h) (R := 0 + 1) (duties_later m (cell (c, 3)))) $$ [HatV0] with HatV0
  · isplitr; · iapply (inv_of m K (c, 3)); iexact HR
    iexact HatV0
  imod (Rounds.cell_close EX (plan m) (Set.mem_univ (K (c, 4))) (fun h => h) (R := 0 + 1) (duties_later m (cell (c, 4)))) $$ [HatV1] with HatV1
  · isplitr; · iapply (inv_of m K (c, 4)); iexact HR
    iexact HatV1
  rw [wp_ret]; imodintro
  iapply Hk
  unfold Φ₁ closed
  rw [show (dats m 0 c).owed t₀.succ = 0 from rfl]
  isplitr [HO]
  · isplitl [Hkept]; · iexact Hkept
    isplitl [HatB HatS0 HatS1 HatV0 HatV1]
    · isplitl [HatB]; · iexact HatB
      isplitl [HatS0]; · iexact HatS0
      isplitl [HatS1]; · iexact HatS1
      isplitl [HatV0] <;> iassumption
    isplitl [Hs0]; · iexact Hs0
    isplitl [Hs1]; · iexact Hs1
    isplitl [Hd0] <;> iassumption
  iexists (insert (SemLoc.dma here1, ()) (insert (SemLoc.dma sent1, ()) (insert (SemLoc.dma here0, ()) (insert (SemLoc.dma sent0, ()) (insert (SemLoc.reg barS, ()) W)))))
  isplitr; · ipureintro; exact fun _ _ => Or.inl trivial
  iexact HO

theorem no_windows (Φ : Fin cfg0.W → sProp 𝕄) : bigSep Finset.univ Φ = iprop(emp) := by
  rw [show (Finset.univ : Finset (Fin cfg0.W)) = ∅ from rfl, bigSep_empty]; rfl

set_option maxRecDepth 4000 in
/-- The library's obligation on a device. -/
theorem body_obligation (c : Dev nD) : Pipeline.BodyObligation (dats (F := F) m 0 c) (defs₀ (F := F)) 𝒱₀ () Set.univ := fun t => by
  rw [fin_N t]
  rw [no_windows, no_windows]
  show iprop(Φ₀ m c ∗ (dats m 0 c).owesAt () t₀.castSucc ∗ emp) ⊢ wp frame (wpE (defs₀ (F := F)) 𝒱₀ c none) Set.univ
    (cc0_swap_halves_small (Memref.whole main_arg0) (Memref.isWhole_whole _) (Memref.whole main_arg1) (Memref.isWhole_whole _)
      (Memref.whole main_v1_0) (Memref.isWhole_whole _) (Memref.whole main_v1_1) (Memref.isWhole_whole _) cc0_scratch0 cc0_scratch1)
    (fun _ => iprop(Φ₁ m c ∗ (dats m 0 c).owesAt () t₀.succ ∗ emp))
  iintro ⟨HΦ, Ho, -⟩
  iapply (sound_body m c fun _ => iprop(Φ₁ m c ∗ (dats m 0 c).owesAt () t₀.succ ∗ emp))
  isplitl
  · isplitl [HΦ] <;> iassumption
  iintro ⟨H1, H2⟩
  isplitl [H1]; · iexact H1
  isplitl [H2]; · iexact H2
  iempintro

end Body

end Cert.SwapProof

end
-- ==== Proof.SwapLaunch.lean ====
/- The exchange of halves: all eight devices at once, and what the run leaves. -/
module

public import proofs.«01_k».proof.Proof.SwapBody

@[expose] public section

noncomputable section

namespace Cert.SwapProof

open Cert.SwapIdeal Cert.SwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

/-! ## Dealing out the cells and their duties -/

def allCells : Finset (GSem nD τ sig) := Finset.univ.map ⟨cell, cell_injective⟩
def allToks : Finset (GSem nD τ sig × ℕ × Unit) :=
  Finset.univ.map ⟨fun ck : Dev nD × Fin 5 => (cell ck, 0, ()), fun a b h => cell_injective (congrArg Prod.fst h)⟩

def u₀ : UU := (initOf (Pipeline.cells cfgs cellOf_inj) (Pipeline.launchToks cfgs cellOf_inj), initOf allCells allToks)

/-- What a device is dealt: for each of its cells the counter's state, its place, that the round is reached, and the duty. -/
def G (c : Dev nD) : sProp 𝕄 :=
  bigSep Finset.univ fun k : Fin 5 => iprop(roundState EX (plan m) (cell (c, k)) 0 ∗ (atPos EX (cell (c, k)) 0 ∅ 0 ∗ dutyTok EX (cell (c, k)) 0 ()) ∗ reached EX (cell (c, k)) 0)
def G' (c : Dev nD) : sProp 𝕄 := iprop(∃ K, ready m K c)

omit [FloatOps F] in
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem deal : BI.own (EX (initOf allCells allToks)) ⊢ (|==> bigSep Finset.univ (G m) : sProp 𝕄) := by
  have hX (Φ : GSem nD τ sig → sProp 𝕄) : bigSep allCells Φ = bigSep Finset.univ fun ck : Dev nD × Fin 5 => Φ (cell ck) := by
    unfold allCells; rw [bigSep_map]; rfl
  have hT : bigSep allToks (fun x => (dutyTok EX x.1 x.2.1 x.2.2 : sProp 𝕄)) = bigSep Finset.univ fun ck : Dev nD × Fin 5 => dutyTok EX (cell ck) 0 () := by
    unfold allToks; rw [bigSep_map]; rfl
  iintro HX
  imod (Rounds.fund EX (plan m) allCells allToks) $$ HX with ⟨Hst, Hr, Hat, Htok⟩
  imodintro
  ihave Hst := (Entails.of_eq (hX fun g => roundState EX (plan m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G
  rw [← bigSep_univ_prod (fun ck : Dev nD × Fin 5 => iprop(roundState EX (plan m) (cell ck) 0 ∗ (atPos EX (cell ck) 0 ∅ 0 ∗ dutyTok EX (cell ck) 0 ()) ∗ reached EX (cell ck) 0)),
    bigSep_sep', bigSep_sep', bigSep_sep']
  isplitl [Hst]; · iexact Hst
  isplitl [Hat Htok]
  · isplitl [Hat] <;> iassumption
  iexact Hr

omit [FloatOps F] in
theorem ownSems0_eq (c : Dev nD) : (Pipeline.ownSems0 (Ix := Unit) (Name := ℕ) (U := UU) (Lvl := ℕ) (Val := Elt F) (τ := τ) osem c : sProp 𝕄)
    = iprop(semVal (cell (c, 1)) 0 ∗ semVal (cell (c, 2)) 0 ∗ semVal (cell (c, 3)) 0 ∗ semVal (cell (c, 4)) 0) := by
  rw [Pipeline.ownSems0_eq_of_list c osem [0, 1, 2, 3] (by decide) (by decide)]; rfl
omit [FloatOps F] in
theorem unscopedSems0_eq (c : Dev nD) : (unscopedSems0 c : sProp 𝕄) = semVal (cell (c, 0)) 0 := by
  unfold unscopedSems0; rw [bigSep_eq_bigSepL_of_eq [SemLoc.reg barS] (by decide) (by decide)]; rfl

omit [FloatOps F] in
theorem invariants (c : Dev nD) :
    iprop(Pipeline.ownSems0 (Ix := Unit) (Name := ℕ) (U := UU) (Lvl := ℕ) (Val := Elt F) (τ := τ) osem c ∗ unscopedSems0 c ∗ G m c)
      ⊢ |={Set.univ}=> bigSep Finset.univ fun k : Fin 5 => iprop((∃ κ : ℕ, cellInv EX (plan m) κ (cell (c, k)))
          ∗ (atPos EX (cell (c, k)) 0 ∅ 0 ∗ dutyTok EX (cell (c, k)) 0 ()) ∗ reached EX (cell (c, k)) 0) := by
  have hz : iprop(Pipeline.ownSems0 (Ix := Unit) (Name := ℕ) (U := UU) (Lvl := ℕ) (Val := Elt F) (τ := τ) osem c ∗ unscopedSems0 c)
      ⊢ (bigSep Finset.univ fun k : Fin 5 => semVal (cell (c, k)) 0 : sProp 𝕄) := by
    rw [ownSems0_eq, unscopedSems0_eq, five]
    iintro ⟨⟨H1, H2, H3, H4⟩, H0⟩
    isplitl [H0]; · iexact H0
    isplitl [H1]; · iexact H1
    isplitl [H2]; · iexact H2
    isplitl [H3] <;> iassumption
  have hk (k : Fin 5) : iprop(semVal (cell (c, k)) 0 ∗ roundState EX (plan m) (cell (c, k)) 0 ∗ (atPos EX (cell (c, k)) 0 ∅ 0 ∗ dutyTok EX (cell (c, k)) 0 ()) ∗ reached EX (cell (c, k)) 0)
      ⊢ (|={Set.univ}=> iprop((∃ κ : ℕ, cellInv EX (plan m) κ (cell (c, k))) ∗ (atPos EX (cell (c, k)) 0 ∅ 0 ∗ dutyTok EX (cell (c, k)) 0 ()) ∗ reached EX (cell (c, k)) 0) : sProp 𝕄) := by
    iintro ⟨Hv, Hst, Hrest⟩
    imod ((Rounds.body_intro EX (plan m) (cell (c, k))).trans inv_alloc) $$ [Hv Hst] with Hinv
    · isplitl [Hv] <;> iassumption
    imodintro
    isplitl [Hinv] <;> iassumption
  iintro ⟨Hos, Hus, HG⟩
  ihave Hv := hz $$ [Hos Hus]
  · isplitl [Hos] <;> iassumption
  unfold G
  iapply ((Entails.of_eq (bigSep_sep' Finset.univ _ _).symm).trans ((bigSep_mono fun k _ => hk k).trans (bigSep_fupd _ _)))
  isplitl [Hv] <;> iassumption

omit [FloatOps F] in
/-- The invariants are everyone's; each duty goes to the device that pays it. -/
theorem share_out :
    (bigSep Finset.univ fun c : Dev nD => bigSep Finset.univ fun k : Fin 5 => iprop((∃ κ : ℕ, cellInv EX (plan m) κ (cell (c, k)))
          ∗ (atPos EX (cell (c, k)) 0 ∅ 0 ∗ dutyTok EX (cell (c, k)) 0 ()) ∗ reached EX (cell (c, k)) 0) : sProp 𝕄)
      ⊢ bigSep Finset.univ (G' m) := by
  rw [← bigSep_univ_prod (fun ck : Dev nD × Fin 5 => iprop((∃ κ : ℕ, cellInv EX (plan m) κ (cell ck))
      ∗ (atPos EX (cell ck) 0 ∅ 0 ∗ dutyTok EX (cell ck) 0 ()) ∗ reached EX (cell ck) 0)), bigSep_sep', bigSep_sep', bigSep_sep']
  iintro ⟨HI, ⟨Hat, Htok⟩, #HR⟩
  ihave HK := (BI.bigSep_exists_pi Finset.univ (fun (ck : Dev nD × Fin 5) (κ : ℕ) => (cellInv EX (plan m) κ (cell ck) : sProp 𝕄))) $$ HI
  icases HK with ⟨%K, #HI⟩
  ihave #HRec := (Entails.of_eq (show iprop((bigSep Finset.univ fun ck : Dev nD × Fin 5 => (cellInv EX (plan m) (K ck) (cell ck) : sProp 𝕄))
      ∗ bigSep Finset.univ fun ck : Dev nD × Fin 5 => (reached EX (cell ck) 0 : sProp 𝕄)) = records m K from (bigSep_sep' _ _ _).symm)) $$ [HI HR]
  · isplitr; · iexact HI
    iexact HR
  ihave Htok := (Entails.of_eq ((bigSep_univ_equiv around (fun ck : Dev nD × Fin 5 => (dutyTok EX (cell ck) 0 () : sProp 𝕄))).trans
      (bigSep_univ_prod _))) $$ Htok
  ihave Hat := (Entails.of_eq (bigSep_univ_prod (fun ck : Dev nD × Fin 5 => (atPos EX (cell ck) 0 ∅ 0 : sProp 𝕄)))) $$ Hat
  have hone (c : Dev nD) : iprop(records m K ∗ (bigSep Finset.univ fun k : Fin 5 => (atPos EX (cell (c, k)) 0 ∅ 0 : sProp 𝕄))
      ∗ (bigSep Finset.univ fun k : Fin 5 => (dutyTok EX (cell (around (c, k))) 0 () : sProp 𝕄))) ⊢ G' m c := by
    rw [five, five]
    unfold G' ready places dues
    iintro ⟨#H, Ha, Ht⟩
    iexists K
    isplitr; · iexact H
    isplitl [Ha]; · iexact Ha
    iexact Ht
  iapply ((sep_mono_left (BI.bigSep_of_persistent (Finset.univ : Finset (Dev nD)) (records m K))).trans
    ((sep_mono_right (Entails.of_eq (bigSep_sep' _ _ _).symm)).trans ((Entails.of_eq (bigSep_sep' _ _ _).symm).trans (bigSep_mono fun c _ => hone c))))
  isplitr; · iexact HRec
  isplitl [Hat]; · iexact Hat
  iexact Htok

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => invariants m c).trans (bigSep_fupd _ _)).trans (BI.fupd_mono (share_out m))

/-! ## The credit -/

theorem cell_eq_iff (a b : Dev nD) (j k : Fin 5) : cell (a, j) = cell (b, k) ↔ a = b ∧ j = k :=
  ⟨fun h => by have := cell_injective h; exact ⟨congrArg Prod.fst this, congrArg Prod.snd this⟩, fun ⟨h, h'⟩ => by rw [h, h']⟩

/-- The three kinds of cell a sibling owes to. -/
theorem owed_cell (d c : Dev nD) (k : Fin 5) (hk : k ≠ 1 ∧ k ≠ 2) : owed0 d (cell (c, k)) () = if d = sib c then amt k else 0 := by
  have hs : sib d = c ↔ d = sib c := ⟨fun h => by rw [← h, sib_sib], fun h => by rw [h, sib_sib]⟩
  unfold owed0 owed1
  rw [Pi.add_apply, Finsupp.add_apply, Pi.add_apply, Finsupp.add_apply, tallyAt_apply, tallyAt_apply, tallyAt_apply]
  simp only [cell_eq_iff, and_true]
  by_cases h : d = sib c
  · have hc : sib d = c := hs.mpr h
    simp only [hc, h, true_and, sib_sib, if_true]
    rcases hk with ⟨h1, h2⟩
    fin_cases k
    · simp [amt]
    · exact absurd rfl h1
    · exact absurd rfl h2
    · simp [amt]
    · simp [amt]
  · have hc : ¬ c = sib d := fun e => h (hs.mp e.symm)
    simp only [hc, false_and, if_false, h]

theorem launch_cell (c : Dev nD) (k : Fin 5) (hk : k ≠ 1 ∧ k ≠ 2) :
    tallyOn (cell (c, k)) (launchCredit (Pipeline.owing owed0) 0 (cell (c, k))) = (tallyAt (cell (c, k)) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk, Finset.sum_ite_eq' Finset.univ (sib c) fun _ => amt k,
    if_pos (Finset.mem_univ _)]

omit [FloatOps F] in
theorem creds (c : Dev nD) :
    (Pipeline.launchCred owed0 c : sProp 𝕄) ⊢ iprop(cred (tallyAt (cell (c, 0)) () 1) ∗ cred (tallyAt (cell (c, 3)) () N0) ∗ cred (tallyAt (cell (c, 4)) () N1)) := by
  have h0 := launch_cell c 0 (by decide)
  have h3 := launch_cell c 3 (by decide)
  have h4 := launch_cell c 4 (by decide)
  rw [show amt 0 = 1 from rfl] at h0; rw [show amt 3 = N0 from rfl] at h3; rw [show amt 4 = N1 from rfl] at h4
  rw [← h0, ← h3, ← h4]
  unfold Pipeline.launchCred
  rw [bigSep_univ_at _ (csem 0)]
  refine sep_mono_right ?_
  rw [bigSep_erase (show csem 3 ∈ Finset.univ.erase (csem 0) from Finset.mem_erase.mpr ⟨csem_injective.ne (by decide), Finset.mem_univ _⟩)]
  refine sep_mono_right ?_
  exact bigSep_elim (Finset.mem_erase.mpr ⟨csem_injective.ne (show (4 : Fin 5) ≠ 3 by decide), Finset.mem_erase.mpr ⟨csem_injective.ne (show (4 : Fin 5) ≠ 0 by decide), Finset.mem_univ _⟩⟩)

/-! ## Entering and leaving -/

theorem half0_split (c : Dev nD) : ((((c : Thread nD τ).loc main_arg0) ↦{fullShare} m ((c : Thread nD τ).loc main_arg0)) : sProp 𝕄)
    ⊣⊢ iprop(src0 m c ∗ ((half0 c).view.loc (c : Thread nD τ) ↦[Finset.univ \ (half0 c).view.set]{fullShare} m ((c : Thread nD τ).loc main_arg0))) :=
  pointsTo_split_subset (Finset.subset_univ _)
theorem half1_split (c : Dev nD) : ((((c : Thread nD τ).loc main_arg1) ↦{fullShare} m ((c : Thread nD τ).loc main_arg1)) : sProp 𝕄)
    ⊣⊢ iprop(src1 m c ∗ ((half1 c).view.loc (c : Thread nD τ) ↦[Finset.univ \ (half1 c).view.set]{fullShare} m ((c : Thread nD τ).loc main_arg1))) :=
  pointsTo_split_subset (Finset.subset_univ _)

/-- What the launch gives a device is what its run starts with. -/
theorem enter (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(Φ₀ m c ∗ emp) := by
  rw [Pipeline.unscopedRestP_none, unscopedRest0_eq]
  iintro ⟨⟨Ha, Hb, Hd0, Hd1⟩, Hlev, Hcr, -, HG⟩
  ihave Hc := (creds (F := F) c) $$ Hcr
  icases Hc with ⟨H0, H3, H4⟩
  ihave Ha := (half0_split m c).1 $$ Ha
  icases Ha with ⟨Ha, Hka⟩
  ihave Hb := (half1_split m c).1 $$ Hb
  icases Hb with ⟨Hb, Hkb⟩
  ihave Hd0 := (Entails.of_eq (dst0_eq c _).symm) $$ Hd0
  ihave Hd1 := (Entails.of_eq (dst1_eq c _).symm) $$ Hd1
  imodintro
  unfold Φ₀ start kept G'
  isplitl
  · isplitl [Hka Hkb]; · (isplitl [Hka] <;> iassumption)
    isplitl [HG H0 H3 H4 Hlev]
    · isplitl [HG]; · iexact HG
      isplitl [H0]; · iexact H0
      isplitl [H3]; · iexact H3
      isplitl [H4] <;> iassumption
    isplitl [Ha]; · iexact Ha
    isplitl [Hb]; · iexact Hb
    isplitl [Hd0]
    · iexists _; iexact Hd0
    iexists _; iexact Hd1
  · iempintro

theorem begins (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -, -⟩
  iexact H

/-- The four arrays as a device leaves them. -/
def left (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} out0 m (sib c)) ∗ (((c : Thread nD τ).loc main_v1_1) ↦{fullShare} out1 m (sib c)))

theorem leave (c : Dev nD) :
    (dats m 0 c).Φ (Fin.last cfg0.N) ⊢ iprop((unscopedSems0 c ∗ left m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ kept closed left
  iintro ⟨⟨Hka, Hkb⟩, ⟨H0, H1, H2, H3, H4⟩, Ha, Hb, Hd0, Hd1⟩
  ihave Hd0 := (Entails.of_eq (dst0_eq c _)) $$ Hd0
  ihave Hd1 := (Entails.of_eq (dst1_eq c _)) $$ Hd1
  isplitl [Hka Hkb H0 Ha Hb Hd0 Hd1]
  · isplitl [H0]; · iexact H0
    isplitl [Hka Ha]
    · iapply (half0_split m c).2
      isplitl [Ha] <;> iassumption
    isplitl [Hkb Hb]
    · iapply (half1_split m c).2
      isplitl [Hb] <;> iassumption
    isplitl [Hd0] <;> iassumption
  isplitl
  · isplitl [H1]; · iexact H1
    isplitl [H2]; · iexact H2
    isplitl [H3] <;> iassumption
  iempintro

/-- What a device's memory is in the end: its arguments as they were, its results the sibling's halves. -/
def Exchanged (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1_0) = out0 m (sib c) ∧ s.mem ((c : Thread nD τ).loc main_v1_1) = out1 m (sib c)

theorem read_left (c : Dev nD) (s' : Phys nD τ sig (Elt F)) : iprop(left m c ∗ SI s') ⊢ (iprop(⌜Exchanged m c s'.mem⌝ ∗ SI s') : sProp 𝕄) := by
  unfold left
  iintro ⟨⟨Ha, Hb, Hd0, Hd1⟩, HSI⟩
  icombine HSI Ha gives %ha
  icombine HSI Hb gives %hb
  icombine HSI Hd0 gives %h0
  icombine HSI Hd1 gives %h1
  isplitr
  · ipureintro
    exact ⟨Buf.eq_of_forall_mem_univ ha, Buf.eq_of_forall_mem_univ hb, Buf.eq_of_forall_mem_univ h0, Buf.eq_of_forall_mem_univ h1⟩
  iexact HSI

set_option maxRecDepth 8000 in
/-- From any memory with zero counters every run ends, with each device's arguments unchanged, its results its sibling's halves,
    and every counter at zero. -/
theorem run_main : θ_run defs (onTc (τ := τ) (main (F := F))) ⟨m, fun _ => 0, ρ⟩ (fun r => (∀ c, Exchanged m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => w.elim0) (harr := arr_whole0) (hstage := stage_whole0) (hshare := fun _ w => w.elim0)
    (hdistinct := winFacts0.arr_inj)
    (O₀ := owed0) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ w => w.elim0) (hpf := fun _ k => k.elim0)
    (X := Φ₀ m) (Y := fun c => iprop(unscopedSems0 c ∗ left m c)) (Z := fun _ => iprop(emp))
    (hX := enter m ρ) (hin := begins m) (hout := leave m)
    (QY := fun c s => (∀ sm : SemLoc sig, sm.isScoped .tc = false → s.sem ((c.tc : Thread nD τ), sm) = 0) ∧ Exchanged m c s)
    (hY := fun c s' => by
      iintro ⟨⟨Hu, Hl⟩, -, HSI⟩
      ihave H := (read_left m c s') $$ [Hl HSI]
      · isplitl [Hl] <;> iassumption
      icases H with ⟨%hl, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hl⟩
      iexact HSI)
    (hQ := fun _ h hs => ⟨fun c => (h c).2.2.2, sem_eq_zero hs fun c => (h c).2.2.1⟩)

end Cert.SwapProof

end
-- ==== Proof.SwapValue.lean ====
/- The exchange of halves: what the reference computes, entry by entry, and that the devices' results are its blocks. -/
module

public import proofs.«01_k».proof.Proof.SwapLaunch
public import proofs.«01_k».proof.Proof.Gen.SwapRefIdeal.Run
public import proofs.«01_k».proof.Proof.Gen.SwapRefIdeal.Read
public import Idealize.ShloMosaic.Lib.Layout
public import Idealize.ShloMosaic.Lib.Pipeline.Value

@[expose] public section

set_option maxRecDepth 16384

noncomputable section

namespace Cert.SwapProof

open Idealize.ShloMosaic

variable {F : FTy → Type} [FloatOps F]

section Whole
open Cert.SwapRefIdeal Cert.SwapRefIdeal.Read

/-- The row-major place of half `h` of device `d`'s sibling in the whole arrays. -/
def from0 (i : S8x1x640x128.Idx) : S8x2x640x128.Idx := fun a => match a with
  | ⟨0, _⟩ => ⟨2 * ((i 0).val / 2) + (1 - (i 0).val % 2), by have h : (i 0).val < 8 := (i 0).isLt; show _ < 8; omega⟩
  | ⟨1, _⟩ => ⟨(i 0).val % 2, Nat.mod_lt _ (by decide)⟩
  | ⟨2, _⟩ => i 2
  | ⟨3, _⟩ => i 3

/-- The two cores' halves of pair `p`: the second core's first half and the first core's second. -/
theorem second0 (x : (⟨S8x2x640x128, .f32⟩ : BufTy).Contents (Elt F)) (j : S4x1x640x128.Idx) (i : S8x1x640x128.Idx) (h0 : (i 0).val = 2 * (j 0).val) (h2 : (i 2).val = (j 2).val) (h3 : (i 3).val = (j 3).val) :
    val_main_v5 (F := F) x j = x (from0 i) := by
  rw [val_main_v5_apply, val_main_v2_apply, val_main_v1_apply, val_main_v0_apply]
  have b0 : (j 0).val < 4 := (j 0).isLt
  have b2 : (j 2).val < 640 := (j 2).isLt
  have b3 : (j 3).val < 128 := (j 3).isLt
  refine congrArg x (funext fun a => Fin.ext ?_)
  match a with
  | ⟨0, _⟩ | ⟨1, _⟩ | ⟨2, _⟩ | ⟨3, _⟩ => dsimp only [idx_main_v0, idx_main_v1, idx_main_v2, idx_main_v5, from0]; omega
theorem first0 (x : (⟨S8x2x640x128, .f32⟩ : BufTy).Contents (Elt F)) (j : S4x1x640x128.Idx) (i : S8x1x640x128.Idx) (h0 : (i 0).val = 2 * (j 0).val + 1) (h2 : (i 2).val = (j 2).val) (h3 : (i 3).val = (j 3).val) :
    val_main_v6 (F := F) x j = x (from0 i) := by
  rw [val_main_v6_apply, val_main_v4_apply, val_main_v3_apply, val_main_v0_apply]
  have b0 : (j 0).val < 4 := (j 0).isLt
  have b2 : (j 2).val < 640 := (j 2).isLt
  have b3 : (j 3).val < 128 := (j 3).isLt
  refine congrArg x (funext fun a => Fin.ext ?_)
  match a with
  | ⟨0, _⟩ | ⟨1, _⟩ | ⟨2, _⟩ | ⟨3, _⟩ => dsimp only [idx_main_v0, idx_main_v3, idx_main_v4, idx_main_v6, from0]; omega

/-- Device `d`'s row of the reference's result is its half of the sibling's array. -/
theorem result0 (x : (⟨S8x2x640x128, .f32⟩ : BufTy).Contents (Elt F)) (i : S8x1x640x128.Idx) : val_main_v8 (F := F) x i = x (from0 i) := by
  rw [val_main_v8_apply]
  unfold val_main_v7
  have b0 : (i 0).val < 8 := (i 0).isLt
  have b1 : (i 1).val < 1 := (i 1).isLt
  have b2 : (i 2).val < 640 := (i 2).isLt
  have b3 : (i 3).val < 128 := (i 3).isLt
  let j : S4x1x640x128.Idx := fun a => match a with
    | ⟨0, _⟩ => ⟨(i 0).val / 2, by show _ < 4; omega⟩
    | ⟨1, _⟩ => ⟨0, Nat.one_pos⟩
    | ⟨2, _⟩ => i 2
    | ⟨3, _⟩ => i 3
  rcases Nat.mod_two_eq_zero_or_one (i 0).val with e | e
  · refine (concatenate_pair_apply_left (s₁ := S4x1x640x128) (s₂ := S4x1x640x128) 1 _ _ _ (idx_main_v8 i) rfl j fun b => ?_).trans
      (second0 x j i (by dsimp only [j]; omega) rfl rfl)
    match b with
    | ⟨0, _⟩ | ⟨1, _⟩ | ⟨2, _⟩ | ⟨3, _⟩ => dsimp only [idx_main_v8, j, Fin.cast]; omega
  · refine (concatenate_pair_apply_right (s₁ := S4x1x640x128) (s₂ := S4x1x640x128) 1 _ _ _ (idx_main_v8 i) rfl rfl j (fun b hb => ?_) (by dsimp only [idx_main_v8, j, Fin.cast]; show 0 + 1 = _; omega)).trans
      (first0 x j i (by dsimp only [j]; omega) rfl rfl)
    match b with
    | ⟨0, _⟩ => dsimp only [idx_main_v8, j, Fin.cast]; omega
    | ⟨1, _⟩ => exact absurd rfl hb
    | ⟨2, _⟩ => dsimp only [idx_main_v8, j, Fin.cast]; omega
    | ⟨3, _⟩ => dsimp only [idx_main_v8, j, Fin.cast]; omega

/-- The same of the second arrays. -/
def from1 (i : S8x1x8x128.Idx) : S8x2x8x128.Idx := fun a => match a with
  | ⟨0, _⟩ => ⟨2 * ((i 0).val / 2) + (1 - (i 0).val % 2), by have h : (i 0).val < 8 := (i 0).isLt; show _ < 8; omega⟩
  | ⟨1, _⟩ => ⟨(i 0).val % 2, Nat.mod_lt _ (by decide)⟩
  | ⟨2, _⟩ => i 2
  | ⟨3, _⟩ => i 3

theorem second1 (x : (⟨S8x2x8x128, .f32⟩ : BufTy).Contents (Elt F)) (j : S4x1x8x128.Idx) (i : S8x1x8x128.Idx) (h0 : (i 0).val = 2 * (j 0).val) (h2 : (i 2).val = (j 2).val) (h3 : (i 3).val = (j 3).val) :
    val_main_v14 (F := F) x j = x (from1 i) := by
  rw [val_main_v14_apply, val_main_v11_apply, val_main_v10_apply, val_main_v9_apply]
  have b0 : (j 0).val < 4 := (j 0).isLt
  have b2 : (j 2).val < 8 := (j 2).isLt
  have b3 : (j 3).val < 128 := (j 3).isLt
  refine congrArg x (funext fun a => Fin.ext ?_)
  match a with
  | ⟨0, _⟩ | ⟨1, _⟩ | ⟨2, _⟩ | ⟨3, _⟩ => dsimp only [idx_main_v9, idx_main_v10, idx_main_v11, idx_main_v14, from1]; omega
theorem first1 (x : (⟨S8x2x8x128, .f32⟩ : BufTy).Contents (Elt F)) (j : S4x1x8x128.Idx) (i : S8x1x8x128.Idx) (h0 : (i 0).val = 2 * (j 0).val + 1) (h2 : (i 2).val = (j 2).val) (h3 : (i 3).val = (j 3).val) :
    val_main_v15 (F := F) x j = x (from1 i) := by
  rw [val_main_v15_apply, val_main_v13_apply, val_main_v12_apply, val_main_v9_apply]
  have b0 : (j 0).val < 4 := (j 0).isLt
  have b2 : (j 2).val < 8 := (j 2).isLt
  have b3 : (j 3).val < 128 := (j 3).isLt
  refine congrArg x (funext fun a => Fin.ext ?_)
  match a with
  | ⟨0, _⟩ | ⟨1, _⟩ | ⟨2, _⟩ | ⟨3, _⟩ => dsimp only [idx_main_v9, idx_main_v12, idx_main_v13, idx_main_v15, from1]; omega

theorem result1 (x : (⟨S8x2x8x128, .f32⟩ : BufTy).Contents (Elt F)) (i : S8x1x8x128.Idx) : val_main_v17 (F := F) x i = x (from1 i) := by
  rw [val_main_v17_apply]
  unfold val_main_v16
  have b0 : (i 0).val < 8 := (i 0).isLt
  have b1 : (i 1).val < 1 := (i 1).isLt
  have b2 : (i 2).val < 8 := (i 2).isLt
  have b3 : (i 3).val < 128 := (i 3).isLt
  let j : S4x1x8x128.Idx := fun a => match a with
    | ⟨0, _⟩ => ⟨(i 0).val / 2, by show _ < 4; omega⟩
    | ⟨1, _⟩ => ⟨0, Nat.one_pos⟩
    | ⟨2, _⟩ => i 2
    | ⟨3, _⟩ => i 3
  rcases Nat.mod_two_eq_zero_or_one (i 0).val with e | e
  · refine (concatenate_pair_apply_left (s₁ := S4x1x8x128) (s₂ := S4x1x8x128) 1 _ _ _ (idx_main_v17 i) rfl j fun b => ?_).trans
      (second1 x j i (by dsimp only [j]; omega) rfl rfl)
    match b with
    | ⟨0, _⟩ | ⟨1, _⟩ | ⟨2, _⟩ | ⟨3, _⟩ => dsimp only [idx_main_v17, j, Fin.cast]; omega
  · refine (concatenate_pair_apply_right (s₁ := S4x1x8x128) (s₂ := S4x1x8x128) 1 _ _ _ (idx_main_v17 i) rfl rfl j (fun b hb => ?_) (by dsimp only [idx_main_v17, j, Fin.cast]; show 0 + 1 = _; omega)).trans
      (first1 x j i (by dsimp only [j]; omega) rfl rfl)
    match b with
    | ⟨0, _⟩ => dsimp only [idx_main_v17, j, Fin.cast]; omega
    | ⟨1, _⟩ => exact absurd rfl hb
    | ⟨2, _⟩ => dsimp only [idx_main_v17, j, Fin.cast]; omega
    | ⟨3, _⟩ => dsimp only [idx_main_v17, j, Fin.cast]; omega

end Whole

section Sent
open Cert.SwapIdeal Cert.SwapIdeal.Gen Cert.SwapRefIdeal.Read Idealize.ShloMosaic.TcCoe

/-! What a device sends, seen in the whole array: the sibling's row of the reference's result. -/

theorem at0 (d : Dev nD) (i : S1x1x640x128.Idx) (b : Fin 4) : ((half0 d).view.emb i b).val = (![0, 1 - d.val % 2, 0, 0] : Fin 4 → ℕ) b + (i b).val := by
  rw [← k0_off1_eq d]
  show k0_off1 d b + 1 * (i b).val = _
  rw [Nat.one_mul]

theorem sent0_block (c : Dev nD) (X : (⟨Cert.SwapRefIdeal.S8x2x640x128, .f32⟩ : BufTy).Contents (Elt F)) (m : (ℓ : Loc nD τ sig) → Buf (Elt F) ℓ)
    (hm : m ((sib c : Thread nD τ).loc main_arg0) = Layout.block ⟨4, ![1, 2, 640, 128]⟩ ⟨4, ![8, 2, 640, 128]⟩ 0 8 (sib c) X) :
    out0 m (sib c) = Layout.block ⟨4, ![1, 1, 640, 128]⟩ ⟨4, ![8, 1, 640, 128]⟩ 0 8 c (val_main_v8 (F := F) X) := by
  funext i
  unfold out0
  rw [hm, Layout.block_apply, result0]
  have b0 : c.val < 8 := c.isLt
  have b1 : (i 0).val < 1 := (i 0).isLt
  have b2 : (i 1).val < 1 := (i 1).isLt
  have hd : (sib c).val = 2 * (c.val / 2) + (1 - c.val % 2) := rfl
  have hv (b : Fin 4) := at0 (sib c) i b
  show X (Layout.Tiles.idx _ (sib c) ((half0 (sib c)).view.emb i)) = _
  refine congrArg X (funext fun a => Fin.ext ?_)
  rw [Layout.Tiles.idx_val]
  match a with
  | ⟨0, _⟩ =>
    show (sib c).val * 1 + ((half0 (sib c)).view.emb i 0).val = 2 * ((c.val * 1 + (i 0).val) / 2) + (1 - (c.val * 1 + (i 0).val) % 2)
    rw [hv 0, hd]; show _ + (0 + (i 0).val) = _; omega
  | ⟨1, _⟩ =>
    show ((half0 (sib c)).view.emb i 1).val = (c.val * 1 + (i 0).val) % 2
    rw [hv 1]; show (1 - (sib c).val % 2) + (i 1).val = _; rw [hd]; omega
  | ⟨2, _⟩ =>
    show ((half0 (sib c)).view.emb i 2).val = (i 2).val
    rw [hv 2]; show 0 + (i 2).val = _; omega
  | ⟨3, _⟩ =>
    show ((half0 (sib c)).view.emb i 3).val = (i 3).val
    rw [hv 3]; show 0 + (i 3).val = _; omega

theorem at1 (d : Dev nD) (i : S1x1x8x128.Idx) (b : Fin 4) : ((half1 d).view.emb i b).val = (![0, 1 - d.val % 2, 0, 0] : Fin 4 → ℕ) b + (i b).val := by
  rw [← k0_off2_eq d]
  show k0_off2 d b + 1 * (i b).val = _
  rw [Nat.one_mul]

theorem sent1_block (c : Dev nD) (X : (⟨Cert.SwapRefIdeal.S8x2x8x128, .f32⟩ : BufTy).Contents (Elt F)) (m : (ℓ : Loc nD τ sig) → Buf (Elt F) ℓ)
    (hm : m ((sib c : Thread nD τ).loc main_arg1) = Layout.block ⟨4, ![1, 2, 8, 128]⟩ ⟨4, ![8, 2, 8, 128]⟩ 0 8 (sib c) X) :
    out1 m (sib c) = Layout.block ⟨4, ![1, 1, 8, 128]⟩ ⟨4, ![8, 1, 8, 128]⟩ 0 8 c (val_main_v17 (F := F) X) := by
  funext i
  unfold out1
  rw [hm, Layout.block_apply, result1]
  have b0 : c.val < 8 := c.isLt
  have b1 : (i 0).val < 1 := (i 0).isLt
  have b2 : (i 1).val < 1 := (i 1).isLt
  have hd : (sib c).val = 2 * (c.val / 2) + (1 - c.val % 2) := rfl
  have hv (b : Fin 4) := at1 (sib c) i b
  show X (Layout.Tiles.idx _ (sib c) ((half1 (sib c)).view.emb i)) = _
  refine congrArg X (funext fun a => Fin.ext ?_)
  rw [Layout.Tiles.idx_val]
  match a with
  | ⟨0, _⟩ =>
    show (sib c).val * 1 + ((half1 (sib c)).view.emb i 0).val = 2 * ((c.val * 1 + (i 0).val) / 2) + (1 - (c.val * 1 + (i 0).val) % 2)
    rw [hv 0, hd]; show _ + (0 + (i 0).val) = _; omega
  | ⟨1, _⟩ =>
    show ((half1 (sib c)).view.emb i 1).val = (c.val * 1 + (i 0).val) % 2
    rw [hv 1]; show (1 - (sib c).val % 2) + (i 1).val = _; rw [hd]; omega
  | ⟨2, _⟩ =>
    show ((half1 (sib c)).view.emb i 2).val = (i 2).val
    rw [hv 2]; show 0 + (i 2).val = _; omega
  | ⟨3, _⟩ =>
    show ((half1 (sib c)).view.emb i 3).val = (i 3).val
    rw [hv 3]; show 0 + (i 3).val = _; omega

end Sent

end Cert.SwapProof

end
-- ==== Proof.SwapClaim.lean ====
/- The claims about the exchange of halves between the two cores of a chip. -/
module

public import proofs.«01_k».proof.Defs
public import proofs.«01_k».proof.Proof.SwapValue
public import proofs.«01_k».proof.Proof.Gen.Swap
public import proofs.«01_k».proof.Proof.Gen.SwapRef
public import proofs.«01_k».proof.Proof.Gen.SwapRefIdeal
public import Idealize.ShloMosaic.Lib.Claim

@[expose] public section

set_option maxRecDepth 16384

noncomputable section

open Idealize.ShloMosaic Idealize.ShloMosaic.TcCoe Idealize.SL.Sem

namespace Cert.Proof

section
open Cert.SwapIdeal Cert.SwapProof Cert.SwapRefIdeal.Read
variable {F : FTy → Type} [FloatOps F]

/-- Over any float values: the exchange leaves on each device its block of what the reference stacks. -/
theorem swap_sent (m : (ℓ : Loc nD τ sig) → Buf (Elt F) ℓ) (ρ : Dev nD → PrngReg) (X : (⟨Cert.SwapRefIdeal.S8x2x640x128, .f32⟩ : BufTy).Contents (Elt F))
    (Y : (⟨Cert.SwapRefIdeal.S8x2x8x128, .f32⟩ : BufTy).Contents (Elt F))
    (hXY : ∀ c : Dev nD, m ((c : Thread nD τ).loc main_arg0) = Layout.block ⟨4, ![1, 2, 640, 128]⟩ ⟨4, ![8, 2, 640, 128]⟩ 0 8 c X
      ∧ m ((c : Thread nD τ).loc main_arg1) = Layout.block ⟨4, ![1, 2, 8, 128]⟩ ⟨4, ![8, 2, 8, 128]⟩ 0 8 c Y) :
    θ_run defs (onTc (τ := τ) (main (F := F))) ⟨m, fun _ => 0, ρ⟩ fun r => ∀ c : Dev nD,
      r.2.mem ((c : Thread nD τ).loc main_v1_0) = Layout.block ⟨4, ![1, 1, 640, 128]⟩ ⟨4, ![8, 1, 640, 128]⟩ 0 8 c (val_main_v8 (F := F) X)
      ∧ r.2.mem ((c : Thread nD τ).loc main_v1_1) = Layout.block ⟨4, ![1, 1, 8, 128]⟩ ⟨4, ![8, 1, 8, 128]⟩ 0 8 c (val_main_v17 (F := F) Y)
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun r h c => by
    obtain ⟨k0, k1, r0, r1⟩ := h.1 c
    exact ⟨r0.trans (sent0_block c _ m (hXY (sib c)).1), r1.trans (sent1_block c _ m (hXY (sib c)).2), k0, k1⟩) (run_main m ρ)

/-- Over any float values: what the reference's one device ends with. -/
theorem swap_stacked (m : (ℓ : Loc Cert.SwapRefIdeal.nD Cert.SwapRefIdeal.τ Cert.SwapRefIdeal.sig) → Buf (Elt F) ℓ) (ρ : Dev Cert.SwapRefIdeal.nD → PrngReg) :
    θ_run Cert.SwapRefIdeal.defs (onTc (τ := Cert.SwapRefIdeal.τ) (Cert.SwapRefIdeal.main (F := F))) ⟨m, fun _ => 0, ρ⟩ fun r =>
      r.2.mem ((0 : Dev Cert.SwapRefIdeal.nD).tc.loc Cert.SwapRefIdeal.main_v8) = val_main_v8 (F := F) (m ((0 : Dev Cert.SwapRefIdeal.nD).tc.loc Cert.SwapRefIdeal.main_arg0))
      ∧ r.2.mem ((0 : Dev Cert.SwapRefIdeal.nD).tc.loc Cert.SwapRefIdeal.main_v17) = val_main_v17 (F := F) (m ((0 : Dev Cert.SwapRefIdeal.nD).tc.loc Cert.SwapRefIdeal.main_arg1))
      ∧ r.2.mem ((0 : Dev Cert.SwapRefIdeal.nD).tc.loc Cert.SwapRefIdeal.main_arg0) = m ((0 : Dev Cert.SwapRefIdeal.nD).tc.loc Cert.SwapRefIdeal.main_arg0)
      ∧ r.2.mem ((0 : Dev Cert.SwapRefIdeal.nD).tc.loc Cert.SwapRefIdeal.main_arg1) = m ((0 : Dev Cert.SwapRefIdeal.nD).tc.loc Cert.SwapRefIdeal.main_arg1) :=
  (θ_run _ _ _).mono (fun r h => by
    obtain ⟨r0, r1, k⟩ := h 0
    exact ⟨r0.trans (val_main_v8_eq _), r1.trans (val_main_v17_eq _), k⟩) (Cert.SwapRefIdeal.Value.run m ρ)

end

theorem swap_value : Cert.algebraic_SwapIdeal_SwapRefIdeal (hSwapIdeal := Cert.SwapIdeal.Gen.facts) (hSwapRefIdeal := Cert.SwapRefIdeal.Gen.facts) :=
  fun m g m' g' _ h => ⟨_, _, swap_sent m g _ _ h, swap_stacked m' g'⟩

theorem swap_words : Cert.bitexact_Swap_SwapRef (hSwap := Cert.Swap.Gen.facts) (hSwapRef := Cert.SwapRef.Gen.facts) :=
  fun m g m' g' _ h => ⟨_, _, swap_sent (F := Bits) m g _ _ h, swap_stacked (F := Bits) m' g'⟩

theorem swap : ∃ (hSwap : Cert.Swap.Facts) (hSwapIdeal : Cert.SwapIdeal.Facts) (hSwapRefIdeal : Cert.SwapRefIdeal.Facts) (hSwapRef : Cert.SwapRef.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef) :=
  ⟨Cert.Swap.Gen.facts, Cert.SwapIdeal.Gen.facts, Cert.SwapRefIdeal.Gen.facts, Cert.SwapRef.Gen.facts,
    fun m ρ _ => (θ_run Cert.SwapIdeal.defs _ _).mono (fun _ h => ⟨fun c => ⟨(h.1 c).1, (h.1 c).2.1⟩, h.2⟩) (Cert.SwapProof.run_main (F := Bits) m ρ),
    fun m ρ _ => (θ_run _ _ _).mono (fun _ h => ⟨fun c => ⟨(h.1 c).1, (h.1 c).2.1⟩, h.2⟩) (Cert.SwapProof.run_main m ρ),
    fun m ρ _ => (θ_run_mono (Cert.SwapRefIdeal.Value.run m ρ) fun r h => ⟨fun c => (h c).2.2, sem_eq_zero_of_no_sems rfl r.2⟩),
    fun m ρ _ => (θ_run Cert.SwapRefIdeal.defs _ _).mono (fun r h => ⟨fun c => (h c).2.2, sem_eq_zero_of_no_sems rfl r.2⟩) (Cert.SwapRefIdeal.Value.run (F := Bits) m ρ),
    trivial, swap_value, swap_words⟩

end Cert.Proof

end
-- ==== Proof.Siblings.lean ====
/- Two cores of a chip that talk: a greeting on the barrier, then three transfers each way.

   A kernel of this kind has seven counters on each device: the barrier, three for what has left, three for what has
   arrived. A device greets its sibling, waits for the sibling's greeting, starts three copies into the sibling's
   arrays, and waits for the sibling's three and then for its own to have left. What changes from kernel to kernel is
   the counters, what each transfer counts, and what each wait hands over. -/
module

public import Idealize.ShloMosaic.Lib.Pipeline.Launch
public import Idealize.ShloMosaic.Lib.Pipeline.Kit
public import Idealize.ShloMosaic.Lib.Pipeline.RegionTalk
public import Idealize.ShloMosaic.Lib.Tactic
public import Idealize.ShloMosaic.Harness.Basic

@[expose] public section

noncomputable section

namespace Cert.Siblings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

local notation "nD" => (8 : ℕ)
local notation "τ" => Topo.v7x

set_option backward.proofsInPublic true in
/-- The other core of the chip. -/
def sib (c : Dev nD) : Dev nD := ⟨2 * (c.val / 2) + (1 - c.val % 2), by have h : c.val < 8 := c.isLt; show _ < 8; omega⟩

theorem sib_sib (c : Dev nD) : sib (sib c) = c := by revert c; decide
theorem sib_mod (c : Dev nD) : (sib c).val % 2 = 1 - c.val % 2 := by revert c; decide

/-- The counters of a kernel: the barrier, the three of what has left, the three of what has arrived; and what each counts. -/
class Counters (sig : RefSig) where
  csem : Fin 7 → SemLoc sig
  csem_injective : Function.Injective csem
  amt : Fin 7 → ℕ
  amt_pos : ∀ k, 0 < amt k

export Counters (csem csem_injective amt amt_pos)

abbrev UX (sig : RefSig) : Type := URounds (GSem nD τ sig) Unit
abbrev UU (sig : RefSig) : Type := UR sig nD τ × UX sig

variable {F : FTy → Type} {sig : RefSig}

local notation "𝕄" => MT nD τ sig Unit (Elt F) ℕ (UU sig) ℕ

abbrev EP : Emb (UR sig nD τ) 𝕄 := embL
abbrev EX : Emb (UX sig) 𝕄 := embR

/-- Device `d` holds the elements of a view, at contents `f`. -/
def hold {sp : Space} {s : Shape} {e : EltTy} (M : Memref sig .tc sp s e) (d : Dev nD) (f : Buf (Elt F) (M.view.loc (d : Thread nD τ))) : sProp 𝕄 :=
  M.view.loc (d : Thread nD τ) ↦[M.view.set]{fullShare} f

instance hold_storable {sp : Space} {s : Shape} {e : EltTy} (M : Memref sig .tc sp s e) (d : Dev nD) (f : Buf (Elt F) (M.view.loc (d : Thread nD τ))) :
    BI.Storable (upEmb : UEmb _ 𝕄) (hold M d f) := by unfold hold; infer_instance

variable [Counters sig]

/-! ## The cells and the schedule -/

abbrev osem (j : Fin 6) : SemLoc sig := csem j.succ
abbrev cell (ck : Dev nD × Fin 7) : GSem nD τ sig := ((ck.1 : Thread nD τ), csem ck.2)

def which : SemLoc sig → Option (Fin 7) := Function.partialInv csem
theorem which_csem (k : Fin 7) : which (csem k : SemLoc sig) = some k := Function.partialInv_left csem_injective k

theorem cell_injective : Function.Injective (cell : Dev nD × Fin 7 → GSem nD τ sig) := fun a b h =>
  Prod.ext (congrArg (fun g : GSem nD τ sig => g.1.1) h) (csem_injective (congrArg Prod.snd h))

-- what each device gets at each of its cells
variable (p : Fin 7 → Dev nD → sProp (MT nD τ sig Unit (Elt F) ℕ (UU sig) ℕ))

def plan : Rounds.Schedule (GSem nD τ sig) Unit 𝕄 where
  duties g r := if r = 0 ∧ g.1.2 = .tc ∧ (which g.2).isSome then {()} else ∅
  unitless _ := False
  amount g _ _ := ((which g.2).map (amt sig)).getD 1
  payload g _ _ := ((which g.2).map fun k => p k g.1.1).getD iprop(emp)
  amount_pos g _ _ _ := by
    cases (which g.2 : Option (Fin 7)) with
    | none => exact Nat.one_pos
    | some k => exact amt_pos k

variable [∀ k c, BI.Storable (upEmb : UEmb _ (MT nD τ sig Unit (Elt F) ℕ (UU sig) ℕ)) (p k c)]

instance plan_storable (g : GSem nD τ sig) (r : ℕ) (d : Unit) : BI.Storable (upEmb : UEmb _ 𝕄) ((plan p).payload g r d) := by
  show BI.Storable upEmb (((which g.2).map fun k => p k g.1.1).getD iprop(emp))
  cases which g.2 <;> (dsimp only [Option.map, Option.getD]; infer_instance)

section Tables
variable (c : Dev nD) (k : Fin 7)

theorem one_duty : (plan p).duties (cell (c, k)) 0 = {()} :=
  if_pos ⟨rfl, rfl, by show (which (csem k)).isSome = true; rw [which_csem]; rfl⟩
theorem is_duty : () ∈ (plan p).duties (cell (c, k)) 0 := by rw [one_duty]; exact Finset.mem_singleton_self _
theorem no_more (g : GSem nD τ sig) : ∀ r, 1 ≤ r → (plan p).duties g r = ∅ := fun r hr => if_neg fun h => by omega
theorem amount_at : (plan p).amount (cell (c, k)) 0 () = amt sig k := by
  show ((which (csem k)).map (amt sig)).getD 1 = amt sig k; rw [which_csem]; rfl
theorem expect_at : (plan p).expect (cell (c, k)) 0 = amt sig k := by
  unfold Schedule.expect Schedule.amountOf; rw [one_duty, Finset.sum_singleton, amount_at]
theorem payload_at : (plan p).payload (cell (c, k)) 0 () = p k c := by
  show ((which (csem k)).map fun k => p k c).getD iprop(emp) = _; rw [which_csem]; rfl
theorem rest_at : bigSep ((plan p).duties (cell (c, k)) 0 \ ∅) (fun d => (plan p).payload (cell (c, k)) 0 d) = p k c := by
  rw [Finset.sdiff_empty, one_duty, bigSep_singleton, payload_at]

end Tables

/-! ## What each device owes, and the levels -/

/-- A device owes its sibling a greeting and three arrivals, paid in this order from the last line to the first. -/
def owes3 (c : Dev nD) : CellTallies nD τ sig Unit := 0 + tallyAt (cell (sib c, 6)) () (amt sig 6)
def owes2 (c : Dev nD) : CellTallies nD τ sig Unit := owes3 c + tallyAt (cell (sib c, 5)) () (amt sig 5)
def owes1 (c : Dev nD) : CellTallies nD τ sig Unit := owes2 c + tallyAt (cell (sib c, 4)) () (amt sig 4)
def owes0 (c : Dev nD) : CellTallies nD τ sig Unit := owes1 c + tallyAt (cell (sib c, 0)) () (amt sig 0)

def L (g : GSem nD τ sig) : Finset Unit := if g.1.2 = .tc then {()} else ∅
/-- The barrier below the arrivals. -/
def lv (g : GSem nD τ sig) (_ : Unit) : ℕ := if g.2 = csem 0 then 1 else 2

theorem L_of_ne (g : GSem nD τ sig) (h : g.1.2 ≠ .tc) : L g = ∅ := if_neg h
theorem mem_L (c : Dev nD) (k : Fin 7) : () ∈ L (cell (c, k) : GSem nD τ sig) := Finset.mem_singleton_self _
theorem lv_pos (g : GSem nD τ sig) (u : Unit) : 0 < lv g u := by unfold lv; split <;> decide

theorem owes1_pos {c : Dev nD} {g : GSem nD τ sig} {u : Unit} (h : 0 < owes1 c g u) : ∃ k : Fin 7, k ≠ 0 ∧ g = cell (sib c, k) := by
  unfold owes1 owes2 owes3 at h
  rw [zero_add] at h
  rw [Pi.add_apply, Finsupp.add_apply, Pi.add_apply, Finsupp.add_apply, tallyAt_apply, tallyAt_apply, tallyAt_apply] at h
  by_contra hn
  rw [not_exists] at hn
  rw [if_neg (fun h' => hn 6 ⟨by decide, h'.1⟩), if_neg (fun h' => hn 5 ⟨by decide, h'.1⟩), if_neg (fun h' => hn 4 ⟨by decide, h'.1⟩)] at h
  exact Nat.lt_irrefl 0 h

theorem owes0_pos {c : Dev nD} {g : GSem nD τ sig} {u : Unit} (h : 0 < owes0 c g u) : ∃ k : Fin 7, g = cell (sib c, k) := by
  unfold owes0 at h
  rw [Pi.add_apply, Finsupp.add_apply] at h
  rcases Nat.add_pos_iff_pos_or_pos.mp h with h | h
  · obtain ⟨k, -, e⟩ := owes1_pos h; exact ⟨k, e⟩
  · rw [tallyAt_apply] at h
    split at h
    · next e => exact ⟨0, e.1⟩
    · exact absurd h (Nat.lt_irrefl 0)

/-- A device may wait for the greeting while it owes the arrivals. -/
theorem may_wait (c : Dev nD) : (levAts L lv : sProp 𝕄) ⊢ MayWait (c : Thread nD τ) (csem 0) () (owes1 c) :=
  MayOwe.of_cut (L := L) (lev := lv) 1 (fun p hp => by rw [Finset.mem_singleton.mp hp]; exact mem_L c 0)
    (fun g u hg => by obtain ⟨k, -, rfl⟩ := owes1_pos hg; exact mem_L _ k)
    (fun p hp => by rw [Finset.mem_singleton.mp hp]; dsimp only [lv]; rw [if_pos rfl])
    (fun g u hg => by
      obtain ⟨k, hk, rfl⟩ := owes1_pos hg
      dsimp only [lv]; rw [if_neg (csem_injective.ne hk)]; decide)

/-- Whose cell a device's unit goes to: its own for what has left, the sibling's else. -/
def whose (k : Fin 7) (c : Dev nD) : Dev nD := if k = 1 ∨ k = 2 ∨ k = 3 then c else sib c
theorem whose_whose (k : Fin 7) (c : Dev nD) : whose k (whose k c) = c := by
  unfold whose; split
  · rfl
  · exact sib_sib c
def across : Dev nD × Fin 7 ≃ Dev nD × Fin 7 where
  toFun x := (whose x.2 x.1, x.2)
  invFun x := (whose x.2 x.1, x.2)
  left_inv x := by simp only [whose_whose]
  right_inv x := by simp only [whose_whose]

abbrev 𝒱₀ : Variants := Variants.none

/-! ## Names of the cells' invariants -/

abbrev barEmb : Dev nD ↪ GSem nD τ sig := ⟨fun c => cell (c, 0), fun a b h => congrArg Prod.fst (cell_injective h)⟩
abbrev ownEmb : Dev nD × Fin 6 ↪ GSem nD τ sig :=
  ⟨fun cj => cell (cj.1, cj.2.succ), fun a b h => by
    obtain ⟨e1, e2⟩ := Prod.mk.inj (cell_injective h)
    exact Prod.ext e1 (Fin.succ_injective _ e2)⟩
/-- The barrier cells are awake from the launch on; the kernel's own sleep until the kernel starts. -/
def awake : Finset (GSem nD τ sig) := Finset.univ.map barEmb
def asleep : Finset (GSem nD τ sig) := Finset.univ.map ownEmb

theorem cell_mem (c : Dev nD) (k : Fin 7) : (cell (c, k) : GSem nD τ sig) ∈ awake ∪ asleep := by
  refine Fin.cases ?_ (fun j => ?_) k
  · exact Finset.mem_union_left _ (Finset.mem_map_of_mem barEmb (Finset.mem_univ c))
  · exact Finset.mem_union_right _ (Finset.mem_map_of_mem ownEmb (Finset.mem_univ (c, j)))

/-- Every cell's invariant, and that every barrier cell is in its round. -/
def known (κ : GSem nD τ sig → ℕ) : sProp 𝕄 :=
  iprop((bigSep (awake ∪ asleep) fun g => cellInv EX (plan p) (κ g) g) ∗ bigSep awake fun g => reached EX g 0)
instance known_persistent (κ : GSem nD τ sig → ℕ) : BI.Persistent (known p κ) := by unfold known; infer_instance
theorem inv_at (κ : GSem nD τ sig → ℕ) (c : Dev nD) (k : Fin 7) : known p κ ⊢ cellInv EX (plan p) (κ (cell (c, k))) (cell (c, k)) := by
  unfold known
  iintro ⟨H, -⟩
  iapply (show (bigSep (awake ∪ asleep) fun g => (cellInv EX (plan p) (κ g) g : sProp 𝕄)) ⊢ cellInv EX (plan p) (κ (cell (c, k))) (cell (c, k)) from
    bigSep_elim (cell_mem c k)) $$ H
theorem bar_at (κ : GSem nD τ sig → ℕ) (c : Dev nD) : known p κ ⊢ reached EX (cell (c, 0)) 0 := by
  unfold known
  iintro ⟨-, H⟩
  iapply (show (bigSep awake fun g => (reached EX g 0 : sProp 𝕄)) ⊢ reached EX (cell (c, 0)) 0 from
    bigSep_elim (Finset.mem_map_of_mem barEmb (Finset.mem_univ c))) $$ H

/-! ## One rule for the three copies and one for the six waits -/

section Rules
variable {Λ : Labels} (defs : Defs nD τ sig (Elt F) Λ) (κ : GSem nD τ sig → ℕ)

/-- A view written with what the same view reads of `f` holds what `f` holds there. -/
theorem hold_written {sp : Space} {s : Shape} {e : EltTy} (M : Memref sig .tc sp s e) (d : Dev nD)
    (f g : Buf (Elt F) (M.view.loc (d : Thread nD τ))) :
    (M.view.loc (d : Thread nD τ) ↦[M.view.set]{fullShare} (M.view.write (Elt F) g (M.view.read (Elt F) f) Finset.univ) : sProp 𝕄) = hold M d f := by
  unfold hold
  refine pointsTo_congr fun i hi => ?_
  rw [View.write_read_eq_piecewise]
  exact Finset.piecewise_eq_of_mem _ _ _ hi

set_option maxHeartbeats 2000000 in
/-- A copy: the sibling's array gets it at the same place. -/
theorem wp_copy (c n : Dev nD) (hn : n = sib c) {s : Shape} {e : EltTy} (M : Memref sig .tc .hbm s e) (j k : Fin 7) {sS sR : DmaSem sig}
    (hj : csem j = .dma sS) (hk : csem k = .dma sR) (hjk : amt sig j = amt sig k) (hN : M.view.dmaCredit = amt sig k)
    (f : Buf (Elt F) (M.view.loc (c : Thread nD τ))) (hpj : p j c = hold M c f) (hpk : p k (sib c) = hold M (sib c) f)
    {hsc : M.view.ref.isScScratch = false} {hsrc hdst : M.view.WordExact}
    {hsem : DmaTarget.Typed .hbm (.dma sR) (.remote (Dev.tc n : Thread nD τ) M (.dma sS) hsc)}
    {α : Type} {Q : α → sProp 𝕄} {cont : PUnit → Prog (TpuEff nD τ sig (Elt F) Λ .tc) α}
    (g : Buf (Elt F) (M.view.loc (sib c : Thread nD τ))) (O : CellTallies nD τ sig Unit) (W : Waits sig Unit) :
    iprop(known p κ ∗ hold M c f ∗ hold M (sib c) g ∗ owes (c : Thread nD τ) (O + tallyAt (cell (sib c, k)) () (amt sig k)) W
        ∗ dutyTok EX (cell (c, j)) 0 () ∗ reached EX (cell (c, j)) 0
        ∗ dutyTok EX (cell (sib c, k)) 0 () ∗ reached EX (cell (sib c, k)) 0)
      ⊢ iprop(((cred (tallyAt (cell (c, j)) () (amt sig j)) ∗ owes (c : Thread nD τ) O W)
            -∗ wp frame (wpE defs 𝒱₀ (c : Thread nD τ) none) Set.univ (cont ⟨⟩) Q)
          -∗ wp frame (wpE defs 𝒱₀ (c : Thread nD τ) none) Set.univ
              (.op (.enqueueDma M (.remote (Dev.tc n : Thread nD τ) M (.dma sS) hsc) (.dma sR) hsrc hdst hsem) cont) Q) := by
  subst hn
  have a1 := (amount_at p c j).trans hjk
  have a2 := amount_at p (sib c) k
  have d1 := is_duty p c j
  have d2 := is_duty p (sib c) k
  have p1 := payload_at p c j
  have p2 := payload_at p (sib c) k
  have i1 := inv_at p κ c j
  have i2 := inv_at p κ (sib c) k
  have hr : Topo.routes τ (c : Thread nD τ) (sib c : Thread nD τ) = true := by routes
  rw [hpj] at p1
  rw [hpk] at p2
  unfold cell at a1 a2 d1 d2 p1 p2 i1 i2 ⊢
  dsimp only at a1 a2 d1 d2 p1 p2 i1 i2 ⊢
  rw [hjk]
  rw [hj] at a1 d1 p1 i1 ⊢
  rw [hk] at a2 d2 p2 i2 ⊢
  iintro ⟨#HR, Hs, Hd, HO, Ht1, Hr1, Ht2, Hr2⟩
  iapply (Rounds.wp_send_pointsTo 𝒱₀ EX (plan p) (c : Thread nD τ) none (c' := (sib c : Thread nD τ)) (src := M) (dst := M)
    (sS := .dma sS) (sem := .dma sR) (r₁ := 0) (r₂ := 0) (d₁ := ()) (d₂ := ()) (fs := f) (fd := g) d1 d2 () () (amt sig k) hN a1 a2 O rfl (W := W)
    (Entails.of_eq p1.symm) (Entails.of_eq ((hold_written M (sib c) f g).trans p2.symm)) hr)
  isplitr; · iapply i1; iexact HR
  isplitr; · iapply i2; iexact HR
  unfold hold
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

set_option maxHeartbeats 2000000 in
/-- A wait for one of the six transfers, owing nothing: what it hands over, and its counter closed. -/
theorem wp_come (c : Dev nD) (k : Fin 7) {sm : DmaSem sig} (hk : csem k = .dma sm)
    {s : Shape} {e : EltTy} {src dst : Memref sig .tc .hbm s e} {hsrc : src.view.WordExact} {hdst : dst.view.WordExact} (hN : ∀ M : Memref sig .tc .hbm s e, M.view.dmaCredit = amt sig k)
    {α : Type} {Q : α → sProp 𝕄} {cont : PUnit → Prog (TpuEff nD τ sig (Elt F) Λ .tc) α} :
    iprop(known p κ ∗ cred (tallyAt (cell (c, k)) () (amt sig k)) ∗ (∃ W, owes (c : Thread nD τ) (0 : CellTallies nD τ sig Unit) W) ∗ atPos EX (cell (c, k)) 0 ∅ 0)
      ⊢ iprop((((∃ W, owes (c : Thread nD τ) (0 : CellTallies nD τ sig Unit) W) ∗ semVal (cell (c, k)) 0 ∗ p k c)
            -∗ wp frame (wpE defs 𝒱₀ (c : Thread nD τ) none) Set.univ (cont ⟨⟩) Q)
          -∗ wp frame (wpE defs 𝒱₀ (c : Thread nD τ) none) Set.univ (.op (.waitDma2 sm src dst hsrc hdst) cont) Q) := by
  have e1 := expect_at p c k
  have r1 := rest_at p c k
  have i1 := inv_at p κ c k
  unfold cell at e1 r1 i1 ⊢
  dsimp only at e1 r1 i1 ⊢
  rw [hk] at e1 r1 i1 ⊢
  iintro ⟨#HR, Hc, ⟨%W, HO⟩, Hat⟩ Hk
  ihave #HI := i1 $$ HR
  iapply (Rounds.wp_wait_rest_token 𝒱₀ EX (plan p) (c : Thread nD τ) none
      (wpE_waitDma2_eq (src := src) (dst := dst) (hsrc := hsrc) (hdst := hdst) 𝒱₀ (c : Thread nD τ) none Set.univ) (Set.mem_univ _) () (O := 0) (W := W) (R := 0) (m := 0) (T := ∅)
      (by rw [Nat.zero_add, hN dst]; exact e1.symm)) $$ [Hc HO Hat]
  · isplitr; · iexact HI
    isplitl [Hc]; · rw [hN dst]; iexact Hc
    isplitl [HO]; · iexact HO
    isplitr; · rw [MayWait_zero]; iempintro
    iexact Hat
  iintro ⟨HO, Hat, -, Hpay⟩
  imod (Rounds.cell_close EX (plan p) (Set.mem_univ _) (fun h => h) (R := 0 + 1) (no_more p _)) $$ [Hat] with Hv
  · isplitr; · iexact HI
    iexact Hat
  iapply Hk
  isplitl [HO]; · iexists _; iexact HO
  isplitl [Hv]; · iexact Hv
  iapply (Entails.of_eq r1) $$ Hpay

end Rules

/-! ## A device's run -/

/-- What a device brings from the launch: its place at the barrier, the rights to open its six counters, the duties it pays. -/
def brought (κ : GSem nD τ sig → ℕ) (c : Dev nD) : sProp 𝕄 :=
  iprop(known p κ ∗ atPos EX (cell (c, 0)) 0 ∅ 0 ∗ (bigSep Finset.univ fun j : Fin 6 => openTok EX (cell (c, j.succ)))
    ∗ bigSep Finset.univ fun k : Fin 7 => dutyTok EX (cell (across (c, k))) 0 ())

/-- The same with the six counters open. -/
def opened (κ : GSem nD τ sig → ℕ) (c : Dev nD) : sProp 𝕄 :=
  iprop(known p κ ∗ atPos EX (cell (c, 0)) 0 ∅ 0
    ∗ (bigSep Finset.univ fun j : Fin 6 => iprop(atPos EX (cell (c, j.succ)) 0 ∅ 0 ∗ reached EX (cell (c, j.succ)) 0))
    ∗ bigSep Finset.univ fun k : Fin 7 => dutyTok EX (cell (across (c, k))) 0 ())

def credits (c : Dev nD) : sProp 𝕄 :=
  iprop(cred (tallyAt (cell (c, 0)) () (amt sig 0)) ∗ cred (tallyAt (cell (c, 4)) () (amt sig 4)) ∗ cred (tallyAt (cell (c, 5)) () (amt sig 5)) ∗ cred (tallyAt (cell (c, 6)) () (amt sig 6)))

/-- Before the talk, with what the device holds: what it sends, and the places that the sibling overwrites. -/
def before (A B : sProp 𝕄) (c : Dev nD) : sProp 𝕄 := iprop((∃ κ, opened p κ c) ∗ credits c ∗ levAts L lv ∗ A ∗ B)

def after (c : Dev nD) : sProp 𝕄 :=
  iprop((bigSep Finset.univ fun k : Fin 7 => semVal (cell (c, k)) 0)
    ∗ (p 1 c ∗ p 2 c ∗ p 3 c) ∗ (p 4 c ∗ p 5 c ∗ p 6 c))

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem opened_eq (κ : GSem nD τ sig → ℕ) (c : Dev nD) : opened p κ c = iprop(known p κ ∗ atPos EX (cell (c, 0)) 0 ∅ 0
    ∗ ((atPos EX (cell (c, 1)) 0 ∅ 0 ∗ reached EX (cell (c, 1)) 0) ∗ (atPos EX (cell (c, 2)) 0 ∅ 0 ∗ reached EX (cell (c, 2)) 0)
      ∗ (atPos EX (cell (c, 3)) 0 ∅ 0 ∗ reached EX (cell (c, 3)) 0) ∗ (atPos EX (cell (c, 4)) 0 ∅ 0 ∗ reached EX (cell (c, 4)) 0)
      ∗ (atPos EX (cell (c, 5)) 0 ∅ 0 ∗ reached EX (cell (c, 5)) 0) ∗ (atPos EX (cell (c, 6)) 0 ∅ 0 ∗ reached EX (cell (c, 6)) 0))
    ∗ (dutyTok EX (cell (sib c, 0)) 0 () ∗ dutyTok EX (cell (c, 1)) 0 () ∗ dutyTok EX (cell (c, 2)) 0 () ∗ dutyTok EX (cell (c, 3)) 0 ()
      ∗ dutyTok EX (cell (sib c, 4)) 0 () ∗ dutyTok EX (cell (sib c, 5)) 0 () ∗ dutyTok EX (cell (sib c, 6)) 0 ())) := by
  unfold opened; rw [six, seven]; rfl

section Greetings
variable {Λ : Labels} (defs : Defs nD τ sig (Elt F) Λ) (κ : GSem nD τ sig → ℕ)

/-- A device greets its sibling. -/
theorem wp_greet (c : Dev nD) {bar : Sem sig} (hb : csem 0 = .reg bar) (ha : amt sig 0 = 1) (W : Waits sig Unit)
    {α : Type} {Q : α → sProp 𝕄} {cont : PUnit → Prog (TpuEff nD τ sig (Elt F) Λ .tc) α} :
    iprop(known p κ ∗ owes (c : Thread nD τ) (owes0 c) W ∗ dutyTok EX (cell (sib c, 0)) 0 () ∗ p 0 (sib c))
      ⊢ iprop((owes (c : Thread nD τ) (owes1 c) W -∗ wp frame (wpE defs 𝒱₀ (c : Thread nD τ) none) Set.univ (cont ⟨⟩) Q)
          -∗ wp frame (wpE defs 𝒱₀ (c : Thread nD τ) none) Set.univ (.op (.semSignal (sib c : Thread nD τ) bar ((1 : ℕ) : ℤ)) cont) Q) := by
  have a := (amount_at p (sib c) 0).trans ha
  have d := is_duty p (sib c) 0
  have q := payload_at p (sib c) 0
  have i := inv_at p κ (sib c) 0
  have r := bar_at p κ (sib c)
  have o : owes0 c = owes1 c + tallyAt (cell (sib c, 0)) () (amt sig 0) := rfl
  rw [ha] at o
  unfold cell at a d q i r o ⊢
  dsimp only at a d q i r o ⊢
  rw [hb] at a d q i r o ⊢
  iintro ⟨#HR, HO, Ht, Hp⟩
  iapply (Rounds.wp_signal 𝒱₀ EX (plan p) (c : Thread nD τ) none (dst := (sib c : Thread nD τ)) (d := ()) d a () (owes1 c) o)
  isplitr; · iapply i; iexact HR
  isplitl [HO]; · iexact HO
  isplitl [Ht]; · iexact Ht
  isplitl [Hp]; · iapply (Entails.of_eq q.symm); iexact Hp
  iapply r; iexact HR

/-- A device waits for its sibling's greeting, and closes its barrier. -/
theorem wp_greeted (c : Dev nD) {bar : Sem sig} (hb : csem 0 = .reg bar) (ha : amt sig 0 = 1) (W : Waits sig Unit)
    {α : Type} {Q : α → sProp 𝕄} {cont : PUnit → Prog (TpuEff nD τ sig (Elt F) Λ .tc) α} :
    iprop(known p κ ∗ cred (tallyAt (cell (c, 0)) () (amt sig 0)) ∗ owes (c : Thread nD τ) (owes1 c) W ∗ levAts L lv ∗ atPos EX (cell (c, 0)) 0 ∅ 0)
      ⊢ iprop((((∃ W, owes (c : Thread nD τ) (owes1 c) W) ∗ semVal (cell (c, 0)) 0 ∗ p 0 c) -∗ wp frame (wpE defs 𝒱₀ (c : Thread nD τ) none) Set.univ (cont ⟨⟩) Q)
          -∗ wp frame (wpE defs 𝒱₀ (c : Thread nD τ) none) Set.univ (.op (.semWait bar ((1 : ℕ) : ℤ)) cont) Q) := by
  have e := (expect_at p c 0).trans ha
  have r := rest_at p c 0
  have i := inv_at p κ c 0
  have w := may_wait (F := F) (sig := sig) c
  unfold cell at e r i ⊢
  dsimp only at e r i ⊢
  rw [ha]
  rw [hb] at e r i w ⊢
  iintro ⟨#HR, Hc, HO, #Hl, Hat⟩ Hk
  ihave #HI := i $$ HR
  iapply (Rounds.wp_wait_rest_token 𝒱₀ EX (plan p) (c : Thread nD τ) none
      (wpE_semWait_eq 𝒱₀ (c : Thread nD τ) none Set.univ) (Set.mem_univ _) () (O := owes1 c) (W := W) (R := 0) (m := 0) (T := ∅)
      ((Nat.zero_add _).trans e.symm)) $$ [Hc HO Hat]
  · isplitr; · iexact HI
    isplitl [Hc]; · iexact Hc
    isplitl [HO]; · iexact HO
    isplitr; · iapply w; iexact Hl
    iexact Hat
  iintro ⟨HO, Hat, -, Hpay⟩
  imod (Rounds.cell_close EX (plan p) (Set.mem_univ _) (fun h => h) (R := 0 + 1) (no_more p _)) $$ [Hat] with Hv
  · isplitr; · iexact HI
    iexact Hat
  iapply Hk
  isplitl [HO]; · iexists _; iexact HO
  isplitl [Hv]; · iexact Hv
  iapply (Entails.of_eq r) $$ Hpay

end Greetings

set_option maxHeartbeats 4000000 in
/-- The whole talk: the greeting, the sibling's, three copies, three arrivals, three departures. -/
theorem talk {Λ : Labels} (defs : Defs nD τ sig (Elt F) Λ) (c : Dev nD) {n0 n1 n2 : Dev nD} (e0 : n0 = sib c) (e1 : n1 = sib c) (e2 : n2 = sib c)
    {bar : Sem sig} {s0 s1 s2 r0 r1 r2 : DmaSem sig} (hb : csem 0 = .reg bar)
    (hs0 : csem 1 = .dma s0) (hs1 : csem 2 = .dma s1) (hs2 : csem 3 = .dma s2) (hr0 : csem 4 = .dma r0) (hr1 : csem 5 = .dma r1) (hr2 : csem 6 = .dma r2)
    {S0 S1 S2 : Shape} {t0 t1 t2 : EltTy} (M0 : Memref sig .tc .hbm S0 t0) (M1 : Memref sig .tc .hbm S1 t1) (M2 : Memref sig .tc .hbm S2 t2)
    (N0 : ∀ M : Memref sig .tc .hbm S0 t0, M.view.dmaCredit = amt sig 4) (N1 : ∀ M : Memref sig .tc .hbm S1 t1, M.view.dmaCredit = amt sig 5)
    (N2 : ∀ M : Memref sig .tc .hbm S2 t2, M.view.dmaCredit = amt sig 6)
    (a0 : amt sig 0 = 1) (a1 : amt sig 1 = amt sig 4) (a2 : amt sig 2 = amt sig 5) (a3 : amt sig 3 = amt sig 6)
    (f0 : Buf (Elt F) (M0.view.loc (c : Thread nD τ))) (f1 : Buf (Elt F) (M1.view.loc (c : Thread nD τ))) (f2 : Buf (Elt F) (M2.view.loc (c : Thread nD τ))) {B : sProp 𝕄}
    (give : iprop(B ∗ reached EX (cell (c, 4)) 0 ∗ reached EX (cell (c, 5)) 0 ∗ reached EX (cell (c, 6)) 0) ⊢ p 0 (sib c))
    (get : p 0 c ⊢ iprop(((∃ f, hold M0 (sib c) f) ∗ (∃ f, hold M1 (sib c) f) ∗ ∃ f, hold M2 (sib c) f)
      ∗ reached EX (cell (sib c, 4)) 0 ∗ reached EX (cell (sib c, 5)) 0 ∗ reached EX (cell (sib c, 6)) 0))
    (p1 : p 1 c = hold M0 c f0) (p2 : p 2 c = hold M1 c f1) (p3 : p 3 c = hold M2 c f2)
    (p4 : p 4 (sib c) = hold M0 (sib c) f0) (p5 : p 5 (sib c) = hold M1 (sib c) f1) (p6 : p 6 (sib c) = hold M2 (sib c) f2)
    {x0 : M0.view.ref.isScScratch = false} {x1 : M1.view.ref.isScScratch = false} {x2 : M2.view.ref.isScScratch = false}
    {h0 h0' : M0.view.WordExact} {h1 h1' : M1.view.WordExact} {h2 h2' : M2.view.WordExact}
    {y0 : DmaTarget.Typed .hbm (.dma r0) (.remote (Dev.tc n0 : Thread nD τ) M0 (.dma s0) x0)}
    {y1 : DmaTarget.Typed .hbm (.dma r1) (.remote (Dev.tc n1 : Thread nD τ) M1 (.dma s1) x1)}
    {y2 : DmaTarget.Typed .hbm (.dma r2) (.remote (Dev.tc n2 : Thread nD τ) M2 (.dma s2) x2)}
    {A0 A0' D0 D0' : Memref sig .tc .hbm S0 t0} {A1 A1' D1 D1' : Memref sig .tc .hbm S1 t1} {A2 A2' D2 D2' : Memref sig .tc .hbm S2 t2}
    {w0 : A0.view.WordExact} {w0' : A0'.view.WordExact} {w1 : A1.view.WordExact} {w1' : A1'.view.WordExact} {w2 : A2.view.WordExact} {w2' : A2'.view.WordExact}
    {v0 : D0.view.WordExact} {v0' : D0'.view.WordExact} {v1 : D1.view.WordExact} {v1' : D1'.view.WordExact} {v2 : D2.view.WordExact} {v2' : D2'.view.WordExact}
    (W : Waits sig Unit) (Kt : PUnit → sProp 𝕄) :
    iprop((before p iprop(hold M0 c f0 ∗ hold M1 c f1 ∗ hold M2 c f2) B c ∗ owes (c : Thread nD τ) (owes0 c) W)
        ∗ ((after p c ∗ ∃ W, owes (c : Thread nD τ) (0 : CellTallies nD τ sig Unit) W) -∗ Kt ⟨⟩))
      ⊢ wp frame (wpE defs 𝒱₀ (c : Thread nD τ) none) Set.univ
          (.op (.semSignal (sib c : Thread nD τ) bar (1#32).toInt) fun _ => .op (.semWait bar (1#32).toInt) fun _ =>
            .op (.enqueueDma M0 (.remote (Dev.tc n0 : Thread nD τ) M0 (.dma s0) x0) (.dma r0) h0 h0' y0) fun _ =>
            .op (.enqueueDma M1 (.remote (Dev.tc n1 : Thread nD τ) M1 (.dma s1) x1) (.dma r1) h1 h1' y1) fun _ =>
            .op (.enqueueDma M2 (.remote (Dev.tc n2 : Thread nD τ) M2 (.dma s2) x2) (.dma r2) h2 h2' y2) fun _ =>
            .op (.waitDma2 r0 A0 A0' w0 w0') fun _ => .op (.waitDma2 r1 A1 A1' w1 w1') fun _ => .op (.waitDma2 r2 A2 A2' w2 w2') fun _ =>
            .op (.waitDma2 s0 D0 D0' v0 v0') fun _ => .op (.waitDma2 s1 D1 D1' v1 v1') fun _ => .op (.waitDma2 s2 D2 D2' v2 v2') fun _ => .ret ⟨⟩) Kt := by
  unfold before credits
  simp only [opened_eq]
  iintro ⟨⟨⟨⟨%κ, #HR, HatB, ⟨⟨Ha1, #Hr1⟩, ⟨Ha2, #Hr2⟩, ⟨Ha3, #Hr3⟩, ⟨Ha4, #Hr4⟩, ⟨Ha5, #Hr5⟩, ⟨Ha6, #Hr6⟩⟩, ⟨Ht0, Ht1, Ht2, Ht3, Ht4, Ht5, Ht6⟩⟩,
    ⟨Hc0, Hc4, Hc5, Hc6⟩, #Hlev, ⟨Hs0, Hs1, Hs2⟩, HB⟩, HO⟩, Hk⟩
  iapply (wp_greet p defs κ c hb a0 W) $$ [HO Ht0 HB]
  · isplitr; · iexact HR
    isplitl [HO]; · iexact HO
    isplitl [Ht0]; · iexact Ht0
    iapply give
    isplitl [HB]; · iexact HB
    isplitr; · iexact Hr4
    isplitr; · iexact Hr5
    iexact Hr6
  iintro HO
  iapply (wp_greeted p defs κ c hb a0 W) $$ [Hc0 HO HatB]
  · isplitr; · iexact HR
    isplitl [Hc0]; · iexact Hc0
    isplitl [HO]; · iexact HO
    isplitr; · iexact Hlev
    iexact HatB
  iintro ⟨⟨%W', HO⟩, Hv0, Hp⟩
  ihave Hp := get $$ Hp
  icases Hp with ⟨⟨⟨%g0, Hd0⟩, ⟨%g1, Hd1⟩, %g2, Hd2⟩, #Hn4, #Hn5, #Hn6⟩
  iapply (wp_copy p defs κ c _ e0 M0 1 4 hs0 hr0 a1 (N0 M0) f0 p1 p4 g0 (owes2 c) _) $$ [Hs0 Hd0 HO Ht1 Ht4]
  · isplitr; · iexact HR
    isplitl [Hs0]; · iexact Hs0
    isplitl [Hd0]; · iexact Hd0
    isplitl [HO]; · iexact HO
    isplitl [Ht1]; · iexact Ht1
    isplitr; · iexact Hr1
    isplitl [Ht4]; · iexact Ht4
    iexact Hn4
  iintro ⟨Hc1, HO⟩
  iapply (wp_copy p defs κ c _ e1 M1 2 5 hs1 hr1 a2 (N1 M1) f1 p2 p5 g1 (owes3 c) _) $$ [Hs1 Hd1 HO Ht2 Ht5]
  · isplitr; · iexact HR
    isplitl [Hs1]; · iexact Hs1
    isplitl [Hd1]; · iexact Hd1
    isplitl [HO]; · iexact HO
    isplitl [Ht2]; · iexact Ht2
    isplitr; · iexact Hr2
    isplitl [Ht5]; · iexact Ht5
    iexact Hn5
  iintro ⟨Hc2, HO⟩
  iapply (wp_copy p defs κ c _ e2 M2 3 6 hs2 hr2 a3 (N2 M2) f2 p3 p6 g2 (0) _) $$ [Hs2 Hd2 HO Ht3 Ht6]
  · isplitr; · iexact HR
    isplitl [Hs2]; · iexact Hs2
    isplitl [Hd2]; · iexact Hd2
    isplitl [HO]; · iexact HO
    isplitl [Ht3]; · iexact Ht3
    isplitr; · iexact Hr3
    isplitl [Ht6]; · iexact Ht6
    iexact Hn6
  iintro ⟨Hc3, HO⟩
  iapply (wp_come p defs κ c 4 hr0 (N0)) $$ [Hc4 HO Ha4]
  · isplitr; · iexact HR
    isplitl [Hc4]; · iexact Hc4
    isplitl [HO]; · iexists _; iexact HO
    iexact Ha4
  iintro ⟨HO, Hv4, Hd0⟩
  iapply (wp_come p defs κ c 5 hr1 (N1)) $$ [Hc5 HO Ha5]
  · isplitr; · iexact HR
    isplitl [Hc5]; · iexact Hc5
    isplitl [HO]; · iexact HO
    iexact Ha5
  iintro ⟨HO, Hv5, Hd1⟩
  iapply (wp_come p defs κ c 6 hr2 (N2)) $$ [Hc6 HO Ha6]
  · isplitr; · iexact HR
    isplitl [Hc6]; · iexact Hc6
    isplitl [HO]; · iexact HO
    iexact Ha6
  iintro ⟨HO, Hv6, Hd2⟩
  iapply (wp_come p defs κ c 1 hs0 (fun M => (N0 M).trans a1.symm)) $$ [Hc1 HO Ha1]
  · isplitr; · iexact HR
    isplitl [Hc1]; · iexact Hc1
    isplitl [HO]; · iexact HO
    iexact Ha1
  iintro ⟨HO, Hv1, Hs0⟩
  iapply (wp_come p defs κ c 2 hs1 (fun M => (N1 M).trans a2.symm)) $$ [Hc2 HO Ha2]
  · isplitr; · iexact HR
    isplitl [Hc2]; · iexact Hc2
    isplitl [HO]; · iexact HO
    iexact Ha2
  iintro ⟨HO, Hv2, Hs1⟩
  iapply (wp_come p defs κ c 3 hs2 (fun M => (N2 M).trans a3.symm)) $$ [Hc3 HO Ha3]
  · isplitr; · iexact HR
    isplitl [Hc3]; · iexact Hc3
    isplitl [HO]; · iexact HO
    iexact Ha3
  iintro ⟨HO, Hv3, Hs2⟩
  rw [wp_ret]; imodintro
  iapply Hk
  isplitr [HO]
  · unfold after
    rw [seven]
    isplitl [Hv0 Hv1 Hv2 Hv3 Hv4 Hv5 Hv6]
    · isplitl [Hv0]; · iexact Hv0
      isplitl [Hv1]; · iexact Hv1
      isplitl [Hv2]; · iexact Hv2
      isplitl [Hv3]; · iexact Hv3
      isplitl [Hv4]; · iexact Hv4
      isplitl [Hv5] <;> iassumption
    isplitl [Hs0 Hs1 Hs2]
    · isplitl [Hs0]; · iexact Hs0
      isplitl [Hs1] <;> iassumption
    isplitl [Hd0]; · iexact Hd0
    isplitl [Hd1] <;> iassumption
  iexact HO

/-! ## From the launch to the talk -/

def bring (c : Dev nD) : sProp 𝕄 := iprop((∃ κ, brought p κ c) ∗ credits c)
def ready (c : Dev nD) : sProp 𝕄 := iprop((∃ κ, opened p κ c) ∗ credits c ∗ levAts L lv)

/-- The kernel starts: the six counters open. -/
theorem wake (c : Dev nD) : iprop(bring p c ∗ Pipeline.ownSems0 osem c ∗ levAts L lv) ⊢ (|={Set.univ}=> ready p c : sProp 𝕄) := by
  have hj (κ : GSem nD τ sig → ℕ) (j : Fin 6) : iprop(known p κ ∗ (openTok EX (cell (c, j.succ)) ∗ semVal (cell (c, j.succ)) 0))
      ⊢ (|={Set.univ}=> iprop(atPos EX (cell (c, j.succ)) 0 ∅ 0 ∗ reached EX (cell (c, j.succ)) 0) : sProp 𝕄) := by
    iintro ⟨#HR, Ho, Hv⟩
    iapply (Rounds.cell_open EX (plan p) (g := cell (c, j.succ)) (Set.mem_univ (κ (cell (c, j.succ)))))
    isplitr; · iapply (inv_at p κ c j.succ); iexact HR
    isplitl [Ho] <;> iassumption
  have hall (κ : GSem nD τ sig → ℕ) := (bigSep_with_persistent (R := known p κ) (S := Finset.univ) fun j _ => hj κ j).trans (bigSep_fupd _ _)
  unfold bring ready
  iintro ⟨⟨⟨%κ, Hg⟩, Hc⟩, Hos, Hlev⟩
  unfold brought opened
  icases Hg with ⟨#HR, Hat, Hop, Hdt⟩
  imod (hall κ) $$ [Hop Hos] with Hopen
  · isplitr; · iexact HR
    iapply (Entails.of_eq (bigSep_sep' Finset.univ _ _).symm)
    isplitl [Hop]; · iexact Hop
    unfold Pipeline.ownSems0; iexact Hos
  imodintro
  isplitl [Hat Hopen Hdt]
  · iexists κ
    isplitr; · iexact HR
    isplitl [Hat]; · iexact Hat
    isplitl [Hopen] <;> iassumption
  isplitl [Hc] <;> iassumption

theorem cell_eq_iff (a b : Dev nD) (j k : Fin 7) : (cell (a, j) : GSem nD τ sig) = cell (b, k) ↔ a = b ∧ j = k :=
  ⟨fun h => Prod.mk.inj (cell_injective h), fun ⟨h, h'⟩ => by rw [h, h']⟩

theorem due_at (d c : Dev nD) (k : Fin 7) (hk : k = 0 ∨ k = 4 ∨ k = 5 ∨ k = 6) : owes0 d (cell (c, k) : GSem nD τ sig) () = if d = sib c then amt sig k else 0 := by
  have hs : c = sib d ↔ d = sib c := ⟨fun h => by rw [h, sib_sib], fun h => by rw [h, sib_sib]⟩
  unfold owes0 owes1 owes2 owes3
  simp only [Pi.add_apply, Finsupp.add_apply, tallyAt_apply, cell_eq_iff, and_true, hs, Pi.zero_apply, Finsupp.zero_apply]
  by_cases h : d = sib c
  · rcases hk with rfl | rfl | rfl | rfl <;> simp [h]
  · simp [h]

theorem credit_at (c : Dev nD) (k : Fin 7) (hk : k = 0 ∨ k = 4 ∨ k = 5 ∨ k = 6) :
    tallyOn (cell (c, k) : GSem nD τ sig) (launchCredit (Pipeline.owing (owes0 (sig := sig))) 0 (cell (c, k))) = (tallyAt (cell (c, k)) () (amt sig k) : CellTallies nD τ sig Unit) := by
  refine congrArg (tallyOn (cell (c, k) : GSem nD τ sig)) (Finsupp.ext fun u => ?_)
  cases u
  rw [Pipeline.launchCredit_owing, Finsupp.single_eq_same]
  simp only [due_at _ c k hk, Finset.sum_ite_eq', Finset.mem_univ, if_true]

theorem credited (c : Dev nD) : (Pipeline.launchCred owes0 c : sProp 𝕄) ⊢ credits c := by
  unfold credits
  rw [← credit_at c 0 (by decide), ← credit_at c 4 (by decide), ← credit_at c 5 (by decide), ← credit_at c 6 (by decide)]
  have hfour (Φ : SemLoc sig → sProp 𝕄) : bigSep Finset.univ Φ ⊢ iprop(Φ (csem 0) ∗ Φ (csem 4) ∗ Φ (csem 5) ∗ Φ (csem 6)) := by
    refine (bigSep_subset (Finset.subset_univ (({0, 4, 5, 6} : Finset (Fin 7)).map ⟨csem, csem_injective⟩))).trans ?_
    rw [bigSep_map, bigSep_eq_bigSepL_of_eq [0, 4, 5, 6] (by decide) (by decide)]
    exact BI.Entails.refl _
  exact hfour _

/-! ## What the launch deals -/

abbrev tokEmb : Dev nD × Fin 7 ↪ GSem nD τ sig × ℕ × Unit := ⟨fun ck => (cell ck, 0, ()), fun _ _ h => cell_injective (congrArg Prod.fst h)⟩
def tokens : Finset (GSem nD τ sig × ℕ × Unit) := Finset.univ.map tokEmb

theorem apart : Disjoint (awake : Finset (GSem nD τ sig)) asleep := by
  rw [Finset.disjoint_left]
  intro g h h'
  obtain ⟨c, -, rfl⟩ := Finset.mem_map.1 h
  obtain ⟨⟨d, j⟩, -, e⟩ := Finset.mem_map.1 h'
  exact Fin.succ_ne_zero j (Prod.mk.inj (cell_injective e)).2

/-- The protocol's share of the launch, all kept by device 0 until it is dealt. -/
abbrev stake : sProp 𝕄 := BI.own ((EX : Emb (UX sig) 𝕄) (launchOf awake asleep tokens))
def G (c : Dev nD) : sProp 𝕄 := bigSep (Finset.univ.filter fun _ : Unit => c = 0) fun _ => stake

theorem staked : bigSep Finset.univ (G (F := F) (sig := sig)) = stake := by
  have h0 : (G (F := F) (sig := sig) 0) = stake := by
    unfold G; rw [show (Finset.univ.filter fun _ : Unit => (0 : Dev nD) = 0) = {()} from rfl, bigSep_singleton]
  have h1 : ∀ c ∈ Finset.univ.erase (0 : Dev nD), G (F := F) (sig := sig) c = (BI.emp : sProp 𝕄) := fun c hc => by
    unfold G; rw [Finset.filter_false_of_mem fun _ _ => Finset.ne_of_mem_erase hc, bigSep_empty]
  rw [bigSep_univ_at _ (0 : Dev nD), bigSep_congr (Ψ := fun _ => (BI.emp : sProp 𝕄)) h1, BI.bigSep_emp_const, h0]
  exact BI.equiv_iff.mp sep_emp

/-- The tokens, each with the device that spends it. -/
theorem dealt : (bigSep tokens fun x => (dutyTok EX x.1 x.2.1 x.2.2 : sProp 𝕄))
    = bigSep Finset.univ fun c : Dev nD => bigSep Finset.univ fun k : Fin 7 => dutyTok EX (cell (across (c, k))) 0 () := by
  unfold tokens
  rw [bigSep_map, bigSep_univ_equiv across, bigSep_univ_prod]; rfl

theorem bars (Φ : GSem nD τ sig → sProp 𝕄) : bigSep awake Φ = bigSep Finset.univ fun c : Dev nD => Φ (cell (c, 0)) := by
  unfold awake; rw [bigSep_map]; rfl
theorem owns (Φ : GSem nD τ sig → sProp 𝕄) : bigSep asleep Φ = bigSep Finset.univ fun c : Dev nD => bigSep Finset.univ fun j : Fin 6 => Φ (cell (c, j.succ)) := by
  unfold asleep; rw [bigSep_map, bigSep_univ_prod]; rfl

/-! ## The launch -/

variable (m : (ℓ : Loc nD τ sig) → Buf (Elt F) ℓ) (ρ : Dev nD → PrngReg)

abbrev V₀ (c : Dev nD) : Valuation τ sig (Elt F) := fun b => m (c, b)

def bufs : Finset (DevRef τ sig) := (StableHlo.tcRefs τ sig).filter fun b => ¬ b.isScoped

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- What rides beside the arrays from the launch to the kernel. -/
abbrev riding (c : Dev nD) : sProp 𝕄 :=
  iprop((bring p c ∗ ∃ r, prngReg c r) ∗ ∃ W, owes (c : Thread nD τ) (owes0 c) W)

abbrev T₀ (c : Dev nD) : sProp 𝕄 := iprop(StableHlo.held (c : Thread nD τ) bufs (V₀ m c) ∗ riding p c)

/-- What the protocol has no part in. -/
def plainly (c : Dev nD) : sProp 𝕄 :=
  iprop(StableHlo.held (c : Thread nD τ) bufs (V₀ m c) ∗ credits c ∗ owes (c : Thread nD τ) (owes0 c) ∅ ∗ prngReg c (ρ c))

theorem deal (hbar : ∀ c : Dev nD, (unscopedSems0 c : sProp 𝕄) = semVal (cell (c, 0)) 0) : iprop((bigSep Finset.univ fun c : Dev nD => iprop(unscopedBufs c (fun b => m ((c : Thread nD τ).loc b)) ∗ unscopedSems0 c
      ∗ owes (c : Thread nD τ) (owes0 c) ∅ ∗ Pipeline.launchCred owes0 c ∗ prngReg c (ρ c) ∗ G c)) ∗ levAts L lv)
    ⊢ (|={Set.univ}=> bigSep Finset.univ (T₀ p m) : sProp 𝕄) := by
  have hsort (c : Dev nD) : iprop(unscopedBufs c (fun b => m ((c : Thread nD τ).loc b)) ∗ unscopedSems0 c
        ∗ owes (c : Thread nD τ) (owes0 c) ∅ ∗ Pipeline.launchCred owes0 c ∗ prngReg c (ρ c) ∗ G c)
      ⊢ (iprop(plainly m ρ c ∗ (semVal (cell (c, 0)) 0 ∗ G c)) : sProp 𝕄) := by
    rw [show unscopedBufs c (fun b => m ((c : Thread nD τ).loc b)) = (StableHlo.held (c : Thread nD τ) bufs (V₀ m c) : sProp 𝕄) from unscoped_held c (V₀ m c), hbar]
    unfold plainly
    iintro ⟨Hh, Hv, HO, Hcr, Hp, HG⟩
    ihave Hc := (credited (F := F) c) $$ Hcr
    isplitr [Hv HG]
    · isplitl [Hh]; · iexact Hh
      isplitl [Hc]; · iexact Hc
      isplitl [HO] <;> iassumption
    isplitl [Hv] <;> iassumption
  have hone (κ : GSem nD τ sig → ℕ) (c : Dev nD) : iprop(known p κ ∗ ((atPos EX (cell (c, 0)) 0 ∅ 0
        ∗ ((bigSep Finset.univ fun j : Fin 6 => openTok EX (cell (c, j.succ))) ∗ bigSep Finset.univ fun k : Fin 7 => dutyTok EX (cell (across (c, k))) 0 ()))
        ∗ plainly m ρ c)) ⊢ T₀ p m c := by
    unfold plainly T₀ riding bring brought
    iintro ⟨#HR, ⟨Ha, Ho, Ht⟩, Hh, Hc, HO, Hp⟩
    isplitl [Hh]; · iexact Hh
    isplitr [HO]
    · isplitr [Hp]
      · isplitr [Hc]
        · iexists κ
          isplitr; · iexact HR
          isplitl [Ha]; · iexact Ha
          isplitl [Ho] <;> iassumption
        iexact Hc
      iexists (ρ c); iexact Hp
    iexists ∅; iexact HO
  iintro ⟨H, -⟩
  ihave H := (show (bigSep Finset.univ fun c : Dev nD => iprop(unscopedBufs c (fun b => m ((c : Thread nD τ).loc b)) ∗ unscopedSems0 c
        ∗ owes (c : Thread nD τ) (owes0 c) ∅ ∗ Pipeline.launchCred owes0 c ∗ prngReg c (ρ c) ∗ G c))
      ⊢ (bigSep Finset.univ fun c : Dev nD => iprop(plainly m ρ c ∗ (semVal (cell (c, 0)) 0 ∗ G c)) : sProp 𝕄) from bigSep_mono fun c _ => hsort c) $$ H
  ihave H := bigSep_unpair $$ H; icases H with ⟨Hpl, H⟩
  ihave H := bigSep_unpair $$ H; icases H with ⟨Hv, HG⟩
  ihave Hu := (Entails.of_eq (staked (F := F))) $$ HG
  ihave Hv := (Entails.of_eq (bars (F := F) fun g => semVal g 0).symm) $$ Hv
  imod (Rounds.fund_launch EX (plan p) apart (fun g _ h => h) tokens) $$ [Hv Hu] with ⟨%κ, -, #Hinv, #Hr, Hat, Hopen, Htok⟩
  · isplitl [Hv] <;> iassumption
  imodintro
  iapply (bigSep_with_persistent (R := known p κ) fun c _ => hone κ c)
  isplitr
  · unfold known
    isplitr; · iexact Hinv
    iexact Hr
  iapply bigSep_pair
  isplitr [Hpl]
  · iapply bigSep_pair
    isplitl [Hat]; · iapply (Entails.of_eq (bars (F := F) fun g => atPos EX g 0 ∅ 0)) $$ Hat
    iapply bigSep_pair
    isplitl [Hopen]; · iapply (Entails.of_eq (owns (F := F) fun g => openTok EX g)) $$ Hopen
    iapply (Entails.of_eq (dealt (F := F))) $$ Htok
  iexact Hpl

end Cert.Siblings

end
-- ==== Proof.JoinProtocol.lean ====
/- Joining halves across the two cores of a chip: who signals, copies and waits, and what each hands over.

   Each of three arrays is two slabs, and a device holds the one of its own core. A device greets its sibling by
   handing it the places of its three arrays where the sibling's slabs belong; each then writes its own slabs into the
   sibling's arrays at the same places. The six counters of the copies start only with the kernel: until a device opens
   them they are asleep, so a greeting also says that the greeter's three counters of arrivals are open. -/
module

public import proofs.«01_k».proof.Proof.Gen.JoinIdeal
public import proofs.«01_k».proof.Proof.Gen.JoinIdeal.Skeleton
public import proofs.«01_k».proof.Proof.Gen.JoinIdeal.Launch
public import proofs.«01_k».proof.Proof.Siblings

@[expose] public section

noncomputable section

namespace Cert.JoinProof

open Cert.JoinIdeal Cert.JoinIdeal.Gen Cert.Siblings
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU sig) ℕ

variable (m : (ℓ : Loc nD τ sig) → Buf (Elt F) ℓ)

/-! ## Devices, slabs and cells -/

theorem to1 (c : Dev nD) : (⟨k0_dev1 c, k0_dev1_lt c⟩ : Dev nD) = sib c := by revert c; decide
theorem to2 (c : Dev nD) : (⟨k0_dev2 c, k0_dev2_lt c⟩ : Dev nD) = sib c := by revert c; decide
theorem to3 (c : Dev nD) : (⟨k0_dev3 c, k0_dev3_lt c⟩ : Dev nD) = sib c := by revert c; decide
theorem to4 (c : Dev nD) : (⟨k0_dev4 c, k0_dev4_lt c⟩ : Dev nD) = sib c := by revert c; decide

/-- The slab of each array that is device `c`'s. -/
abbrev slab0 (c : Dev nD) : Memref sig .tc .hbm S512x512 .f32 :=
  ((Memref.whole main_v1_0 : Memref sig .tc .hbm S2x512x512 .f32).slice (Rect.unit (s := S2x512x512) (k0_off1 c) S1x512x512.size (k0_off1_inb c)) (fun _ => rfl)).squeeze S512x512 squeezes_S1x512x512_S512x512
abbrev slab1 (c : Dev nD) : Memref sig .tc .hbm S640x128 .f32 :=
  ((Memref.whole main_v1_1 : Memref sig .tc .hbm S2x640x128 .f32).slice (Rect.unit (s := S2x640x128) (k0_off2 c) S1x640x128.size (k0_off2_inb c)) (fun _ => rfl)).squeeze S640x128 squeezes_S1x640x128_S640x128
abbrev slab2 (c : Dev nD) : Memref sig .tc .hbm S8x128 .f32 :=
  ((Memref.whole main_v1_2 : Memref sig .tc .hbm S2x8x128 .f32).slice (Rect.unit (s := S2x8x128) (k0_off3 c) S1x8x128.size (k0_off3_inb c)) (fun _ => rfl)).squeeze S8x128 squeezes_S1x8x128_S8x128

theorem mem_slab0 (c : Dev nD) (i : S2x512x512.Idx) : i ∈ (slab0 c).view.set ↔ (i 0).val = c.val % 2 := by
  refine Iff.trans (Eq.to_iff (congrArg (i ∈ ·) ((View.set_reshape _ _).trans (View.set_slice_whole _ _)))) ?_
  rw [Rect.mem_set_unit, k0_off1_eq]
  have h0 : (i 0).val < 2 := (i 0).isLt
  have h1 : (i 1).val < 512 := (i 1).isLt
  have h2 : (i 2).val < 512 := (i 2).isLt
  refine ⟨fun h => ?_, fun h a => ?_⟩
  · have h' : c.val % 2 ≤ (i 0).val ∧ (i 0).val < c.val % 2 + 1 := h 0
    omega
  · fin_cases a
    · show c.val % 2 ≤ (i 0).val ∧ (i 0).val < c.val % 2 + 1; omega
    · show 0 ≤ (i 1).val ∧ (i 1).val < 0 + 512; omega
    · show 0 ≤ (i 2).val ∧ (i 2).val < 0 + 512; omega

theorem mem_slab1 (c : Dev nD) (i : S2x640x128.Idx) : i ∈ (slab1 c).view.set ↔ (i 0).val = c.val % 2 := by
  refine Iff.trans (Eq.to_iff (congrArg (i ∈ ·) ((View.set_reshape _ _).trans (View.set_slice_whole _ _)))) ?_
  rw [Rect.mem_set_unit, k0_off2_eq]
  have h0 : (i 0).val < 2 := (i 0).isLt
  have h1 : (i 1).val < 640 := (i 1).isLt
  have h2 : (i 2).val < 128 := (i 2).isLt
  refine ⟨fun h => ?_, fun h a => ?_⟩
  · have h' : c.val % 2 ≤ (i 0).val ∧ (i 0).val < c.val % 2 + 1 := h 0
    omega
  · fin_cases a
    · show c.val % 2 ≤ (i 0).val ∧ (i 0).val < c.val % 2 + 1; omega
    · show 0 ≤ (i 1).val ∧ (i 1).val < 0 + 640; omega
    · show 0 ≤ (i 2).val ∧ (i 2).val < 0 + 128; omega

theorem mem_slab2 (c : Dev nD) (i : S2x8x128.Idx) : i ∈ (slab2 c).view.set ↔ (i 0).val = c.val % 2 := by
  refine Iff.trans (Eq.to_iff (congrArg (i ∈ ·) ((View.set_reshape _ _).trans (View.set_slice_whole _ _)))) ?_
  rw [Rect.mem_set_unit, k0_off3_eq]
  have h0 : (i 0).val < 2 := (i 0).isLt
  have h1 : (i 1).val < 8 := (i 1).isLt
  have h2 : (i 2).val < 128 := (i 2).isLt
  refine ⟨fun h => ?_, fun h a => ?_⟩
  · have h' : c.val % 2 ≤ (i 0).val ∧ (i 0).val < c.val % 2 + 1 := h 0
    omega
  · fin_cases a
    · show c.val % 2 ≤ (i 0).val ∧ (i 0).val < c.val % 2 + 1; omega
    · show 0 ≤ (i 1).val ∧ (i 1).val < 0 + 8; omega
    · show 0 ≤ (i 2).val ∧ (i 2).val < 0 + 128; omega

abbrev barS : Sem sig := (SemArray.scalar (sig.barrier 0 rfl) : Sems sig S_).sem
abbrev sent0 : DmaSem sig := ((cc0_scratch0.slice (Rect.unit (s := S3) ![0] S1.size inb_S3_S1_0) : DmaSems sig S1).squeeze S_ squeezes_S1_S_).sem
abbrev sent1 : DmaSem sig := ((cc0_scratch0.slice (Rect.unit (s := S3) ![1] S1.size inb_S3_S1_1) : DmaSems sig S1).squeeze S_ squeezes_S1_S_).sem
abbrev sent2 : DmaSem sig := ((cc0_scratch0.slice (Rect.unit (s := S3) ![2] S1.size inb_S3_S1_2) : DmaSems sig S1).squeeze S_ squeezes_S1_S_).sem
abbrev here0 : DmaSem sig := ((cc0_scratch1.slice (Rect.unit (s := S3) ![0] S1.size inb_S3_S1_0) : DmaSems sig S1).squeeze S_ squeezes_S1_S_).sem
abbrev here1 : DmaSem sig := ((cc0_scratch1.slice (Rect.unit (s := S3) ![1] S1.size inb_S3_S1_1) : DmaSems sig S1).squeeze S_ squeezes_S1_S_).sem
abbrev here2 : DmaSem sig := ((cc0_scratch1.slice (Rect.unit (s := S3) ![2] S1.size inb_S3_S1_2) : DmaSems sig S1).squeeze S_ squeezes_S1_S_).sem

/-! ## Contents -/

abbrev N0 : ℕ := (slab0 0).view.dmaCredit
abbrev N1 : ℕ := (slab1 0).view.dmaCredit
abbrev N2 : ℕ := (slab2 0).view.dmaCredit

/-- A device's own arrays. -/
def own0 (c : Dev nD) : S2x512x512.Idx → Elt F .f32 := m ((c : Thread nD τ).loc main_arg0)
def own1 (c : Dev nD) : S2x640x128.Idx → Elt F .f32 := m ((c : Thread nD τ).loc main_arg1)
def own2 (c : Dev nD) : S2x8x128.Idx → Elt F .f32 := m ((c : Thread nD τ).loc main_arg2)

/-! ## The schedule -/

/-- The barrier, the three counters of what has left, the three of what has arrived. -/
instance : Counters sig where
  csem := fun
    | 0 => .reg barS | 1 => .dma sent0 | 2 => .dma sent1 | 3 => .dma sent2 | 4 => .dma here0 | 5 => .dma here1 | 6 => .dma here2
  csem_injective := by decide
  amt := fun | 0 => 1 | 1 => N0 | 2 => N1 | 3 => N2 | 4 => N0 | 5 => N1 | 6 => N2
  amt_pos k := by
    fin_cases k
    · exact Nat.one_pos
    all_goals exact View.dmaCredit_pos _ (by decide)

/-- What device `c` gets: on the barrier its slabs' places in the sibling's arrays, and that the sibling's counters of
    arrivals are open; of what has left, its own slab again; of what has arrived, the sibling's slab. -/
def pay : Fin 7 → Dev nD → sProp 𝕄
  | 0, c => iprop(((∃ f, hold (slab0 c) (sib c) f) ∗ (∃ f, hold (slab1 c) (sib c) f) ∗ ∃ f, hold (slab2 c) (sib c) f)
      ∗ reached EX (cell (sib c, 4)) 0 ∗ reached EX (cell (sib c, 5)) 0 ∗ reached EX (cell (sib c, 6)) 0)
  | 1, c => hold (slab0 c) c (own0 m c)
  | 2, c => hold (slab1 c) c (own1 m c)
  | 3, c => hold (slab2 c) c (own2 m c)
  | 4, c => hold (slab0 (sib c)) c (own0 m (sib c))
  | 5, c => hold (slab1 (sib c)) c (own1 m (sib c))
  | 6, c => hold (slab2 (sib c)) c (own2 m (sib c))

omit [FloatOps F] in
instance pay_storable (k : Fin 7) (c : Dev nD) : BI.Storable (upEmb : UEmb _ 𝕄) (pay m k c) := by
  unfold pay; split <;> infer_instance

/-! ## A device's run -/

/-- What a device starts with. -/
def start (c : Dev nD) : sProp 𝕄 :=
  before (pay m) iprop(hold (slab0 c) c (own0 m c) ∗ hold (slab1 c) c (own1 m c) ∗ hold (slab2 c) c (own2 m c))
    iprop((∃ f, hold (slab0 (sib c)) c f) ∗ (∃ f, hold (slab1 (sib c)) c f) ∗ ∃ f, hold (slab2 (sib c)) c f) c

set_option maxHeartbeats 4000000 in
theorem run_body (c : Dev nD) (W : Waits sig Unit) (Kt : PUnit → sProp 𝕄) :
    iprop((start m c ∗ owes (c : Thread nD τ) (owes0 c) W)
        ∗ ((after (pay m) c ∗ ∃ W, owes (c : Thread nD τ) (0 : CellTallies nD τ sig Unit) W) -∗ Kt ⟨⟩))
      ⊢ wp frame (wpE (defs₀ (F := F)) 𝒱₀ c none) Set.univ
          (cc0_join_halves_w_in (Memref.whole main_v1_0) (Memref.isWhole_whole _) (Memref.whole main_v1_1) (Memref.isWhole_whole _) (Memref.whole main_v1_2) (Memref.isWhole_whole _)
            (Memref.whole main_v1_0) (Memref.isWhole_whole _) (Memref.whole main_v1_1) (Memref.isWhole_whole _) (Memref.whole main_v1_2) (Memref.isWhole_whole _) cc0_scratch0 cc0_scratch1) Kt := by
  simp only [cc0_join_halves_w_in_eq_skeleton]; unfold cc0_join_halves_w_in_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId, to1 c]
  exact talk (pay m) defs₀ c (to2 c) (to3 c) (to4 c) rfl rfl rfl rfl rfl rfl rfl (slab0 c) (slab1 c) (slab2 c) (fun _ => rfl) (fun _ => rfl) (fun _ => rfl)
    (by decide) rfl rfl rfl (own0 m c) (own1 m c) (own2 m c) (by unfold pay; dsimp only; rw [sib_sib]) (BI.Entails.refl _) rfl rfl rfl
    (by unfold pay; dsimp only; rw [sib_sib]) (by unfold pay; dsimp only; rw [sib_sib]) (by unfold pay; dsimp only; rw [sib_sib]) W Kt

end Cert.JoinProof

end
-- ==== Proof.JoinLaunch.lean ====
/- Joining halves: all eight devices at once, and what the run leaves. -/
module

public import proofs.«01_k».proof.Proof.JoinProtocol
public import proofs.«01_k».proof.Proof.Gen.JoinIdeal.Frame

@[expose] public section

noncomputable section

namespace Cert.JoinProof

open Cert.JoinIdeal Cert.JoinIdeal.Gen Cert.Siblings
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig Unit (Elt F) ℕ (UU sig) ℕ

variable (m : (ℓ : Loc nD τ sig) → Buf (Elt F) ℓ) (ρ : Dev nD → PrngReg)

/-! ## The arrays before and after -/

/-- An array as the run leaves it: the own slab, and the sibling's. -/
def both0 (c : Dev nD) : S2x512x512.Idx → Elt F .f32 := (slab0 c).view.set.piecewise (own0 m c) (own0 m (sib c))
def both1 (c : Dev nD) : S2x640x128.Idx → Elt F .f32 := (slab1 c).view.set.piecewise (own1 m c) (own1 m (sib c))
def both2 (c : Dev nD) : S2x8x128.Idx → Elt F .f32 := (slab2 c).view.set.piecewise (own2 m c) (own2 m (sib c))

theorem rest0 (c : Dev nD) : Finset.univ \ (slab0 c).view.set = (slab0 (sib c)).view.set := by
  ext i
  have h : (i 0).val < 2 := (i 0).isLt
  rw [Finset.mem_sdiff, mem_slab0, mem_slab0, sib_mod]; simp only [Finset.mem_univ, true_and]; omega
theorem rest1 (c : Dev nD) : Finset.univ \ (slab1 c).view.set = (slab1 (sib c)).view.set := by
  ext i
  have h : (i 0).val < 2 := (i 0).isLt
  rw [Finset.mem_sdiff, mem_slab1, mem_slab1, sib_mod]; simp only [Finset.mem_univ, true_and]; omega
theorem rest2 (c : Dev nD) : Finset.univ \ (slab2 c).view.set = (slab2 (sib c)).view.set := by
  ext i
  have h : (i 0).val < 2 := (i 0).isLt
  rw [Finset.mem_sdiff, mem_slab2, mem_slab2, sib_mod]; simp only [Finset.mem_univ, true_and]; omega

abbrev V₁ (c : Dev nD) : Valuation τ sig (Elt F) := StableHlo.after hostOps0 (V₀ m c)
abbrev V₂ (c : Dev nD) : Valuation τ sig (Elt F) :=
  Function.update (Function.update (Function.update (V₁ m c) (Proc.devRef .tc main_v1_0) (both0 m c)) (Proc.devRef .tc main_v1_1) (both1 m c)) (Proc.devRef .tc main_v1_2) (both2 m c)

theorem V₁_arg0 (c : Dev nD) : V₁ m c main_arg0 = own0 m c := V_main_arg0 m c
theorem V₁_arg1 (c : Dev nD) : V₁ m c main_arg1 = own1 m c := V_main_arg1 m c
theorem V₁_arg2 (c : Dev nD) : V₁ m c main_arg2 = own2 m c := V_main_arg2 m c
theorem V₁_0 (c : Dev nD) : V₁ m c main_v1_0 = own0 m c := by
  show StableHlo.after hostOps0 (V₀ m c) (Proc.devRef .tc main_v1_0) = _
  rw [hostOps0, StableHlo.after_cons, StableHlo.after_cons, StableHlo.after_cons, StableHlo.after_nil,
    StableHlo.unary_result_ne main_arg2 main_v1_2 id _ _ _ (by decide), StableHlo.unary_result_ne main_arg1 main_v1_1 id _ _ _ (by decide), StableHlo.unary_result]
  rfl
theorem V₁_1 (c : Dev nD) : V₁ m c main_v1_1 = own1 m c := by
  show StableHlo.after hostOps0 (V₀ m c) (Proc.devRef .tc main_v1_1) = _
  rw [hostOps0, StableHlo.after_cons, StableHlo.after_cons, StableHlo.after_cons, StableHlo.after_nil,
    StableHlo.unary_result_ne main_arg2 main_v1_2 id _ _ _ (by decide), StableHlo.unary_result,
    StableHlo.unary_result_ne main_arg0 main_v1_0 id _ _ _ (by decide)]
  rfl
theorem V₁_2 (c : Dev nD) : V₁ m c main_v1_2 = own2 m c := by
  show StableHlo.after hostOps0 (V₀ m c) (Proc.devRef .tc main_v1_2) = _
  rw [hostOps0, StableHlo.after_cons, StableHlo.after_cons, StableHlo.after_cons, StableHlo.after_nil,
    StableHlo.unary_result, StableHlo.unary_result_ne main_arg1 main_v1_1 id _ _ _ (by decide), StableHlo.unary_result_ne main_arg0 main_v1_0 id _ _ _ (by decide)]
  rfl

/-- The six arrays of a device. -/
def arrays (c : Dev nD) (a0 : S2x512x512.Idx → Elt F .f32) (a1 : S2x640x128.Idx → Elt F .f32) (a2 : S2x8x128.Idx → Elt F .f32)
    (r0 : S2x512x512.Idx → Elt F .f32) (r1 : S2x640x128.Idx → Elt F .f32) (r2 : S2x8x128.Idx → Elt F .f32) : sProp 𝕄 :=
  iprop((((c : Thread nD τ).loc main_arg0) ↦{fullShare} a0) ∗ (((c : Thread nD τ).loc main_arg1) ↦{fullShare} a1) ∗ (((c : Thread nD τ).loc main_arg2) ↦{fullShare} a2)
    ∗ (((c : Thread nD τ).loc main_v1_0) ↦{fullShare} r0) ∗ (((c : Thread nD τ).loc main_v1_1) ↦{fullShare} r1) ∗ (((c : Thread nD τ).loc main_v1_2) ↦{fullShare} r2))

omit [FloatOps F] in
theorem held_arrays (c : Dev nD) (W : Valuation τ sig (Elt F)) : (StableHlo.held (c : Thread nD τ) bufs W : sProp 𝕄)
    = arrays c (W main_arg0) (W main_arg1) (W main_arg2) (W main_v1_0) (W main_v1_1) (W main_v1_2) := by
  unfold StableHlo.held
  rw [bigSep_eq_bigSepL_of_eq [Proc.devRef .tc main_arg0, Proc.devRef .tc main_arg1, Proc.devRef .tc main_arg2,
    Proc.devRef .tc main_v1_0, Proc.devRef .tc main_v1_1, Proc.devRef .tc main_v1_2] (by decide) (by decide)]
  rfl

theorem held_before (c : Dev nD) : (StableHlo.held (c : Thread nD τ) bufs (V₁ m c) : sProp 𝕄)
    = arrays c (own0 m c) (own1 m c) (own2 m c) (own0 m c) (own1 m c) (own2 m c) := by
  rw [held_arrays, V₁_arg0, V₁_arg1, V₁_arg2, V₁_0, V₁_1, V₁_2]

theorem held_after (c : Dev nD) : (StableHlo.held (c : Thread nD τ) bufs (V₂ m c) : sProp 𝕄)
    = arrays c (own0 m c) (own1 m c) (own2 m c) (both0 m c) (both1 m c) (both2 m c) := by
  rw [held_arrays]
  have e0 : V₂ m c main_arg0 = own0 m c := by
    unfold V₂; rw [Function.update_of_ne (by decide), Function.update_of_ne (by decide), Function.update_of_ne (by decide)]; exact V₁_arg0 m c
  have e1 : V₂ m c main_arg1 = own1 m c := by
    unfold V₂; rw [Function.update_of_ne (by decide), Function.update_of_ne (by decide), Function.update_of_ne (by decide)]; exact V₁_arg1 m c
  have e2 : V₂ m c main_arg2 = own2 m c := by
    unfold V₂; rw [Function.update_of_ne (by decide), Function.update_of_ne (by decide), Function.update_of_ne (by decide)]; exact V₁_arg2 m c
  have e3 : V₂ m c main_v1_0 = both0 m c := by
    unfold V₂; rw [Function.update_of_ne (by decide), Function.update_of_ne (by decide), Function.update_self]
  have e4 : V₂ m c main_v1_1 = both1 m c := by
    unfold V₂; rw [Function.update_of_ne (by decide), Function.update_self]
  have e5 : V₂ m c main_v1_2 = both2 m c := by
    unfold V₂; rw [Function.update_self]
  rw [e0, e1, e2, e3, e4, e5]

/-! ## A whole array is two slabs -/

theorem split0 (c : Dev nD) (f : S2x512x512.Idx → Elt F .f32) :
    ((((c : Thread nD τ).loc main_v1_0) ↦{fullShare} f) : sProp 𝕄) ⊢ iprop(hold (slab0 c) c f ∗ hold (slab0 (sib c)) c f) := by
  unfold hold; rw [← rest0 c]; exact (pointsTo_split_subset (Finset.subset_univ _)).1
theorem split1 (c : Dev nD) (f : S2x640x128.Idx → Elt F .f32) :
    ((((c : Thread nD τ).loc main_v1_1) ↦{fullShare} f) : sProp 𝕄) ⊢ iprop(hold (slab1 c) c f ∗ hold (slab1 (sib c)) c f) := by
  unfold hold; rw [← rest1 c]; exact (pointsTo_split_subset (Finset.subset_univ _)).1
theorem split2 (c : Dev nD) (f : S2x8x128.Idx → Elt F .f32) :
    ((((c : Thread nD τ).loc main_v1_2) ↦{fullShare} f) : sProp 𝕄) ⊢ iprop(hold (slab2 c) c f ∗ hold (slab2 (sib c)) c f) := by
  unfold hold; rw [← rest2 c]; exact (pointsTo_split_subset (Finset.subset_univ _)).1

theorem merge0 (c : Dev nD) : iprop(pay m 1 c ∗ pay m 4 c) ⊢ ((((c : Thread nD τ).loc main_v1_0) ↦{fullShare} both0 m c) : sProp 𝕄) := by
  unfold pay hold both0; dsimp only; rw [← rest0 c]; exact pointsTo_join_subset (Finset.subset_univ _)
theorem merge1 (c : Dev nD) : iprop(pay m 2 c ∗ pay m 5 c) ⊢ ((((c : Thread nD τ).loc main_v1_1) ↦{fullShare} both1 m c) : sProp 𝕄) := by
  unfold pay hold both1; dsimp only; rw [← rest1 c]; exact pointsTo_join_subset (Finset.subset_univ _)
theorem merge2 (c : Dev nD) : iprop(pay m 3 c ∗ pay m 6 c) ⊢ ((((c : Thread nD τ).loc main_v1_2) ↦{fullShare} both2 m c) : sProp 𝕄) := by
  unfold pay hold both2; dsimp only; rw [← rest2 c]; exact pointsTo_join_subset (Finset.subset_univ _)

/-! ## The kernel's region -/

/-- The arguments, which the kernel leaves alone, and the register. -/
def aside (c : Dev nD) : sProp 𝕄 :=
  iprop((((c : Thread nD τ).loc main_arg0) ↦{fullShare} own0 m c) ∗ (((c : Thread nD τ).loc main_arg1) ↦{fullShare} own1 m c)
    ∗ (((c : Thread nD τ).loc main_arg2) ↦{fullShare} own2 m c) ∗ ∃ r, prngReg c r)

def dat (c : Dev nD) : Pipeline.Dat τ (Elt F) Unit ℕ (UU sig) ℕ cfg0 c where
  A w := w.elim0
  after w := w.elim0
  Φ t := match t with
    | ⟨0, _⟩ => iprop(start m c ∗ aside m c)
    | ⟨_ + 1, _⟩ => iprop(after (pay m) c ∗ aside m c)
  q w := w.elim0
  owed t := match t with
    | ⟨0, _⟩ => owes0 c
    | ⟨_ + 1, _⟩ => 0

abbrev adm : (p : Fin 1) → (pcfgs (F := F) p).Adm := fun p => (cfgs p).toPCfg_adm
def pdats : (p : Fin 1) → (c : Dev nD) → Pipeline.Dat τ (Elt F) Unit ℕ (UU sig) ℕ (Pipeline.pin (pcfgs (F := F)) adm p) c
  | 0 => dat m

theorem no_windows (Φ : Fin cfg0.W → sProp 𝕄) : bigSep Finset.univ Φ = iprop(emp) := by
  rw [show (Finset.univ : Finset (Fin cfg0.W)) = ∅ from rfl, bigSep_empty]; rfl

set_option maxRecDepth 4000 in
theorem region_body (c : Dev nD) : Pipeline.BodyObligation (dat (F := F) m c) (defs₀ (F := F)) 𝒱₀ () Set.univ := fun t => by
  obtain rfl : t = t0_0 := fin_N0 t
  rw [no_windows, no_windows]
  show iprop((start m c ∗ aside m c) ∗ (dat m c).owesAt () t0_0.castSucc ∗ emp) ⊢ wp frame (wpE (defs₀ (F := F)) 𝒱₀ c none) Set.univ
    (cc0_join_halves_w_in (Memref.whole main_v1_0) (Memref.isWhole_whole _) (Memref.whole main_v1_1) (Memref.isWhole_whole _) (Memref.whole main_v1_2) (Memref.isWhole_whole _)
      (Memref.whole main_v1_0) (Memref.isWhole_whole _) (Memref.whole main_v1_1) (Memref.isWhole_whole _) (Memref.whole main_v1_2) (Memref.isWhole_whole _) cc0_scratch0 cc0_scratch1)
    (fun _ => iprop((after (pay m) c ∗ aside m c) ∗ (dat m c).owesAt () t0_0.succ ∗ emp))
  unfold Pipeline.Dat.owesAt Pipeline.owesWithin
  iintro ⟨⟨Hb, Ha⟩, ⟨%W, %hW, HO⟩, -⟩
  rw [show (dat m c).owed t0_0.castSucc = owes0 c from rfl, show (dat m c).owed t0_0.succ = 0 from rfl]
  iapply (run_body m c W _)
  isplitl [Hb HO]
  · isplitl [Hb] <;> iassumption
  iintro ⟨H1, ⟨%W', H2⟩⟩
  isplitl [H1 Ha]
  · isplitl [H1] <;> iassumption
  isplitl [H2]
  · iexists W'
    isplitr; · ipureintro; exact fun _ _ => Or.inl trivial
    iexact H2
  iempintro

theorem enter (c : Dev nD) : iprop(Pipeline.scopedRest (Pipeline.pin (pcfgs (F := F)) adm 0).spec c ∗ (∃ r, prngReg c r) ∗ StableHlo.held (c.tc : Thread nD τ) bufs (V₁ m c) ∗ ready (pay m) c)
    ⊢ (pdats m 0 c).Φ 0 := by
  rw [show (pdats m 0 c).Φ 0 = iprop(start m c ∗ aside m c) from rfl, held_before]
  unfold start before aside ready arrays
  iintro ⟨-, Hp, ⟨Ha0, Ha1, Ha2, Hr0, Hr1, Hr2⟩, Hκ, Hc, Hlev⟩
  ihave H0 := (split0 c _) $$ Hr0
  ihave H1 := (split1 c _) $$ Hr1
  ihave H2 := (split2 c _) $$ Hr2
  icases H0 with ⟨Hs0, Hd0⟩
  icases H1 with ⟨Hs1, Hd1⟩
  icases H2 with ⟨Hs2, Hd2⟩
  isplitr [Hp Ha0 Ha1 Ha2]
  · isplitl [Hκ]; · iexact Hκ
    isplitl [Hc]; · iexact Hc
    isplitl [Hlev]; · iexact Hlev
    isplitl [Hs0 Hs1 Hs2]
    · isplitl [Hs0]; · iexact Hs0
      isplitl [Hs1] <;> iassumption
    isplitl [Hd0]; · iexists _; iexact Hd0
    isplitl [Hd1]; · iexists _; iexact Hd1
    iexists _; iexact Hd2
  isplitl [Ha0]; · iexact Ha0
  isplitl [Ha1]; · iexact Ha1
  isplitl [Ha2] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c)
        ∗ Pipeline.ownSems0 osem c ∗ semVal (cell (c, 0)) 0) := by
  rw [show (pdats m 0 c).Φ (Fin.last _) = iprop(after (pay m) c ∗ aside m c) from rfl, held_after,
    show (Pipeline.scopedRest (Pipeline.pin (pcfgs (F := F)) adm 0).spec c : sProp 𝕄) = BI.emp from scopedRest0_eq c,
    show (Pipeline.ownSems0 osem c : sProp 𝕄) = bigSep Finset.univ fun j : Fin 6 => semVal (cell (c, j.succ)) 0 from rfl, six]
  unfold after aside arrays
  rw [seven]
  iintro ⟨⟨⟨Hv0, Hv⟩, ⟨Hs0, Hs1, Hs2⟩, ⟨Hd0, Hd1, Hd2⟩⟩, Ha0, Ha1, Ha2, Hp⟩
  isplitr; · iempintro
  isplitl [Hp]; · iexact Hp
  isplitr [Hv Hv0]
  · isplitl [Ha0]; · iexact Ha0
    isplitl [Ha1]; · iexact Ha1
    isplitl [Ha2]; · iexact Ha2
    isplitl [Hs0 Hd0]
    · iapply (merge0 m c); isplitl [Hs0] <;> iassumption
    isplitl [Hs1 Hd1]
    · iapply (merge1 m c); isplitl [Hs1] <;> iassumption
    iapply (merge2 m c); isplitl [Hs2] <;> iassumption
  isplitl [Hv]; · iexact Hv
  iexact Hv0

theorem placed : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem levels_above (c : Dev nD) (t : Fin ((Pipeline.pin (pcfgs (F := F)) adm 0).N + 1)) (g : GSem nD τ sig) (i : Unit)
    (h : 0 < (pdats (F := F) m 0 c).owed t g i) : i ∈ L g ∧ 0 < lv g i := by
  refine ⟨?_, lv_pos g i⟩
  have e : ∀ t : Fin (cfg0.N + 1), (dat (F := F) m c).owed t = owes0 c ∨ (dat (F := F) m c).owed t = 0 := fun
    | ⟨0, _⟩ => Or.inl rfl
    | ⟨_ + 1, _⟩ => Or.inr rfl
  rcases e t with e | e
  · have h' : 0 < owes0 c g i := by rw [← e]; exact h
    obtain ⟨k, rfl⟩ := owes0_pos h'
    exact mem_L _ k
  · have h' : 0 < (0 : CellTallies nD τ sig Unit) g i := by rw [← e]; exact h
    exact absurd h' (Nat.lt_irrefl 0)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts cfg0.spec osem)
    bufs bufs (Finset.Subset.refl _) placed rfl (fun c => (region_body m c).loose)
    (fun _ => 0) owes0 (fun c => (zero_add _).symm) (fun c => rfl) (fun _ => rfl) (fun _ w => w.elim0)
    (V₁ m) (V₂ m) (fun _ b hb => absurd hb (by rw [Finset.sdiff_self]; exact Finset.notMem_empty b))
    (bring (pay m)) (fun c => semVal (cell (c, 0)) 0) (ready (pay m)) (fun c => semVal (cell (c, 0)) 0) (wake (pay m)) (enter m) (leave m)
    (fun c => fupd_intro) (fun _ => 0)
    ⟨fun _ w => w.elim0, fun _ w => w.elim0, fun c t g i h => levels_above m c t g i h⟩
    (fun _ => iprop(emp)) (fun _ w => w.elim0) (fun _ w => w.elim0)

/-! ## The program as a list: three copies of the arguments, then the kernel -/

theorem copies_sub : ∀ op ∈ (hostOps0 : List (HloOp τ sig (Elt F))), op.bufs ⊆ bufs := fun op h => by
  simp only [hostOps0, List.mem_cons, List.not_mem_nil, or_false] at h
  rcases h with rfl | rfl | rfl
  · show ({Proc.devRef .tc main_arg0, Proc.devRef .tc main_v1_0} : Finset (DevRef τ sig)) ⊆ bufs; decide
  · show ({Proc.devRef .tc main_arg1, Proc.devRef .tc main_v1_1} : Finset (DevRef τ sig)) ⊆ bufs; decide
  · show ({Proc.devRef .tc main_arg2, Proc.devRef .tc main_v1_2} : Finset (DevRef τ sig)) ⊆ bufs; decide

def copies : Pipeline.HostSeg (Name := ℕ) (U := UU sig) (pcfgs (F := F)) defs₀ 𝒱₀ L lv :=
  Pipeline.HostSeg.ofOps _ _ _ _ _ bufs hostOps0 copies_sub (List.forall_iff_forall_mem.1 hostOps0_fresh) (V₀ m) (riding (pay m))

theorem to_region (c : Dev nD) : (copies m).post c ⊢ (region m).pre c := by
  show iprop(StableHlo.held (c : Thread nD τ) bufs (V₁ m c) ∗ riding (pay m) c)
    ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ bring (pay m) c ∗ ∃ Wd, owes (c : Thread nD τ) (0 + owes0 c) Wd)
  rw [show (StableHlo.held (c.tc : Thread nD τ) (Pipeline.arrRefs (τ := τ) (pcfgs (F := F) 0).spec) (V₁ m c) : sProp 𝕄) = BI.emp from bigSep_empty, zero_add]
  iintro ⟨Hh, ⟨Hb, Hp⟩, HO⟩
  isplitr; · iempintro
  isplitl [Hp]; · iexact Hp
  isplitl [Hh]
  · isplitl [Hh]; · iexact Hh
    iempintro
  isplitl [Hb]; · iexact Hb
  iexact HO

/-- What a device ends with. -/
abbrev finish (c : Dev nD) : sProp 𝕄 := iprop(StableHlo.held (c : Thread nD τ) bufs (V₂ m c) ∗ semVal (cell (c, 0)) 0)

theorem from_region (c : Dev nD) : (region m).post c
    ⊢ iprop(finish m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ semVal (cell (c, 0)) 0 ∗ ∃ Wd, owes (c : Thread nD τ) (0 : CellTallies nD τ sig Unit) Wd) ⊢ _
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (copies m), .region (region m)]

/-! ## What the launch deals -/

def u₀ : UU sig := (initOf (Pipeline.cells (Pipeline.pin (pcfgs (F := F)) adm) cellOf_inj) (Pipeline.launchToks (Pipeline.pin (pcfgs (F := F)) adm) cellOf_inj),
  launchOf awake asleep tokens)

omit [FloatOps F] in
theorem unscoped_bar (c : Dev nD) : (unscopedSems0 c : sProp 𝕄) = semVal (cell (c, 0)) 0 := by
  unfold unscopedSems0; exact bigSep_eq_bigSepL_of_eq [SemLoc.reg barS] (by decide) (by decide) _

/-! ## Every run -/

/-- A device's memory in the end: the arguments as they were, both cores' slabs in each result. -/
def Joined (c : Dev nD) (s : MemSt nD τ sig (Elt F)) : Prop :=
  (s.mem ((c : Thread nD τ).loc main_arg0) = own0 m c ∧ s.mem ((c : Thread nD τ).loc main_arg1) = own1 m c ∧ s.mem ((c : Thread nD τ).loc main_arg2) = own2 m c)
    ∧ s.mem ((c : Thread nD τ).loc main_v1_0) = both0 m c ∧ s.mem ((c : Thread nD τ).loc main_v1_1) = both1 m c ∧ s.mem ((c : Thread nD τ).loc main_v1_2) = both2 m c

theorem look (c : Dev nD) (s' : Phys nD τ sig (Elt F)) : iprop(finish m c ∗ SI s')
    ⊢ (iprop(⌜Joined m c s'.mem ∧ s'.mem.sem (cell (c, 0)) = 0⌝ ∗ SI s') : sProp 𝕄) := by
  unfold finish
  rw [held_after]
  unfold arrays
  iintro ⟨⟨⟨Ha, Hb, Hc, Hd, He, Hf⟩, Hv⟩, HSI⟩
  icombine HSI Ha gives %ha
  icombine HSI Hb gives %hb
  icombine HSI Hc gives %hc
  icombine HSI Hd gives %hd
  icombine HSI He gives %he
  icombine HSI Hf gives %hf
  icombine HSI Hv gives %hv
  isplitr
  · ipureintro
    exact ⟨⟨⟨Buf.eq_of_forall_mem_univ ha, Buf.eq_of_forall_mem_univ hb, Buf.eq_of_forall_mem_univ hc⟩,
      Buf.eq_of_forall_mem_univ hd, Buf.eq_of_forall_mem_univ he, Buf.eq_of_forall_mem_univ hf⟩, by simpa using hv⟩
  iexact HSI

theorem only_bar : ∀ sm : SemLoc sig, sm.isScoped .tc = false → sm = .reg barS := by decide

set_option backward.isDefEq.respectTransparency.types false in
/-- From any memory with zero counters every run ends with both slabs in each result and every counter at zero. -/
theorem run_main : θ_run defs (onTc (τ := τ) (main (F := F))) ⟨m, fun _ => 0, ρ⟩ (fun r => (∀ c, Joined m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (copies m) (region m) rfl c]; rfl)
    (by simp only [segs, Pipeline.Seg.pipes_host, Pipeline.Seg.pipes_region, Pipeline.Seg.pipes_nil]; decide)
    (O₀ := owes0) (hL := L_of_ne) (G := G) (u₀ := u₀)
    (hu₀ := by
      unfold u₀
      iintro Hu
      ihave H := (ownU_pair _ _) $$ Hu
      icases H with ⟨HP, HX⟩
      imodintro
      isplitl [HP]; · iexact HP
      rw [staked]; iexact HX)
    (T₀ := T₀ (pay m) m) (Tₙ := finish m)
    (hch := ⟨fun c => .rfl, fun c => to_region m c, fun c => from_region m c⟩)
    (hinit := deal (pay m) m ρ unscoped_bar)
    (QY := fun c s => Joined m c s ∧ s.sem (cell (c, 0)) = 0)
    (hfin := fun c s' => by
      iintro ⟨H, HSI⟩
      ihave H := (look m c s') $$ [H HSI]
      · isplitl [H] <;> iassumption
      icases H with ⟨%hl, HSI⟩
      imodintro
      isplitr; · ipureintro; exact hl
      iexact HSI)
    (hQ := fun s h hs => ⟨fun c => (h c).1, sem_eq_zero hs fun c sm hsm => by
      obtain rfl := only_bar sm hsm
      exact (h c).2⟩)

end Cert.JoinProof

end
-- ==== Proof.JoinValue.lean ====
/- Joining halves: the reference entry by entry, and that what the devices hold in the end is its blocks. -/
module

public import proofs.«01_k».proof.Proof.JoinLaunch
public import proofs.«01_k».proof.Proof.Gen.JoinRefIdeal.Run
public import proofs.«01_k».proof.Proof.Gen.JoinRefIdeal.Read
public import Idealize.ShloMosaic.Lib.Layout
public import Idealize.ShloMosaic.Lib.Pipeline.Value

@[expose] public section

set_option maxRecDepth 16384

noncomputable section

namespace Cert.JoinProof

open Cert.Siblings

open Idealize.ShloMosaic

/-! ## For arrays of any extents -/

variable {α : Type} {A B : ℕ}

/-- Two arrays stacked along a new second axis. -/
theorem stack_four (u v : (⟨4, ![4, 1, A, B]⟩ : Shape).Idx → α)
    (h : Shape.Concatenates [⟨4, ![4, 1, A, B]⟩, ⟨4, ![4, 1, A, B]⟩] ⟨4, ![4, 2, A, B]⟩ 1) (j : (⟨4, ![4, 2, A, B]⟩ : Shape).Idx)
    (w : (⟨4, ![4, 1, A, B]⟩ : Shape).Idx) (h0 : (w 0).val = (j 0).val) (h2 : (w 2).val = (j 2).val) (h3 : (w 3).val = (j 3).val) :
    concatenate ⟨4, ![4, 2, A, B]⟩ 1 [⟨⟨4, ![4, 1, A, B]⟩, u⟩, ⟨⟨4, ![4, 1, A, B]⟩, v⟩] h j = if (j 1).val = 0 then u w else v w := by
  have b1 : (j 1).val < 2 := (j 1).isLt
  have w1 : (w 1).val < 1 := (w 1).isLt
  by_cases e : (j 1).val = 0
  · rw [if_pos e]
    refine concatenate_pair_apply_left (s₁ := ⟨4, ![4, 1, A, B]⟩) (s₂ := ⟨4, ![4, 1, A, B]⟩) 1 u v h j rfl w fun b => ?_
    match b with
    | ⟨0, _⟩ => exact h0
    | ⟨1, _⟩ => show (w 1).val = (j 1).val; omega
    | ⟨2, _⟩ => exact h2
    | ⟨3, _⟩ => exact h3
  · rw [if_neg e]
    refine concatenate_pair_apply_right (s₁ := ⟨4, ![4, 1, A, B]⟩) (s₂ := ⟨4, ![4, 1, A, B]⟩) 1 u v h j rfl rfl w (fun b hb => ?_)
      (by show (w 1).val + 1 = (j 1).val; omega)
    match b with
    | ⟨0, _⟩ => exact h0
    | ⟨1, _⟩ => exact absurd rfl hb
    | ⟨2, _⟩ => exact h2
    | ⟨3, _⟩ => exact h3

/-- An array stacked on itself along a new second axis. -/
theorem stack_five (u : (⟨5, ![4, 1, 2, A, B]⟩ : Shape).Idx → α)
    (h : Shape.Concatenates [⟨5, ![4, 1, 2, A, B]⟩, ⟨5, ![4, 1, 2, A, B]⟩] ⟨5, ![4, 2, 2, A, B]⟩ 1) (j : (⟨5, ![4, 2, 2, A, B]⟩ : Shape).Idx)
    (w : (⟨5, ![4, 1, 2, A, B]⟩ : Shape).Idx) (h0 : (w 0).val = (j 0).val) (h2 : (w 2).val = (j 2).val) (h3 : (w 3).val = (j 3).val) (h4 : (w 4).val = (j 4).val) :
    concatenate ⟨5, ![4, 2, 2, A, B]⟩ 1 [⟨⟨5, ![4, 1, 2, A, B]⟩, u⟩, ⟨⟨5, ![4, 1, 2, A, B]⟩, u⟩] h j = u w := by
  have b1 : (j 1).val < 2 := (j 1).isLt
  have w1 : (w 1).val < 1 := (w 1).isLt
  by_cases e : (j 1).val = 0
  · refine concatenate_pair_apply_left (s₁ := ⟨5, ![4, 1, 2, A, B]⟩) (s₂ := ⟨5, ![4, 1, 2, A, B]⟩) 1 u u h j rfl w fun b => ?_
    match b with
    | ⟨0, _⟩ => exact h0
    | ⟨1, _⟩ => show (w 1).val = (j 1).val; omega
    | ⟨2, _⟩ => exact h2
    | ⟨3, _⟩ => exact h3
    | ⟨4, _⟩ => exact h4
  · refine concatenate_pair_apply_right (s₁ := ⟨5, ![4, 1, 2, A, B]⟩) (s₂ := ⟨5, ![4, 1, 2, A, B]⟩) 1 u u h j rfl rfl w (fun b hb => ?_)
      (by show (w 1).val + 1 = (j 1).val; omega)
    match b with
    | ⟨0, _⟩ => exact h0
    | ⟨1, _⟩ => exact absurd rfl hb
    | ⟨2, _⟩ => exact h2
    | ⟨3, _⟩ => exact h3
    | ⟨4, _⟩ => exact h4

/-- Where entry `i` of a joined array comes from: chip `i / 4`, and there the core that owns slab `i % 2`. -/
def origin (i : (⟨3, ![16, A, B]⟩ : Shape).Idx) : (⟨3, ![16, A, B]⟩ : Shape).Idx := fun a => match a with
  | ⟨0, _⟩ => ⟨4 * ((i 0).val / 4) + 3 * ((i 0).val % 2), by have h : (i 0).val < 16 := (i 0).isLt; show _ < 16; omega⟩
  | ⟨1, _⟩ => i 1
  | ⟨2, _⟩ => i 2

/-- A device's own slab beside its sibling's is the device's block of the joined array. -/
theorem joined_block (c c' : Fin 8) (hc : c'.val = 2 * (c.val / 2) + (1 - c.val % 2)) (X W : (⟨3, ![16, A, B]⟩ : Shape).Idx → α) (hW : ∀ i, W i = X (origin i))
    (s : Finset (⟨3, ![2, A, B]⟩ : Shape).Idx) (hs : ∀ i, i ∈ s ↔ (i 0).val = c.val % 2) (ht : Layout.Tiles ⟨3, ![2, A, B]⟩ ⟨3, ![16, A, B]⟩ 0 8) :
    s.piecewise (Layout.block ⟨3, ![2, A, B]⟩ ⟨3, ![16, A, B]⟩ 0 8 c X ht) (Layout.block ⟨3, ![2, A, B]⟩ ⟨3, ![16, A, B]⟩ 0 8 c' X ht)
      = Layout.block ⟨3, ![2, A, B]⟩ ⟨3, ![16, A, B]⟩ 0 8 c W ht := by
  funext i
  have b0 : (i 0).val < 2 := (i 0).isLt
  have bc : c.val < 8 := c.isLt
  rw [Layout.block_apply, hW]
  by_cases h : i ∈ s
  · rw [Finset.piecewise_eq_of_mem _ _ _ h, Layout.block_apply]
    have e := (hs i).1 h
    refine congrArg X (funext fun a => Fin.ext ?_)
    match a with
    | ⟨0, _⟩ =>
      show c.val * 2 + (i 0).val = 4 * ((c.val * 2 + (i 0).val) / 4) + 3 * ((c.val * 2 + (i 0).val) % 2)
      rcases (by omega : (i 0).val = 0 ∨ (i 0).val = 1) with d | d <;> omega
    | ⟨1, _⟩ | ⟨2, _⟩ => rfl
  · rw [Finset.piecewise_eq_of_notMem _ _ _ h, Layout.block_apply]
    have e : ¬ (i 0).val = c.val % 2 := fun e => h ((hs i).2 e)
    refine congrArg X (funext fun a => Fin.ext ?_)
    match a with
    | ⟨0, _⟩ =>
      show c'.val * 2 + (i 0).val = 4 * ((c.val * 2 + (i 0).val) / 4) + 3 * ((c.val * 2 + (i 0).val) % 2)
      rcases (by omega : (i 0).val = 0 ∨ (i 0).val = 1) with d | d <;> omega
    | ⟨1, _⟩ | ⟨2, _⟩ => rfl

/-! ## The three arrays -/

variable {F : FTy → Type} [FloatOps F]

section Whole
open Cert.JoinRefIdeal Cert.JoinRefIdeal.Read

theorem full0 (x : (⟨S16x512x512, .f32⟩ : BufTy).Contents (Elt F)) (j : S4x2x512x512.Idx) (k : S16x512x512.Idx)
    (h0 : (k 0).val = 4 * (j 0).val + 3 * (j 1).val) (h1 : (k 1).val = (j 2).val) (h2 : (k 2).val = (j 3).val) : val_main_v7 (F := F) x j = x k := by
  unfold val_main_v7
  have b0 : (j 0).val < 4 := (j 0).isLt
  have b1 : (j 1).val < 2 := (j 1).isLt
  have b2 : (j 2).val < 512 := (j 2).isLt
  have b3 : (j 3).val < 512 := (j 3).isLt
  let w : S4x1x512x512.Idx := fun a => match a with
    | ⟨0, _⟩ => j 0
    | ⟨1, _⟩ => ⟨0, Nat.one_pos⟩
    | ⟨2, _⟩ => j 2
    | ⟨3, _⟩ => j 3
  refine (stack_four _ _ _ j w rfl rfl rfl).trans ?_
  split
  · rw [val_main_v5_apply, val_main_v2_apply, val_main_v1_apply, val_main_v0_apply]
    refine congrArg x (funext fun a => Fin.ext ?_)
    match a with
    | ⟨0, _⟩ => refine Eq.trans ?_ h0.symm; dsimp only [idx_main_v0, idx_main_v1, idx_main_v2, idx_main_v5, w]; omega
    | ⟨1, _⟩ => refine Eq.trans ?_ h1.symm; dsimp only [idx_main_v0, idx_main_v1, idx_main_v2, idx_main_v5, w]; omega
    | ⟨2, _⟩ => refine Eq.trans ?_ h2.symm; dsimp only [idx_main_v0, idx_main_v1, idx_main_v2, idx_main_v5, w]; omega
  · rw [val_main_v6_apply, val_main_v4_apply, val_main_v3_apply, val_main_v0_apply]
    refine congrArg x (funext fun a => Fin.ext ?_)
    match a with
    | ⟨0, _⟩ => refine Eq.trans ?_ h0.symm; dsimp only [idx_main_v0, idx_main_v3, idx_main_v4, idx_main_v6, w]; omega
    | ⟨1, _⟩ => refine Eq.trans ?_ h1.symm; dsimp only [idx_main_v0, idx_main_v3, idx_main_v4, idx_main_v6, w]; omega
    | ⟨2, _⟩ => refine Eq.trans ?_ h2.symm; dsimp only [idx_main_v0, idx_main_v3, idx_main_v4, idx_main_v6, w]; omega

theorem result0 (x : (⟨S16x512x512, .f32⟩ : BufTy).Contents (Elt F)) (i : S16x512x512.Idx) : val_main_v11 (F := F) x i = x (origin i) := by
  rw [val_main_v11_apply]
  unfold val_main_v10
  have b0 : (i 0).val < 16 := (i 0).isLt
  have b1 : (i 1).val < 512 := (i 1).isLt
  have b2 : (i 2).val < 512 := (i 2).isLt
  let w : S4x1x2x512x512.Idx := fun a => match a with
    | ⟨0, _⟩ => ⟨(i 0).val / 4, by show _ < 4; omega⟩
    | ⟨1, _⟩ => ⟨0, Nat.one_pos⟩
    | ⟨2, _⟩ => ⟨(i 0).val % 2, Nat.mod_lt _ (by decide)⟩
    | ⟨3, _⟩ => i 1
    | ⟨4, _⟩ => i 2
  refine (stack_five (val_main_v8 (F := F) x) _ _ w (by dsimp only [idx_main_v11, w]; omega) (by dsimp only [idx_main_v11, w]; omega)
    (by dsimp only [idx_main_v11, w]; omega) (by dsimp only [idx_main_v11, w]; omega)).trans ?_
  rw [val_main_v8_apply]
  refine full0 x _ _ ?_ rfl rfl
  dsimp only [idx_main_v8, w, origin]

theorem full1 (x : (⟨S16x640x128, .f32⟩ : BufTy).Contents (Elt F)) (j : S4x2x640x128.Idx) (k : S16x640x128.Idx)
    (h0 : (k 0).val = 4 * (j 0).val + 3 * (j 1).val) (h1 : (k 1).val = (j 2).val) (h2 : (k 2).val = (j 3).val) : val_main_v19 (F := F) x j = x k := by
  unfold val_main_v19
  have b0 : (j 0).val < 4 := (j 0).isLt
  have b1 : (j 1).val < 2 := (j 1).isLt
  have b2 : (j 2).val < 640 := (j 2).isLt
  have b3 : (j 3).val < 128 := (j 3).isLt
  let w : S4x1x640x128.Idx := fun a => match a with
    | ⟨0, _⟩ => j 0
    | ⟨1, _⟩ => ⟨0, Nat.one_pos⟩
    | ⟨2, _⟩ => j 2
    | ⟨3, _⟩ => j 3
  refine (stack_four _ _ _ j w rfl rfl rfl).trans ?_
  split
  · rw [val_main_v17_apply, val_main_v14_apply, val_main_v13_apply, val_main_v12_apply]
    refine congrArg x (funext fun a => Fin.ext ?_)
    match a with
    | ⟨0, _⟩ => refine Eq.trans ?_ h0.symm; dsimp only [idx_main_v12, idx_main_v13, idx_main_v14, idx_main_v17, w]; omega
    | ⟨1, _⟩ => refine Eq.trans ?_ h1.symm; dsimp only [idx_main_v12, idx_main_v13, idx_main_v14, idx_main_v17, w]; omega
    | ⟨2, _⟩ => refine Eq.trans ?_ h2.symm; dsimp only [idx_main_v12, idx_main_v13, idx_main_v14, idx_main_v17, w]; omega
  · rw [val_main_v18_apply, val_main_v16_apply, val_main_v15_apply, val_main_v12_apply]
    refine congrArg x (funext fun a => Fin.ext ?_)
    match a with
    | ⟨0, _⟩ => refine Eq.trans ?_ h0.symm; dsimp only [idx_main_v12, idx_main_v15, idx_main_v16, idx_main_v18, w]; omega
    | ⟨1, _⟩ => refine Eq.trans ?_ h1.symm; dsimp only [idx_main_v12, idx_main_v15, idx_main_v16, idx_main_v18, w]; omega
    | ⟨2, _⟩ => refine Eq.trans ?_ h2.symm; dsimp only [idx_main_v12, idx_main_v15, idx_main_v16, idx_main_v18, w]; omega

theorem result1 (x : (⟨S16x640x128, .f32⟩ : BufTy).Contents (Elt F)) (i : S16x640x128.Idx) : val_main_v23 (F := F) x i = x (origin i) := by
  rw [val_main_v23_apply]
  unfold val_main_v22
  have b0 : (i 0).val < 16 := (i 0).isLt
  have b1 : (i 1).val < 640 := (i 1).isLt
  have b2 : (i 2).val < 128 := (i 2).isLt
  let w : S4x1x2x640x128.Idx := fun a => match a with
    | ⟨0, _⟩ => ⟨(i 0).val / 4, by show _ < 4; omega⟩
    | ⟨1, _⟩ => ⟨0, Nat.one_pos⟩
    | ⟨2, _⟩ => ⟨(i 0).val % 2, Nat.mod_lt _ (by decide)⟩
    | ⟨3, _⟩ => i 1
    | ⟨4, _⟩ => i 2
  refine (stack_five (val_main_v20 (F := F) x) _ _ w (by dsimp only [idx_main_v23, w]; omega) (by dsimp only [idx_main_v23, w]; omega)
    (by dsimp only [idx_main_v23, w]; omega) (by dsimp only [idx_main_v23, w]; omega)).trans ?_
  rw [val_main_v20_apply]
  refine full1 x _ _ ?_ rfl rfl
  dsimp only [idx_main_v20, w, origin]

theorem full2 (x : (⟨S16x8x128, .f32⟩ : BufTy).Contents (Elt F)) (j : S4x2x8x128.Idx) (k : S16x8x128.Idx)
    (h0 : (k 0).val = 4 * (j 0).val + 3 * (j 1).val) (h1 : (k 1).val = (j 2).val) (h2 : (k 2).val = (j 3).val) : val_main_v31 (F := F) x j = x k := by
  unfold val_main_v31
  have b0 : (j 0).val < 4 := (j 0).isLt
  have b1 : (j 1).val < 2 := (j 1).isLt
  have b2 : (j 2).val < 8 := (j 2).isLt
  have b3 : (j 3).val < 128 := (j 3).isLt
  let w : S4x1x8x128.Idx := fun a => match a with
    | ⟨0, _⟩ => j 0
    | ⟨1, _⟩ => ⟨0, Nat.one_pos⟩
    | ⟨2, _⟩ => j 2
    | ⟨3, _⟩ => j 3
  refine (stack_four _ _ _ j w rfl rfl rfl).trans ?_
  split
  · rw [val_main_v29_apply, val_main_v26_apply, val_main_v25_apply, val_main_v24_apply]
    refine congrArg x (funext fun a => Fin.ext ?_)
    match a with
    | ⟨0, _⟩ => refine Eq.trans ?_ h0.symm; dsimp only [idx_main_v24, idx_main_v25, idx_main_v26, idx_main_v29, w]; omega
    | ⟨1, _⟩ => refine Eq.trans ?_ h1.symm; dsimp only [idx_main_v24, idx_main_v25, idx_main_v26, idx_main_v29, w]; omega
    | ⟨2, _⟩ => refine Eq.trans ?_ h2.symm; dsimp only [idx_main_v24, idx_main_v25, idx_main_v26, idx_main_v29, w]; omega
  · rw [val_main_v30_apply, val_main_v28_apply, val_main_v27_apply, val_main_v24_apply]
    refine congrArg x (funext fun a => Fin.ext ?_)
    match a with
    | ⟨0, _⟩ => refine Eq.trans ?_ h0.symm; dsimp only [idx_main_v24, idx_main_v27, idx_main_v28, idx_main_v30, w]; omega
    | ⟨1, _⟩ => refine Eq.trans ?_ h1.symm; dsimp only [idx_main_v24, idx_main_v27, idx_main_v28, idx_main_v30, w]; omega
    | ⟨2, _⟩ => refine Eq.trans ?_ h2.symm; dsimp only [idx_main_v24, idx_main_v27, idx_main_v28, idx_main_v30, w]; omega

theorem result2 (x : (⟨S16x8x128, .f32⟩ : BufTy).Contents (Elt F)) (i : S16x8x128.Idx) : val_main_v35 (F := F) x i = x (origin i) := by
  rw [val_main_v35_apply]
  unfold val_main_v34
  have b0 : (i 0).val < 16 := (i 0).isLt
  have b1 : (i 1).val < 8 := (i 1).isLt
  have b2 : (i 2).val < 128 := (i 2).isLt
  let w : S4x1x2x8x128.Idx := fun a => match a with
    | ⟨0, _⟩ => ⟨(i 0).val / 4, by show _ < 4; omega⟩
    | ⟨1, _⟩ => ⟨0, Nat.one_pos⟩
    | ⟨2, _⟩ => ⟨(i 0).val % 2, Nat.mod_lt _ (by decide)⟩
    | ⟨3, _⟩ => i 1
    | ⟨4, _⟩ => i 2
  refine (stack_five (val_main_v32 (F := F) x) _ _ w (by dsimp only [idx_main_v35, w]; omega) (by dsimp only [idx_main_v35, w]; omega)
    (by dsimp only [idx_main_v35, w]; omega) (by dsimp only [idx_main_v35, w]; omega)).trans ?_
  rw [val_main_v32_apply]
  refine full2 x _ _ ?_ rfl rfl
  dsimp only [idx_main_v32, w, origin]

end Whole

section Held
open Cert.JoinIdeal Cert.JoinIdeal.Gen Cert.JoinRefIdeal.Read Idealize.ShloMosaic.TcCoe

variable (m : (ℓ : Loc nD τ sig) → Buf (Elt F) ℓ)

theorem both0_block (c : Dev nD) (X : (⟨Cert.JoinRefIdeal.S16x512x512, .f32⟩ : BufTy).Contents (Elt F)) (ht : Layout.Tiles ⟨3, ![2, 512, 512]⟩ ⟨3, ![16, 512, 512]⟩ 0 8)
    (hm : ∀ d : Dev nD, own0 m d = Layout.block ⟨3, ![2, 512, 512]⟩ ⟨3, ![16, 512, 512]⟩ 0 8 d X ht) :
    both0 m c = Layout.block ⟨3, ![2, 512, 512]⟩ ⟨3, ![16, 512, 512]⟩ 0 8 c (val_main_v11 (F := F) X) ht := by
  unfold both0; rw [hm, hm]
  exact joined_block c (sib c) rfl X _ (result0 X) _ (mem_slab0 c) ht
theorem both1_block (c : Dev nD) (X : (⟨Cert.JoinRefIdeal.S16x640x128, .f32⟩ : BufTy).Contents (Elt F)) (ht : Layout.Tiles ⟨3, ![2, 640, 128]⟩ ⟨3, ![16, 640, 128]⟩ 0 8)
    (hm : ∀ d : Dev nD, own1 m d = Layout.block ⟨3, ![2, 640, 128]⟩ ⟨3, ![16, 640, 128]⟩ 0 8 d X ht) :
    both1 m c = Layout.block ⟨3, ![2, 640, 128]⟩ ⟨3, ![16, 640, 128]⟩ 0 8 c (val_main_v23 (F := F) X) ht := by
  unfold both1; rw [hm, hm]
  exact joined_block c (sib c) rfl X _ (result1 X) _ (mem_slab1 c) ht
theorem both2_block (c : Dev nD) (X : (⟨Cert.JoinRefIdeal.S16x8x128, .f32⟩ : BufTy).Contents (Elt F)) (ht : Layout.Tiles ⟨3, ![2, 8, 128]⟩ ⟨3, ![16, 8, 128]⟩ 0 8)
    (hm : ∀ d : Dev nD, own2 m d = Layout.block ⟨3, ![2, 8, 128]⟩ ⟨3, ![16, 8, 128]⟩ 0 8 d X ht) :
    both2 m c = Layout.block ⟨3, ![2, 8, 128]⟩ ⟨3, ![16, 8, 128]⟩ 0 8 c (val_main_v35 (F := F) X) ht := by
  unfold both2; rw [hm, hm]
  exact joined_block c (sib c) rfl X _ (result2 X) _ (mem_slab2 c) ht

end Held

end Cert.JoinProof

end
-- ==== Proof.JoinClaim.lean ====
/- The claims about joining halves across the two cores of a chip. -/
module

public import proofs.«01_k».proof.Defs
public import proofs.«01_k».proof.Proof.JoinValue
public import proofs.«01_k».proof.Proof.Gen.Join
public import proofs.«01_k».proof.Proof.Gen.JoinRef
public import proofs.«01_k».proof.Proof.Gen.JoinRefIdeal
public import Idealize.ShloMosaic.Lib.Claim

@[expose] public section

set_option maxRecDepth 16384

noncomputable section

open Idealize.ShloMosaic Idealize.ShloMosaic.TcCoe Idealize.SL.Sem

namespace Cert.Proof

section
open Cert.JoinIdeal Cert.JoinProof Cert.JoinRefIdeal.Read
variable {F : FTy → Type} [FloatOps F]

/-- Over any float values: the join leaves on each device its block of the whole arrays that the reference builds. -/
theorem join_shared (m : (ℓ : Loc nD τ sig) → Buf (Elt F) ℓ) (ρ : Dev nD → PrngReg) (X : (⟨Cert.JoinRefIdeal.S16x512x512, .f32⟩ : BufTy).Contents (Elt F))
    (Y : (⟨Cert.JoinRefIdeal.S16x640x128, .f32⟩ : BufTy).Contents (Elt F))
    (Z : (⟨Cert.JoinRefIdeal.S16x8x128, .f32⟩ : BufTy).Contents (Elt F))
    (h : ∀ c : Dev nD, m ((c : Thread nD τ).loc main_arg0) = Layout.block ⟨3, ![2, 512, 512]⟩ ⟨3, ![16, 512, 512]⟩ 0 8 c X
      ∧ m ((c : Thread nD τ).loc main_arg1) = Layout.block ⟨3, ![2, 640, 128]⟩ ⟨3, ![16, 640, 128]⟩ 0 8 c Y
      ∧ m ((c : Thread nD τ).loc main_arg2) = Layout.block ⟨3, ![2, 8, 128]⟩ ⟨3, ![16, 8, 128]⟩ 0 8 c Z) :
    θ_run defs (onTc (τ := τ) (main (F := F))) ⟨m, fun _ => 0, ρ⟩ fun r => ∀ c : Dev nD,
      r.2.mem ((c : Thread nD τ).loc main_v1_0) = Layout.block ⟨3, ![2, 512, 512]⟩ ⟨3, ![16, 512, 512]⟩ 0 8 c (val_main_v11 (F := F) X)
      ∧ r.2.mem ((c : Thread nD τ).loc main_v1_1) = Layout.block ⟨3, ![2, 640, 128]⟩ ⟨3, ![16, 640, 128]⟩ 0 8 c (val_main_v23 (F := F) Y)
      ∧ r.2.mem ((c : Thread nD τ).loc main_v1_2) = Layout.block ⟨3, ![2, 8, 128]⟩ ⟨3, ![16, 8, 128]⟩ 0 8 c (val_main_v35 (F := F) Z)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r hr c => by
    obtain ⟨kept, r0, r1, r2⟩ := hr.1 c
    exact ⟨r0.trans (both0_block m c _ _ fun d => (h d).1), r1.trans (both1_block m c _ _ fun d => (h d).2.1),
      r2.trans (both2_block m c _ _ fun d => (h d).2.2), kept⟩) (run_main m ρ)

/-- Over any float values: the whole arrays that the reference's one device ends with. -/
theorem join_whole (m : (ℓ : Loc Cert.JoinRefIdeal.nD Cert.JoinRefIdeal.τ Cert.JoinRefIdeal.sig) → Buf (Elt F) ℓ) (ρ : Dev Cert.JoinRefIdeal.nD → PrngReg) :
    θ_run Cert.JoinRefIdeal.defs (onTc (τ := Cert.JoinRefIdeal.τ) (Cert.JoinRefIdeal.main (F := F))) ⟨m, fun _ => 0, ρ⟩ fun r =>
      r.2.mem ((0 : Dev Cert.JoinRefIdeal.nD).tc.loc Cert.JoinRefIdeal.main_v11) = val_main_v11 (F := F) (m ((0 : Dev Cert.JoinRefIdeal.nD).tc.loc Cert.JoinRefIdeal.main_arg0))
      ∧ r.2.mem ((0 : Dev Cert.JoinRefIdeal.nD).tc.loc Cert.JoinRefIdeal.main_v23) = val_main_v23 (F := F) (m ((0 : Dev Cert.JoinRefIdeal.nD).tc.loc Cert.JoinRefIdeal.main_arg1))
      ∧ r.2.mem ((0 : Dev Cert.JoinRefIdeal.nD).tc.loc Cert.JoinRefIdeal.main_v35) = val_main_v35 (F := F) (m ((0 : Dev Cert.JoinRefIdeal.nD).tc.loc Cert.JoinRefIdeal.main_arg2))
      ∧ r.2.mem ((0 : Dev Cert.JoinRefIdeal.nD).tc.loc Cert.JoinRefIdeal.main_arg0) = m ((0 : Dev Cert.JoinRefIdeal.nD).tc.loc Cert.JoinRefIdeal.main_arg0)
      ∧ r.2.mem ((0 : Dev Cert.JoinRefIdeal.nD).tc.loc Cert.JoinRefIdeal.main_arg1) = m ((0 : Dev Cert.JoinRefIdeal.nD).tc.loc Cert.JoinRefIdeal.main_arg1)
      ∧ r.2.mem ((0 : Dev Cert.JoinRefIdeal.nD).tc.loc Cert.JoinRefIdeal.main_arg2) = m ((0 : Dev Cert.JoinRefIdeal.nD).tc.loc Cert.JoinRefIdeal.main_arg2) :=
  (θ_run _ _ _).mono (fun r h => by
    obtain ⟨r0, r1, r2, kept⟩ := h 0
    exact ⟨r0.trans (val_main_v11_eq _), r1.trans (val_main_v23_eq _), r2.trans (val_main_v35_eq _), kept⟩) (Cert.JoinRefIdeal.Value.run m ρ)

end

theorem join_value : Cert.algebraic_JoinIdeal_JoinRefIdeal (hJoinIdeal := Cert.JoinIdeal.Gen.facts) (hJoinRefIdeal := Cert.JoinRefIdeal.Gen.facts) :=
  fun m g m' g' _ h => ⟨_, _, _, join_shared m g _ _ _ h, join_whole m' g'⟩

theorem join_words : Cert.bitexact_Join_JoinRef (hJoin := Cert.Join.Gen.facts) (hJoinRef := Cert.JoinRef.Gen.facts) :=
  fun m g m' g' _ h => ⟨_, _, _, join_shared (F := Bits) m g _ _ _ h, join_whole (F := Bits) m' g'⟩

theorem join : ∃ (hJoin : Cert.Join.Facts) (hJoinIdeal : Cert.JoinIdeal.Facts) (hJoinRefIdeal : Cert.JoinRefIdeal.Facts) (hJoinRef : Cert.JoinRef.Facts),
    quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef) :=
  ⟨Cert.Join.Gen.facts, Cert.JoinIdeal.Gen.facts, Cert.JoinRefIdeal.Gen.facts, Cert.JoinRef.Gen.facts,
    fun m ρ _ => (θ_run Cert.JoinIdeal.defs _ _).mono (fun _ h => ⟨fun c => (h.1 c).1, h.2⟩) (Cert.JoinProof.run_main (F := Bits) m ρ),
    fun m ρ _ => (θ_run _ _ _).mono (fun _ h => ⟨fun c => (h.1 c).1, h.2⟩) (Cert.JoinProof.run_main m ρ),
    fun m ρ _ => (θ_run_mono (Cert.JoinRefIdeal.Value.run m ρ) fun r h => ⟨fun c => (h c).2.2.2, sem_eq_zero_of_no_sems rfl r.2⟩),
    fun m ρ _ => (θ_run Cert.JoinRefIdeal.defs _ _).mono (fun r h => ⟨fun c => (h c).2.2.2, sem_eq_zero_of_no_sems rfl r.2⟩) (Cert.JoinRefIdeal.Value.run (F := Bits) m ρ),
    trivial, join_value, join_words⟩

end Cert.Proof

end
-- ==== Proof.PassProtocol.lean ====
/- Passing a weight's shared slots to the sibling core: who signals, copies and waits, and what each hands over.

   A device's array has a slot for each chip and core. The slots of its own core on the three other chips go to the
   sibling; the slots of the sibling's core on those chips are overwritten by what the sibling sends; the two slots of
   its own chip stay. A greeting hands the sibling the three slots that it overwrites, and says that the greeter's three
   counters of arrivals are open. -/
module

public import proofs.«01_k».proof.Proof.Gen.PassIdeal
public import proofs.«01_k».proof.Proof.Gen.PassIdeal.Skeleton
public import proofs.«01_k».proof.Proof.Gen.PassIdeal.Launch
public import proofs.«01_k».proof.Proof.Siblings

@[expose] public section

noncomputable section

namespace Cert.PassProof

open Cert.PassIdeal Cert.PassIdeal.Gen Cert.Siblings
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU sig) ℕ

variable (m : (ℓ : Loc nD τ sig) → Buf (Elt F) ℓ)

/-! ## Devices, slots and cells -/

theorem to1 (c : Dev nD) : (⟨k0_dev1 c, k0_dev1_lt c⟩ : Dev nD) = sib c := by revert c; decide
theorem to2 (c : Dev nD) : (⟨k0_dev2 c, k0_dev2_lt c⟩ : Dev nD) = sib c := by revert c; decide
theorem to3 (c : Dev nD) : (⟨k0_dev3 c, k0_dev3_lt c⟩ : Dev nD) = sib c := by revert c; decide
theorem to4 (c : Dev nD) : (⟨k0_dev4 c, k0_dev4_lt c⟩ : Dev nD) = sib c := by revert c; decide

/-- The slot at given corners of the array. -/
abbrev piece (o : Fin 4 → ℕ) (h : ∀ a, o a + S1x1x352x1024.size a ≤ S4x2x352x1024.size a) : Memref sig .tc .hbm S352x1024 .bf16 :=
  ((Memref.whole main_v1 : Memref sig .tc .hbm S4x2x352x1024 .bf16).slice (Rect.unit (s := S4x2x352x1024) o S1x1x352x1024.size h) (fun _ => rfl)).squeeze S352x1024 squeezes_S1x1x352x1024_S352x1024

abbrev corner : Fin 3 → Dev nD → Fin 4 → ℕ := fun | 0, c => k0_off1 c | 1, c => k0_off2 c | 2, c => k0_off3 c
theorem corner_inb : ∀ (k : Fin 3) (c : Dev nD) (a : Fin 4), corner k c a + S1x1x352x1024.size a ≤ S4x2x352x1024.size a
  | 0, c => k0_off1_inb c | 1, c => k0_off2_inb c | 2, c => k0_off3_inb c

/-- The chip of a device's `k`-th slot to send: the neighbour in `x`, the neighbour in `y`, the one across. -/
def chip (k : Fin 3) (c : Dev nD) : ℕ := match k with
  | 0 => (c.val / 2 + 2) % 4
  | 1 => c.val / 2 / 2 * 2 + (1 - c.val / 2 % 2)
  | 2 => 3 - c.val / 2

theorem corner_eq (k : Fin 3) (c : Dev nD) : corner k c = ![chip k c, c.val % 2, 0, 0] := by
  revert k c; decide +kernel
theorem chip_sib (k : Fin 3) (c : Dev nD) : chip k (sib c) = chip k c := by revert k c; decide
theorem chip_injective (c : Dev nD) : Function.Injective fun k => chip k c := by revert c; decide
theorem chip_other (c : Dev nD) (n : Fin 4) : (∃ k, n.val = chip k c) ↔ n.val ≠ c.val / 2 := by revert c n; decide

/-- A device's `k`-th slot to send. -/
abbrev slot (k : Fin 3) (c : Dev nD) : Memref sig .tc .hbm S352x1024 .bf16 := piece (corner k c) (corner_inb k c)

theorem mem_slot (k : Fin 3) (c : Dev nD) (i : S4x2x352x1024.Idx) : i ∈ (slot k c).view.set ↔ (i 0).val = chip k c ∧ (i 1).val = c.val % 2 := by
  refine Iff.trans (Eq.to_iff (congrArg (i ∈ ·) ((View.set_reshape _ _).trans (View.set_slice_whole _ _)))) ?_
  rw [Rect.mem_set_unit, corner_eq]
  have h2 : (i 2).val < 352 := (i 2).isLt
  have h3 : (i 3).val < 1024 := (i 3).isLt
  refine ⟨fun h => ?_, fun h a => ?_⟩
  · have h0 : chip k c ≤ (i 0).val ∧ (i 0).val < chip k c + 1 := h 0
    have h1 : c.val % 2 ≤ (i 1).val ∧ (i 1).val < c.val % 2 + 1 := h 1
    omega
  · fin_cases a
    · show chip k c ≤ (i 0).val ∧ (i 0).val < chip k c + 1; omega
    · show c.val % 2 ≤ (i 1).val ∧ (i 1).val < c.val % 2 + 1; omega
    · show 0 ≤ (i 2).val ∧ (i 2).val < 0 + 352; omega
    · show 0 ≤ (i 3).val ∧ (i 3).val < 0 + 1024; omega

abbrev barS : Sem sig := (SemArray.scalar (sig.barrier 0 rfl) : Sems sig S_).sem
abbrev sent0 : DmaSem sig := ((cc0_scratch0.slice (Rect.unit (s := S1x3) ![0, 0] S1x1.size inb_S1x3_S1x1_0_0) : DmaSems sig S1x1).squeeze S_ squeezes_S1x1_S_).sem
abbrev sent1 : DmaSem sig := ((cc0_scratch0.slice (Rect.unit (s := S1x3) ![0, 1] S1x1.size inb_S1x3_S1x1_0_1) : DmaSems sig S1x1).squeeze S_ squeezes_S1x1_S_).sem
abbrev sent2 : DmaSem sig := ((cc0_scratch0.slice (Rect.unit (s := S1x3) ![0, 2] S1x1.size inb_S1x3_S1x1_0_2) : DmaSems sig S1x1).squeeze S_ squeezes_S1x1_S_).sem
abbrev here0 : DmaSem sig := ((cc0_scratch1.slice (Rect.unit (s := S1x3) ![0, 0] S1x1.size inb_S1x3_S1x1_0_0) : DmaSems sig S1x1).squeeze S_ squeezes_S1x1_S_).sem
abbrev here1 : DmaSem sig := ((cc0_scratch1.slice (Rect.unit (s := S1x3) ![0, 1] S1x1.size inb_S1x3_S1x1_0_1) : DmaSems sig S1x1).squeeze S_ squeezes_S1x1_S_).sem
abbrev here2 : DmaSem sig := ((cc0_scratch1.slice (Rect.unit (s := S1x3) ![0, 2] S1x1.size inb_S1x3_S1x1_0_2) : DmaSems sig S1x1).squeeze S_ squeezes_S1x1_S_).sem

/-! ## Contents -/

/-- What a slot's transfer counts. -/
abbrev N : ℕ := (slot 0 0).view.dmaCredit

/-- A device's own array. -/
def own (c : Dev nD) : S4x2x352x1024.Idx → Elt F .bf16 := m ((c : Thread nD τ).loc main_arg0)

/-! ## The schedule -/

/-- The barrier, the three counters of what has left, the three of what has arrived. -/
instance : Counters sig where
  csem := fun
    | 0 => .reg barS | 1 => .dma sent0 | 2 => .dma sent1 | 3 => .dma sent2 | 4 => .dma here0 | 5 => .dma here1 | 6 => .dma here2
  csem_injective := by decide
  amt := fun | 0 => 1 | 1 => N | 2 => N | 3 => N | 4 => N | 5 => N | 6 => N
  amt_pos k := by
    fin_cases k
    · exact Nat.one_pos
    all_goals exact View.dmaCredit_pos _ (by decide)

/-- What device `c` gets: on the barrier the sibling's slots that it overwrites, and that the sibling's counters of
    arrivals are open; of what has left, its own slot again; of what has arrived, the sibling's slot. -/
def pay : Fin 7 → Dev nD → sProp 𝕄
  | 0, c => iprop(((∃ f, hold (slot 0 c) (sib c) f) ∗ (∃ f, hold (slot 1 c) (sib c) f) ∗ ∃ f, hold (slot 2 c) (sib c) f)
      ∗ reached EX (cell (sib c, 4)) 0 ∗ reached EX (cell (sib c, 5)) 0 ∗ reached EX (cell (sib c, 6)) 0)
  | 1, c => hold (slot 0 c) c (own m c)
  | 2, c => hold (slot 1 c) c (own m c)
  | 3, c => hold (slot 2 c) c (own m c)
  | 4, c => hold (slot 0 (sib c)) c (own m (sib c))
  | 5, c => hold (slot 1 (sib c)) c (own m (sib c))
  | 6, c => hold (slot 2 (sib c)) c (own m (sib c))

omit [FloatOps F] in
instance pay_storable (k : Fin 7) (c : Dev nD) : BI.Storable (upEmb : UEmb _ 𝕄) (pay m k c) := by
  unfold pay; split <;> infer_instance

/-! ## A device's run -/

/-- What a device starts with. -/
def start (c : Dev nD) : sProp 𝕄 :=
  before (pay m) iprop(hold (slot 0 c) c (own m c) ∗ hold (slot 1 c) c (own m c) ∗ hold (slot 2 c) c (own m c))
    iprop((∃ f, hold (slot 0 (sib c)) c f) ∗ (∃ f, hold (slot 1 (sib c)) c f) ∗ ∃ f, hold (slot 2 (sib c)) c f) c

set_option maxHeartbeats 4000000 in
theorem run_body (c : Dev nD) (W : Waits sig Unit) (Kt : PUnit → sProp 𝕄) :
    iprop((start m c ∗ owes (c : Thread nD τ) (owes0 c) W)
        ∗ ((after (pay m) c ∗ ∃ W, owes (c : Thread nD τ) (0 : CellTallies nD τ sig Unit) W) -∗ Kt ⟨⟩))
      ⊢ wp frame (wpE (defs₀ (F := F)) 𝒱₀ c none) Set.univ
          (cc0_pass_ffn_w_down (Memref.whole main_v1) (Memref.isWhole_whole _) (Memref.whole main_v1) (Memref.isWhole_whole _) cc0_scratch0 cc0_scratch1) Kt := by
  simp only [cc0_pass_ffn_w_down_eq_skeleton]; unfold cc0_pass_ffn_w_down_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId, to1 c]
  exact talk (pay m) defs₀ c (to2 c) (to3 c) (to4 c) rfl rfl rfl rfl rfl rfl rfl (slot 0 c) (slot 1 c) (slot 2 c) (fun _ => rfl) (fun _ => rfl) (fun _ => rfl)
    (by decide) rfl rfl rfl (own m c) (own m c) (own m c) (by unfold pay; dsimp only; rw [sib_sib]) (BI.Entails.refl _) rfl rfl rfl
    (by unfold pay; dsimp only; rw [sib_sib]) (by unfold pay; dsimp only; rw [sib_sib]) (by unfold pay; dsimp only; rw [sib_sib]) W Kt

end Cert.PassProof

end
-- ==== Proof.PassLaunch.lean ====
/- Passing a weight's slots to the sibling: all eight devices at once, and what the run leaves. -/
module

public import proofs.«01_k».proof.Proof.PassProtocol
public import proofs.«01_k».proof.Proof.Gen.PassIdeal.Frame

@[expose] public section

noncomputable section

namespace Cert.PassProof

open Cert.PassIdeal Cert.PassIdeal.Gen Cert.Siblings
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke

variable {F : FTy → Type} [FloatOps F]

local notation "𝕄" => MT nD τ sig Unit (Elt F) ℕ (UU sig) ℕ

variable (m : (ℓ : Loc nD τ sig) → Buf (Elt F) ℓ) (ρ : Dev nD → PrngReg)

/-! ## The arrays before and after -/

/-- The elements of the slots that device `c` sends: its own core's, on the other chips. -/
def mine (c : Dev nD) : Finset S4x2x352x1024.Idx := Finset.univ.biUnion fun k => (slot k c).view.set

theorem mem_mine (c : Dev nD) (i : S4x2x352x1024.Idx) : i ∈ mine c ↔ (i 0).val ≠ c.val / 2 ∧ (i 1).val = c.val % 2 := by
  unfold mine
  rw [Finset.mem_biUnion, ← chip_other c (i 0)]
  constructor
  · rintro ⟨k, -, h⟩; obtain ⟨h0, h1⟩ := (mem_slot k c i).1 h; exact ⟨⟨k, h0⟩, h1⟩
  · rintro ⟨⟨k, h0⟩, h1⟩; exact ⟨k, Finset.mem_univ _, (mem_slot k c i).2 ⟨h0, h1⟩⟩

theorem slots_apart (c : Dev nD) (k l : Fin 3) (h : k ≠ l) : Disjoint (slot k c).view.set (slot l c).view.set :=
  Finset.disjoint_left.2 fun i hk hl => h (chip_injective c (((mem_slot k c i).1 hk).1.symm.trans ((mem_slot l c i).1 hl).1))

theorem cores_apart (c : Dev nD) (i : S4x2x352x1024.Idx) (h : i ∈ mine c) : i ∉ mine (sib c) := fun h' => by
  have a := ((mem_mine c i).1 h).2
  have b := ((mem_mine (sib c) i).1 h').2
  rw [sib_mod] at b; omega

/-- The array as the run leaves it: the sibling's slots on the other chips, all else as it was. -/
def passed (c : Dev nD) : S4x2x352x1024.Idx → Elt F .bf16 := (mine (sib c)).piecewise (own m (sib c)) (own m c)

abbrev V₁ (c : Dev nD) : Valuation τ sig (Elt F) := StableHlo.after hostOps0 (V₀ m c)
abbrev V₂ (c : Dev nD) : Valuation τ sig (Elt F) := Function.update (V₁ m c) (Proc.devRef .tc main_v1) (passed m c)

theorem V₁_arg (c : Dev nD) : V₁ m c main_arg0 = own m c := V_main_arg0 m c
theorem V₁_copy (c : Dev nD) : V₁ m c main_v1 = own m c := by
  show StableHlo.after hostOps0 (V₀ m c) (Proc.devRef .tc main_v1) = _
  rw [hostOps0, StableHlo.after_cons, StableHlo.after_nil, StableHlo.unary_result]
  rfl

/-- The two arrays of a device. -/
def arrays (c : Dev nD) (a r : S4x2x352x1024.Idx → Elt F .bf16) : sProp 𝕄 :=
  iprop((((c : Thread nD τ).loc main_arg0) ↦{fullShare} a) ∗ (((c : Thread nD τ).loc main_v1) ↦{fullShare} r))

omit [FloatOps F] in
theorem held_arrays (c : Dev nD) (W : Valuation τ sig (Elt F)) : (StableHlo.held (c : Thread nD τ) bufs W : sProp 𝕄) = arrays c (W main_arg0) (W main_v1) := by
  unfold StableHlo.held
  rw [bigSep_eq_bigSepL_of_eq [Proc.devRef .tc main_arg0, Proc.devRef .tc main_v1] (by decide) (by decide)]
  rfl

theorem held_before (c : Dev nD) : (StableHlo.held (c : Thread nD τ) bufs (V₁ m c) : sProp 𝕄) = arrays c (own m c) (own m c) := by
  rw [held_arrays, V₁_arg, V₁_copy]

theorem held_after (c : Dev nD) : (StableHlo.held (c : Thread nD τ) bufs (V₂ m c) : sProp 𝕄) = arrays c (own m c) (passed m c) := by
  have ea : V₂ m c main_arg0 = own m c := by unfold V₂; rw [Function.update_of_ne (by decide)]; exact V₁_arg m c
  have er : V₂ m c main_v1 = passed m c := by unfold V₂; rw [Function.update_self]
  rw [held_arrays, ea, er]

/-! ## A whole array is three slots to send, three to be overwritten, and what stays -/

/-- What stays: the slots of a device's own chip. -/
def stays (c : Dev nD) (f : S4x2x352x1024.Idx → Elt F .bf16) : sProp 𝕄 :=
  ((c : Thread nD τ).loc main_v1) ↦[(Finset.univ \ mine c) \ mine (sib c)]{fullShare} f

omit [FloatOps F] in
theorem slots_of (c d : Dev nD) (f : S4x2x352x1024.Idx → Elt F .bf16) : ((((d : Thread nD τ).loc main_v1) ↦[mine c]{fullShare} f) : sProp 𝕄)
    = iprop(hold (slot 0 c) d f ∗ hold (slot 1 c) d f ∗ hold (slot 2 c) d f) := by
  unfold mine
  rw [pointsTo_biUnion (ℓ := (d : Thread nD τ).loc main_v1) (Finset.univ : Finset (Fin 3)) (fun k => (slot k c).view.set) fun k _ l _ h => slots_apart c k l h,
    bigSep_univ_eq_bigSepL [(0 : Fin 3), 1, 2] (by decide) (by decide)]
  rfl

omit [FloatOps F] in
theorem parts (c : Dev nD) (f : S4x2x352x1024.Idx → Elt F .bf16) : ((((c : Thread nD τ).loc main_v1) ↦{fullShare} f) : sProp 𝕄)
    = iprop((hold (slot 0 c) c f ∗ hold (slot 1 c) c f ∗ hold (slot 2 c) c f)
      ∗ (hold (slot 0 (sib c)) c f ∗ hold (slot 1 (sib c)) c f ∗ hold (slot 2 (sib c)) c f) ∗ stays c f) := by
  have h : mine (sib c) ⊆ Finset.univ \ mine c := fun i hi =>
    Finset.mem_sdiff.2 ⟨Finset.mem_univ _, fun h' => cores_apart c i h' hi⟩
  have w := pointsTo_split_subset (Ix := Unit) (Name := ℕ) (U := UU sig) (Lvl := ℕ) (ℓ := (c : Thread nD τ).loc main_v1) (q := fullShare) (f := f) (Finset.subset_univ (mine c))
  have v := pointsTo_split_subset (Ix := Unit) (Name := ℕ) (U := UU sig) (Lvl := ℕ) (ℓ := (c : Thread nD τ).loc main_v1) (q := fullShare) (f := f) h
  rw [← slots_of c c, ← slots_of (sib c) c, BI.Entails.antisymm w.1 w.2, BI.Entails.antisymm v.1 v.2]
  rfl

theorem put_together (c : Dev nD) : iprop((pay m 1 c ∗ pay m 2 c ∗ pay m 3 c) ∗ (pay m 4 c ∗ pay m 5 c ∗ pay m 6 c) ∗ stays c (own m c))
    ⊢ ((((c : Thread nD τ).loc main_v1) ↦{fullShare} passed m c) : sProp 𝕄) := by
  refine Entails.of_eq ?_
  have e1 := pointsTo_congr (ℓ := (c : Thread nD τ).loc main_v1) (I := mine c) (q := fullShare) (Ix := Unit) (Name := ℕ) (U := UU sig) (Lvl := ℕ)
    (f := own m c) (g := passed m c) fun i hi => (Finset.piecewise_eq_of_notMem _ _ _ (cores_apart c i hi)).symm
  have e2 := pointsTo_congr (ℓ := (c : Thread nD τ).loc main_v1) (I := mine (sib c)) (q := fullShare) (Ix := Unit) (Name := ℕ) (U := UU sig) (Lvl := ℕ)
    (f := own m (sib c)) (g := passed m c) fun i hi => (Finset.piecewise_eq_of_mem _ _ _ hi).symm
  have e3 : (stays c (own m c) : sProp 𝕄) = stays c (passed m c) :=
    pointsTo_congr fun i hi => (Finset.piecewise_eq_of_notMem _ _ _ (Finset.mem_sdiff.1 hi).2).symm
  rw [parts, ← slots_of c c, ← slots_of (sib c) c, ← e1, ← e2, ← e3, slots_of, slots_of]
  rfl

/-! ## The kernel's region -/

/-- The argument and the slots that stay, which the kernel leaves alone, and the register. -/
def aside (c : Dev nD) : sProp 𝕄 :=
  iprop((((c : Thread nD τ).loc main_arg0) ↦{fullShare} own m c) ∗ stays c (own m c) ∗ ∃ r, prngReg c r)

def dat (c : Dev nD) : Pipeline.Dat τ (Elt F) Unit ℕ (UU sig) ℕ cfg0 c where
  A w := w.elim0
  after w := w.elim0
  Φ t := match t with
    | ⟨0, _⟩ => iprop(start m c ∗ aside m c)
    | ⟨_ + 1, _⟩ => iprop(after (pay m) c ∗ aside m c)
  q w := w.elim0
  owed t := match t with
    | ⟨0, _⟩ => owes0 c
    | ⟨_ + 1, _⟩ => 0

abbrev adm : (p : Fin 1) → (pcfgs (F := F) p).Adm := fun p => (cfgs p).toPCfg_adm
def pdats : (p : Fin 1) → (c : Dev nD) → Pipeline.Dat τ (Elt F) Unit ℕ (UU sig) ℕ (Pipeline.pin (pcfgs (F := F)) adm p) c
  | 0 => dat m

theorem no_windows (Φ : Fin cfg0.W → sProp 𝕄) : bigSep Finset.univ Φ = iprop(emp) := by
  rw [show (Finset.univ : Finset (Fin cfg0.W)) = ∅ from rfl, bigSep_empty]; rfl

set_option maxRecDepth 4000 in
theorem region_body (c : Dev nD) : Pipeline.BodyObligation (dat (F := F) m c) (defs₀ (F := F)) 𝒱₀ () Set.univ := fun t => by
  obtain rfl : t = t0_0 := fin_N0 t
  rw [no_windows, no_windows]
  show iprop((start m c ∗ aside m c) ∗ (dat m c).owesAt () t0_0.castSucc ∗ emp) ⊢ wp frame (wpE (defs₀ (F := F)) 𝒱₀ c none) Set.univ
    (cc0_pass_ffn_w_down (Memref.whole main_v1) (Memref.isWhole_whole _) (Memref.whole main_v1) (Memref.isWhole_whole _) cc0_scratch0 cc0_scratch1)
    (fun _ => iprop((after (pay m) c ∗ aside m c) ∗ (dat m c).owesAt () t0_0.succ ∗ emp))
  unfold Pipeline.Dat.owesAt Pipeline.owesWithin
  iintro ⟨⟨Hb, Ha⟩, ⟨%W, %hW, HO⟩, -⟩
  rw [show (dat m c).owed t0_0.castSucc = owes0 c from rfl, show (dat m c).owed t0_0.succ = 0 from rfl]
  iapply (run_body m c W _)
  isplitl [Hb HO]
  · isplitl [Hb] <;> iassumption
  iintro ⟨H1, ⟨%W', H2⟩⟩
  isplitl [H1 Ha]
  · isplitl [H1] <;> iassumption
  isplitl [H2]
  · iexists W'
    isplitr; · ipureintro; exact fun _ _ => Or.inl trivial
    iexact H2
  iempintro

theorem enter (c : Dev nD) : iprop(Pipeline.scopedRest (Pipeline.pin (pcfgs (F := F)) adm 0).spec c ∗ (∃ r, prngReg c r) ∗ StableHlo.held (c.tc : Thread nD τ) bufs (V₁ m c) ∗ ready (pay m) c)
    ⊢ (pdats m 0 c).Φ 0 := by
  rw [show (pdats m 0 c).Φ 0 = iprop(start m c ∗ aside m c) from rfl, held_before]
  unfold start before aside ready arrays
  rw [parts c]
  iintro ⟨-, Hp, ⟨Ha, Hs, ⟨Hd0, Hd1, Hd2⟩, Hst⟩, Hκ, Hc, Hlev⟩
  isplitr [Hp Ha Hst]
  · isplitl [Hκ]; · iexact Hκ
    isplitl [Hc]; · iexact Hc
    isplitl [Hlev]; · iexact Hlev
    isplitl [Hs]; · iexact Hs
    isplitl [Hd0]; · iexists _; iexact Hd0
    isplitl [Hd1]; · iexists _; iexact Hd1
    iexists _; iexact Hd2
  isplitl [Ha]; · iexact Ha
  isplitl [Hst] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c)
        ∗ Pipeline.ownSems0 osem c ∗ semVal (cell (c, 0)) 0) := by
  rw [show (pdats m 0 c).Φ (Fin.last _) = iprop(after (pay m) c ∗ aside m c) from rfl, held_after,
    show (Pipeline.scopedRest (Pipeline.pin (pcfgs (F := F)) adm 0).spec c : sProp 𝕄) = BI.emp from scopedRest0_eq c,
    show (Pipeline.ownSems0 osem c : sProp 𝕄) = bigSep Finset.univ fun j : Fin 6 => semVal (cell (c, j.succ)) 0 from rfl, six]
  unfold after aside arrays
  rw [seven]
  iintro ⟨⟨⟨Hv0, Hv⟩, Hs, Hd⟩, Ha, Hst, Hp⟩
  isplitr; · iempintro
  isplitl [Hp]; · iexact Hp
  isplitr [Hv Hv0]
  · isplitl [Ha]; · iexact Ha
    iapply (put_together m c)
    isplitl [Hs]; · iexact Hs
    isplitl [Hd] <;> iassumption
  isplitl [Hv]; · iexact Hv
  iexact Hv0

theorem placed : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem levels_above (c : Dev nD) (t : Fin ((Pipeline.pin (pcfgs (F := F)) adm 0).N + 1)) (g : GSem nD τ sig) (i : Unit)
    (h : 0 < (pdats (F := F) m 0 c).owed t g i) : i ∈ L g ∧ 0 < lv g i := by
  refine ⟨?_, lv_pos g i⟩
  have e : ∀ t : Fin (cfg0.N + 1), (dat (F := F) m c).owed t = owes0 c ∨ (dat (F := F) m c).owed t = 0 := fun
    | ⟨0, _⟩ => Or.inl rfl
    | ⟨_ + 1, _⟩ => Or.inr rfl
  rcases e t with e | e
  · have h' : 0 < owes0 c g i := by rw [← e]; exact h
    obtain ⟨k, rfl⟩ := owes0_pos h'
    exact mem_L _ k
  · have h' : 0 < (0 : CellTallies nD τ sig Unit) g i := by rw [← e]; exact h
    exact absurd h' (Nat.lt_irrefl 0)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts cfg0.spec osem)
    bufs bufs (Finset.Subset.refl _) placed rfl (fun c => (region_body m c).loose)
    (fun _ => 0) owes0 (fun c => (zero_add _).symm) (fun c => rfl) (fun _ => rfl) (fun _ w => w.elim0)
    (V₁ m) (V₂ m) (fun _ b hb => absurd hb (by rw [Finset.sdiff_self]; exact Finset.notMem_empty b))
    (bring (pay m)) (fun c => semVal (cell (c, 0)) 0) (ready (pay m)) (fun c => semVal (cell (c, 0)) 0) (wake (pay m)) (enter m) (leave m)
    (fun c => fupd_intro) (fun _ => 0)
    ⟨fun _ w => w.elim0, fun _ w => w.elim0, fun c t g i h => levels_above m c t g i h⟩
    (fun _ => iprop(emp)) (fun _ w => w.elim0) (fun _ w => w.elim0)

/-! ## The program as a list: a copy of the argument, then the kernel -/

theorem copies_sub : ∀ op ∈ (hostOps0 : List (HloOp τ sig (Elt F))), op.bufs ⊆ bufs := fun op h => by
  obtain rfl := List.mem_singleton.1 h
  show ({Proc.devRef .tc main_arg0, Proc.devRef .tc main_v1} : Finset (DevRef τ sig)) ⊆ bufs; decide

def copies : Pipeline.HostSeg (Name := ℕ) (U := UU sig) (pcfgs (F := F)) defs₀ 𝒱₀ L lv :=
  Pipeline.HostSeg.ofOps _ _ _ _ _ bufs hostOps0 copies_sub (List.forall_iff_forall_mem.1 hostOps0_fresh) (V₀ m) (riding (pay m))

theorem to_region (c : Dev nD) : (copies m).post c ⊢ (region m).pre c := by
  show iprop(StableHlo.held (c : Thread nD τ) bufs (V₁ m c) ∗ riding (pay m) c)
    ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ bring (pay m) c ∗ ∃ Wd, owes (c : Thread nD τ) (0 + owes0 c) Wd)
  rw [show (StableHlo.held (c.tc : Thread nD τ) (Pipeline.arrRefs (τ := τ) (pcfgs (F := F) 0).spec) (V₁ m c) : sProp 𝕄) = BI.emp from bigSep_empty, zero_add]
  iintro ⟨Hh, ⟨Hb, Hp⟩, HO⟩
  isplitr; · iempintro
  isplitl [Hp]; · iexact Hp
  isplitl [Hh]
  · isplitl [Hh]; · iexact Hh
    iempintro
  isplitl [Hb]; · iexact Hb
  iexact HO

/-- What a device ends with. -/
abbrev finish (c : Dev nD) : sProp 𝕄 := iprop(StableHlo.held (c : Thread nD τ) bufs (V₂ m c) ∗ semVal (cell (c, 0)) 0)

theorem from_region (c : Dev nD) : (region m).post c
    ⊢ iprop(finish m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ semVal (cell (c, 0)) 0 ∗ ∃ Wd, owes (c : Thread nD τ) (0 : CellTallies nD τ sig Unit) Wd) ⊢ _
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (copies m), .region (region m)]

/-! ## What the launch deals -/

def u₀ : UU sig := (initOf (Pipeline.cells (Pipeline.pin (pcfgs (F := F)) adm) cellOf_inj) (Pipeline.launchToks (Pipeline.pin (pcfgs (F := F)) adm) cellOf_inj),
  launchOf awake asleep tokens)

omit [FloatOps F] in
theorem unscoped_bar (c : Dev nD) : (unscopedSems0 c : sProp 𝕄) = semVal (cell (c, 0)) 0 := by
  unfold unscopedSems0; exact bigSep_eq_bigSepL_of_eq [SemLoc.reg barS] (by decide) (by decide) _

/-! ## Every run -/

/-- A device's memory in the end: the argument as it was, the sibling's slots in the result. -/
def Passed (c : Dev nD) (s : MemSt nD τ sig (Elt F)) : Prop :=
  s.mem ((c : Thread nD τ).loc main_arg0) = own m c ∧ s.mem ((c : Thread nD τ).loc main_v1) = passed m c

theorem look (c : Dev nD) (s' : Phys nD τ sig (Elt F)) : iprop(finish m c ∗ SI s')
    ⊢ (iprop(⌜Passed m c s'.mem ∧ s'.mem.sem (cell (c, 0)) = 0⌝ ∗ SI s') : sProp 𝕄) := by
  unfold finish
  rw [held_after]
  unfold arrays
  iintro ⟨⟨⟨Ha, Hr⟩, Hv⟩, HSI⟩
  icombine HSI Ha gives %ha
  icombine HSI Hr gives %hr
  icombine HSI Hv gives %hv
  isplitr
  · ipureintro
    exact ⟨⟨Buf.eq_of_forall_mem_univ ha, Buf.eq_of_forall_mem_univ hr⟩, by simpa using hv⟩
  iexact HSI

theorem only_bar : ∀ sm : SemLoc sig, sm.isScoped .tc = false → sm = .reg barS := by decide

set_option backward.isDefEq.respectTransparency.types false in
/-- From any memory with zero counters every run ends with the sibling's slots in each result and every counter at zero. -/
theorem run_main : θ_run defs (onTc (τ := τ) (main (F := F))) ⟨m, fun _ => 0, ρ⟩ (fun r => (∀ c, Passed m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (copies m) (region m) rfl c]; rfl)
    (by simp only [segs, Pipeline.Seg.pipes_host, Pipeline.Seg.pipes_region, Pipeline.Seg.pipes_nil]; decide)
    (O₀ := owes0) (hL := L_of_ne) (G := G) (u₀ := u₀)
    (hu₀ := by
      unfold u₀
      iintro Hu
      ihave H := (ownU_pair _ _) $$ Hu
      icases H with ⟨HP, HX⟩
      imodintro
      isplitl [HP]; · iexact HP
      rw [staked]; iexact HX)
    (T₀ := T₀ (pay m) m) (Tₙ := finish m)
    (hch := ⟨fun c => .rfl, fun c => to_region m c, fun c => from_region m c⟩)
    (hinit := deal (pay m) m ρ unscoped_bar)
    (QY := fun c s => Passed m c s ∧ s.sem (cell (c, 0)) = 0)
    (hfin := fun c s' => by
      iintro ⟨H, HSI⟩
      ihave H := (look m c s') $$ [H HSI]
      · isplitl [H] <;> iassumption
      icases H with ⟨%hl, HSI⟩
      imodintro
      isplitr; · ipureintro; exact hl
      iexact HSI)
    (hQ := fun s h hs => ⟨fun c => (h c).1, sem_eq_zero hs fun c sm hsm => by
      obtain rfl := only_bar sm hsm
      exact (h c).2⟩)

end Cert.PassProof

end
-- ==== Proof.PassValue.lean ====
/- Passing a weight's slots: the reference entry by entry, and that what the devices hold in the end is its blocks. -/
module

public import proofs.«01_k».proof.Proof.PassLaunch
public import proofs.«01_k».proof.Proof.Gen.PassRefIdeal.Run
public import proofs.«01_k».proof.Proof.Gen.PassRefIdeal.Read
public import Idealize.ShloMosaic.Lib.Layout
public import Idealize.ShloMosaic.Lib.Pipeline.Value

@[expose] public section

set_option maxRecDepth 16384

noncomputable section

namespace Cert.PassProof

open Cert.Siblings

open Idealize.ShloMosaic

/-- A row-major position among six axes. -/
theorem position_six {d : Fin 6 → ℕ} (i : (⟨6, d⟩ : Shape).Idx) : ((⟨6, d⟩ : Shape).rowMajor i).val
    = (((((i 0).val * d 1 + (i 1).val) * d 2 + (i 2).val) * d 3 + (i 3).val) * d 4 + (i 4).val) * d 5 + (i 5).val := by
  rw [Shape.rowMajor_val_succ, Shape.rowMajor_val_five]
  simp [Shape.numel, Fin.prod_univ_succ, Nat.add_mul, Nat.mul_assoc, Nat.add_assoc]

variable {F : FTy → Type} [FloatOps F]

section Whole
open Cert.PassRefIdeal Cert.PassRefIdeal.Read

variable (x : (⟨S32x2x352x1024, .bf16⟩ : BufTy).Contents (Elt F))

/-- Slots by chip, core, chip and core again. -/
theorem slots (j : S4x2x4x2x352x1024.Idx) (k : S32x2x352x1024.Idx) (h0 : (k 0).val = 8 * (j 0).val + 4 * (j 1).val + (j 2).val)
    (h1 : (k 1).val = (j 3).val) (h2 : (k 2).val = (j 4).val) (h3 : (k 3).val = (j 5).val) : val_main_v0 (F := F) x j = x k := by
  refine shapeCast_apply _ _ j k ?_
  refine (Shape.rowMajor_val_four k).trans (Eq.trans ?_ (position_six j).symm)
  show (((k 0).val * 2 + (k 1).val) * 352 + (k 2).val) * 1024 + (k 3).val
    = (((((j 0).val * 2 + (j 1).val) * 4 + (j 2).val) * 2 + (j 3).val) * 352 + (j 4).val) * 1024 + (j 5).val
  omega

/-- Two axes of extent one, for the first and the fourth. -/
def wide (j : S4x4x352x1024.Idx) : S4x1x4x1x352x1024.Idx := fun a => match a with
  | ⟨0, _⟩ => j 0
  | ⟨1, _⟩ | ⟨3, _⟩ => ⟨0, Nat.one_pos⟩
  | ⟨2, _⟩ => j 1
  | ⟨4, _⟩ => j 2
  | ⟨5, _⟩ => j 3

theorem narrow (y : S4x1x4x1x352x1024.Idx → Elt F .bf16) (h : S4x1x4x1x352x1024.ShapeCasts S4x4x352x1024) (j : S4x4x352x1024.Idx) :
    shapeCast S4x4x352x1024 y h j = y (wide j) := by
  refine shapeCast_apply y h j (wide j) ?_
  refine (position_six (wide j)).trans (Eq.trans ?_ (Shape.rowMajor_val_four j).symm)
  show (((((j 0).val * 1 + 0) * 4 + (j 1).val) * 1 + 0) * 352 + (j 2).val) * 1024 + (j 3).val
    = (((j 0).val * 4 + (j 1).val) * 352 + (j 2).val) * 1024 + (j 3).val
  omega

/-- The slots that the two cores of a chip share: each core's own. -/
theorem shared (j : S4x4x2x352x1024.Idx) (k : S32x2x352x1024.Idx) (h0 : (k 0).val = 8 * (j 0).val + 4 * (j 2).val + (j 1).val)
    (h1 : (k 1).val = (j 2).val) (h2 : (k 2).val = (j 3).val) (h3 : (k 3).val = (j 4).val) : val_main_v7 (F := F) x j = x k := by
  have b : (j 2).val < 2 := (j 2).isLt
  let w : S4x4x1x352x1024.Idx := fun a => match a with
    | ⟨0, _⟩ => j 0
    | ⟨1, _⟩ => j 1
    | ⟨2, _⟩ => ⟨0, Nat.one_pos⟩
    | ⟨3, _⟩ => j 3
    | ⟨4, _⟩ => j 4
  unfold val_main_v7
  by_cases e : (j 2).val = 0
  · refine (concatenate_pair_apply_left (s₁ := S4x4x1x352x1024) (s₂ := S4x4x1x352x1024) 2 _ _ _ j rfl w fun b => ?_).trans ?_
    · match b with
      | ⟨2, _⟩ => exact e.symm
      | ⟨0, _⟩ | ⟨1, _⟩ | ⟨3, _⟩ | ⟨4, _⟩ => rfl
    · rw [val_main_v5_apply]
      unfold val_main_v2
      rw [narrow, val_main_v1_apply]
      exact slots x _ k (by rw [h0, e]; rfl) (h1.trans e) h2 h3
  · have e' : (j 2).val = 1 := by omega
    refine (concatenate_pair_apply_right (s₁ := S4x4x1x352x1024) (s₂ := S4x4x1x352x1024) 2 _ _ _ j rfl rfl w (fun b hb => ?_) e'.symm).trans ?_
    · match b with
      | ⟨2, _⟩ => exact absurd rfl hb
      | ⟨0, _⟩ | ⟨1, _⟩ | ⟨3, _⟩ | ⟨4, _⟩ => rfl
    · rw [val_main_v6_apply]
      unfold val_main_v4
      rw [narrow, val_main_v3_apply]
      exact slots x _ k (by rw [h0, e']; rfl) (h1.trans e') h2 h3

theorem same_chip : ∀ a b : Fin 4, IntOp.cmpi .eq (BitVec.ofNat 32 a.val) (BitVec.ofNat 32 b.val) = if a.val = b.val then 1#1 else 0#1 := by decide

theorem mask (i : S4x1x4x1x1x1.Idx) : val_main_v16 (F := F) i = if (i 0).val = (i 2).val then 1#1 else 0#1 := by
  let w : S4x4.Idx := fun a => match a with
    | ⟨0, _⟩ => i 0
    | ⟨1, _⟩ => i 2
  have z (b : Fin 1) : b.val = 0 := by omega
  refine (shapeCast_apply (val_main_v15 (F := F)) _ i w ?_).trans ?_
  · refine (Shape.rowMajor_val_two w).trans (Eq.trans ?_ (position_six i).symm)
    show (i 0).val * 4 + (i 2).val = (((((i 0).val * 1 + (i 1).val) * 4 + (i 2).val) * 1 + (i 3).val) * 1 + (i 4).val) * 1 + (i 5).val
    have z1 := z (i 1); have z3 := z (i 3); have z4 := z (i 4); have z5 := z (i 5)
    omega
  · rw [val_main_v15_apply, val_main_v13_apply, val_main_v14_apply, val_main_v10_apply, val_main_v12_apply, val_main_v9_apply, val_main_v11_apply]
    exact same_chip (i 0) (i 2)

/-- Where entry `i` of the passed array comes from: on a device's own chip from itself, else from the core that owns it. -/
def origin (i : S32x2x352x1024.Idx) : S32x2x352x1024.Idx := fun a => match a with
  | ⟨0, _⟩ => ⟨if (i 0).val / 8 = (i 0).val % 4 then (i 0).val else 8 * ((i 0).val / 8) + 4 * (i 1).val + (i 0).val % 4, by
      have h : (i 0).val < 32 := (i 0).isLt
      have h' : (i 1).val < 2 := (i 1).isLt
      show _ < 32
      split <;> omega⟩
  | ⟨1, _⟩ => i 1
  | ⟨2, _⟩ => i 2
  | ⟨3, _⟩ => i 3

theorem result (i : S32x2x352x1024.Idx) : val_main_v18 (F := F) x i = x (origin i) := by
  have b : (i 0).val < 32 := (i 0).isLt
  let w : S4x2x4x2x352x1024.Idx := fun a => match a with
    | ⟨0, _⟩ => ⟨(i 0).val / 8, by show _ < 4; omega⟩
    | ⟨1, _⟩ => ⟨(i 0).val / 4 % 2, Nat.mod_lt _ (by decide)⟩
    | ⟨2, _⟩ => ⟨(i 0).val % 4, Nat.mod_lt _ (by decide)⟩
    | ⟨3, _⟩ => i 1
    | ⟨4, _⟩ => i 2
    | ⟨5, _⟩ => i 3
  refine (shapeCast_apply (val_main_v17 (F := F) x) _ i w ?_).trans ?_
  · refine (position_six w).trans (Eq.trans ?_ (Shape.rowMajor_val_four i).symm)
    show ((((((i 0).val / 8) * 2 + (i 0).val / 4 % 2) * 4 + (i 0).val % 4) * 2 + (i 1).val) * 352 + (i 2).val) * 1024 + (i 3).val
      = (((i 0).val * 2 + (i 1).val) * 352 + (i 2).val) * 1024 + (i 3).val
    omega
  · rw [val_main_v17_apply, val_main_call0_v0_apply, mask]
    show Scalar.select (if (i 0).val / 8 = (i 0).val % 4 then 1#1 else 0#1) _ _ = _
    by_cases e : (i 0).val / 8 = (i 0).val % 4
    · rw [if_pos e]
      refine slots x w _ ?_ rfl rfl rfl
      show (if (i 0).val / 8 = (i 0).val % 4 then (i 0).val else _) = 8 * ((i 0).val / 8) + 4 * ((i 0).val / 4 % 2) + (i 0).val % 4
      rw [if_pos e]; omega
    · rw [if_neg e]
      refine Eq.trans ?_ (shared x (idx_main_v8 (idx_main_call0_v1 w)) (origin i) (if_neg e) rfl rfl rfl)
      show val_main_call0_v1 (F := F) x w = _
      rw [val_main_call0_v1_apply, val_main_v8_apply]

end Whole

section Held
open Cert.PassIdeal Cert.PassIdeal.Gen Cert.PassRefIdeal.Read Idealize.ShloMosaic.TcCoe

variable (m : (ℓ : Loc nD τ sig) → Buf (Elt F) ℓ)

/-- What a device holds in the end is its block of the reference's array. -/
theorem passed_block (c : Dev nD) (X : (⟨Cert.PassRefIdeal.S32x2x352x1024, .bf16⟩ : BufTy).Contents (Elt F)) (ht : Layout.Tiles ⟨4, ![4, 2, 352, 1024]⟩ ⟨4, ![32, 2, 352, 1024]⟩ 0 8)
    (hm : ∀ d : Dev nD, own m d = Layout.block ⟨4, ![4, 2, 352, 1024]⟩ ⟨4, ![32, 2, 352, 1024]⟩ 0 8 d X ht) :
    passed m c = Layout.block ⟨4, ![4, 2, 352, 1024]⟩ ⟨4, ![32, 2, 352, 1024]⟩ 0 8 c (val_main_v18 (F := F) X) ht := by
  unfold passed; rw [hm, hm]
  funext i
  have b0 : (i 0).val < 4 := (i 0).isLt
  have b1 : (i 1).val < 2 := (i 1).isLt
  have bc : c.val < 8 := c.isLt
  have hs := mem_mine (sib c) i
  have hc : (sib c).val = 2 * (c.val / 2) + (1 - c.val % 2) := rfl
  rw [sib_mod, show (sib c).val / 2 = c.val / 2 by omega] at hs
  have q : (c.val * 4 + (i 0).val) / 8 = c.val / 2 := by omega
  have q' : (c.val * 4 + (i 0).val) % 4 = (i 0).val := by omega
  rw [Layout.block_apply, result]
  by_cases h : i ∈ mine (sib c)
  · rw [Finset.piecewise_eq_of_mem _ _ _ h, Layout.block_apply]
    obtain ⟨e0, e1⟩ := hs.1 h
    refine congrArg X (funext fun a => Fin.ext ?_)
    match a with
    | ⟨0, _⟩ =>
      show (sib c).val * 4 + (i 0).val = if (c.val * 4 + (i 0).val) / 8 = (c.val * 4 + (i 0).val) % 4 then c.val * 4 + (i 0).val
        else 8 * ((c.val * 4 + (i 0).val) / 8) + 4 * (i 1).val + (c.val * 4 + (i 0).val) % 4
      rw [q, q', if_neg (Ne.symm e0), hc, e1]; omega
    | ⟨1, _⟩ | ⟨2, _⟩ | ⟨3, _⟩ => rfl
  · rw [Finset.piecewise_eq_of_notMem _ _ _ h, Layout.block_apply]
    have e : (i 0).val ≠ c.val / 2 → (i 1).val ≠ 1 - c.val % 2 := fun e e' => h (hs.2 ⟨e, e'⟩)
    refine congrArg X (funext fun a => Fin.ext ?_)
    match a with
    | ⟨0, _⟩ =>
      show c.val * 4 + (i 0).val = if (c.val * 4 + (i 0).val) / 8 = (c.val * 4 + (i 0).val) % 4 then c.val * 4 + (i 0).val
        else 8 * ((c.val * 4 + (i 0).val) / 8) + 4 * (i 1).val + (c.val * 4 + (i 0).val) % 4
      rw [q, q']
      split
      · rfl
      · have := e (by omega); omega
    | ⟨1, _⟩ | ⟨2, _⟩ | ⟨3, _⟩ => rfl

end Held

end Cert.PassProof

end
-- ==== Proof.PassClaim.lean ====
/- The claims about passing a weight's slots to the sibling core. -/
module

public import proofs.«01_k».proof.Defs
public import proofs.«01_k».proof.Proof.PassValue
public import proofs.«01_k».proof.Proof.Gen.Pass
public import proofs.«01_k».proof.Proof.Gen.PassRef
public import proofs.«01_k».proof.Proof.Gen.PassRefIdeal
public import Idealize.ShloMosaic.Lib.Claim

@[expose] public section

set_option maxRecDepth 16384

noncomputable section

open Idealize.ShloMosaic Idealize.ShloMosaic.TcCoe Idealize.SL.Sem

namespace Cert.Proof

section
open Cert.PassIdeal Cert.PassProof Cert.PassRefIdeal.Read
variable {F : FTy → Type} [FloatOps F]

/-- Over any float values: passing leaves on each device its block of the whole array that the reference builds. -/
theorem pass_shared (m : (ℓ : Loc nD τ sig) → Buf (Elt F) ℓ) (ρ : Dev nD → PrngReg) (X : (⟨Cert.PassRefIdeal.S32x2x352x1024, .bf16⟩ : BufTy).Contents (Elt F))
    (h : ∀ c : Dev nD, m ((c : Thread nD τ).loc main_arg0) = Layout.block ⟨4, ![4, 2, 352, 1024]⟩ ⟨4, ![32, 2, 352, 1024]⟩ 0 8 c X) :
    θ_run defs (onTc (τ := τ) (main (F := F))) ⟨m, fun _ => 0, ρ⟩ fun r => ∀ c : Dev nD,
      r.2.mem ((c : Thread nD τ).loc main_v1) = Layout.block ⟨4, ![4, 2, 352, 1024]⟩ ⟨4, ![32, 2, 352, 1024]⟩ 0 8 c (val_main_v18 (F := F) X)
      ∧ r.2.mem ((c : Thread nD τ).loc main_arg0) = m ((c : Thread nD τ).loc main_arg0) :=
  (θ_run _ _ _).mono (fun r hr c => ⟨(hr.1 c).2.trans (passed_block m c _ _ h), (hr.1 c).1⟩) (run_main m ρ)

/-- Over any float values: the whole array that the reference's one device ends with. -/
theorem pass_whole (m : (ℓ : Loc Cert.PassRefIdeal.nD Cert.PassRefIdeal.τ Cert.PassRefIdeal.sig) → Buf (Elt F) ℓ) (ρ : Dev Cert.PassRefIdeal.nD → PrngReg) :
    θ_run Cert.PassRefIdeal.defs (onTc (τ := Cert.PassRefIdeal.τ) (Cert.PassRefIdeal.main (F := F))) ⟨m, fun _ => 0, ρ⟩ fun r =>
      r.2.mem ((0 : Dev Cert.PassRefIdeal.nD).tc.loc Cert.PassRefIdeal.main_v18) = val_main_v18 (F := F) (m ((0 : Dev Cert.PassRefIdeal.nD).tc.loc Cert.PassRefIdeal.main_arg0))
      ∧ r.2.mem ((0 : Dev Cert.PassRefIdeal.nD).tc.loc Cert.PassRefIdeal.main_arg0) = m ((0 : Dev Cert.PassRefIdeal.nD).tc.loc Cert.PassRefIdeal.main_arg0) :=
  (θ_run _ _ _).mono (fun r h => ⟨(h 0).1.trans (val_main_v18_eq _), (h 0).2⟩) (Cert.PassRefIdeal.Value.run m ρ)

end

theorem pass_value : Cert.algebraic_PassIdeal_PassRefIdeal (hPassIdeal := Cert.PassIdeal.Gen.facts) (hPassRefIdeal := Cert.PassRefIdeal.Gen.facts) :=
  fun m g m' g' _ h => ⟨_, pass_shared m g _ h, pass_whole m' g'⟩

theorem pass_words : Cert.bitexact_Pass_PassRef (hPass := Cert.Pass.Gen.facts) (hPassRef := Cert.PassRef.Gen.facts) :=
  fun m g m' g' _ h => ⟨_, pass_shared (F := Bits) m g _ h, pass_whole (F := Bits) m' g'⟩

theorem pass : ∃ (hPass : Cert.Pass.Facts) (hPassIdeal : Cert.PassIdeal.Facts) (hPassRefIdeal : Cert.PassRefIdeal.Facts) (hPassRef : Cert.PassRef.Facts),
    quiescent_Pass (hPass := hPass)
    ∧ quiescent_PassIdeal (hPassIdeal := hPassIdeal)
    ∧ quiescent_PassRefIdeal (hPassRefIdeal := hPassRefIdeal)
    ∧ quiescent_PassRef (hPassRef := hPassRef)
    ∧ preserves_Pass_PassIdeal
    ∧ algebraic_PassIdeal_PassRefIdeal (hPassIdeal := hPassIdeal) (hPassRefIdeal := hPassRefIdeal)
    ∧ bitexact_Pass_PassRef (hPass := hPass) (hPassRef := hPassRef) :=
  ⟨Cert.Pass.Gen.facts, Cert.PassIdeal.Gen.facts, Cert.PassRefIdeal.Gen.facts, Cert.PassRef.Gen.facts,
    fun m ρ _ => (θ_run Cert.PassIdeal.defs _ _).mono (fun _ h => ⟨fun c => (h.1 c).1, h.2⟩) (Cert.PassProof.run_main (F := Bits) m ρ),
    fun m ρ _ => (θ_run _ _ _).mono (fun _ h => ⟨fun c => (h.1 c).1, h.2⟩) (Cert.PassProof.run_main m ρ),
    fun m ρ _ => (θ_run_mono (Cert.PassRefIdeal.Value.run m ρ) fun r h => ⟨fun c => (h c).2, sem_eq_zero_of_no_sems rfl r.2⟩),
    fun m ρ _ => (θ_run Cert.PassRefIdeal.defs _ _).mono (fun r h => ⟨fun c => (h c).2, sem_eq_zero_of_no_sems rfl r.2⟩) (Cert.PassRefIdeal.Value.run (F := Bits) m ρ),
    trivial, pass_value, pass_words⟩

end Cert.Proof

end
-- ==== Proof.GradWValue.lean ====
/- The gated unit's first weight's gradient: what the reference's product and the kernel's accumulated blocks hold. -/
module

public import proofs.«01_k».proof.Proof.Gen.GradWIdeal.Value
public import proofs.«01_k».proof.Proof.Gen.GradWRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GradW.Real

/-- The half of the columns that block `j` of the result is taken from, and column `n` of it there. -/
abbrev side (j : Fin 4) : Fin 2 := ⟨j.val / 2, by omega⟩
abbrev col (j : Fin 4) (n : Fin 1408) : Fin 2816 := ⟨j.val % 2 * 1408 + n.val, by omega⟩
/-- Row `s` of row block `a`. -/
abbrev at_ (a : Fin 2) (s : Fin 2048) : Fin 4096 := ⟨a.val * 2048 + s.val, by omega⟩

variable (h : Fin 4096 → Fin 1024 → EReal) (d : Fin 2 → Fin 4096 → Fin 2816 → EReal)

/-- The part of the gradient that row block `a` gives, and the gradient. -/
def part (a : Fin 2) (j : Fin 4) (k : Fin 1024) (n : Fin 1408) : EReal := ∑ s : Fin 2048, h (at_ a s) k * d (side j) (at_ a s) (col j n)
def grad (j : Fin 4) (k : Fin 1024) (n : Fin 1408) : EReal := ∑ s : Fin 4096, h s k * d (side j) s (col j n)

theorem parts (j : Fin 4) (k : Fin 1024) (n : Fin 1408) : part h d 0 j k n + part h d 1 j k n = grad h d j k n := by
  rw [grad, Fin.sum_univ_tiles 2 2048 rfl, Fin.sum_univ_two]
  rfl

end Cert.GradW.Real

namespace Cert.GradWRefIdeal.Rows
open Cert.GradWRefIdeal Cert.GradWRefIdeal.Gen Cert.GradWRefIdeal.Read Cert.GradW.Real

variable {h : Fin 4096 → Fin 1024 → EReal} {d : Fin 2 → Fin 4096 → Fin 2816 → EReal} {x0 : FVec Ideal S4096x1024 .bf16} {x1 : FVec Ideal S2x4096x2816 .bf16}
  (a0 : ∀ s k, x0 (ix2 s k) = h s k) (a1 : ∀ g s n, x1 (ix3 g s n) = d g s n)

include a0 a1
theorem rgrad (j : Fin 4) (k : Fin 1024) (n : Fin 1408) : val_main_v5 (F := Ideal) x0 x1 (ix3 j k n) = grad h d j k n := by
  rw [val_main_v5_apply, val_main_v4_apply, val_main_v3_apply, grad]
  refine Finset.sum_congr rfl fun s _ => ?_
  rw [val_main_v1_apply, val_main_v0_apply, val_main_v2_apply, mul_comm, ← a0, ← a1]
  refine congrArg₂ (· * ·) (congrArg x0 (funext fun a => ?_)) (congrArg x1 (funext fun a => ?_))
  · have hj := j.isLt; have hk := k.isLt; have hn := n.isLt
    fin_cases a
    · rfl
    · exact Fin.ext (show ((j.val * 1024 + k.val) * 1408 + n.val) / 1408 % 1024 = k.val by omega)
  · have hj := j.isLt; have hk := k.isLt; have hn := n.isLt; have hs := s.isLt
    have e0 : ((j.val * 1024 + k.val) * 1408 + n.val) / 2883584 = j.val / 2 := by omega
    have e1 : ((j.val * 1024 + k.val) * 1408 + n.val) / 1441792 % 2 = j.val % 2 := by omega
    have e2 : ((j.val * 1024 + k.val) * 1408 + n.val) % 1408 = n.val := by omega
    fin_cases a
    · refine Fin.ext (show ((((((j.val * 1024 + k.val) * 1408 + n.val) / 2883584 * 4096 + s.val) * 2 + ((j.val * 1024 + k.val) * 1408 + n.val) / 1441792 % 2) * 1408
        + ((j.val * 1024 + k.val) * 1408 + n.val) % 1408) / 11534336) = j.val / 2 from ?_)
      rw [e0, e1, e2]; omega
    · refine Fin.ext (show (((((j.val * 1024 + k.val) * 1408 + n.val) / 2883584 * 4096 + s.val) * 2 + ((j.val * 1024 + k.val) * 1408 + n.val) / 1441792 % 2) * 1408
        + ((j.val * 1024 + k.val) * 1408 + n.val) % 1408) / 2816 % 4096 = s.val from ?_)
      rw [e0, e1, e2, show (((j.val / 2 * 4096 + s.val) * 2 + j.val % 2) * 1408 + n.val) / 2816 = j.val / 2 * 4096 + s.val by omega]; omega
    · refine Fin.ext (show (((((j.val * 1024 + k.val) * 1408 + n.val) / 2883584 * 4096 + s.val) * 2 + ((j.val * 1024 + k.val) * 1408 + n.val) / 1441792 % 2) * 1408
        + ((j.val * 1024 + k.val) * 1408 + n.val) % 1408) % 2816 = j.val % 2 * 1408 + n.val from ?_)
      rw [e0, e1, e2]; omega

end Cert.GradWRefIdeal.Rows

namespace Cert.GradWIdeal.Arrays
open Cert.GradWIdeal Cert.GradWIdeal.Gen Cert.GradW.Real
open Idealize.ShloMosaic.Pipeline (Dat)

/-- The windows' blocks: the points go over the result's blocks, and for each over the two row blocks. -/
theorem idx : ∀ t : Fin cfg0.N, win0_0.index t = ![t.val % 2, 0] ∧ win0_1.index t = ![t.val / 4, t.val % 2, t.val / 2 % 2] ∧ win0_2.index t = ![t.val / 2, 0, 0] :=
  (by decide +kernel : ∀ t : Fin grid0.N, _)

/-- The row block and the result's block of point `t`. -/
abbrev ra (t : Fin cfg0.N) : Fin 2 := ⟨t.val % 2, by omega⟩
abbrev rj (t : Fin cfg0.N) : Fin 4 := ⟨t.val / 2, by have := lt_of_lt_of_eq t.isLt N_0; omega⟩

section
variable {h : Fin 4096 → Fin 1024 → EReal} {d : Fin 2 → Fin 4096 → Fin 2816 → EReal} {a : Fin 2} {j : Fin 4}
  {x0 : FVec Ideal S2048x1024 .bf16} {x1 : FVec Ideal S1x2048x1408 .bf16}
  (a0 : ∀ s k, x0 (ix2 s k) = h (at_ a s) k) (a1 : ∀ z s n, x1 (ix3 z s n) = d (side j) (at_ a s) (col j n))

include a0 a1
/-- A row block's product. -/
theorem kpart (z : Fin 1) (k : Fin 1024) (n : Fin 1408) : k0_pay2 (F := Ideal) x0 x1 (ix3 z k n) = part h d a j k n := by
  pointwise [k0_pay2, k0_pay1]
  simp only [a0, a1, part]
/-- The same, added to what the block held. -/
theorem kadd (v : FVec Ideal S1x1024x1408 .f32) (z : Fin 1) (k : Fin 1024) (n : Fin 1408) : k0_pay3 (F := Ideal) x0 x1 v (ix3 z k n) = v (ix3 0 k n) + part h d a j k n := by
  pointwise [k0_pay3, k0_pay1]
  simp only [a0, a1, part]
end

variable {m : (ℓ : Loc nD τ sig) → Buf (Elt Ideal) ℓ} {c : Dev nD} {h : Fin 4096 → Fin 1024 → EReal} {d : Fin 2 → Fin 4096 → Fin 2816 → EReal}
  (a0 : ∀ s k, (show FVec Ideal S4096x1024 .bf16 from m ((c : Thread nD τ).loc main_arg0)) (ix2 s k) = h s k)
  (a1 : ∀ g s n, (show FVec Ideal S2x4096x2816 .bf16 from m ((c : Thread nD τ).loc main_arg1)) (ix3 g s n) = d g s n)

include a0 in
theorem b0 (p : Fin cfg0.N) (s : Fin 2048) (k : Fin 1024) : (show FVec Ideal S2048x1024 .bf16 from iblk m c 0 p) (ix2 s k) = h (at_ (ra p) s) k := by
  rw [← a0]; blk_ext [iblk, V, idx p]
include a1 in
theorem b1 (p : Fin cfg0.N) (z : Fin 1) (s : Fin 2048) (n : Fin 1408) :
    (show FVec Ideal S1x2048x1408 .bf16 from iblk m c 1 p) (ix3 z s n) = d (side (rj p)) (at_ (ra p) s) (col (rj p) n) := by
  have e : p.val / 4 = p.val / 2 / 2 := by omega
  rw [← a1]; blk_ext [iblk, V, idx p, e]

include a0 a1
theorem first (p : Fin cfg0.N) (hp : p.val % 2 = 0) (z : Fin 1) (k : Fin 1024) (n : Fin 1408) : outsAt0 m c p.val p.isLt (ix3 z k n) = part h d 0 (rj p) k n := by
  rw [outsAt0_A m c p hp (by omega)]; frame_out
  refine (kpart (b0 a0 p) (b1 a1 p) z k n).trans ?_
  rw [show ra p = 0 from Fin.ext hp]

theorem final_grad : (dats m 0 c).arrAt 2 cfg0.N = fun i : S4x1024x1408.Idx => grad h d (i 0) (i 1) (i 2) := by
  refine (dats m 0 c).arrAt_eq_of_covers 2 _ (by decide +kernel) fun p hf y => ?_
  have hp : p.val % 2 = 1 := (flush0_2 p).mp hf
  have hlt := p.isLt
  have key : ∀ y : S1x1024x1408.Idx, k0_pay3 (F := Ideal) (iblk m c 0 p) (iblk m c 1 p) (outsAt0 m c (p.val - 1) (Nat.lt_of_le_of_lt (Nat.sub_le _ _) hlt)) y
      = (fun i : S4x1024x1408.Idx => grad h d (i 0) (i 1) (i 2)) (((View.whole main_v0).slice (win0_2.rect p)).emb y) := by
    intro y
    idx_vars y
    rw [show ((View.whole main_v0).slice (win0_2.rect p)).emb (ix3 y0 y1 y2) = ix3 (rj p) y1 y2 from funext fun a => Fin.ext (by fin_cases a <;> blk_simp [idx p] <;> (try rfl) <;> omega)]
    refine (kadd (b0 a0 p) (b1 a1 p) _ y0 y1 y2).trans ?_
    rw [show ra p = 1 from Fin.ext hp, first a0 a1 ⟨p.val - 1, Nat.lt_of_le_of_lt (Nat.sub_le _ _) hlt⟩ (by show (p.val - 1) % 2 = 0; omega),
      show rj ⟨p.val - 1, Nat.lt_of_le_of_lt (Nat.sub_le _ _) hlt⟩ = rj p from Fin.ext (by show (p.val - 1) / 2 = p.val / 2; omega)]
    exact parts h d _ _ _
  blk_simp
  rw [after0_2, outsAt0_B m c p (by omega) hp]; frame_out
  exact key y

end Cert.GradWIdeal.Arrays

end
-- ==== Proof.GradWClaim.lean ====
/- The claims about the gated unit's first weight's gradient. -/
module

public import proofs.«01_k».proof.Defs
public import proofs.«01_k».proof.Proof.GradWValue
public import proofs.«01_k».proof.Proof.Gen.GradW.Frame
public import proofs.«01_k».proof.Proof.Gen.GradWRefIdeal.Run
public import Idealize.ShloMosaic.Lib.Claim

@[expose] public section

set_option maxRecDepth 16384

noncomputable section

open Idealize.ShloMosaic Idealize.ShloMosaic.TcCoe Idealize.SL.Sem

namespace Cert.Proof

open Cert.GradWIdeal Cert.GradWIdeal.Arrays Cert.GradWRefIdeal.Rows Cert.GradWRefIdeal.Read in
theorem gradw_value : Cert.algebraic_GradWIdeal_GradWRefIdeal := by
  intro m g m' g' _ hagree
  refine ⟨_, Cert.GradWIdeal.Value.run_blocks m g, (θ_run _ _ _).mono (fun r h c => ?_) (Cert.GradWRefIdeal.Value.run m' g')⟩
  obtain ⟨e0, e1⟩ := hagree c
  obtain ⟨r1, k0, k1⟩ := h c
  refine ⟨(r1.trans (val_main_v5_eq _ _)).trans ?_, k0, k1⟩
  rw [e0, e1]
  refine Eq.trans (funext fun i => ?_) (final_grad (fun _ _ => rfl) (fun _ _ _ => rfl)).symm
  idx_vars i
  exact rgrad (fun _ _ => rfl) (fun _ _ _ => rfl) i0 i1 i2

theorem gradw : ∃ (hGradW : Cert.GradW.Facts) (hGradWIdeal : Cert.GradWIdeal.Facts) (hGradWRefIdeal : Cert.GradWRefIdeal.Facts),
    quiescent_GradW (hGradW := hGradW)
    ∧ quiescent_GradWIdeal (hGradWIdeal := hGradWIdeal)
    ∧ quiescent_GradWRefIdeal (hGradWRefIdeal := hGradWRefIdeal)
    ∧ preserves_GradW_GradWIdeal
    ∧ algebraic_GradWIdeal_GradWRefIdeal (hGradWIdeal := hGradWIdeal) (hGradWRefIdeal := hGradWRefIdeal) :=
  ⟨Cert.GradW.Gen.facts, Cert.GradWIdeal.Gen.facts, Cert.GradWRefIdeal.Gen.facts,
    fun m ρ _ => Cert.GradW.Gen.frame m ρ, fun m ρ _ => Cert.GradWIdeal.Gen.frame m ρ,
    fun m ρ _ => (θ_run_mono (Cert.GradWRefIdeal.Value.run m ρ) fun r h => ⟨fun c => (h c).2, sem_eq_zero_of_no_sems rfl r.2⟩), trivial, gradw_value⟩

end Cert.Proof

end
-- ==== Proof.GradSqValue.lean ====
/- Three square weights' gradients: what the reference's products and the kernel's accumulated blocks hold. -/
module

public import proofs.«01_k».proof.Proof.Gen.GradSqIdeal.Value
public import proofs.«01_k».proof.Proof.Gen.GradSqRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GradSq.Real

/-- Row `s` of row block `a`. -/
abbrev at_ (a : Fin 4) (s : Fin 1024) : Fin 4096 := ⟨a.val * 1024 + s.val, by omega⟩

/-- An array by its rows and columns. -/
abbrev cells {t : FTy} (x : FVec Ideal (⟨2, ![4096, 1024]⟩ : Shape) t) : Fin 4096 → Fin 1024 → EReal := fun s k => x (ix2 s k)

variable (u v : Fin 4096 → Fin 1024 → EReal)

/-- The part of the product of `u` transposed and `v` that row block `a` gives, and the product. -/
def part (a : Fin 4) (k n : Fin 1024) : EReal := ∑ s : Fin 1024, u (at_ a s) k * v (at_ a s) n
def prod (k n : Fin 1024) : EReal := ∑ s : Fin 4096, u s k * v s n

theorem parts (k n : Fin 1024) : ∑ a, part u v a k n = prod u v k n := by
  rw [prod, Fin.sum_univ_tiles 4 1024 rfl]
  rfl

/-- Row blocks, given one after the other, add up to the product: the first is stored, the others are added. -/
theorem accumulated {N : ℕ} (hN : N = 4) (f : (n : ℕ) → n < N → (⟨2, ![1024, 1024]⟩ : Shape).Idx → EReal)
    (h0 : ∀ (h : 0 < N) (k n : Fin 1024), f 0 h (ix2 k n) = part u v 0 k n)
    (hs : ∀ (t : ℕ) (h : t + 1 < N) (k n : Fin 1024), f (t + 1) h (ix2 k n) = f t (by omega) (ix2 k n) + part u v ⟨t + 1, by omega⟩ k n)
    (h3 : 3 < N) (k n : Fin 1024) : f 3 h3 (ix2 k n) = prod u v k n := by
  rw [hs 2, hs 1, hs 0, h0, ← parts, Fin.sum_univ_four]
  rfl

end Cert.GradSq.Real

namespace Cert.GradSqRefIdeal.Rows
open Cert.GradSqRefIdeal Cert.GradSqRefIdeal.Gen Cert.GradSqRefIdeal.Read Cert.GradSq.Real

variable (x y : FVec Ideal S4096x1024 .bf16) (k n : Fin 1024)

theorem rfirst : val_main_v3 (F := Ideal) x y (ix2 k n) = prod (cells x) (cells y) k n := by
  pointwise [val_main_v3, val_main_v2, val_main_v1, val_main_v0]; rfl
theorem rsecond : val_main_v7 (F := Ideal) x y (ix2 k n) = prod (cells x) (cells y) k n := rfirst x y k n
theorem rthird : val_main_v11 (F := Ideal) x y (ix2 k n) = prod (cells x) (cells y) k n := rfirst x y k n

end Cert.GradSqRefIdeal.Rows

namespace Cert.GradSqIdeal.Arrays
open Cert.GradSqIdeal Cert.GradSqIdeal.Gen Cert.GradSq.Real
open Idealize.ShloMosaic.Pipeline (Dat)

/-- The windows' blocks: rows `1024 t …` of each factor, and all of each result. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

/-- The row block of point `t`. -/
abbrev ra (t : Fin cfg0.N) : Fin 4 := ⟨t.val, lt_of_lt_of_eq t.isLt N_0⟩

section
variable {u v : Fin 4096 → Fin 1024 → EReal} {a : Fin 4} {x y : FVec Ideal S1024x1024 .bf16}
  (hx : ∀ s k, x (ix2 s k) = u (at_ a s) k) (hy : ∀ s k, y (ix2 s k) = v (at_ a s) k) (k n : Fin 1024)

include hx hy
/-- A row block's product. -/
theorem kpart : k0_pay1 (F := Ideal) x y (ix2 k n) = part u v a k n := by
  pointwise [k0_pay1]
  simp only [hx, hy, part]
/-- The same, added to what the block held. -/
theorem kadd (w : FVec Ideal S1024x1024 .f32) : k0_pay4 (F := Ideal) x y w (ix2 k n) = w (ix2 k n) + part u v a k n := by
  pointwise [k0_pay4, k0_pay1]
  simp only [hx, hy, part]
end

variable (m : (ℓ : Loc nD τ sig) → Buf (Elt Ideal) ℓ) (c : Dev nD)

/-- The six factors. -/
abbrev f0 := cells (t := .bf16) (m ((c : Thread nD τ).loc main_arg0))
abbrev f1 := cells (t := .bf16) (m ((c : Thread nD τ).loc main_arg1))
abbrev f2 := cells (t := .bf16) (m ((c : Thread nD τ).loc main_arg2))
abbrev f3 := cells (t := .bf16) (m ((c : Thread nD τ).loc main_arg3))
abbrev f4 := cells (t := .bf16) (m ((c : Thread nD τ).loc main_arg4))
abbrev f5 := cells (t := .bf16) (m ((c : Thread nD τ).loc main_arg5))

theorem b0 (p : Fin cfg0.N) (s k : Fin 1024) : (show FVec Ideal S1024x1024 .bf16 from iblk m c 0 p) (ix2 s k) = f0 m c (at_ (ra p) s) k := by blk_ext [iblk, V, idx p]
theorem b1 (p : Fin cfg0.N) (s k : Fin 1024) : (show FVec Ideal S1024x1024 .bf16 from iblk m c 1 p) (ix2 s k) = f1 m c (at_ (ra p) s) k := by blk_ext [iblk, V, idx p]
theorem b2 (p : Fin cfg0.N) (s k : Fin 1024) : (show FVec Ideal S1024x1024 .bf16 from iblk m c 2 p) (ix2 s k) = f2 m c (at_ (ra p) s) k := by blk_ext [iblk, V, idx p]
theorem b3 (p : Fin cfg0.N) (s k : Fin 1024) : (show FVec Ideal S1024x1024 .bf16 from iblk m c 3 p) (ix2 s k) = f3 m c (at_ (ra p) s) k := by blk_ext [iblk, V, idx p]
theorem b4 (p : Fin cfg0.N) (s k : Fin 1024) : (show FVec Ideal S1024x1024 .bf16 from iblk m c 4 p) (ix2 s k) = f4 m c (at_ (ra p) s) k := by blk_ext [iblk, V, idx p]
theorem b5 (p : Fin cfg0.N) (s k : Fin 1024) : (show FVec Ideal S1024x1024 .bf16 from iblk m c 5 p) (ix2 s k) = f5 m c (at_ (ra p) s) k := by blk_ext [iblk, V, idx p]

theorem final_first : (dats m 0 c).arrAt 6 cfg0.N = fun i : S1024x1024.Idx => prod (f0 m c) (f1 m c) (i 0) (i 1) := by
  refine (dats m 0 c).arrAt_eq_of_after_last 6 t0_3 (by decide +kernel) _ fun j => ?_
  blk_simp
  rw [after0_6]
  have key := accumulated (f0 m c) (f1 m c) N_0 (fun n h => (outsAt0 m c n h).1)
    (fun h k n => by rw [outsAt0_A m c ⟨0, h⟩ rfl (by simp)]; frame_out; exact kpart (b0 m c _) (b1 m c _) k n)
    (fun t h k n => by
      have := lt_of_lt_of_eq h N_0
      rw [outsAt0_B m c ⟨t + 1, h⟩ (by show ¬(t + 1) % 4 = 0; omega) (by show 1 ≤ t + 1; omega)]; frame_out
      exact kadd (b0 m c _) (b1 m c _) k n _)
    t0_3.isLt
  idx_vars j
  exact key j0 j1
theorem final_second : (dats m 0 c).arrAt 7 cfg0.N = fun i : S1024x1024.Idx => prod (f2 m c) (f3 m c) (i 0) (i 1) := by
  refine (dats m 0 c).arrAt_eq_of_after_last 7 t0_3 (by decide +kernel) _ fun j => ?_
  blk_simp
  rw [after0_7]
  have key := accumulated (f2 m c) (f3 m c) N_0 (fun n h => (outsAt0 m c n h).2.1)
    (fun h k n => by rw [outsAt0_A m c ⟨0, h⟩ rfl (by simp)]; frame_out; exact kpart (b2 m c _) (b3 m c _) k n)
    (fun t h k n => by
      have := lt_of_lt_of_eq h N_0
      rw [outsAt0_B m c ⟨t + 1, h⟩ (by show ¬(t + 1) % 4 = 0; omega) (by show 1 ≤ t + 1; omega)]; frame_out
      exact kadd (b2 m c _) (b3 m c _) k n _)
    t0_3.isLt
  idx_vars j
  exact key j0 j1
theorem final_third : (dats m 0 c).arrAt 8 cfg0.N = fun i : S1024x1024.Idx => prod (f4 m c) (f5 m c) (i 0) (i 1) := by
  refine (dats m 0 c).arrAt_eq_of_after_last 8 t0_3 (by decide +kernel) _ fun j => ?_
  blk_simp
  rw [after0_8]
  have key := accumulated (f4 m c) (f5 m c) N_0 (fun n h => (outsAt0 m c n h).2.2)
    (fun h k n => by rw [outsAt0_A m c ⟨0, h⟩ rfl (by simp)]; frame_out; exact kpart (b4 m c _) (b5 m c _) k n)
    (fun t h k n => by
      have := lt_of_lt_of_eq h N_0
      rw [outsAt0_B m c ⟨t + 1, h⟩ (by show ¬(t + 1) % 4 = 0; omega) (by show 1 ≤ t + 1; omega)]; frame_out
      exact kadd (b4 m c _) (b5 m c _) k n _)
    t0_3.isLt
  idx_vars j
  exact key j0 j1

end Cert.GradSqIdeal.Arrays

end
-- ==== Proof.GradSqClaim.lean ====
/- The claims about the three square weights' gradients. -/
module

public import proofs.«01_k».proof.Defs
public import proofs.«01_k».proof.Proof.GradSqValue
public import proofs.«01_k».proof.Proof.Gen.GradSq.Frame
public import proofs.«01_k».proof.Proof.Gen.GradSqRefIdeal.Run
public import Idealize.ShloMosaic.Lib.Claim

@[expose] public section

set_option maxRecDepth 16384

noncomputable section

open Idealize.ShloMosaic Idealize.ShloMosaic.TcCoe Idealize.SL.Sem

namespace Cert.Proof

open Cert.GradSqIdeal Cert.GradSqIdeal.Arrays Cert.GradSqRefIdeal.Rows Cert.GradSqRefIdeal.Read in
theorem gradsq_value : Cert.algebraic_GradSqIdeal_GradSqRefIdeal := by
  intro m g m' g' _ hagree
  refine ⟨_, _, _, Cert.GradSqIdeal.Value.run_blocks m g, (θ_run _ _ _).mono (fun r h c => ?_) (Cert.GradSqRefIdeal.Value.run m' g')⟩
  obtain ⟨e0, e1, e2, e3, e4, e5⟩ := hagree c
  obtain ⟨r1, r2, r3, k0, k1, k2, k3, k4, k5⟩ := h c
  refine ⟨(r1.trans (val_main_v3_eq _ _)).trans ?_, (r2.trans (val_main_v7_eq _ _)).trans ?_, (r3.trans (val_main_v11_eq _ _)).trans ?_, k0, k1, k2, k3, k4, k5⟩
  · rw [e0, e1]
    refine Eq.trans (funext fun i => ?_) (final_first m c).symm
    idx_vars i
    exact rfirst _ _ i0 i1
  · rw [e2, e3]
    refine Eq.trans (funext fun i => ?_) (final_second m c).symm
    idx_vars i
    exact rsecond _ _ i0 i1
  · rw [e4, e5]
    refine Eq.trans (funext fun i => ?_) (final_third m c).symm
    idx_vars i
    exact rthird _ _ i0 i1

theorem gradsq : ∃ (hGradSq : Cert.GradSq.Facts) (hGradSqIdeal : Cert.GradSqIdeal.Facts) (hGradSqRefIdeal : Cert.GradSqRefIdeal.Facts),
    quiescent_GradSq (hGradSq := hGradSq)
    ∧ quiescent_GradSqIdeal (hGradSqIdeal := hGradSqIdeal)
    ∧ quiescent_GradSqRefIdeal (hGradSqRefIdeal := hGradSqRefIdeal)
    ∧ preserves_GradSq_GradSqIdeal
    ∧ algebraic_GradSqIdeal_GradSqRefIdeal (hGradSqIdeal := hGradSqIdeal) (hGradSqRefIdeal := hGradSqRefIdeal) :=
  ⟨Cert.GradSq.Gen.facts, Cert.GradSqIdeal.Gen.facts, Cert.GradSqRefIdeal.Gen.facts,
    fun m ρ _ => Cert.GradSq.Gen.frame m ρ, fun m ρ _ => Cert.GradSqIdeal.Gen.frame m ρ,
    fun m ρ _ => (θ_run_mono (Cert.GradSqRefIdeal.Value.run m ρ) fun r h => ⟨fun c => (h c).2.2.2, sem_eq_zero_of_no_sems rfl r.2⟩), trivial, gradsq_value⟩

end Cert.Proof

end
-- ==== Proof.AdamWValue.lean ====
/- The optimiser's step: a weight's step and the two moments, entry by entry, of the reference and of the kernel. -/
module

public import proofs.«01_k».proof.Proof.Entries
public import proofs.«01_k».proof.Proof.Gen.AdamWIdeal.Value
public import proofs.«01_k».proof.Proof.Gen.AdamWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AdamW.Real

/-- The first moment of a gradient, and the second. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
/-- The weight's step: the corrected first moment over the root of the second, with the weight's decay, times the rate. -/
def delta (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.AdamW.Real

namespace Cert.AdamWRefIdeal.Rows
open Cert.AdamWRefIdeal Cert.AdamWRefIdeal.Gen Cert.AdamWRefIdeal.Read Cert.Reals Cert.AdamW.Real

variable (x0 x1 x2 x3 : FVec Ideal S1024x1408 .f32)

theorem rfirst (i : S1024x1408.Idx) : val_main_v4 (F := Ideal) x1 x2 i = first (x1 i) (x2 i) := by
  idx_vars i
  pointwise [val_main_v4, val_main_v3, val_main_v2, val_main_v1, val_main_v0, val_main_cst, val_main_cst_0]
  rfl
theorem rsecond (i : S1024x1408.Idx) : val_main_v10 (F := Ideal) x1 x3 i = second (x1 i) (x3 i) := by
  idx_vars i
  pointwise [val_main_v10, val_main_v9, val_main_v8, val_main_v7, val_main_v6, val_main_v5, val_main_cst_1, val_main_cst_2]
  rfl
theorem rdelta (i : S1024x1408.Idx) : val_main_v23 (F := Ideal) x0 x1 x2 x3 i = delta (x0 i) (x1 i) (x2 i) (x3 i) := by
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]
  rw [rfirst, rsecond]
  rfl

end Cert.AdamWRefIdeal.Rows

namespace Cert.AdamWIdeal.Arrays
open Cert.AdamWIdeal Cert.AdamWIdeal.Gen Cert.Reals Cert.AdamW.Real
open Idealize.ShloMosaic.Pipeline (Dat)

/-- Every window's block: rows `256 t …`. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable {x0 x1 x2 x3 : FVec Ideal S256x1408 .f32} {i : S256x1408.Idx} {w g m v : EReal} (h0 : x0 i = w) (h1 : x1 i = g) (h2 : x2 i = m) (h3 : x3 i = v)
include h1
include h2 in
theorem kfirst : k0_pay1 (F := Ideal) x1 x2 i = first g m := by
  subst h1 h2; idx_vars i; pointwise [k0_pay1]; rfl
include h3 in
theorem ksecond : k0_pay2 (F := Ideal) x1 x3 i = second g v := by
  subst h1 h3; idx_vars i; pointwise [k0_pay2]; rfl
include h0 h2 h3 in
theorem kdelta : k0_pay3 (F := Ideal) x0 x1 x2 x3 i = delta w g m v := by
  subst h0
  have e1 := kfirst h1 h2
  have e2 := ksecond h1 h3
  idx_vars i; pointwise [k0_pay3]; rw [e1, e2]; rfl
end

variable (m : (ℓ : Loc nD τ sig) → Buf (Elt Ideal) ℓ) (c : Dev nD)

/-- The four arrays. -/
abbrev w₀ : FVec Ideal S1024x1408 .f32 := m ((c : Thread nD τ).loc main_arg0)
abbrev g₀ : FVec Ideal S1024x1408 .f32 := m ((c : Thread nD τ).loc main_arg1)
abbrev m₀ : FVec Ideal S1024x1408 .f32 := m ((c : Thread nD τ).loc main_arg2)
abbrev v₀ : FVec Ideal S1024x1408 .f32 := m ((c : Thread nD τ).loc main_arg3)

/-- Row `j` of block `p`. -/
abbrev row (p : Fin cfg0.N) (j : Fin 256) : Fin 1024 := ⟨p.val * 256 + j.val, by have := lt_of_lt_of_eq p.isLt N_0; omega⟩

theorem b0 (p : Fin cfg0.N) (j : Fin 256) (k : Fin 1408) : (show FVec Ideal S256x1408 .f32 from iblk m c 0 p) (ix2 j k) = w₀ m c (ix2 (row p j) k) := by
  blk_ext [iblk, V, idx p]
theorem b1 (p : Fin cfg0.N) (j : Fin 256) (k : Fin 1408) : (show FVec Ideal S256x1408 .f32 from iblk m c 1 p) (ix2 j k) = g₀ m c (ix2 (row p j) k) := by
  blk_ext [iblk, V, idx p]
theorem b2 (p : Fin cfg0.N) (j : Fin 256) (k : Fin 1408) : (show FVec Ideal S256x1408 .f32 from iblk m c 2 p) (ix2 j k) = m₀ m c (ix2 (row p j) k) := by
  blk_ext [iblk, V, idx p]
theorem b3 (p : Fin cfg0.N) (j : Fin 256) (k : Fin 1408) : (show FVec Ideal S256x1408 .f32 from iblk m c 3 p) (ix2 j k) = v₀ m c (ix2 (row p j) k) := by
  blk_ext [iblk, V, idx p]

theorem final_g : (dats m 0 c).arrAt 4 cfg0.N = fun i : S1024x1408.Idx => g₀ m c i := by
  refine (dats m 0 c).arrAt_eq_of_covers 4 _ (by decide +kernel) fun p _ y => ?_
  have key : ∀ y : S256x1408.Idx, (show FVec Ideal S256x1408 .f32 from iblk m c 1 p) y = (fun i : S1024x1408.Idx => g₀ m c i) (((View.whole main_v0_0).slice (win0_4.rect p)).emb y) := by
    intro y
    idx_vars y
    rw [show ((View.whole main_v0_0).slice (win0_4.rect p)).emb (ix2 y0 y1) = ix2 (row p y0) y1 from funext fun a => Fin.ext (by fin_cases a <;> blk_simp [idx p] <;> rfl)]
    exact b1 m c p y0 y1
  blk_simp
  rw [after0_4]; frame_out
  exact key y
theorem final_delta : (dats m 0 c).arrAt 5 cfg0.N = fun i : S1024x1408.Idx => delta (w₀ m c i) (g₀ m c i) (m₀ m c i) (v₀ m c i) := by
  refine (dats m 0 c).arrAt_eq_of_covers 5 _ (by decide +kernel) fun p _ y => ?_
  have key : ∀ y : S256x1408.Idx, k0_pay3 (F := Ideal) (iblk m c 0 p) (iblk m c 1 p) (iblk m c 2 p) (iblk m c 3 p) y = (fun i : S1024x1408.Idx => delta (w₀ m c i) (g₀ m c i) (m₀ m c i) (v₀ m c i)) (((View.whole main_v0_1).slice (win0_5.rect p)).emb y) := by
    intro y
    idx_vars y
    rw [show ((View.whole main_v0_1).slice (win0_5.rect p)).emb (ix2 y0 y1) = ix2 (row p y0) y1 from funext fun a => Fin.ext (by fin_cases a <;> blk_simp [idx p] <;> rfl)]
    exact kdelta (b0 m c p y0 y1) (b1 m c p y0 y1) (b2 m c p y0 y1) (b3 m c p y0 y1)
  blk_simp
  rw [after0_5]; frame_out
  exact key y
theorem final_first : (dats m 0 c).arrAt 6 cfg0.N = fun i : S1024x1408.Idx => first (g₀ m c i) (m₀ m c i) := by
  refine (dats m 0 c).arrAt_eq_of_covers 6 _ (by decide +kernel) fun p _ y => ?_
  have key : ∀ y : S256x1408.Idx, k0_pay1 (F := Ideal) (iblk m c 1 p) (iblk m c 2 p) y = (fun i : S1024x1408.Idx => first (g₀ m c i) (m₀ m c i)) (((View.whole main_v0_2).slice (win0_6.rect p)).emb y) := by
    intro y
    idx_vars y
    rw [show ((View.whole main_v0_2).slice (win0_6.rect p)).emb (ix2 y0 y1) = ix2 (row p y0) y1 from funext fun a => Fin.ext (by fin_cases a <;> blk_simp [idx p] <;> rfl)]
    exact kfirst (b1 m c p y0 y1) (b2 m c p y0 y1)
  blk_simp
  rw [after0_6]; frame_out
  exact key y
theorem final_second : (dats m 0 c).arrAt 7 cfg0.N = fun i : S1024x1408.Idx => second (g₀ m c i) (v₀ m c i) := by
  refine (dats m 0 c).arrAt_eq_of_covers 7 _ (by decide +kernel) fun p _ y => ?_
  have key : ∀ y : S256x1408.Idx, k0_pay2 (F := Ideal) (iblk m c 1 p) (iblk m c 3 p) y = (fun i : S1024x1408.Idx => second (g₀ m c i) (v₀ m c i)) (((View.whole main_v0_3).slice (win0_7.rect p)).emb y) := by
    intro y
    idx_vars y
    rw [show ((View.whole main_v0_3).slice (win0_7.rect p)).emb (ix2 y0 y1) = ix2 (row p y0) y1 from funext fun a => Fin.ext (by fin_cases a <;> blk_simp [idx p] <;> rfl)]
    exact ksecond (b1 m c p y0 y1) (b3 m c p y0 y1)
  blk_simp
  rw [after0_7]; frame_out
  exact key y

end Cert.AdamWIdeal.Arrays

end
-- ==== Proof.AdamWClaim.lean ====
/- The claims about the optimiser's step. -/
module

public import proofs.«01_k».proof.Defs
public import proofs.«01_k».proof.Proof.AdamWValue
public import proofs.«01_k».proof.Proof.Gen.AdamW.Frame
public import proofs.«01_k».proof.Proof.Gen.AdamWRefIdeal.Run
public import Idealize.ShloMosaic.Lib.Claim

@[expose] public section

set_option maxRecDepth 16384

noncomputable section

open Idealize.ShloMosaic Idealize.ShloMosaic.TcCoe Idealize.SL.Sem Cert.Reals

namespace Cert.Proof

open Cert.AdamWIdeal Cert.AdamWIdeal.Arrays Cert.AdamWRefIdeal.Rows Cert.AdamWRefIdeal.Read in
theorem adamw_value : Cert.algebraic_AdamWIdeal_AdamWRefIdeal := by
  intro m g m' g' _ hagree
  refine ⟨_, _, _, _, Cert.AdamWIdeal.Value.run_blocks m g, (θ_run _ _ _).mono (fun r h c => ?_) (Cert.AdamWRefIdeal.Value.run m' g')⟩
  obtain ⟨e0, e1, e2, e3⟩ := hagree c
  obtain ⟨_, r1, r2, r3, k0, k1, k2, k3⟩ := h c
  refine ⟨?_, (r1.trans (val_main_v23_eq _ _ _ _)).trans ?_, (r2.trans (val_main_v4_eq _ _)).trans ?_, (r3.trans (val_main_v10_eq _ _)).trans ?_, k0, k1, k2, k3⟩
  · exact (k1.trans e1).trans (final_g m c).symm
  · rw [e0, e1, e2, e3]; exact Eq.trans (funext fun i => rdelta _ _ _ _ i) (final_delta m c).symm
  · rw [e1, e2]; exact Eq.trans (funext fun i => rfirst _ _ i) (final_first m c).symm
  · rw [e1, e3]; exact Eq.trans (funext fun i => rsecond _ _ i) (final_second m c).symm

theorem adamw : ∃ (hAdamW : Cert.AdamW.Facts) (hAdamWIdeal : Cert.AdamWIdeal.Facts) (hAdamWRefIdeal : Cert.AdamWRefIdeal.Facts),
    quiescent_AdamW (hAdamW := hAdamW)
    ∧ quiescent_AdamWIdeal (hAdamWIdeal := hAdamWIdeal)
    ∧ quiescent_AdamWRefIdeal (hAdamWRefIdeal := hAdamWRefIdeal)
    ∧ preserves_AdamW_AdamWIdeal
    ∧ algebraic_AdamWIdeal_AdamWRefIdeal (hAdamWIdeal := hAdamWIdeal) (hAdamWRefIdeal := hAdamWRefIdeal) :=
  ⟨Cert.AdamW.Gen.facts, Cert.AdamWIdeal.Gen.facts, Cert.AdamWRefIdeal.Gen.facts,
    fun m ρ _ => Cert.AdamW.Gen.frame m ρ, fun m ρ _ => Cert.AdamWIdeal.Gen.frame m ρ,
    fun m ρ _ => (θ_run_mono (Cert.AdamWRefIdeal.Value.run m ρ) fun r h => ⟨fun c => (h c).2.2.2.2, sem_eq_zero_of_no_sems rfl r.2⟩), trivial, adamw_value⟩

end Cert.Proof

end
-- ==== Proof.lean ====
/- The claims about the training step's calls, put together from the modules that prove them. -/
module

public import proofs.«01_k».proof.Defs
public import proofs.«01_k».proof.Proof.LossClaim
public import proofs.«01_k».proof.Proof.AttnClaim
public import proofs.«01_k».proof.Proof.FfnClaim
public import proofs.«01_k».proof.Proof.MemKvClaim
public import proofs.«01_k».proof.Proof.HeadBiasClaim
public import proofs.«01_k».proof.Proof.AttnFwdClaim
public import proofs.«01_k».proof.Proof.MemKvFwdClaim
public import proofs.«01_k».proof.Proof.FfnUpClaim
public import proofs.«01_k».proof.Proof.NormInClaim
public import proofs.«01_k».proof.Proof.SeqmixClaim
public import proofs.«01_k».proof.Proof.SeqmixFwdClaim
public import proofs.«01_k».proof.Proof.SwapClaim
public import proofs.«01_k».proof.Proof.JoinClaim
public import proofs.«01_k».proof.Proof.PassClaim
public import proofs.«01_k».proof.Proof.GradWClaim
public import proofs.«01_k».proof.Proof.GradSqClaim
public import proofs.«01_k».proof.Proof.AdamWClaim
public import proofs.«01_k».proof.Proof.Gen.LossIdeal.Value
public import proofs.«01_k».proof.Proof.Gen.LossRefIdeal.Run
public import proofs.«01_k».proof.Proof.Gen.LossRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.HeadBiasIdeal.Value
public import proofs.«01_k».proof.Proof.Gen.HeadBiasRefIdeal.Run
public import proofs.«01_k».proof.Proof.Gen.HeadBiasRefIdeal.Read
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.MemKvFwdIdeal.Value
public import proofs.«01_k».proof.Proof.Gen.MemKvFwdRefIdeal.Run
public import proofs.«01_k».proof.Proof.Gen.MemKvFwdRefIdeal.Read
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.NormInIdeal.Value
public import proofs.«01_k».proof.Proof.Gen.NormInRefIdeal.Run
public import proofs.«01_k».proof.Proof.Gen.NormInRefIdeal.Read
public import proofs.«01_k».proof.Proof.Gen.SeqmixRefIdeal.Run
public import proofs.«01_k».proof.Proof.Gen.SeqmixRefIdeal.Read
public import proofs.«01_k».proof.Proof.Gen.SeqmixFwdIdeal.Value
public import proofs.«01_k».proof.Proof.Gen.SeqmixFwdRefIdeal.Run
public import proofs.«01_k».proof.Proof.Gen.SeqmixFwdRefIdeal.Read
public import proofs.«01_k».proof.Proof.Gen.SwapRef
public import proofs.«01_k».proof.Proof.Gen.SwapRefIdeal.Run
public import proofs.«01_k».proof.Proof.Gen.SwapRefIdeal.Read
public import proofs.«01_k».proof.Proof.Gen.JoinRef
public import proofs.«01_k».proof.Proof.Gen.JoinRefIdeal.Run
public import proofs.«01_k».proof.Proof.Gen.JoinRefIdeal.Read
public import proofs.«01_k».proof.Proof.Gen.PassRef
public import proofs.«01_k».proof.Proof.Gen.PassRefIdeal.Run
public import proofs.«01_k».proof.Proof.Gen.PassRefIdeal.Read
public import proofs.«01_k».proof.Proof.Gen.GradWIdeal.Value
public import proofs.«01_k».proof.Proof.Gen.GradWRefIdeal.Run
public import proofs.«01_k».proof.Proof.Gen.GradWRefIdeal.Read
public import proofs.«01_k».proof.Proof.Gen.GradSqIdeal.Value
public import proofs.«01_k».proof.Proof.Gen.GradSqRefIdeal.Run
public import proofs.«01_k».proof.Proof.Gen.GradSqRefIdeal.Read
public import proofs.«01_k».proof.Proof.Gen.AdamWIdeal.Value
public import proofs.«01_k».proof.Proof.Gen.AdamWRefIdeal.Run
public import proofs.«01_k».proof.Proof.Gen.AdamWRefIdeal.Read

@[expose] public section

noncomputable section

namespace Cert.Proof

theorem claim : Cert.Claim := by
  obtain ⟨a0, b0, c0, f0, p0, q0, r0, s0, t0, u0, v0⟩ := loss
  obtain ⟨a1, b1, c1, f1, p1, q1, r1, s1, t1, u1, v1⟩ := attn
  obtain ⟨a2, b2, c2, f2, p2, q2, r2, s2, t2, u2, v2⟩ := ffn
  obtain ⟨a3, b3, c3, p3, q3, s3, u3, v3⟩ := memkv
  obtain ⟨a4, b4, c4, p4, q4, s4, u4, v4⟩ := headbias
  obtain ⟨a5, b5, c5, p5, q5, s5, u5, v5⟩ := attnfwd
  obtain ⟨a6, b6, c6, p6, q6, s6, u6, v6⟩ := memkvfwd
  obtain ⟨a7, b7, c7, p7, q7, s7, u7, v7⟩ := ffnup
  obtain ⟨a8, b8, c8, p8, q8, s8, u8, v8⟩ := normin
  obtain ⟨a9, b9, c9, f9, p9, q9, r9, s9, t9, u9, v9⟩ := seqmix
  obtain ⟨a10, b10, c10, p10, q10, s10, u10, v10⟩ := seqmixfwd
  obtain ⟨a11, b11, c11, d11, p11, q11, s11, w11, u11, v11, x11⟩ := swap
  obtain ⟨a12, b12, c12, d12, p12, q12, s12, w12, u12, v12, x12⟩ := join
  obtain ⟨a13, b13, c13, d13, p13, q13, s13, w13, u13, v13, x13⟩ := pass
  obtain ⟨a14, b14, c14, p14, q14, s14, u14, v14⟩ := gradw
  obtain ⟨a15, b15, c15, p15, q15, s15, u15, v15⟩ := gradsq
  obtain ⟨a16, b16, c16, p16, q16, s16, u16, v16⟩ := adamw
  exact ⟨a0, b0, c0, a1, b1, c1, a2, b2, c2, a3, b3, c3, a4, b4, c4, a5, b5, c5, a6, b6, c6, a7, b7, c7, a8, b8, c8, a9, b9, c9, a10, b10, c10, a11, b11, c11, d11, a12, b12, c12, d12, a13, b13, c13, d13, a14, b14, c14, a15, b15, c15, a16, b16, c16,
    f0, f1, f2, f9,
    p0, q0, r0, s0, t0, p1, q1, r1, s1, t1, p2, q2, r2, s2, t2, p3, q3, s3, p4, q4, s4, p5, q5, s5, p6, q6, s6, p7, q7, s7, p8, q8, s8, p9, q9, r9, s9, t9, p10, q10, s10, p11, q11, s11, w11, p12, q12, s12, w12, p13, q13, s13, w13, p14, q14, s14, p15, q15, s15, p16, q16, s16,
    u0, v0, u1, v1, u2, v2, u3, v3, u4, v4, u5, v5, u6, v6, u7, v7, u8, v8, u9, v9, u10, v10, u11, v11, x11, u12, v12, x12, u13, v13, x13, u14, v14, u15, v15, u16, v16⟩

end Cert.Proof

end
